-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))).1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))).2.1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))).2.2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))).1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))).2.1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnLat (m : (ℓ : Loc Cert.FfnLat.nD Cert.FfnLat.τ Cert.FfnLat.sig) → Buf (Elt Bits) ℓ) : Prop :=
  True

def Pre_FfnLatIdeal (m : (ℓ : Loc Cert.FfnLatIdeal.nD Cert.FfnLatIdeal.τ Cert.FfnLatIdeal.sig) → Buf (Elt Ideal) ℓ) : Prop :=
  True

def Pre_FfnLatRefIdeal (m : (ℓ : Loc Cert.FfnLatRefIdeal.nD Cert.FfnLatRefIdeal.τ Cert.FfnLatRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_MidLat (m : (ℓ : Loc Cert.MidLat.nD Cert.MidLat.τ Cert.MidLat.sig) → Buf (Elt Bits) ℓ) : Prop :=
  True

def Pre_MidLatIdeal (m : (ℓ : Loc Cert.MidLatIdeal.nD Cert.MidLatIdeal.τ Cert.MidLatIdeal.sig) → Buf (Elt Ideal) ℓ) : Prop :=
  True

def Pre_MidLatRefIdeal (m : (ℓ : Loc Cert.MidLatRefIdeal.nD Cert.MidLatRefIdeal.τ Cert.MidLatRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_OddLat (m : (ℓ : Loc Cert.OddLat.nD Cert.OddLat.τ Cert.OddLat.sig) → Buf (Elt Bits) ℓ) : Prop :=
  True

def Pre_OddLatIdeal (m : (ℓ : Loc Cert.OddLatIdeal.nD Cert.OddLatIdeal.τ Cert.OddLatIdeal.sig) → Buf (Elt Ideal) ℓ) : Prop :=
  True

def Pre_OddLatRefIdeal (m : (ℓ : Loc Cert.OddLatRefIdeal.nD Cert.OddLatRefIdeal.τ Cert.OddLatRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_EvenLat (m : (ℓ : Loc Cert.EvenLat.nD Cert.EvenLat.τ Cert.EvenLat.sig) → Buf (Elt Bits) ℓ) : Prop :=
  True

def Pre_EvenLatIdeal (m : (ℓ : Loc Cert.EvenLatIdeal.nD Cert.EvenLatIdeal.τ Cert.EvenLatIdeal.sig) → Buf (Elt Ideal) ℓ) : Prop :=
  True

def Pre_EvenLatRefIdeal (m : (ℓ : Loc Cert.EvenLatRefIdeal.nD Cert.EvenLatRefIdeal.τ Cert.EvenLatRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_FfnLat [hFfnLat : Cert.FfnLat.Facts] : Prop :=
  ∀ (m : (ℓ : Loc Cert.FfnLat.nD Cert.FfnLat.τ Cert.FfnLat.sig) → Buf (Elt Bits) ℓ) (g : Dev Cert.FfnLat.nD → PrngReg), Pre_FfnLat m →
    θ_run (Cert.FfnLat.defs (F := Bits)) (onTc (τ := Cert.FfnLat.τ) (Cert.FfnLat.main (F := Bits))) ⟨m, fun _ => 0, g⟩ (fun r => (∀ c : Dev Cert.FfnLat.nD,
      r.2.mem ((c.tc : Thread Cert.FfnLat.nD Cert.FfnLat.τ).loc Cert.FfnLat.main_arg0) = m ((c.tc : Thread Cert.FfnLat.nD Cert.FfnLat.τ).loc Cert.FfnLat.main_arg0)
      ∧ r.2.mem ((c.tc : Thread Cert.FfnLat.nD Cert.FfnLat.τ).loc Cert.FfnLat.main_arg1) = m ((c.tc : Thread Cert.FfnLat.nD Cert.FfnLat.τ).loc Cert.FfnLat.main_arg1)
      ∧ r.2.mem ((c.tc : Thread Cert.FfnLat.nD Cert.FfnLat.τ).loc Cert.FfnLat.main_arg2) = m ((c.tc : Thread Cert.FfnLat.nD Cert.FfnLat.τ).loc Cert.FfnLat.main_arg2)
      ∧ r.2.mem ((c.tc : Thread Cert.FfnLat.nD Cert.FfnLat.τ).loc Cert.FfnLat.main_arg3) = m ((c.tc : Thread Cert.FfnLat.nD Cert.FfnLat.τ).loc Cert.FfnLat.main_arg3)
      ∧ r.2.mem ((c.tc : Thread Cert.FfnLat.nD Cert.FfnLat.τ).loc Cert.FfnLat.main_arg4) = m ((c.tc : Thread Cert.FfnLat.nD Cert.FfnLat.τ).loc Cert.FfnLat.main_arg4)
      ∧ r.2.mem ((c.tc : Thread Cert.FfnLat.nD Cert.FfnLat.τ).loc Cert.FfnLat.main_arg5) = m ((c.tc : Thread Cert.FfnLat.nD Cert.FfnLat.τ).loc Cert.FfnLat.main_arg5)
      ∧ r.2.mem ((c.tc : Thread Cert.FfnLat.nD Cert.FfnLat.τ).loc Cert.FfnLat.main_arg6) = m ((c.tc : Thread Cert.FfnLat.nD Cert.FfnLat.τ).loc Cert.FfnLat.main_arg6)
      ∧ r.2.mem ((c.tc : Thread Cert.FfnLat.nD Cert.FfnLat.τ).loc Cert.FfnLat.main_arg7) = m ((c.tc : Thread Cert.FfnLat.nD Cert.FfnLat.τ).loc Cert.FfnLat.main_arg7)
      ∧ r.2.mem ((c.tc : Thread Cert.FfnLat.nD Cert.FfnLat.τ).loc Cert.FfnLat.main_arg8) = m ((c.tc : Thread Cert.FfnLat.nD Cert.FfnLat.τ).loc Cert.FfnLat.main_arg8)
      ∧ r.2.mem ((c.tc : Thread Cert.FfnLat.nD Cert.FfnLat.τ).loc Cert.FfnLat.main_arg9) = m ((c.tc : Thread Cert.FfnLat.nD Cert.FfnLat.τ).loc Cert.FfnLat.main_arg9))
      ∧ r.2.sem = fun _ => 0)

def quiescent_FfnLatIdeal [hFfnLatIdeal : Cert.FfnLatIdeal.Facts] : Prop :=
  ∀ (m : (ℓ : Loc Cert.FfnLatIdeal.nD Cert.FfnLatIdeal.τ Cert.FfnLatIdeal.sig) → Buf (Elt Ideal) ℓ) (g : Dev Cert.FfnLatIdeal.nD → PrngReg), Pre_FfnLatIdeal m →
    θ_run (Cert.FfnLatIdeal.defs (F := Ideal)) (onTc (τ := Cert.FfnLatIdeal.τ) (Cert.FfnLatIdeal.main (F := Ideal))) ⟨m, fun _ => 0, g⟩ (fun r => (∀ c : Dev Cert.FfnLatIdeal.nD,
      r.2.mem ((c.tc : Thread Cert.FfnLatIdeal.nD Cert.FfnLatIdeal.τ).loc Cert.FfnLatIdeal.main_arg0) = m ((c.tc : Thread Cert.FfnLatIdeal.nD Cert.FfnLatIdeal.τ).loc Cert.FfnLatIdeal.main_arg0)
      ∧ r.2.mem ((c.tc : Thread Cert.FfnLatIdeal.nD Cert.FfnLatIdeal.τ).loc Cert.FfnLatIdeal.main_arg1) = m ((c.tc : Thread Cert.FfnLatIdeal.nD Cert.FfnLatIdeal.τ).loc Cert.FfnLatIdeal.main_arg1)
      ∧ r.2.mem ((c.tc : Thread Cert.FfnLatIdeal.nD Cert.FfnLatIdeal.τ).loc Cert.FfnLatIdeal.main_arg2) = m ((c.tc : Thread Cert.FfnLatIdeal.nD Cert.FfnLatIdeal.τ).loc Cert.FfnLatIdeal.main_arg2)
      ∧ r.2.mem ((c.tc : Thread Cert.FfnLatIdeal.nD Cert.FfnLatIdeal.τ).loc Cert.FfnLatIdeal.main_arg3) = m ((c.tc : Thread Cert.FfnLatIdeal.nD Cert.FfnLatIdeal.τ).loc Cert.FfnLatIdeal.main_arg3)
      ∧ r.2.mem ((c.tc : Thread Cert.FfnLatIdeal.nD Cert.FfnLatIdeal.τ).loc Cert.FfnLatIdeal.main_arg4) = m ((c.tc : Thread Cert.FfnLatIdeal.nD Cert.FfnLatIdeal.τ).loc Cert.FfnLatIdeal.main_arg4)
      ∧ r.2.mem ((c.tc : Thread Cert.FfnLatIdeal.nD Cert.FfnLatIdeal.τ).loc Cert.FfnLatIdeal.main_arg5) = m ((c.tc : Thread Cert.FfnLatIdeal.nD Cert.FfnLatIdeal.τ).loc Cert.FfnLatIdeal.main_arg5)
      ∧ r.2.mem ((c.tc : Thread Cert.FfnLatIdeal.nD Cert.FfnLatIdeal.τ).loc Cert.FfnLatIdeal.main_arg6) = m ((c.tc : Thread Cert.FfnLatIdeal.nD Cert.FfnLatIdeal.τ).loc Cert.FfnLatIdeal.main_arg6)
      ∧ r.2.mem ((c.tc : Thread Cert.FfnLatIdeal.nD Cert.FfnLatIdeal.τ).loc Cert.FfnLatIdeal.main_arg7) = m ((c.tc : Thread Cert.FfnLatIdeal.nD Cert.FfnLatIdeal.τ).loc Cert.FfnLatIdeal.main_arg7)
      ∧ r.2.mem ((c.tc : Thread Cert.FfnLatIdeal.nD Cert.FfnLatIdeal.τ).loc Cert.FfnLatIdeal.main_arg8) = m ((c.tc : Thread Cert.FfnLatIdeal.nD Cert.FfnLatIdeal.τ).loc Cert.FfnLatIdeal.main_arg8)
      ∧ r.2.mem ((c.tc : Thread Cert.FfnLatIdeal.nD Cert.FfnLatIdeal.τ).loc Cert.FfnLatIdeal.main_arg9) = m ((c.tc : Thread Cert.FfnLatIdeal.nD Cert.FfnLatIdeal.τ).loc Cert.FfnLatIdeal.main_arg9))
      ∧ r.2.sem = fun _ => 0)

def quiescent_FfnLatRefIdeal [hFfnLatRefIdeal : Cert.FfnLatRefIdeal.Facts] : Prop :=
  ∀ (m : (ℓ : Loc Cert.FfnLatRefIdeal.nD Cert.FfnLatRefIdeal.τ Cert.FfnLatRefIdeal.sig) → Buf (Elt Ideal) ℓ) (g : Dev Cert.FfnLatRefIdeal.nD → PrngReg), Pre_FfnLatRefIdeal m →
    θ_run (Cert.FfnLatRefIdeal.defs (F := Ideal)) (onTc (τ := Cert.FfnLatRefIdeal.τ) (Cert.FfnLatRefIdeal.main (F := Ideal))) ⟨m, fun _ => 0, g⟩ (fun r => (∀ c : Dev Cert.FfnLatRefIdeal.nD,
      r.2.mem ((c.tc : Thread Cert.FfnLatRefIdeal.nD Cert.FfnLatRefIdeal.τ).loc Cert.FfnLatRefIdeal.main_arg0) = m ((c.tc : Thread Cert.FfnLatRefIdeal.nD Cert.FfnLatRefIdeal.τ).loc Cert.FfnLatRefIdeal.main_arg0)
      ∧ r.2.mem ((c.tc : Thread Cert.FfnLatRefIdeal.nD Cert.FfnLatRefIdeal.τ).loc Cert.FfnLatRefIdeal.main_arg1) = m ((c.tc : Thread Cert.FfnLatRefIdeal.nD Cert.FfnLatRefIdeal.τ).loc Cert.FfnLatRefIdeal.main_arg1)
      ∧ r.2.mem ((c.tc : Thread Cert.FfnLatRefIdeal.nD Cert.FfnLatRefIdeal.τ).loc Cert.FfnLatRefIdeal.main_arg2) = m ((c.tc : Thread Cert.FfnLatRefIdeal.nD Cert.FfnLatRefIdeal.τ).loc Cert.FfnLatRefIdeal.main_arg2)
      ∧ r.2.mem ((c.tc : Thread Cert.FfnLatRefIdeal.nD Cert.FfnLatRefIdeal.τ).loc Cert.FfnLatRefIdeal.main_arg3) = m ((c.tc : Thread Cert.FfnLatRefIdeal.nD Cert.FfnLatRefIdeal.τ).loc Cert.FfnLatRefIdeal.main_arg3)
      ∧ r.2.mem ((c.tc : Thread Cert.FfnLatRefIdeal.nD Cert.FfnLatRefIdeal.τ).loc Cert.FfnLatRefIdeal.main_arg4) = m ((c.tc : Thread Cert.FfnLatRefIdeal.nD Cert.FfnLatRefIdeal.τ).loc Cert.FfnLatRefIdeal.main_arg4)
      ∧ r.2.mem ((c.tc : Thread Cert.FfnLatRefIdeal.nD Cert.FfnLatRefIdeal.τ).loc Cert.FfnLatRefIdeal.main_arg5) = m ((c.tc : Thread Cert.FfnLatRefIdeal.nD Cert.FfnLatRefIdeal.τ).loc Cert.FfnLatRefIdeal.main_arg5)
      ∧ r.2.mem ((c.tc : Thread Cert.FfnLatRefIdeal.nD Cert.FfnLatRefIdeal.τ).loc Cert.FfnLatRefIdeal.main_arg6) = m ((c.tc : Thread Cert.FfnLatRefIdeal.nD Cert.FfnLatRefIdeal.τ).loc Cert.FfnLatRefIdeal.main_arg6)
      ∧ r.2.mem ((c.tc : Thread Cert.FfnLatRefIdeal.nD Cert.FfnLatRefIdeal.τ).loc Cert.FfnLatRefIdeal.main_arg7) = m ((c.tc : Thread Cert.FfnLatRefIdeal.nD Cert.FfnLatRefIdeal.τ).loc Cert.FfnLatRefIdeal.main_arg7)
      ∧ r.2.mem ((c.tc : Thread Cert.FfnLatRefIdeal.nD Cert.FfnLatRefIdeal.τ).loc Cert.FfnLatRefIdeal.main_arg8) = m ((c.tc : Thread Cert.FfnLatRefIdeal.nD Cert.FfnLatRefIdeal.τ).loc Cert.FfnLatRefIdeal.main_arg8)
      ∧ r.2.mem ((c.tc : Thread Cert.FfnLatRefIdeal.nD Cert.FfnLatRefIdeal.τ).loc Cert.FfnLatRefIdeal.main_arg9) = m ((c.tc : Thread Cert.FfnLatRefIdeal.nD Cert.FfnLatRefIdeal.τ).loc Cert.FfnLatRefIdeal.main_arg9))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9))
      ∧ r.2.sem = fun _ => 0)

def quiescent_MidLat [hMidLat : Cert.MidLat.Facts] : Prop :=
  ∀ (m : (ℓ : Loc Cert.MidLat.nD Cert.MidLat.τ Cert.MidLat.sig) → Buf (Elt Bits) ℓ) (g : Dev Cert.MidLat.nD → PrngReg), Pre_MidLat m →
    θ_run (Cert.MidLat.defs (F := Bits)) (onTc (τ := Cert.MidLat.τ) (Cert.MidLat.main (F := Bits))) ⟨m, fun _ => 0, g⟩ (fun r => (∀ c : Dev Cert.MidLat.nD,
      r.2.mem ((c.tc : Thread Cert.MidLat.nD Cert.MidLat.τ).loc Cert.MidLat.main_arg0) = m ((c.tc : Thread Cert.MidLat.nD Cert.MidLat.τ).loc Cert.MidLat.main_arg0)
      ∧ r.2.mem ((c.tc : Thread Cert.MidLat.nD Cert.MidLat.τ).loc Cert.MidLat.main_arg1) = m ((c.tc : Thread Cert.MidLat.nD Cert.MidLat.τ).loc Cert.MidLat.main_arg1)
      ∧ r.2.mem ((c.tc : Thread Cert.MidLat.nD Cert.MidLat.τ).loc Cert.MidLat.main_arg2) = m ((c.tc : Thread Cert.MidLat.nD Cert.MidLat.τ).loc Cert.MidLat.main_arg2)
      ∧ r.2.mem ((c.tc : Thread Cert.MidLat.nD Cert.MidLat.τ).loc Cert.MidLat.main_arg3) = m ((c.tc : Thread Cert.MidLat.nD Cert.MidLat.τ).loc Cert.MidLat.main_arg3)
      ∧ r.2.mem ((c.tc : Thread Cert.MidLat.nD Cert.MidLat.τ).loc Cert.MidLat.main_arg4) = m ((c.tc : Thread Cert.MidLat.nD Cert.MidLat.τ).loc Cert.MidLat.main_arg4)
      ∧ r.2.mem ((c.tc : Thread Cert.MidLat.nD Cert.MidLat.τ).loc Cert.MidLat.main_arg5) = m ((c.tc : Thread Cert.MidLat.nD Cert.MidLat.τ).loc Cert.MidLat.main_arg5)
      ∧ r.2.mem ((c.tc : Thread Cert.MidLat.nD Cert.MidLat.τ).loc Cert.MidLat.main_arg6) = m ((c.tc : Thread Cert.MidLat.nD Cert.MidLat.τ).loc Cert.MidLat.main_arg6)
      ∧ r.2.mem ((c.tc : Thread Cert.MidLat.nD Cert.MidLat.τ).loc Cert.MidLat.main_arg7) = m ((c.tc : Thread Cert.MidLat.nD Cert.MidLat.τ).loc Cert.MidLat.main_arg7)
      ∧ r.2.mem ((c.tc : Thread Cert.MidLat.nD Cert.MidLat.τ).loc Cert.MidLat.main_arg8) = m ((c.tc : Thread Cert.MidLat.nD Cert.MidLat.τ).loc Cert.MidLat.main_arg8)
      ∧ r.2.mem ((c.tc : Thread Cert.MidLat.nD Cert.MidLat.τ).loc Cert.MidLat.main_arg9) = m ((c.tc : Thread Cert.MidLat.nD Cert.MidLat.τ).loc Cert.MidLat.main_arg9))
      ∧ r.2.sem = fun _ => 0)

def quiescent_MidLatIdeal [hMidLatIdeal : Cert.MidLatIdeal.Facts] : Prop :=
  ∀ (m : (ℓ : Loc Cert.MidLatIdeal.nD Cert.MidLatIdeal.τ Cert.MidLatIdeal.sig) → Buf (Elt Ideal) ℓ) (g : Dev Cert.MidLatIdeal.nD → PrngReg), Pre_MidLatIdeal m →
    θ_run (Cert.MidLatIdeal.defs (F := Ideal)) (onTc (τ := Cert.MidLatIdeal.τ) (Cert.MidLatIdeal.main (F := Ideal))) ⟨m, fun _ => 0, g⟩ (fun r => (∀ c : Dev Cert.MidLatIdeal.nD,
      r.2.mem ((c.tc : Thread Cert.MidLatIdeal.nD Cert.MidLatIdeal.τ).loc Cert.MidLatIdeal.main_arg0) = m ((c.tc : Thread Cert.MidLatIdeal.nD Cert.MidLatIdeal.τ).loc Cert.MidLatIdeal.main_arg0)
      ∧ r.2.mem ((c.tc : Thread Cert.MidLatIdeal.nD Cert.MidLatIdeal.τ).loc Cert.MidLatIdeal.main_arg1) = m ((c.tc : Thread Cert.MidLatIdeal.nD Cert.MidLatIdeal.τ).loc Cert.MidLatIdeal.main_arg1)
      ∧ r.2.mem ((c.tc : Thread Cert.MidLatIdeal.nD Cert.MidLatIdeal.τ).loc Cert.MidLatIdeal.main_arg2) = m ((c.tc : Thread Cert.MidLatIdeal.nD Cert.MidLatIdeal.τ).loc Cert.MidLatIdeal.main_arg2)
      ∧ r.2.mem ((c.tc : Thread Cert.MidLatIdeal.nD Cert.MidLatIdeal.τ).loc Cert.MidLatIdeal.main_arg3) = m ((c.tc : Thread Cert.MidLatIdeal.nD Cert.MidLatIdeal.τ).loc Cert.MidLatIdeal.main_arg3)
      ∧ r.2.mem ((c.tc : Thread Cert.MidLatIdeal.nD Cert.MidLatIdeal.τ).loc Cert.MidLatIdeal.main_arg4) = m ((c.tc : Thread Cert.MidLatIdeal.nD Cert.MidLatIdeal.τ).loc Cert.MidLatIdeal.main_arg4)
      ∧ r.2.mem ((c.tc : Thread Cert.MidLatIdeal.nD Cert.MidLatIdeal.τ).loc Cert.MidLatIdeal.main_arg5) = m ((c.tc : Thread Cert.MidLatIdeal.nD Cert.MidLatIdeal.τ).loc Cert.MidLatIdeal.main_arg5)
      ∧ r.2.mem ((c.tc : Thread Cert.MidLatIdeal.nD Cert.MidLatIdeal.τ).loc Cert.MidLatIdeal.main_arg6) = m ((c.tc : Thread Cert.MidLatIdeal.nD Cert.MidLatIdeal.τ).loc Cert.MidLatIdeal.main_arg6)
      ∧ r.2.mem ((c.tc : Thread Cert.MidLatIdeal.nD Cert.MidLatIdeal.τ).loc Cert.MidLatIdeal.main_arg7) = m ((c.tc : Thread Cert.MidLatIdeal.nD Cert.MidLatIdeal.τ).loc Cert.MidLatIdeal.main_arg7)
      ∧ r.2.mem ((c.tc : Thread Cert.MidLatIdeal.nD Cert.MidLatIdeal.τ).loc Cert.MidLatIdeal.main_arg8) = m ((c.tc : Thread Cert.MidLatIdeal.nD Cert.MidLatIdeal.τ).loc Cert.MidLatIdeal.main_arg8)
      ∧ r.2.mem ((c.tc : Thread Cert.MidLatIdeal.nD Cert.MidLatIdeal.τ).loc Cert.MidLatIdeal.main_arg9) = m ((c.tc : Thread Cert.MidLatIdeal.nD Cert.MidLatIdeal.τ).loc Cert.MidLatIdeal.main_arg9))
      ∧ r.2.sem = fun _ => 0)

def quiescent_MidLatRefIdeal [hMidLatRefIdeal : Cert.MidLatRefIdeal.Facts] : Prop :=
  ∀ (m : (ℓ : Loc Cert.MidLatRefIdeal.nD Cert.MidLatRefIdeal.τ Cert.MidLatRefIdeal.sig) → Buf (Elt Ideal) ℓ) (g : Dev Cert.MidLatRefIdeal.nD → PrngReg), Pre_MidLatRefIdeal m →
    θ_run (Cert.MidLatRefIdeal.defs (F := Ideal)) (onTc (τ := Cert.MidLatRefIdeal.τ) (Cert.MidLatRefIdeal.main (F := Ideal))) ⟨m, fun _ => 0, g⟩ (fun r => (∀ c : Dev Cert.MidLatRefIdeal.nD,
      r.2.mem ((c.tc : Thread Cert.MidLatRefIdeal.nD Cert.MidLatRefIdeal.τ).loc Cert.MidLatRefIdeal.main_arg0) = m ((c.tc : Thread Cert.MidLatRefIdeal.nD Cert.MidLatRefIdeal.τ).loc Cert.MidLatRefIdeal.main_arg0)
      ∧ r.2.mem ((c.tc : Thread Cert.MidLatRefIdeal.nD Cert.MidLatRefIdeal.τ).loc Cert.MidLatRefIdeal.main_arg1) = m ((c.tc : Thread Cert.MidLatRefIdeal.nD Cert.MidLatRefIdeal.τ).loc Cert.MidLatRefIdeal.main_arg1)
      ∧ r.2.mem ((c.tc : Thread Cert.MidLatRefIdeal.nD Cert.MidLatRefIdeal.τ).loc Cert.MidLatRefIdeal.main_arg2) = m ((c.tc : Thread Cert.MidLatRefIdeal.nD Cert.MidLatRefIdeal.τ).loc Cert.MidLatRefIdeal.main_arg2)
      ∧ r.2.mem ((c.tc : Thread Cert.MidLatRefIdeal.nD Cert.MidLatRefIdeal.τ).loc Cert.MidLatRefIdeal.main_arg3) = m ((c.tc : Thread Cert.MidLatRefIdeal.nD Cert.MidLatRefIdeal.τ).loc Cert.MidLatRefIdeal.main_arg3)
      ∧ r.2.mem ((c.tc : Thread Cert.MidLatRefIdeal.nD Cert.MidLatRefIdeal.τ).loc Cert.MidLatRefIdeal.main_arg4) = m ((c.tc : Thread Cert.MidLatRefIdeal.nD Cert.MidLatRefIdeal.τ).loc Cert.MidLatRefIdeal.main_arg4)
      ∧ r.2.mem ((c.tc : Thread Cert.MidLatRefIdeal.nD Cert.MidLatRefIdeal.τ).loc Cert.MidLatRefIdeal.main_arg5) = m ((c.tc : Thread Cert.MidLatRefIdeal.nD Cert.MidLatRefIdeal.τ).loc Cert.MidLatRefIdeal.main_arg5)
      ∧ r.2.mem ((c.tc : Thread Cert.MidLatRefIdeal.nD Cert.MidLatRefIdeal.τ).loc Cert.MidLatRefIdeal.main_arg6) = m ((c.tc : Thread Cert.MidLatRefIdeal.nD Cert.MidLatRefIdeal.τ).loc Cert.MidLatRefIdeal.main_arg6)
      ∧ r.2.mem ((c.tc : Thread Cert.MidLatRefIdeal.nD Cert.MidLatRefIdeal.τ).loc Cert.MidLatRefIdeal.main_arg7) = m ((c.tc : Thread Cert.MidLatRefIdeal.nD Cert.MidLatRefIdeal.τ).loc Cert.MidLatRefIdeal.main_arg7)
      ∧ r.2.mem ((c.tc : Thread Cert.MidLatRefIdeal.nD Cert.MidLatRefIdeal.τ).loc Cert.MidLatRefIdeal.main_arg8) = m ((c.tc : Thread Cert.MidLatRefIdeal.nD Cert.MidLatRefIdeal.τ).loc Cert.MidLatRefIdeal.main_arg8)
      ∧ r.2.mem ((c.tc : Thread Cert.MidLatRefIdeal.nD Cert.MidLatRefIdeal.τ).loc Cert.MidLatRefIdeal.main_arg9) = m ((c.tc : Thread Cert.MidLatRefIdeal.nD Cert.MidLatRefIdeal.τ).loc Cert.MidLatRefIdeal.main_arg9))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3))
      ∧ r.2.sem = fun _ => 0)

def quiescent_OddLat [hOddLat : Cert.OddLat.Facts] : Prop :=
  ∀ (m : (ℓ : Loc Cert.OddLat.nD Cert.OddLat.τ Cert.OddLat.sig) → Buf (Elt Bits) ℓ) (g : Dev Cert.OddLat.nD → PrngReg), Pre_OddLat m →
    θ_run (Cert.OddLat.defs (F := Bits)) (onTc (τ := Cert.OddLat.τ) (Cert.OddLat.main (F := Bits))) ⟨m, fun _ => 0, g⟩ (fun r => (∀ c : Dev Cert.OddLat.nD,
      r.2.mem ((c.tc : Thread Cert.OddLat.nD Cert.OddLat.τ).loc Cert.OddLat.main_arg0) = m ((c.tc : Thread Cert.OddLat.nD Cert.OddLat.τ).loc Cert.OddLat.main_arg0)
      ∧ r.2.mem ((c.tc : Thread Cert.OddLat.nD Cert.OddLat.τ).loc Cert.OddLat.main_arg1) = m ((c.tc : Thread Cert.OddLat.nD Cert.OddLat.τ).loc Cert.OddLat.main_arg1)
      ∧ r.2.mem ((c.tc : Thread Cert.OddLat.nD Cert.OddLat.τ).loc Cert.OddLat.main_arg2) = m ((c.tc : Thread Cert.OddLat.nD Cert.OddLat.τ).loc Cert.OddLat.main_arg2)
      ∧ r.2.mem ((c.tc : Thread Cert.OddLat.nD Cert.OddLat.τ).loc Cert.OddLat.main_arg3) = m ((c.tc : Thread Cert.OddLat.nD Cert.OddLat.τ).loc Cert.OddLat.main_arg3))
      ∧ r.2.sem = fun _ => 0)

def quiescent_OddLatIdeal [hOddLatIdeal : Cert.OddLatIdeal.Facts] : Prop :=
  ∀ (m : (ℓ : Loc Cert.OddLatIdeal.nD Cert.OddLatIdeal.τ Cert.OddLatIdeal.sig) → Buf (Elt Ideal) ℓ) (g : Dev Cert.OddLatIdeal.nD → PrngReg), Pre_OddLatIdeal m →
    θ_run (Cert.OddLatIdeal.defs (F := Ideal)) (onTc (τ := Cert.OddLatIdeal.τ) (Cert.OddLatIdeal.main (F := Ideal))) ⟨m, fun _ => 0, g⟩ (fun r => (∀ c : Dev Cert.OddLatIdeal.nD,
      r.2.mem ((c.tc : Thread Cert.OddLatIdeal.nD Cert.OddLatIdeal.τ).loc Cert.OddLatIdeal.main_arg0) = m ((c.tc : Thread Cert.OddLatIdeal.nD Cert.OddLatIdeal.τ).loc Cert.OddLatIdeal.main_arg0)
      ∧ r.2.mem ((c.tc : Thread Cert.OddLatIdeal.nD Cert.OddLatIdeal.τ).loc Cert.OddLatIdeal.main_arg1) = m ((c.tc : Thread Cert.OddLatIdeal.nD Cert.OddLatIdeal.τ).loc Cert.OddLatIdeal.main_arg1)
      ∧ r.2.mem ((c.tc : Thread Cert.OddLatIdeal.nD Cert.OddLatIdeal.τ).loc Cert.OddLatIdeal.main_arg2) = m ((c.tc : Thread Cert.OddLatIdeal.nD Cert.OddLatIdeal.τ).loc Cert.OddLatIdeal.main_arg2)
      ∧ r.2.mem ((c.tc : Thread Cert.OddLatIdeal.nD Cert.OddLatIdeal.τ).loc Cert.OddLatIdeal.main_arg3) = m ((c.tc : Thread Cert.OddLatIdeal.nD Cert.OddLatIdeal.τ).loc Cert.OddLatIdeal.main_arg3))
      ∧ r.2.sem = fun _ => 0)

def quiescent_OddLatRefIdeal [hOddLatRefIdeal : Cert.OddLatRefIdeal.Facts] : Prop :=
  ∀ (m : (ℓ : Loc Cert.OddLatRefIdeal.nD Cert.OddLatRefIdeal.τ Cert.OddLatRefIdeal.sig) → Buf (Elt Ideal) ℓ) (g : Dev Cert.OddLatRefIdeal.nD → PrngReg), Pre_OddLatRefIdeal m →
    θ_run (Cert.OddLatRefIdeal.defs (F := Ideal)) (onTc (τ := Cert.OddLatRefIdeal.τ) (Cert.OddLatRefIdeal.main (F := Ideal))) ⟨m, fun _ => 0, g⟩ (fun r => (∀ c : Dev Cert.OddLatRefIdeal.nD,
      r.2.mem ((c.tc : Thread Cert.OddLatRefIdeal.nD Cert.OddLatRefIdeal.τ).loc Cert.OddLatRefIdeal.main_arg0) = m ((c.tc : Thread Cert.OddLatRefIdeal.nD Cert.OddLatRefIdeal.τ).loc Cert.OddLatRefIdeal.main_arg0)
      ∧ r.2.mem ((c.tc : Thread Cert.OddLatRefIdeal.nD Cert.OddLatRefIdeal.τ).loc Cert.OddLatRefIdeal.main_arg1) = m ((c.tc : Thread Cert.OddLatRefIdeal.nD Cert.OddLatRefIdeal.τ).loc Cert.OddLatRefIdeal.main_arg1)
      ∧ r.2.mem ((c.tc : Thread Cert.OddLatRefIdeal.nD Cert.OddLatRefIdeal.τ).loc Cert.OddLatRefIdeal.main_arg2) = m ((c.tc : Thread Cert.OddLatRefIdeal.nD Cert.OddLatRefIdeal.τ).loc Cert.OddLatRefIdeal.main_arg2)
      ∧ r.2.mem ((c.tc : Thread Cert.OddLatRefIdeal.nD Cert.OddLatRefIdeal.τ).loc Cert.OddLatRefIdeal.main_arg3) = m ((c.tc : Thread Cert.OddLatRefIdeal.nD Cert.OddLatRefIdeal.τ).loc Cert.OddLatRefIdeal.main_arg3))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5))
      ∧ r.2.sem = fun _ => 0)

def quiescent_EvenLat [hEvenLat : Cert.EvenLat.Facts] : Prop :=
  ∀ (m : (ℓ : Loc Cert.EvenLat.nD Cert.EvenLat.τ Cert.EvenLat.sig) → Buf (Elt Bits) ℓ) (g : Dev Cert.EvenLat.nD → PrngReg), Pre_EvenLat m →
    θ_run (Cert.EvenLat.defs (F := Bits)) (onTc (τ := Cert.EvenLat.τ) (Cert.EvenLat.main (F := Bits))) ⟨m, fun _ => 0, g⟩ (fun r => (∀ c : Dev Cert.EvenLat.nD,
      r.2.mem ((c.tc : Thread Cert.EvenLat.nD Cert.EvenLat.τ).loc Cert.EvenLat.main_arg0) = m ((c.tc : Thread Cert.EvenLat.nD Cert.EvenLat.τ).loc Cert.EvenLat.main_arg0)
      ∧ r.2.mem ((c.tc : Thread Cert.EvenLat.nD Cert.EvenLat.τ).loc Cert.EvenLat.main_arg1) = m ((c.tc : Thread Cert.EvenLat.nD Cert.EvenLat.τ).loc Cert.EvenLat.main_arg1)
      ∧ r.2.mem ((c.tc : Thread Cert.EvenLat.nD Cert.EvenLat.τ).loc Cert.EvenLat.main_arg2) = m ((c.tc : Thread Cert.EvenLat.nD Cert.EvenLat.τ).loc Cert.EvenLat.main_arg2)
      ∧ r.2.mem ((c.tc : Thread Cert.EvenLat.nD Cert.EvenLat.τ).loc Cert.EvenLat.main_arg3) = m ((c.tc : Thread Cert.EvenLat.nD Cert.EvenLat.τ).loc Cert.EvenLat.main_arg3)
      ∧ r.2.mem ((c.tc : Thread Cert.EvenLat.nD Cert.EvenLat.τ).loc Cert.EvenLat.main_arg4) = m ((c.tc : Thread Cert.EvenLat.nD Cert.EvenLat.τ).loc Cert.EvenLat.main_arg4)
      ∧ r.2.mem ((c.tc : Thread Cert.EvenLat.nD Cert.EvenLat.τ).loc Cert.EvenLat.main_arg5) = m ((c.tc : Thread Cert.EvenLat.nD Cert.EvenLat.τ).loc Cert.EvenLat.main_arg5)
      ∧ r.2.mem ((c.tc : Thread Cert.EvenLat.nD Cert.EvenLat.τ).loc Cert.EvenLat.main_arg6) = m ((c.tc : Thread Cert.EvenLat.nD Cert.EvenLat.τ).loc Cert.EvenLat.main_arg6)
      ∧ r.2.mem ((c.tc : Thread Cert.EvenLat.nD Cert.EvenLat.τ).loc Cert.EvenLat.main_arg7) = m ((c.tc : Thread Cert.EvenLat.nD Cert.EvenLat.τ).loc Cert.EvenLat.main_arg7))
      ∧ r.2.sem = fun _ => 0)

def quiescent_EvenLatIdeal [hEvenLatIdeal : Cert.EvenLatIdeal.Facts] : Prop :=
  ∀ (m : (ℓ : Loc Cert.EvenLatIdeal.nD Cert.EvenLatIdeal.τ Cert.EvenLatIdeal.sig) → Buf (Elt Ideal) ℓ) (g : Dev Cert.EvenLatIdeal.nD → PrngReg), Pre_EvenLatIdeal m →
    θ_run (Cert.EvenLatIdeal.defs (F := Ideal)) (onTc (τ := Cert.EvenLatIdeal.τ) (Cert.EvenLatIdeal.main (F := Ideal))) ⟨m, fun _ => 0, g⟩ (fun r => (∀ c : Dev Cert.EvenLatIdeal.nD,
      r.2.mem ((c.tc : Thread Cert.EvenLatIdeal.nD Cert.EvenLatIdeal.τ).loc Cert.EvenLatIdeal.main_arg0) = m ((c.tc : Thread Cert.EvenLatIdeal.nD Cert.EvenLatIdeal.τ).loc Cert.EvenLatIdeal.main_arg0)
      ∧ r.2.mem ((c.tc : Thread Cert.EvenLatIdeal.nD Cert.EvenLatIdeal.τ).loc Cert.EvenLatIdeal.main_arg1) = m ((c.tc : Thread Cert.EvenLatIdeal.nD Cert.EvenLatIdeal.τ).loc Cert.EvenLatIdeal.main_arg1)
      ∧ r.2.mem ((c.tc : Thread Cert.EvenLatIdeal.nD Cert.EvenLatIdeal.τ).loc Cert.EvenLatIdeal.main_arg2) = m ((c.tc : Thread Cert.EvenLatIdeal.nD Cert.EvenLatIdeal.τ).loc Cert.EvenLatIdeal.main_arg2)
      ∧ r.2.mem ((c.tc : Thread Cert.EvenLatIdeal.nD Cert.EvenLatIdeal.τ).loc Cert.EvenLatIdeal.main_arg3) = m ((c.tc : Thread Cert.EvenLatIdeal.nD Cert.EvenLatIdeal.τ).loc Cert.EvenLatIdeal.main_arg3)
      ∧ r.2.mem ((c.tc : Thread Cert.EvenLatIdeal.nD Cert.EvenLatIdeal.τ).loc Cert.EvenLatIdeal.main_arg4) = m ((c.tc : Thread Cert.EvenLatIdeal.nD Cert.EvenLatIdeal.τ).loc Cert.EvenLatIdeal.main_arg4)
      ∧ r.2.mem ((c.tc : Thread Cert.EvenLatIdeal.nD Cert.EvenLatIdeal.τ).loc Cert.EvenLatIdeal.main_arg5) = m ((c.tc : Thread Cert.EvenLatIdeal.nD Cert.EvenLatIdeal.τ).loc Cert.EvenLatIdeal.main_arg5)
      ∧ r.2.mem ((c.tc : Thread Cert.EvenLatIdeal.nD Cert.EvenLatIdeal.τ).loc Cert.EvenLatIdeal.main_arg6) = m ((c.tc : Thread Cert.EvenLatIdeal.nD Cert.EvenLatIdeal.τ).loc Cert.EvenLatIdeal.main_arg6)
      ∧ r.2.mem ((c.tc : Thread Cert.EvenLatIdeal.nD Cert.EvenLatIdeal.τ).loc Cert.EvenLatIdeal.main_arg7) = m ((c.tc : Thread Cert.EvenLatIdeal.nD Cert.EvenLatIdeal.τ).loc Cert.EvenLatIdeal.main_arg7))
      ∧ r.2.sem = fun _ => 0)

def quiescent_EvenLatRefIdeal [hEvenLatRefIdeal : Cert.EvenLatRefIdeal.Facts] : Prop :=
  ∀ (m : (ℓ : Loc Cert.EvenLatRefIdeal.nD Cert.EvenLatRefIdeal.τ Cert.EvenLatRefIdeal.sig) → Buf (Elt Ideal) ℓ) (g : Dev Cert.EvenLatRefIdeal.nD → PrngReg), Pre_EvenLatRefIdeal m →
    θ_run (Cert.EvenLatRefIdeal.defs (F := Ideal)) (onTc (τ := Cert.EvenLatRefIdeal.τ) (Cert.EvenLatRefIdeal.main (F := Ideal))) ⟨m, fun _ => 0, g⟩ (fun r => (∀ c : Dev Cert.EvenLatRefIdeal.nD,
      r.2.mem ((c.tc : Thread Cert.EvenLatRefIdeal.nD Cert.EvenLatRefIdeal.τ).loc Cert.EvenLatRefIdeal.main_arg0) = m ((c.tc : Thread Cert.EvenLatRefIdeal.nD Cert.EvenLatRefIdeal.τ).loc Cert.EvenLatRefIdeal.main_arg0)
      ∧ r.2.mem ((c.tc : Thread Cert.EvenLatRefIdeal.nD Cert.EvenLatRefIdeal.τ).loc Cert.EvenLatRefIdeal.main_arg1) = m ((c.tc : Thread Cert.EvenLatRefIdeal.nD Cert.EvenLatRefIdeal.τ).loc Cert.EvenLatRefIdeal.main_arg1)
      ∧ r.2.mem ((c.tc : Thread Cert.EvenLatRefIdeal.nD Cert.EvenLatRefIdeal.τ).loc Cert.EvenLatRefIdeal.main_arg2) = m ((c.tc : Thread Cert.EvenLatRefIdeal.nD Cert.EvenLatRefIdeal.τ).loc Cert.EvenLatRefIdeal.main_arg2)
      ∧ r.2.mem ((c.tc : Thread Cert.EvenLatRefIdeal.nD Cert.EvenLatRefIdeal.τ).loc Cert.EvenLatRefIdeal.main_arg3) = m ((c.tc : Thread Cert.EvenLatRefIdeal.nD Cert.EvenLatRefIdeal.τ).loc Cert.EvenLatRefIdeal.main_arg3)
      ∧ r.2.mem ((c.tc : Thread Cert.EvenLatRefIdeal.nD Cert.EvenLatRefIdeal.τ).loc Cert.EvenLatRefIdeal.main_arg4) = m ((c.tc : Thread Cert.EvenLatRefIdeal.nD Cert.EvenLatRefIdeal.τ).loc Cert.EvenLatRefIdeal.main_arg4)
      ∧ r.2.mem ((c.tc : Thread Cert.EvenLatRefIdeal.nD Cert.EvenLatRefIdeal.τ).loc Cert.EvenLatRefIdeal.main_arg5) = m ((c.tc : Thread Cert.EvenLatRefIdeal.nD Cert.EvenLatRefIdeal.τ).loc Cert.EvenLatRefIdeal.main_arg5)
      ∧ r.2.mem ((c.tc : Thread Cert.EvenLatRefIdeal.nD Cert.EvenLatRefIdeal.τ).loc Cert.EvenLatRefIdeal.main_arg6) = m ((c.tc : Thread Cert.EvenLatRefIdeal.nD Cert.EvenLatRefIdeal.τ).loc Cert.EvenLatRefIdeal.main_arg6)
      ∧ r.2.mem ((c.tc : Thread Cert.EvenLatRefIdeal.nD Cert.EvenLatRefIdeal.τ).loc Cert.EvenLatRefIdeal.main_arg7) = m ((c.tc : Thread Cert.EvenLatRefIdeal.nD Cert.EvenLatRefIdeal.τ).loc Cert.EvenLatRefIdeal.main_arg7))
      ∧ r.2.sem = fun _ => 0)

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v29)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v29) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v21) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v14)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v86) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_FfnLat_FfnLatIdeal : Prop :=
  True

def algebraic_FfnLatIdeal_FfnLatRefIdeal [hFfnLatIdeal : Cert.FfnLatIdeal.Facts] [hFfnLatRefIdeal : Cert.FfnLatRefIdeal.Facts] : Prop :=
  ∀ (m : (ℓ : Loc Cert.FfnLatIdeal.nD Cert.FfnLatIdeal.τ Cert.FfnLatIdeal.sig) → Buf (Elt Ideal) ℓ) (g : Dev Cert.FfnLatIdeal.nD → PrngReg)
    (m' : (ℓ : Loc Cert.FfnLatRefIdeal.nD Cert.FfnLatRefIdeal.τ Cert.FfnLatRefIdeal.sig) → Buf (Elt Ideal) ℓ) (g' : Dev Cert.FfnLatRefIdeal.nD → PrngReg), Pre_FfnLatIdeal m →
    (∀ c : Dev Cert.FfnLatIdeal.nD,
      m' ((c.tc : Thread Cert.FfnLatRefIdeal.nD Cert.FfnLatRefIdeal.τ).loc Cert.FfnLatRefIdeal.main_arg0) = m ((c.tc : Thread Cert.FfnLatIdeal.nD Cert.FfnLatIdeal.τ).loc Cert.FfnLatIdeal.main_arg0)
      ∧ m' ((c.tc : Thread Cert.FfnLatRefIdeal.nD Cert.FfnLatRefIdeal.τ).loc Cert.FfnLatRefIdeal.main_arg1) = m ((c.tc : Thread Cert.FfnLatIdeal.nD Cert.FfnLatIdeal.τ).loc Cert.FfnLatIdeal.main_arg1)
      ∧ m' ((c.tc : Thread Cert.FfnLatRefIdeal.nD Cert.FfnLatRefIdeal.τ).loc Cert.FfnLatRefIdeal.main_arg2) = m ((c.tc : Thread Cert.FfnLatIdeal.nD Cert.FfnLatIdeal.τ).loc Cert.FfnLatIdeal.main_arg2)
      ∧ m' ((c.tc : Thread Cert.FfnLatRefIdeal.nD Cert.FfnLatRefIdeal.τ).loc Cert.FfnLatRefIdeal.main_arg3) = m ((c.tc : Thread Cert.FfnLatIdeal.nD Cert.FfnLatIdeal.τ).loc Cert.FfnLatIdeal.main_arg3)
      ∧ m' ((c.tc : Thread Cert.FfnLatRefIdeal.nD Cert.FfnLatRefIdeal.τ).loc Cert.FfnLatRefIdeal.main_arg4) = m ((c.tc : Thread Cert.FfnLatIdeal.nD Cert.FfnLatIdeal.τ).loc Cert.FfnLatIdeal.main_arg4)
      ∧ m' ((c.tc : Thread Cert.FfnLatRefIdeal.nD Cert.FfnLatRefIdeal.τ).loc Cert.FfnLatRefIdeal.main_arg5) = m ((c.tc : Thread Cert.FfnLatIdeal.nD Cert.FfnLatIdeal.τ).loc Cert.FfnLatIdeal.main_arg5)
      ∧ m' ((c.tc : Thread Cert.FfnLatRefIdeal.nD Cert.FfnLatRefIdeal.τ).loc Cert.FfnLatRefIdeal.main_arg6) = m ((c.tc : Thread Cert.FfnLatIdeal.nD Cert.FfnLatIdeal.τ).loc Cert.FfnLatIdeal.main_arg6)
      ∧ m' ((c.tc : Thread Cert.FfnLatRefIdeal.nD Cert.FfnLatRefIdeal.τ).loc Cert.FfnLatRefIdeal.main_arg7) = m ((c.tc : Thread Cert.FfnLatIdeal.nD Cert.FfnLatIdeal.τ).loc Cert.FfnLatIdeal.main_arg7)
      ∧ m' ((c.tc : Thread Cert.FfnLatRefIdeal.nD Cert.FfnLatRefIdeal.τ).loc Cert.FfnLatRefIdeal.main_arg8) = m ((c.tc : Thread Cert.FfnLatIdeal.nD Cert.FfnLatIdeal.τ).loc Cert.FfnLatIdeal.main_arg8)
      ∧ m' ((c.tc : Thread Cert.FfnLatRefIdeal.nD Cert.FfnLatRefIdeal.τ).loc Cert.FfnLatRefIdeal.main_arg9) = m ((c.tc : Thread Cert.FfnLatIdeal.nD Cert.FfnLatIdeal.τ).loc Cert.FfnLatIdeal.main_arg9)) →
    ∃ (v0 : (c : Dev Cert.FfnLatIdeal.nD) → Buf (Elt Ideal) ((c.tc : Thread Cert.FfnLatIdeal.nD Cert.FfnLatIdeal.τ).loc Cert.FfnLatIdeal.main_v14)),
      θ_run (Cert.FfnLatIdeal.defs (F := Ideal)) (onTc (τ := Cert.FfnLatIdeal.τ) (Cert.FfnLatIdeal.main (F := Ideal))) ⟨m, fun _ => 0, g⟩ (fun r => ∀ c : Dev Cert.FfnLatIdeal.nD,
          r.2.mem ((c.tc : Thread Cert.FfnLatIdeal.nD Cert.FfnLatIdeal.τ).loc Cert.FfnLatIdeal.main_v14) = v0 c
          ∧ r.2.mem ((c.tc : Thread Cert.FfnLatIdeal.nD Cert.FfnLatIdeal.τ).loc Cert.FfnLatIdeal.main_arg0) = m ((c.tc : Thread Cert.FfnLatIdeal.nD Cert.FfnLatIdeal.τ).loc Cert.FfnLatIdeal.main_arg0)
          ∧ r.2.mem ((c.tc : Thread Cert.FfnLatIdeal.nD Cert.FfnLatIdeal.τ).loc Cert.FfnLatIdeal.main_arg1) = m ((c.tc : Thread Cert.FfnLatIdeal.nD Cert.FfnLatIdeal.τ).loc Cert.FfnLatIdeal.main_arg1)
          ∧ r.2.mem ((c.tc : Thread Cert.FfnLatIdeal.nD Cert.FfnLatIdeal.τ).loc Cert.FfnLatIdeal.main_arg2) = m ((c.tc : Thread Cert.FfnLatIdeal.nD Cert.FfnLatIdeal.τ).loc Cert.FfnLatIdeal.main_arg2)
          ∧ r.2.mem ((c.tc : Thread Cert.FfnLatIdeal.nD Cert.FfnLatIdeal.τ).loc Cert.FfnLatIdeal.main_arg3) = m ((c.tc : Thread Cert.FfnLatIdeal.nD Cert.FfnLatIdeal.τ).loc Cert.FfnLatIdeal.main_arg3)
          ∧ r.2.mem ((c.tc : Thread Cert.FfnLatIdeal.nD Cert.FfnLatIdeal.τ).loc Cert.FfnLatIdeal.main_arg4) = m ((c.tc : Thread Cert.FfnLatIdeal.nD Cert.FfnLatIdeal.τ).loc Cert.FfnLatIdeal.main_arg4)
          ∧ r.2.mem ((c.tc : Thread Cert.FfnLatIdeal.nD Cert.FfnLatIdeal.τ).loc Cert.FfnLatIdeal.main_arg5) = m ((c.tc : Thread Cert.FfnLatIdeal.nD Cert.FfnLatIdeal.τ).loc Cert.FfnLatIdeal.main_arg5)
          ∧ r.2.mem ((c.tc : Thread Cert.FfnLatIdeal.nD Cert.FfnLatIdeal.τ).loc Cert.FfnLatIdeal.main_arg6) = m ((c.tc : Thread Cert.FfnLatIdeal.nD Cert.FfnLatIdeal.τ).loc Cert.FfnLatIdeal.main_arg6)
          ∧ r.2.mem ((c.tc : Thread Cert.FfnLatIdeal.nD Cert.FfnLatIdeal.τ).loc Cert.FfnLatIdeal.main_arg7) = m ((c.tc : Thread Cert.FfnLatIdeal.nD Cert.FfnLatIdeal.τ).loc Cert.FfnLatIdeal.main_arg7)
          ∧ r.2.mem ((c.tc : Thread Cert.FfnLatIdeal.nD Cert.FfnLatIdeal.τ).loc Cert.FfnLatIdeal.main_arg8) = m ((c.tc : Thread Cert.FfnLatIdeal.nD Cert.FfnLatIdeal.τ).loc Cert.FfnLatIdeal.main_arg8)
          ∧ r.2.mem ((c.tc : Thread Cert.FfnLatIdeal.nD Cert.FfnLatIdeal.τ).loc Cert.FfnLatIdeal.main_arg9) = m ((c.tc : Thread Cert.FfnLatIdeal.nD Cert.FfnLatIdeal.τ).loc Cert.FfnLatIdeal.main_arg9))
      ∧ θ_run (Cert.FfnLatRefIdeal.defs (F := Ideal)) (onTc (τ := Cert.FfnLatRefIdeal.τ) (Cert.FfnLatRefIdeal.main (F := Ideal))) ⟨m', fun _ => 0, g'⟩ (fun r => ∀ c : Dev Cert.FfnLatRefIdeal.nD,
          r.2.mem ((c.tc : Thread Cert.FfnLatRefIdeal.nD Cert.FfnLatRefIdeal.τ).loc Cert.FfnLatRefIdeal.main_v86) = v0 c
          ∧ r.2.mem ((c.tc : Thread Cert.FfnLatRefIdeal.nD Cert.FfnLatRefIdeal.τ).loc Cert.FfnLatRefIdeal.main_arg0) = m' ((c.tc : Thread Cert.FfnLatRefIdeal.nD Cert.FfnLatRefIdeal.τ).loc Cert.FfnLatRefIdeal.main_arg0)
          ∧ r.2.mem ((c.tc : Thread Cert.FfnLatRefIdeal.nD Cert.FfnLatRefIdeal.τ).loc Cert.FfnLatRefIdeal.main_arg1) = m' ((c.tc : Thread Cert.FfnLatRefIdeal.nD Cert.FfnLatRefIdeal.τ).loc Cert.FfnLatRefIdeal.main_arg1)
          ∧ r.2.mem ((c.tc : Thread Cert.FfnLatRefIdeal.nD Cert.FfnLatRefIdeal.τ).loc Cert.FfnLatRefIdeal.main_arg2) = m' ((c.tc : Thread Cert.FfnLatRefIdeal.nD Cert.FfnLatRefIdeal.τ).loc Cert.FfnLatRefIdeal.main_arg2)
          ∧ r.2.mem ((c.tc : Thread Cert.FfnLatRefIdeal.nD Cert.FfnLatRefIdeal.τ).loc Cert.FfnLatRefIdeal.main_arg3) = m' ((c.tc : Thread Cert.FfnLatRefIdeal.nD Cert.FfnLatRefIdeal.τ).loc Cert.FfnLatRefIdeal.main_arg3)
          ∧ r.2.mem ((c.tc : Thread Cert.FfnLatRefIdeal.nD Cert.FfnLatRefIdeal.τ).loc Cert.FfnLatRefIdeal.main_arg4) = m' ((c.tc : Thread Cert.FfnLatRefIdeal.nD Cert.FfnLatRefIdeal.τ).loc Cert.FfnLatRefIdeal.main_arg4)
          ∧ r.2.mem ((c.tc : Thread Cert.FfnLatRefIdeal.nD Cert.FfnLatRefIdeal.τ).loc Cert.FfnLatRefIdeal.main_arg5) = m' ((c.tc : Thread Cert.FfnLatRefIdeal.nD Cert.FfnLatRefIdeal.τ).loc Cert.FfnLatRefIdeal.main_arg5)
          ∧ r.2.mem ((c.tc : Thread Cert.FfnLatRefIdeal.nD Cert.FfnLatRefIdeal.τ).loc Cert.FfnLatRefIdeal.main_arg6) = m' ((c.tc : Thread Cert.FfnLatRefIdeal.nD Cert.FfnLatRefIdeal.τ).loc Cert.FfnLatRefIdeal.main_arg6)
          ∧ r.2.mem ((c.tc : Thread Cert.FfnLatRefIdeal.nD Cert.FfnLatRefIdeal.τ).loc Cert.FfnLatRefIdeal.main_arg7) = m' ((c.tc : Thread Cert.FfnLatRefIdeal.nD Cert.FfnLatRefIdeal.τ).loc Cert.FfnLatRefIdeal.main_arg7)
          ∧ r.2.mem ((c.tc : Thread Cert.FfnLatRefIdeal.nD Cert.FfnLatRefIdeal.τ).loc Cert.FfnLatRefIdeal.main_arg8) = m' ((c.tc : Thread Cert.FfnLatRefIdeal.nD Cert.FfnLatRefIdeal.τ).loc Cert.FfnLatRefIdeal.main_arg8)
          ∧ r.2.mem ((c.tc : Thread Cert.FfnLatRefIdeal.nD Cert.FfnLatRefIdeal.τ).loc Cert.FfnLatRefIdeal.main_arg9) = m' ((c.tc : Thread Cert.FfnLatRefIdeal.nD Cert.FfnLatRefIdeal.τ).loc Cert.FfnLatRefIdeal.main_arg9))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)) →
    ∃ (v0 : (c : Dev Cert.MidIdeal.nD) → Buf (Elt Ideal) ((c.tc : Thread Cert.MidIdeal.nD Cert.MidIdeal.τ).loc Cert.MidIdeal.main_v17)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v17) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v74) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9))

def preserves_MidLat_MidLatIdeal : Prop :=
  True

def algebraic_MidLatIdeal_MidLatRefIdeal [hMidLatIdeal : Cert.MidLatIdeal.Facts] [hMidLatRefIdeal : Cert.MidLatRefIdeal.Facts] : Prop :=
  ∀ (m : (ℓ : Loc Cert.MidLatIdeal.nD Cert.MidLatIdeal.τ Cert.MidLatIdeal.sig) → Buf (Elt Ideal) ℓ) (g : Dev Cert.MidLatIdeal.nD → PrngReg)
    (m' : (ℓ : Loc Cert.MidLatRefIdeal.nD Cert.MidLatRefIdeal.τ Cert.MidLatRefIdeal.sig) → Buf (Elt Ideal) ℓ) (g' : Dev Cert.MidLatRefIdeal.nD → PrngReg), Pre_MidLatIdeal m →
    (∀ c : Dev Cert.MidLatIdeal.nD,
      m' ((c.tc : Thread Cert.MidLatRefIdeal.nD Cert.MidLatRefIdeal.τ).loc Cert.MidLatRefIdeal.main_arg0) = m ((c.tc : Thread Cert.MidLatIdeal.nD Cert.MidLatIdeal.τ).loc Cert.MidLatIdeal.main_arg0)
      ∧ m' ((c.tc : Thread Cert.MidLatRefIdeal.nD Cert.MidLatRefIdeal.τ).loc Cert.MidLatRefIdeal.main_arg1) = m ((c.tc : Thread Cert.MidLatIdeal.nD Cert.MidLatIdeal.τ).loc Cert.MidLatIdeal.main_arg1)
      ∧ m' ((c.tc : Thread Cert.MidLatRefIdeal.nD Cert.MidLatRefIdeal.τ).loc Cert.MidLatRefIdeal.main_arg2) = m ((c.tc : Thread Cert.MidLatIdeal.nD Cert.MidLatIdeal.τ).loc Cert.MidLatIdeal.main_arg2)
      ∧ m' ((c.tc : Thread Cert.MidLatRefIdeal.nD Cert.MidLatRefIdeal.τ).loc Cert.MidLatRefIdeal.main_arg3) = m ((c.tc : Thread Cert.MidLatIdeal.nD Cert.MidLatIdeal.τ).loc Cert.MidLatIdeal.main_arg3)
      ∧ m' ((c.tc : Thread Cert.MidLatRefIdeal.nD Cert.MidLatRefIdeal.τ).loc Cert.MidLatRefIdeal.main_arg4) = m ((c.tc : Thread Cert.MidLatIdeal.nD Cert.MidLatIdeal.τ).loc Cert.MidLatIdeal.main_arg4)
      ∧ m' ((c.tc : Thread Cert.MidLatRefIdeal.nD Cert.MidLatRefIdeal.τ).loc Cert.MidLatRefIdeal.main_arg5) = m ((c.tc : Thread Cert.MidLatIdeal.nD Cert.MidLatIdeal.τ).loc Cert.MidLatIdeal.main_arg5)
      ∧ m' ((c.tc : Thread Cert.MidLatRefIdeal.nD Cert.MidLatRefIdeal.τ).loc Cert.MidLatRefIdeal.main_arg6) = m ((c.tc : Thread Cert.MidLatIdeal.nD Cert.MidLatIdeal.τ).loc Cert.MidLatIdeal.main_arg6)
      ∧ m' ((c.tc : Thread Cert.MidLatRefIdeal.nD Cert.MidLatRefIdeal.τ).loc Cert.MidLatRefIdeal.main_arg7) = m ((c.tc : Thread Cert.MidLatIdeal.nD Cert.MidLatIdeal.τ).loc Cert.MidLatIdeal.main_arg7)
      ∧ m' ((c.tc : Thread Cert.MidLatRefIdeal.nD Cert.MidLatRefIdeal.τ).loc Cert.MidLatRefIdeal.main_arg8) = m ((c.tc : Thread Cert.MidLatIdeal.nD Cert.MidLatIdeal.τ).loc Cert.MidLatIdeal.main_arg8)
      ∧ m' ((c.tc : Thread Cert.MidLatRefIdeal.nD Cert.MidLatRefIdeal.τ).loc Cert.MidLatRefIdeal.main_arg9) = m ((c.tc : Thread Cert.MidLatIdeal.nD Cert.MidLatIdeal.τ).loc Cert.MidLatIdeal.main_arg9)) →
    ∃ (v0 : (c : Dev Cert.MidLatIdeal.nD) → Buf (Elt Ideal) ((c.tc : Thread Cert.MidLatIdeal.nD Cert.MidLatIdeal.τ).loc Cert.MidLatIdeal.main_v17)),
      θ_run (Cert.MidLatIdeal.defs (F := Ideal)) (onTc (τ := Cert.MidLatIdeal.τ) (Cert.MidLatIdeal.main (F := Ideal))) ⟨m, fun _ => 0, g⟩ (fun r => ∀ c : Dev Cert.MidLatIdeal.nD,
          r.2.mem ((c.tc : Thread Cert.MidLatIdeal.nD Cert.MidLatIdeal.τ).loc Cert.MidLatIdeal.main_v17) = v0 c
          ∧ r.2.mem ((c.tc : Thread Cert.MidLatIdeal.nD Cert.MidLatIdeal.τ).loc Cert.MidLatIdeal.main_arg0) = m ((c.tc : Thread Cert.MidLatIdeal.nD Cert.MidLatIdeal.τ).loc Cert.MidLatIdeal.main_arg0)
          ∧ r.2.mem ((c.tc : Thread Cert.MidLatIdeal.nD Cert.MidLatIdeal.τ).loc Cert.MidLatIdeal.main_arg1) = m ((c.tc : Thread Cert.MidLatIdeal.nD Cert.MidLatIdeal.τ).loc Cert.MidLatIdeal.main_arg1)
          ∧ r.2.mem ((c.tc : Thread Cert.MidLatIdeal.nD Cert.MidLatIdeal.τ).loc Cert.MidLatIdeal.main_arg2) = m ((c.tc : Thread Cert.MidLatIdeal.nD Cert.MidLatIdeal.τ).loc Cert.MidLatIdeal.main_arg2)
          ∧ r.2.mem ((c.tc : Thread Cert.MidLatIdeal.nD Cert.MidLatIdeal.τ).loc Cert.MidLatIdeal.main_arg3) = m ((c.tc : Thread Cert.MidLatIdeal.nD Cert.MidLatIdeal.τ).loc Cert.MidLatIdeal.main_arg3)
          ∧ r.2.mem ((c.tc : Thread Cert.MidLatIdeal.nD Cert.MidLatIdeal.τ).loc Cert.MidLatIdeal.main_arg4) = m ((c.tc : Thread Cert.MidLatIdeal.nD Cert.MidLatIdeal.τ).loc Cert.MidLatIdeal.main_arg4)
          ∧ r.2.mem ((c.tc : Thread Cert.MidLatIdeal.nD Cert.MidLatIdeal.τ).loc Cert.MidLatIdeal.main_arg5) = m ((c.tc : Thread Cert.MidLatIdeal.nD Cert.MidLatIdeal.τ).loc Cert.MidLatIdeal.main_arg5)
          ∧ r.2.mem ((c.tc : Thread Cert.MidLatIdeal.nD Cert.MidLatIdeal.τ).loc Cert.MidLatIdeal.main_arg6) = m ((c.tc : Thread Cert.MidLatIdeal.nD Cert.MidLatIdeal.τ).loc Cert.MidLatIdeal.main_arg6)
          ∧ r.2.mem ((c.tc : Thread Cert.MidLatIdeal.nD Cert.MidLatIdeal.τ).loc Cert.MidLatIdeal.main_arg7) = m ((c.tc : Thread Cert.MidLatIdeal.nD Cert.MidLatIdeal.τ).loc Cert.MidLatIdeal.main_arg7)
          ∧ r.2.mem ((c.tc : Thread Cert.MidLatIdeal.nD Cert.MidLatIdeal.τ).loc Cert.MidLatIdeal.main_arg8) = m ((c.tc : Thread Cert.MidLatIdeal.nD Cert.MidLatIdeal.τ).loc Cert.MidLatIdeal.main_arg8)
          ∧ r.2.mem ((c.tc : Thread Cert.MidLatIdeal.nD Cert.MidLatIdeal.τ).loc Cert.MidLatIdeal.main_arg9) = m ((c.tc : Thread Cert.MidLatIdeal.nD Cert.MidLatIdeal.τ).loc Cert.MidLatIdeal.main_arg9))
      ∧ θ_run (Cert.MidLatRefIdeal.defs (F := Ideal)) (onTc (τ := Cert.MidLatRefIdeal.τ) (Cert.MidLatRefIdeal.main (F := Ideal))) ⟨m', fun _ => 0, g'⟩ (fun r => ∀ c : Dev Cert.MidLatRefIdeal.nD,
          r.2.mem ((c.tc : Thread Cert.MidLatRefIdeal.nD Cert.MidLatRefIdeal.τ).loc Cert.MidLatRefIdeal.main_v74) = v0 c
          ∧ r.2.mem ((c.tc : Thread Cert.MidLatRefIdeal.nD Cert.MidLatRefIdeal.τ).loc Cert.MidLatRefIdeal.main_arg0) = m' ((c.tc : Thread Cert.MidLatRefIdeal.nD Cert.MidLatRefIdeal.τ).loc Cert.MidLatRefIdeal.main_arg0)
          ∧ r.2.mem ((c.tc : Thread Cert.MidLatRefIdeal.nD Cert.MidLatRefIdeal.τ).loc Cert.MidLatRefIdeal.main_arg1) = m' ((c.tc : Thread Cert.MidLatRefIdeal.nD Cert.MidLatRefIdeal.τ).loc Cert.MidLatRefIdeal.main_arg1)
          ∧ r.2.mem ((c.tc : Thread Cert.MidLatRefIdeal.nD Cert.MidLatRefIdeal.τ).loc Cert.MidLatRefIdeal.main_arg2) = m' ((c.tc : Thread Cert.MidLatRefIdeal.nD Cert.MidLatRefIdeal.τ).loc Cert.MidLatRefIdeal.main_arg2)
          ∧ r.2.mem ((c.tc : Thread Cert.MidLatRefIdeal.nD Cert.MidLatRefIdeal.τ).loc Cert.MidLatRefIdeal.main_arg3) = m' ((c.tc : Thread Cert.MidLatRefIdeal.nD Cert.MidLatRefIdeal.τ).loc Cert.MidLatRefIdeal.main_arg3)
          ∧ r.2.mem ((c.tc : Thread Cert.MidLatRefIdeal.nD Cert.MidLatRefIdeal.τ).loc Cert.MidLatRefIdeal.main_arg4) = m' ((c.tc : Thread Cert.MidLatRefIdeal.nD Cert.MidLatRefIdeal.τ).loc Cert.MidLatRefIdeal.main_arg4)
          ∧ r.2.mem ((c.tc : Thread Cert.MidLatRefIdeal.nD Cert.MidLatRefIdeal.τ).loc Cert.MidLatRefIdeal.main_arg5) = m' ((c.tc : Thread Cert.MidLatRefIdeal.nD Cert.MidLatRefIdeal.τ).loc Cert.MidLatRefIdeal.main_arg5)
          ∧ r.2.mem ((c.tc : Thread Cert.MidLatRefIdeal.nD Cert.MidLatRefIdeal.τ).loc Cert.MidLatRefIdeal.main_arg6) = m' ((c.tc : Thread Cert.MidLatRefIdeal.nD Cert.MidLatRefIdeal.τ).loc Cert.MidLatRefIdeal.main_arg6)
          ∧ r.2.mem ((c.tc : Thread Cert.MidLatRefIdeal.nD Cert.MidLatRefIdeal.τ).loc Cert.MidLatRefIdeal.main_arg7) = m' ((c.tc : Thread Cert.MidLatRefIdeal.nD Cert.MidLatRefIdeal.τ).loc Cert.MidLatRefIdeal.main_arg7)
          ∧ r.2.mem ((c.tc : Thread Cert.MidLatRefIdeal.nD Cert.MidLatRefIdeal.τ).loc Cert.MidLatRefIdeal.main_arg8) = m' ((c.tc : Thread Cert.MidLatRefIdeal.nD Cert.MidLatRefIdeal.τ).loc Cert.MidLatRefIdeal.main_arg8)
          ∧ r.2.mem ((c.tc : Thread Cert.MidLatRefIdeal.nD Cert.MidLatRefIdeal.τ).loc Cert.MidLatRefIdeal.main_arg9) = m' ((c.tc : Thread Cert.MidLatRefIdeal.nD Cert.MidLatRefIdeal.τ).loc Cert.MidLatRefIdeal.main_arg9))

def preserves_Odd_OddIdeal : Prop :=
  IdealRules.named_const.Statement Cert.OddIdeal.κ "q_scale" .f32 0x3E38AA3B#32 ((8⁻¹ * (Real.log 2)⁻¹ : ℝ) : EReal)

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)) →
    ∃ (v0 : (c : Dev Cert.OddIdeal.nD) → Buf (Elt Ideal) ((c.tc : Thread Cert.OddIdeal.nD Cert.OddIdeal.τ).loc Cert.OddIdeal.main_v8_0)) (v1 : (c : Dev Cert.OddIdeal.nD) → Buf (Elt Ideal) ((c.tc : Thread Cert.OddIdeal.nD Cert.OddIdeal.τ).loc Cert.OddIdeal.main_v8_1)) (v2 : (c : Dev Cert.OddIdeal.nD) → Buf (Elt Ideal) ((c.tc : Thread Cert.OddIdeal.nD Cert.OddIdeal.τ).loc Cert.OddIdeal.main_v8_2)) (v3 : (c : Dev Cert.OddIdeal.nD) → Buf (Elt Ideal) ((c.tc : Thread Cert.OddIdeal.nD Cert.OddIdeal.τ).loc Cert.OddIdeal.main_v9)) (v4 : (c : Dev Cert.OddIdeal.nD) → Buf (Elt Ideal) ((c.tc : Thread Cert.OddIdeal.nD Cert.OddIdeal.τ).loc Cert.OddIdeal.main_v10)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v8_0) = v0 c
          ∧ r.2.mem ((c.tc : Thread Cert.OddIdeal.nD Cert.OddIdeal.τ).loc Cert.OddIdeal.main_v8_1) = v1 c
          ∧ r.2.mem ((c.tc : Thread Cert.OddIdeal.nD Cert.OddIdeal.τ).loc Cert.OddIdeal.main_v8_2) = v2 c
          ∧ r.2.mem ((c.tc : Thread Cert.OddIdeal.nD Cert.OddIdeal.τ).loc Cert.OddIdeal.main_v9) = v3 c
          ∧ r.2.mem ((c.tc : Thread Cert.OddIdeal.nD Cert.OddIdeal.τ).loc Cert.OddIdeal.main_v10) = v4 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v37) = v0 c
          ∧ r.2.mem ((c.tc : Thread Cert.OddRefIdeal.nD Cert.OddRefIdeal.τ).loc Cert.OddRefIdeal.main_v39) = v1 c
          ∧ r.2.mem ((c.tc : Thread Cert.OddRefIdeal.nD Cert.OddRefIdeal.τ).loc Cert.OddRefIdeal.main_v41) = v2 c
          ∧ r.2.mem ((c.tc : Thread Cert.OddRefIdeal.nD Cert.OddRefIdeal.τ).loc Cert.OddRefIdeal.main_v44) = v3 c
          ∧ r.2.mem ((c.tc : Thread Cert.OddRefIdeal.nD Cert.OddRefIdeal.τ).loc Cert.OddRefIdeal.main_v47) = v4 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3))

def preserves_OddLat_OddLatIdeal : Prop :=
  IdealRules.named_const.Statement Cert.OddLatIdeal.κ "q_scale" .f32 0x3E38AA3B#32 ((8⁻¹ * (Real.log 2)⁻¹ : ℝ) : EReal)

def algebraic_OddLatIdeal_OddLatRefIdeal [hOddLatIdeal : Cert.OddLatIdeal.Facts] [hOddLatRefIdeal : Cert.OddLatRefIdeal.Facts] : Prop :=
  ∀ (m : (ℓ : Loc Cert.OddLatIdeal.nD Cert.OddLatIdeal.τ Cert.OddLatIdeal.sig) → Buf (Elt Ideal) ℓ) (g : Dev Cert.OddLatIdeal.nD → PrngReg)
    (m' : (ℓ : Loc Cert.OddLatRefIdeal.nD Cert.OddLatRefIdeal.τ Cert.OddLatRefIdeal.sig) → Buf (Elt Ideal) ℓ) (g' : Dev Cert.OddLatRefIdeal.nD → PrngReg), Pre_OddLatIdeal m →
    (∀ c : Dev Cert.OddLatIdeal.nD,
      m' ((c.tc : Thread Cert.OddLatRefIdeal.nD Cert.OddLatRefIdeal.τ).loc Cert.OddLatRefIdeal.main_arg0) = m ((c.tc : Thread Cert.OddLatIdeal.nD Cert.OddLatIdeal.τ).loc Cert.OddLatIdeal.main_arg0)
      ∧ m' ((c.tc : Thread Cert.OddLatRefIdeal.nD Cert.OddLatRefIdeal.τ).loc Cert.OddLatRefIdeal.main_arg1) = m ((c.tc : Thread Cert.OddLatIdeal.nD Cert.OddLatIdeal.τ).loc Cert.OddLatIdeal.main_arg1)
      ∧ m' ((c.tc : Thread Cert.OddLatRefIdeal.nD Cert.OddLatRefIdeal.τ).loc Cert.OddLatRefIdeal.main_arg2) = m ((c.tc : Thread Cert.OddLatIdeal.nD Cert.OddLatIdeal.τ).loc Cert.OddLatIdeal.main_arg2)
      ∧ m' ((c.tc : Thread Cert.OddLatRefIdeal.nD Cert.OddLatRefIdeal.τ).loc Cert.OddLatRefIdeal.main_arg3) = m ((c.tc : Thread Cert.OddLatIdeal.nD Cert.OddLatIdeal.τ).loc Cert.OddLatIdeal.main_arg3)) →
    ∃ (v0 : (c : Dev Cert.OddLatIdeal.nD) → Buf (Elt Ideal) ((c.tc : Thread Cert.OddLatIdeal.nD Cert.OddLatIdeal.τ).loc Cert.OddLatIdeal.main_v8_0)) (v1 : (c : Dev Cert.OddLatIdeal.nD) → Buf (Elt Ideal) ((c.tc : Thread Cert.OddLatIdeal.nD Cert.OddLatIdeal.τ).loc Cert.OddLatIdeal.main_v8_1)) (v2 : (c : Dev Cert.OddLatIdeal.nD) → Buf (Elt Ideal) ((c.tc : Thread Cert.OddLatIdeal.nD Cert.OddLatIdeal.τ).loc Cert.OddLatIdeal.main_v8_2)),
      θ_run (Cert.OddLatIdeal.defs (F := Ideal)) (onTc (τ := Cert.OddLatIdeal.τ) (Cert.OddLatIdeal.main (F := Ideal))) ⟨m, fun _ => 0, g⟩ (fun r => ∀ c : Dev Cert.OddLatIdeal.nD,
          r.2.mem ((c.tc : Thread Cert.OddLatIdeal.nD Cert.OddLatIdeal.τ).loc Cert.OddLatIdeal.main_v8_0) = v0 c
          ∧ r.2.mem ((c.tc : Thread Cert.OddLatIdeal.nD Cert.OddLatIdeal.τ).loc Cert.OddLatIdeal.main_v8_1) = v1 c
          ∧ r.2.mem ((c.tc : Thread Cert.OddLatIdeal.nD Cert.OddLatIdeal.τ).loc Cert.OddLatIdeal.main_v8_2) = v2 c
          ∧ r.2.mem ((c.tc : Thread Cert.OddLatIdeal.nD Cert.OddLatIdeal.τ).loc Cert.OddLatIdeal.main_arg0) = m ((c.tc : Thread Cert.OddLatIdeal.nD Cert.OddLatIdeal.τ).loc Cert.OddLatIdeal.main_arg0)
          ∧ r.2.mem ((c.tc : Thread Cert.OddLatIdeal.nD Cert.OddLatIdeal.τ).loc Cert.OddLatIdeal.main_arg1) = m ((c.tc : Thread Cert.OddLatIdeal.nD Cert.OddLatIdeal.τ).loc Cert.OddLatIdeal.main_arg1)
          ∧ r.2.mem ((c.tc : Thread Cert.OddLatIdeal.nD Cert.OddLatIdeal.τ).loc Cert.OddLatIdeal.main_arg2) = m ((c.tc : Thread Cert.OddLatIdeal.nD Cert.OddLatIdeal.τ).loc Cert.OddLatIdeal.main_arg2)
          ∧ r.2.mem ((c.tc : Thread Cert.OddLatIdeal.nD Cert.OddLatIdeal.τ).loc Cert.OddLatIdeal.main_arg3) = m ((c.tc : Thread Cert.OddLatIdeal.nD Cert.OddLatIdeal.τ).loc Cert.OddLatIdeal.main_arg3))
      ∧ θ_run (Cert.OddLatRefIdeal.defs (F := Ideal)) (onTc (τ := Cert.OddLatRefIdeal.τ) (Cert.OddLatRefIdeal.main (F := Ideal))) ⟨m', fun _ => 0, g'⟩ (fun r => ∀ c : Dev Cert.OddLatRefIdeal.nD,
          r.2.mem ((c.tc : Thread Cert.OddLatRefIdeal.nD Cert.OddLatRefIdeal.τ).loc Cert.OddLatRefIdeal.main_v37) = v0 c
          ∧ r.2.mem ((c.tc : Thread Cert.OddLatRefIdeal.nD Cert.OddLatRefIdeal.τ).loc Cert.OddLatRefIdeal.main_v39) = v1 c
          ∧ r.2.mem ((c.tc : Thread Cert.OddLatRefIdeal.nD Cert.OddLatRefIdeal.τ).loc Cert.OddLatRefIdeal.main_v41) = v2 c
          ∧ r.2.mem ((c.tc : Thread Cert.OddLatRefIdeal.nD Cert.OddLatRefIdeal.τ).loc Cert.OddLatRefIdeal.main_arg0) = m' ((c.tc : Thread Cert.OddLatRefIdeal.nD Cert.OddLatRefIdeal.τ).loc Cert.OddLatRefIdeal.main_arg0)
          ∧ r.2.mem ((c.tc : Thread Cert.OddLatRefIdeal.nD Cert.OddLatRefIdeal.τ).loc Cert.OddLatRefIdeal.main_arg1) = m' ((c.tc : Thread Cert.OddLatRefIdeal.nD Cert.OddLatRefIdeal.τ).loc Cert.OddLatRefIdeal.main_arg1)
          ∧ r.2.mem ((c.tc : Thread Cert.OddLatRefIdeal.nD Cert.OddLatRefIdeal.τ).loc Cert.OddLatRefIdeal.main_arg2) = m' ((c.tc : Thread Cert.OddLatRefIdeal.nD Cert.OddLatRefIdeal.τ).loc Cert.OddLatRefIdeal.main_arg2)
          ∧ r.2.mem ((c.tc : Thread Cert.OddLatRefIdeal.nD Cert.OddLatRefIdeal.τ).loc Cert.OddLatRefIdeal.main_arg3) = m' ((c.tc : Thread Cert.OddLatRefIdeal.nD Cert.OddLatRefIdeal.τ).loc Cert.OddLatRefIdeal.main_arg3))

def preserves_Even_EvenIdeal : Prop :=
  IdealRules.named_const.Statement Cert.EvenIdeal.κ "q_scale" .f32 0x3E38AA3B#32 ((8⁻¹ * (Real.log 2)⁻¹ : ℝ) : EReal)

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)
      ∧ m' ((c.tc : Thread Cert.EvenRefIdeal.nD Cert.EvenRefIdeal.τ).loc Cert.EvenRefIdeal.main_arg5) = m ((c.tc : Thread Cert.EvenIdeal.nD Cert.EvenIdeal.τ).loc Cert.EvenIdeal.main_arg5)) →
    ∃ (v0 : (c : Dev Cert.EvenIdeal.nD) → Buf (Elt Ideal) ((c.tc : Thread Cert.EvenIdeal.nD Cert.EvenIdeal.τ).loc Cert.EvenIdeal.main_v16_0)) (v1 : (c : Dev Cert.EvenIdeal.nD) → Buf (Elt Ideal) ((c.tc : Thread Cert.EvenIdeal.nD Cert.EvenIdeal.τ).loc Cert.EvenIdeal.main_v16_1)) (v2 : (c : Dev Cert.EvenIdeal.nD) → Buf (Elt Ideal) ((c.tc : Thread Cert.EvenIdeal.nD Cert.EvenIdeal.τ).loc Cert.EvenIdeal.main_v16_2)) (v3 : (c : Dev Cert.EvenIdeal.nD) → Buf (Elt Ideal) ((c.tc : Thread Cert.EvenIdeal.nD Cert.EvenIdeal.τ).loc Cert.EvenIdeal.main_v16_3)) (v4 : (c : Dev Cert.EvenIdeal.nD) → Buf (Elt Ideal) ((c.tc : Thread Cert.EvenIdeal.nD Cert.EvenIdeal.τ).loc Cert.EvenIdeal.main_v16_4)) (v5 : (c : Dev Cert.EvenIdeal.nD) → Buf (Elt Ideal) ((c.tc : Thread Cert.EvenIdeal.nD Cert.EvenIdeal.τ).loc Cert.EvenIdeal.main_v16_5)) (v6 : (c : Dev Cert.EvenIdeal.nD) → Buf (Elt Ideal) ((c.tc : Thread Cert.EvenIdeal.nD Cert.EvenIdeal.τ).loc Cert.EvenIdeal.main_v16_6)) (v7 : (c : Dev Cert.EvenIdeal.nD) → Buf (Elt Ideal) ((c.tc : Thread Cert.EvenIdeal.nD Cert.EvenIdeal.τ).loc Cert.EvenIdeal.main_v17)) (v8 : (c : Dev Cert.EvenIdeal.nD) → Buf (Elt Ideal) ((c.tc : Thread Cert.EvenIdeal.nD Cert.EvenIdeal.τ).loc Cert.EvenIdeal.main_v18)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v16_0) = v0 c
          ∧ r.2.mem ((c.tc : Thread Cert.EvenIdeal.nD Cert.EvenIdeal.τ).loc Cert.EvenIdeal.main_v16_1) = v1 c
          ∧ r.2.mem ((c.tc : Thread Cert.EvenIdeal.nD Cert.EvenIdeal.τ).loc Cert.EvenIdeal.main_v16_2) = v2 c
          ∧ r.2.mem ((c.tc : Thread Cert.EvenIdeal.nD Cert.EvenIdeal.τ).loc Cert.EvenIdeal.main_v16_3) = v3 c
          ∧ r.2.mem ((c.tc : Thread Cert.EvenIdeal.nD Cert.EvenIdeal.τ).loc Cert.EvenIdeal.main_v16_4) = v4 c
          ∧ r.2.mem ((c.tc : Thread Cert.EvenIdeal.nD Cert.EvenIdeal.τ).loc Cert.EvenIdeal.main_v16_5) = v5 c
          ∧ r.2.mem ((c.tc : Thread Cert.EvenIdeal.nD Cert.EvenIdeal.τ).loc Cert.EvenIdeal.main_v16_6) = v6 c
          ∧ r.2.mem ((c.tc : Thread Cert.EvenIdeal.nD Cert.EvenIdeal.τ).loc Cert.EvenIdeal.main_v17) = v7 c
          ∧ r.2.mem ((c.tc : Thread Cert.EvenIdeal.nD Cert.EvenIdeal.τ).loc Cert.EvenIdeal.main_v18) = v8 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v69) = v0 c
          ∧ r.2.mem ((c.tc : Thread Cert.EvenRefIdeal.nD Cert.EvenRefIdeal.τ).loc Cert.EvenRefIdeal.main_v71) = v1 c
          ∧ r.2.mem ((c.tc : Thread Cert.EvenRefIdeal.nD Cert.EvenRefIdeal.τ).loc Cert.EvenRefIdeal.main_v74) = v2 c
          ∧ r.2.mem ((c.tc : Thread Cert.EvenRefIdeal.nD Cert.EvenRefIdeal.τ).loc Cert.EvenRefIdeal.main_v76) = v3 c
          ∧ r.2.mem ((c.tc : Thread Cert.EvenRefIdeal.nD Cert.EvenRefIdeal.τ).loc Cert.EvenRefIdeal.main_v82) = v4 c
          ∧ r.2.mem ((c.tc : Thread Cert.EvenRefIdeal.nD Cert.EvenRefIdeal.τ).loc Cert.EvenRefIdeal.main_v87) = v5 c
          ∧ r.2.mem ((c.tc : Thread Cert.EvenRefIdeal.nD Cert.EvenRefIdeal.τ).loc Cert.EvenRefIdeal.main_v92) = v6 c
          ∧ r.2.mem ((c.tc : Thread Cert.EvenRefIdeal.nD Cert.EvenRefIdeal.τ).loc Cert.EvenRefIdeal.main_v94) = v7 c
          ∧ r.2.mem ((c.tc : Thread Cert.EvenRefIdeal.nD Cert.EvenRefIdeal.τ).loc Cert.EvenRefIdeal.main_v96) = v8 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5))

def preserves_EvenLat_EvenLatIdeal : Prop :=
  IdealRules.named_const.Statement Cert.EvenLatIdeal.κ "q_scale" .f32 0x3E38AA3B#32 ((8⁻¹ * (Real.log 2)⁻¹ : ℝ) : EReal)

def algebraic_EvenLatIdeal_EvenLatRefIdeal [hEvenLatIdeal : Cert.EvenLatIdeal.Facts] [hEvenLatRefIdeal : Cert.EvenLatRefIdeal.Facts] : Prop :=
  ∀ (m : (ℓ : Loc Cert.EvenLatIdeal.nD Cert.EvenLatIdeal.τ Cert.EvenLatIdeal.sig) → Buf (Elt Ideal) ℓ) (g : Dev Cert.EvenLatIdeal.nD → PrngReg)
    (m' : (ℓ : Loc Cert.EvenLatRefIdeal.nD Cert.EvenLatRefIdeal.τ Cert.EvenLatRefIdeal.sig) → Buf (Elt Ideal) ℓ) (g' : Dev Cert.EvenLatRefIdeal.nD → PrngReg), Pre_EvenLatIdeal m →
    (∀ c : Dev Cert.EvenLatIdeal.nD,
      m' ((c.tc : Thread Cert.EvenLatRefIdeal.nD Cert.EvenLatRefIdeal.τ).loc Cert.EvenLatRefIdeal.main_arg0) = m ((c.tc : Thread Cert.EvenLatIdeal.nD Cert.EvenLatIdeal.τ).loc Cert.EvenLatIdeal.main_arg0)
      ∧ m' ((c.tc : Thread Cert.EvenLatRefIdeal.nD Cert.EvenLatRefIdeal.τ).loc Cert.EvenLatRefIdeal.main_arg1) = m ((c.tc : Thread Cert.EvenLatIdeal.nD Cert.EvenLatIdeal.τ).loc Cert.EvenLatIdeal.main_arg1)
      ∧ m' ((c.tc : Thread Cert.EvenLatRefIdeal.nD Cert.EvenLatRefIdeal.τ).loc Cert.EvenLatRefIdeal.main_arg2) = m ((c.tc : Thread Cert.EvenLatIdeal.nD Cert.EvenLatIdeal.τ).loc Cert.EvenLatIdeal.main_arg2)
      ∧ m' ((c.tc : Thread Cert.EvenLatRefIdeal.nD Cert.EvenLatRefIdeal.τ).loc Cert.EvenLatRefIdeal.main_arg3) = m ((c.tc : Thread Cert.EvenLatIdeal.nD Cert.EvenLatIdeal.τ).loc Cert.EvenLatIdeal.main_arg3)
      ∧ m' ((c.tc : Thread Cert.EvenLatRefIdeal.nD Cert.EvenLatRefIdeal.τ).loc Cert.EvenLatRefIdeal.main_arg4) = m ((c.tc : Thread Cert.EvenLatIdeal.nD Cert.EvenLatIdeal.τ).loc Cert.EvenLatIdeal.main_arg4)
      ∧ m' ((c.tc : Thread Cert.EvenLatRefIdeal.nD Cert.EvenLatRefIdeal.τ).loc Cert.EvenLatRefIdeal.main_arg5) = m ((c.tc : Thread Cert.EvenLatIdeal.nD Cert.EvenLatIdeal.τ).loc Cert.EvenLatIdeal.main_arg5)
      ∧ m' ((c.tc : Thread Cert.EvenLatRefIdeal.nD Cert.EvenLatRefIdeal.τ).loc Cert.EvenLatRefIdeal.main_arg6) = m ((c.tc : Thread Cert.EvenLatIdeal.nD Cert.EvenLatIdeal.τ).loc Cert.EvenLatIdeal.main_arg6)
      ∧ m' ((c.tc : Thread Cert.EvenLatRefIdeal.nD Cert.EvenLatRefIdeal.τ).loc Cert.EvenLatRefIdeal.main_arg7) = m ((c.tc : Thread Cert.EvenLatIdeal.nD Cert.EvenLatIdeal.τ).loc Cert.EvenLatIdeal.main_arg7)) →
    ∃ (v0 : (c : Dev Cert.EvenLatIdeal.nD) → Buf (Elt Ideal) ((c.tc : Thread Cert.EvenLatIdeal.nD Cert.EvenLatIdeal.τ).loc Cert.EvenLatIdeal.main_v30_0)) (v1 : (c : Dev Cert.EvenLatIdeal.nD) → Buf (Elt Ideal) ((c.tc : Thread Cert.EvenLatIdeal.nD Cert.EvenLatIdeal.τ).loc Cert.EvenLatIdeal.main_v30_1)) (v2 : (c : Dev Cert.EvenLatIdeal.nD) → Buf (Elt Ideal) ((c.tc : Thread Cert.EvenLatIdeal.nD Cert.EvenLatIdeal.τ).loc Cert.EvenLatIdeal.main_v30_2)) (v3 : (c : Dev Cert.EvenLatIdeal.nD) → Buf (Elt Ideal) ((c.tc : Thread Cert.EvenLatIdeal.nD Cert.EvenLatIdeal.τ).loc Cert.EvenLatIdeal.main_v30_3)) (v4 : (c : Dev Cert.EvenLatIdeal.nD) → Buf (Elt Ideal) ((c.tc : Thread Cert.EvenLatIdeal.nD Cert.EvenLatIdeal.τ).loc Cert.EvenLatIdeal.main_v30_4)) (v5 : (c : Dev Cert.EvenLatIdeal.nD) → Buf (Elt Ideal) ((c.tc : Thread Cert.EvenLatIdeal.nD Cert.EvenLatIdeal.τ).loc Cert.EvenLatIdeal.main_v30_5)) (v6 : (c : Dev Cert.EvenLatIdeal.nD) → Buf (Elt Ideal) ((c.tc : Thread Cert.EvenLatIdeal.nD Cert.EvenLatIdeal.τ).loc Cert.EvenLatIdeal.main_v30_6)),
      θ_run (Cert.EvenLatIdeal.defs (F := Ideal)) (onTc (τ := Cert.EvenLatIdeal.τ) (Cert.EvenLatIdeal.main (F := Ideal))) ⟨m, fun _ => 0, g⟩ (fun r => ∀ c : Dev Cert.EvenLatIdeal.nD,
          r.2.mem ((c.tc : Thread Cert.EvenLatIdeal.nD Cert.EvenLatIdeal.τ).loc Cert.EvenLatIdeal.main_v30_0) = v0 c
          ∧ r.2.mem ((c.tc : Thread Cert.EvenLatIdeal.nD Cert.EvenLatIdeal.τ).loc Cert.EvenLatIdeal.main_v30_1) = v1 c
          ∧ r.2.mem ((c.tc : Thread Cert.EvenLatIdeal.nD Cert.EvenLatIdeal.τ).loc Cert.EvenLatIdeal.main_v30_2) = v2 c
          ∧ r.2.mem ((c.tc : Thread Cert.EvenLatIdeal.nD Cert.EvenLatIdeal.τ).loc Cert.EvenLatIdeal.main_v30_3) = v3 c
          ∧ r.2.mem ((c.tc : Thread Cert.EvenLatIdeal.nD Cert.EvenLatIdeal.τ).loc Cert.EvenLatIdeal.main_v30_4) = v4 c
          ∧ r.2.mem ((c.tc : Thread Cert.EvenLatIdeal.nD Cert.EvenLatIdeal.τ).loc Cert.EvenLatIdeal.main_v30_5) = v5 c
          ∧ r.2.mem ((c.tc : Thread Cert.EvenLatIdeal.nD Cert.EvenLatIdeal.τ).loc Cert.EvenLatIdeal.main_v30_6) = v6 c
          ∧ r.2.mem ((c.tc : Thread Cert.EvenLatIdeal.nD Cert.EvenLatIdeal.τ).loc Cert.EvenLatIdeal.main_arg0) = m ((c.tc : Thread Cert.EvenLatIdeal.nD Cert.EvenLatIdeal.τ).loc Cert.EvenLatIdeal.main_arg0)
          ∧ r.2.mem ((c.tc : Thread Cert.EvenLatIdeal.nD Cert.EvenLatIdeal.τ).loc Cert.EvenLatIdeal.main_arg1) = m ((c.tc : Thread Cert.EvenLatIdeal.nD Cert.EvenLatIdeal.τ).loc Cert.EvenLatIdeal.main_arg1)
          ∧ r.2.mem ((c.tc : Thread Cert.EvenLatIdeal.nD Cert.EvenLatIdeal.τ).loc Cert.EvenLatIdeal.main_arg2) = m ((c.tc : Thread Cert.EvenLatIdeal.nD Cert.EvenLatIdeal.τ).loc Cert.EvenLatIdeal.main_arg2)
          ∧ r.2.mem ((c.tc : Thread Cert.EvenLatIdeal.nD Cert.EvenLatIdeal.τ).loc Cert.EvenLatIdeal.main_arg3) = m ((c.tc : Thread Cert.EvenLatIdeal.nD Cert.EvenLatIdeal.τ).loc Cert.EvenLatIdeal.main_arg3)
          ∧ r.2.mem ((c.tc : Thread Cert.EvenLatIdeal.nD Cert.EvenLatIdeal.τ).loc Cert.EvenLatIdeal.main_arg4) = m ((c.tc : Thread Cert.EvenLatIdeal.nD Cert.EvenLatIdeal.τ).loc Cert.EvenLatIdeal.main_arg4)
          ∧ r.2.mem ((c.tc : Thread Cert.EvenLatIdeal.nD Cert.EvenLatIdeal.τ).loc Cert.EvenLatIdeal.main_arg5) = m ((c.tc : Thread Cert.EvenLatIdeal.nD Cert.EvenLatIdeal.τ).loc Cert.EvenLatIdeal.main_arg5)
          ∧ r.2.mem ((c.tc : Thread Cert.EvenLatIdeal.nD Cert.EvenLatIdeal.τ).loc Cert.EvenLatIdeal.main_arg6) = m ((c.tc : Thread Cert.EvenLatIdeal.nD Cert.EvenLatIdeal.τ).loc Cert.EvenLatIdeal.main_arg6)
          ∧ r.2.mem ((c.tc : Thread Cert.EvenLatIdeal.nD Cert.EvenLatIdeal.τ).loc Cert.EvenLatIdeal.main_arg7) = m ((c.tc : Thread Cert.EvenLatIdeal.nD Cert.EvenLatIdeal.τ).loc Cert.EvenLatIdeal.main_arg7))
      ∧ θ_run (Cert.EvenLatRefIdeal.defs (F := Ideal)) (onTc (τ := Cert.EvenLatRefIdeal.τ) (Cert.EvenLatRefIdeal.main (F := Ideal))) ⟨m', fun _ => 0, g'⟩ (fun r => ∀ c : Dev Cert.EvenLatRefIdeal.nD,
          r.2.mem ((c.tc : Thread Cert.EvenLatRefIdeal.nD Cert.EvenLatRefIdeal.τ).loc Cert.EvenLatRefIdeal.main_v259) = v0 c
          ∧ r.2.mem ((c.tc : Thread Cert.EvenLatRefIdeal.nD Cert.EvenLatRefIdeal.τ).loc Cert.EvenLatRefIdeal.main_v261) = v1 c
          ∧ r.2.mem ((c.tc : Thread Cert.EvenLatRefIdeal.nD Cert.EvenLatRefIdeal.τ).loc Cert.EvenLatRefIdeal.main_v264) = v2 c
          ∧ r.2.mem ((c.tc : Thread Cert.EvenLatRefIdeal.nD Cert.EvenLatRefIdeal.τ).loc Cert.EvenLatRefIdeal.main_v266) = v3 c
          ∧ r.2.mem ((c.tc : Thread Cert.EvenLatRefIdeal.nD Cert.EvenLatRefIdeal.τ).loc Cert.EvenLatRefIdeal.main_v272) = v4 c
          ∧ r.2.mem ((c.tc : Thread Cert.EvenLatRefIdeal.nD Cert.EvenLatRefIdeal.τ).loc Cert.EvenLatRefIdeal.main_v277) = v5 c
          ∧ r.2.mem ((c.tc : Thread Cert.EvenLatRefIdeal.nD Cert.EvenLatRefIdeal.τ).loc Cert.EvenLatRefIdeal.main_v282) = v6 c
          ∧ r.2.mem ((c.tc : Thread Cert.EvenLatRefIdeal.nD Cert.EvenLatRefIdeal.τ).loc Cert.EvenLatRefIdeal.main_arg0) = m' ((c.tc : Thread Cert.EvenLatRefIdeal.nD Cert.EvenLatRefIdeal.τ).loc Cert.EvenLatRefIdeal.main_arg0)
          ∧ r.2.mem ((c.tc : Thread Cert.EvenLatRefIdeal.nD Cert.EvenLatRefIdeal.τ).loc Cert.EvenLatRefIdeal.main_arg1) = m' ((c.tc : Thread Cert.EvenLatRefIdeal.nD Cert.EvenLatRefIdeal.τ).loc Cert.EvenLatRefIdeal.main_arg1)
          ∧ r.2.mem ((c.tc : Thread Cert.EvenLatRefIdeal.nD Cert.EvenLatRefIdeal.τ).loc Cert.EvenLatRefIdeal.main_arg2) = m' ((c.tc : Thread Cert.EvenLatRefIdeal.nD Cert.EvenLatRefIdeal.τ).loc Cert.EvenLatRefIdeal.main_arg2)
          ∧ r.2.mem ((c.tc : Thread Cert.EvenLatRefIdeal.nD Cert.EvenLatRefIdeal.τ).loc Cert.EvenLatRefIdeal.main_arg3) = m' ((c.tc : Thread Cert.EvenLatRefIdeal.nD Cert.EvenLatRefIdeal.τ).loc Cert.EvenLatRefIdeal.main_arg3)
          ∧ r.2.mem ((c.tc : Thread Cert.EvenLatRefIdeal.nD Cert.EvenLatRefIdeal.τ).loc Cert.EvenLatRefIdeal.main_arg4) = m' ((c.tc : Thread Cert.EvenLatRefIdeal.nD Cert.EvenLatRefIdeal.τ).loc Cert.EvenLatRefIdeal.main_arg4)
          ∧ r.2.mem ((c.tc : Thread Cert.EvenLatRefIdeal.nD Cert.EvenLatRefIdeal.τ).loc Cert.EvenLatRefIdeal.main_arg5) = m' ((c.tc : Thread Cert.EvenLatRefIdeal.nD Cert.EvenLatRefIdeal.τ).loc Cert.EvenLatRefIdeal.main_arg5)
          ∧ r.2.mem ((c.tc : Thread Cert.EvenLatRefIdeal.nD Cert.EvenLatRefIdeal.τ).loc Cert.EvenLatRefIdeal.main_arg6) = m' ((c.tc : Thread Cert.EvenLatRefIdeal.nD Cert.EvenLatRefIdeal.τ).loc Cert.EvenLatRefIdeal.main_arg6)
          ∧ r.2.mem ((c.tc : Thread Cert.EvenLatRefIdeal.nD Cert.EvenLatRefIdeal.τ).loc Cert.EvenLatRefIdeal.main_arg7) = m' ((c.tc : Thread Cert.EvenLatRefIdeal.nD Cert.EvenLatRefIdeal.τ).loc Cert.EvenLatRefIdeal.main_arg7))

def Claim : Prop :=
  ∃ (hGqa : Cert.Gqa.Facts) (hGqaIdeal : Cert.GqaIdeal.Facts) (hGqaRefIdeal : Cert.GqaRefIdeal.Facts) (hFfn : Cert.Ffn.Facts) (hFfnIdeal : Cert.FfnIdeal.Facts) (hFfnRefIdeal : Cert.FfnRefIdeal.Facts) (hFfnLat : Cert.FfnLat.Facts) (hFfnLatIdeal : Cert.FfnLatIdeal.Facts) (hFfnLatRefIdeal : Cert.FfnLatRefIdeal.Facts) (hMid : Cert.Mid.Facts) (hMidIdeal : Cert.MidIdeal.Facts) (hMidRefIdeal : Cert.MidRefIdeal.Facts) (hMidLat : Cert.MidLat.Facts) (hMidLatIdeal : Cert.MidLatIdeal.Facts) (hMidLatRefIdeal : Cert.MidLatRefIdeal.Facts) (hOdd : Cert.Odd.Facts) (hOddIdeal : Cert.OddIdeal.Facts) (hOddRefIdeal : Cert.OddRefIdeal.Facts) (hOddLat : Cert.OddLat.Facts) (hOddLatIdeal : Cert.OddLatIdeal.Facts) (hOddLatRefIdeal : Cert.OddLatRefIdeal.Facts) (hEven : Cert.Even.Facts) (hEvenIdeal : Cert.EvenIdeal.Facts) (hEvenRefIdeal : Cert.EvenRefIdeal.Facts) (hEvenLat : Cert.EvenLat.Facts) (hEvenLatIdeal : Cert.EvenLatIdeal.Facts) (hEvenLatRefIdeal : Cert.EvenLatRefIdeal.Facts) (hPre_gqa_finite : Cert.Pre_gqa_finite.Facts),
    quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Ffn (hFfn := hFfn)
    ∧ quiescent_FfnIdeal (hFfnIdeal := hFfnIdeal)
    ∧ quiescent_FfnRefIdeal (hFfnRefIdeal := hFfnRefIdeal)
    ∧ quiescent_FfnLat (hFfnLat := hFfnLat)
    ∧ quiescent_FfnLatIdeal (hFfnLatIdeal := hFfnLatIdeal)
    ∧ quiescent_FfnLatRefIdeal (hFfnLatRefIdeal := hFfnLatRefIdeal)
    ∧ quiescent_Mid (hMid := hMid)
    ∧ quiescent_MidIdeal (hMidIdeal := hMidIdeal)
    ∧ quiescent_MidRefIdeal (hMidRefIdeal := hMidRefIdeal)
    ∧ quiescent_MidLat (hMidLat := hMidLat)
    ∧ quiescent_MidLatIdeal (hMidLatIdeal := hMidLatIdeal)
    ∧ quiescent_MidLatRefIdeal (hMidLatRefIdeal := hMidLatRefIdeal)
    ∧ quiescent_Odd (hOdd := hOdd)
    ∧ quiescent_OddIdeal (hOddIdeal := hOddIdeal)
    ∧ quiescent_OddRefIdeal (hOddRefIdeal := hOddRefIdeal)
    ∧ quiescent_OddLat (hOddLat := hOddLat)
    ∧ quiescent_OddLatIdeal (hOddLatIdeal := hOddLatIdeal)
    ∧ quiescent_OddLatRefIdeal (hOddLatRefIdeal := hOddLatRefIdeal)
    ∧ quiescent_Even (hEven := hEven)
    ∧ quiescent_EvenIdeal (hEvenIdeal := hEvenIdeal)
    ∧ quiescent_EvenRefIdeal (hEvenRefIdeal := hEvenRefIdeal)
    ∧ quiescent_EvenLat (hEvenLat := hEvenLat)
    ∧ quiescent_EvenLatIdeal (hEvenLatIdeal := hEvenLatIdeal)
    ∧ quiescent_EvenLatRefIdeal (hEvenLatRefIdeal := hEvenLatRefIdeal)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Ffn_FfnIdeal
    ∧ algebraic_FfnIdeal_FfnRefIdeal (hFfnIdeal := hFfnIdeal) (hFfnRefIdeal := hFfnRefIdeal)
    ∧ preserves_FfnLat_FfnLatIdeal
    ∧ algebraic_FfnLatIdeal_FfnLatRefIdeal (hFfnLatIdeal := hFfnLatIdeal) (hFfnLatRefIdeal := hFfnLatRefIdeal)
    ∧ preserves_Mid_MidIdeal
    ∧ algebraic_MidIdeal_MidRefIdeal (hMidIdeal := hMidIdeal) (hMidRefIdeal := hMidRefIdeal)
    ∧ preserves_MidLat_MidLatIdeal
    ∧ algebraic_MidLatIdeal_MidLatRefIdeal (hMidLatIdeal := hMidLatIdeal) (hMidLatRefIdeal := hMidLatRefIdeal)
    ∧ preserves_Odd_OddIdeal
    ∧ algebraic_OddIdeal_OddRefIdeal (hOddIdeal := hOddIdeal) (hOddRefIdeal := hOddRefIdeal)
    ∧ preserves_OddLat_OddLatIdeal
    ∧ algebraic_OddLatIdeal_OddLatRefIdeal (hOddLatIdeal := hOddLatIdeal) (hOddLatRefIdeal := hOddLatRefIdeal)
    ∧ preserves_Even_EvenIdeal
    ∧ algebraic_EvenIdeal_EvenRefIdeal (hEvenIdeal := hEvenIdeal) (hEvenRefIdeal := hEvenRefIdeal)
    ∧ preserves_EvenLat_EvenLatIdeal
    ∧ algebraic_EvenLatIdeal_EvenLatRefIdeal (hEvenLatIdeal := hEvenLatIdeal) (hEvenLatRefIdeal := hEvenLatRefIdeal)
-- ==== Pre_gqa_finite.lean ====
abbrev S8x8x1024x64 : Shape := ⟨4, ![8, 8, 1024, 64]⟩
abbrev S8x2x1024x64 : Shape := ⟨4, ![8, 2, 1024, 64]⟩
abbrev S8x2x256x64 : Shape := ⟨4, ![8, 2, 256, 64]⟩
abbrev S_ : Shape := ⟨0, ![]⟩

class Facts : Prop where
  bcast_S_S8x8x1024x64 : S_.BroadcastsInDim S8x8x1024x64 (![] : Fin 0 → Fin S8x8x1024x64.rank)
  bcast_S_S8x2x1024x64 : S_.BroadcastsInDim S8x2x1024x64 (![] : Fin 0 → Fin S8x2x1024x64.rank)
  bcast_S_S8x2x256x64 : S_.BroadcastsInDim S8x2x256x64 (![] : Fin 0 → Fin S8x2x256x64.rank)

variable [Facts]

def fn {F : FTy → Type} [FloatOps F] (main_arg0 : FVec F S8x8x1024x64 .f32) (main_arg1 : FVec F S8x2x1024x64 .f32) (main_arg2 : FVec F S8x2x1024x64 .f32) (main_arg3 : FVec F S8x2x256x64 .f32) (main_arg4 : FVec F S8x2x256x64 .f32) : IVec S8x8x1024x64 1 × IVec S8x2x1024x64 1 × IVec S8x2x256x64 1 :=
  let main_v0 : FVec F S8x8x1024x64 .f32 := Host.absf main_arg0
  let main_cst : FVec F S_ .f32 := constant S_ .f32 0x7F800000#32
  let main_v1 : FVec F S8x8x1024x64 .f32 := broadcastInDim S8x8x1024x64 ![] bcast_S_S8x8x1024x64 main_cst
  let main_v2 : IVec S8x8x1024x64 1 := cmpf .olt main_v0 main_v1
  let main_v3 : FVec F S8x2x1024x64 .f32 := Host.absf main_arg1
  let main_cst_0 : FVec F S_ .f32 := constant S_ .f32 0x7F800000#32
  let main_v4 : FVec F S8x2x1024x64 .f32 := broadcastInDim S8x2x1024x64 ![] bcast_S_S8x2x1024x64 main_cst_0
  let main_v5 : IVec S8x2x1024x64 1 := cmpf .olt main_v3 main_v4
  let main_v6 : FVec F S8x2x256x64 .f32 := Host.absf main_arg3
  let main_cst_1 : FVec F S_ .f32 := constant S_ .f32 0x7F800000#32
  let main_v7 : FVec F S8x2x256x64 .f32 := broadcastInDim S8x2x256x64 ![] bcast_S_S8x2x256x64 main_cst_1
  let main_v8 : IVec S8x2x256x64 1 := cmpf .olt main_v6 main_v7
  (main_v2, main_v5, main_v8)
-- ==== Gqa.lean ====
abbrev S8x8x1024x64 : Shape := ⟨4, ![8, 8, 1024, 64]⟩
abbrev S8x2x1024x64 : Shape := ⟨4, ![8, 2, 1024, 64]⟩
abbrev S8x2x256x64 : Shape := ⟨4, ![8, 2, 256, 64]⟩
abbrev S_ : Shape := ⟨0, ![]⟩
abbrev S8x1024x8x64 : Shape := ⟨4, ![8, 1024, 8, 64]⟩
abbrev S8192x512 : Shape := ⟨2, ![8192, 512]⟩
abbrev S8x1024x2x64 : Shape := ⟨4, ![8, 1024, 2, 64]⟩
abbrev S8x1024x2x1x64 : Shape := ⟨5, ![8, 1024, 2, 1, 64]⟩
abbrev S8x1024x2x2x64 : Shape := ⟨5, ![8, 1024, 2, 2, 64]⟩
abbrev S8x1024x256 : Shape := ⟨3, ![8, 1024, 256]⟩
abbrev S8192x256 : Shape := ⟨2, ![8192, 256]⟩
abbrev S8x256x2x64 : Shape := ⟨4, ![8, 256, 2, 64]⟩
abbrev S8x256x2x1x64 : Shape := ⟨5, ![8, 256, 2, 1, 64]⟩
abbrev S8x256x2x2x64 : Shape := ⟨5, ![8, 256, 2, 2, 64]⟩
abbrev S8x256x256 : Shape := ⟨3, ![8, 256, 256]⟩
abbrev S512x512 : Shape := ⟨2, ![512, 512]⟩
abbrev S1024x256 : Shape := ⟨2, ![1024, 256]⟩
abbrev S1x256x256 : Shape := ⟨3, ![1, 256, 256]⟩
abbrev S512x128 : Shape := ⟨2, ![512, 128]⟩
abbrev S1024x128 : Shape := ⟨2, ![1024, 128]⟩
abbrev S1024x1024 : Shape := ⟨2, ![1024, 1024]⟩
abbrev S1x256x128 : Shape := ⟨3, ![1, 256, 128]⟩
abbrev S256x128 : Shape := ⟨2, ![256, 128]⟩
abbrev S1024 : Shape := ⟨1, ![1024]⟩
abbrev S1024x1 : Shape := ⟨2, ![1024, 1]⟩

abbrev nBuf : Space → Nat
  | .hbm => 37
  | .vmem => 12
  | .smem => 0
  | _ => 0

abbrev bufTy : (tb : Table) → Fin (tcTables nBuf tb) → BufTy
  | .hbm, ⟨0, _⟩ => ⟨S8x8x1024x64, .f32⟩
  | .hbm, ⟨1, _⟩ => ⟨S8x2x1024x64, .f32⟩
  | .hbm, ⟨2, _⟩ => ⟨S8x2x1024x64, .f32⟩
  | .hbm, ⟨3, _⟩ => ⟨S8x2x256x64, .f32⟩
  | .hbm, ⟨4, _⟩ => ⟨S8x2x256x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x1024x8x64, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .bf16⟩
  | .hbm, ⟨14, _⟩ => ⟨S8x1024x2x64, .f32⟩
  | .hbm, ⟨15, _⟩ => ⟨S8x1024x2x1x64, .f32⟩
  | .hbm, ⟨16, _⟩ => ⟨S8x1024x2x2x64, .f32⟩
  | .hbm, ⟨17, _⟩ => ⟨S8x1024x256, .f32⟩
  | .hbm, ⟨18, _⟩ => ⟨S8x1024x256, .bf16⟩
  | .hbm, ⟨19, _⟩ => ⟨S8192x256, .bf16⟩
  | .hbm, ⟨20, _⟩ => ⟨S8x1024x2x64, .f32⟩
  | .hbm, ⟨21, _⟩ => ⟨S8x1024x2x1x64, .f32⟩
  | .hbm, ⟨22, _⟩ => ⟨S8x1024x2x2x64, .f32⟩
  | .hbm, ⟨23, _⟩ => ⟨S8x1024x256, .f32⟩
  | .hbm, ⟨24, _⟩ => ⟨S8x1024x256, .bf16⟩
  | .hbm, ⟨25, _⟩ => ⟨S8192x256, .bf16⟩
  | .hbm, ⟨26, _⟩ => ⟨S8x256x2x64, .f32⟩
  | .hbm, ⟨27, _⟩ => ⟨S8x256x2x1x64, .f32⟩
  | .hbm, ⟨28, _⟩ => ⟨S8x256x2x2x64, .f32⟩
  | .hbm, ⟨29, _⟩ => ⟨S8x256x256, .f32⟩
  | .hbm, ⟨30, _⟩ => ⟨S8x256x256, .bf16⟩
  | .hbm, ⟨31, _⟩ => ⟨S8x256x2x64, .f32⟩
  | .hbm, ⟨32, _⟩ => ⟨S8x256x2x1x64, .f32⟩
  | .hbm, ⟨33, _⟩ => ⟨S8x256x2x2x64, .f32⟩
  | .hbm, ⟨34, _⟩ => ⟨S8x256x256, .f32⟩
  | .hbm, ⟨35, _⟩ => ⟨S8x256x256, .bf16⟩
  | .hbm, ⟨36, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S512x512, .bf16⟩
  | .local _ .vmem, ⟨11, _⟩ => ⟨S512x512, .bf16⟩
  | _, _ => ⟨S8x8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GqaRefIdeal.lean ====
abbrev S8x8x1024x64 : Shape := ⟨4, ![8, 8, 1024, 64]⟩
abbrev S8x2x1024x64 : Shape := ⟨4, ![8, 2, 1024, 64]⟩
abbrev S8x2x256x64 : Shape := ⟨4, ![8, 2, 256, 64]⟩
abbrev S8x2x1280x64 : Shape := ⟨4, ![8, 2, 1280, 64]⟩
abbrev S8x2x4x1024x64 : Shape := ⟨5, ![8, 2, 4, 1024, 64]⟩
abbrev S8x2x4x1024x1280 : Shape := ⟨5, ![8, 2, 4, 1024, 1280]⟩
abbrev S_ : Shape := ⟨0, ![]⟩
abbrev S8x2x4x1024 : Shape := ⟨4, ![8, 2, 4, 1024]⟩
abbrev S8x2x4x1024x1 : Shape := ⟨5, ![8, 2, 4, 1024, 1]⟩
abbrev S8x1024x8x64 : Shape := ⟨4, ![8, 1024, 8, 64]⟩
abbrev S8192x512 : Shape := ⟨2, ![8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S8x8x1024x64, .f32⟩
  | .hbm, ⟨1, _⟩ => ⟨S8x2x1024x64, .f32⟩
  | .hbm, ⟨2, _⟩ => ⟨S8x2x1024x64, .f32⟩
  | .hbm, ⟨3, _⟩ => ⟨S8x2x256x64, .f32⟩
  | .hbm, ⟨4, _⟩ => ⟨S8x2x256x64, .f32⟩
  | .hbm, ⟨5, _⟩ => ⟨S8x2x1280x64, .f32⟩
  | .hbm, ⟨6, _⟩ => ⟨S8x2x1280x64, .f32⟩
  | .hbm, ⟨7, _⟩ => ⟨S8x2x4x1024x64, .f32⟩
  | .hbm, ⟨8, _⟩ => ⟨S8x2x4x1024x1280, .f32⟩
  | .hbm, ⟨9, _⟩ => ⟨S_, .f32⟩
  | .hbm, ⟨10, _⟩ => ⟨S8x2x4x1024x1280, .f32⟩
  | .hbm, ⟨11, _⟩ => ⟨S8x2x4x1024x1280, .f32⟩
  | .hbm, ⟨12, _⟩ => ⟨S_, .f32⟩
  | .hbm, ⟨13, _⟩ => ⟨S8x2x4x1024, .f32⟩
  | .hbm, ⟨14, _⟩ => ⟨S_, .f32⟩
  | .hbm, ⟨15, _⟩ => ⟨S8x2x4x1024, .f32⟩
  | .hbm, ⟨16, _⟩ => ⟨S8x2x4x1024, .f32⟩
  | .hbm, ⟨17, _⟩ => ⟨S8x2x4x1024x1, .f32⟩
  | .hbm, ⟨18, _⟩ => ⟨S8x2x4x1024x1280, .f32⟩
  | .hbm, ⟨19, _⟩ => ⟨S8x2x4x1024x1280, .f32⟩
  | .hbm, ⟨20, _⟩ => ⟨S8x2x4x1024x1280, .f32⟩
  | .hbm, ⟨21, _⟩ => ⟨S_, .f32⟩
  | .hbm, ⟨22, _⟩ => ⟨S8x2x4x1024, .f32⟩
  | .hbm, ⟨23, _⟩ => ⟨S8x2x4x1024x1, .f32⟩
  | .hbm, ⟨24, _⟩ => ⟨S8x2x4x1024x1280, .f32⟩
  | .hbm, ⟨25, _⟩ => ⟨S8x2x4x1024x1280, .f32⟩
  | .hbm, ⟨26, _⟩ => ⟨S8x2x4x1024x64, .f32⟩
  | .hbm, ⟨27, _⟩ => ⟨S8x8x1024x64, .f32⟩
  | .hbm, ⟨28, _⟩ => ⟨S8x1024x8x64, .f32⟩
  | .hbm, ⟨29, _⟩ => ⟨S8192x512, .f32⟩
  | .hbm, ⟨30, _⟩ => ⟨S8192x512, .bf16⟩
  | _, _ => ⟨S8x8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Ffn.lean ====
abbrev S32x256x1024 : Shape := ⟨3, ![32, 256, 1024]⟩
abbrev S1x6144 : Shape := ⟨2, ![1, 6144]⟩
abbrev S1024x1024 : Shape := ⟨2, ![1024, 1024]⟩
abbrev S2x1024 : Shape := ⟨2, ![2, 1024]⟩
abbrev S1024 : Shape := ⟨1, ![1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1x6144 : Shape := ⟨3, ![1, 1, 6144]⟩
abbrev S_ : Shape := ⟨0, ![]⟩
abbrev S2x16x6144 : Shape := ⟨3, ![2, 16, 6144]⟩
abbrev S2x16x6x1x1024 : Shape := ⟨5, ![2, 16, 6, 1, 1024]⟩
abbrev S8192x1024 : Shape := ⟨2, ![8192, 1024]⟩
abbrev S1x1024 : Shape := ⟨2, ![1, 1024]⟩
abbrev S2x1x5632 : Shape := ⟨3, ![2, 1, 5632]⟩
abbrev S1x1x1x1x1024 : Shape := ⟨5, ![1, 1, 1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x3x256 : Shape := ⟨3, ![1, 3, 256]⟩
abbrev S3x256 : Shape := ⟨2, ![3, 256]⟩
abbrev S8x256 : Shape := ⟨2, ![8, 256]⟩
abbrev S248x256 : Shape := ⟨2, ![248, 256]⟩
abbrev S1x256 : Shape := ⟨2, ![1, 256]⟩
abbrev S1x1x256 : Shape := ⟨3, ![1, 1, 256]⟩
abbrev S512x2816 : Shape := ⟨2, ![512, 2816]⟩
abbrev S2816x1024 : Shape := ⟨2, ![2816, 1024]⟩

abbrev nBuf : Space → Nat
  | .hbm => 27
  | .vmem => 19
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S1x6144, .f32⟩
  | .hbm, ⟨3, _⟩ => ⟨S1024x1024, .f32⟩
  | .hbm, ⟨4, _⟩ => ⟨S2x1024, .f32⟩
  | .hbm, ⟨5, _⟩ => ⟨S1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S1x1x6144, .f32⟩
  | .hbm, ⟨11, _⟩ => ⟨S_, .i32⟩
  | .hbm, ⟨12, _⟩ => ⟨S_, .f32⟩
  | .hbm, ⟨13, _⟩ => ⟨S2x16x6144, .f32⟩
  | .hbm, ⟨14, _⟩ => ⟨S2x16x6x1x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S1024x1024, .bf16⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S2x1024x5632, .bf16⟩
  | .hbm, ⟨23, _⟩ => ⟨S2x1x5632, .f32⟩
  | .hbm, ⟨24, _⟩ => ⟨S2x2816x1024, .bf16⟩
  | .hbm, ⟨25, _⟩ => ⟨S1x1024, .f32⟩
  | .hbm, ⟨26, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1x1024, .f32⟩
  | .local _ .vmem, ⟨3, _⟩ => ⟨S1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x5632, .bf16⟩
  | .local _ .vmem, ⟨11, _⟩ => ⟨S1x3x5632, .f32⟩
  | .local _ .vmem, ⟨12, _⟩ => ⟨S1x1x5632, .f32⟩
  | .local _ .vmem, ⟨13, _⟩ => ⟨S1x2816x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x2816, .bf16⟩
  | .local _ .vmem, ⟨18, _⟩ => ⟨S1024x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c1_i32 : BitVec 32 := 1#32
  let c0_i32 : BitVec 32 := 0#32
  let c2_i32 : BitVec 32 := 2#32
  let c0_i32_0 : BitVec 32 := 0#32
  let c0_i32_1 : BitVec 32 := 0#32
  let c0_i32_2 : BitVec 32 := 0#32
  ![c1_i32.toNat, c0_i32.toNat, c2_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c1_i32 : BitVec 32 := 1#32
  let c0_i32 : BitVec 32 := 0#32
  let c4_i32 : BitVec 32 := 4#32
  let c0_i32_0 : BitVec 32 := 0#32
  let c0_i32_1 : BitVec 32 := 0#32
  let c0_i32_2 : BitVec 32 := 0#32
  ![c1_i32.toNat, c0_i32.toNat, c4_i32.toNat, c0_i32_0.toNat, c0_i32_1.toNat]

def cc0_transform_4 (i : grid0.Coords) : Fin 5 → Nat :=
  let arg0 : BitVec 32 := BitVec.ofNat 32 (i 0).val
  let c1_i32 : BitVec 32 := 1#32
  let c0_i32 : BitVec 32 := 0#32
  let c3_i32 : BitVec 32 := 3#32
  let c0_i32_0 : BitVec 32 := 0#32
  let c0_i32_1 : BitVec 32 := 0#32
  let c0_i32_2 : BitVec 32 := 0#32
  ![c1_i32.toNat, c0_i32.toNat, c3_i32.toNat, c0_i32_0.toNat, c0_i32_1.toNat]

def cc0_transform_5 (i : grid0.Coords) : Fin 5 → Nat :=
  let arg0 : BitVec 32 := BitVec.ofNat 32 (i 0).val
  let c1_i32 : BitVec 32 := 1#32
  let c0_i32 : BitVec 32 := 0#32
  let c5_i32 : BitVec 32 := 5#32
  let c0_i32_0 : BitVec 32 := 0#32
  let c0_i32_1 : BitVec 32 := 0#32
  let c0_i32_2 : BitVec 32 := 0#32
  ![c1_i32.toNat, c0_i32.toNat, c5_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnRefIdeal.lean ====
abbrev S32x256x1024 : Shape := ⟨3, ![32, 256, 1024]⟩
abbrev S1x6144 : Shape := ⟨2, ![1, 6144]⟩
abbrev S1024x1024 : Shape := ⟨2, ![1024, 1024]⟩
abbrev S2x1024 : Shape := ⟨2, ![2, 1024]⟩
abbrev S1024 : Shape := ⟨1, ![1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1x6144 : Shape := ⟨3, ![1, 1, 6144]⟩
abbrev S1x1x1024 : Shape := ⟨3, ![1, 1, 1024]⟩
abbrev S1x1024 : Shape := ⟨2, ![1, 1024]⟩
abbrev S_ : Shape := ⟨0, ![]⟩
abbrev S32x256 : Shape := ⟨2, ![32, 256]⟩
abbrev S32x256x1 : Shape := ⟨3, ![32, 256, 1]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S32x256x5632 : Shape := ⟨3, ![32, 256, 5632]⟩
abbrev S32x258x5632 : Shape := ⟨3, ![32, 258, 5632]⟩
abbrev S1x1x5632 : Shape := ⟨3, ![1, 1, 5632]⟩
abbrev S32x256x2816 : Shape := ⟨3, ![32, 256, 2816]⟩
abbrev S8192x1024 : Shape := ⟨2, ![8192, 1024]⟩

abbrev nBuf : Space → Nat
  | .hbm => 114
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S1x6144, .f32⟩
  | .hbm, ⟨3, _⟩ => ⟨S1024x1024, .f32⟩
  | .hbm, ⟨4, _⟩ => ⟨S2x1024, .f32⟩
  | .hbm, ⟨5, _⟩ => ⟨S1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S1x1x6144, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S32x256x1024, .f32⟩
  | .hbm, ⟨20, _⟩ => ⟨S32x256x1024, .f32⟩
  | .hbm, ⟨21, _⟩ => ⟨S1x1024, .f32⟩
  | .hbm, ⟨22, _⟩ => ⟨S1024, .f32⟩
  | .hbm, ⟨23, _⟩ => ⟨S32x256x1024, .f32⟩
  | .hbm, ⟨24, _⟩ => ⟨S_, .f32⟩
  | .hbm, ⟨25, _⟩ => ⟨S32x256, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S_, .f32⟩
  | .hbm, ⟨31, _⟩ => ⟨S32x256x1, .f32⟩
  | .hbm, ⟨32, _⟩ => ⟨S32x256x1, .f32⟩
  | .hbm, ⟨33, _⟩ => ⟨S32x256x1, .f32⟩
  | .hbm, ⟨34, _⟩ => ⟨S32x256x1024, .f32⟩
  | .hbm, ⟨35, _⟩ => ⟨S32x256x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S32x256x1024, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S1x1024x5632, .f32⟩
  | .hbm, ⟨47, _⟩ => ⟨S1024x5632, .f32⟩
  | .hbm, ⟨48, _⟩ => ⟨S1x3x5632, .f32⟩
  | .hbm, ⟨49, _⟩ => ⟨S3x5632, .f32⟩
  | .hbm, ⟨50, _⟩ => ⟨S1x5632, .f32⟩
  | .hbm, ⟨51, _⟩ => ⟨S5632, .f32⟩
  | .hbm, ⟨52, _⟩ => ⟨S1x2816x1024, .f32⟩
  | .hbm, ⟨53, _⟩ => ⟨S2816x1024, .f32⟩
  | .hbm, ⟨54, _⟩ => ⟨S32x256x5632, .f32⟩
  | .hbm, ⟨55, _⟩ => ⟨S_, .i32⟩
  | .hbm, ⟨56, _⟩ => ⟨S_, .f32⟩
  | .hbm, ⟨57, _⟩ => ⟨S32x258x5632, .f32⟩
  | .hbm, ⟨58, _⟩ => ⟨S32x256x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S32x256x5632, .f32⟩
  | .hbm, ⟨63, _⟩ => ⟨S32x256x5632, .f32⟩
  | .hbm, ⟨64, _⟩ => ⟨S32x256x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S32x256x5632, .f32⟩
  | .hbm, ⟨69, _⟩ => ⟨S32x256x5632, .f32⟩
  | .hbm, ⟨70, _⟩ => ⟨S32x256x5632, .f32⟩
  | .hbm, ⟨71, _⟩ => ⟨S32x256x5632, .f32⟩
  | .hbm, ⟨72, _⟩ => ⟨S1x5632, .f32⟩
  | .hbm, ⟨73, _⟩ => ⟨S5632, .f32⟩
  | .hbm, ⟨74, _⟩ => ⟨S1x1x5632, .f32⟩
  | .hbm, ⟨75, _⟩ => ⟨S32x256x5632, .f32⟩
  | .hbm, ⟨76, _⟩ => ⟨S32x256x5632, .f32⟩
  | .hbm, ⟨77, _⟩ => ⟨S32x256x5632, .f32⟩
  | .hbm, ⟨78, _⟩ => ⟨S1x1x5632, .f32⟩
  | .hbm, ⟨79, _⟩ => ⟨S32x256x5632, .f32⟩
  | .hbm, ⟨80, _⟩ => ⟨S32x256x5632, .f32⟩
  | .hbm, ⟨81, _⟩ => ⟨S32x256x2816, .f32⟩
  | .hbm, ⟨82, _⟩ => ⟨S32x256x2816, .f32⟩
  | .hbm, ⟨83, _⟩ => ⟨S32x256x2816, .f32⟩
  | .hbm, ⟨84, _⟩ => ⟨S32x256x2816, .f32⟩
  | .hbm, ⟨85, _⟩ => ⟨S_, .f32⟩
  | .hbm, ⟨86, _⟩ => ⟨S32x256x2816, .f32⟩
  | .hbm, ⟨87, _⟩ => ⟨S32x256x2816, .f32⟩
  | .hbm, ⟨88, _⟩ => ⟨S_, .f32⟩
  | .hbm, ⟨89, _⟩ => ⟨S32x256x2816, .f32⟩
  | .hbm, ⟨90, _⟩ => ⟨S32x256x2816, .f32⟩
  | .hbm, ⟨91, _⟩ => ⟨S32x256x2816, .f32⟩
  | .hbm, ⟨92, _⟩ => ⟨S32x256x2816, .f32⟩
  | .hbm, ⟨93, _⟩ => ⟨S32x256x1024, .f32⟩
  | .hbm, ⟨94, _⟩ => ⟨S32x256x1024, .f32⟩
  | .hbm, ⟨95, _⟩ => ⟨S32x256x1024, .f32⟩
  | .hbm, ⟨96, _⟩ => ⟨S32x256x1024, .f32⟩
  | .hbm, ⟨97, _⟩ => ⟨S32x256x1024, .f32⟩
  | .hbm, ⟨98, _⟩ => ⟨S_, .f32⟩
  | .hbm, ⟨99, _⟩ => ⟨S32x256, .f32⟩
  | .hbm, ⟨100, _⟩ => ⟨S32x256x1, .f32⟩
  | .hbm, ⟨101, _⟩ => ⟨S_, .f32⟩
  | .hbm, ⟨102, _⟩ => ⟨S32x256x1, .f32⟩
  | .hbm, ⟨103, _⟩ => ⟨S32x256x1, .f32⟩
  | .hbm, ⟨104, _⟩ => ⟨S_, .f32⟩
  | .hbm, ⟨105, _⟩ => ⟨S32x256x1, .f32⟩
  | .hbm, ⟨106, _⟩ => ⟨S32x256x1, .f32⟩
  | .hbm, ⟨107, _⟩ => ⟨S32x256x1, .f32⟩
  | .hbm, ⟨108, _⟩ => ⟨S32x256x1024, .f32⟩
  | .hbm, ⟨109, _⟩ => ⟨S32x256x1024, .f32⟩
  | .hbm, ⟨110, _⟩ => ⟨S1x1x1024, .f32⟩
  | .hbm, ⟨111, _⟩ => ⟨S32x256x1024, .f32⟩
  | .hbm, ⟨112, _⟩ => ⟨S32x256x1024, .f32⟩
  | .hbm, ⟨113, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_3 : Ref sig .tc := ⟨.hbm, 98, rfl⟩
abbrev main_v74 : Ref sig .tc := ⟨.hbm, 99, rfl⟩
abbrev main_v75 : Ref sig .tc := ⟨.hbm, 100, rfl⟩
abbrev main_cst_4 : Ref sig .tc := ⟨.hbm, 101, rfl⟩
abbrev main_v76 : Ref sig .tc := ⟨.hbm, 102, rfl⟩
abbrev main_v77 : Ref sig .tc := ⟨.hbm, 103, rfl⟩
abbrev main_cst_5 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]
-- ==== FfnLat.lean ====
abbrev S8x1024x1024 : Shape := ⟨3, ![8, 1024, 1024]⟩
abbrev S8x6144 : Shape := ⟨2, ![8, 6144]⟩
abbrev S1024x1024 : Shape := ⟨2, ![1024, 1024]⟩
abbrev S2x1024 : Shape := ⟨2, ![2, 1024]⟩
abbrev S1024 : Shape := ⟨1, ![1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x8x6144 : Shape := ⟨3, ![1, 8, 6144]⟩
abbrev S_ : Shape := ⟨0, ![]⟩
abbrev S2x16x6144 : Shape := ⟨3, ![2, 16, 6144]⟩
abbrev S2x16x6x1x1024 : Shape := ⟨5, ![2, 16, 6, 1, 1024]⟩
abbrev S8192x1024 : Shape := ⟨2, ![8192, 1024]⟩
abbrev S1x1024 : Shape := ⟨2, ![1, 1024]⟩
abbrev S2x1x5632 : Shape := ⟨3, ![2, 1, 5632]⟩
abbrev S1x1x1x1x1024 : Shape := ⟨5, ![1, 1, 1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x3x256 : Shape := ⟨3, ![1, 3, 256]⟩
abbrev S3x256 : Shape := ⟨2, ![3, 256]⟩
abbrev S8x256 : Shape := ⟨2, ![8, 256]⟩
abbrev S1016x256 : Shape := ⟨2, ![1016, 256]⟩
abbrev S1x256 : Shape := ⟨2, ![1, 256]⟩
abbrev S1x1x256 : Shape := ⟨3, ![1, 1, 256]⟩
abbrev S512x2816 : Shape := ⟨2, ![512, 2816]⟩
abbrev S2816x1024 : Shape := ⟨2, ![2816, 1024]⟩

abbrev nBuf : Space → Nat
  | .hbm => 27
  | .vmem => 23
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x6144, .f32⟩
  | .hbm, ⟨3, _⟩ => ⟨S1024x1024, .f32⟩
  | .hbm, ⟨4, _⟩ => ⟨S2x1024, .f32⟩
  | .hbm, ⟨5, _⟩ => ⟨S1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S1x8x6144, .f32⟩
  | .hbm, ⟨11, _⟩ => ⟨S_, .i32⟩
  | .hbm, ⟨12, _⟩ => ⟨S_, .f32⟩
  | .hbm, ⟨13, _⟩ => ⟨S2x16x6144, .f32⟩
  | .hbm, ⟨14, _⟩ => ⟨S2x16x6x1x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S1024x1024, .bf16⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S2x1024x5632, .bf16⟩
  | .hbm, ⟨23, _⟩ => ⟨S2x1x5632, .f32⟩
  | .hbm, ⟨24, _⟩ => ⟨S2x2816x1024, .bf16⟩
  | .hbm, ⟨25, _⟩ => ⟨S1x1024, .f32⟩
  | .hbm, ⟨26, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024x5632, .bf16⟩
  | .local _ .vmem, ⟨15, _⟩ => ⟨S1x3x5632, .f32⟩
  | .local _ .vmem, ⟨16, _⟩ => ⟨S1x1x5632, .f32⟩
  | .local _ .vmem, ⟨17, _⟩ => ⟨S1x2816x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1024x2816, .bf16⟩
  | .local _ .vmem, ⟨22, _⟩ => ⟨S1024x1024, .bf16⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi c1_i32_5 v17
  let c1_i32_6 : BitVec 32 := 1#32
  let c2_i32 : BitVec 32 := 2#32
  let c0_i32_7 : BitVec 32 := 0#32
  let c0_i32_8 : BitVec 32 := 0#32
  let c0_i32_9 : BitVec 32 := 0#32
  ![c1_i32_6.toNat, v18.toNat, c2_i32.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi c1_i32_5 v17
  let c1_i32_6 : BitVec 32 := 1#32
  let c4_i32 : BitVec 32 := 4#32
  let c0_i32_7 : BitVec 32 := 0#32
  let c0_i32_8 : BitVec 32 := 0#32
  let c0_i32_9 : BitVec 32 := 0#32
  ![c1_i32_6.toNat, v18.toNat, c4_i32.toNat, c0_i32_7.toNat, c0_i32_8.toNat]

def cc0_transform_4 (i : grid0.Coords) : Fin 5 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi c1_i32_5 v17
  let c1_i32_6 : BitVec 32 := 1#32
  let c3_i32 : BitVec 32 := 3#32
  let c0_i32_7 : BitVec 32 := 0#32
  let c0_i32_8 : BitVec 32 := 0#32
  let c0_i32_9 : BitVec 32 := 0#32
  ![c1_i32_6.toNat, v18.toNat, c3_i32.toNat, c0_i32_7.toNat, c0_i32_8.toNat]

def cc0_transform_5 (i : grid0.Coords) : Fin 5 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi c1_i32_5 v17
  let c1_i32_6 : BitVec 32 := 1#32
  let c5_i32 : BitVec 32 := 5#32
  let c0_i32_7 : BitVec 32 := 0#32
  let c0_i32_8 : BitVec 32 := 0#32
  let c0_i32_9 : BitVec 32 := 0#32
  ![c1_i32_6.toNat, v18.toNat, c5_i32.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnLatRefIdeal.lean ====
abbrev S8x1024x1024 : Shape := ⟨3, ![8, 1024, 1024]⟩
abbrev S8x6144 : Shape := ⟨2, ![8, 6144]⟩
abbrev S1024x1024 : Shape := ⟨2, ![1024, 1024]⟩
abbrev S2x1024 : Shape := ⟨2, ![2, 1024]⟩
abbrev S1024 : Shape := ⟨1, ![1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S8x1x6144 : Shape := ⟨3, ![8, 1, 6144]⟩
abbrev S8x1x1024 : Shape := ⟨3, ![8, 1, 1024]⟩
abbrev S1x1024 : Shape := ⟨2, ![1, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S8x1024x5632 : Shape := ⟨3, ![8, 1024, 5632]⟩
abbrev S8x1026x5632 : Shape := ⟨3, ![8, 1026, 5632]⟩
abbrev S1x1x5632 : Shape := ⟨3, ![1, 1, 5632]⟩
abbrev S8x1024x2816 : Shape := ⟨3, ![8, 1024, 2816]⟩
abbrev S8192x1024 : Shape := ⟨2, ![8192, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x6144, .f32⟩
  | .hbm, ⟨3, _⟩ => ⟨S1024x1024, .f32⟩
  | .hbm, ⟨4, _⟩ => ⟨S2x1024, .f32⟩
  | .hbm, ⟨5, _⟩ => ⟨S1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1024x1024, .f32⟩
  | .hbm, ⟨18, _⟩ => ⟨S8x1024x1024, .f32⟩
  | .hbm, ⟨19, _⟩ => ⟨S8x1024x1024, .f32⟩
  | .hbm, ⟨20, _⟩ => ⟨S8x1024x1024, .f32⟩
  | .hbm, ⟨21, _⟩ => ⟨S1x1024, .f32⟩
  | .hbm, ⟨22, _⟩ => ⟨S1024, .f32⟩
  | .hbm, ⟨23, _⟩ => ⟨S8x1024x1024, .f32⟩
  | .hbm, ⟨24, _⟩ => ⟨S_, .f32⟩
  | .hbm, ⟨25, _⟩ => ⟨S8x1024, .f32⟩
  | .hbm, ⟨26, _⟩ => ⟨S8x1024x1, .f32⟩
  | .hbm, ⟨27, _⟩ => ⟨S_, .f32⟩
  | .hbm, ⟨28, _⟩ => ⟨S8x1024x1, .f32⟩
  | .hbm, ⟨29, _⟩ => ⟨S8x1024x1, .f32⟩
  | .hbm, ⟨30, _⟩ => ⟨S_, .f32⟩
  | .hbm, ⟨31, _⟩ => ⟨S8x1024x1, .f32⟩
  | .hbm, ⟨32, _⟩ => ⟨S8x1024x1, .f32⟩
  | .hbm, ⟨33, _⟩ => ⟨S8x1024x1, .f32⟩
  | .hbm, ⟨34, _⟩ => ⟨S8x1024x1024, .f32⟩
  | .hbm, ⟨35, _⟩ => ⟨S8x1024x1024, .f32⟩
  | .hbm, ⟨36, _⟩ => ⟨S1x1x1024, .f32⟩
  | .hbm, ⟨37, _⟩ => ⟨S8x1024x1024, .f32⟩
  | .hbm, ⟨38, _⟩ => ⟨S8x1024x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x1024x1024, .f32⟩
  | .hbm, ⟨43, _⟩ => ⟨S8x1024x1024, .f32⟩
  | .hbm, ⟨44, _⟩ => ⟨S8x1024x1024, .f32⟩
  | .hbm, ⟨45, _⟩ => ⟨S8x1024x1024, .f32⟩
  | .hbm, ⟨46, _⟩ => ⟨S1x1024x5632, .f32⟩
  | .hbm, ⟨47, _⟩ => ⟨S1024x5632, .f32⟩
  | .hbm, ⟨48, _⟩ => ⟨S1x3x5632, .f32⟩
  | .hbm, ⟨49, _⟩ => ⟨S3x5632, .f32⟩
  | .hbm, ⟨50, _⟩ => ⟨S1x5632, .f32⟩
  | .hbm, ⟨51, _⟩ => ⟨S5632, .f32⟩
  | .hbm, ⟨52, _⟩ => ⟨S1x2816x1024, .f32⟩
  | .hbm, ⟨53, _⟩ => ⟨S2816x1024, .f32⟩
  | .hbm, ⟨54, _⟩ => ⟨S8x1024x5632, .f32⟩
  | .hbm, ⟨55, _⟩ => ⟨S_, .i32⟩
  | .hbm, ⟨56, _⟩ => ⟨S_, .f32⟩
  | .hbm, ⟨57, _⟩ => ⟨S8x1026x5632, .f32⟩
  | .hbm, ⟨58, _⟩ => ⟨S8x1024x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S8x1024x5632, .f32⟩
  | .hbm, ⟨63, _⟩ => ⟨S8x1024x5632, .f32⟩
  | .hbm, ⟨64, _⟩ => ⟨S8x1024x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S8x1024x5632, .f32⟩
  | .hbm, ⟨69, _⟩ => ⟨S8x1024x5632, .f32⟩
  | .hbm, ⟨70, _⟩ => ⟨S8x1024x5632, .f32⟩
  | .hbm, ⟨71, _⟩ => ⟨S8x1024x5632, .f32⟩
  | .hbm, ⟨72, _⟩ => ⟨S1x5632, .f32⟩
  | .hbm, ⟨73, _⟩ => ⟨S5632, .f32⟩
  | .hbm, ⟨74, _⟩ => ⟨S1x1x5632, .f32⟩
  | .hbm, ⟨75, _⟩ => ⟨S8x1024x5632, .f32⟩
  | .hbm, ⟨76, _⟩ => ⟨S8x1024x5632, .f32⟩
  | .hbm, ⟨77, _⟩ => ⟨S8x1024x5632, .f32⟩
  | .hbm, ⟨78, _⟩ => ⟨S1x1x5632, .f32⟩
  | .hbm, ⟨79, _⟩ => ⟨S8x1024x5632, .f32⟩
  | .hbm, ⟨80, _⟩ => ⟨S8x1024x5632, .f32⟩
  | .hbm, ⟨81, _⟩ => ⟨S8x1024x2816, .f32⟩
  | .hbm, ⟨82, _⟩ => ⟨S8x1024x2816, .f32⟩
  | .hbm, ⟨83, _⟩ => ⟨S8x1024x2816, .f32⟩
  | .hbm, ⟨84, _⟩ => ⟨S8x1024x2816, .f32⟩
  | .hbm, ⟨85, _⟩ => ⟨S_, .f32⟩
  | .hbm, ⟨86, _⟩ => ⟨S8x1024x2816, .f32⟩
  | .hbm, ⟨87, _⟩ => ⟨S8x1024x2816, .f32⟩
  | .hbm, ⟨88, _⟩ => ⟨S_, .f32⟩
  | .hbm, ⟨89, _⟩ => ⟨S8x1024x2816, .f32⟩
  | .hbm, ⟨90, _⟩ => ⟨S8x1024x2816, .f32⟩
  | .hbm, ⟨91, _⟩ => ⟨S8x1024x2816, .f32⟩
  | .hbm, ⟨92, _⟩ => ⟨S8x1024x2816, .f32⟩
  | .hbm, ⟨93, _⟩ => ⟨S8x1024x1024, .f32⟩
  | .hbm, ⟨94, _⟩ => ⟨S8x1024x1024, .f32⟩
  | .hbm, ⟨95, _⟩ => ⟨S8x1024x1024, .f32⟩
  | .hbm, ⟨96, _⟩ => ⟨S8x1024x1024, .f32⟩
  | .hbm, ⟨97, _⟩ => ⟨S8x1024x1024, .f32⟩
  | .hbm, ⟨98, _⟩ => ⟨S_, .f32⟩
  | .hbm, ⟨99, _⟩ => ⟨S8x1024, .f32⟩
  | .hbm, ⟨100, _⟩ => ⟨S8x1024x1, .f32⟩
  | .hbm, ⟨101, _⟩ => ⟨S_, .f32⟩
  | .hbm, ⟨102, _⟩ => ⟨S8x1024x1, .f32⟩
  | .hbm, ⟨103, _⟩ => ⟨S8x1024x1, .f32⟩
  | .hbm, ⟨104, _⟩ => ⟨S_, .f32⟩
  | .hbm, ⟨105, _⟩ => ⟨S8x1024x1, .f32⟩
  | .hbm, ⟨106, _⟩ => ⟨S8x1024x1, .f32⟩
  | .hbm, ⟨107, _⟩ => ⟨S8x1024x1, .f32⟩
  | .hbm, ⟨108, _⟩ => ⟨S8x1024x1024, .f32⟩
  | .hbm, ⟨109, _⟩ => ⟨S8x1024x1024, .f32⟩
  | .hbm, ⟨110, _⟩ => ⟨S1x1x1024, .f32⟩
  | .hbm, ⟨111, _⟩ => ⟨S8x1024x1024, .f32⟩
  | .hbm, ⟨112, _⟩ => ⟨S8x1024x1024, .f32⟩
  | .hbm, ⟨113, _⟩ => ⟨S8192x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_3 : Ref sig .tc := ⟨.hbm, 98, rfl⟩
abbrev main_v74 : Ref sig .tc := ⟨.hbm, 99, rfl⟩
abbrev main_v75 : Ref sig .tc := ⟨.hbm, 100, rfl⟩
abbrev main_cst_4 : Ref sig .tc := ⟨.hbm, 101, rfl⟩
abbrev main_v76 : Ref sig .tc := ⟨.hbm, 102, rfl⟩
abbrev main_v77 : Ref sig .tc := ⟨.hbm, 103, rfl⟩
abbrev main_cst_5 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]
-- ==== Mid.lean ====
abbrev S32x256x1024 : Shape := ⟨3, ![32, 256, 1024]⟩
abbrev S32x256x512 : Shape := ⟨3, ![32, 256, 512]⟩
abbrev S1x6144 : Shape := ⟨2, ![1, 6144]⟩
abbrev S1536x1024 : Shape := ⟨2, ![1536, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1x6144 : Shape := ⟨3, ![1, 1, 6144]⟩
abbrev S_ : Shape := ⟨0, ![]⟩
abbrev S2x16x6144 : Shape := ⟨3, ![2, 16, 6144]⟩
abbrev S2x16x6x1x1024 : Shape := ⟨5, ![2, 16, 6, 1, 1024]⟩
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩
abbrev S2x1x5632 : Shape := ⟨3, ![2, 1, 5632]⟩
abbrev S1x1x1x1x1024 : Shape := ⟨5, ![1, 1, 1, 1, 1024]⟩
abbrev S1024x512 : Shape := ⟨2, ![1024, 512]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1024x2816 : Shape := ⟨2, ![1024, 2816]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x3x256 : Shape := ⟨3, ![1, 3, 256]⟩
abbrev S3x256 : Shape := ⟨2, ![3, 256]⟩
abbrev S8x256 : Shape := ⟨2, ![8, 256]⟩
abbrev S248x256 : Shape := ⟨2, ![248, 256]⟩
abbrev S1x256 : Shape := ⟨2, ![1, 256]⟩
abbrev S1x1x256 : Shape := ⟨3, ![1, 1, 256]⟩
abbrev S512x2816 : Shape := ⟨2, ![512, 2816]⟩
abbrev S2816x1024 : Shape := ⟨2, ![2816, 1024]⟩

abbrev nBuf : Space → Nat
  | .hbm => 30
  | .vmem => 21
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S32x256x512, .f32⟩
  | .hbm, ⟨3, _⟩ => ⟨S1x6144, .f32⟩
  | .hbm, ⟨4, _⟩ => ⟨S1536x1024, .f32⟩
  | .hbm, ⟨5, _⟩ => ⟨S2x1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S1x1x6144, .f32⟩
  | .hbm, ⟨11, _⟩ => ⟨S_, .i32⟩
  | .hbm, ⟨12, _⟩ => ⟨S_, .f32⟩
  | .hbm, ⟨13, _⟩ => ⟨S2x16x6144, .f32⟩
  | .hbm, ⟨14, _⟩ => ⟨S2x16x6x1x1024, .f32⟩
  | .hbm, ⟨15, _⟩ => ⟨S1536x1024, .bf16⟩
  | .hbm, ⟨16, _⟩ => ⟨S8192x1024, .f32⟩
  | .hbm, ⟨17, _⟩ => ⟨S8192x1024, .bf16⟩
  | .hbm, ⟨18, _⟩ => ⟨S8192x512, .f32⟩
  | .hbm, ⟨19, _⟩ => ⟨S8192x512, .bf16⟩
  | .hbm, ⟨20, _⟩ => ⟨S8192x1024, .f32⟩
  | .hbm, ⟨21, _⟩ => ⟨S1024x1024, .bf16⟩
  | .hbm, ⟨22, _⟩ => ⟨S512x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S2x1024x5632, .bf16⟩
  | .hbm, ⟨27, _⟩ => ⟨S2x1x5632, .f32⟩
  | .hbm, ⟨28, _⟩ => ⟨S2x2816x1024, .bf16⟩
  | .hbm, ⟨29, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1x1024, .f32⟩
  | .local _ .vmem, ⟨3, _⟩ => ⟨S1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x512, .bf16⟩
  | .local _ .vmem, ⟨10, _⟩ => ⟨S1024x512, .bf16⟩
  | .local _ .vmem, ⟨11, _⟩ => ⟨S1024x1024, .bf16⟩
  | .local _ .vmem, ⟨12, _⟩ => ⟨S512x1024, .bf16⟩
  | .local _ .vmem, ⟨13, _⟩ => ⟨S1x1024x5632, .bf16⟩
  | .local _ .vmem, ⟨14, _⟩ => ⟨S1x3x5632, .f32⟩
  | .local _ .vmem, ⟨15, _⟩ => ⟨S1x1x5632, .f32⟩
  | .local _ .vmem, ⟨16, _⟩ => ⟨S1x2816x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x2816, .bf16⟩
  | .local _ .vmem, ⟨20, _⟩ => ⟨S1024x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  let c0_i32_2 : BitVec 32 := 0#32
  let c0_i32_3 : BitVec 32 := 0#32
  ![c0_i32.toNat, c0_i32_0.toNat, c2_i32.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  let c0_i32_2 : BitVec 32 := 0#32
  let c0_i32_3 : BitVec 32 := 0#32
  ![c0_i32.toNat, c0_i32_0.toNat, c4_i32.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  let c0_i32_2 : BitVec 32 := 0#32
  let c0_i32_3 : BitVec 32 := 0#32
  ![c0_i32.toNat, c0_i32_0.toNat, c3_i32.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  let c0_i32_2 : BitVec 32 := 0#32
  let c0_i32_3 : BitVec 32 := 0#32
  ![c0_i32.toNat, c0_i32_0.toNat, c5_i32.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MidRefIdeal.lean ====
abbrev S32x256x1024 : Shape := ⟨3, ![32, 256, 1024]⟩
abbrev S32x256x512 : Shape := ⟨3, ![32, 256, 512]⟩
abbrev S1x6144 : Shape := ⟨2, ![1, 6144]⟩
abbrev S1536x1024 : Shape := ⟨2, ![1536, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1x6144 : Shape := ⟨3, ![1, 1, 6144]⟩
abbrev S1x1x1024 : Shape := ⟨3, ![1, 1, 1024]⟩
abbrev S32x256x1536 : Shape := ⟨3, ![32, 256, 1536]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S32x256x5632 : Shape := ⟨3, ![32, 256, 5632]⟩
abbrev S32x258x5632 : Shape := ⟨3, ![32, 258, 5632]⟩
abbrev S1x1x5632 : Shape := ⟨3, ![1, 1, 5632]⟩
abbrev S32x256x2816 : Shape := ⟨3, ![32, 256, 2816]⟩
abbrev S8192x1024 : Shape := ⟨2, ![8192, 1024]⟩

abbrev nBuf : Space → Nat
  | .hbm => 99
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S32x256x512, .f32⟩
  | .hbm, ⟨3, _⟩ => ⟨S1x6144, .f32⟩
  | .hbm, ⟨4, _⟩ => ⟨S1536x1024, .f32⟩
  | .hbm, ⟨5, _⟩ => ⟨S2x1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S1x1x6144, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S32x256x1536, .f32⟩
  | .hbm, ⟨18, _⟩ => ⟨S32x256x1024, .f32⟩
  | .hbm, ⟨19, _⟩ => ⟨S32x256x1024, .f32⟩
  | .hbm, ⟨20, _⟩ => ⟨S32x256x1024, .f32⟩
  | .hbm, ⟨21, _⟩ => ⟨S32x256x1024, .f32⟩
  | .hbm, ⟨22, _⟩ => ⟨S1x1024, .f32⟩
  | .hbm, ⟨23, _⟩ => ⟨S1024, .f32⟩
  | .hbm, ⟨24, _⟩ => ⟨S32x256x1024, .f32⟩
  | .hbm, ⟨25, _⟩ => ⟨S_, .f32⟩
  | .hbm, ⟨26, _⟩ => ⟨S32x256, .f32⟩
  | .hbm, ⟨27, _⟩ => ⟨S32x256x1, .f32⟩
  | .hbm, ⟨28, _⟩ => ⟨S_, .f32⟩
  | .hbm, ⟨29, _⟩ => ⟨S32x256x1, .f32⟩
  | .hbm, ⟨30, _⟩ => ⟨S32x256x1, .f32⟩
  | .hbm, ⟨31, _⟩ => ⟨S_, .f32⟩
  | .hbm, ⟨32, _⟩ => ⟨S32x256x1, .f32⟩
  | .hbm, ⟨33, _⟩ => ⟨S32x256x1, .f32⟩
  | .hbm, ⟨34, _⟩ => ⟨S32x256x1, .f32⟩
  | .hbm, ⟨35, _⟩ => ⟨S32x256x1024, .f32⟩
  | .hbm, ⟨36, _⟩ => ⟨S32x256x1024, .f32⟩
  | .hbm, ⟨37, _⟩ => ⟨S1x1x1024, .f32⟩
  | .hbm, ⟨38, _⟩ => ⟨S32x256x1024, .f32⟩
  | .hbm, ⟨39, _⟩ => ⟨S32x256x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S32x256x1024, .f32⟩
  | .hbm, ⟨47, _⟩ => ⟨S1x1024x5632, .f32⟩
  | .hbm, ⟨48, _⟩ => ⟨S1024x5632, .f32⟩
  | .hbm, ⟨49, _⟩ => ⟨S1x3x5632, .f32⟩
  | .hbm, ⟨50, _⟩ => ⟨S3x5632, .f32⟩
  | .hbm, ⟨51, _⟩ => ⟨S1x5632, .f32⟩
  | .hbm, ⟨52, _⟩ => ⟨S5632, .f32⟩
  | .hbm, ⟨53, _⟩ => ⟨S1x2816x1024, .f32⟩
  | .hbm, ⟨54, _⟩ => ⟨S2816x1024, .f32⟩
  | .hbm, ⟨55, _⟩ => ⟨S32x256x5632, .f32⟩
  | .hbm, ⟨56, _⟩ => ⟨S_, .i32⟩
  | .hbm, ⟨57, _⟩ => ⟨S_, .f32⟩
  | .hbm, ⟨58, _⟩ => ⟨S32x258x5632, .f32⟩
  | .hbm, ⟨59, _⟩ => ⟨S32x256x5632, .f32⟩
  | .hbm, ⟨60, _⟩ => ⟨S1x5632, .f32⟩
  | .hbm, ⟨61, _⟩ => ⟨S5632, .f32⟩
  | .hbm, ⟨62, _⟩ => ⟨S1x1x5632, .f32⟩
  | .hbm, ⟨63, _⟩ => ⟨S32x256x5632, .f32⟩
  | .hbm, ⟨64, _⟩ => ⟨S32x256x5632, .f32⟩
  | .hbm, ⟨65, _⟩ => ⟨S32x256x5632, .f32⟩
  | .hbm, ⟨66, _⟩ => ⟨S1x5632, .f32⟩
  | .hbm, ⟨67, _⟩ => ⟨S5632, .f32⟩
  | .hbm, ⟨68, _⟩ => ⟨S1x1x5632, .f32⟩
  | .hbm, ⟨69, _⟩ => ⟨S32x256x5632, .f32⟩
  | .hbm, ⟨70, _⟩ => ⟨S32x256x5632, .f32⟩
  | .hbm, ⟨71, _⟩ => ⟨S32x256x5632, .f32⟩
  | .hbm, ⟨72, _⟩ => ⟨S32x256x5632, .f32⟩
  | .hbm, ⟨73, _⟩ => ⟨S1x5632, .f32⟩
  | .hbm, ⟨74, _⟩ => ⟨S5632, .f32⟩
  | .hbm, ⟨75, _⟩ => ⟨S1x1x5632, .f32⟩
  | .hbm, ⟨76, _⟩ => ⟨S32x256x5632, .f32⟩
  | .hbm, ⟨77, _⟩ => ⟨S32x256x5632, .f32⟩
  | .hbm, ⟨78, _⟩ => ⟨S32x256x5632, .f32⟩
  | .hbm, ⟨79, _⟩ => ⟨S1x1x5632, .f32⟩
  | .hbm, ⟨80, _⟩ => ⟨S32x256x5632, .f32⟩
  | .hbm, ⟨81, _⟩ => ⟨S32x256x5632, .f32⟩
  | .hbm, ⟨82, _⟩ => ⟨S32x256x2816, .f32⟩
  | .hbm, ⟨83, _⟩ => ⟨S32x256x2816, .f32⟩
  | .hbm, ⟨84, _⟩ => ⟨S32x256x2816, .f32⟩
  | .hbm, ⟨85, _⟩ => ⟨S32x256x2816, .f32⟩
  | .hbm, ⟨86, _⟩ => ⟨S_, .f32⟩
  | .hbm, ⟨87, _⟩ => ⟨S32x256x2816, .f32⟩
  | .hbm, ⟨88, _⟩ => ⟨S32x256x2816, .f32⟩
  | .hbm, ⟨89, _⟩ => ⟨S_, .f32⟩
  | .hbm, ⟨90, _⟩ => ⟨S32x256x2816, .f32⟩
  | .hbm, ⟨91, _⟩ => ⟨S32x256x2816, .f32⟩
  | .hbm, ⟨92, _⟩ => ⟨S32x256x2816, .f32⟩
  | .hbm, ⟨93, _⟩ => ⟨S32x256x2816, .f32⟩
  | .hbm, ⟨94, _⟩ => ⟨S32x256x1024, .f32⟩
  | .hbm, ⟨95, _⟩ => ⟨S32x256x1024, .f32⟩
  | .hbm, ⟨96, _⟩ => ⟨S32x256x1024, .f32⟩
  | .hbm, ⟨97, _⟩ => ⟨S32x256x1024, .f32⟩
  | .hbm, ⟨98, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== MidLat.lean ====
abbrev S8x1024x1024 : Shape := ⟨3, ![8, 1024, 1024]⟩
abbrev S8x1024x512 : Shape := ⟨3, ![8, 1024, 512]⟩
abbrev S8x6144 : Shape := ⟨2, ![8, 6144]⟩
abbrev S1536x1024 : Shape := ⟨2, ![1536, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x8x6144 : Shape := ⟨3, ![1, 8, 6144]⟩
abbrev S_ : Shape := ⟨0, ![]⟩
abbrev S2x16x6144 : Shape := ⟨3, ![2, 16, 6144]⟩
abbrev S2x16x6x1x1024 : Shape := ⟨5, ![2, 16, 6, 1, 1024]⟩
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩
abbrev S2x1x5632 : Shape := ⟨3, ![2, 1, 5632]⟩
abbrev S1x1x1x1x1024 : Shape := ⟨5, ![1, 1, 1, 1, 1024]⟩
abbrev S1024x512 : Shape := ⟨2, ![1024, 512]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1024x2816 : Shape := ⟨2, ![1024, 2816]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S1x3x256 : Shape := ⟨3, ![1, 3, 256]⟩
abbrev S3x256 : Shape := ⟨2, ![3, 256]⟩
abbrev S8x256 : Shape := ⟨2, ![8, 256]⟩
abbrev S1016x256 : Shape := ⟨2, ![1016, 256]⟩
abbrev S1x256 : Shape := ⟨2, ![1, 256]⟩
abbrev S1x1x256 : Shape := ⟨3, ![1, 1, 256]⟩
abbrev S512x2816 : Shape := ⟨2, ![512, 2816]⟩
abbrev S2816x1024 : Shape := ⟨2, ![2816, 1024]⟩

abbrev nBuf : Space → Nat
  | .hbm => 30
  | .vmem => 25
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x512, .f32⟩
  | .hbm, ⟨3, _⟩ => ⟨S8x6144, .f32⟩
  | .hbm, ⟨4, _⟩ => ⟨S1536x1024, .f32⟩
  | .hbm, ⟨5, _⟩ => ⟨S2x1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S1x8x6144, .f32⟩
  | .hbm, ⟨11, _⟩ => ⟨S_, .i32⟩
  | .hbm, ⟨12, _⟩ => ⟨S_, .f32⟩
  | .hbm, ⟨13, _⟩ => ⟨S2x16x6144, .f32⟩
  | .hbm, ⟨14, _⟩ => ⟨S2x16x6x1x1024, .f32⟩
  | .hbm, ⟨15, _⟩ => ⟨S1536x1024, .bf16⟩
  | .hbm, ⟨16, _⟩ => ⟨S8192x1024, .f32⟩
  | .hbm, ⟨17, _⟩ => ⟨S8192x1024, .bf16⟩
  | .hbm, ⟨18, _⟩ => ⟨S8192x512, .f32⟩
  | .hbm, ⟨19, _⟩ => ⟨S8192x512, .bf16⟩
  | .hbm, ⟨20, _⟩ => ⟨S8192x1024, .f32⟩
  | .hbm, ⟨21, _⟩ => ⟨S1024x1024, .bf16⟩
  | .hbm, ⟨22, _⟩ => ⟨S512x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S2x1024x5632, .bf16⟩
  | .hbm, ⟨27, _⟩ => ⟨S2x1x5632, .f32⟩
  | .hbm, ⟨28, _⟩ => ⟨S2x2816x1024, .bf16⟩
  | .hbm, ⟨29, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x512, .bf16⟩
  | .local _ .vmem, ⟨14, _⟩ => ⟨S1024x512, .bf16⟩
  | .local _ .vmem, ⟨15, _⟩ => ⟨S1024x1024, .bf16⟩
  | .local _ .vmem, ⟨16, _⟩ => ⟨S512x1024, .bf16⟩
  | .local _ .vmem, ⟨17, _⟩ => ⟨S1x1024x5632, .bf16⟩
  | .local _ .vmem, ⟨18, _⟩ => ⟨S1x3x5632, .f32⟩
  | .local _ .vmem, ⟨19, _⟩ => ⟨S1x1x5632, .f32⟩
  | .local _ .vmem, ⟨20, _⟩ => ⟨S1x2816x1024, .bf16⟩
  | .local _ .vmem, ⟨21, _⟩ => ⟨S1024x1024, .f32⟩
  | .local _ .vmem, ⟨22, _⟩ => ⟨S1024x1024, .f32⟩
  | .local _ .vmem, ⟨23, _⟩ => ⟨S1024x2816, .bf16⟩
  | .local _ .vmem, ⟨24, _⟩ => ⟨S1024x1024, .bf16⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi c1_i32_5 v17
  let c0_i32_6 : BitVec 32 := 0#32
  let c2_i32 : BitVec 32 := 2#32
  let c0_i32_7 : BitVec 32 := 0#32
  let c0_i32_8 : BitVec 32 := 0#32
  let c0_i32_9 : BitVec 32 := 0#32
  ![c0_i32_6.toNat, v18.toNat, c2_i32.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi c1_i32_5 v17
  let c0_i32_6 : BitVec 32 := 0#32
  let c4_i32 : BitVec 32 := 4#32
  let c0_i32_7 : BitVec 32 := 0#32
  let c0_i32_8 : BitVec 32 := 0#32
  let c0_i32_9 : BitVec 32 := 0#32
  ![c0_i32_6.toNat, v18.toNat, c4_i32.toNat, c0_i32_7.toNat, c0_i32_8.toNat]

def cc0_transform_4 (i : grid0.Coords) : Fin 5 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi c1_i32_5 v17
  let c0_i32_6 : BitVec 32 := 0#32
  let c3_i32 : BitVec 32 := 3#32
  let c0_i32_7 : BitVec 32 := 0#32
  let c0_i32_8 : BitVec 32 := 0#32
  let c0_i32_9 : BitVec 32 := 0#32
  ![c0_i32_6.toNat, v18.toNat, c3_i32.toNat, c0_i32_7.toNat, c0_i32_8.toNat]

def cc0_transform_5 (i : grid0.Coords) : Fin 5 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi c1_i32_5 v17
  let c0_i32_6 : BitVec 32 := 0#32
  let c5_i32 : BitVec 32 := 5#32
  let c0_i32_7 : BitVec 32 := 0#32
  let c0_i32_8 : BitVec 32 := 0#32
  let c0_i32_9 : BitVec 32 := 0#32
  ![c0_i32_6.toNat, v18.toNat, c5_i32.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MidLatRefIdeal.lean ====
abbrev S8x1024x1024 : Shape := ⟨3, ![8, 1024, 1024]⟩
abbrev S8x1024x512 : Shape := ⟨3, ![8, 1024, 512]⟩
abbrev S8x6144 : Shape := ⟨2, ![8, 6144]⟩
abbrev S1536x1024 : Shape := ⟨2, ![1536, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S8x1x6144 : Shape := ⟨3, ![8, 1, 6144]⟩
abbrev S8x1x1024 : Shape := ⟨3, ![8, 1, 1024]⟩
abbrev S8x1024x1536 : Shape := ⟨3, ![8, 1024, 1536]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S8x1024x5632 : Shape := ⟨3, ![8, 1024, 5632]⟩
abbrev S8x1026x5632 : Shape := ⟨3, ![8, 1026, 5632]⟩
abbrev S1x1x5632 : Shape := ⟨3, ![1, 1, 5632]⟩
abbrev S8x1024x2816 : Shape := ⟨3, ![8, 1024, 2816]⟩
abbrev S8192x1024 : Shape := ⟨2, ![8192, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x512, .f32⟩
  | .hbm, ⟨3, _⟩ => ⟨S8x6144, .f32⟩
  | .hbm, ⟨4, _⟩ => ⟨S1536x1024, .f32⟩
  | .hbm, ⟨5, _⟩ => ⟨S2x1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1024x1536, .f32⟩
  | .hbm, ⟨18, _⟩ => ⟨S8x1024x1024, .f32⟩
  | .hbm, ⟨19, _⟩ => ⟨S8x1024x1024, .f32⟩
  | .hbm, ⟨20, _⟩ => ⟨S8x1024x1024, .f32⟩
  | .hbm, ⟨21, _⟩ => ⟨S8x1024x1024, .f32⟩
  | .hbm, ⟨22, _⟩ => ⟨S1x1024, .f32⟩
  | .hbm, ⟨23, _⟩ => ⟨S1024, .f32⟩
  | .hbm, ⟨24, _⟩ => ⟨S8x1024x1024, .f32⟩
  | .hbm, ⟨25, _⟩ => ⟨S_, .f32⟩
  | .hbm, ⟨26, _⟩ => ⟨S8x1024, .f32⟩
  | .hbm, ⟨27, _⟩ => ⟨S8x1024x1, .f32⟩
  | .hbm, ⟨28, _⟩ => ⟨S_, .f32⟩
  | .hbm, ⟨29, _⟩ => ⟨S8x1024x1, .f32⟩
  | .hbm, ⟨30, _⟩ => ⟨S8x1024x1, .f32⟩
  | .hbm, ⟨31, _⟩ => ⟨S_, .f32⟩
  | .hbm, ⟨32, _⟩ => ⟨S8x1024x1, .f32⟩
  | .hbm, ⟨33, _⟩ => ⟨S8x1024x1, .f32⟩
  | .hbm, ⟨34, _⟩ => ⟨S8x1024x1, .f32⟩
  | .hbm, ⟨35, _⟩ => ⟨S8x1024x1024, .f32⟩
  | .hbm, ⟨36, _⟩ => ⟨S8x1024x1024, .f32⟩
  | .hbm, ⟨37, _⟩ => ⟨S1x1x1024, .f32⟩
  | .hbm, ⟨38, _⟩ => ⟨S8x1024x1024, .f32⟩
  | .hbm, ⟨39, _⟩ => ⟨S8x1024x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x1024x1024, .f32⟩
  | .hbm, ⟨44, _⟩ => ⟨S8x1024x1024, .f32⟩
  | .hbm, ⟨45, _⟩ => ⟨S8x1024x1024, .f32⟩
  | .hbm, ⟨46, _⟩ => ⟨S8x1024x1024, .f32⟩
  | .hbm, ⟨47, _⟩ => ⟨S1x1024x5632, .f32⟩
  | .hbm, ⟨48, _⟩ => ⟨S1024x5632, .f32⟩
  | .hbm, ⟨49, _⟩ => ⟨S1x3x5632, .f32⟩
  | .hbm, ⟨50, _⟩ => ⟨S3x5632, .f32⟩
  | .hbm, ⟨51, _⟩ => ⟨S1x5632, .f32⟩
  | .hbm, ⟨52, _⟩ => ⟨S5632, .f32⟩
  | .hbm, ⟨53, _⟩ => ⟨S1x2816x1024, .f32⟩
  | .hbm, ⟨54, _⟩ => ⟨S2816x1024, .f32⟩
  | .hbm, ⟨55, _⟩ => ⟨S8x1024x5632, .f32⟩
  | .hbm, ⟨56, _⟩ => ⟨S_, .i32⟩
  | .hbm, ⟨57, _⟩ => ⟨S_, .f32⟩
  | .hbm, ⟨58, _⟩ => ⟨S8x1026x5632, .f32⟩
  | .hbm, ⟨59, _⟩ => ⟨S8x1024x5632, .f32⟩
  | .hbm, ⟨60, _⟩ => ⟨S1x5632, .f32⟩
  | .hbm, ⟨61, _⟩ => ⟨S5632, .f32⟩
  | .hbm, ⟨62, _⟩ => ⟨S1x1x5632, .f32⟩
  | .hbm, ⟨63, _⟩ => ⟨S8x1024x5632, .f32⟩
  | .hbm, ⟨64, _⟩ => ⟨S8x1024x5632, .f32⟩
  | .hbm, ⟨65, _⟩ => ⟨S8x1024x5632, .f32⟩
  | .hbm, ⟨66, _⟩ => ⟨S1x5632, .f32⟩
  | .hbm, ⟨67, _⟩ => ⟨S5632, .f32⟩
  | .hbm, ⟨68, _⟩ => ⟨S1x1x5632, .f32⟩
  | .hbm, ⟨69, _⟩ => ⟨S8x1024x5632, .f32⟩
  | .hbm, ⟨70, _⟩ => ⟨S8x1024x5632, .f32⟩
  | .hbm, ⟨71, _⟩ => ⟨S8x1024x5632, .f32⟩
  | .hbm, ⟨72, _⟩ => ⟨S8x1024x5632, .f32⟩
  | .hbm, ⟨73, _⟩ => ⟨S1x5632, .f32⟩
  | .hbm, ⟨74, _⟩ => ⟨S5632, .f32⟩
  | .hbm, ⟨75, _⟩ => ⟨S1x1x5632, .f32⟩
  | .hbm, ⟨76, _⟩ => ⟨S8x1024x5632, .f32⟩
  | .hbm, ⟨77, _⟩ => ⟨S8x1024x5632, .f32⟩
  | .hbm, ⟨78, _⟩ => ⟨S8x1024x5632, .f32⟩
  | .hbm, ⟨79, _⟩ => ⟨S1x1x5632, .f32⟩
  | .hbm, ⟨80, _⟩ => ⟨S8x1024x5632, .f32⟩
  | .hbm, ⟨81, _⟩ => ⟨S8x1024x5632, .f32⟩
  | .hbm, ⟨82, _⟩ => ⟨S8x1024x2816, .f32⟩
  | .hbm, ⟨83, _⟩ => ⟨S8x1024x2816, .f32⟩
  | .hbm, ⟨84, _⟩ => ⟨S8x1024x2816, .f32⟩
  | .hbm, ⟨85, _⟩ => ⟨S8x1024x2816, .f32⟩
  | .hbm, ⟨86, _⟩ => ⟨S_, .f32⟩
  | .hbm, ⟨87, _⟩ => ⟨S8x1024x2816, .f32⟩
  | .hbm, ⟨88, _⟩ => ⟨S8x1024x2816, .f32⟩
  | .hbm, ⟨89, _⟩ => ⟨S_, .f32⟩
  | .hbm, ⟨90, _⟩ => ⟨S8x1024x2816, .f32⟩
  | .hbm, ⟨91, _⟩ => ⟨S8x1024x2816, .f32⟩
  | .hbm, ⟨92, _⟩ => ⟨S8x1024x2816, .f32⟩
  | .hbm, ⟨93, _⟩ => ⟨S8x1024x2816, .f32⟩
  | .hbm, ⟨94, _⟩ => ⟨S8x1024x1024, .f32⟩
  | .hbm, ⟨95, _⟩ => ⟨S8x1024x1024, .f32⟩
  | .hbm, ⟨96, _⟩ => ⟨S8x1024x1024, .f32⟩
  | .hbm, ⟨97, _⟩ => ⟨S8x1024x1024, .f32⟩
  | .hbm, ⟨98, _⟩ => ⟨S8192x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Odd.lean ====
abbrev S32x256x1024 : Shape := ⟨3, ![32, 256, 1024]⟩
abbrev S1x6144 : Shape := ⟨2, ![1, 6144]⟩
abbrev S2x1024 : Shape := ⟨2, ![2, 1024]⟩
abbrev S1024x3072 : Shape := ⟨2, ![1024, 3072]⟩
abbrev S1x1x6144 : Shape := ⟨3, ![1, 1, 6144]⟩
abbrev S_ : Shape := ⟨0, ![]⟩
abbrev S2x16x6144 : Shape := ⟨3, ![2, 16, 6144]⟩
abbrev S2x16x6x1x1024 : Shape := ⟨5, ![2, 16, 6, 1, 1024]⟩
abbrev S8192x1024 : Shape := ⟨2, ![8192, 1024]⟩
abbrev S1x1024 : Shape := ⟨2, ![1, 1024]⟩
abbrev S1024 : Shape := ⟨1, ![1024]⟩
abbrev S32x1x16x64x256 : Shape := ⟨5, ![32, 1, 16, 64, 256]⟩
abbrev S512x1024 : Shape := ⟨2, ![512, 1024]⟩
abbrev S1x1x1x1x1024 : Shape := ⟨5, ![1, 1, 1, 1, 1024]⟩
abbrev S2x1x16x64x256 : Shape := ⟨5, ![2, 1, 16, 64, 256]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S256x128 : Shape := ⟨2, ![256, 128]⟩
abbrev S128x256 : Shape := ⟨2, ![128, 256]⟩
abbrev S64x256 : Shape := ⟨2, ![64, 256]⟩
abbrev S1x1x1x64x256 : Shape := ⟨5, ![1, 1, 1, 64, 256]⟩
abbrev S32x1x16x256x64 : Shape := ⟨5, ![32, 1, 16, 256, 64]⟩

abbrev nBuf : Space → Nat
  | .hbm => 21
  | .vmem => 16
  | .smem => 0
  | _ => 0

abbrev bufTy : (tb : Table) → Fin (tcTables nBuf tb) → BufTy
  | .hbm, ⟨0, _⟩ => ⟨S32x256x1024, .f32⟩
  | .hbm, ⟨1, _⟩ => ⟨S1x6144, .f32⟩
  | .hbm, ⟨2, _⟩ => ⟨S2x1024, .f32⟩
  | .hbm, ⟨3, _⟩ => ⟨S1024x3072, .f32⟩
  | .hbm, ⟨4, _⟩ => ⟨S1x1x6144, .f32⟩
  | .hbm, ⟨5, _⟩ => ⟨S_, .i32⟩
  | .hbm, ⟨6, _⟩ => ⟨S_, .f32⟩
  | .hbm, ⟨7, _⟩ => ⟨S2x16x6144, .f32⟩
  | .hbm, ⟨8, _⟩ => ⟨S2x16x6x1x1024, .f32⟩
  | .hbm, ⟨9, _⟩ => ⟨S8192x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024x3072, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S32x1x16x64x256, .f32⟩
  | .hbm, ⟨18, _⟩ => ⟨S32x1x16x64x256, .f32⟩
  | .hbm, ⟨19, _⟩ => ⟨S32x1x16x256x64, .f32⟩
  | .hbm, ⟨20, _⟩ => ⟨S32x1x16x256x64, .f32⟩
  | .local _ .vmem, ⟨0, _⟩ => ⟨S512x1024, .f32⟩
  | .local _ .vmem, ⟨1, _⟩ => ⟨S512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1024, .f32⟩
  | .local _ .vmem, ⟨5, _⟩ => ⟨S1024x3072, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S2x1x16x64x256, .f32⟩
  | .local _ .vmem, ⟨13, _⟩ => ⟨S2x1x16x64x256, .f32⟩
  | .local _ .vmem, ⟨14, _⟩ => ⟨S2x1x16x64x256, .f32⟩
  | .local _ .vmem, ⟨15, _⟩ => ⟨S2x1x16x64x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_2 (i : grid0.Coords) : Fin 5 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  let c0_i32_2 : BitVec 32 := 0#32
  let c0_i32_3 : BitVec 32 := 0#32
  ![c1_i32.toNat, c0_i32.toNat, c1_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x16x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x16x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddIdeal.lean ====
variable {F : FTy → Type} [FloatOps F] [Named F]
def κ : String → Option EReal := fun
  | "q_scale" => some ((8⁻¹ * (Real.log 2)⁻¹ : ℝ) : EReal)
  | _ => none
-- ==== OddRefIdeal.lean ====
abbrev S32x256x1024 : Shape := ⟨3, ![32, 256, 1024]⟩
abbrev S1x6144 : Shape := ⟨2, ![1, 6144]⟩
abbrev S2x1024 : Shape := ⟨2, ![2, 1024]⟩
abbrev S1024x3072 : Shape := ⟨2, ![1024, 3072]⟩
abbrev S1x1x6144 : Shape := ⟨3, ![1, 1, 6144]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S32x256x3072 : Shape := ⟨3, ![32, 256, 3072]⟩
abbrev S8192x1024 : Shape := ⟨2, ![8192, 1024]⟩
abbrev S32x256x16x64 : Shape := ⟨4, ![32, 256, 16, 64]⟩
abbrev S32x16x256x64 : Shape := ⟨4, ![32, 16, 256, 64]⟩
abbrev S32x1x16x256x64 : Shape := ⟨5, ![32, 1, 16, 256, 64]⟩

abbrev nBuf : Space → Nat
  | .hbm => 58
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x6144, .f32⟩
  | .hbm, ⟨2, _⟩ => ⟨S2x1024, .f32⟩
  | .hbm, ⟨3, _⟩ => ⟨S1024x3072, .f32⟩
  | .hbm, ⟨4, _⟩ => ⟨S1x1x6144, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1024, .f32⟩
  | .hbm, ⟨12, _⟩ => ⟨S1024, .f32⟩
  | .hbm, ⟨13, _⟩ => ⟨S32x256x1024, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x1024, .f32⟩
  | .hbm, ⟨25, _⟩ => ⟨S32x256x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x3072, .f32⟩
  | .hbm, ⟨37, _⟩ => ⟨S32x256x1024, .f32⟩
  | .hbm, ⟨38, _⟩ => ⟨S32x256x1024, .f32⟩
  | .hbm, ⟨39, _⟩ => ⟨S32x256x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S32x256x1024, .f32⟩
  | .hbm, ⟨45, _⟩ => ⟨S32x256x1024, .f32⟩
  | .hbm, ⟨46, _⟩ => ⟨S8192x1024, .f32⟩
  | .hbm, ⟨47, _⟩ => ⟨S8192x1024, .bf16⟩
  | .hbm, ⟨48, _⟩ => ⟨S8192x1024, .f32⟩
  | .hbm, ⟨49, _⟩ => ⟨S8192x1024, .bf16⟩
  | .hbm, ⟨50, _⟩ => ⟨S8192x1024, .f32⟩
  | .hbm, ⟨51, _⟩ => ⟨S8192x1024, .bf16⟩
  | .hbm, ⟨52, _⟩ => ⟨S32x256x16x64, .f32⟩
  | .hbm, ⟨53, _⟩ => ⟨S32x16x256x64, .f32⟩
  | .hbm, ⟨54, _⟩ => ⟨S32x1x16x256x64, .f32⟩
  | .hbm, ⟨55, _⟩ => ⟨S32x256x16x64, .f32⟩
  | .hbm, ⟨56, _⟩ => ⟨S32x16x256x64, .f32⟩
  | .hbm, ⟨57, _⟩ => ⟨S32x1x16x256x64, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== OddLat.lean ====
abbrev S8x1024x1024 : Shape := ⟨3, ![8, 1024, 1024]⟩
abbrev S8x6144 : Shape := ⟨2, ![8, 6144]⟩
abbrev S2x1024 : Shape := ⟨2, ![2, 1024]⟩
abbrev S1024x3072 : Shape := ⟨2, ![1024, 3072]⟩
abbrev S1x8x6144 : Shape := ⟨3, ![1, 8, 6144]⟩
abbrev S_ : Shape := ⟨0, ![]⟩
abbrev S2x16x6144 : Shape := ⟨3, ![2, 16, 6144]⟩
abbrev S2x16x6x1x1024 : Shape := ⟨5, ![2, 16, 6, 1, 1024]⟩
abbrev S8192x1024 : Shape := ⟨2, ![8192, 1024]⟩
abbrev S1x1024 : Shape := ⟨2, ![1, 1024]⟩
abbrev S1024 : Shape := ⟨1, ![1024]⟩
abbrev S512x1024 : Shape := ⟨2, ![512, 1024]⟩
abbrev S1x1x1x1x1024 : Shape := ⟨5, ![1, 1, 1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 17
  | .vmem => 14
  | .smem => 0
  | _ => 0

abbrev bufTy : (tb : Table) → Fin (tcTables nBuf tb) → BufTy
  | .hbm, ⟨0, _⟩ => ⟨S8x1024x1024, .f32⟩
  | .hbm, ⟨1, _⟩ => ⟨S8x6144, .f32⟩
  | .hbm, ⟨2, _⟩ => ⟨S2x1024, .f32⟩
  | .hbm, ⟨3, _⟩ => ⟨S1024x3072, .f32⟩
  | .hbm, ⟨4, _⟩ => ⟨S1x8x6144, .f32⟩
  | .hbm, ⟨5, _⟩ => ⟨S_, .i32⟩
  | .hbm, ⟨6, _⟩ => ⟨S_, .f32⟩
  | .hbm, ⟨7, _⟩ => ⟨S2x16x6144, .f32⟩
  | .hbm, ⟨8, _⟩ => ⟨S2x16x6x1x1024, .f32⟩
  | .hbm, ⟨9, _⟩ => ⟨S8192x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024x3072, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024, .f32⟩
  | .local _ .vmem, ⟨7, _⟩ => ⟨S1024x3072, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c1_i32_5 : BitVec 32 := 1#32
  let c0_i32_6 : BitVec 32 := 0#32
  let c0_i32_7 : BitVec 32 := 0#32
  let c0_i32_8 : BitVec 32 := 0#32
  let c0_i32_9 : BitVec 32 := 0#32
  ![c1_i32_5.toNat, v18.toNat, c0_i32_6.toNat, c0_i32_7.toNat, c0_i32_8.toNat]

def cc0_transform_2 (i : grid0.Coords) : Fin 5 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c1_i32_5 : BitVec 32 := 1#32
  let c1_i32_6 : BitVec 32 := 1#32
  let c0_i32_7 : BitVec 32 := 0#32
  let c0_i32_8 : BitVec 32 := 0#32
  let c0_i32_9 : BitVec 32 := 0#32
  ![c1_i32_5.toNat, v18.toNat, c1_i32_6.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OddLatIdeal.lean ====
variable {F : FTy → Type} [FloatOps F] [Named F]
def κ : String → Option EReal := fun
  | "q_scale" => some ((8⁻¹ * (Real.log 2)⁻¹ : ℝ) : EReal)
  | _ => none
-- ==== OddLatRefIdeal.lean ====
abbrev S8x1024x1024 : Shape := ⟨3, ![8, 1024, 1024]⟩
abbrev S8x6144 : Shape := ⟨2, ![8, 6144]⟩
abbrev S2x1024 : Shape := ⟨2, ![2, 1024]⟩
abbrev S1024x3072 : Shape := ⟨2, ![1024, 3072]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1024x3072 : Shape := ⟨3, ![8, 1024, 3072]⟩
abbrev S8192x1024 : Shape := ⟨2, ![8192, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x6144, .f32⟩
  | .hbm, ⟨2, _⟩ => ⟨S2x1024, .f32⟩
  | .hbm, ⟨3, _⟩ => ⟨S1024x3072, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1x1024, .f32⟩
  | .hbm, ⟨12, _⟩ => ⟨S1024, .f32⟩
  | .hbm, ⟨13, _⟩ => ⟨S8x1024x1024, .f32⟩
  | .hbm, ⟨14, _⟩ => ⟨S_, .f32⟩
  | .hbm, ⟨15, _⟩ => ⟨S8x1024, .f32⟩
  | .hbm, ⟨16, _⟩ => ⟨S8x1024x1, .f32⟩
  | .hbm, ⟨17, _⟩ => ⟨S_, .f32⟩
  | .hbm, ⟨18, _⟩ => ⟨S8x1024x1, .f32⟩
  | .hbm, ⟨19, _⟩ => ⟨S8x1024x1, .f32⟩
  | .hbm, ⟨20, _⟩ => ⟨S_, .f32⟩
  | .hbm, ⟨21, _⟩ => ⟨S8x1024x1, .f32⟩
  | .hbm, ⟨22, _⟩ => ⟨S8x1024x1, .f32⟩
  | .hbm, ⟨23, _⟩ => ⟨S8x1024x1, .f32⟩
  | .hbm, ⟨24, _⟩ => ⟨S8x1024x1024, .f32⟩
  | .hbm, ⟨25, _⟩ => ⟨S8x1024x1024, .f32⟩
  | .hbm, ⟨26, _⟩ => ⟨S1x1x1024, .f32⟩
  | .hbm, ⟨27, _⟩ => ⟨S8x1024x1024, .f32⟩
  | .hbm, ⟨28, _⟩ => ⟨S8x1024x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x1024x1024, .f32⟩
  | .hbm, ⟨33, _⟩ => ⟨S8x1024x1024, .f32⟩
  | .hbm, ⟨34, _⟩ => ⟨S8x1024x1024, .f32⟩
  | .hbm, ⟨35, _⟩ => ⟨S8x1024x1024, .f32⟩
  | .hbm, ⟨36, _⟩ => ⟨S8x1024x3072, .f32⟩
  | .hbm, ⟨37, _⟩ => ⟨S8x1024x1024, .f32⟩
  | .hbm, ⟨38, _⟩ => ⟨S8x1024x1024, .f32⟩
  | .hbm, ⟨39, _⟩ => ⟨S8x1024x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8x1024x1024, .f32⟩
  | .hbm, ⟨45, _⟩ => ⟨S8x1024x1024, .f32⟩
  | .hbm, ⟨46, _⟩ => ⟨S8192x1024, .f32⟩
  | .hbm, ⟨47, _⟩ => ⟨S8192x1024, .bf16⟩
  | .hbm, ⟨48, _⟩ => ⟨S8192x1024, .f32⟩
  | .hbm, ⟨49, _⟩ => ⟨S8192x1024, .bf16⟩
  | .hbm, ⟨50, _⟩ => ⟨S8192x1024, .f32⟩
  | .hbm, ⟨51, _⟩ => ⟨S8192x1024, .bf16⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Even.lean ====
abbrev S32x256x1024 : Shape := ⟨3, ![32, 256, 1024]⟩
abbrev S1x6144 : Shape := ⟨2, ![1, 6144]⟩
abbrev S2x1024 : Shape := ⟨2, ![2, 1024]⟩
abbrev S1024x3840 : Shape := ⟨2, ![1024, 3840]⟩
abbrev S64 : Shape := ⟨1, ![64]⟩
abbrev S1x1x6144 : Shape := ⟨3, ![1, 1, 6144]⟩
abbrev S_ : Shape := ⟨0, ![]⟩
abbrev S2x16x6144 : Shape := ⟨3, ![2, 16, 6144]⟩
abbrev S2x16x6x1x1024 : Shape := ⟨5, ![2, 16, 6, 1, 1024]⟩
abbrev S8192x1024 : Shape := ⟨2, ![8192, 1024]⟩
abbrev S1x1024 : Shape := ⟨2, ![1, 1024]⟩
abbrev S1024 : Shape := ⟨1, ![1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4x8192x128 : Shape := ⟨3, ![4, 8192, 128]⟩
abbrev S4x8192x256 : Shape := ⟨3, ![4, 8192, 256]⟩
abbrev S8192x512 : Shape := ⟨2, ![8192, 512]⟩
abbrev S8192x256 : Shape := ⟨2, ![8192, 256]⟩
abbrev S32x1x2x64x256 : Shape := ⟨5, ![32, 1, 2, 64, 256]⟩
abbrev S512x1024 : Shape := ⟨2, ![512, 1024]⟩
abbrev S1x1x1x1x1024 : Shape := ⟨5, ![1, 1, 1, 1, 1024]⟩
abbrev S4x512x128 : Shape := ⟨3, ![4, 512, 128]⟩
abbrev S4x512x256 : Shape := ⟨3, ![4, 512, 256]⟩
abbrev S512x512 : Shape := ⟨2, ![512, 512]⟩
abbrev S512x256 : Shape := ⟨2, ![512, 256]⟩
abbrev S2x1x2x64x256 : Shape := ⟨5, ![2, 1, 2, 64, 256]⟩
abbrev S512 : Shape := ⟨1, ![512]⟩
abbrev S512x1 : Shape := ⟨2, ![512, 1]⟩
abbrev S512x128 : Shape := ⟨2, ![512, 128]⟩
abbrev S1024x512 : Shape := ⟨2, ![1024, 512]⟩
abbrev S1024x256 : Shape := ⟨2, ![1024, 256]⟩
abbrev S256x128 : Shape := ⟨2, ![256, 128]⟩
abbrev S128x256 : Shape := ⟨2, ![128, 256]⟩
abbrev S64x256 : Shape := ⟨2, ![64, 256]⟩
abbrev S1x1x1x64x256 : Shape := ⟨5, ![1, 1, 1, 64, 256]⟩
abbrev S1x512x128 : Shape := ⟨3, ![1, 512, 128]⟩
abbrev S1x512x256 : Shape := ⟨3, ![1, 512, 256]⟩
abbrev S32x1x2x256x64 : Shape := ⟨5, ![32, 1, 2, 256, 64]⟩

abbrev nBuf : Space → Nat
  | .hbm => 35
  | .vmem => 26
  | .smem => 0
  | _ => 0

abbrev bufTy : (tb : Table) → Fin (tcTables nBuf tb) → BufTy
  | .hbm, ⟨0, _⟩ => ⟨S32x256x1024, .f32⟩
  | .hbm, ⟨1, _⟩ => ⟨S1x6144, .f32⟩
  | .hbm, ⟨2, _⟩ => ⟨S2x1024, .f32⟩
  | .hbm, ⟨3, _⟩ => ⟨S1024x3840, .f32⟩
  | .hbm, ⟨4, _⟩ => ⟨S64, .f32⟩
  | .hbm, ⟨5, _⟩ => ⟨S64, .f32⟩
  | .hbm, ⟨6, _⟩ => ⟨S1x1x6144, .f32⟩
  | .hbm, ⟨7, _⟩ => ⟨S_, .i32⟩
  | .hbm, ⟨8, _⟩ => ⟨S_, .f32⟩
  | .hbm, ⟨9, _⟩ => ⟨S2x16x6144, .f32⟩
  | .hbm, ⟨10, _⟩ => ⟨S2x16x6x1x1024, .f32⟩
  | .hbm, ⟨11, _⟩ => ⟨S8192x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024x3840, .bf16⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S1x64, .f32⟩
  | .hbm, ⟨21, _⟩ => ⟨S2x64, .f32⟩
  | .hbm, ⟨22, _⟩ => ⟨S128, .f32⟩
  | .hbm, ⟨23, _⟩ => ⟨S1x128, .f32⟩
  | .hbm, ⟨24, _⟩ => ⟨S4x8192x128, .f32⟩
  | .hbm, ⟨25, _⟩ => ⟨S4x8192x128, .f32⟩
  | .hbm, ⟨26, _⟩ => ⟨S4x8192x256, .bf16⟩
  | .hbm, ⟨27, _⟩ => ⟨S4x8192x256, .f32⟩
  | .hbm, ⟨28, _⟩ => ⟨S8192x512, .bf16⟩
  | .hbm, ⟨29, _⟩ => ⟨S8192x256, .bf16⟩
  | .hbm, ⟨30, _⟩ => ⟨S8192x256, .bf16⟩
  | .hbm, ⟨31, _⟩ => ⟨S32x1x2x64x256, .f32⟩
  | .hbm, ⟨32, _⟩ => ⟨S32x1x2x64x256, .f32⟩
  | .hbm, ⟨33, _⟩ => ⟨S32x1x2x256x64, .f32⟩
  | .hbm, ⟨34, _⟩ => ⟨S32x1x2x256x64, .f32⟩
  | .local _ .vmem, ⟨0, _⟩ => ⟨S512x1024, .f32⟩
  | .local _ .vmem, ⟨1, _⟩ => ⟨S512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1024, .f32⟩
  | .local _ .vmem, ⟨5, _⟩ => ⟨S1024x3840, .bf16⟩
  | .local _ .vmem, ⟨6, _⟩ => ⟨S1x128, .f32⟩
  | .local _ .vmem, ⟨7, _⟩ => ⟨S1x128, .f32⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | .local _ .vmem, ⟨11, _⟩ => ⟨S4x512x128, .f32⟩
  | .local _ .vmem, ⟨12, _⟩ => ⟨S4x512x256, .bf16⟩
  | .local _ .vmem, ⟨13, _⟩ => ⟨S4x512x256, .bf16⟩
  | .local _ .vmem, ⟨14, _⟩ => ⟨S4x512x256, .f32⟩
  | .local _ .vmem, ⟨15, _⟩ => ⟨S4x512x256, .f32⟩
  | .local _ .vmem, ⟨16, _⟩ => ⟨S512x512, .bf16⟩
  | .local _ .vmem, ⟨17, _⟩ => ⟨S512x512, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S2x1x2x64x256, .f32⟩
  | .local _ .vmem, ⟨23, _⟩ => ⟨S2x1x2x64x256, .f32⟩
  | .local _ .vmem, ⟨24, _⟩ => ⟨S2x1x2x64x256, .f32⟩
  | .local _ .vmem, ⟨25, _⟩ => ⟨S2x1x2x64x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev main_v16_6 : Ref sig .tc := ⟨.hbm, 30, rfl⟩
abbrev main_v16_7 : Ref sig .tc := ⟨.hbm, 31, rfl⟩
abbrev main_v16_8 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_2 (i : grid0.Coords) : Fin 5 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![c0_i32.toNat, c0_i32_0.toNat, c1_i32.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_15 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x2x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1x2x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== EvenIdeal.lean ====
variable {F : FTy → Type} [FloatOps F] [Named F]
def κ : String → Option EReal := fun
  | "q_scale" => some ((8⁻¹ * (Real.log 2)⁻¹ : ℝ) : EReal)
  | _ => none
-- ==== EvenRefIdeal.lean ====
abbrev S32x256x1024 : Shape := ⟨3, ![32, 256, 1024]⟩
abbrev S1x6144 : Shape := ⟨2, ![1, 6144]⟩
abbrev S2x1024 : Shape := ⟨2, ![2, 1024]⟩
abbrev S1024x3840 : Shape := ⟨2, ![1024, 3840]⟩
abbrev S64 : Shape := ⟨1, ![64]⟩
abbrev S1x1x6144 : Shape := ⟨3, ![1, 1, 6144]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S32x256x3840 : Shape := ⟨3, ![32, 256, 3840]⟩
abbrev S32x256x512 : Shape := ⟨3, ![32, 256, 512]⟩
abbrev S32x256x128 : Shape := ⟨3, ![32, 256, 128]⟩
abbrev S32x256x8x64 : Shape := ⟨4, ![32, 256, 8, 64]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S8192x4x128 : Shape := ⟨3, ![8192, 4, 128]⟩
abbrev S4x8192x128 : Shape := ⟨3, ![4, 8192, 128]⟩
abbrev S8192x4x256 : Shape := ⟨3, ![8192, 4, 256]⟩
abbrev S4x8192x256 : Shape := ⟨3, ![4, 8192, 256]⟩
abbrev S8192x512 : Shape := ⟨2, ![8192, 512]⟩
abbrev S32x256x2x1x64 : Shape := ⟨5, ![32, 256, 2, 1, 64]⟩
abbrev S32x256x2x2x64 : Shape := ⟨5, ![32, 256, 2, 2, 64]⟩
abbrev S8192x256 : Shape := ⟨2, ![8192, 256]⟩
abbrev S32x2x256x64 : Shape := ⟨4, ![32, 2, 256, 64]⟩
abbrev S32x1x2x256x64 : Shape := ⟨5, ![32, 1, 2, 256, 64]⟩

abbrev nBuf : Space → Nat
  | .hbm => 124
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x6144, .f32⟩
  | .hbm, ⟨2, _⟩ => ⟨S2x1024, .f32⟩
  | .hbm, ⟨3, _⟩ => ⟨S1024x3840, .f32⟩
  | .hbm, ⟨4, _⟩ => ⟨S64, .f32⟩
  | .hbm, ⟨5, _⟩ => ⟨S64, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1024, .f32⟩
  | .hbm, ⟨14, _⟩ => ⟨S1024, .f32⟩
  | .hbm, ⟨15, _⟩ => ⟨S32x256x1024, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S32x256x1, .f32⟩
  | .hbm, ⟨26, _⟩ => ⟨S32x256x1024, .f32⟩
  | .hbm, ⟨27, _⟩ => ⟨S32x256x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x3840, .f32⟩
  | .hbm, ⟨39, _⟩ => ⟨S32x256x512, .f32⟩
  | .hbm, ⟨40, _⟩ => ⟨S32x256x512, .f32⟩
  | .hbm, ⟨41, _⟩ => ⟨S32x256x1024, .f32⟩
  | .hbm, ⟨42, _⟩ => ⟨S32x256x1024, .f32⟩
  | .hbm, ⟨43, _⟩ => ⟨S32x256x512, .f32⟩
  | .hbm, ⟨44, _⟩ => ⟨S32x256x128, .f32⟩
  | .hbm, ⟨45, _⟩ => ⟨S32x256x128, .f32⟩
  | .hbm, ⟨46, _⟩ => ⟨S_, .f32⟩
  | .hbm, ⟨47, _⟩ => ⟨S32x256x512, .f32⟩
  | .hbm, ⟨48, _⟩ => ⟨S32x256x512, .f32⟩
  | .hbm, ⟨49, _⟩ => ⟨S32x256x1024, .f32⟩
  | .hbm, ⟨50, _⟩ => ⟨S32x256x1024, .f32⟩
  | .hbm, ⟨51, _⟩ => ⟨S_, .f32⟩
  | .hbm, ⟨52, _⟩ => ⟨S32x256x1024, .f32⟩
  | .hbm, ⟨53, _⟩ => ⟨S32x256x1024, .f32⟩
  | .hbm, ⟨54, _⟩ => ⟨S_, .f32⟩
  | .hbm, ⟨55, _⟩ => ⟨S32x256x1024, .f32⟩
  | .hbm, ⟨56, _⟩ => ⟨S32x256x1024, .f32⟩
  | .hbm, ⟨57, _⟩ => ⟨S32x256x1024, .f32⟩
  | .hbm, ⟨58, _⟩ => ⟨S32x256x8x64, .f32⟩
  | .hbm, ⟨59, _⟩ => ⟨S32x256x8x64, .f32⟩
  | .hbm, ⟨60, _⟩ => ⟨S_, .f32⟩
  | .hbm, ⟨61, _⟩ => ⟨S32x256x8, .f32⟩
  | .hbm, ⟨62, _⟩ => ⟨S32x256x8x1, .f32⟩
  | .hbm, ⟨63, _⟩ => ⟨S_, .f32⟩
  | .hbm, ⟨64, _⟩ => ⟨S32x256x8x1, .f32⟩
  | .hbm, ⟨65, _⟩ => ⟨S32x256x8x1, .f32⟩
  | .hbm, ⟨66, _⟩ => ⟨S_, .f32⟩
  | .hbm, ⟨67, _⟩ => ⟨S32x256x8x1, .f32⟩
  | .hbm, ⟨68, _⟩ => ⟨S32x256x8x1, .f32⟩
  | .hbm, ⟨69, _⟩ => ⟨S32x256x8x1, .f32⟩
  | .hbm, ⟨70, _⟩ => ⟨S32x256x8x64, .f32⟩
  | .hbm, ⟨71, _⟩ => ⟨S32x256x8x64, .f32⟩
  | .hbm, ⟨72, _⟩ => ⟨S1x1x1x64, .f32⟩
  | .hbm, ⟨73, _⟩ => ⟨S32x256x8x64, .f32⟩
  | .hbm, ⟨74, _⟩ => ⟨S32x256x8x64, .f32⟩
  | .hbm, ⟨75, _⟩ => ⟨S32x256x2x64, .f32⟩
  | .hbm, ⟨76, _⟩ => ⟨S32x256x2x64, .f32⟩
  | .hbm, ⟨77, _⟩ => ⟨S_, .f32⟩
  | .hbm, ⟨78, _⟩ => ⟨S32x256x2, .f32⟩
  | .hbm, ⟨79, _⟩ => ⟨S32x256x2x1, .f32⟩
  | .hbm, ⟨80, _⟩ => ⟨S_, .f32⟩
  | .hbm, ⟨81, _⟩ => ⟨S32x256x2x1, .f32⟩
  | .hbm, ⟨82, _⟩ => ⟨S32x256x2x1, .f32⟩
  | .hbm, ⟨83, _⟩ => ⟨S_, .f32⟩
  | .hbm, ⟨84, _⟩ => ⟨S32x256x2x1, .f32⟩
  | .hbm, ⟨85, _⟩ => ⟨S32x256x2x1, .f32⟩
  | .hbm, ⟨86, _⟩ => ⟨S32x256x2x1, .f32⟩
  | .hbm, ⟨87, _⟩ => ⟨S32x256x2x64, .f32⟩
  | .hbm, ⟨88, _⟩ => ⟨S32x256x2x64, .f32⟩
  | .hbm, ⟨89, _⟩ => ⟨S1x1x1x64, .f32⟩
  | .hbm, ⟨90, _⟩ => ⟨S32x256x2x64, .f32⟩
  | .hbm, ⟨91, _⟩ => ⟨S32x256x2x64, .f32⟩
  | .hbm, ⟨92, _⟩ => ⟨S32x256x2x64, .f32⟩
  | .hbm, ⟨93, _⟩ => ⟨S8192x4x128, .f32⟩
  | .hbm, ⟨94, _⟩ => ⟨S4x8192x128, .f32⟩
  | .hbm, ⟨95, _⟩ => ⟨S8192x4x128, .f32⟩
  | .hbm, ⟨96, _⟩ => ⟨S4x8192x128, .f32⟩
  | .hbm, ⟨97, _⟩ => ⟨S8192x4x256, .f32⟩
  | .hbm, ⟨98, _⟩ => ⟨S4x8192x256, .f32⟩
  | .hbm, ⟨99, _⟩ => ⟨S4x8192x256, .bf16⟩
  | .hbm, ⟨100, _⟩ => ⟨S8192x4x256, .f32⟩
  | .hbm, ⟨101, _⟩ => ⟨S4x8192x256, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S32x256x8x64, .f32⟩
  | .hbm, ⟨107, _⟩ => ⟨S32x256x8x64, .f32⟩
  | .hbm, ⟨108, _⟩ => ⟨S8192x512, .f32⟩
  | .hbm, ⟨109, _⟩ => ⟨S8192x512, .bf16⟩
  | .hbm, ⟨110, _⟩ => ⟨S32x256x2x1x64, .f32⟩
  | .hbm, ⟨111, _⟩ => ⟨S32x256x2x1x64, .f32⟩
  | .hbm, ⟨112, _⟩ => ⟨S32x256x2x2x64, .f32⟩
  | .hbm, ⟨113, _⟩ => ⟨S8192x256, .f32⟩
  | .hbm, ⟨114, _⟩ => ⟨S8192x256, .bf16⟩
  | .hbm, ⟨115, _⟩ => ⟨S32x256x2x1x64, .f32⟩
  | .hbm, ⟨116, _⟩ => ⟨S32x256x2x1x64, .f32⟩
  | .hbm, ⟨117, _⟩ => ⟨S32x256x2x2x64, .f32⟩
  | .hbm, ⟨118, _⟩ => ⟨S8192x256, .f32⟩
  | .hbm, ⟨119, _⟩ => ⟨S8192x256, .bf16⟩
  | .hbm, ⟨120, _⟩ => ⟨S32x2x256x64, .f32⟩
  | .hbm, ⟨121, _⟩ => ⟨S32x1x2x256x64, .f32⟩
  | .hbm, ⟨122, _⟩ => ⟨S32x2x256x64, .f32⟩
  | .hbm, ⟨123, _⟩ => ⟨S32x1x2x256x64, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_10 : Ref sig .tc := ⟨.hbm, 102, rfl⟩
abbrev main_v77 : Ref sig .tc := ⟨.hbm, 103, rfl⟩
abbrev main_cst_11 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩

abbrev nD : Nat := 1
abbrev τ : Topo := Topo.v7x

variable {F : FTy → Type} [FloatOps F]
-- ==== EvenLat.lean ====
abbrev S8x1024x1024 : Shape := ⟨3, ![8, 1024, 1024]⟩
abbrev S8x6144 : Shape := ⟨2, ![8, 6144]⟩
abbrev S2x1024 : Shape := ⟨2, ![2, 1024]⟩
abbrev S1024x3840 : Shape := ⟨2, ![1024, 3840]⟩
abbrev S64 : Shape := ⟨1, ![64]⟩
abbrev S1024x16 : Shape := ⟨2, ![1024, 16]⟩
abbrev S1x8x6144 : Shape := ⟨3, ![1, 8, 6144]⟩
abbrev S_ : Shape := ⟨0, ![]⟩
abbrev S2x16x6144 : Shape := ⟨3, ![2, 16, 6144]⟩
abbrev S2x16x6x1x1024 : Shape := ⟨5, ![2, 16, 6, 1, 1024]⟩
abbrev S1024x32 : Shape := ⟨2, ![1024, 32]⟩
abbrev S1024x64 : Shape := ⟨2, ![1024, 64]⟩
abbrev S1024x128 : Shape := ⟨2, ![1024, 128]⟩
abbrev S8192x1024 : Shape := ⟨2, ![8192, 1024]⟩
abbrev S1x1024 : Shape := ⟨2, ![1, 1024]⟩
abbrev S1024 : Shape := ⟨1, ![1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4x8192x128 : Shape := ⟨3, ![4, 8192, 128]⟩
abbrev S4x8192x256 : Shape := ⟨3, ![4, 8192, 256]⟩
abbrev S8192x512 : Shape := ⟨2, ![8192, 512]⟩
abbrev S8192x256 : Shape := ⟨2, ![8192, 256]⟩
abbrev S512x1024 : Shape := ⟨2, ![512, 1024]⟩
abbrev S1x1x1x1x1024 : Shape := ⟨5, ![1, 1, 1, 1, 1024]⟩
abbrev S512x128 : Shape := ⟨2, ![512, 128]⟩
abbrev S4x512x128 : Shape := ⟨3, ![4, 512, 128]⟩
abbrev S4x512x256 : Shape := ⟨3, ![4, 512, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S1x512x128 : Shape := ⟨3, ![1, 512, 128]⟩
abbrev S1x512x256 : Shape := ⟨3, ![1, 512, 256]⟩

abbrev nBuf : Space → Nat
  | .hbm => 47
  | .vmem => 28
  | .smem => 0
  | _ => 0

abbrev bufTy : (tb : Table) → Fin (tcTables nBuf tb) → BufTy
  | .hbm, ⟨0, _⟩ => ⟨S8x1024x1024, .f32⟩
  | .hbm, ⟨1, _⟩ => ⟨S8x6144, .f32⟩
  | .hbm, ⟨2, _⟩ => ⟨S2x1024, .f32⟩
  | .hbm, ⟨3, _⟩ => ⟨S1024x3840, .f32⟩
  | .hbm, ⟨4, _⟩ => ⟨S64, .f32⟩
  | .hbm, ⟨5, _⟩ => ⟨S64, .f32⟩
  | .hbm, ⟨6, _⟩ => ⟨S1024x16, .f32⟩
  | .hbm, ⟨7, _⟩ => ⟨S1024x16, .f32⟩
  | .hbm, ⟨8, _⟩ => ⟨S1x8x6144, .f32⟩
  | .hbm, ⟨9, _⟩ => ⟨S_, .i32⟩
  | .hbm, ⟨10, _⟩ => ⟨S_, .f32⟩
  | .hbm, ⟨11, _⟩ => ⟨S2x16x6144, .f32⟩
  | .hbm, ⟨12, _⟩ => ⟨S2x16x6x1x1024, .f32⟩
  | .hbm, ⟨13, _⟩ => ⟨S1024x16, .f32⟩
  | .hbm, ⟨14, _⟩ => ⟨S1024x16, .f32⟩
  | .hbm, ⟨15, _⟩ => ⟨S1024x16, .f32⟩
  | .hbm, ⟨16, _⟩ => ⟨S1024x16, .f32⟩
  | .hbm, ⟨17, _⟩ => ⟨S1024x32, .f32⟩
  | .hbm, ⟨18, _⟩ => ⟨S1024x32, .f32⟩
  | .hbm, ⟨19, _⟩ => ⟨S1024x64, .f32⟩
  | .hbm, ⟨20, _⟩ => ⟨S1024x16, .f32⟩
  | .hbm, ⟨21, _⟩ => ⟨S1024x32, .f32⟩
  | .hbm, ⟨22, _⟩ => ⟨S1024x16, .f32⟩
  | .hbm, ⟨23, _⟩ => ⟨S1024x32, .f32⟩
  | .hbm, ⟨24, _⟩ => ⟨S1024x64, .f32⟩
  | .hbm, ⟨25, _⟩ => ⟨S1024x128, .f32⟩
  | .hbm, ⟨26, _⟩ => ⟨S1024x128, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024x3840, .bf16⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S1x128, .f32⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S4x8192x128, .f32⟩
  | .hbm, ⟨41, _⟩ => ⟨S4x8192x128, .f32⟩
  | .hbm, ⟨42, _⟩ => ⟨S4x8192x256, .bf16⟩
  | .hbm, ⟨43, _⟩ => ⟨S4x8192x256, .f32⟩
  | .hbm, ⟨44, _⟩ => ⟨S8192x512, .bf16⟩
  | .hbm, ⟨45, _⟩ => ⟨S8192x256, .bf16⟩
  | .hbm, ⟨46, _⟩ => ⟨S8192x256, .bf16⟩
  | .local _ .vmem, ⟨0, _⟩ => ⟨S512x1024, .f32⟩
  | .local _ .vmem, ⟨1, _⟩ => ⟨S512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024, .f32⟩
  | .local _ .vmem, ⟨7, _⟩ => ⟨S1024x3840, .bf16⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4x512x128, .f32⟩
  | .local _ .vmem, ⟨15, _⟩ => ⟨S4x512x128, .f32⟩
  | .local _ .vmem, ⟨16, _⟩ => ⟨S4x512x128, .f32⟩
  | .local _ .vmem, ⟨17, _⟩ => ⟨S4x512x128, .f32⟩
  | .local _ .vmem, ⟨18, _⟩ => ⟨S4x512x256, .bf16⟩
  | .local _ .vmem, ⟨19, _⟩ => ⟨S4x512x256, .bf16⟩
  | .local _ .vmem, ⟨20, _⟩ => ⟨S4x512x256, .f32⟩
  | .local _ .vmem, ⟨21, _⟩ => ⟨S4x512x256, .f32⟩
  | .local _ .vmem, ⟨22, _⟩ => ⟨S512x512, .bf16⟩
  | .local _ .vmem, ⟨23, _⟩ => ⟨S512x512, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev main_v30_4 : Ref sig .tc := ⟨.hbm, 44, rfl⟩
abbrev main_v30_5 : Ref sig .tc := ⟨.hbm, 45, rfl⟩
abbrev main_v30_6 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  let c0_i32_8 : BitVec 32 := 0#32
  let c0_i32_9 : BitVec 32 := 0#32
  ![c0_i32_5.toNat, v18.toNat, c0_i32_6.toNat, c0_i32_7.toNat, c0_i32_8.toNat]

def cc0_transform_2 (i : grid0.Coords) : Fin 5 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c1_i32_6 : BitVec 32 := 1#32
  let c0_i32_7 : BitVec 32 := 0#32
  let c0_i32_8 : BitVec 32 := 0#32
  let c0_i32_9 : BitVec 32 := 0#32
  ![c0_i32_5.toNat, v18.toNat, c1_i32_6.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== EvenLatIdeal.lean ====
variable {F : FTy → Type} [FloatOps F] [Named F]
def κ : String → Option EReal := fun
  | "q_scale" => some ((8⁻¹ * (Real.log 2)⁻¹ : ℝ) : EReal)
  | _ => none
-- ==== EvenLatRefIdeal.lean ====
abbrev S8x1024x1024 : Shape := ⟨3, ![8, 1024, 1024]⟩
abbrev S8x6144 : Shape := ⟨2, ![8, 6144]⟩
abbrev S2x1024 : Shape := ⟨2, ![2, 1024]⟩
abbrev S1024x3840 : Shape := ⟨2, ![1024, 3840]⟩
abbrev S64 : Shape := ⟨1, ![64]⟩
abbrev S1024x16 : Shape := ⟨2, ![1024, 16]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1024x3840 : Shape := ⟨3, ![8, 1024, 3840]⟩
abbrev S8x1024x512 : Shape := ⟨3, ![8, 1024, 512]⟩
abbrev S8x1024x128 : Shape := ⟨3, ![8, 1024, 128]⟩
abbrev S8x1024x8x64 : Shape := ⟨4, ![8, 1024, 8, 64]⟩
abbrev S8x1024x8 : Shape := ⟨3, ![8, 1024, 8]⟩
abbrev S8x1024x8x1 : Shape := ⟨4, ![8, 1024, 8, 1]⟩
abbrev S1x1x1x64 : Shape := ⟨4, ![1, 1, 1, 64]⟩
abbrev S8x1024x2x64 : Shape := ⟨4, ![8, 1024, 2, 64]⟩
abbrev S8x1024x2 : Shape := ⟨3, ![8, 1024, 2]⟩
abbrev S8x1024x2x1 : Shape := ⟨4, ![8, 1024, 2, 1]⟩
abbrev S8x1024x8x32 : Shape := ⟨4, ![8, 1024, 8, 32]⟩
abbrev S1024x1x16 : Shape := ⟨3, ![1024, 1, 16]⟩
abbrev S8x1024x8x16 : Shape := ⟨4, ![8, 1024, 8, 16]⟩
abbrev S1x1024x1x16 : Shape := ⟨4, ![1, 1024, 1, 16]⟩
abbrev S8x1024x2x32 : Shape := ⟨4, ![8, 1024, 2, 32]⟩
abbrev S8x1024x2x16 : Shape := ⟨4, ![8, 1024, 2, 16]⟩
abbrev S8192x4x128 : Shape := ⟨3, ![8192, 4, 128]⟩
abbrev S4x8192x128 : Shape := ⟨3, ![4, 8192, 128]⟩
abbrev S8192x4x256 : Shape := ⟨3, ![8192, 4, 256]⟩
abbrev S4x8192x256 : Shape := ⟨3, ![4, 8192, 256]⟩
abbrev S8192x512 : Shape := ⟨2, ![8192, 512]⟩
abbrev S8x1024x2x1x64 : Shape := ⟨5, ![8, 1024, 2, 1, 64]⟩
abbrev S8x1024x2x2x64 : Shape := ⟨5, ![8, 1024, 2, 2, 64]⟩
abbrev S8192x256 : Shape := ⟨2, ![8192, 256]⟩

abbrev nBuf : Space → Nat
  | .hbm => 312
  | .vmem => 0
  | .smem => 0
  | _ => 0

abbrev hbmTy0_0 (i : Nat) : BufTy := match i % 128 with
  | 0 => ⟨S8x1024x1024, .f32⟩
  | 1 => ⟨S8x6144, .f32⟩
  | 2 => ⟨S2x1024, .f32⟩
  | 3 => ⟨S1024x3840, .f32⟩
  | 4 => ⟨S64, .f32⟩
  | 5 => ⟨S64, .f32⟩
  | 6 => ⟨S1024x16, .f32⟩
  | 7 => ⟨S1024x16, .f32⟩
  | 8 => ⟨S8x1x6144, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S1x1024, .f32⟩
  | 16 => ⟨S1024, .f32⟩
  | 17 => ⟨S8x1024x1024, .f32⟩
  | 18 => ⟨S_, .f32⟩
  | 19 => ⟨S8x1024, .f32⟩
  | 20 => ⟨S8x1024x1, .f32⟩
  | 21 => ⟨S_, .f32⟩
  | 22 => ⟨S8x1024x1, .f32⟩
  | 23 => ⟨S8x1024x1, .f32⟩
  | 24 => ⟨S_, .f32⟩
  | 25 => ⟨S8x1024x1, .f32⟩
  | 26 => ⟨S8x1024x1, .f32⟩
  | 27 => ⟨S8x1024x1, .f32⟩
  | 28 => ⟨S8x1024x1024, .f32⟩
  | 29 => ⟨S8x1024x1024, .f32⟩
  | 30 => ⟨S1x1x1024, .f32⟩
  | 31 => ⟨S8x1024x1024, .f32⟩
  | 32 => ⟨S8x1024x1024, .f32⟩
  | 33 => ⟨S_, .f32⟩
  | 34 => ⟨S8x1x1024, .f32⟩
  | 35 => ⟨S8x1x1024, .f32⟩
  | 36 => ⟨S8x1024x1024, .f32⟩
  | 37 => ⟨S8x1024x1024, .f32⟩
  | 38 => ⟨S8x1024x1024, .f32⟩
  | 39 => ⟨S8x1024x1024, .f32⟩
  | 40 => ⟨S8x1024x3840, .f32⟩
  | 41 => ⟨S8x1024x512, .f32⟩
  | 42 => ⟨S8x1024x512, .f32⟩
  | 43 => ⟨S8x1024x1024, .f32⟩
  | 44 => ⟨S8x1024x1024, .f32⟩
  | 45 => ⟨S8x1024x512, .f32⟩
  | 46 => ⟨S8x1024x128, .f32⟩
  | 47 => ⟨S8x1024x128, .f32⟩
  | 48 => ⟨S_, .f32⟩
  | 49 => ⟨S8x1024x512, .f32⟩
  | 50 => ⟨S8x1024x512, .f32⟩
  | 51 => ⟨S8x1024x1024, .f32⟩
  | 52 => ⟨S8x1024x1024, .f32⟩
  | 53 => ⟨S_, .f32⟩
  | 54 => ⟨S8x1024x1024, .f32⟩
  | 55 => ⟨S8x1024x1024, .f32⟩
  | 56 => ⟨S_, .f32⟩
  | 57 => ⟨S8x1024x1024, .f32⟩
  | 58 => ⟨S8x1024x1024, .f32⟩
  | 59 => ⟨S8x1024x1024, .f32⟩
  | 60 => ⟨S8x1024x8x64, .f32⟩
  | 61 => ⟨S8x1024x8x64, .f32⟩
  | 62 => ⟨S_, .f32⟩
  | 63 => ⟨S8x1024x8, .f32⟩
  | 64 => ⟨S8x1024x8x1, .f32⟩
  | 65 => ⟨S_, .f32⟩
  | 66 => ⟨S8x1024x8x1, .f32⟩
  | 67 => ⟨S8x1024x8x1, .f32⟩
  | 68 => ⟨S_, .f32⟩
  | 69 => ⟨S8x1024x8x1, .f32⟩
  | 70 => ⟨S8x1024x8x1, .f32⟩
  | 71 => ⟨S8x1024x8x1, .f32⟩
  | 72 => ⟨S8x1024x8x64, .f32⟩
  | 73 => ⟨S8x1024x8x64, .f32⟩
  | 74 => ⟨S1x1x1x64, .f32⟩
  | 75 => ⟨S8x1024x8x64, .f32⟩
  | 76 => ⟨S8x1024x8x64, .f32⟩
  | 77 => ⟨S8x1024x2x64, .f32⟩
  | 78 => ⟨S8x1024x2x64, .f32⟩
  | 79 => ⟨S_, .f32⟩
  | 80 => ⟨S8x1024x2, .f32⟩
  | 81 => ⟨S8x1024x2x1, .f32⟩
  | 82 => ⟨S_, .f32⟩
  | 83 => ⟨S8x1024x2x1, .f32⟩
  | 84 => ⟨S8x1024x2x1, .f32⟩
  | 85 => ⟨S_, .f32⟩
  | 86 => ⟨S8x1024x2x1, .f32⟩
  | 87 => ⟨S8x1024x2x1, .f32⟩
  | 88 => ⟨S8x1024x2x1, .f32⟩
  | 89 => ⟨S8x1024x2x64, .f32⟩
  | 90 => ⟨S8x1024x2x64, .f32⟩
  | 91 => ⟨S1x1x1x64, .f32⟩
  | 92 => ⟨S8x1024x2x64, .f32⟩
  | 93 => ⟨S8x1024x2x64, .f32⟩
  | 94 => ⟨S8x1024x2x64, .f32⟩
  | 95 => ⟨S8x1024x8x64, .f32⟩
  | 96 => ⟨S8x1024x8x32, .f32⟩
  | 97 => ⟨S1024x1x16, .f32⟩
  | 98 => ⟨S8x1024x8x16, .f32⟩
  | 99 => ⟨S8x1024x8x16, .f32⟩
  | 100 => ⟨S1024x1x16, .f32⟩
  | 101 => ⟨S1x1024x1x16, .f32⟩
  | 102 => ⟨S8x1024x8x16, .f32⟩
  | 103 => ⟨S8x1024x8x16, .f32⟩
  | 104 => ⟨S1024x1x16, .f32⟩
  | 105 => ⟨S1x1024x1x16, .f32⟩
  | 106 => ⟨S8x1024x8x16, .f32⟩
  | 107 => ⟨S8x1024x8x16, .f32⟩
  | 108 => ⟨S8x1024x8x16, .f32⟩
  | 109 => ⟨S1024x1x16, .f32⟩
  | 110 => ⟨S1x1024x1x16, .f32⟩
  | 111 => ⟨S8x1024x8x16, .f32⟩
  | 112 => ⟨S8x1024x8x16, .f32⟩
  | 113 => ⟨S1024x1x16, .f32⟩
  | 114 => ⟨S1x1024x1x16, .f32⟩
  | 115 => ⟨S8x1024x8x16, .f32⟩
  | 116 => ⟨S8x1024x8x16, .f32⟩
  | 117 => ⟨S8x1024x8x16, .f32⟩
  | 118 => ⟨S8x1024x8x32, .f32⟩
  | 119 => ⟨S8x1024x8x32, .f32⟩
  | 120 => ⟨S1024x1x16, .f32⟩
  | 121 => ⟨S8x1024x8x16, .f32⟩
  | 122 => ⟨S8x1024x8x16, .f32⟩
  | 123 => ⟨S1024x1x16, .f32⟩
  | 124 => ⟨S1x1024x1x16, .f32⟩
  | 125 => ⟨S8x1024x8x16, .f32⟩
  | 126 => ⟨S8x1024x8x16, .f32⟩
  | 127 => ⟨S1024x1x16, .f32⟩
  | _ => ⟨S8x1024x1024, .f32⟩

abbrev hbmTy0_1 (i : Nat) : BufTy := match i % 128 with
  | 0 => ⟨S1x1024x1x16, .f32⟩
  | 1 => ⟨S8x1024x8x16, .f32⟩
  | 2 => ⟨S8x1024x8x16, .f32⟩
  | 3 => ⟨S8x1024x8x16, .f32⟩
  | 4 => ⟨S1024x1x16, .f32⟩
  | 5 => ⟨S1x1024x1x16, .f32⟩
  | 6 => ⟨S8x1024x8x16, .f32⟩
  | 7 => ⟨S8x1024x8x16, .f32⟩
  | 8 => ⟨S1024x1x16, .f32⟩
  | 9 => ⟨S1x1024x1x16, .f32⟩
  | 10 => ⟨S8x1024x8x16, .f32⟩
  | 11 => ⟨S8x1024x8x16, .f32⟩
  | 12 => ⟨S8x1024x8x16, .f32⟩
  | 13 => ⟨S8x1024x8x32, .f32⟩
  | 14 => ⟨S8x1024x8x64, .f32⟩
  | 15 => ⟨S8x1024x8x64, .f32⟩
  | 16 => ⟨S8x1024x8x32, .f32⟩
  | 17 => ⟨S1024x1x16, .f32⟩
  | 18 => ⟨S8x1024x8x16, .f32⟩
  | 19 => ⟨S8x1024x8x16, .f32⟩
  | 20 => ⟨S1024x1x16, .f32⟩
  | 21 => ⟨S1x1024x1x16, .f32⟩
  | 22 => ⟨S8x1024x8x16, .f32⟩
  | 23 => ⟨S8x1024x8x16, .f32⟩
  | 24 => ⟨S1024x1x16, .f32⟩
  | 25 => ⟨S1x1024x1x16, .f32⟩
  | 26 => ⟨S8x1024x8x16, .f32⟩
  | 27 => ⟨S8x1024x8x16, .f32⟩
  | 28 => ⟨S8x1024x8x16, .f32⟩
  | 29 => ⟨S1024x1x16, .f32⟩
  | 30 => ⟨S1x1024x1x16, .f32⟩
  | 31 => ⟨S8x1024x8x16, .f32⟩
  | 32 => ⟨S8x1024x8x16, .f32⟩
  | 33 => ⟨S1024x1x16, .f32⟩
  | 34 => ⟨S1x1024x1x16, .f32⟩
  | 35 => ⟨S8x1024x8x16, .f32⟩
  | 36 => ⟨S8x1024x8x16, .f32⟩
  | 37 => ⟨S8x1024x8x16, .f32⟩
  | 38 => ⟨S8x1024x8x32, .f32⟩
  | 39 => ⟨S8x1024x8x32, .f32⟩
  | 40 => ⟨S1024x1x16, .f32⟩
  | 41 => ⟨S8x1024x8x16, .f32⟩
  | 42 => ⟨S8x1024x8x16, .f32⟩
  | 43 => ⟨S1024x1x16, .f32⟩
  | 44 => ⟨S1x1024x1x16, .f32⟩
  | 45 => ⟨S8x1024x8x16, .f32⟩
  | 46 => ⟨S8x1024x8x16, .f32⟩
  | 47 => ⟨S1024x1x16, .f32⟩
  | 48 => ⟨S1x1024x1x16, .f32⟩
  | 49 => ⟨S8x1024x8x16, .f32⟩
  | 50 => ⟨S8x1024x8x16, .f32⟩
  | 51 => ⟨S8x1024x8x16, .f32⟩
  | 52 => ⟨S1024x1x16, .f32⟩
  | 53 => ⟨S1x1024x1x16, .f32⟩
  | 54 => ⟨S8x1024x8x16, .f32⟩
  | 55 => ⟨S8x1024x8x16, .f32⟩
  | 56 => ⟨S1024x1x16, .f32⟩
  | 57 => ⟨S1x1024x1x16, .f32⟩
  | 58 => ⟨S8x1024x8x16, .f32⟩
  | 59 => ⟨S8x1024x8x16, .f32⟩
  | 60 => ⟨S8x1024x8x16, .f32⟩
  | 61 => ⟨S8x1024x8x32, .f32⟩
  | 62 => ⟨S8x1024x8x64, .f32⟩
  | 63 => ⟨S8x1024x8x32, .f32⟩
  | 64 => ⟨S1024x1x16, .f32⟩
  | 65 => ⟨S8x1024x8x16, .f32⟩
  | 66 => ⟨S8x1024x8x16, .f32⟩
  | 67 => ⟨S1024x1x16, .f32⟩
  | 68 => ⟨S1x1024x1x16, .f32⟩
  | 69 => ⟨S8x1024x8x16, .f32⟩
  | 70 => ⟨S8x1024x8x16, .f32⟩
  | 71 => ⟨S1024x1x16, .f32⟩
  | 72 => ⟨S1x1024x1x16, .f32⟩
  | 73 => ⟨S8x1024x8x16, .f32⟩
  | 74 => ⟨S8x1024x8x16, .f32⟩
  | 75 => ⟨S8x1024x8x16, .f32⟩
  | 76 => ⟨S1024x1x16, .f32⟩
  | 77 => ⟨S1x1024x1x16, .f32⟩
  | 78 => ⟨S8x1024x8x16, .f32⟩
  | 79 => ⟨S8x1024x8x16, .f32⟩
  | 80 => ⟨S1024x1x16, .f32⟩
  | 81 => ⟨S1x1024x1x16, .f32⟩
  | 82 => ⟨S8x1024x8x16, .f32⟩
  | 83 => ⟨S8x1024x8x16, .f32⟩
  | 84 => ⟨S8x1024x8x16, .f32⟩
  | 85 => ⟨S8x1024x8x32, .f32⟩
  | 86 => ⟨S8x1024x8x32, .f32⟩
  | 87 => ⟨S1024x1x16, .f32⟩
  | 88 => ⟨S8x1024x8x16, .f32⟩
  | 89 => ⟨S8x1024x8x16, .f32⟩
  | 90 => ⟨S1024x1x16, .f32⟩
  | 91 => ⟨S1x1024x1x16, .f32⟩
  | 92 => ⟨S8x1024x8x16, .f32⟩
  | 93 => ⟨S8x1024x8x16, .f32⟩
  | 94 => ⟨S1024x1x16, .f32⟩
  | 95 => ⟨S1x1024x1x16, .f32⟩
  | 96 => ⟨S8x1024x8x16, .f32⟩
  | 97 => ⟨S8x1024x8x16, .f32⟩
  | 98 => ⟨S8x1024x8x16, .f32⟩
  | 99 => ⟨S1024x1x16, .f32⟩
  | 100 => ⟨S1x1024x1x16, .f32⟩
  | 101 => ⟨S8x1024x8x16, .f32⟩
  | 102 => ⟨S8x1024x8x16, .f32⟩
  | 103 => ⟨S1024x1x16, .f32⟩
  | 104 => ⟨S1x1024x1x16, .f32⟩
  | 105 => ⟨S8x1024x8x16, .f32⟩
  | 106 => ⟨S8x1024x8x16, .f32⟩
  | 107 => ⟨S8x1024x8x16, .f32⟩
  | 108 => ⟨S8x1024x8x32, .f32⟩
  | 109 => ⟨S8x1024x8x64, .f32⟩
  | 110 => ⟨S8x1024x2x32, .f32⟩
  | 111 => ⟨S1024x1x16, .f32⟩
  | 112 => ⟨S8x1024x2x16, .f32⟩
  | 113 => ⟨S8x1024x2x16, .f32⟩
  | 114 => ⟨S1024x1x16, .f32⟩
  | 115 => ⟨S1x1024x1x16, .f32⟩
  | 116 => ⟨S8x1024x2x16, .f32⟩
  | 117 => ⟨S8x1024x2x16, .f32⟩
  | 118 => ⟨S1024x1x16, .f32⟩
  | 119 => ⟨S1x1024x1x16, .f32⟩
  | 120 => ⟨S8x1024x2x16, .f32⟩
  | 121 => ⟨S8x1024x2x16, .f32⟩
  | 122 => ⟨S8x1024x2x16, .f32⟩
  | 123 => ⟨S1024x1x16, .f32⟩
  | 124 => ⟨S1x1024x1x16, .f32⟩
  | 125 => ⟨S8x1024x2x16, .f32⟩
  | 126 => ⟨S8x1024x2x16, .f32⟩
  | 127 => ⟨S1024x1x16, .f32⟩
  | _ => ⟨S8x1024x1024, .f32⟩

abbrev hbmTy0_2 (i : Nat) : BufTy := match i % 128 with
  | 0 => ⟨S1x1024x1x16, .f32⟩
  | 1 => ⟨S8x1024x2x16, .f32⟩
  | 2 => ⟨S8x1024x2x16, .f32⟩
  | 3 => ⟨S8x1024x2x16, .f32⟩
  | 4 => ⟨S8x1024x2x32, .f32⟩
  | 5 => ⟨S8x1024x2x32, .f32⟩
  | 6 => ⟨S1024x1x16, .f32⟩
  | 7 => ⟨S8x1024x2x16, .f32⟩
  | 8 => ⟨S8x1024x2x16, .f32⟩
  | 9 => ⟨S1024x1x16, .f32⟩
  | 10 => ⟨S1x1024x1x16, .f32⟩
  | 11 => ⟨S8x1024x2x16, .f32⟩
  | 12 => ⟨S8x1024x2x16, .f32⟩
  | 13 => ⟨S1024x1x16, .f32⟩
  | 14 => ⟨S1x1024x1x16, .f32⟩
  | 15 => ⟨S8x1024x2x16, .f32⟩
  | 16 => ⟨S8x1024x2x16, .f32⟩
  | 17 => ⟨S8x1024x2x16, .f32⟩
  | 18 => ⟨S1024x1x16, .f32⟩
  | 19 => ⟨S1x1024x1x16, .f32⟩
  | 20 => ⟨S8x1024x2x16, .f32⟩
  | 21 => ⟨S8x1024x2x16, .f32⟩
  | 22 => ⟨S1024x1x16, .f32⟩
  | 23 => ⟨S1x1024x1x16, .f32⟩
  | 24 => ⟨S8x1024x2x16, .f32⟩
  | 25 => ⟨S8x1024x2x16, .f32⟩
  | 26 => ⟨S8x1024x2x16, .f32⟩
  | 27 => ⟨S8x1024x2x32, .f32⟩
  | 28 => ⟨S8x1024x2x64, .f32⟩
  | 29 => ⟨S8192x4x128, .f32⟩
  | 30 => ⟨S4x8192x128, .f32⟩
  | 31 => ⟨S8192x4x128, .f32⟩
  | 32 => ⟨S4x8192x128, .f32⟩
  | 33 => ⟨S8192x4x256, .f32⟩
  | 34 => ⟨S4x8192x256, .f32⟩
  | 35 => ⟨S4x8192x256, .bf16⟩
  | 36 => ⟨S8192x4x256, .f32⟩
  | 37 => ⟨S4x8192x256, .f32⟩
  | 38 => ⟨S_, .f32⟩
  | 39 => ⟨S_, .f32⟩
  | 40 => ⟨S_, .f32⟩
  | 41 => ⟨S_, .f32⟩
  | 42 => ⟨S8x1024x8x64, .f32⟩
  | 43 => ⟨S8x1024x8x64, .f32⟩
  | 44 => ⟨S8192x512, .f32⟩
  | 45 => ⟨S8192x512, .bf16⟩
  | 46 => ⟨S8x1024x2x1x64, .f32⟩
  | 47 => ⟨S8x1024x2x1x64, .f32⟩
  | 48 => ⟨S8x1024x2x2x64, .f32⟩
  | 49 => ⟨S8192x256, .f32⟩
  | 50 => ⟨S8192x256, .bf16⟩
  | 51 => ⟨S8x1024x2x1x64, .f32⟩
  | 52 => ⟨S8x1024x2x1x64, .f32⟩
  | 53 => ⟨S8x1024x2x2x64, .f32⟩
  | 54 => ⟨S8192x256, .f32⟩
  | 55 => ⟨S8192x256, .bf16⟩
  | _ => ⟨S8x1024x1024, .f32⟩

abbrev hbmTy (i : Nat) : BufTy := match i / 128 with
  | 0 => hbmTy0_0 i
  | 1 => hbmTy0_1 i
  | 2 => hbmTy0_2 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_cst_10 : Ref sig .tc := ⟨.hbm, 294, rfl⟩
abbrev main_v267 : Ref sig .tc := ⟨.hbm, 295, rfl⟩
abbrev main_cst_11 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩

abbrev nD : Nat := 1
abbrev τ : Topo := Topo.v7x

variable {F : FTy → Type} [FloatOps F]
-- ==== Proof.Softmax.lean ====
/-
The arithmetic of one attention row over the extended reals.  The compiled kernel weighs two sources of keys by powers
of two, shifts by their joint maximum and multiplies by the reciprocal of the total at the end; the reference weighs one
joined list of keys by exponentials and divides before the value product.  Over real scores both are the same sum.
-/
module

public import Idealize.ShloMosaic.PureOps.Ideal
public import Idealize.ShloMosaic.PureOps.Ideal.Laws

@[expose] public section

noncomputable section

namespace Cert.Softmax

open Idealize.ShloMosaic

/-- The greatest of finitely many reals, at least one of them, taken from −∞, is a real. -/
theorem fold_real {ι : Type} (s : Finset ι) (hs : s.Nonempty) (f : ι → ℝ) :
    ∃ r : ℝ, s.fold max (⊥ : EReal) (fun k => (f k : EReal)) = (r : EReal) := by
  classical
  induction hs using Finset.Nonempty.cons_induction with
  | singleton a => exact ⟨f a, by simp⟩
  | cons a s ha _ ih =>
    obtain ⟨r, hr⟩ := ih
    exact ⟨max (f a) r, by rw [Finset.fold_cons, hr]; exact (EReal.coe_strictMono.monotone.map_max).symm⟩

/-- A finite sum of reals, read in the extended reals. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A non-negative real factor goes inside a finite sum of extended reals. -/
theorem coe_mul_sum {ι : Type} (s : Finset ι) (w : ℝ) (hw : 0 ≤ w) (f : ι → EReal) :
    (w : EReal) * (∑ k ∈ s, f k) = ∑ k ∈ s, (w : EReal) * f k := by
  classical
  induction s using Finset.induction_on with
  | empty => simp
  | insert a s ha ih =>
    rw [Finset.sum_insert ha, Finset.sum_insert ha,
      EReal.left_distrib_of_nonneg_of_ne_top (EReal.coe_nonneg.mpr hw) (EReal.coe_ne_top w), ih]

theorem div_coe_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

theorem exp_coe (x : ℝ) : Ideal.exp (x : EReal) = (Real.exp x : EReal) := rfl

theorem exp2_coe (x : ℝ) : Ideal.exp2 (x : EReal) = (Real.exp (x * Real.log 2) : EReal) := by
  show ((Real.rpow 2 x : ℝ) : EReal) = _
  rw [show Real.rpow 2 x = (2 : ℝ) ^ x from rfl, Real.rpow_def_of_pos (by norm_num), mul_comm]

/-- One row of the kernel's attention: scores `a1`, `a2` of the two sources of keys, in powers of two. -/
def att {n1 n2 : ℕ} (a1 : Fin n1 → EReal) (a2 : Fin n2 → EReal) (v1 : Fin n1 → EReal) (v2 : Fin n2 → EReal) : EReal :=
  ((∑ k, Ideal.exp2 (a1 k - max (Finset.univ.fold max ⊥ a1) (Finset.univ.fold max ⊥ a2)) * v1 k)
    + ∑ k, Ideal.exp2 (a2 k - max (Finset.univ.fold max ⊥ a1) (Finset.univ.fold max ⊥ a2)) * v2 k)
  * Ideal.div 1 ((∑ k, Ideal.exp2 (a1 k - max (Finset.univ.fold max ⊥ a1) (Finset.univ.fold max ⊥ a2)))
    + ∑ k, Ideal.exp2 (a2 k - max (Finset.univ.fold max ⊥ a1) (Finset.univ.fold max ⊥ a2)))

/-- One row of the reference's attention: scores `b`, exponentials, divided by their total before the value product. -/
def soft {n : ℕ} (b : Fin n → EReal) (v : Fin n → EReal) : EReal :=
  ∑ k, Ideal.div (Ideal.exp (b k - max ⊥ (Finset.univ.fold max ⊥ b)))
    (∑ l, Ideal.exp (b l - max ⊥ (Finset.univ.fold max ⊥ b))) * v k

/-- Weights of real scores do not depend on the shift. -/
theorem weight_shift {n : ℕ} (t : Fin n → ℝ) (u : ℝ) (k : Fin n) :
    Real.exp (t k - u) / (∑ l, Real.exp (t l - u)) = Real.exp (t k) / ∑ l, Real.exp (t l) := by
  simp only [Real.exp_sub, ← Finset.sum_div]
  exact div_div_div_cancel_right₀ (Real.exp_ne_zero u) _ _

theorem total_pos {n : ℕ} [NeZero n] (t : Fin n → ℝ) : 0 < ∑ l, Real.exp (t l) :=
  Finset.sum_pos (fun l _ => Real.exp_pos _) ⟨0, Finset.mem_univ _⟩

/-- The reference's row at real scores. -/
theorem soft_real {n : ℕ} [NeZero n] (t : Fin n → ℝ) (v : Fin n → EReal) :
    soft (fun k => (t k : EReal)) v = ∑ k, ((Real.exp (t k) / ∑ l, Real.exp (t l) : ℝ) : EReal) * v k := by
  obtain ⟨u, hu⟩ := fold_real (Finset.univ : Finset (Fin n)) ⟨0, Finset.mem_univ _⟩ t
  unfold soft
  rw [hu, max_eq_right bot_le]
  refine Finset.sum_congr rfl fun k _ => ?_
  simp only [← EReal.coe_sub, exp_coe, ← coe_sum]
  rw [div_coe_coe _ _ (total_pos fun l => t l - u).ne', weight_shift]

/-- The kernel's row at real scores, the two sources joined. -/
theorem att_real {n1 n2 : ℕ} [NeZero n1] [NeZero n2] (t : Fin (n1 + n2) → ℝ) (v : Fin (n1 + n2) → EReal) :
    att (fun k : Fin n1 => ((t (Fin.castAdd n2 k) / Real.log 2 : ℝ) : EReal))
        (fun k : Fin n2 => ((t (Fin.natAdd n1 k) / Real.log 2 : ℝ) : EReal))
        (fun k => v (Fin.castAdd n2 k)) (fun k => v (Fin.natAdd n1 k))
      = ∑ k, ((Real.exp (t k) / ∑ l, Real.exp (t l) : ℝ) : EReal) * v k := by
  obtain ⟨u1, h1⟩ := fold_real (Finset.univ : Finset (Fin n1)) ⟨0, Finset.mem_univ _⟩
    (fun k => t (Fin.castAdd n2 k) / Real.log 2)
  obtain ⟨u2, h2⟩ := fold_real (Finset.univ : Finset (Fin n2)) ⟨0, Finset.mem_univ _⟩
    (fun k => t (Fin.natAdd n1 k) / Real.log 2)
  have hlog : Real.log 2 ≠ 0 := (Real.log_pos (by norm_num)).ne'
  have e : ∀ x u : ℝ, Ideal.exp2 (((x / Real.log 2 : ℝ) : EReal) - (u : EReal))
      = ((Real.exp (x - u * Real.log 2) : ℝ) : EReal) := by
    intro x u
    rw [← EReal.coe_sub, exp2_coe]
    congr 2
    field_simp
  have hm : max ((u1 : ℝ) : EReal) ((u2 : ℝ) : EReal) = ((max u1 u2 : ℝ) : EReal) :=
    (EReal.coe_strictMono.monotone.map_max).symm
  haveI : NeZero (n1 + n2) := ⟨by have := NeZero.ne n1; omega⟩
  unfold att
  rw [h1, h2, hm]
  generalize max u1 u2 = u
  simp only [e]
  have hs : ∀ f : Fin (n1 + n2) → EReal, (∑ k : Fin n1, f (Fin.castAdd n2 k)) + ∑ k : Fin n2, f (Fin.natAdd n1 k)
      = ∑ k, f k := fun f => (Fin.sum_univ_add f).symm
  rw [hs (fun k => ((Real.exp (t k - u * Real.log 2) : ℝ) : EReal) * v k),
    hs (fun k => ((Real.exp (t k - u * Real.log 2) : ℝ) : EReal)), ← coe_sum, ← EReal.coe_one,
    div_coe_coe _ _ (total_pos fun l => t l - u * Real.log 2).ne', mul_comm,
    coe_mul_sum _ _ (by exact (one_div_pos.mpr (total_pos fun l => t l - u * Real.log 2)).le)]
  refine Finset.sum_congr rfl fun k _ => ?_
  rw [← mul_assoc, ← EReal.coe_mul, one_div_mul_eq_div, weight_shift]

/-- The two rows agree at real scores: the reference's scores `t`, the kernel's `t / log 2`. -/
theorem att_eq_soft {n1 n2 : ℕ} [NeZero n1] [NeZero n2] (t : Fin (n1 + n2) → ℝ) (v : Fin (n1 + n2) → EReal)
    (a1 : Fin n1 → EReal) (a2 : Fin n2 → EReal) (v1 : Fin n1 → EReal) (v2 : Fin n2 → EReal) (b : Fin (n1 + n2) → EReal)
    (ha1 : ∀ k, a1 k = ((t (Fin.castAdd n2 k) / Real.log 2 : ℝ) : EReal))
    (ha2 : ∀ k, a2 k = ((t (Fin.natAdd n1 k) / Real.log 2 : ℝ) : EReal))
    (hv1 : ∀ k, v1 k = v (Fin.castAdd n2 k)) (hv2 : ∀ k, v2 k = v (Fin.natAdd n1 k))
    (hb : ∀ k, b k = (t k : EReal)) :
    att a1 a2 v1 v2 = soft b v := by
  haveI : NeZero (n1 + n2) := ⟨by have := NeZero.ne n1; omega⟩
  obtain rfl := funext ha1
  obtain rfl := funext ha2
  obtain rfl := funext hv1
  obtain rfl := funext hv2
  obtain rfl := funext hb
  rw [att_real, soft_real]

end Cert.Softmax

end
-- ==== Proof.GqaHeads.lean ====
/-
The named values of the kernel's body, read at an index: the scores of a head of a pair (the other head's lanes of the
key block are zeroed, so that the product over the pair's 128 lanes is the head's own over its 64), the head's attention
row, and the stored block of a pair of heads.
-/
module

public import proofs.«01_k».proof.Proof.Gen.GqaIdeal.Skeleton
public import proofs.«01_k».proof.Proof.Softmax
public import Idealize.ShloMosaic.Lib.Pointwise

@[expose] public section

set_option maxRecDepth 16384

noncomputable section

open Idealize.ShloMosaic Idealize.ShloMosaic.TcCoe Idealize.SL.Sem
open Cert.Softmax

namespace Cert.GqaIdeal.Heads

open Cert.GqaIdeal Cert.GqaIdeal.Gen

/-- The mask of a pair's first head holds on its 64 lanes and not on the other's. -/
theorem mask_lo : ∀ d : Fin 64, IntOp.cmpi CmpIPredicate.slt (BitVec.ofNat 32 d.val) 64#32 = 1#1 := by decide
theorem mask_hi : ∀ d : Fin 64, IntOp.cmpi CmpIPredicate.slt (BitVec.ofNat 32 (64 + d.val)) 64#32 = 0#1 := by decide

theorem sum_first (A : Fin 128 → EReal) :
    (∑ x : Fin 128, Scalar.select (IntOp.cmpi CmpIPredicate.slt (BitVec.ofNat 32 x.val) 64#32) (A x) 0)
      = ∑ d : Fin 64, A ⟨d.val, by omega⟩ := by
  have h := Fin.sum_univ_add (M := EReal) (a := 64) (b := 64)
    (fun x : Fin 128 => Scalar.select (IntOp.cmpi CmpIPredicate.slt (BitVec.ofNat 32 x.val) 64#32) (A x) 0)
  refine h.trans ?_
  rw [← add_zero (∑ d : Fin 64, A ⟨d.val, by omega⟩)]
  refine congrArg₂ (· + ·) (Finset.sum_congr rfl fun d _ => ?_) (Finset.sum_eq_zero fun d _ => ?_)
  · show Scalar.select (IntOp.cmpi CmpIPredicate.slt (BitVec.ofNat 32 d.val) 64#32) _ _ = _
    rw [mask_lo]; rfl
  · show Scalar.select (IntOp.cmpi CmpIPredicate.slt (BitVec.ofNat 32 (64 + d.val)) 64#32) _ _ = _
    rw [mask_hi]; rfl

theorem sum_second (A : Fin 128 → EReal) :
    (∑ x : Fin 128, Scalar.select (IntOp.xori (IntOp.cmpi CmpIPredicate.slt (BitVec.ofNat 32 x.val) 64#32) 1#1) (A x) 0)
      = ∑ d : Fin 64, A ⟨64 + d.val, by omega⟩ := by
  have h := Fin.sum_univ_add (M := EReal) (a := 64) (b := 64)
    (fun x : Fin 128 => Scalar.select (IntOp.xori (IntOp.cmpi CmpIPredicate.slt (BitVec.ofNat 32 x.val) 64#32) 1#1) (A x) 0)
  refine h.trans ?_
  rw [← zero_add (∑ d : Fin 64, A ⟨64 + d.val, by omega⟩)]
  refine congrArg₂ (· + ·) (Finset.sum_eq_zero fun d _ => ?_) (Finset.sum_congr rfl fun d _ => ?_)
  · show Scalar.select (IntOp.xori (IntOp.cmpi CmpIPredicate.slt (BitVec.ofNat 32 d.val) 64#32) 1#1) _ _ = _
    rw [mask_lo]; rfl
  · show Scalar.select (IntOp.xori (IntOp.cmpi CmpIPredicate.slt (BitVec.ofNat 32 (64 + d.val)) 64#32) 1#1) _ _ = _
    rw [mask_hi]; rfl

/-- Row `r` of the two stacked query blocks of a key/value group. -/
def stack (v0 v2 : FVec Ideal S512x128 .bf16) (r : Fin 1024) (x : Fin 128) : EReal :=
  if h : r.val < 512 then v0 (ix2 ⟨r.val, h⟩ x) else v2 (ix2 ⟨r.val - 512, by omega⟩ x)

/-- The word of −∞ that starts a maximum. -/
theorem neg_inf : Ideal.ofBits .f32 0xFF800000#32 = (⊥ : EReal) := by
  simp [Ideal.ofBits, Ideal.ieee]

/-! ## Scores -/

theorem pay5_at (v0 v2 : FVec Ideal S512x128 .bf16) (v5 : FVec Ideal S1024x128 .bf16) (r k : Fin 1024) :
    k0_pay5 (F := Ideal) v0 v2 v5 (ix2 r k)
      = ∑ d : Fin 64, stack v0 v2 r ⟨d.val, by omega⟩ * v5 (ix2 k ⟨d.val, by omega⟩) := by
  pointwise [k0_pay5, k0_pay4]
  exact sum_first fun x => stack v0 v2 r x * v5 (ix2 k x)

theorem pay13_at (v0 v2 : FVec Ideal S512x128 .bf16) (v5 : FVec Ideal S1024x128 .bf16) (r k : Fin 1024) :
    k0_pay13 (F := Ideal) v0 v2 v5 (ix2 r k)
      = ∑ d : Fin 64, stack v0 v2 r ⟨d.val, by omega⟩ * v5 (ix2 k ⟨d.val, by omega⟩) := by
  pointwise [k0_pay13, k0_pay12]
  exact sum_first fun x => stack v0 v2 r x * v5 (ix2 k x)

theorem pay6_at (v0 v2 : FVec Ideal S512x128 .bf16) (v5 : FVec Ideal S1x256x128 .bf16) (r : Fin 1024) (k : Fin 256) :
    k0_pay6 (F := Ideal) v0 v2 v5 (ix2 r k)
      = ∑ d : Fin 64, stack v0 v2 r ⟨d.val, by omega⟩ * v5 (ix3 0 k ⟨d.val, by omega⟩) := by
  pointwise [k0_pay6, k0_pay4]
  exact sum_first fun x => stack v0 v2 r x * v5 (ix3 0 k x)

theorem pay14_at (v0 v2 : FVec Ideal S512x128 .bf16) (v5 : FVec Ideal S1x256x128 .bf16) (r : Fin 1024) (k : Fin 256) :
    k0_pay14 (F := Ideal) v0 v2 v5 (ix2 r k)
      = ∑ d : Fin 64, stack v0 v2 r ⟨d.val, by omega⟩ * v5 (ix3 0 k ⟨d.val, by omega⟩) := by
  pointwise [k0_pay14, k0_pay12]
  exact sum_first fun x => stack v0 v2 r x * v5 (ix3 0 k x)

theorem pay9_at (v0 v2 : FVec Ideal S512x128 .bf16) (v5 : FVec Ideal S1024x128 .bf16) (r k : Fin 1024) :
    k0_pay9 (F := Ideal) (k0_pay7 v0 v2) (k0_pay8 v5) (ix2 r k)
      = ∑ d : Fin 64, stack v0 v2 r ⟨64 + d.val, by omega⟩ * v5 (ix2 k ⟨64 + d.val, by omega⟩) := by
  pointwise [k0_pay9, k0_pay7, k0_pay8]
  exact sum_second fun x => stack v0 v2 r x * v5 (ix2 k x)

theorem pay25_at (v0 v2 : FVec Ideal S512x128 .bf16) (v5 : FVec Ideal S1024x128 .bf16) (r k : Fin 1024) :
    k0_pay25 (F := Ideal) v0 v2 v5 (ix2 r k)
      = ∑ d : Fin 64, stack v0 v2 r ⟨64 + d.val, by omega⟩ * v5 (ix2 k ⟨64 + d.val, by omega⟩) := by
  pointwise [k0_pay25, k0_pay24]
  exact sum_second fun x => stack v0 v2 r x * v5 (ix2 k x)

theorem pay10_at (v0 v2 : FVec Ideal S512x128 .bf16) (v5 : FVec Ideal S1x256x128 .bf16) (r : Fin 1024) (k : Fin 256) :
    k0_pay10 (F := Ideal) (k0_pay7 v0 v2) v5 (ix2 r k)
      = ∑ d : Fin 64, stack v0 v2 r ⟨64 + d.val, by omega⟩ * v5 (ix3 0 k ⟨64 + d.val, by omega⟩) := by
  pointwise [k0_pay10, k0_pay7]
  exact sum_second fun x => stack v0 v2 r x * v5 (ix3 0 k x)

theorem pay26_at (v0 v2 : FVec Ideal S512x128 .bf16) (v5 : FVec Ideal S1x256x128 .bf16) (r : Fin 1024) (k : Fin 256) :
    k0_pay26 (F := Ideal) (k0_pay24 v0 v2) v5 (ix2 r k)
      = ∑ d : Fin 64, stack v0 v2 r ⟨64 + d.val, by omega⟩ * v5 (ix3 0 k ⟨64 + d.val, by omega⟩) := by
  pointwise [k0_pay26, k0_pay24]
  exact sum_second fun x => stack v0 v2 r x * v5 (ix3 0 k x)

/-! ## Attention rows -/

theorem pay11_at (v12 : FVec Ideal S1024x1024 .f32) (v20 : FVec Ideal S1024x256 .f32) (v44 : FVec Ideal S1024x128 .bf16) (v46 : FVec Ideal S1x256x128 .bf16) (r : Fin 1024) (l : Fin 128) :
    k0_pay11 (F := Ideal) v12 v20 v44 v46 (ix2 r l)
      = att (fun k : Fin 1024 => v12 (ix2 r k)) (fun k : Fin 256 => v20 (ix2 r k)) (fun k => v44 (ix2 k l)) (fun k => v46 (ix3 0 k l)) := by
  unfold att
  rw [← neg_inf]
  pointwise [k0_pay11]
  rfl

theorem pay27_at (v12 : FVec Ideal S1024x1024 .f32) (v20 : FVec Ideal S1024x256 .f32) (v44 : FVec Ideal S1024x128 .bf16) (v46 : FVec Ideal S1x256x128 .bf16) (r : Fin 1024) (l : Fin 128) :
    k0_pay27 (F := Ideal) v12 v20 v44 v46 (ix2 r l)
      = att (fun k : Fin 1024 => v12 (ix2 r k)) (fun k : Fin 256 => v20 (ix2 r k)) (fun k => v44 (ix2 k l)) (fun k => v46 (ix3 0 k l)) := by
  unfold att
  rw [← neg_inf]
  pointwise [k0_pay27]
  rfl

/-- The mask of a pair's first head, lane by lane. -/
theorem select_lane (l : Fin 128) (a b : EReal) :
    Scalar.select (IntOp.cmpi CmpIPredicate.slt (BitVec.ofNat 32 l.val) 64#32) a b = if l.val < 64 then a else b := by
  by_cases h : l.val < 64
  · rw [if_pos h, show IntOp.cmpi CmpIPredicate.slt (BitVec.ofNat 32 l.val) 64#32 = 1#1 from mask_lo ⟨l.val, h⟩]; rfl
  · rw [if_neg h, show IntOp.cmpi CmpIPredicate.slt (BitVec.ofNat 32 l.val) 64#32 = 0#1 from by
      have := mask_hi ⟨l.val - 64, by omega⟩
      rwa [show 64 + (⟨l.val - 64, by omega⟩ : Fin 64).val = l.val from by show 64 + (l.val - 64) = l.val; omega] at this]; rfl

theorem pay21_at (w : FVec Ideal S1024x128 .f32) (s1 : FVec Ideal S1024x1024 .f32) (s2 : FVec Ideal S1024x256 .f32) (v94 : FVec Ideal S1024x128 .bf16) (v96 : FVec Ideal S1x256x128 .bf16) (r : Fin 1024) (l : Fin 128) :
    k0_pay21 (F := Ideal) w (k0_pay15 v94) (k0_pay16 v96) (k0_pay18 s1 s2) (k0_pay19 s1 s2) (k0_pay20 s1 s2) (ix2 r l)
      = if l.val < 64 then w (ix2 r l) else
        att (fun k : Fin 1024 => s1 (ix2 r k)) (fun k : Fin 256 => s2 (ix2 r k)) (fun k => v94 (ix2 k l)) (fun k => v96 (ix3 0 k l)) := by
  refine Eq.trans ?_ (select_lane l _ _)
  unfold att
  rw [← neg_inf]
  pointwise [k0_pay21, k0_pay15, k0_pay16, k0_pay17, k0_pay18, k0_pay19, k0_pay20]
  rfl

theorem pay1_at (w : FVec Ideal S1024x128 .f32) (s1 : FVec Ideal S1024x1024 .f32) (s2 : FVec Ideal S1024x256 .f32) (v94 : FVec Ideal S1024x128 .bf16) (v96 : FVec Ideal S1x256x128 .bf16) (r : Fin 1024) (l : Fin 128) :
    k0_pay1 (F := Ideal) s1 s2 w (k0_pay28 v94) v96 (ix2 r l)
      = if l.val < 64 then w (ix2 r l) else
        att (fun k : Fin 1024 => s1 (ix2 r k)) (fun k : Fin 256 => s2 (ix2 r k)) (fun k => v94 (ix2 k l)) (fun k => v96 (ix3 0 k l)) := by
  refine Eq.trans ?_ (select_lane l _ _)
  unfold att
  rw [← neg_inf]
  pointwise [k0_pay1, k0_pay28]
  rfl

/-! ## A stored pair of heads -/

/-- The attention of the head that lane `l` of a pair belongs to, from the pair's query row and key/value blocks. -/
def pair (Q : Fin 128 → EReal) (K1 : Fin 1024 → Fin 128 → EReal) (K2 : Fin 256 → Fin 128 → EReal)
    (V1 : Fin 1024 → EReal) (V2 : Fin 256 → EReal) (l : Fin 128) : EReal :=
  att (fun k => ∑ d : Fin 64, Q ⟨l.val / 64 * 64 + d.val, by omega⟩ * K1 k ⟨l.val / 64 * 64 + d.val, by omega⟩)
    (fun k => ∑ d : Fin 64, Q ⟨l.val / 64 * 64 + d.val, by omega⟩ * K2 k ⟨l.val / 64 * 64 + d.val, by omega⟩) V1 V2

theorem pair_of_halves (Q : Fin 128 → EReal) (K1 : Fin 1024 → Fin 128 → EReal) (K2 : Fin 256 → Fin 128 → EReal)
    (V1 : Fin 1024 → EReal) (V2 : Fin 256 → EReal) (l : Fin 128) :
    (if l.val < 64 then
      att (fun k => ∑ d : Fin 64, Q ⟨d.val, by omega⟩ * K1 k ⟨d.val, by omega⟩)
        (fun k => ∑ d : Fin 64, Q ⟨d.val, by omega⟩ * K2 k ⟨d.val, by omega⟩) V1 V2
    else att (fun k => ∑ d : Fin 64, Q ⟨64 + d.val, by omega⟩ * K1 k ⟨64 + d.val, by omega⟩)
        (fun k => ∑ d : Fin 64, Q ⟨64 + d.val, by omega⟩ * K2 k ⟨64 + d.val, by omega⟩) V1 V2) = pair Q K1 K2 V1 V2 l := by
  unfold pair
  by_cases h : l.val < 64
  · have e : ∀ d : Fin 64, (⟨l.val / 64 * 64 + d.val, by omega⟩ : Fin 128) = ⟨d.val, by omega⟩ :=
      fun d => Fin.ext (show l.val / 64 * 64 + d.val = d.val by omega)
    simp only [if_pos h, e]
  · have e : ∀ d : Fin 64, (⟨l.val / 64 * 64 + d.val, by omega⟩ : Fin 128) = ⟨64 + d.val, by omega⟩ :=
      fun d => Fin.ext (show l.val / 64 * 64 + d.val = 64 + d.val by omega)
    simp only [if_neg h, e]

end Cert.GqaIdeal.Heads

end
-- ==== Proof.GqaPieces.lean ====
/-
The four blocks of columns the kernel stores at a grid point, each read at a row and a lane: the attention of the head
the lane belongs to.
-/
module

public import proofs.«01_k».proof.Proof.GqaHeads

@[expose] public section

set_option maxRecDepth 16384

noncomputable section

open Idealize.ShloMosaic Idealize.ShloMosaic.TcCoe Idealize.SL.Sem
open Cert.Softmax

namespace Cert.GqaIdeal.Heads

open Cert.GqaIdeal Cert.GqaIdeal.Gen

variable (a b : FVec Ideal S512x128 .bf16) (k1 v1 : FVec Ideal S1024x128 .bf16) (k2 v2 : FVec Ideal S1x256x128 .bf16)

theorem stack_lo (y : Fin 512) (x : Fin 128) : stack a b ⟨y.val, by omega⟩ x = a (ix2 y x) := dif_pos y.isLt

theorem stack_hi (y : Fin 512) (x : Fin 128) : stack a b ⟨512 + y.val, by omega⟩ x = b (ix2 y x) := by
  unfold stack
  rw [dif_neg (show ¬ (512 + y.val < 512) by omega)]
  congr 1
  exact congrArg (fun z => (ix2 z x : S512x128.Idx)) (Fin.ext (show 512 + y.val - 512 = y.val by omega))

theorem pair21 (r : Fin 1024) (l : Fin 128) :
    k0_pay21 (F := Ideal) (k0_pay11 (k0_pay5 a b k1) (k0_pay6 a b k2) v1 v2) (k0_pay15 v1) (k0_pay16 v2)
      (k0_pay18 (k0_pay9 (k0_pay7 a b) (k0_pay8 k1)) (k0_pay10 (k0_pay7 a b) k2))
      (k0_pay19 (k0_pay9 (k0_pay7 a b) (k0_pay8 k1)) (k0_pay10 (k0_pay7 a b) k2))
      (k0_pay20 (k0_pay9 (k0_pay7 a b) (k0_pay8 k1)) (k0_pay10 (k0_pay7 a b) k2)) (ix2 r l)
      = pair (stack a b r) (fun k x => k1 (ix2 k x)) (fun k x => k2 (ix3 0 k x)) (fun k => v1 (ix2 k l))
          (fun k => v2 (ix3 0 k l)) l := by
  rw [pay21_at, pay11_at]
  simp only [pay5_at, pay6_at, pay9_at, pay10_at]
  exact pair_of_halves (stack a b r) (fun k x => k1 (ix2 k x)) (fun k x => k2 (ix3 0 k x)) _ _ l

theorem pair1 (r : Fin 1024) (l : Fin 128) :
    k0_pay1 (F := Ideal) (k0_pay25 a b k1) (k0_pay26 (k0_pay24 a b) k2)
      (k0_pay27 (k0_pay13 a b k1) (k0_pay14 a b k2) v1 v2) (k0_pay28 v1) v2 (ix2 r l)
      = pair (stack a b r) (fun k x => k1 (ix2 k x)) (fun k x => k2 (ix3 0 k x)) (fun k => v1 (ix2 k l))
          (fun k => v2 (ix3 0 k l)) l := by
  rw [pay1_at, pay27_at]
  simp only [pay13_at, pay14_at, pay25_at, pay26_at]
  exact pair_of_halves (stack a b r) (fun k x => k1 (ix2 k x)) (fun k x => k2 (ix3 0 k x)) _ _ l

theorem piece22 (y : Fin 512) (l : Fin 128) :
    k0_pay22 (F := Ideal) (k0_pay11 (k0_pay5 a b k1) (k0_pay6 a b k2) v1 v2) (k0_pay15 v1) (k0_pay16 v2)
      (k0_pay18 (k0_pay9 (k0_pay7 a b) (k0_pay8 k1)) (k0_pay10 (k0_pay7 a b) k2))
      (k0_pay19 (k0_pay9 (k0_pay7 a b) (k0_pay8 k1)) (k0_pay10 (k0_pay7 a b) k2))
      (k0_pay20 (k0_pay9 (k0_pay7 a b) (k0_pay8 k1)) (k0_pay10 (k0_pay7 a b) k2)) (ix2 y l)
      = pair (fun x => a (ix2 y x)) (fun k x => k1 (ix2 k x)) (fun k x => k2 (ix3 0 k x)) (fun k => v1 (ix2 k l))
          (fun k => v2 (ix3 0 k l)) l := by
  refine Eq.trans ?_ ((pair21 a b k1 v1 k2 v2 ⟨y.val, by omega⟩ l).trans ?_)
  · pointwise [k0_pay22]
  · rw [show stack a b ⟨y.val, by omega⟩ = fun x => a (ix2 y x) from funext fun x => stack_lo a b y x]

theorem piece23 (y : Fin 512) (l : Fin 128) :
    k0_pay23 (F := Ideal) (k0_pay11 (k0_pay5 a b k1) (k0_pay6 a b k2) v1 v2) (k0_pay15 v1) (k0_pay16 v2)
      (k0_pay18 (k0_pay9 (k0_pay7 a b) (k0_pay8 k1)) (k0_pay10 (k0_pay7 a b) k2))
      (k0_pay19 (k0_pay9 (k0_pay7 a b) (k0_pay8 k1)) (k0_pay10 (k0_pay7 a b) k2))
      (k0_pay20 (k0_pay9 (k0_pay7 a b) (k0_pay8 k1)) (k0_pay10 (k0_pay7 a b) k2)) (ix2 y l)
      = pair (fun x => b (ix2 y x)) (fun k x => k1 (ix2 k x)) (fun k x => k2 (ix3 0 k x)) (fun k => v1 (ix2 k l))
          (fun k => v2 (ix3 0 k l)) l := by
  refine Eq.trans ?_ ((pair21 a b k1 v1 k2 v2 ⟨512 + y.val, by omega⟩ l).trans ?_)
  · pointwise [k0_pay23]
  · rw [show stack a b ⟨512 + y.val, by omega⟩ = fun x => b (ix2 y x) from funext fun x => stack_hi a b y x]

theorem piece2 (y : Fin 512) (l : Fin 128) :
    k0_pay2 (F := Ideal) (k0_pay25 a b k1) (k0_pay26 (k0_pay24 a b) k2)
      (k0_pay27 (k0_pay13 a b k1) (k0_pay14 a b k2) v1 v2) (k0_pay28 v1) v2 (ix2 y l)
      = pair (fun x => a (ix2 y x)) (fun k x => k1 (ix2 k x)) (fun k x => k2 (ix3 0 k x)) (fun k => v1 (ix2 k l))
          (fun k => v2 (ix3 0 k l)) l := by
  refine Eq.trans ?_ ((pair1 a b k1 v1 k2 v2 ⟨y.val, by omega⟩ l).trans ?_)
  · pointwise [k0_pay2]
  · rw [show stack a b ⟨y.val, by omega⟩ = fun x => a (ix2 y x) from funext fun x => stack_lo a b y x]

theorem piece3 (y : Fin 512) (l : Fin 128) :
    k0_pay3 (F := Ideal) (k0_pay25 a b k1) (k0_pay26 (k0_pay24 a b) k2)
      (k0_pay27 (k0_pay13 a b k1) (k0_pay14 a b k2) v1 v2) (k0_pay28 v1) v2 (ix2 y l)
      = pair (fun x => b (ix2 y x)) (fun k x => k1 (ix2 k x)) (fun k x => k2 (ix3 0 k x)) (fun k => v1 (ix2 k l))
          (fun k => v2 (ix3 0 k l)) l := by
  refine Eq.trans ?_ ((pair1 a b k1 v1 k2 v2 ⟨512 + y.val, by omega⟩ l).trans ?_)
  · pointwise [k0_pay3]
  · rw [show stack a b ⟨512 + y.val, by omega⟩ = fun x => b (ix2 y x) from funext fun x => stack_hi a b y x]

end Cert.GqaIdeal.Heads

end
-- ==== Proof.GqaReference.lean ====
/-
The reference's result read at a row and a column: one row of softmax attention.
-/
module

public import proofs.«01_k».proof.Proof.Gen.GqaRefIdeal.Read
public import proofs.«01_k».proof.Proof.Softmax
public import Idealize.ShloMosaic.Lib.Pointwise

@[expose] public section

set_option maxRecDepth 16384

noncomputable section

open Idealize.ShloMosaic Idealize.ShloMosaic.TcCoe Idealize.SL.Sem
open Cert.Softmax

namespace Cert.GqaRefIdeal.Rows

open Cert.GqaRefIdeal Cert.GqaRefIdeal.Gen Cert.GqaRefIdeal.Read

/-- A source of 1024 rows followed by one of 256. -/
def joined (x : FVec Ideal S8x2x1024x64 .f32) (y : FVec Ideal S8x2x256x64 .f32) (b : Fin 8) (g : Fin 2) (k : Fin 1280) (d : Fin 64) : EReal :=
  if h : k.val < 1024 then x (ix4 b g ⟨k.val, h⟩ d) else y (ix4 b g ⟨k.val - 1024, by omega⟩ d)

variable (q : FVec Ideal S8x8x1024x64 .f32) (k v : FVec Ideal S8x2x1024x64 .f32) (ck cv : FVec Ideal S8x2x256x64 .f32)

theorem eighth : Ideal.ofBits .f32 0x3E000000#32 = ((1 / 8 : ℝ) : EReal) := by
  simp [Ideal.ofBits, Ideal.ieee, -EReal.coe_mul]; norm_num

theorem neg_inf : Ideal.ofBits .f32 0xFF800000#32 = (⊥ : EReal) := by
  simp [Ideal.ofBits, Ideal.ieee]

theorem score_at (b : Fin 8) (g : Fin 2) (e : Fin 4) (n : Fin 1024) (j : Fin 1280) :
    val_main_v5 (F := Ideal) q k ck (ix5 b g e n j) = (∑ d : Fin 64, q (ix4 b ⟨g.val * 4 + e.val, by omega⟩ n d) * joined k ck b g j d) * ((1 / 8 : ℝ) : EReal) := by
  rw [← eighth]
  pointwise [val_main_v5, val_main_v3, val_main_v2, val_main_v0, val_main_v4, val_main_cst]
  rfl

theorem joined_at (b : Fin 8) (g : Fin 2) (j : Fin 1280) (d : Fin 64) :
    val_main_v1 (F := Ideal) v cv (ix4 b g j d) = joined v cv b g j d := by
  pointwise [val_main_v1]
  rfl

/-- The greatest score of a row. -/
theorem max_at (s : FVec Ideal S8x2x4x1024x1280 .f32) (hs : val_main_v5 (F := Ideal) q k ck = s)
    (b : Fin 8) (g : Fin 2) (e : Fin 4) (n : Fin 1024) :
    val_main_v6 (F := Ideal) q k ck (ix4 b g e n) = Finset.univ.fold max ⊥ fun i : Fin 1280 => s (ix5 b g e n i) := by
  rw [← neg_inf]
  pointwise [val_main_v6, val_main_cst_0, hs]

/-- A term of a row's total, from its scores and the row's greatest. -/
theorem term_at (s : FVec Ideal S8x2x4x1024x1280 .f32) (hs : val_main_v5 (F := Ideal) q k ck = s)
    (u : FVec Ideal S8x2x4x1024 .f32) (hu : val_main_v6 (F := Ideal) q k ck = u)
    (b : Fin 8) (g : Fin 2) (e : Fin 4) (n : Fin 1024) (j : Fin 1280) :
    val_main_v12 (F := Ideal) q k ck (ix5 b g e n j) = Ideal.exp (s (ix5 b g e n j) - max ⊥ (u (ix4 b g e n))) := by
  rw [← neg_inf]
  pointwise [val_main_v12, val_main_v11, val_main_v10, val_main_v9, val_main_v8, val_main_v7, val_main_cst_1, hs, hu]

theorem total_at (x : FVec Ideal S8x2x4x1024x1280 .f32) (hx : val_main_v12 (F := Ideal) q k ck = x)
    (b : Fin 8) (g : Fin 2) (e : Fin 4) (n : Fin 1024) :
    val_main_v13 (F := Ideal) q k ck (ix4 b g e n) = ∑ l : Fin 1280, x (ix5 b g e n l) := by
  pointwise [val_main_v13, val_main_cst_2, hx]

theorem ratio_at (x : FVec Ideal S8x2x4x1024x1280 .f32) (hx : val_main_v12 (F := Ideal) q k ck = x)
    (z : FVec Ideal S8x2x4x1024 .f32) (hz : val_main_v13 (F := Ideal) q k ck = z)
    (b : Fin 8) (g : Fin 2) (e : Fin 4) (n : Fin 1024) (j : Fin 1280) :
    val_main_v16 (F := Ideal) q k ck (ix5 b g e n j) = Ideal.div (x (ix5 b g e n j)) (z (ix4 b g e n)) := by
  pointwise [val_main_v16, val_main_v15, val_main_v14, hx, hz]

/-- A weight of the reference's softmax, from its scores. -/
theorem weight_at (s : FVec Ideal S8x2x4x1024x1280 .f32) (hs : val_main_v5 (F := Ideal) q k ck = s)
    (b : Fin 8) (g : Fin 2) (e : Fin 4) (n : Fin 1024) (j : Fin 1280) :
    val_main_v16 (F := Ideal) q k ck (ix5 b g e n j)
      = Ideal.div (Ideal.exp (s (ix5 b g e n j) - max ⊥ (Finset.univ.fold max ⊥ fun i : Fin 1280 => s (ix5 b g e n i))))
          (∑ l : Fin 1280, Ideal.exp (s (ix5 b g e n l) - max ⊥ (Finset.univ.fold max ⊥ fun i : Fin 1280 => s (ix5 b g e n i)))) := by
  rw [ratio_at q k ck _ rfl _ rfl, total_at q k ck _ rfl]
  simp only [term_at q k ck s hs _ rfl, max_at q k ck s hs]

theorem value_at (w : FVec Ideal S8x2x4x1024x1280 .f32) (hw : val_main_v16 (F := Ideal) q k ck = w)
    (u : FVec Ideal S8x2x1280x64 .f32) (hu : val_main_v1 (F := Ideal) v cv = u)
    (b : Fin 8) (g : Fin 2) (e : Fin 4) (n : Fin 1024) (d : Fin 64) :
    val_main_v17 (F := Ideal) q k v ck cv (ix5 b g e n d) = ∑ j : Fin 1280, w (ix5 b g e n j) * u (ix4 b g j d) := by
  pointwise [val_main_v17, hw, hu]

theorem soft_at (b : Fin 8) (g : Fin 2) (e : Fin 4) (n : Fin 1024) (d : Fin 64) :
    val_main_v17 (F := Ideal) q k v ck cv (ix5 b g e n d)
      = soft (fun j : Fin 1280 => val_main_v5 (F := Ideal) q k ck (ix5 b g e n j)) (fun j => joined v cv b g j d) := by
  rw [value_at q k v ck cv _ rfl _ rfl]
  unfold soft
  refine Finset.sum_congr rfl fun j _ => ?_
  rw [weight_at q k ck _ rfl, joined_at]

theorem out_at (b : Fin 8) (n : Fin 1024) (h : Fin 8) (d : Fin 64) (j : S8192x512.Idx) (hr : (j 0).val = b.val * 1024 + n.val) (hx : (j 1).val = h.val * 64 + d.val) :
    val_main_v21 (F := Ideal) q k v ck cv j = val_main_v17 (F := Ideal) q k v ck cv (ix5 b ⟨h.val / 4, by omega⟩ ⟨h.val % 4, by omega⟩ n d) := by
  idx_vars j
  have hr' : j0.val = b.val * 1024 + n.val := hr
  have hx' : j1.val = h.val * 64 + d.val := hx
  pointwise [val_main_v21, val_main_v20, val_main_v19, val_main_v18]
  congr 1
  refine (ix5_inj ..).2 ⟨?_, ?_, ?_, ?_, ?_⟩ <;> apply Fin.ext <;> simp only <;> omega

end Cert.GqaRefIdeal.Rows

end
-- ==== Proof.GqaCore.lean ====
/-
One entry of the attention's result: the kernel's row over a pair of heads' blocks is the reference's row of the head,
for finite queries and keys.
-/
module

public import proofs.«01_k».proof.Proof.GqaPieces
public import proofs.«01_k».proof.Proof.GqaReference

@[expose] public section

set_option maxRecDepth 16384

noncomputable section

open Idealize.ShloMosaic Idealize.ShloMosaic.TcCoe Idealize.SL.Sem
open Cert.Softmax Cert.GqaRefIdeal Cert.GqaRefIdeal.Read Cert.GqaRefIdeal.Rows

namespace Cert.GqaIdeal.Heads

variable (q : FVec Ideal S8x8x1024x64 .f32) (k v : FVec Ideal S8x2x1024x64 .f32) (ck cv : FVec Ideal S8x2x256x64 .f32)

/-- The real entry of the joined keys. -/
def joinedR (x : S8x2x1024x64.Idx → ℝ) (y : S8x2x256x64.Idx → ℝ) (b : Fin 8) (g : Fin 2) (k : Fin 1280) (d : Fin 64) : ℝ :=
  if h : k.val < 1024 then x (ix4 b g ⟨k.val, h⟩ d) else y (ix4 b g ⟨k.val - 1024, by omega⟩ d)

theorem joined_lo (b : Fin 8) (g : Fin 2) (j : Fin 1024) (d : Fin 64) : joined k ck b g (Fin.castAdd 256 j) d = k (ix4 b g j d) :=
  dif_pos j.isLt

theorem joined_hi (b : Fin 8) (g : Fin 2) (j : Fin 256) (d : Fin 64) : joined k ck b g (Fin.natAdd 1024 j) d = ck (ix4 b g j d) := by
  unfold joined
  rw [dif_neg (show ¬ ((Fin.natAdd 1024 j).val < 1024) from by simp)]
  exact congrArg (fun z => ck (ix4 b g z d)) (Fin.ext (show 1024 + j.val - 1024 = j.val by omega))

theorem core (qr : S8x8x1024x64.Idx → ℝ) (kr : S8x2x1024x64.Idx → ℝ) (cr : S8x2x256x64.Idx → ℝ)
    (hq : ∀ i, q i = ((qr i : ℝ) : EReal)) (hk : ∀ i, k i = ((kr i : ℝ) : EReal)) (hc : ∀ i, ck i = ((cr i : ℝ) : EReal))
    (b : Fin 8) (n : Fin 1024) (u : Fin 4) (l : Fin 128)
    (Q : Fin 128 → EReal) (K1 : Fin 1024 → Fin 128 → EReal) (K2 : Fin 256 → Fin 128 → EReal) (V1 : Fin 1024 → EReal) (V2 : Fin 256 → EReal)
    (hQ : ∀ x : Fin 128, Q x = q (ix4 b ⟨u.val * 2 + x.val / 64, by omega⟩ n ⟨x.val % 64, by omega⟩) * ((1 / 8 / Real.log 2 : ℝ) : EReal))
    (hK1 : ∀ j (x : Fin 128), K1 j x = k (ix4 b ⟨u.val / 2, by omega⟩ j ⟨x.val % 64, by omega⟩))
    (hK2 : ∀ j (x : Fin 128), K2 j x = ck (ix4 b ⟨u.val / 2, by omega⟩ j ⟨x.val % 64, by omega⟩))
    (hV1 : ∀ j, V1 j = v (ix4 b ⟨u.val / 2, by omega⟩ j ⟨l.val % 64, by omega⟩))
    (hV2 : ∀ j, V2 j = cv (ix4 b ⟨u.val / 2, by omega⟩ j ⟨l.val % 64, by omega⟩))
    (i : S8192x512.Idx) (hr : (i 0).val = b.val * 1024 + n.val) (hx : (i 1).val = u.val * 128 + l.val) :
    pair Q K1 K2 V1 V2 l = val_main_v21 (F := Ideal) q k v ck cv i := by
  rw [out_at q k v ck cv b n ⟨u.val * 2 + l.val / 64, by omega⟩ ⟨l.val % 64, by omega⟩ i hr
    (by rw [hx]; simp only; omega), soft_at]
  simp only [score_at]
  have hg : (⟨(u.val * 2 + l.val / 64) / 4, by omega⟩ : Fin 2) = ⟨u.val / 2, by omega⟩ := Fin.ext (by simp only; omega)
  have he : ∀ h, (⟨(u.val * 2 + l.val / 64) / 4 * 4 + (u.val * 2 + l.val / 64) % 4, h⟩ : Fin 8) = ⟨u.val * 2 + l.val / 64, by omega⟩ :=
    fun _ => Fin.ext (by simp only; omega)
  simp only [he, hg]
  unfold pair
  refine att_eq_soft (n1 := 1024) (n2 := 256)
    (fun j => (∑ d : Fin 64, qr (ix4 b ⟨u.val * 2 + l.val / 64, by omega⟩ n d) * joinedR kr cr b ⟨u.val / 2, by omega⟩ j d) * (1 / 8))
    (fun j => joined v cv b ⟨u.val / 2, by omega⟩ j ⟨l.val % 64, by omega⟩) _ _ _ _ _ ?_ ?_ ?_ ?_ ?_
  · intro j
    rw [show ∀ x y : ℝ, x * (1 / 8) / y = x * (1 / 8 / y) from fun x y => by ring, Finset.sum_mul, coe_sum]
    refine Finset.sum_congr rfl fun d _ => ?_
    rw [hQ, hK1, hq, hk, ← EReal.coe_mul, ← EReal.coe_mul]
    refine congrArg _ ?_
    have h1 : (⟨u.val * 2 + (l.val / 64 * 64 + d.val) / 64, by omega⟩ : Fin 8) = ⟨u.val * 2 + l.val / 64, by omega⟩ := Fin.ext (by simp only; omega)
    have h2 : (⟨(l.val / 64 * 64 + d.val) % 64, by omega⟩ : Fin 64) = d := Fin.ext (by simp only; omega)
    simp only [h1, h2]
    rw [show joinedR kr cr b ⟨u.val / 2, by omega⟩ (Fin.castAdd 256 j) d = kr (ix4 b ⟨u.val / 2, by omega⟩ j d) from dif_pos j.isLt]
    ring
  · intro j
    rw [show ∀ x y : ℝ, x * (1 / 8) / y = x * (1 / 8 / y) from fun x y => by ring, Finset.sum_mul, coe_sum]
    refine Finset.sum_congr rfl fun d _ => ?_
    rw [hQ, hK2, hq, hc, ← EReal.coe_mul, ← EReal.coe_mul]
    refine congrArg _ ?_
    have h1 : (⟨u.val * 2 + (l.val / 64 * 64 + d.val) / 64, by omega⟩ : Fin 8) = ⟨u.val * 2 + l.val / 64, by omega⟩ := Fin.ext (by simp only; omega)
    have h2 : (⟨(l.val / 64 * 64 + d.val) % 64, by omega⟩ : Fin 64) = d := Fin.ext (by simp only; omega)
    simp only [h1, h2]
    have h3 : joinedR kr cr b ⟨u.val / 2, by omega⟩ (Fin.natAdd 1024 j) d = cr (ix4 b ⟨u.val / 2, by omega⟩ j d) := by
      unfold joinedR
      rw [dif_neg (show ¬ ((Fin.natAdd 1024 j).val < 1024) from by simp)]
      exact congrArg (fun z => cr (ix4 b _ z d)) (Fin.ext (show 1024 + j.val - 1024 = j.val by omega))
    rw [h3]
    ring
  · intro j
    rw [hV1, joined_lo]
  · intro j
    rw [hV2, joined_hi]
  · intro j
    rw [EReal.coe_mul, coe_sum]
    refine congrArg (· * ((1 / 8 : ℝ) : EReal)) (Finset.sum_congr rfl fun d _ => ?_)
    rw [hq, EReal.coe_mul]
    refine congrArg _ ?_
    unfold joined joinedR
    split
    · exact hk _
    · exact hc _

end Cert.GqaIdeal.Heads

end
-- ==== Proof.GqaBlocks.lean ====
/-
The blocks the kernel reads at a grid point, each read at a row and a column: which entry of which argument it is.
-/
module

public import proofs.«01_k».proof.Proof.GqaPieces
public import proofs.«01_k».proof.Proof.Gen.GqaIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Softmax

namespace Cert.GqaIdeal.Heads

open Cert.GqaIdeal Cert.GqaIdeal.Gen

variable (m : (ℓ : Loc nD τ sig) → Buf (Elt Ideal) ℓ)

/-- Where each window stands at a grid point: queries and results move a tile of 512 rows each step, the keys, values
and caches once every two steps, with the batch. -/
theorem idx : ∀ t : Fin cfg0.N, win0_0.index t = ![t.val, 0] ∧ win0_1.index t = ![t.val / 2, 0] ∧ win0_2.index t = ![t.val / 2, 0] ∧ win0_3.index t = ![t.val / 2, 0, 0] ∧ win0_4.index t = ![t.val / 2, 0, 0] ∧ win0_5.index t = ![t.val, 0] :=
  (by decide +kernel : ∀ t : Fin grid0.N, _)

theorem lt16 (t : Fin cfg0.N) : t.val < 16 := lt_of_lt_of_eq t.isLt (by decide)

/-- The batch of a grid point. -/
def bat (t : Fin cfg0.N) : Fin 8 := ⟨t.val / 2, by have := lt16 t; omega⟩

/-- The token of a row of a grid point's tile. -/
def tok (t : Fin cfg0.N) (y : Fin 512) : Fin 1024 := ⟨t.val % 2 * 512 + y.val, by omega⟩

theorem scale : Ideal.div (Ideal.ofBits .f32 0x3E000000#32) (Ideal.log (Ideal.ofBits .f32 0x40000000#32)) = ((1 / 8 / Real.log 2 : ℝ) : EReal) := by
  have h1 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h1, h2, show Ideal.log ((2 : ℝ) : EReal) = ((Real.log 2 : ℝ) : EReal) by
    show (if (2 : ℝ) ≤ 0 then (⊥ : EReal) else ((Real.log 2 : ℝ) : EReal)) = _
    rw [if_neg (by norm_num)]]
  exact div_coe_coe _ _ (Real.log_pos (by norm_num)).ne'

theorem q_at (c : Dev nD) (t : Fin cfg0.N) (y : Fin 512) (x : Fin 512) :
    (show FVec Ideal S512x512 .bf16 from iblk m c 0 t) (ix2 y x)
      = (show FVec Ideal S8x8x1024x64 .f32 from m (c, Proc.tc.devRef main_arg0)) (ix4 (bat t) ⟨x.val / 64, by omega⟩ (tok t y) ⟨x.val % 64, by omega⟩)
        * ((1 / 8 / Real.log 2 : ℝ) : EReal) := by
  rw [← scale]
  blk_simp [iblk, idx t]
  entry_read
  pointwise
  congr 1
  have h16 := lt16 t
  blk_ext [bat, tok, idx t]

theorem k_at (c : Dev nD) (t : Fin cfg0.N) (y : Fin 1024) (x : Fin 256) :
    (show FVec Ideal S1024x256 .bf16 from iblk m c 1 t) (ix2 y x)
      = (show FVec Ideal S8x2x1024x64 .f32 from m (c, Proc.tc.devRef main_arg1)) (ix4 (bat t) ⟨x.val / 128, by omega⟩ y ⟨x.val % 64, by omega⟩) := by
  blk_simp [iblk, idx t]
  entry_read
  pointwise
  have h16 := lt16 t
  blk_ext [bat, tok, idx t]

theorem ck_at (c : Dev nD) (t : Fin cfg0.N) (y : Fin 256) (x : Fin 256) :
    (show FVec Ideal S1x256x256 .bf16 from iblk m c 3 t) (ix3 0 y x)
      = (show FVec Ideal S8x2x256x64 .f32 from m (c, Proc.tc.devRef main_arg3)) (ix4 (bat t) ⟨x.val / 128, by omega⟩ y ⟨x.val % 64, by omega⟩) := by
  blk_simp [iblk, idx t]
  entry_read
  pointwise
  have h16 := lt16 t
  blk_ext [bat, tok, idx t]

theorem v_at (c : Dev nD) (t : Fin cfg0.N) (y : Fin 1024) (x : Fin 256) :
    (show FVec Ideal S1024x256 .bf16 from iblk m c 2 t) (ix2 y x)
      = (show FVec Ideal S8x2x1024x64 .f32 from m (c, Proc.tc.devRef main_arg2)) (ix4 (bat t) ⟨x.val / 128, by omega⟩ y ⟨x.val % 64, by omega⟩) := by
  blk_simp [iblk, idx t]
  entry_read
  pointwise
  have h16 := lt16 t
  blk_ext [bat, tok, idx t]

theorem cv_at (c : Dev nD) (t : Fin cfg0.N) (y : Fin 256) (x : Fin 256) :
    (show FVec Ideal S1x256x256 .bf16 from iblk m c 4 t) (ix3 0 y x)
      = (show FVec Ideal S8x2x256x64 .f32 from m (c, Proc.tc.devRef main_arg4)) (ix4 (bat t) ⟨x.val / 128, by omega⟩ y ⟨x.val % 64, by omega⟩) := by
  blk_simp [iblk, idx t]
  entry_read
  pointwise
  have h16 := lt16 t
  blk_ext [bat, tok, idx t]

end Cert.GqaIdeal.Heads

end
-- ==== Proof.GqaValue.lean ====
/-
The latent attention's result array after the run is the reference's, for finite queries and keys.
-/
module

public import proofs.«01_k».proof.Proof.GqaCore
public import proofs.«01_k».proof.Proof.GqaBlocks

@[expose] public section

set_option maxRecDepth 16384

noncomputable section

open Idealize.ShloMosaic Idealize.ShloMosaic.TcCoe Idealize.SL.Sem
open Idealize.ShloMosaic.Pipeline (Dat)
open Cert.Softmax Cert.GqaRefIdeal.Read

namespace Cert.GqaIdeal.Heads

open Cert.GqaIdeal Cert.GqaIdeal.Gen

variable (m : (ℓ : Loc nD τ sig) → Buf (Elt Ideal) ℓ)

/-- The reference's result over the kernel's argument arrays. -/
abbrev ref (c : Dev nD) : FVec Ideal S8192x512 .bf16 :=
  val_main_v21 (F := Ideal) (m (c, Proc.tc.devRef main_arg0)) (m (c, Proc.tc.devRef main_arg1)) (m (c, Proc.tc.devRef main_arg2))
    (m (c, Proc.tc.devRef main_arg3)) (m (c, Proc.tc.devRef main_arg4))

/-- The queries and both sources of keys are reals. -/
def Finite (c : Dev nD) : Prop :=
  ∃ (qr : S8x8x1024x64.Idx → ℝ) (kr : S8x2x1024x64.Idx → ℝ) (cr : S8x2x256x64.Idx → ℝ),
    (∀ i, (show FVec Ideal S8x8x1024x64 .f32 from m (c, Proc.tc.devRef main_arg0)) i = ((qr i : ℝ) : EReal))
    ∧ (∀ i, (show FVec Ideal S8x2x1024x64 .f32 from m (c, Proc.tc.devRef main_arg1)) i = ((kr i : ℝ) : EReal))
    ∧ (∀ i, (show FVec Ideal S8x2x256x64 .f32 from m (c, Proc.tc.devRef main_arg3)) i = ((cr i : ℝ) : EReal))

/-! The blocks of columns the body reads. -/

theorem ld0 (y : Fin 512) (x : Fin 128) :
    r0_0.idx (ix2 y x) = (ix2 y ⟨((0 : Fin 4) : Nat) * 128 + x.val, by omega⟩) := by
  blk_ext [r0_0] <;> simp [r0_0, Rect.idx_unit_val]

theorem ld1 (y : Fin 512) (x : Fin 128) :
    r0_1.idx (ix2 y x) = (ix2 y ⟨((1 : Fin 4) : Nat) * 128 + x.val, by omega⟩) := by
  blk_ext [r0_1] <;> simp [r0_1, Rect.idx_unit_val]

theorem ld4 (y : Fin 512) (x : Fin 128) :
    r0_4.idx (ix2 y x) = (ix2 y ⟨((2 : Fin 4) : Nat) * 128 + x.val, by omega⟩) := by
  blk_ext [r0_4] <;> simp [r0_4, Rect.idx_unit_val]

theorem ld5 (y : Fin 512) (x : Fin 128) :
    r0_5.idx (ix2 y x) = (ix2 y ⟨((3 : Fin 4) : Nat) * 128 + x.val, by omega⟩) := by
  blk_ext [r0_5] <;> simp [r0_5, Rect.idx_unit_val]

theorem ld2 (y : Fin 1024) (x : Fin 128) :
    r0_2.idx (ix2 y x) = (ix2 y ⟨((0 : Fin 4) : Nat) / 2 * 128 + x.val, by omega⟩) := by
  blk_ext [r0_2] <;> simp [r0_2, Rect.idx_unit_val]

theorem ld6 (y : Fin 1024) (x : Fin 128) :
    r0_6.idx (ix2 y x) = (ix2 y ⟨((2 : Fin 4) : Nat) / 2 * 128 + x.val, by omega⟩) := by
  blk_ext [r0_6] <;> simp [r0_6, Rect.idx_unit_val]

theorem ld3 (y : Fin 256) (x : Fin 128) :
    r0_3.idx (ix3 0 y x) = (ix3 0 y ⟨((0 : Fin 4) : Nat) / 2 * 128 + x.val, by omega⟩) := by
  blk_ext [r0_3] <;> simp [r0_3, Rect.idx_unit_val]

theorem ld7 (y : Fin 256) (x : Fin 128) :
    r0_7.idx (ix3 0 y x) = (ix3 0 y ⟨((2 : Fin 4) : Nat) / 2 * 128 + x.val, by omega⟩) := by
  blk_ext [r0_7] <;> simp [r0_7, Rect.idx_unit_val]

theorem pair_congr {Q Q' : Fin 128 → EReal} {K1 K1' : Fin 1024 → Fin 128 → EReal} {K2 K2' : Fin 256 → Fin 128 → EReal}
    {V1 V1' : Fin 1024 → EReal} {V2 V2' : Fin 256 → EReal} (l : Fin 128) (hQ : ∀ x, Q x = Q' x) (hK1 : ∀ k x, K1 k x = K1' k x)
    (hK2 : ∀ k x, K2 k x = K2' k x) (hV1 : ∀ k, V1 k = V1' k) (hV2 : ∀ k, V2 k = V2' k) :
    pair Q K1 K2 V1 V2 l = pair Q' K1' K2' V1' V2' l := by
  rw [funext hQ, funext fun k => funext (hK1 k), funext fun k => funext (hK2 k), funext hV1, funext hV2]

theorem tile (c : Dev nD) (hf : Finite m c) (t : Fin cfg0.N) (y : Fin 512) (u : Fin 4) (l : Fin 128)
    (i : S8192x512.Idx) (h0 : (i 0).val = t.val * 512 + y.val) (h1 : (i 1).val = u.val * 128 + l.val) :
    pair (fun x => (show FVec Ideal S512x512 .bf16 from iblk m c 0 t) (ix2 y ⟨u.val * 128 + x.val, by omega⟩))
      (fun k x => (show FVec Ideal S1024x256 .bf16 from iblk m c 1 t) (ix2 k ⟨u.val / 2 * 128 + x.val, by omega⟩))
      (fun k x => (show FVec Ideal S1x256x256 .bf16 from iblk m c 3 t) (ix3 0 k ⟨u.val / 2 * 128 + x.val, by omega⟩))
      (fun k => (show FVec Ideal S1024x256 .bf16 from iblk m c 2 t) (ix2 k ⟨u.val / 2 * 128 + l.val, by omega⟩))
      (fun k => (show FVec Ideal S1x256x256 .bf16 from iblk m c 4 t) (ix3 0 k ⟨u.val / 2 * 128 + l.val, by omega⟩)) l = ref m c i := by
  obtain ⟨qr, kr, cr, hq, hk, hc⟩ := hf
  have h16 := lt16 t
  refine core _ _ _ _ _ qr kr cr hq hk hc (bat t) (tok t y) u l _ _ _ _ _ (fun x => ?_) (fun k x => ?_) (fun k x => ?_) (fun k => ?_) (fun k => ?_) i ?_ h1
  · rw [q_at]
    refine congrArg (· * _) (congrArg _ ((ix4_inj ..).2 ⟨rfl, ?_, rfl, ?_⟩)) <;> apply Fin.ext <;> simp only <;> omega
  · rw [k_at]
    refine congrArg _ ((ix4_inj ..).2 ⟨rfl, ?_, rfl, ?_⟩) <;> apply Fin.ext <;> simp only <;> omega
  · rw [ck_at]
    refine congrArg _ ((ix4_inj ..).2 ⟨rfl, ?_, rfl, ?_⟩) <;> apply Fin.ext <;> simp only <;> omega
  · rw [v_at]
    refine congrArg _ ((ix4_inj ..).2 ⟨rfl, ?_, rfl, ?_⟩) <;> apply Fin.ext <;> simp only <;> omega
  · rw [cv_at]
    refine congrArg _ ((ix4_inj ..).2 ⟨rfl, ?_, rfl, ?_⟩) <;> apply Fin.ext <;> simp only <;> omega
  · rw [h0]
    simp only [bat, tok]
    omega

theorem point (c : Dev nD) (hf : Finite m c) (t : Fin cfg0.N) (y : S512x512.Idx) (i : S8192x512.Idx)
    (hi0 : (i 0).val = t.val * 512 + (y 0).val) (hi1 : (i 1).val = (y 1).val) :
    Gen.out0_5 (iblk m c 0 t) (iblk m c 1 t) (iblk m c 2 t) (iblk m c 3 t) (iblk m c 4 t) y = ref m c i := by
  unfold_out out0_5
  canon_tiles x h
  · idx_vars x
    refine (piece3 _ _ _ _ _ _ x0 x1).trans ((pair_congr x1
      (fun x => congrArg (iblk m c 0 t) (ld5 x0 x)) (fun k x => congrArg (iblk m c 1 t) (ld6 k x)) (fun k x => congrArg (iblk m c 3 t) (ld7 k x))
      (fun k => congrArg (iblk m c 2 t) (ld6 k x1)) (fun k => congrArg (iblk m c 4 t) (ld7 k x1))).trans
      (tile m c hf t x0 3 x1 i (by rw [hi0, h0]) (by rw [hi1, h1]; simp)))
  · idx_vars x
    refine (piece2 _ _ _ _ _ _ x0 x1).trans ((pair_congr x1
      (fun x => congrArg (iblk m c 0 t) (ld4 x0 x)) (fun k x => congrArg (iblk m c 1 t) (ld6 k x)) (fun k x => congrArg (iblk m c 3 t) (ld7 k x))
      (fun k => congrArg (iblk m c 2 t) (ld6 k x1)) (fun k => congrArg (iblk m c 4 t) (ld7 k x1))).trans
      (tile m c hf t x0 2 x1 i (by rw [hi0, h0]) (by rw [hi1, h1]; simp)))
  · idx_vars x
    refine (piece23 _ _ _ _ _ _ x0 x1).trans ((pair_congr x1
      (fun x => congrArg (iblk m c 0 t) (ld1 x0 x)) (fun k x => congrArg (iblk m c 1 t) (ld2 k x)) (fun k x => congrArg (iblk m c 3 t) (ld3 k x))
      (fun k => congrArg (iblk m c 2 t) (ld2 k x1)) (fun k => congrArg (iblk m c 4 t) (ld3 k x1))).trans
      (tile m c hf t x0 1 x1 i (by rw [hi0, h0]) (by rw [hi1, h1]; simp)))
  · idx_vars x
    refine (piece22 _ _ _ _ _ _ x0 x1).trans ((pair_congr x1
      (fun x => congrArg (iblk m c 0 t) (ld0 x0 x)) (fun k x => congrArg (iblk m c 1 t) (ld2 k x)) (fun k x => congrArg (iblk m c 3 t) (ld3 k x))
      (fun k => congrArg (iblk m c 2 t) (ld2 k x1)) (fun k => congrArg (iblk m c 4 t) (ld3 k x1))).trans
      (tile m c hf t x0 0 x1 i (by rw [hi0, h0]) (by rw [hi1, h1]; simp)))

theorem final (c : Dev nD) (hf : Finite m c) : (dats m 0 c).arrAt 5 (cfgs 0).N = ref m c := by
  refine (dats m 0 c).arrAt_eq_of_covers 5 _ (by decide +kernel) fun t _ y => ?_
  blk_simp
  rw [after0_5]
  frame_out
  refine point m c hf t y _ ?_ ?_
  · blk_simp [idx t]
    trace_state
  · blk_simp [idx t]
    trace_state

end Cert.GqaIdeal.Heads

end
-- ==== Proof.GqaFinite.lean ====
/-
What the precondition says of the arguments: queries and keys are reals.
-/
module

public import proofs.«01_k».proof.Defs
public import proofs.«01_k».proof.Proof.Gen.Pre_gqa_finite
public import proofs.«01_k».proof.Proof.GqaValue

@[expose] public section

set_option maxRecDepth 16384

noncomputable section

open Idealize.ShloMosaic Idealize.ShloMosaic.TcCoe Idealize.SL.Sem

namespace Cert.GqaIdeal.Heads

open Cert.GqaIdeal Cert.GqaIdeal.Gen

theorem inf_word : Ideal.ofBits .f32 0x7F800000#32 = (⊤ : EReal) := by
  simp [Ideal.ofBits, Ideal.ieee]

/-- An extended real whose absolute value is below +∞ is a real. -/
theorem real_of_abs (x : EReal) (h : Ideal.cmp .olt (max x (-x) : EReal) (Ideal.ofBits .f32 0x7F800000#32) = 1#1) : x = ((x.toReal : ℝ) : EReal) := by
  rw [inf_word] at h
  induction x using EReal.rec with
  | bot => simp [Ideal.cmp] at h
  | coe r => rfl
  | top => simp [Ideal.cmp] at h

theorem finite_of_pre (m : (ℓ : Loc nD τ sig) → Buf (Elt Ideal) ℓ) (h : Cert.Pre_GqaIdeal_gqa_finite m) (c : Dev nD) : Finite m c := by
  obtain ⟨hq, hk, hc⟩ := h c
  refine ⟨_, _, _, fun i => real_of_abs _ ?_, fun i => real_of_abs _ ?_, fun i => real_of_abs _ ?_⟩
  · exact congrFun hq i
  · exact congrFun hk i
  · exact congrFun hc i

end Cert.GqaIdeal.Heads

end
-- ==== Proof.ConvFfn.lean ====
/-
The mixing and ConvFFN call as mathematics, row by row over the extended reals: the gated attention projection, the
modulated norm, the up product, the convolution over three neighbouring rows of a sequence, the gated unit, the down
product and the last norm. Both programs are shown to compute `Data.result`.
-/
module

public import Idealize.ShloMosaic.Lib.Pipeline.ValueKit

@[expose] public section

noncomputable section

open Idealize.ShloMosaic

namespace Cert.ConvFfn

/-- Everything the call reads, addressed by one of 8192 rows of a stream whose sequences are `n` rows long; `K` is the
joined heads' width. -/
structure Data (K : ℕ := 1024) where
  /-- The length of a sequence. -/
  n : ℕ
  /-- The residual stream. -/
  x : Fin 8192 → Fin 1024 → EReal
  /-- The attention's joined heads. -/
  att : Fin 8192 → Fin K → EReal
  /-- The gate of the attention, the shift, the scale and the gate of the ConvFFN. -/
  gm : Fin 8192 → Fin 1024 → EReal
  sh : Fin 8192 → Fin 1024 → EReal
  sc : Fin 8192 → Fin 1024 → EReal
  gt : Fin 8192 → Fin 1024 → EReal
  /-- The weights. -/
  w : Fin K → Fin 1024 → EReal
  g : Fin 1024 → EReal
  gf : Fin 1024 → EReal
  wu : Fin 1024 → Fin 5632 → EReal
  cw : Fin 3 → Fin 5632 → EReal
  cb : Fin 5632 → EReal
  wd : Fin 2816 → Fin 1024 → EReal

/-- A row divided by the root of its mean square. -/
def rms (y : Fin 1024 → EReal) (c : Fin 1024) : EReal :=
  y c * Ideal.rsqrt (Ideal.div (∑ k : Fin 1024, y k * y k) (Ideal.ofBits FTy.f32 1149239296#32)
    + Ideal.ofBits FTy.f32 897988541#32)

variable {K : ℕ} (D : Data K)

/-- The stream after the attention. -/
def Data.mix (R : Fin 8192) (c : Fin 1024) : EReal := D.x R c + D.gm R c * ∑ k : Fin K, D.att R k * D.w k c

/-- The modulated norm. -/
def Data.hid (R : Fin 8192) (c : Fin 1024) : EReal := rms (D.mix R) c * D.g c * (1 + D.sc R c) + D.sh R c

/-- The up product. -/
def Data.up (R : Fin 8192) (f : Fin 5632) : EReal := ∑ k : Fin 1024, D.hid R k * D.wu k f

/-- The up product one row before in the sequence, or zero. -/
def Data.prev (R : Fin 8192) (f : Fin 5632) : EReal :=
  if (R : ℕ) % D.n = 0 then 0 else D.up ⟨((R : ℕ) + 8191) % 8192, Nat.mod_lt _ (by decide)⟩ f

/-- The up product one row after in the sequence, or zero. -/
def Data.next (R : Fin 8192) (f : Fin 5632) : EReal :=
  if (R : ℕ) % D.n = D.n - 1 then 0 else D.up ⟨((R : ℕ) + 1) % 8192, Nat.mod_lt _ (by decide)⟩ f

/-- The convolution. -/
def Data.conv (R : Fin 8192) (f : Fin 5632) : EReal :=
  D.prev R f * D.cw 0 f + D.up R f * D.cw 1 f + D.next R f * D.cw 2 f + D.cb f

/-- The gated unit. -/
def Data.act (R : Fin 8192) (f : Fin 2816) : EReal :=
  D.conv R ⟨f, by omega⟩ * Ideal.div 1 (1 + Ideal.exp (-D.conv R ⟨f, by omega⟩)) * D.conv R ⟨2816 + f, by omega⟩

/-- The stream after the ConvFFN. -/
def Data.out (R : Fin 8192) (c : Fin 1024) : EReal := D.mix R c + D.gt R c * ∑ f : Fin 2816, D.act R f * D.wd f c

/-- The result. -/
def Data.result (R : Fin 8192) (c : Fin 1024) : EReal := rms (D.out R) c * D.gf c

end Cert.ConvFfn

end
-- ==== Proof.Projection.lean ====
/-
A projection call as mathematics, row by row over the extended reals: the modulated norm of the stream and its product
with the weights; and the scale the queries carry.
-/
module

public import proofs.«01_k».proof.Proof.ConvFfn

@[expose] public section

noncomputable section

open Idealize.ShloMosaic

namespace Cert.Projection

/-- Everything a projection reads, addressed by one of the stream's 8192 rows; `W` is the number of projected columns. -/
structure Data (W : ℕ) where
  /-- The stream. -/
  x : Fin 8192 → Fin 1024 → EReal
  /-- The shift and the scale of the norm. -/
  sh : Fin 8192 → Fin 1024 → EReal
  sc : Fin 8192 → Fin 1024 → EReal
  /-- The norm's gain and the weights. -/
  g : Fin 1024 → EReal
  w : Fin 1024 → Fin W → EReal

variable {W : ℕ} (D : Data W)

/-- The modulated norm. -/
def Data.hid (R : Fin 8192) (c : Fin 1024) : EReal := ConvFfn.rms (D.x R) c * D.g c * (1 + D.sc R c) + D.sh R c

/-- The projection. -/
def Data.proj (R : Fin 8192) (f : Fin W) : EReal := ∑ k : Fin 1024, D.hid R k * D.w k f

/-- The scale of the queries. -/
def scale : EReal := ((8⁻¹ * (Real.log 2)⁻¹ : ℝ) : EReal)

/-- The same as the quotient the reference writes. -/
theorem scale_eq : Ideal.div (Ideal.ofBits .f32 0x3E000000#32) (Ideal.log (Ideal.ofBits .f32 0x40000000#32)) = scale := by
  have h1 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h1, h2]
  unfold scale
  have h3 : Ideal.log ((2 : ℝ) : EReal) = ((Real.log 2 : ℝ) : EReal) := by
    show (if (2 : ℝ) ≤ 0 then (⊥ : EReal) else ((Real.log 2 : ℝ) : EReal)) = _
    rw [if_neg (by norm_num)]
  rw [h3, Ideal.div_coe (Real.log_pos (by norm_num)).ne', ← EReal.coe_mul]
  norm_num

end Cert.Projection

end
-- ==== Proof.HeadNorm.lean ====
/-
The head norms and the gates of the first projection calls as mathematics: a head's 64 entries divided by the root of
their mean square, sums over half a vector's lanes, and the gate's sigmoid.
-/
module

public import proofs.«01_k».proof.Proof.Projection

@[expose] public section

noncomputable section

open Idealize.ShloMosaic

namespace Cert.Projection

/-- A head's entries divided by the root of their mean square. -/
def hrms (y : Fin 64 → EReal) (d : Fin 64) : EReal :=
  y d * Ideal.rsqrt (Ideal.div (∑ k : Fin 64, y k * y k) (Ideal.ofBits FTy.f32 0x42800000#32)
    + Ideal.ofBits FTy.f32 0x358637BD#32)

/-- A product with 1/64 is a quotient by 64. -/
theorem mean64 (s : EReal) :
    s * Ideal.ofBits .f32 0x3C800000#32 = Ideal.div s (Ideal.ofBits .f32 0x42800000#32) := by
  have h1 : Ideal.ofBits .f32 0x3C800000#32 = ((1 / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div_coe (by norm_num)]

/-- A number times its sigmoid. -/
def silu (x : EReal) : EReal :=
  x * Ideal.div (Ideal.ofBits .f32 0x3F800000#32) (Ideal.ofBits .f32 0x3F800000#32 + Ideal.exp (-x))

/-- The sum over the first half of the lanes. -/
theorem sum_lo (f : Fin 128 → EReal) :
    (∑ l : Fin 128, if l.val < 64 then f l else 0) = ∑ k : Fin 64, f ⟨k.val, by omega⟩ := by
  refine (Fin.sum_univ_add (a := 64) (b := 64) (fun l => if l.val < 64 then f l else 0)).trans ?_
  simp [Fin.castAdd, Fin.castLE]

/-- The sum over the second half of the lanes. -/
theorem sum_hi (f : Fin 128 → EReal) :
    (∑ l : Fin 128, if l.val < 64 then 0 else f l) = ∑ k : Fin 64, f ⟨64 + k.val, by omega⟩ := by
  refine (Fin.sum_univ_add (a := 64) (b := 64) (fun l => if l.val < 64 then 0 else f l)).trans ?_
  simp [Fin.natAdd]

variable {W : ℕ} (D : Data W)

/-- The head whose projected columns lie from `o` on, with its norm and gain. -/
def Data.head (g : Fin 64 → EReal) (R : Fin 8192) (o : ℕ) (ho : o + 64 ≤ W) (d : Fin 64) : EReal :=
  hrms (fun k => D.proj R ⟨o + k.val, Nat.lt_of_lt_of_le (Nat.add_lt_add_left k.isLt o) ho⟩) d * g d

theorem Data.head_congr {g : Fin 64 → EReal} {R R' : Fin 8192} {o o' : ℕ} {ho : o + 64 ≤ W} {ho' : o' + 64 ≤ W} {d d' : Fin 64}
    (hR : R = R') (h : o = o') (hd : d = d') : D.head g R o ho d = D.head g R' o' ho' d' := by
  subst hR h hd
  rfl

end Cert.Projection

end
-- ==== Proof.EvenBlocks.lean ====
/-
The blocks the context stream's first projection call reads at a grid point: which entry of which argument each holds.
-/
module

public import proofs.«01_k».proof.Proof.HeadNorm
public import proofs.«01_k».proof.Proof.Gen.EvenIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenIdeal.Mix

open Cert.EvenIdeal Cert.EvenIdeal.Gen

local notation "V" => FVec Idealize.ShloMosaic.Ideal

/-- What the call reads, out of the argument arrays. -/
def data (x : V S32x256x1024 .f32) (m : V S1x6144 .f32) (g : V S2x1024 .f32) (w : V S1024x3840 .f32) : Projection.Data 3840 where
  x R c := x (ix3 ⟨R / 256, by omega⟩ ⟨R % 256, by omega⟩ c)
  sh R c := m (ix2 0 ⟨0 + c, by omega⟩)
  sc R c := m (ix2 0 ⟨1024 + c, by omega⟩)
  g c := g (ix2 0 c)
  w k f := w (ix2 k f)

variable (m : (ℓ : Loc nD τ sig) → Buf (Elt Ideal) ℓ)

/-- The same, out of the launch memory. -/
abbrev dat (c : Dev nD) : Projection.Data 3840 :=
  data (m (c, Proc.tc.devRef main_arg0)) (m (c, Proc.tc.devRef main_arg1)) (m (c, Proc.tc.devRef main_arg2))
    (m (c, Proc.tc.devRef main_arg3))

/-- The gains of the two head norms. -/
def gains (g : V S64 .f32) (d : Fin 64) : EReal := g (ix1 d)

/-- Where each window stands at a grid point. -/
theorem idx : ∀ t : Fin cfg0.N, win0_0.index t = ![t.val, 0] ∧ win0_1.index t = ![0, 0, 0, 0, 0]
    ∧ win0_2.index t = ![0, 0, 1, 0, 0] ∧ win0_3.index t = ![0, 0] ∧ win0_4.index t = ![0, 0]
    ∧ win0_5.index t = ![0, 0] ∧ win0_6.index t = ![0, 0]
    ∧ win0_7.index t = ![0, t.val, 0] ∧ win0_8.index t = ![0, t.val, 0] ∧ win0_9.index t = ![0, t.val, 0] ∧ win0_10.index t = ![0, t.val, 0] ∧ win0_11.index t = ![t.val, 0] ∧ win0_12.index t = ![t.val, 0] ∧ win0_13.index t = ![t.val, 0]
    ∧ win0_14.index t = ![t.val, 0, 0, 0, 0] ∧ win0_15.index t = ![t.val, 0, 0, 0, 0] :=
  (by decide +kernel : ∀ t : Fin grid0.N, _)

theorem lt16 (t : Fin cfg0.N) : t.val < 16 := lt_of_lt_of_eq t.isLt (by decide)

/-- The row of the stream a row of a grid point's tile is. -/
def row (t : Fin cfg0.N) (r : Fin 512) : Fin 8192 := ⟨t.val * 512 + r.val, by have := lt16 t; omega⟩

theorem x_at (c : Dev nD) (t : Fin cfg0.N) (y : Fin 512) (x : Fin 1024) :
    (show V S512x1024 .f32 from iblk m c 0 t) (ix2 y x) = (dat m c).x (row t y) x := by
  unfold dat data row
  blk_simp [iblk, idx t]
  simp only [Gen.V, Gen.V0, hostOps0, hostOps0_1, hostOps0_2, List.flatten_cons, List.flatten_nil, List.cons_append, List.nil_append, List.append_nil]
  entry_read
  pointwise
  have h16 := lt16 t
  blk_ext [idx t]

theorem sh_at (c : Dev nD) (t : Fin cfg0.N) (y : Fin 512) (x : Fin 1024) :
    (show V S1x1x1x1x1024 .f32 from iblk m c 1 t) (ix5 0 0 0 0 x) = (dat m c).sh (row t y) x := by
  unfold dat data row
  blk_simp [iblk, idx t]
  simp only [Gen.V, Gen.V0, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h16 := lt16 t
  rw [dif_pos (by blk_simp [idx t]; omega)]
  blk_ext [idx t]

theorem sc_at (c : Dev nD) (t : Fin cfg0.N) (y : Fin 512) (x : Fin 1024) :
    (show V S1x1x1x1x1024 .f32 from iblk m c 2 t) (ix5 0 0 0 0 x) = (dat m c).sc (row t y) x := by
  unfold dat data row
  blk_simp [iblk, idx t]
  simp only [Gen.V, Gen.V0, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h16 := lt16 t
  rw [dif_pos (by blk_simp [idx t]; omega)]
  blk_ext [idx t]

theorem g_at (c : Dev nD) (t : Fin cfg0.N) (x : Fin 1024) :
    (show V S1x1024 .f32 from iblk m c 3 t) (ix2 0 x) = (dat m c).g x := by
  unfold dat data
  blk_simp [iblk, idx t]
  simp only [Gen.V, Gen.V0, hostOps0, hostOps0_1, hostOps0_2, List.flatten_cons, List.flatten_nil, List.cons_append, List.nil_append, List.append_nil]
  entry_read
  pointwise
  blk_ext [idx t]

theorem w_at (c : Dev nD) (t : Fin cfg0.N) (k : Fin 1024) (f : Fin 3840) :
    (show V S1024x3840 .bf16 from iblk m c 4 t) (ix2 k f) = (dat m c).w k f := by
  unfold dat data
  blk_simp [iblk, idx t]
  simp only [Gen.V, Gen.V0, hostOps0, hostOps0_1, hostOps0_2, List.flatten_cons, List.flatten_nil, List.cons_append, List.nil_append, List.append_nil]
  entry_read
  pointwise
  blk_ext [idx t]

theorem qg_at (c : Dev nD) (t : Fin cfg0.N) (x : Fin 128) :
    (show V S1x128 .f32 from iblk m c 5 t) (ix2 0 x) = gains (m (c, Proc.tc.devRef main_arg4)) ⟨x.val % 64, by omega⟩ := by
  unfold gains
  blk_simp [iblk, idx t]
  simp only [Gen.V, Gen.V0, hostOps0, hostOps0_1, hostOps0_2, List.flatten_cons, List.flatten_nil, List.cons_append, List.nil_append, List.append_nil]
  entry_read
  pointwise
  blk_ext [idx t]

theorem kg_at (c : Dev nD) (t : Fin cfg0.N) (x : Fin 128) :
    (show V S1x128 .f32 from iblk m c 6 t) (ix2 0 x) = gains (m (c, Proc.tc.devRef main_arg5)) ⟨x.val % 64, by omega⟩ := by
  unfold gains
  blk_simp [iblk, idx t]
  simp only [Gen.V, Gen.V0, hostOps0, hostOps0_1, hostOps0_2, List.flatten_cons, List.flatten_nil, List.cons_append, List.nil_append, List.append_nil]
  entry_read
  pointwise
  blk_ext [idx t]

end Cert.EvenIdeal.Mix

end
-- ==== Proof.EvenOps.lean ====
/-
The vector operations the context stream's first projection call stores, and the value of each at an index: the modulated
norm, the products with column blocks, the gates, the two heads' norm in one vector of 128 lanes, and the rotation that
writes each key and value head twice.
-/
module

public import proofs.«01_k».proof.Proof.EvenBlocks

@[expose] public section

set_option maxRecDepth 16384

noncomputable section

open Idealize.ShloMosaic Idealize.ShloMosaic.TcCoe Idealize.SL.Sem
open Idealize.ShloMosaic.Pipeline (Dat)

namespace Cert.EvenIdeal.Mix

open Cert.EvenIdeal Cert.EvenIdeal.Gen

local notation "V" => FVec Idealize.ShloMosaic.Ideal

/-- A row divided by the root of its mean square. -/
def rmsT (y : V S512x1024 .f32) : V S512x1024 .f32 :=
  mulf y (broadcastTo S512x1024
    (rsqrt (addf (divf (shapeCast S512x1
        (multiReduction .add [1] S512 (mulf y y) 0x00000000#32 reduces_S512x1024_S512 (.inl rfl) rfl) shapeCasts_S512_S512x1)
      (broadcast S512x1 (Scalar.ofBits .f32 0x44800000#32 : Idealize.ShloMosaic.Ideal .f32)))
      (broadcast S512x1 (Scalar.ofBits .f32 0x358637BD#32 : Idealize.ShloMosaic.Ideal .f32))))
    broadcasts_S512x1_S512x1024)

theorem rmsT_at (y : V S512x1024 .f32) (r : Fin 512) (c : Fin 1024) :
    rmsT y (ix2 r c) = ConvFfn.rms (fun k => y (ix2 r k)) c := by
  unfold ConvFfn.rms
  pointwise [rmsT]

/-- The normalised row with its gain, scale and shift. -/
def hidT (y : V S512x1024 .f32) (g : V S1x1024 .f32) (sc sh : V S1x1x1x1x1024 .f32) : V S512x1024 .bf16 :=
  truncf .bf16 (addf (mulf
      (mulf (rmsT (shapeCast S512x1024 y shapeCasts_S512x1024_S512x1024)) (broadcastTo S512x1024 (shapeCast S1x1024 g shapeCasts_S1x1024_S1x1024) broadcasts_S1x1024_S512x1024))
      (broadcastTo S512x1024 (addf (broadcast S1x1024 (Scalar.ofBits .f32 0x3F800000#32 : Idealize.ShloMosaic.Ideal .f32))
        (shapeCast S1x1024 sc shapeCasts_S1x1x1x1x1024_S1x1024)) broadcasts_S1x1024_S512x1024))
      (broadcastTo S512x1024 (shapeCast S1x1024 sh shapeCasts_S1x1x1x1x1024_S1x1024) broadcasts_S1x1024_S512x1024))
      bitsLt_bf16_f32

theorem pay_hid (y : V S512x1024 .f32) (g : V S1x1024 .f32) (sc sh : V S1x1x1x1x1024 .f32) :
    k0_pay8 (F := Ideal) y g sc sh = hidT y g sc sh := rfl

/-- The modulated norm of a tile whose operands hold a row's data. -/
theorem hid_at (D : Projection.Data 3840) (R : Fin 8192) (y : V S512x1024 .f32) (g : V S1x1024 .f32)
    (sc sh : V S1x1x1x1x1024 .f32) (r : Fin 512) (c : Fin 1024) (h0 : ∀ k, y (ix2 r k) = D.x R k)
    (h1 : g (ix2 0 c) = D.g c) (h2 : sc (ix5 0 0 0 0 c) = D.sc R c) (h3 : sh (ix5 0 0 0 0 c) = D.sh R c) :
    k0_pay8 (F := Ideal) y g sc sh (ix2 r c) = D.hid R c := by
  have e : shapeCast S512x1024 y shapeCasts_S512x1024_S512x1024 = y := by
    funext i
    rw [Idealize.ShloMosaic.eq_ix2 i]
    pointwise
  rw [pay_hid]
  unfold hidT Projection.Data.hid
  rw [e, ← funext h0, ← rmsT_at, ← h1, ← h2, ← h3]
  generalize hz : rmsT y = z
  pointwise [hz]

/-- The norm of the two heads a vector of 128 lanes holds, with the gains. -/
def normT (y : V S512x128 .f32) (gn : V S1x128 .f32) : V S512x128 .f32 :=
  mulf (mulf y (select k0_pay9
    (broadcastTo S512x128 (shapeCast S512x1 (rsqrt (addf (mulf (shapeCast S512x1
        (multiReduction .add [1] S512 (select k0_pay9 (mulf y y) (broadcast S512x128 (Scalar.ofBits .f32 0x00000000#32 : Idealize.ShloMosaic.Ideal .f32)))
          0x00000000#32 reduces_S512x128_S512 (.inl rfl) rfl) shapeCasts_S512_S512x1)
        (broadcast S512x1 (Scalar.ofBits .f32 0x3C800000#32 : Idealize.ShloMosaic.Ideal .f32)))
        (broadcast S512x1 (Scalar.ofBits .f32 0x358637BD#32 : Idealize.ShloMosaic.Ideal .f32)))) shapeCasts_S512x1_S512x1) broadcasts_S512x1_S512x128)
    (broadcastTo S512x128 (shapeCast S512x1 (rsqrt (addf (mulf (shapeCast S512x1
        (multiReduction .add [1] S512 (select k0_pay9 (broadcast S512x128 (Scalar.ofBits .f32 0x00000000#32 : Idealize.ShloMosaic.Ideal .f32)) (mulf y y))
          0x00000000#32 reduces_S512x128_S512 (.inl rfl) rfl) shapeCasts_S512_S512x1)
        (broadcast S512x1 (Scalar.ofBits .f32 0x3C800000#32 : Idealize.ShloMosaic.Ideal .f32)))
        (broadcast S512x1 (Scalar.ofBits .f32 0x358637BD#32 : Idealize.ShloMosaic.Ideal .f32)))) shapeCasts_S512x1_S512x1) broadcasts_S512x1_S512x128)))
    (broadcastTo S512x128 gn broadcasts_S1x128_S512x128)

/-- The mask of the first 64 lanes, as a choice. -/
theorem mask_at {α : Type} (r : Fin 512) (l : Fin 128) (x y : α) :
    Scalar.select (k0_pay9 (ix2 r l)) x y = if l.val < 64 then x else y := by
  have key : ∀ l : Fin 128, IntOp.cmpi .slt (BitVec.ofNat 32 l.val) 64#32 = if l.val < 64 then 1#1 else 0#1 := by
    decide +kernel
  pointwise [k0_pay9]
  rw [key l]
  split <;> rfl

theorem lo_at (y : V S512x128 .f32) (r : Fin 512) :
    multiReduction .add [1] S512 (select k0_pay9 (mulf y y) (broadcast S512x128 (Scalar.ofBits .f32 0x00000000#32 : Idealize.ShloMosaic.Ideal .f32)))
          0x00000000#32 reduces_S512x128_S512 (.inl rfl) rfl (ix1 r)
      = ∑ k : Fin 64, y (ix2 r ⟨0 + k.val, by omega⟩) * y (ix2 r ⟨0 + k.val, by omega⟩) := by
  pointwise [mask_at]
  simp

theorem hi_at (y : V S512x128 .f32) (r : Fin 512) :
    multiReduction .add [1] S512 (select k0_pay9 (broadcast S512x128 (Scalar.ofBits .f32 0x00000000#32 : Idealize.ShloMosaic.Ideal .f32)) (mulf y y))
          0x00000000#32 reduces_S512x128_S512 (.inl rfl) rfl (ix1 r)
      = ∑ k : Fin 64, y (ix2 r ⟨64 + k.val, by omega⟩) * y (ix2 r ⟨64 + k.val, by omega⟩) := by
  pointwise [mask_at]
  simp

theorem normT_at (y : V S512x128 .f32) (gn : V S1x128 .f32) (r : Fin 512) (l : Fin 128) :
    normT y gn (ix2 r l)
      = Projection.hrms (fun k => y (ix2 r ⟨l.val / 64 * 64 + k.val, by omega⟩)) ⟨l.val % 64, by omega⟩ * gn (ix2 0 l) := by
  unfold normT
  have h1 := lo_at y r
  have h2 := hi_at y r
  generalize multiReduction .add [1] S512 (select k0_pay9 (mulf y y) (broadcast S512x128 (Scalar.ofBits .f32 0x00000000#32 : Idealize.ShloMosaic.Ideal .f32)))
          0x00000000#32 reduces_S512x128_S512 (.inl rfl) rfl = s1 at h1 ⊢
  generalize multiReduction .add [1] S512 (select k0_pay9 (broadcast S512x128 (Scalar.ofBits .f32 0x00000000#32 : Idealize.ShloMosaic.Ideal .f32)) (mulf y y))
          0x00000000#32 reduces_S512x128_S512 (.inl rfl) rfl = s2 at h2 ⊢
  generalize hS1 : (∑ k : Fin 64, y (ix2 r ⟨0 + k.val, by omega⟩) * y (ix2 r ⟨0 + k.val, by omega⟩)) = S1 at h1
  generalize hS2 : (∑ k : Fin 64, y (ix2 r ⟨64 + k.val, by omega⟩) * y (ix2 r ⟨64 + k.val, by omega⟩)) = S2 at h2
  pointwise [mask_at, h1, h2]
  rw [Projection.mean64, Projection.mean64]
  unfold Projection.hrms
  by_cases hl : l.val < 64
  · have e : (fun k : Fin 64 => y (ix2 r ⟨l.val / 64 * 64 + k.val, by omega⟩)) = fun k : Fin 64 => y (ix2 r ⟨0 + k.val, by omega⟩) :=
      funext fun k => congrArg (fun l => y (ix2 r l)) (Fin.ext (by simp only; omega))
    have e' : l = ⟨0 + l.val % 64, by omega⟩ := Fin.ext (by simp only; omega)
    rw [if_pos hl, e, ← hS1]
    exact congrArg (· * _ * _) (congrArg (fun l => y (ix2 r l)) e')
  · have e : (fun k : Fin 64 => y (ix2 r ⟨l.val / 64 * 64 + k.val, by omega⟩)) = fun k : Fin 64 => y (ix2 r ⟨64 + k.val, by omega⟩) :=
      funext fun k => congrArg (fun l => y (ix2 r l)) (Fin.ext (by simp only; omega))
    have e' : l = ⟨64 + l.val % 64, by omega⟩ := Fin.ext (by simp only; omega)
    rw [if_neg hl, e, ← hS2]
    exact congrArg (· * _ * _) (congrArg (fun l => y (ix2 r l)) e')

theorem pay10_at (y : V S512x1024 .f32) (g : V S1x1024 .f32) (sc sh : V S1x1x1x1x1024 .f32) (w : V S1024x512 .bf16)
    (r : Fin 512) (f : Fin 512) :
    k0_pay10 (F := Ideal) y g sc sh w (ix2 r f) = ∑ k : Fin 1024, k0_pay8 (F := Ideal) y g sc sh (ix2 r k) * w (ix2 k f) := by
  generalize hz : k0_pay8 (F := Ideal) y g sc sh = z
  pointwise [k0_pay10, hz]

theorem pay48_at (z : V S512x1024 .bf16) (w : V S1024x512 .bf16) (r : Fin 512) (f : Fin 512) :
    k0_pay48 (F := Ideal) z w (ix2 r f) = ∑ k : Fin 1024, z (ix2 r k) * w (ix2 k f) := by
  pointwise [k0_pay48]

theorem pay2_at (z : V S512x1024 .bf16) (w : V S1024x512 .bf16) (r : Fin 512) (f : Fin 512) :
    k0_pay2 (F := Ideal) z w (ix2 r f) = ∑ k : Fin 1024, z (ix2 r k) * w (ix2 k f) := by
  pointwise [k0_pay2]

theorem pay5_at (z : V S512x1024 .bf16) (w : V S1024x512 .bf16) (r : Fin 512) (f : Fin 512) :
    k0_pay5 (F := Ideal) z w (ix2 r f) = ∑ k : Fin 1024, z (ix2 r k) * w (ix2 k f) := by
  pointwise [k0_pay5]

theorem pay53_at (z : V S512x1024 .bf16) (w : V S1024x512 .bf16) (r : Fin 512) (f : Fin 512) :
    k0_pay53 (F := Ideal) z w (ix2 r f) = (∑ k : Fin 1024, z (ix2 r k) * w (ix2 k f)) * Ideal.ofBits .f32 0x3E000000#32 := by
  pointwise [k0_pay53]

theorem pay26_at (z : V S512x1024 .bf16) (w : V S1024x256 .bf16) (r : Fin 512) (f : Fin 256) :
    k0_pay26 (F := Ideal) z w (ix2 r f) = ∑ k : Fin 1024, z (ix2 r k) * w (ix2 k f) := by
  pointwise [k0_pay26]

theorem pay25_at (w : V S1024x256 .bf16) (k : Fin 1024) (f : Fin 256) : k0_pay25 (F := Ideal) w (ix2 k f) = w (ix2 k f) := by
  pointwise [k0_pay25]

/-- A product's gate. -/
def siluT (y : V S512x512 .f32) : V S512x512 .f32 :=
  mulf y (divf (broadcast S512x512 (Scalar.ofBits .f32 0x3F800000#32 : Idealize.ShloMosaic.Ideal .f32))
    (addf (broadcast S512x512 (Scalar.ofBits .f32 0x3F800000#32 : Idealize.ShloMosaic.Ideal .f32))
      (exp (subf (broadcast S512x512 (Scalar.ofBits .f32 0x00000000#32 : Idealize.ShloMosaic.Ideal .f32)) y))))

theorem siluT_at (y : V S512x512 .f32) (r f : Fin 512) : siluT y (ix2 r f) = Projection.silu (y (ix2 r f)) := by
  unfold Projection.silu
  pointwise [siluT]
  rw [zero_sub]

theorem pay58_at (z : V S512x1024 .bf16) (w : V S1024x512 .bf16) (r : Fin 512) (f : Fin 512) :
    k0_pay58 (F := Ideal) z w (ix2 r f) = Projection.silu (∑ k : Fin 1024, z (ix2 r k) * w (ix2 k f)) := by
  rw [← pay48_at, ← siluT_at]
  rfl

theorem pay61_at (z : V S512x1024 .bf16) (w : V S1024x512 .bf16) (r : Fin 512) (f : Fin 512) :
    k0_pay61 (F := Ideal) z w (ix2 r f) = Projection.silu (∑ k : Fin 1024, z (ix2 r k) * w (ix2 k f)) := by
  rw [← pay48_at, ← siluT_at]
  rfl

/-- A query piece: the norm of two heads' columns of a product, times the named constant. -/
def qT (s : V S512x128 .f32) (gn : V S1x128 .f32) : V S512x128 .bf16 :=
  truncf .bf16 (mulf (normT s gn)
    (broadcast S512x128 (Named.named κ "q_scale" 0x3E38AA3B#32 : Idealize.ShloMosaic.Ideal .f32))) bitsLt_bf16_f32

theorem qT_at (s : V S512x128 .f32) (gn : V S1x128 .f32) (r : Fin 512) (l : Fin 128) :
    qT s gn (ix2 r l)
      = Projection.hrms (fun k => s (ix2 r ⟨l.val / 64 * 64 + k.val, by omega⟩)) ⟨l.val % 64, by omega⟩ * gn (ix2 0 l) * Projection.scale := by
  have e : (Named.named (F := Ideal) κ "q_scale" 0x3E38AA3B#32 : Idealize.ShloMosaic.Ideal .f32) = Projection.scale :=
    IdealRules.named_const.ideal_named_scalar _ _ _ _ rfl
  rw [← normT_at]
  generalize hz : normT s gn = z
  pointwise [qT, e, hz]

theorem q0 (s : V S512x512 .f32) (gn : V S1x128 .f32) :
    k0_pay12 (F := Ideal) k0_pay9 s gn = qT (extractStridedSlice S512x128 ![0, 0] s slices_S512x512_o0_0_S512x128) gn := rfl

theorem q1 (s : V S512x512 .f32) (gn : V S1x128 .f32) :
    k0_pay18 (F := Ideal) k0_pay9 gn (k0_pay13 s) (k0_pay15 k0_pay9 s) (k0_pay16 k0_pay9 s) k0_pay17
      = qT (extractStridedSlice S512x128 ![0, 128] s slices_S512x512_o0_128_S512x128) gn := rfl

theorem q2 (s : V S512x512 .f32) (gn : V S1x128 .f32) :
    k0_pay23 (F := Ideal) k0_pay9 gn (k0_pay19 s) (k0_pay21 k0_pay9 s) (k0_pay22 k0_pay9 s)
      = qT (extractStridedSlice S512x128 ![0, 256] s slices_S512x512_o0_256_S512x128) gn := rfl

theorem q3 (s : V S512x512 .f32) (gn : V S1x128 .f32) :
    k0_pay24 (F := Ideal) k0_pay9 s gn = qT (extractStridedSlice S512x128 ![0, 384] s slices_S512x512_o0_384_S512x128) gn := rfl

theorem kn (z : V S512x1024 .bf16) (w : V S1024x256 .bf16) (gn : V S1x128 .f32) :
    k0_pay27 (F := Ideal) z k0_pay9 w gn
      = normT (extractStridedSlice S512x128 ![0, 0] (k0_pay26 (F := Ideal) z w) slices_S512x256_o0_0_S512x128)
          (shapeCast S1x128 gn shapeCasts_S1x128_S1x128) := rfl

/-- A head's lanes written twice: the first head's. -/
theorem twice_lo (z : V S512x128 .f32) (r : Fin 512) (l : Fin 128) :
    k0_pay43 (F := Ideal) k0_pay9 z (ix2 r l) = z (ix2 r ⟨0 + l.val % 64, by omega⟩) := by
  pointwise [k0_pay43, k0_pay42, mask_at]
  split <;> exact congrArg (fun l => z (ix2 r l)) (Fin.ext (by simp only; omega))

/-- The second head's. -/
theorem twice_hi (z : V S512x128 .f32) (r : Fin 512) (l : Fin 128) :
    k0_pay44 (F := Ideal) k0_pay9 z (ix2 r l) = z (ix2 r ⟨64 + l.val % 64, by omega⟩) := by
  pointwise [k0_pay44, k0_pay42, mask_at]
  split <;> exact congrArg (fun l => z (ix2 r l)) (Fin.ext (by simp only; omega))

theorem slice512_at (s : V S512x512 .f32) (o : ℕ) (ho : o + 128 ≤ 512) (h : S512x512.Slices ![0, o] S512x128) (r : Fin 512) (l : Fin 128) :
    extractStridedSlice S512x128 ![0, o] s h (ix2 r l) = s (ix2 r ⟨o + l.val, by omega⟩) := by
  pointwise

theorem slice256_at (s : V S512x256 .f32) (o : ℕ) (ho : o + 128 ≤ 256) (h : S512x256.Slices ![0, o] S512x128) (r : Fin 512) (l : Fin 128) :
    extractStridedSlice S512x128 ![0, o] s h (ix2 r l) = s (ix2 r ⟨o + l.val, by omega⟩) := by
  pointwise

theorem lane_at (gn : V S1x128 .f32) (l : Fin 128) : shapeCast S1x128 gn shapeCasts_S1x128_S1x128 (ix2 0 l) = gn (ix2 0 l) := by
  pointwise

/-- A block of 128 columns of a product, as a piece of a three-axis array. -/
theorem piece128 (s : V S512x512 .f32) (o : ℕ) (ho : o + 128 ≤ 512) (h : S512x512.Slices ![0, o] S512x128)
    (h' : S512x128.ShapeCasts S1x512x128) (a : Fin 1) (r : Fin 512) (l : Fin 128) :
    shapeCast S1x512x128 (extractStridedSlice S512x128 ![0, o] s h) h' (ix3 a r l) = s (ix2 r ⟨o + l.val, by omega⟩) := by
  pointwise

theorem piece256 {φ : FTy} (s : V S512x512 φ) (o : ℕ) (ho : o + 256 ≤ 512) (h : S512x512.Slices ![0, o] S512x256)
    (h' : S512x256.ShapeCasts S1x512x256) (a : Fin 1) (r : Fin 512) (l : Fin 256) :
    shapeCast S1x512x256 (extractStridedSlice S512x256 ![0, o] s h) h' (ix3 a r l) = s (ix2 r ⟨o + l.val, by omega⟩) := by
  pointwise

/-- One head's columns of one sample's rows, turned over. -/
theorem turned_at (s : V S512x128 .f32) (ra ho : ℕ) (ha : ra + 256 ≤ 512) (hh : ho + 64 ≤ 128)
    (h1 : S512x128.Slices ![ra, 0] S256x128) (h2 : S256x128.Transposes [1, 0] S128x256)
    (h3 : S128x256.Slices ![ho, 0] S64x256) (h4 : S64x256.ShapeCasts S1x1x1x64x256) (a0 a1 a2 : Fin 1) (d : Fin 64) (p : Fin 256) :
    shapeCast S1x1x1x64x256 (extractStridedSlice S64x256 ![ho, 0]
        (transpose S128x256 [1, 0] (extractStridedSlice S256x128 ![ra, 0] s h1) h2) h3) h4 (ix5 a0 a1 a2 d p)
      = s (ix2 ⟨ra + p.val, by omega⟩ ⟨ho + d.val, by omega⟩) := by
  pointwise

end Cert.EvenIdeal.Mix

end
-- ==== Proof.EvenReference.lean ====
/-
The reference of the context stream's first projection call, read at a row and a column: the modulated norm times the weights.
-/
module

public import proofs.«01_k».proof.Proof.Gen.EvenRefIdeal.Read
public import proofs.«01_k».proof.Proof.EvenBlocks
public import Idealize.ShloMosaic.Lib.Pointwise

@[expose] public section

set_option maxRecDepth 16384

noncomputable section

open Idealize.ShloMosaic Idealize.ShloMosaic.TcCoe Idealize.SL.Sem

namespace Cert.EvenRefIdeal.Rows

open Cert.EvenRefIdeal Cert.EvenRefIdeal.Gen Cert.EvenRefIdeal.Read

local notation "V" => FVec Idealize.ShloMosaic.Ideal

variable (x : V S32x256x1024 .f32) (m : V S1x6144 .f32) (g : V S2x1024 .f32) (w : V S1024x3840 .f32)
  (qg kg : V S64 .f32)

/-- The row of the stream a position of a sequence is. -/
def at' (b : Fin 32) (p : Fin 256) : Fin 8192 := ⟨b.val * 256 + p.val, by omega⟩

theorem div_at (b : Fin 32) (p : Fin 256) (h : (at' b p : ℕ) / 256 < 32) : (⟨(at' b p : ℕ) / 256, h⟩ : Fin 32) = b :=
  Fin.ext (by simp only [at']; omega)

theorem mod_at (b : Fin 32) (p : Fin 256) (h : (at' b p : ℕ) % 256 < 256) : (⟨(at' b p : ℕ) % 256, h⟩ : Fin 256) = p :=
  Fin.ext (by simp only [at']; omega)

theorem sum_at (b : Fin 32) (p : Fin 256) :
    val_main_v10 (F := Ideal) x (ix2 b p) = ∑ k : Fin 1024, x (ix3 b p k) * x (ix3 b p k) := by
  pointwise [val_main_v10, val_main_v9, val_main_cst]

theorem rms_at (b : Fin 32) (p : Fin 256) (c : Fin 1024) :
    val_main_v18 (F := Ideal) x (ix3 b p c) = ConvFfn.rms (fun k => x (ix3 b p k)) c := by
  unfold ConvFfn.rms
  rw [← sum_at x b p]
  generalize hs : val_main_v10 (F := Ideal) x = s
  pointwise [val_main_v18, val_main_v17, val_main_v16, val_main_v15, val_main_v14, val_main_cst_1, val_main_v13, val_main_v12,
    val_main_cst_0, val_main_v11, hs]

theorem hid_at (b : Fin 32) (p : Fin 256) (c : Fin 1024) :
    val_main_v27 (F := Ideal) x m g (ix3 b p c) = (Cert.EvenIdeal.Mix.data x m g w).hid (at' b p) c := by
  unfold Projection.Data.hid Cert.EvenIdeal.Mix.data
  simp only [div_at, mod_at]
  rw [← rms_at x b p c]
  generalize hs : val_main_v18 (F := Ideal) x = s
  pointwise [val_main_v27, val_main_v26, val_main_v25, val_main_v24, val_main_v23, val_main_v22, val_main_cst_2, val_main_v21,
    val_main_v20, val_main_v19, val_main_v8, val_main_v7, val_main_v2, val_main_v1, val_main_v0, hs]

theorem proj_at (b : Fin 32) (p : Fin 256) (f : Fin 3840) :
    val_main_v28 (F := Ideal) x m g w (ix3 b p f) = (Cert.EvenIdeal.Mix.data x m g w).proj (at' b p) f := by
  unfold Projection.Data.proj
  simp only [← hid_at x m g w]
  unfold Cert.EvenIdeal.Mix.data
  generalize hs : val_main_v27 (F := Ideal) x m g = s
  pointwise [val_main_v28, hs]

theorem row_at (R : Fin 8192) (h : (R : ℕ) / 256 < 32) (h' : (R : ℕ) % 256 < 256) : at' ⟨(R : ℕ) / 256, h⟩ ⟨(R : ℕ) % 256, h'⟩ = R :=
  Fin.ext (by simp only [at']; omega)

/-- The projection, by the row of the stream. -/
theorem proj_row (R : Fin 8192) (h : (R : ℕ) / 256 < 32) (h' : (R : ℕ) % 256 < 256) (f : Fin 3840) :
    val_main_v28 (F := Ideal) x m g w (ix3 ⟨(R : ℕ) / 256, h⟩ ⟨(R : ℕ) % 256, h'⟩ f) = (Cert.EvenIdeal.Mix.data x m g w).proj R f :=
  (proj_at x m g w ..).trans (by rw [row_at])

/-- The retention's queries, two heads side by side. -/
theorem qr_at (p : Fin 4) (R : Fin 8192) (c : Fin 128) :
    val_main_v69 (F := Ideal) x m g w (ix3 p R c) = (Cert.EvenIdeal.Mix.data x m g w).proj R ⟨0 + (p.val * 128 + c.val), by omega⟩ := by
  rw [← proj_row x m g w R (by omega) (by omega)]
  generalize hs : val_main_v28 (F := Ideal) x m g w = s
  pointwise [val_main_v69, val_main_v68, val_main_v29, hs]

/-- The retention's keys. -/
theorem kr_at (p : Fin 4) (R : Fin 8192) (c : Fin 128) :
    val_main_v71 (F := Ideal) x m g w (ix3 p R c) = (Cert.EvenIdeal.Mix.data x m g w).proj R ⟨512 + (p.val * 128 + c.val), by omega⟩ * Ideal.ofBits .f32 0x3E000000#32 := by
  rw [← proj_row x m g w R (by omega) (by omega)]
  generalize hs : val_main_v28 (F := Ideal) x m g w = s
  pointwise [val_main_v71, val_main_v70, val_main_v37, val_main_v36, val_main_cst_3, val_main_v30, hs]

/-- The retention's values. -/
theorem vr_at (p : Fin 4) (R : Fin 8192) (c : Fin 256) :
    val_main_v74 (F := Ideal) x m g w (ix3 p R c) = (Cert.EvenIdeal.Mix.data x m g w).proj R ⟨1024 + (p.val * 256 + c.val), by omega⟩ := by
  rw [← proj_row x m g w R (by omega) (by omega)]
  generalize hs : val_main_v28 (F := Ideal) x m g w = s
  pointwise [val_main_v74, val_main_v73, val_main_v72, val_main_v31, hs]

/-- The retention's gates. -/
theorem gr_at (p : Fin 4) (R : Fin 8192) (c : Fin 256) :
    val_main_v76 (F := Ideal) x m g w (ix3 p R c) = Projection.silu ((Cert.EvenIdeal.Mix.data x m g w).proj R ⟨2048 + (p.val * 256 + c.val), by omega⟩) := by
  rw [← proj_row x m g w R (by omega) (by omega)]
  unfold Projection.silu
  generalize hs : val_main_v28 (F := Ideal) x m g w = s
  pointwise [val_main_v76, val_main_v75, val_main_v38, val_main_call0_v5, val_main_call0_v4, val_main_call0_cst_0, val_main_call0_v3, val_main_call0_v2, val_main_call0_cst, val_main_call0_v1, val_main_call0_v0, val_main_v32, hs]

/-- A head's sum of squares. -/
theorem qsum_at (b : Fin 32) (p : Fin 256) (h : Fin 8) :
    val_main_v41 (F := Ideal) x m g w (ix3 b p h) = ∑ k : Fin 64, (Cert.EvenIdeal.Mix.data x m g w).proj (at' b p) ⟨3072 + (h.val * 64 + k.val), by omega⟩ * (Cert.EvenIdeal.Mix.data x m g w).proj (at' b p) ⟨3072 + (h.val * 64 + k.val), by omega⟩ := by
  simp only [← proj_at x m g w]
  generalize hs : val_main_v28 (F := Ideal) x m g w = s
  pointwise [val_main_v41, val_main_v40, val_main_v39, val_main_v33, val_main_cst_4, hs]

/-- A head's normalised entries. -/
theorem qhead_at (b : Fin 32) (p : Fin 256) (h : Fin 8) (d : Fin 64) :
    val_main_v52 (F := Ideal) x m g w qg (ix4 b p h d)
      = (Cert.EvenIdeal.Mix.data x m g w).head (Cert.EvenIdeal.Mix.gains qg) (at' b p) (3072 + h.val * 64) (by omega) d := by
  unfold Projection.Data.head Projection.hrms Cert.EvenIdeal.Mix.gains
  simp only [Nat.add_assoc]
  rw [← qsum_at x m g w]
  simp only [← proj_at x m g w]
  generalize hz : val_main_v41 (F := Ideal) x m g w = z
  generalize hs : val_main_v28 (F := Ideal) x m g w = s
  pointwise [val_main_v52, val_main_v51, val_main_v50, val_main_v49, val_main_v48, val_main_v47, val_main_v46, val_main_v45, val_main_cst_6, val_main_v44, val_main_v43, val_main_cst_5, val_main_v42, val_main_v39, val_main_v33, hs, hz]

/-- A head's sum of squares. -/
theorem ksum_at (b : Fin 32) (p : Fin 256) (h : Fin 2) :
    val_main_v55 (F := Ideal) x m g w (ix3 b p h) = ∑ k : Fin 64, (Cert.EvenIdeal.Mix.data x m g w).proj (at' b p) ⟨3584 + (h.val * 64 + k.val), by omega⟩ * (Cert.EvenIdeal.Mix.data x m g w).proj (at' b p) ⟨3584 + (h.val * 64 + k.val), by omega⟩ := by
  simp only [← proj_at x m g w]
  generalize hs : val_main_v28 (F := Ideal) x m g w = s
  pointwise [val_main_v55, val_main_v54, val_main_v53, val_main_v34, val_main_cst_7, hs]

/-- A head's normalised entries. -/
theorem khead_at (b : Fin 32) (p : Fin 256) (h : Fin 2) (d : Fin 64) :
    val_main_v66 (F := Ideal) x m g w kg (ix4 b p h d)
      = (Cert.EvenIdeal.Mix.data x m g w).head (Cert.EvenIdeal.Mix.gains kg) (at' b p) (3584 + h.val * 64) (by omega) d := by
  unfold Projection.Data.head Projection.hrms Cert.EvenIdeal.Mix.gains
  simp only [Nat.add_assoc]
  rw [← ksum_at x m g w]
  simp only [← proj_at x m g w]
  generalize hz : val_main_v55 (F := Ideal) x m g w = z
  generalize hs : val_main_v28 (F := Ideal) x m g w = s
  pointwise [val_main_v66, val_main_v65, val_main_v64, val_main_v63, val_main_v62, val_main_v61, val_main_v60, val_main_v59, val_main_cst_9, val_main_v58, val_main_v57, val_main_cst_8, val_main_v56, val_main_v53, val_main_v34, hs, hz]

/-- The attention's queries. -/
theorem qa_at (R : Fin 8192) (c : Fin 512) :
    val_main_v82 (F := Ideal) x m g w qg (ix2 R c)
      = (Cert.EvenIdeal.Mix.data x m g w).head (Cert.EvenIdeal.Mix.gains qg) R (3072 + c.val / 64 * 64) (by omega) ⟨c.val % 64, by omega⟩ * Projection.scale := by
  have e := qhead_at x m g w qg ⟨R.val / 256, by omega⟩ ⟨R.val % 256, by omega⟩ ⟨c.val / 64, by omega⟩ ⟨c.val % 64, by omega⟩
  rw [row_at] at e
  rw [← e, ← Projection.scale_eq]
  generalize hs : val_main_v52 (F := Ideal) x m g w qg = s
  pointwise [val_main_v82, val_main_v81, val_main_v80, val_main_v79, val_main_v78, val_main_v77, val_main_cst_10, val_main_cst_11, hs]

/-- The attention's keys, each twice. -/
theorem kd_at (R : Fin 8192) (c : Fin 256) :
    val_main_v87 (F := Ideal) x m g w kg (ix2 R c)
      = (Cert.EvenIdeal.Mix.data x m g w).head (Cert.EvenIdeal.Mix.gains kg) R (3584 + c.val / 128 * 64) (by omega) ⟨c.val % 64, by omega⟩ := by
  have e := khead_at x m g w kg ⟨R.val / 256, by omega⟩ ⟨R.val % 256, by omega⟩ ⟨c.val / 128, by omega⟩ ⟨c.val % 64, by omega⟩
  rw [row_at] at e
  rw [← e]
  generalize hs : val_main_v66 (F := Ideal) x m g w kg = s
  pointwise [val_main_v87, val_main_v86, val_main_v85, val_main_v84, val_main_v83, hs]
  split <;> rfl

/-- The attention's values, each twice. -/
theorem vd_at (R : Fin 8192) (c : Fin 256) :
    val_main_v92 (F := Ideal) x m g w (ix2 R c) = (Cert.EvenIdeal.Mix.data x m g w).proj R ⟨3712 + (c.val / 128 * 64 + c.val % 64), by omega⟩ := by
  rw [← proj_row x m g w R (by omega) (by omega)]
  generalize hs : val_main_v28 (F := Ideal) x m g w = s
  pointwise [val_main_v92, val_main_v91, val_main_v90, val_main_v89, val_main_v88, val_main_v67, val_main_v35, hs]
  split <;> rfl

/-- The keys' cache. -/
theorem ck_at (b : Fin 32) (h : Fin 2) (p : Fin 256) (d : Fin 64) :
    val_main_v94 (F := Ideal) x m g w kg (ix5 b 0 h p d)
      = (Cert.EvenIdeal.Mix.data x m g w).head (Cert.EvenIdeal.Mix.gains kg) (at' b p) (3584 + h.val * 64) (by omega) d := by
  rw [← khead_at x m g w kg]
  generalize hs : val_main_v66 (F := Ideal) x m g w kg = s
  pointwise [val_main_v94, val_main_v93, hs]

/-- The values' cache. -/
theorem cv_at (b : Fin 32) (h : Fin 2) (p : Fin 256) (d : Fin 64) :
    val_main_v96 (F := Ideal) x m g w (ix5 b 0 h p d) = (Cert.EvenIdeal.Mix.data x m g w).proj (at' b p) ⟨3712 + (h.val * 64 + d.val), by omega⟩ := by
  rw [← proj_at x m g w]
  generalize hs : val_main_v28 (F := Ideal) x m g w = s
  pointwise [val_main_v96, val_main_v95, val_main_v67, val_main_v35, hs]

end Cert.EvenRefIdeal.Rows

end
-- ==== Proof.EvenValue.lean ====
/-
The context stream's first projection call: the projected columns a grid point's products hold, and the arrays of the
retention's queries, keys, values and gates after the run, which are the reference's.
-/
module

public import proofs.«01_k».proof.Proof.EvenOps
public import proofs.«01_k».proof.Proof.EvenReference

@[expose] public section

set_option maxRecDepth 16384

noncomputable section

open Idealize.ShloMosaic Idealize.ShloMosaic.TcCoe Idealize.SL.Sem
open Idealize.ShloMosaic.Pipeline (Dat)

namespace Cert.EvenIdeal.Mix

open Cert.EvenIdeal Cert.EvenIdeal.Gen

local notation "V" => FVec Idealize.ShloMosaic.Ideal

theorem bnd {w b o f : ℕ} (hf : f < w) (ho : o + w ≤ 512) (hb : b + 512 ≤ 3840) : b + (o + f) < 3840 := by omega

/-! The blocks of entries the body reads. -/

theorem ldx (y : Fin 512) (x : Fin 1024) : r0_0.idx (ix2 y x) = (ix2 y x) := by
  blk_ext [r0_0] <;> simp [r0_0, Rect.idx_unit_val]

theorem ldg (x : Fin 1024) : r0_1.idx (ix2 0 x) = (ix2 0 x) := by
  blk_ext [r0_1] <;> simp [r0_1, Rect.idx_unit_val]

theorem ldm (x : Fin 1024) : r0_2.idx (ix5 0 0 0 0 x) = (ix5 0 0 0 0 x) := by
  blk_ext [r0_2] <;> simp [r0_2, Rect.idx_unit_val]

theorem ldl (x : Fin 128) : r0_4.idx (ix2 0 x) = (ix2 0 x) := by
  blk_ext [r0_4] <;> simp [r0_4, Rect.idx_unit_val]

theorem ldw3072 (k : Fin 1024) (f : Fin 512) : r0_3.idx (ix2 k f) = (ix2 k ⟨3072 + f.val, by omega⟩) := by
  blk_ext [r0_3] <;> simp [r0_3, Rect.idx_unit_val]

theorem ldw0 (k : Fin 1024) (f : Fin 512) : r0_16.idx (ix2 k f) = (ix2 k ⟨0 + f.val, by omega⟩) := by
  blk_ext [r0_16] <;> simp [r0_16, Rect.idx_unit_val]

theorem ldw512 (k : Fin 1024) (f : Fin 512) : r0_21.idx (ix2 k f) = (ix2 k ⟨512 + f.val, by omega⟩) := by
  blk_ext [r0_21] <;> simp [r0_21, Rect.idx_unit_val]

theorem ldw2048 (k : Fin 1024) (f : Fin 512) : r0_22.idx (ix2 k f) = (ix2 k ⟨2048 + f.val, by omega⟩) := by
  blk_ext [r0_22] <;> simp [r0_22, Rect.idx_unit_val]

theorem ldw2560 (k : Fin 1024) (f : Fin 512) : r0_25.idx (ix2 k f) = (ix2 k ⟨2560 + f.val, by omega⟩) := by
  blk_ext [r0_25] <;> simp [r0_25, Rect.idx_unit_val]

theorem ldw1024 (k : Fin 1024) (f : Fin 512) : r0_28.idx (ix2 k f) = (ix2 k ⟨1024 + f.val, by omega⟩) := by
  blk_ext [r0_28] <;> simp [r0_28, Rect.idx_unit_val]

theorem ldw1536 (k : Fin 1024) (f : Fin 512) : r0_29.idx (ix2 k f) = (ix2 k ⟨1536 + f.val, by omega⟩) := by
  blk_ext [r0_29] <;> simp [r0_29, Rect.idx_unit_val]

theorem ldw3584 (k : Fin 1024) (f : Fin 256) : r0_9.idx (ix2 k f) = (ix2 k ⟨3584 + f.val, by omega⟩) := by
  blk_ext [r0_9] <;> simp [r0_9, Rect.idx_unit_val]

variable (m : (ℓ : Loc nD τ sig) → Buf (Elt Ideal) ℓ)

/-! The argument arrays, and what a grid point computes with. -/

abbrev A0 (c : Dev nD) := m (c, Proc.tc.devRef main_arg0)

abbrev A1 (c : Dev nD) := m (c, Proc.tc.devRef main_arg1)

abbrev A2 (c : Dev nD) := m (c, Proc.tc.devRef main_arg2)

abbrev A3 (c : Dev nD) := m (c, Proc.tc.devRef main_arg3)

abbrev A4 (c : Dev nD) := m (c, Proc.tc.devRef main_arg4)

abbrev A5 (c : Dev nD) := m (c, Proc.tc.devRef main_arg5)

abbrev Hd (c : Dev nD) (t : Fin cfg0.N) := k0_pay64 (F := Ideal) (iblk m c 0 t) (iblk m c 1 t) (iblk m c 2 t) (iblk m c 3 t) (iblk m c 4 t) (iblk m c 5 t) (iblk m c 6 t)

abbrev Pq (c : Dev nD) (t : Fin cfg0.N) := k0_pay66 (F := Ideal) (iblk m c 0 t) (iblk m c 1 t) (iblk m c 2 t) (iblk m c 3 t) (iblk m c 4 t) (iblk m c 5 t) (iblk m c 6 t)

abbrev Gq (c : Dev nD) (t : Fin cfg0.N) := k0_pay67 (F := Ideal) (iblk m c 0 t) (iblk m c 1 t) (iblk m c 2 t) (iblk m c 3 t) (iblk m c 4 t) (iblk m c 5 t) (iblk m c 6 t)

abbrev Wk (c : Dev nD) (t : Fin cfg0.N) := k0_pay68 (F := Ideal) (iblk m c 0 t) (iblk m c 1 t) (iblk m c 2 t) (iblk m c 3 t) (iblk m c 4 t) (iblk m c 5 t) (iblk m c 6 t)

abbrev Kt (c : Dev nD) (t : Fin cfg0.N) := k0_pay69 (F := Ideal) (iblk m c 0 t) (iblk m c 1 t) (iblk m c 2 t) (iblk m c 3 t) (iblk m c 4 t) (iblk m c 5 t) (iblk m c 6 t)

abbrev Vt (c : Dev nD) (t : Fin cfg0.N) := k0_pay70 (F := Ideal) (iblk m c 0 t) (iblk m c 1 t) (iblk m c 2 t) (iblk m c 3 t) (iblk m c 4 t) (iblk m c 5 t) (iblk m c 6 t)

/-- The modulated norm of a grid point's tile. -/
theorem hid_blocks (c : Dev nD) (t : Fin cfg0.N) (r : Fin 512) (k : Fin 1024) :
    Hd m c t (ix2 r k)
      = (dat m c).hid (row t r) k :=
  hid_at (dat m c) (row t r) _ _ _ _ r k (fun k => (congrArg (iblk m c 0 t) (ldx r k)).trans (x_at m c t r k))
    ((congrArg (iblk m c 3 t) (ldg k)).trans (g_at m c t k)) ((congrArg (iblk m c 2 t) (ldm k)).trans (sc_at m c t r k))
    ((congrArg (iblk m c 1 t) (ldm k)).trans (sh_at m c t r k))

/-! The products of the modulated norm with each block of columns. -/

theorem prod3072 (c : Dev nD) (t : Fin cfg0.N) (r f : Fin 512) :
    (∑ k : Fin 1024, Hd m c t (ix2 r k)
        * (View.ld (iblk m c 4 t) r0_3 : V S1024x512 .bf16) (ix2 k f))
      = (dat m c).proj (row t r) ⟨3072 + f.val, by omega⟩ :=
  Finset.sum_congr rfl fun j _ => congrArg₂ (· * ·) (hid_blocks m c t r j)
    ((congrArg (iblk m c 4 t) (ldw3072 j f)).trans (w_at m c t j _))

theorem prod0 (c : Dev nD) (t : Fin cfg0.N) (r f : Fin 512) :
    (∑ k : Fin 1024, Hd m c t (ix2 r k)
        * (View.ld (iblk m c 4 t) r0_16 : V S1024x512 .bf16) (ix2 k f))
      = (dat m c).proj (row t r) ⟨0 + f.val, by omega⟩ :=
  Finset.sum_congr rfl fun j _ => congrArg₂ (· * ·) (hid_blocks m c t r j)
    ((congrArg (iblk m c 4 t) (ldw0 j f)).trans (w_at m c t j _))

theorem prod512 (c : Dev nD) (t : Fin cfg0.N) (r f : Fin 512) :
    (∑ k : Fin 1024, Hd m c t (ix2 r k)
        * (View.ld (iblk m c 4 t) r0_21 : V S1024x512 .bf16) (ix2 k f))
      = (dat m c).proj (row t r) ⟨512 + f.val, by omega⟩ :=
  Finset.sum_congr rfl fun j _ => congrArg₂ (· * ·) (hid_blocks m c t r j)
    ((congrArg (iblk m c 4 t) (ldw512 j f)).trans (w_at m c t j _))

theorem prod2048 (c : Dev nD) (t : Fin cfg0.N) (r f : Fin 512) :
    (∑ k : Fin 1024, Hd m c t (ix2 r k)
        * (View.ld (iblk m c 4 t) r0_22 : V S1024x512 .bf16) (ix2 k f))
      = (dat m c).proj (row t r) ⟨2048 + f.val, by omega⟩ :=
  Finset.sum_congr rfl fun j _ => congrArg₂ (· * ·) (hid_blocks m c t r j)
    ((congrArg (iblk m c 4 t) (ldw2048 j f)).trans (w_at m c t j _))

theorem prod2560 (c : Dev nD) (t : Fin cfg0.N) (r f : Fin 512) :
    (∑ k : Fin 1024, Hd m c t (ix2 r k)
        * (View.ld (iblk m c 4 t) r0_25 : V S1024x512 .bf16) (ix2 k f))
      = (dat m c).proj (row t r) ⟨2560 + f.val, by omega⟩ :=
  Finset.sum_congr rfl fun j _ => congrArg₂ (· * ·) (hid_blocks m c t r j)
    ((congrArg (iblk m c 4 t) (ldw2560 j f)).trans (w_at m c t j _))

theorem prod1024 (c : Dev nD) (t : Fin cfg0.N) (r f : Fin 512) :
    (∑ k : Fin 1024, Hd m c t (ix2 r k)
        * (View.ld (iblk m c 4 t) r0_28 : V S1024x512 .bf16) (ix2 k f))
      = (dat m c).proj (row t r) ⟨1024 + f.val, by omega⟩ :=
  Finset.sum_congr rfl fun j _ => congrArg₂ (· * ·) (hid_blocks m c t r j)
    ((congrArg (iblk m c 4 t) (ldw1024 j f)).trans (w_at m c t j _))

theorem prod1536 (c : Dev nD) (t : Fin cfg0.N) (r f : Fin 512) :
    (∑ k : Fin 1024, Hd m c t (ix2 r k)
        * (View.ld (iblk m c 4 t) r0_29 : V S1024x512 .bf16) (ix2 k f))
      = (dat m c).proj (row t r) ⟨1536 + f.val, by omega⟩ :=
  Finset.sum_congr rfl fun j _ => congrArg₂ (· * ·) (hid_blocks m c t r j)
    ((congrArg (iblk m c 4 t) (ldw1536 j f)).trans (w_at m c t j _))

theorem prod3584 (c : Dev nD) (t : Fin cfg0.N) (r : Fin 512) (f : Fin 256) :
    (∑ k : Fin 1024, Hd m c t (ix2 r k)
        * (View.ld (iblk m c 4 t) r0_9 : V S1024x256 .bf16) (ix2 k f))
      = (dat m c).proj (row t r) ⟨3584 + f.val, by omega⟩ :=
  Finset.sum_congr rfl fun j _ => congrArg₂ (· * ·) (hid_blocks m c t r j)
    ((congrArg (iblk m c 4 t) (ldw3584 j f)).trans (w_at m c t j _))

/-- The reference's retention queries over the kernel's argument arrays. -/
abbrev qrRef (c : Dev nD) : V S4x8192x128 .f32 :=
  Cert.EvenRefIdeal.Read.val_main_v69 (F := Ideal) (A0 m c) (A1 m c) (A2 m c) (A3 m c)

theorem qr_of (c : Dev nD) (t : Fin cfg0.N) (r : Fin 512) (f : Fin 128) (b o : ℕ) (ho : o + 128 ≤ 512) (hb : b + 512 ≤ 3840)
    (i : S4x8192x128.Idx) (h0 : 0 + (i 0).val * 128 = b + o) (h1 : (i 1).val = t.val * 512 + r.val) (h2 : (i 2).val = f.val) :
    (dat m c).proj (row t r) ⟨b + (o + f.val), bnd f.isLt ho hb⟩ = qrRef m c i := by
  have e1 : i 1 = row t r := Fin.ext h1
  rw [Idealize.ShloMosaic.eq_ix3 i]
  refine Eq.trans ?_ (Cert.EvenRefIdeal.Rows.qr_at (A0 m c) (A1 m c) (A2 m c) (A3 m c) (i 0) (i 1) (i 2)).symm
  rw [e1]
  refine congrArg (fun f => (dat m c).proj (row t r) f) (Fin.ext ?_)
  simp only
  omega

theorem point7 (c : Dev nD) (t : Fin cfg0.N) (y : S4x512x128.Idx) (i : S4x8192x128.Idx)
    (g0 : (i 0).val = (y 0).val) (g1 : (i 1).val = t.val * 512 + (y 1).val) (g2 : (i 2).val = (y 2).val) :
    Gen.out0_7 (F := Ideal) (iblk m c 0 t) (iblk m c 1 t) (iblk m c 2 t) (iblk m c 3 t) (iblk m c 4 t) (iblk m c 5 t) (iblk m c 6 t) y = qrRef m c i := by
  unfold Gen.out0_7
  canon_tiles x h
  · idx_vars x
    refine (piece128 (k0_pay48 (F := Ideal) (Hd m c t) (View.ld (iblk m c 4 t) r0_16)) 384 (by norm_num) slices_S512x512_o0_384_S512x128 shapeCasts_S512x128_S1x512x128 x0 x1 x2).trans
      ((pay48_at _ _ x1 _).trans ((prod0 m c t x1 _).trans (qr_of m c t x1 x2 0 384 (by norm_num) (by norm_num) i ?_ ?_ ?_))) <;> omega
  · idx_vars x
    refine (piece128 (k0_pay48 (F := Ideal) (Hd m c t) (View.ld (iblk m c 4 t) r0_16)) 256 (by norm_num) slices_S512x512_o0_256_S512x128 shapeCasts_S512x128_S1x512x128 x0 x1 x2).trans
      ((pay48_at _ _ x1 _).trans ((prod0 m c t x1 _).trans (qr_of m c t x1 x2 0 256 (by norm_num) (by norm_num) i ?_ ?_ ?_))) <;> omega
  · idx_vars x
    refine (piece128 (k0_pay48 (F := Ideal) (Hd m c t) (View.ld (iblk m c 4 t) r0_16)) 128 (by norm_num) slices_S512x512_o0_128_S512x128 shapeCasts_S512x128_S1x512x128 x0 x1 x2).trans
      ((pay48_at _ _ x1 _).trans ((prod0 m c t x1 _).trans (qr_of m c t x1 x2 0 128 (by norm_num) (by norm_num) i ?_ ?_ ?_))) <;> omega
  · idx_vars x
    refine (piece128 (k0_pay48 (F := Ideal) (Hd m c t) (View.ld (iblk m c 4 t) r0_16)) 0 (by norm_num) slices_S512x512_o0_0_S512x128 shapeCasts_S512x128_S1x512x128 x0 x1 x2).trans
      ((pay48_at _ _ x1 _).trans ((prod0 m c t x1 _).trans (qr_of m c t x1 x2 0 0 (by norm_num) (by norm_num) i ?_ ?_ ?_))) <;> omega

theorem final7 (c : Dev nD) : (dats m 0 c).arrAt 7 (cfgs 0).N = qrRef m c := by
  refine (dats m 0 c).arrAt_eq_of_covers 7 _ (by decide +kernel) fun t _ y => ?_
  blk_simp
  rw [after0_7]
  refine point7 m c t y _ ?_ ?_ ?_ <;> blk_simp [idx t]

/-- The reference's retention keys over the kernel's argument arrays. -/
abbrev krRef (c : Dev nD) : V S4x8192x128 .f32 :=
  Cert.EvenRefIdeal.Read.val_main_v71 (F := Ideal) (A0 m c) (A1 m c) (A2 m c) (A3 m c)

theorem kr_of (c : Dev nD) (t : Fin cfg0.N) (r : Fin 512) (f : Fin 128) (b o : ℕ) (ho : o + 128 ≤ 512) (hb : b + 512 ≤ 3840)
    (i : S4x8192x128.Idx) (h0 : 512 + (i 0).val * 128 = b + o) (h1 : (i 1).val = t.val * 512 + r.val) (h2 : (i 2).val = f.val) :
    (dat m c).proj (row t r) ⟨b + (o + f.val), bnd f.isLt ho hb⟩ * Ideal.ofBits .f32 0x3E000000#32 = krRef m c i := by
  have e1 : i 1 = row t r := Fin.ext h1
  rw [Idealize.ShloMosaic.eq_ix3 i]
  refine Eq.trans ?_ (Cert.EvenRefIdeal.Rows.kr_at (A0 m c) (A1 m c) (A2 m c) (A3 m c) (i 0) (i 1) (i 2)).symm
  rw [e1]
  refine congrArg (fun f => (dat m c).proj (row t r) f * Ideal.ofBits .f32 0x3E000000#32) (Fin.ext ?_)
  simp only
  omega

theorem point8 (c : Dev nD) (t : Fin cfg0.N) (y : S4x512x128.Idx) (i : S4x8192x128.Idx)
    (g0 : (i 0).val = (y 0).val) (g1 : (i 1).val = t.val * 512 + (y 1).val) (g2 : (i 2).val = (y 2).val) :
    Gen.out0_8 (F := Ideal) (iblk m c 0 t) (iblk m c 1 t) (iblk m c 2 t) (iblk m c 3 t) (iblk m c 4 t) (iblk m c 5 t) (iblk m c 6 t) y = krRef m c i := by
  unfold Gen.out0_8
  canon_tiles x h
  · idx_vars x
    refine (piece128 (k0_pay53 (F := Ideal) (Hd m c t) (View.ld (iblk m c 4 t) r0_21)) 384 (by norm_num) slices_S512x512_o0_384_S512x128 shapeCasts_S512x128_S1x512x128 x0 x1 x2).trans
      ((pay53_at _ _ x1 _).trans ((congrArg (· * Ideal.ofBits .f32 0x3E000000#32) (prod512 m c t x1 _)).trans (kr_of m c t x1 x2 512 384 (by norm_num) (by norm_num) i ?_ ?_ ?_))) <;> omega
  · idx_vars x
    refine (piece128 (k0_pay53 (F := Ideal) (Hd m c t) (View.ld (iblk m c 4 t) r0_21)) 256 (by norm_num) slices_S512x512_o0_256_S512x128 shapeCasts_S512x128_S1x512x128 x0 x1 x2).trans
      ((pay53_at _ _ x1 _).trans ((congrArg (· * Ideal.ofBits .f32 0x3E000000#32) (prod512 m c t x1 _)).trans (kr_of m c t x1 x2 512 256 (by norm_num) (by norm_num) i ?_ ?_ ?_))) <;> omega
  · idx_vars x
    refine (piece128 (k0_pay53 (F := Ideal) (Hd m c t) (View.ld (iblk m c 4 t) r0_21)) 128 (by norm_num) slices_S512x512_o0_128_S512x128 shapeCasts_S512x128_S1x512x128 x0 x1 x2).trans
      ((pay53_at _ _ x1 _).trans ((congrArg (· * Ideal.ofBits .f32 0x3E000000#32) (prod512 m c t x1 _)).trans (kr_of m c t x1 x2 512 128 (by norm_num) (by norm_num) i ?_ ?_ ?_))) <;> omega
  · idx_vars x
    refine (piece128 (k0_pay53 (F := Ideal) (Hd m c t) (View.ld (iblk m c 4 t) r0_21)) 0 (by norm_num) slices_S512x512_o0_0_S512x128 shapeCasts_S512x128_S1x512x128 x0 x1 x2).trans
      ((pay53_at _ _ x1 _).trans ((congrArg (· * Ideal.ofBits .f32 0x3E000000#32) (prod512 m c t x1 _)).trans (kr_of m c t x1 x2 512 0 (by norm_num) (by norm_num) i ?_ ?_ ?_))) <;> omega

theorem final8 (c : Dev nD) : (dats m 0 c).arrAt 8 (cfgs 0).N = krRef m c := by
  refine (dats m 0 c).arrAt_eq_of_covers 8 _ (by decide +kernel) fun t _ y => ?_
  blk_simp
  rw [after0_8]
  refine point8 m c t y _ ?_ ?_ ?_ <;> blk_simp [idx t]

/-- The reference's retention values over the kernel's argument arrays. -/
abbrev vrRef (c : Dev nD) : V S4x8192x256 .bf16 :=
  Cert.EvenRefIdeal.Read.val_main_v74 (F := Ideal) (A0 m c) (A1 m c) (A2 m c) (A3 m c)

theorem vr_of (c : Dev nD) (t : Fin cfg0.N) (r : Fin 512) (f : Fin 256) (b o : ℕ) (ho : o + 256 ≤ 512) (hb : b + 512 ≤ 3840)
    (i : S4x8192x256.Idx) (h0 : 1024 + (i 0).val * 256 = b + o) (h1 : (i 1).val = t.val * 512 + r.val) (h2 : (i 2).val = f.val) :
    (dat m c).proj (row t r) ⟨b + (o + f.val), bnd f.isLt ho hb⟩ = vrRef m c i := by
  have e1 : i 1 = row t r := Fin.ext h1
  rw [Idealize.ShloMosaic.eq_ix3 i]
  refine Eq.trans ?_ (Cert.EvenRefIdeal.Rows.vr_at (A0 m c) (A1 m c) (A2 m c) (A3 m c) (i 0) (i 1) (i 2)).symm
  rw [e1]
  refine congrArg (fun f => (dat m c).proj (row t r) f) (Fin.ext ?_)
  simp only
  omega

theorem point9 (c : Dev nD) (t : Fin cfg0.N) (y : S4x512x256.Idx) (i : S4x8192x256.Idx)
    (g0 : (i 0).val = (y 0).val) (g1 : (i 1).val = t.val * 512 + (y 1).val) (g2 : (i 2).val = (y 2).val) :
    Gen.out0_9 (F := Ideal) (iblk m c 0 t) (iblk m c 1 t) (iblk m c 2 t) (iblk m c 3 t) (iblk m c 4 t) (iblk m c 5 t) (iblk m c 6 t) y = vrRef m c i := by
  unfold Gen.out0_9
  canon_tiles x h
  · idx_vars x
    refine (piece256 (k0_pay5 (F := Ideal) (Hd m c t) (View.ld (iblk m c 4 t) r0_29)) 256 (by norm_num) slices_S512x512_o0_256_S512x256 shapeCasts_S512x256_S1x512x256 x0 x1 x2).trans
      ((pay5_at _ _ x1 _).trans ((prod1536 m c t x1 _).trans (vr_of m c t x1 x2 1536 256 (by norm_num) (by norm_num) i ?_ ?_ ?_))) <;> omega
  · idx_vars x
    refine (piece256 (k0_pay5 (F := Ideal) (Hd m c t) (View.ld (iblk m c 4 t) r0_29)) 0 (by norm_num) slices_S512x512_o0_0_S512x256 shapeCasts_S512x256_S1x512x256 x0 x1 x2).trans
      ((pay5_at _ _ x1 _).trans ((prod1536 m c t x1 _).trans (vr_of m c t x1 x2 1536 0 (by norm_num) (by norm_num) i ?_ ?_ ?_))) <;> omega
  · idx_vars x
    refine (piece256 (k0_pay2 (F := Ideal) (Hd m c t) (View.ld (iblk m c 4 t) r0_28)) 256 (by norm_num) slices_S512x512_o0_256_S512x256 shapeCasts_S512x256_S1x512x256 x0 x1 x2).trans
      ((pay2_at _ _ x1 _).trans ((prod1024 m c t x1 _).trans (vr_of m c t x1 x2 1024 256 (by norm_num) (by norm_num) i ?_ ?_ ?_))) <;> omega
  · idx_vars x
    refine (piece256 (k0_pay2 (F := Ideal) (Hd m c t) (View.ld (iblk m c 4 t) r0_28)) 0 (by norm_num) slices_S512x512_o0_0_S512x256 shapeCasts_S512x256_S1x512x256 x0 x1 x2).trans
      ((pay2_at _ _ x1 _).trans ((prod1024 m c t x1 _).trans (vr_of m c t x1 x2 1024 0 (by norm_num) (by norm_num) i ?_ ?_ ?_))) <;> omega

theorem final9 (c : Dev nD) : (dats m 0 c).arrAt 9 (cfgs 0).N = vrRef m c := by
  refine (dats m 0 c).arrAt_eq_of_covers 9 _ (by decide +kernel) fun t _ y => ?_
  blk_simp
  rw [after0_9]
  refine point9 m c t y _ ?_ ?_ ?_ <;> blk_simp [idx t]

/-- The reference's retention gates over the kernel's argument arrays. -/
abbrev grRef (c : Dev nD) : V S4x8192x256 .f32 :=
  Cert.EvenRefIdeal.Read.val_main_v76 (F := Ideal) (A0 m c) (A1 m c) (A2 m c) (A3 m c)

theorem gr_of (c : Dev nD) (t : Fin cfg0.N) (r : Fin 512) (f : Fin 256) (b o : ℕ) (ho : o + 256 ≤ 512) (hb : b + 512 ≤ 3840)
    (i : S4x8192x256.Idx) (h0 : 2048 + (i 0).val * 256 = b + o) (h1 : (i 1).val = t.val * 512 + r.val) (h2 : (i 2).val = f.val) :
    Projection.silu ((dat m c).proj (row t r) ⟨b + (o + f.val), bnd f.isLt ho hb⟩) = grRef m c i := by
  have e1 : i 1 = row t r := Fin.ext h1
  rw [Idealize.ShloMosaic.eq_ix3 i]
  refine Eq.trans ?_ (Cert.EvenRefIdeal.Rows.gr_at (A0 m c) (A1 m c) (A2 m c) (A3 m c) (i 0) (i 1) (i 2)).symm
  rw [e1]
  refine congrArg (fun f => Projection.silu ((dat m c).proj (row t r) f)) (Fin.ext ?_)
  simp only
  omega

theorem point10 (c : Dev nD) (t : Fin cfg0.N) (y : S4x512x256.Idx) (i : S4x8192x256.Idx)
    (g0 : (i 0).val = (y 0).val) (g1 : (i 1).val = t.val * 512 + (y 1).val) (g2 : (i 2).val = (y 2).val) :
    Gen.out0_10 (F := Ideal) (iblk m c 0 t) (iblk m c 1 t) (iblk m c 2 t) (iblk m c 3 t) (iblk m c 4 t) (iblk m c 5 t) (iblk m c 6 t) y = grRef m c i := by
  unfold Gen.out0_10
  canon_tiles x h
  · idx_vars x
    refine (piece256 (k0_pay61 (F := Ideal) (Hd m c t) (View.ld (iblk m c 4 t) r0_25)) 256 (by norm_num) slices_S512x512_o0_256_S512x256 shapeCasts_S512x256_S1x512x256 x0 x1 x2).trans
      ((pay61_at _ _ x1 _).trans ((congrArg Projection.silu (prod2560 m c t x1 _)).trans (gr_of m c t x1 x2 2560 256 (by norm_num) (by norm_num) i ?_ ?_ ?_))) <;> omega
  · idx_vars x
    refine (piece256 (k0_pay61 (F := Ideal) (Hd m c t) (View.ld (iblk m c 4 t) r0_25)) 0 (by norm_num) slices_S512x512_o0_0_S512x256 shapeCasts_S512x256_S1x512x256 x0 x1 x2).trans
      ((pay61_at _ _ x1 _).trans ((congrArg Projection.silu (prod2560 m c t x1 _)).trans (gr_of m c t x1 x2 2560 0 (by norm_num) (by norm_num) i ?_ ?_ ?_))) <;> omega
  · idx_vars x
    refine (piece256 (k0_pay58 (F := Ideal) (Hd m c t) (View.ld (iblk m c 4 t) r0_22)) 256 (by norm_num) slices_S512x512_o0_256_S512x256 shapeCasts_S512x256_S1x512x256 x0 x1 x2).trans
      ((pay58_at _ _ x1 _).trans ((congrArg Projection.silu (prod2048 m c t x1 _)).trans (gr_of m c t x1 x2 2048 256 (by norm_num) (by norm_num) i ?_ ?_ ?_))) <;> omega
  · idx_vars x
    refine (piece256 (k0_pay58 (F := Ideal) (Hd m c t) (View.ld (iblk m c 4 t) r0_22)) 0 (by norm_num) slices_S512x512_o0_0_S512x256 shapeCasts_S512x256_S1x512x256 x0 x1 x2).trans
      ((pay58_at _ _ x1 _).trans ((congrArg Projection.silu (prod2048 m c t x1 _)).trans (gr_of m c t x1 x2 2048 0 (by norm_num) (by norm_num) i ?_ ?_ ?_))) <;> omega

theorem final10 (c : Dev nD) : (dats m 0 c).arrAt 10 (cfgs 0).N = grRef m c := by
  refine (dats m 0 c).arrAt_eq_of_covers 10 _ (by decide +kernel) fun t _ y => ?_
  blk_simp
  rw [after0_10]
  refine point10 m c t y _ ?_ ?_ ?_ <;> blk_simp [idx t]

end Cert.EvenIdeal.Mix

end
-- ==== Proof.EvenHeads.lean ====
/-
The context stream's first projection call: the attention's queries, keys and values and the two caches after the run,
which are the reference's.
-/
module

public import proofs.«01_k».proof.Proof.EvenValue

@[expose] public section

set_option maxRecDepth 16384

noncomputable section

open Idealize.ShloMosaic Idealize.ShloMosaic.TcCoe Idealize.SL.Sem
open Idealize.ShloMosaic.Pipeline (Dat)

namespace Cert.EvenIdeal.Mix

open Cert.EvenIdeal Cert.EvenIdeal.Gen

local notation "V" => FVec Idealize.ShloMosaic.Ideal

variable (m : (ℓ : Loc nD τ sig) → Buf (Elt Ideal) ℓ)

/-- The query gains of the two heads of a vector. -/
theorem qgain_at (c : Dev nD) (t : Fin cfg0.N) (l : Fin 128) :
    Gq m c t (ix2 0 l)
      = gains (A4 m c) ⟨l.val % 64, by omega⟩ :=
  (lane_at (View.ld (iblk m c 5 t) r0_4 : V S1x128 .f32) l).trans ((congrArg (iblk m c 5 t) (ldl l)).trans (qg_at m c t l))

/-- The key gains. -/
theorem kgain_at (c : Dev nD) (t : Fin cfg0.N) (l : Fin 128) :
    shapeCast S1x128 (View.ld (iblk m c 6 t) r0_4 : V S1x128 .f32) shapeCasts_S1x128_S1x128 (ix2 0 l)
      = gains (A5 m c) ⟨l.val % 64, by omega⟩ :=
  (lane_at (View.ld (iblk m c 6 t) r0_4 : V S1x128 .f32) l).trans ((congrArg (iblk m c 6 t) (ldl l)).trans (kg_at m c t l))

/-- The query product. -/
theorem qa_blocks (c : Dev nD) (t : Fin cfg0.N) (r f : Fin 512) :
    Pq m c t (ix2 r f)
      = (dat m c).proj (row t r) ⟨3072 + f.val, by omega⟩ :=
  (pay10_at _ _ _ _ _ r f).trans (prod3072 m c t r f)

/-- The product with the key and value columns. -/
theorem kv_blocks (c : Dev nD) (t : Fin cfg0.N) (r : Fin 512) (f : Fin 256) :
    k0_pay26 (F := Ideal) (Hd m c t) (Wk m c t) (ix2 r f)
      = (dat m c).proj (row t r) ⟨3584 + f.val, by omega⟩ :=
  (pay26_at _ _ r f).trans ((Finset.sum_congr rfl fun j _ => congrArg (_ * ·) (pay25_at _ j f)).trans (prod3584 m c t r f))

/-- The normalised keys of a tile. -/
theorem kn_blocks (c : Dev nD) (t : Fin cfg0.N) (r : Fin 512) (l : Fin 128) :
    Kt m c t (ix2 r l)
      = (dat m c).head (gains (A5 m c)) (row t r) (3584 + l.val / 64 * 64) (by omega) ⟨l.val % 64, by omega⟩ := by
  refine (congrFun (kn (Hd m c t) (Wk m c t) (View.ld (iblk m c 6 t) r0_4 : V S1x128 .f32)) (ix2 r l)).trans ?_
  rw [normT_at, kgain_at]
  refine congrArg (fun y => Projection.hrms y _ * _) (funext fun k => ?_)
  refine (slice256_at _ 0 (by norm_num) _ r _).trans ((kv_blocks m c t r _).trans ?_)
  refine congrArg ((dat m c).proj (row t r)) (Fin.ext ?_)
  simp only
  omega

/-- The values of a tile. -/
theorem vn_blocks (c : Dev nD) (t : Fin cfg0.N) (r : Fin 512) (l : Fin 128) :
    Vt m c t (ix2 r l)
      = (dat m c).proj (row t r) ⟨3712 + l.val, by omega⟩ := by
  refine (slice256_at _ 128 (by norm_num) slices_S512x256_o0_128_S512x128 r l).trans ((kv_blocks m c t r _).trans ?_)
  refine congrArg ((dat m c).proj (row t r)) (Fin.ext ?_)
  simp only
  omega

/-- The reference's attention queries over the kernel's argument arrays. -/
abbrev qaRef (c : Dev nD) : V S8192x512 .bf16 :=
  Cert.EvenRefIdeal.Read.val_main_v82 (F := Ideal) (A0 m c) (A1 m c) (A2 m c) (A3 m c) (A4 m c)

theorem q_piece (c : Dev nD) (t : Fin cfg0.N) (o : ℕ) (ho : o + 128 ≤ 512) (hs : S512x512.Slices ![0, o] S512x128)
    (r : Fin 512) (l : Fin 128) (i : S8192x512.Idx) (hi : (i 0).val = t.val * 512 + r.val ∧ (i 1).val = o + l.val ∧ o % 64 = 0) :
    qT (extractStridedSlice S512x128 ![0, o] (Pq m c t) hs) (Gq m c t) (ix2 r l)
      = qaRef m c i := by
  obtain ⟨h0, h1, h64⟩ := hi
  have e0 : i 0 = row t r := Fin.ext h0
  rw [qT_at, qgain_at, Idealize.ShloMosaic.eq_ix2 i]
  refine Eq.trans ?_ (Cert.EvenRefIdeal.Rows.qa_at (A0 m c) (A1 m c) (A2 m c) (A3 m c) (A4 m c) (i 0) (i 1)).symm
  rw [e0]
  have e : (fun k : Fin 64 => extractStridedSlice S512x128 ![0, o] (Pq m c t) hs
        (ix2 r ⟨l.val / 64 * 64 + k.val, by omega⟩))
      = fun k : Fin 64 => (dat m c).proj (row t r) ⟨3072 + (i 1).val / 64 * 64 + k.val, by have := (i 1).isLt; omega⟩ := by
    funext k
    refine (slice512_at _ o ho hs r _).trans ((qa_blocks m c t r _).trans ?_)
    refine congrArg ((dat m c).proj (row t r)) (Fin.ext ?_)
    simp only
    omega
  have e' : (⟨l.val % 64, by omega⟩ : Fin 64) = ⟨(i 1).val % 64, by omega⟩ := Fin.ext (by simp only; omega)
  rw [e, e']
  rfl

theorem point11 (c : Dev nD) (t : Fin cfg0.N) (y : S512x512.Idx) (i : S8192x512.Idx)
    (g0 : (i 0).val = t.val * 512 + (y 0).val) (g1 : (i 1).val = (y 1).val) :
    Gen.out0_11 (F := Ideal) (iblk m c 0 t) (iblk m c 1 t) (iblk m c 2 t) (iblk m c 3 t) (iblk m c 4 t) (iblk m c 5 t) (iblk m c 6 t) y = qaRef m c i := by
  unfold Gen.out0_11
  canon_tiles x h
  · idx_vars x
    refine (congrFun (q3 (Pq m c t) (Gq m c t)) (ix2 x0 x1)).trans
      (q_piece m c t 384 (by norm_num) slices_S512x512_o0_384_S512x128 x0 x1 i ⟨?_, ?_, ?_⟩) <;> omega
  · idx_vars x
    refine (congrFun (q2 (Pq m c t) (Gq m c t)) (ix2 x0 x1)).trans
      (q_piece m c t 256 (by norm_num) slices_S512x512_o0_256_S512x128 x0 x1 i ⟨?_, ?_, ?_⟩) <;> omega
  · idx_vars x
    refine (congrFun (q1 (Pq m c t) (Gq m c t)) (ix2 x0 x1)).trans
      (q_piece m c t 128 (by norm_num) slices_S512x512_o0_128_S512x128 x0 x1 i ⟨?_, ?_, ?_⟩) <;> omega
  · idx_vars x
    refine (congrFun (q0 (Pq m c t) (Gq m c t)) (ix2 x0 x1)).trans
      (q_piece m c t 0 (by norm_num) slices_S512x512_o0_0_S512x128 x0 x1 i ⟨?_, ?_, ?_⟩) <;> omega

theorem final11 (c : Dev nD) : (dats m 0 c).arrAt 11 (cfgs 0).N = qaRef m c := by
  refine (dats m 0 c).arrAt_eq_of_covers 11 _ (by decide +kernel) fun t _ y => ?_
  blk_simp
  rw [after0_11]
  refine point11 m c t y _ ?_ ?_ <;> blk_simp [idx t]

theorem hb1 {o l : ℕ} (ho : o ≤ 64) : 3584 + (o + l % 64) / 64 * 64 + 64 ≤ 3840 := by omega

theorem hb2 (o l : ℕ) : (o + l % 64) % 64 < 64 := by omega

theorem hb3 {o l : ℕ} (ho : o ≤ 64) : 3712 + (o + l % 64) < 3840 := by omega

/-- The reference's doubled attention keys over the kernel's argument arrays. -/
abbrev kdRef (c : Dev nD) : V S8192x256 .bf16 :=
  Cert.EvenRefIdeal.Read.val_main_v87 (F := Ideal) (A0 m c) (A1 m c) (A2 m c) (A3 m c) (A5 m c)

theorem kd_of (c : Dev nD) (t : Fin cfg0.N) (r : Fin 512) (l : Fin 128) (o : ℕ) (ho : o ≤ 64) (i : S8192x256.Idx)
    (h0 : (i 0).val = t.val * 512 + r.val) (h1 : (i 1).val = o * 2 + l.val) (h64 : o % 64 = 0) :
    (dat m c).head (gains (A5 m c)) (row t r) (3584 + (o + l.val % 64) / 64 * 64) (hb1 ho) ⟨(o + l.val % 64) % 64, hb2 o l.val⟩ = kdRef m c i := by
  have e0 : i 0 = row t r := Fin.ext h0
  rw [Idealize.ShloMosaic.eq_ix2 i]
  refine Eq.trans ?_ (Cert.EvenRefIdeal.Rows.kd_at (A0 m c) (A1 m c) (A2 m c) (A3 m c) (A5 m c) (i 0) (i 1)).symm
  rw [e0]
  exact Projection.Data.head_congr (dat m c) rfl (by omega) (Fin.ext (by simp only; omega))

theorem point12 (c : Dev nD) (t : Fin cfg0.N) (y : S512x256.Idx) (i : S8192x256.Idx)
    (g0 : (i 0).val = t.val * 512 + (y 0).val) (g1 : (i 1).val = (y 1).val) :
    Gen.out0_12 (F := Ideal) (iblk m c 0 t) (iblk m c 1 t) (iblk m c 2 t) (iblk m c 3 t) (iblk m c 4 t) (iblk m c 5 t) (iblk m c 6 t) y = kdRef m c i := by
  unfold Gen.out0_12
  canon_tiles x h
  · idx_vars x
    refine (twice_hi (Kt m c t) x0 x1).trans
      ((kn_blocks m c t x0 _).trans (kd_of m c t x0 x1 64 (by norm_num) i ?_ ?_ ?_)) <;> omega
  · idx_vars x
    refine (twice_lo (Kt m c t) x0 x1).trans
      ((kn_blocks m c t x0 _).trans (kd_of m c t x0 x1 0 (by norm_num) i ?_ ?_ ?_)) <;> omega

theorem final12 (c : Dev nD) : (dats m 0 c).arrAt 12 (cfgs 0).N = kdRef m c := by
  refine (dats m 0 c).arrAt_eq_of_covers 12 _ (by decide +kernel) fun t _ y => ?_
  blk_simp
  rw [after0_12]
  refine point12 m c t y _ ?_ ?_ <;> blk_simp [idx t]

/-- The reference's doubled attention values over the kernel's argument arrays. -/
abbrev vdRef (c : Dev nD) : V S8192x256 .bf16 :=
  Cert.EvenRefIdeal.Read.val_main_v92 (F := Ideal) (A0 m c) (A1 m c) (A2 m c) (A3 m c)

theorem vd_of (c : Dev nD) (t : Fin cfg0.N) (r : Fin 512) (l : Fin 128) (o : ℕ) (ho : o ≤ 64) (i : S8192x256.Idx)
    (h0 : (i 0).val = t.val * 512 + r.val) (h1 : (i 1).val = o * 2 + l.val) (h64 : o % 64 = 0) :
    (dat m c).proj (row t r) ⟨3712 + (o + l.val % 64), hb3 ho⟩ = vdRef m c i := by
  have e0 : i 0 = row t r := Fin.ext h0
  rw [Idealize.ShloMosaic.eq_ix2 i]
  refine Eq.trans ?_ (Cert.EvenRefIdeal.Rows.vd_at (A0 m c) (A1 m c) (A2 m c) (A3 m c) (i 0) (i 1)).symm
  rw [e0]
  exact congrArg ((dat m c).proj (row t r)) (Fin.ext (by simp only; omega))

theorem point13 (c : Dev nD) (t : Fin cfg0.N) (y : S512x256.Idx) (i : S8192x256.Idx)
    (g0 : (i 0).val = t.val * 512 + (y 0).val) (g1 : (i 1).val = (y 1).val) :
    Gen.out0_13 (F := Ideal) (iblk m c 0 t) (iblk m c 1 t) (iblk m c 2 t) (iblk m c 3 t) (iblk m c 4 t) (iblk m c 5 t) (iblk m c 6 t) y = vdRef m c i := by
  unfold Gen.out0_13
  canon_tiles x h
  · idx_vars x
    refine (twice_hi (Vt m c t) x0 x1).trans
      ((vn_blocks m c t x0 _).trans (vd_of m c t x0 x1 64 (by norm_num) i ?_ ?_ ?_)) <;> omega
  · idx_vars x
    refine (twice_lo (Vt m c t) x0 x1).trans
      ((vn_blocks m c t x0 _).trans (vd_of m c t x0 x1 0 (by norm_num) i ?_ ?_ ?_)) <;> omega

theorem final13 (c : Dev nD) : (dats m 0 c).arrAt 13 (cfgs 0).N = vdRef m c := by
  refine (dats m 0 c).arrAt_eq_of_covers 13 _ (by decide +kernel) fun t _ y => ?_
  blk_simp
  rw [after0_13]
  refine point13 m c t y _ ?_ ?_ <;> blk_simp [idx t]

/-- The reference's cache of keys over the kernel's argument arrays. -/
abbrev ckRef (c : Dev nD) : V S32x1x2x256x64 .f32 :=
  Cert.EvenRefIdeal.Read.val_main_v94 (F := Ideal) (A0 m c) (A1 m c) (A2 m c) (A3 m c) (A5 m c)

/-- The same with its last two axes turned over, as the kernel's array holds it. -/
def ckT (c : Dev nD) : V S32x1x2x64x256 .f32 := fun i => ckRef m c (ix5 (i 0) 0 (i 2) (i 4) (i 3))

theorem ck_piece (c : Dev nD) (t : Fin cfg0.N) (ra hd : ℕ) (hra : ra + 256 ≤ 512) (hhd : hd + 64 ≤ 128)
    (h1 : S512x128.Slices ![ra, 0] S256x128) (h2 : S256x128.Transposes [1, 0] S128x256)
    (h3 : S128x256.Slices ![hd, 0] S64x256) (h4 : S64x256.ShapeCasts S1x1x1x64x256) (a0 a1 a2 : Fin 1) (d : Fin 64) (p : Fin 256)
    (i : S32x1x2x64x256.Idx)
    (hi : (i 0).val * 256 = t.val * 512 + ra ∧ (i 2).val * 64 = hd ∧ (i 3).val = d.val ∧ (i 4).val = p.val) :
    shapeCast S1x1x1x64x256 (extractStridedSlice S64x256 ![hd, 0] (transpose S128x256 [1, 0]
        (extractStridedSlice S256x128 ![ra, 0] (Kt m c t) h1) h2) h3) h4 (ix5 a0 a1 a2 d p)
      = ckT m c i := by
  obtain ⟨e0, e2, e3, e4⟩ := hi
  have e4' : i 4 = p := Fin.ext e4
  have e3' : i 3 = d := Fin.ext e3
  refine (turned_at _ ra hd hra hhd h1 h2 h3 h4 a0 a1 a2 d p).trans ((kn_blocks m c t _ _).trans ?_)
  unfold ckT
  rw [e4', e3']
  refine Eq.trans ?_ (Cert.EvenRefIdeal.Rows.ck_at (A0 m c) (A1 m c) (A2 m c) (A3 m c) (A5 m c) (i 0) (i 2) p d).symm
  refine Projection.Data.head_congr (dat m c) (Fin.ext ?_) ?_ (Fin.ext ?_)
  · simp only [row, Cert.EvenRefIdeal.Rows.at']
    omega
  · simp only
    omega
  · simp only
    omega

theorem point14 (c : Dev nD) (t : Fin cfg0.N) (y : S2x1x2x64x256.Idx) (i : S32x1x2x64x256.Idx)
    (g0 : (i 0).val = t.val * 2 + (y 0).val) (g2 : (i 2).val = (y 2).val) (g3 : (i 3).val = (y 3).val)
    (g4 : (i 4).val = (y 4).val) :
    Gen.out0_14 (F := Ideal) (iblk m c 0 t) (iblk m c 1 t) (iblk m c 2 t) (iblk m c 3 t) (iblk m c 4 t) (iblk m c 5 t) (iblk m c 6 t) y = ckT m c i := by
  unfold Gen.out0_14
  canon_tiles x h
  · idx_vars x
    exact ck_piece m c t 256 64 (by norm_num) (by norm_num) slices_S512x128_o256_0_S256x128 transposes_S256x128_p1_0_S128x256
      slices_S128x256_o64_0_S64x256 shapeCasts_S64x256_S1x1x1x64x256 x0 x1 x2 x3 x4 i (by omega)
  · idx_vars x
    exact ck_piece m c t 256 0 (by norm_num) (by norm_num) slices_S512x128_o256_0_S256x128 transposes_S256x128_p1_0_S128x256
      slices_S128x256_o0_0_S64x256 shapeCasts_S64x256_S1x1x1x64x256 x0 x1 x2 x3 x4 i (by omega)
  · idx_vars x
    exact ck_piece m c t 0 64 (by norm_num) (by norm_num) slices_S512x128_o0_0_S256x128 transposes_S256x128_p1_0_S128x256
      slices_S128x256_o64_0_S64x256 shapeCasts_S64x256_S1x1x1x64x256 x0 x1 x2 x3 x4 i (by omega)
  · idx_vars x
    exact ck_piece m c t 0 0 (by norm_num) (by norm_num) slices_S512x128_o0_0_S256x128 transposes_S256x128_p1_0_S128x256
      slices_S128x256_o0_0_S64x256 shapeCasts_S64x256_S1x1x1x64x256 x0 x1 x2 x3 x4 i (by omega)

theorem final14 (c : Dev nD) : (dats m 0 c).arrAt 14 (cfgs 0).N = ckT m c := by
  refine (dats m 0 c).arrAt_eq_of_covers 14 _ (by decide +kernel) fun t _ y => ?_
  blk_simp
  rw [after0_14]
  refine point14 m c t y _ ?_ ?_ ?_ ?_ <;> blk_simp [idx t]

/-- Turned over again, it is the reference's cache. -/
theorem ck_turned (c : Dev nD) (h : S32x1x2x64x256.Transposes [0, 1, 2, 4, 3] S32x1x2x256x64) :
    transpose S32x1x2x256x64 [0, 1, 2, 4, 3] (ckT m c) h = ckRef m c := by
  funext j
  rw [Idealize.ShloMosaic.eq_ix5 j]
  generalize hz : ckRef m c = z
  pointwise [ckT, hz]
  have e : (0 : Fin 1) = j 1 := Subsingleton.elim _ _
  exact congrArg z ((congrArg (fun a => ix5 (j 0) a (j 2) (j 3) (j 4)) e).trans (Idealize.ShloMosaic.eq_ix5 j).symm)

/-- The cache after the lines that follow the region. -/
theorem ck_tail (c : Dev nD) :
    Pipeline.afterTail₀ cfgs (dats m) 0 (V0 m) [hostOps1] c main_v17 = ckRef m c := by
  have e : Pipeline.withArrays (cfgs 0).spec c (V0 m c) (fun w => (dats m 0 c).arrAt w (cfgs 0).N) (Proc.devRef .tc main_v16_7)
      = ckT m c :=
    ((dats m 0 c).withArrays_arrAt sharedIn0 (V0 m c) (A_eq m c) 14).trans (final14 m c)
  unfold Pipeline.afterTail₀
  simp only [hostOps1, List.flatten_cons, List.flatten_nil, List.append_nil, List.cons_append, List.nil_append]
  entry_read
  rw [e]
  exact ck_turned m c _

/-- The reference's cache of values over the kernel's argument arrays. -/
abbrev cvRef (c : Dev nD) : V S32x1x2x256x64 .f32 :=
  Cert.EvenRefIdeal.Read.val_main_v96 (F := Ideal) (A0 m c) (A1 m c) (A2 m c) (A3 m c)

/-- The same with its last two axes turned over, as the kernel's array holds it. -/
def cvT (c : Dev nD) : V S32x1x2x64x256 .f32 := fun i => cvRef m c (ix5 (i 0) 0 (i 2) (i 4) (i 3))

theorem cv_piece (c : Dev nD) (t : Fin cfg0.N) (ra hd : ℕ) (hra : ra + 256 ≤ 512) (hhd : hd + 64 ≤ 128)
    (h1 : S512x128.Slices ![ra, 0] S256x128) (h2 : S256x128.Transposes [1, 0] S128x256)
    (h3 : S128x256.Slices ![hd, 0] S64x256) (h4 : S64x256.ShapeCasts S1x1x1x64x256) (a0 a1 a2 : Fin 1) (d : Fin 64) (p : Fin 256)
    (i : S32x1x2x64x256.Idx)
    (hi : (i 0).val * 256 = t.val * 512 + ra ∧ (i 2).val * 64 = hd ∧ (i 3).val = d.val ∧ (i 4).val = p.val) :
    shapeCast S1x1x1x64x256 (extractStridedSlice S64x256 ![hd, 0] (transpose S128x256 [1, 0]
        (extractStridedSlice S256x128 ![ra, 0] (Vt m c t) h1) h2) h3) h4 (ix5 a0 a1 a2 d p)
      = cvT m c i := by
  obtain ⟨e0, e2, e3, e4⟩ := hi
  have e4' : i 4 = p := Fin.ext e4
  have e3' : i 3 = d := Fin.ext e3
  refine (turned_at _ ra hd hra hhd h1 h2 h3 h4 a0 a1 a2 d p).trans ((vn_blocks m c t _ _).trans ?_)
  unfold cvT
  rw [e4', e3']
  refine Eq.trans ?_ (Cert.EvenRefIdeal.Rows.cv_at (A0 m c) (A1 m c) (A2 m c) (A3 m c) (i 0) (i 2) p d).symm
  refine congrArg₂ (dat m c).proj (Fin.ext ?_) (Fin.ext ?_)
  · simp only [row, Cert.EvenRefIdeal.Rows.at']
    omega
  · simp only
    omega

theorem point15 (c : Dev nD) (t : Fin cfg0.N) (y : S2x1x2x64x256.Idx) (i : S32x1x2x64x256.Idx)
    (g0 : (i 0).val = t.val * 2 + (y 0).val) (g2 : (i 2).val = (y 2).val) (g3 : (i 3).val = (y 3).val)
    (g4 : (i 4).val = (y 4).val) :
    Gen.out0_15 (F := Ideal) (iblk m c 0 t) (iblk m c 1 t) (iblk m c 2 t) (iblk m c 3 t) (iblk m c 4 t) (iblk m c 5 t) (iblk m c 6 t) y = cvT m c i := by
  unfold Gen.out0_15
  canon_tiles x h
  · idx_vars x
    exact cv_piece m c t 256 64 (by norm_num) (by norm_num) slices_S512x128_o256_0_S256x128 transposes_S256x128_p1_0_S128x256
      slices_S128x256_o64_0_S64x256 shapeCasts_S64x256_S1x1x1x64x256 x0 x1 x2 x3 x4 i (by omega)
  · idx_vars x
    exact cv_piece m c t 256 0 (by norm_num) (by norm_num) slices_S512x128_o256_0_S256x128 transposes_S256x128_p1_0_S128x256
      slices_S128x256_o0_0_S64x256 shapeCasts_S64x256_S1x1x1x64x256 x0 x1 x2 x3 x4 i (by omega)
  · idx_vars x
    exact cv_piece m c t 0 64 (by norm_num) (by norm_num) slices_S512x128_o0_0_S256x128 transposes_S256x128_p1_0_S128x256
      slices_S128x256_o64_0_S64x256 shapeCasts_S64x256_S1x1x1x64x256 x0 x1 x2 x3 x4 i (by omega)
  · idx_vars x
    exact cv_piece m c t 0 0 (by norm_num) (by norm_num) slices_S512x128_o0_0_S256x128 transposes_S256x128_p1_0_S128x256
      slices_S128x256_o0_0_S64x256 shapeCasts_S64x256_S1x1x1x64x256 x0 x1 x2 x3 x4 i (by omega)

theorem final15 (c : Dev nD) : (dats m 0 c).arrAt 15 (cfgs 0).N = cvT m c := by
  refine (dats m 0 c).arrAt_eq_of_covers 15 _ (by decide +kernel) fun t _ y => ?_
  blk_simp
  rw [after0_15]
  refine point15 m c t y _ ?_ ?_ ?_ ?_ <;> blk_simp [idx t]

/-- Turned over again, it is the reference's cache. -/
theorem cv_turned (c : Dev nD) (h : S32x1x2x64x256.Transposes [0, 1, 2, 4, 3] S32x1x2x256x64) :
    transpose S32x1x2x256x64 [0, 1, 2, 4, 3] (cvT m c) h = cvRef m c := by
  funext j
  rw [Idealize.ShloMosaic.eq_ix5 j]
  generalize hz : cvRef m c = z
  pointwise [cvT, hz]
  have e : (0 : Fin 1) = j 1 := Subsingleton.elim _ _
  exact congrArg z ((congrArg (fun a => ix5 (j 0) a (j 2) (j 3) (j 4)) e).trans (Idealize.ShloMosaic.eq_ix5 j).symm)

/-- The cache after the lines that follow the region. -/
theorem cv_tail (c : Dev nD) :
    Pipeline.afterTail₀ cfgs (dats m) 0 (V0 m) [hostOps1] c main_v18 = cvRef m c := by
  have e : Pipeline.withArrays (cfgs 0).spec c (V0 m c) (fun w => (dats m 0 c).arrAt w (cfgs 0).N) (Proc.devRef .tc main_v16_8)
      = cvT m c :=
    ((dats m 0 c).withArrays_arrAt sharedIn0 (V0 m c) (A_eq m c) 15).trans (final15 m c)
  unfold Pipeline.afterTail₀
  simp only [hostOps1, List.flatten_cons, List.flatten_nil, List.append_nil, List.cons_append, List.nil_append]
  entry_read
  rw [e]
  exact cv_turned m c _

end Cert.EvenIdeal.Mix

end
-- ==== Proof.Rope.lean ====
/-
The rotary embedding of a head of 64 entries: each half of the head is turned by the angles of one axis, entry `j` of its
first sixteen together with entry `j + 16`.
-/
module

public import proofs.«01_k».proof.Proof.HeadNorm

@[expose] public section

noncomputable section

open Idealize.ShloMosaic

namespace Cert.Projection

/-- A head turned by the angles `a`, given per entry. -/
def turn (z a : Fin 64 → EReal) (d : Fin 64) : EReal :=
  if h : d.val % 32 < 16 then z d * Ideal.cos (a d) - z ⟨d.val + 16, by omega⟩ * Ideal.sin (a d)
  else z d * Ideal.cos (a d) + z ⟨d.val - 16, by omega⟩ * Ideal.sin (a d)

/-- The same with the first half's sign moved into the sine. -/
theorem turn_eq (z a : Fin 64 → EReal) (d : Fin 64) :
    turn z a d = z d * Ideal.cos (a d) + (if h : d.val % 32 < 16 then z ⟨d.val + 16, by omega⟩ else z ⟨d.val - 16, by omega⟩)
      * (if d.val % 32 < 16 then -Ideal.sin (a d) else Ideal.sin (a d)) := by
  unfold turn
  split
  · rw [mul_neg, sub_eq_add_neg]
  · rfl

/-- The two halves' formulas, read at equal places. -/
theorem sub_parts (f : Fin 64 → EReal) (u v : Fin 16 → EReal) {i i' j j' : Fin 64} {k k' : Fin 16} (hi : i.val = i'.val)
    (hj : j.val = j'.val) (hk : k.val = k'.val) : f i * u k - f j * v k = f i' * u k' - f j' * v k' := by
  rw [Fin.ext hi, Fin.ext hj, Fin.ext hk]

theorem add_parts (f : Fin 64 → EReal) (u v : Fin 16 → EReal) {i i' j j' : Fin 64} {k k' : Fin 16} (hi : i.val = i'.val)
    (hj : j.val = j'.val) (hk : k.val = k'.val) : f i * u k + f j * v k = f i' * u k' + f j' * v k' := by
  rw [Fin.ext hi, Fin.ext hj, Fin.ext hk]

variable {W : ℕ} (D : Data W)

/-- The projected columns of the head that lie from `o` on. -/
def Data.cols (R : Fin 8192) (o : ℕ) (ho : o + 64 ≤ W) (d : Fin 64) : EReal :=
  D.proj R ⟨o + d.val, Nat.lt_of_lt_of_le (Nat.add_lt_add_left d.isLt o) ho⟩

theorem Data.cols_congr {R : Fin 8192} {o o' : ℕ} {ho : o + 64 ≤ W} {ho' : o' + 64 ≤ W} (h : o = o') :
    D.cols R o ho = D.cols R o' ho' := by
  subst h
  rfl

end Cert.Projection

end
-- ==== Proof.EvenLatBlocks.lean ====
/-
The blocks the latent stream's first projection call reads at a grid point: which entry of which argument each holds.
-/
module

public import proofs.«01_k».proof.Proof.Rope
public import proofs.«01_k».proof.Proof.Gen.EvenLatIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenLatIdeal.Mix

open Cert.EvenLatIdeal Cert.EvenLatIdeal.Gen

local notation "V" => FVec Idealize.ShloMosaic.Ideal

/-- What the call reads, out of the argument arrays. -/
def data (x : V S8x1024x1024 .f32) (m : V S8x6144 .f32) (g : V S2x1024 .f32) (w : V S1024x3840 .f32) : Projection.Data 3840 where
  x R c := x (ix3 ⟨R / 1024, by omega⟩ ⟨R % 1024, by omega⟩ c)
  sh R c := m (ix2 ⟨R / 1024, by omega⟩ ⟨0 + c, by omega⟩)
  sc R c := m (ix2 ⟨R / 1024, by omega⟩ ⟨1024 + c, by omega⟩)
  g c := g (ix2 0 c)
  w k f := w (ix2 k f)

/-- The angle of a head's entry at a row of the stream: the row axis's for the first half, the column axis's for the second. -/
def ang (a b : V S1024x16 .f32) (R : Fin 8192) (d : Fin 64) : EReal :=
  if d.val < 32 then a (ix2 ⟨R.val % 1024, by omega⟩ ⟨d.val % 16, by omega⟩) else b (ix2 ⟨R.val % 1024, by omega⟩ ⟨d.val % 16, by omega⟩)

variable (m : (ℓ : Loc nD τ sig) → Buf (Elt Ideal) ℓ)

/-- The same, out of the launch memory. -/
abbrev dat (c : Dev nD) : Projection.Data 3840 :=
  data (m (c, Proc.tc.devRef main_arg0)) (m (c, Proc.tc.devRef main_arg1)) (m (c, Proc.tc.devRef main_arg2))
    (m (c, Proc.tc.devRef main_arg3))

/-- The gains of the two head norms. -/
def gains (g : V S64 .f32) (d : Fin 64) : EReal := g (ix1 d)

/-- Where each window stands at a grid point. -/
theorem idx : ∀ t : Fin cfg0.N, win0_0.index t = ![t.val, 0] ∧ win0_1.index t = ![0, 1 + t.val / 2, 0, 0, 0]
    ∧ win0_2.index t = ![0, 1 + t.val / 2, 1, 0, 0] ∧ win0_3.index t = ![0, 0] ∧ win0_4.index t = ![0, 0]
    ∧ win0_5.index t = ![0, 0] ∧ win0_6.index t = ![0, 0] ∧ win0_7.index t = ![t.val % 2, 0] ∧ win0_8.index t = ![t.val % 2, 0]
    ∧ win0_9.index t = ![0, t.val, 0] ∧ win0_10.index t = ![0, t.val, 0] ∧ win0_11.index t = ![0, t.val, 0] ∧ win0_12.index t = ![0, t.val, 0] ∧ win0_13.index t = ![t.val, 0] ∧ win0_14.index t = ![t.val, 0] ∧ win0_15.index t = ![t.val, 0] :=
  (by decide +kernel : ∀ t : Fin grid0.N, _)

theorem lt16 (t : Fin cfg0.N) : t.val < 16 := lt_of_lt_of_eq t.isLt (by decide)

/-- The row of the stream a row of a grid point's tile is. -/
def row (t : Fin cfg0.N) (r : Fin 512) : Fin 8192 := ⟨t.val * 512 + r.val, by have := lt16 t; omega⟩

theorem x_at (c : Dev nD) (t : Fin cfg0.N) (y : Fin 512) (x : Fin 1024) :
    (show V S512x1024 .f32 from iblk m c 0 t) (ix2 y x) = (dat m c).x (row t y) x := by
  unfold dat data row
  blk_simp [iblk, idx t]
  simp only [Gen.V, hostOps0, hostOps0_1, hostOps0_2, List.flatten_cons, List.flatten_nil, List.cons_append, List.nil_append, List.append_nil]
  entry_read
  pointwise
  have h16 := lt16 t
  blk_ext [idx t]

theorem sh_at (c : Dev nD) (t : Fin cfg0.N) (y : Fin 512) (x : Fin 1024) :
    (show V S1x1x1x1x1024 .f32 from iblk m c 1 t) (ix5 0 0 0 0 x) = (dat m c).sh (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h16 := lt16 t
  rw [dif_pos (by blk_simp [idx t]; omega)]
  blk_ext [idx t]

theorem sc_at (c : Dev nD) (t : Fin cfg0.N) (y : Fin 512) (x : Fin 1024) :
    (show V S1x1x1x1x1024 .f32 from iblk m c 2 t) (ix5 0 0 0 0 x) = (dat m c).sc (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h16 := lt16 t
  rw [dif_pos (by blk_simp [idx t]; omega)]
  blk_ext [idx t]

theorem g_at (c : Dev nD) (t : Fin cfg0.N) (x : Fin 1024) :
    (show V S1x1024 .f32 from iblk m c 3 t) (ix2 0 x) = (dat m c).g x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem w_at (c : Dev nD) (t : Fin cfg0.N) (k : Fin 1024) (f : Fin 3840) :
    (show V S1024x3840 .bf16 from iblk m c 4 t) (ix2 k f) = (dat m c).w k f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem qg_at (c : Dev nD) (t : Fin cfg0.N) (x : Fin 128) :
    (show V S1x128 .f32 from iblk m c 5 t) (ix2 0 x) = gains (m (c, Proc.tc.devRef main_arg4)) ⟨x.val % 64, by omega⟩ := by
  unfold gains
  blk_simp [iblk, idx t]
  simp only [Gen.V, hostOps0, hostOps0_1, hostOps0_2, List.flatten_cons, List.flatten_nil, List.cons_append, List.nil_append, List.append_nil]
  entry_read
  pointwise
  blk_ext [idx t]

theorem kg_at (c : Dev nD) (t : Fin cfg0.N) (x : Fin 128) :
    (show V S1x128 .f32 from iblk m c 6 t) (ix2 0 x) = gains (m (c, Proc.tc.devRef main_arg5)) ⟨x.val % 64, by omega⟩ := by
  unfold gains
  blk_simp [iblk, idx t]
  simp only [Gen.V, hostOps0, hostOps0_1, hostOps0_2, List.flatten_cons, List.flatten_nil, List.cons_append, List.nil_append, List.append_nil]
  entry_read
  pointwise
  blk_ext [idx t]

end Cert.EvenLatIdeal.Mix

end
-- ==== Proof.EvenLatTables.lean ====
/-
The two tables of the latent stream's first projection call: the cosines, and the sines with the sign of the first half,
each lane's out of the angle of its entry.
-/
module

public import proofs.«01_k».proof.Proof.EvenLatBlocks
public import proofs.«01_k».proof.Proof.Gen.EvenLatIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenLatIdeal.Mix

open Cert.EvenLatIdeal Cert.EvenLatIdeal.Gen

local notation "V" => FVec Idealize.ShloMosaic.Ideal

variable (m : (ℓ : Loc nD τ sig) → Buf (Elt Ideal) ℓ)

/-- A table of 128 lanes out of its four pieces of sixteen. -/
def lanes (a b d e : V S1024x16 .f32) : V S1024x128 .f32 :=
  (fun h : V S1024x64 .f32 => concatenate S1024x128 1 [⟨S1024x64, h⟩, ⟨S1024x64, h⟩] concatenates_S1024x64_S1024x64_S1024x128_d1)
    (concatenate S1024x64 1 [⟨S1024x32, concatenate S1024x32 1 [⟨S1024x16, a⟩, ⟨S1024x16, b⟩] concatenates_S1024x16_S1024x16_S1024x32_d1⟩,
      ⟨S1024x32, concatenate S1024x32 1 [⟨S1024x16, d⟩, ⟨S1024x16, e⟩] concatenates_S1024x16_S1024x16_S1024x32_d1⟩]
      concatenates_S1024x32_S1024x32_S1024x64_d1)

theorem lanes_at (a b d e : V S1024x16 .f32) (r : Fin 1024) (l : Fin 128) :
    lanes a b d e (ix2 r l) = if l.val % 64 < 32 then (if l.val % 32 < 16 then a (ix2 r ⟨l.val % 16, by omega⟩) else b (ix2 r ⟨l.val % 16, by omega⟩))
      else (if l.val % 32 < 16 then d (ix2 r ⟨l.val % 16, by omega⟩) else e (ix2 r ⟨l.val % 16, by omega⟩)) := by
  pointwise [lanes]
  split_ifs <;> first | (exfalso; omega) | rfl | (repeat' split) <;> first | (exfalso; omega) | (congr 2; exact Fin.ext (by simp only; omega)) | blk_ext

set_option maxHeartbeats 1600000 in
theorem tab7 (c : Dev nD) : Gen.V m c main_v15 = lanes (Host.cos (F := Ideal) (m (c, Proc.tc.devRef main_arg6))) (Host.cos (F := Ideal) (m (c, Proc.tc.devRef main_arg6))) (Host.cos (F := Ideal) (m (c, Proc.tc.devRef main_arg7))) (Host.cos (F := Ideal) (m (c, Proc.tc.devRef main_arg7))) := by
  simp only [Gen.V, hostOps0, hostOps0_1, hostOps0_2, List.flatten_cons, List.flatten_nil, List.cons_append, List.nil_append, List.append_nil]
  after_results_simp
  rfl

set_option maxHeartbeats 1600000 in
theorem tab8 (c : Dev nD) : Gen.V m c main_v16 = lanes (Host.negf (F := Ideal) (Host.sin (F := Ideal) (m (c, Proc.tc.devRef main_arg6)))) (Host.sin (F := Ideal) (m (c, Proc.tc.devRef main_arg6))) (Host.negf (F := Ideal) (Host.sin (F := Ideal) (m (c, Proc.tc.devRef main_arg7)))) (Host.sin (F := Ideal) (m (c, Proc.tc.devRef main_arg7))) := by
  simp only [Gen.V, hostOps0, hostOps0_1, hostOps0_2, List.flatten_cons, List.flatten_nil, List.cons_append, List.nil_append, List.append_nil]
  after_results_simp
  rfl

/-- The angles out of the launch memory. -/
abbrev dang (c : Dev nD) : Fin 8192 → Fin 64 → EReal := ang (m (c, Proc.tc.devRef main_arg6)) (m (c, Proc.tc.devRef main_arg7))

theorem cs_at (c : Dev nD) (t : Fin cfg0.N) (r : Fin 512) (l : Fin 128) :
    (show V S512x128 .f32 from iblk m c 7 t) (ix2 r l) = Ideal.cos (dang m c (row t r) ⟨l.val % 64, by omega⟩) := by
  have h16 := lt16 t
  have e : (show V S512x128 .f32 from iblk m c 7 t) (ix2 r l) = Gen.V m c main_v15 (ix2 ⟨(t.val * 512 + r.val) % 1024, by omega⟩ l) := by
    blk_ext [iblk, idx t]
  have e2 : l.val % 64 % 16 = l.val % 16 := by omega
  rw [e, tab7, lanes_at]
  unfold dang ang row
  simp only [e2]
  pointwise
  split_ifs <;> first | (exfalso; omega) | rfl

theorem sn_at (c : Dev nD) (t : Fin cfg0.N) (r : Fin 512) (l : Fin 128) :
    (show V S512x128 .f32 from iblk m c 8 t) (ix2 r l) = (if l.val % 32 < 16 then -Ideal.sin (dang m c (row t r) ⟨l.val % 64, by omega⟩) else Ideal.sin (dang m c (row t r) ⟨l.val % 64, by omega⟩)) := by
  have h16 := lt16 t
  have e : (show V S512x128 .f32 from iblk m c 8 t) (ix2 r l) = Gen.V m c main_v16 (ix2 ⟨(t.val * 512 + r.val) % 1024, by omega⟩ l) := by
    blk_ext [iblk, idx t]
  have e2 : l.val % 64 % 16 = l.val % 16 := by omega
  rw [e, tab8, lanes_at]
  unfold dang ang row
  simp only [e2]
  pointwise
  split_ifs <;> first | (exfalso; omega) | rfl

end Cert.EvenLatIdeal.Mix

end
-- ==== Proof.EvenLatOps.lean ====
/-
The vector operations the latent stream's first projection call stores, and the value of each at an index: the modulated
norm, the products with column blocks, the gates, the two heads' norm and the turning of two heads in one vector of 128
lanes, and the rotation that writes each key and value head twice.
-/
module

public import proofs.«01_k».proof.Proof.EvenLatTables

@[expose] public section

set_option maxRecDepth 16384

noncomputable section

open Idealize.ShloMosaic Idealize.ShloMosaic.TcCoe Idealize.SL.Sem
open Idealize.ShloMosaic.Pipeline (Dat)

namespace Cert.EvenLatIdeal.Mix

open Cert.EvenLatIdeal Cert.EvenLatIdeal.Gen

local notation "V" => FVec Idealize.ShloMosaic.Ideal

/-- A row divided by the root of its mean square. -/
def rmsT (y : V S512x1024 .f32) : V S512x1024 .f32 :=
  mulf y (broadcastTo S512x1024
    (rsqrt (addf (divf (shapeCast S512x1
        (multiReduction .add [1] S512 (mulf y y) 0x00000000#32 reduces_S512x1024_S512 (.inl rfl) rfl) shapeCasts_S512_S512x1)
      (broadcast S512x1 (Scalar.ofBits .f32 0x44800000#32 : Idealize.ShloMosaic.Ideal .f32)))
      (broadcast S512x1 (Scalar.ofBits .f32 0x358637BD#32 : Idealize.ShloMosaic.Ideal .f32))))
    broadcasts_S512x1_S512x1024)

theorem rmsT_at (y : V S512x1024 .f32) (r : Fin 512) (c : Fin 1024) :
    rmsT y (ix2 r c) = ConvFfn.rms (fun k => y (ix2 r k)) c := by
  unfold ConvFfn.rms
  pointwise [rmsT]

/-- The normalised row with its gain, scale and shift. -/
def hidT (y : V S512x1024 .f32) (g : V S1x1024 .f32) (sc sh : V S1x1x1x1x1024 .f32) : V S512x1024 .bf16 :=
  truncf .bf16 (addf (mulf
      (mulf (rmsT (shapeCast S512x1024 y shapeCasts_S512x1024_S512x1024)) (broadcastTo S512x1024 (shapeCast S1x1024 g shapeCasts_S1x1024_S1x1024) broadcasts_S1x1024_S512x1024))
      (broadcastTo S512x1024 (addf (broadcast S1x1024 (Scalar.ofBits .f32 0x3F800000#32 : Idealize.ShloMosaic.Ideal .f32))
        (shapeCast S1x1024 sc shapeCasts_S1x1x1x1x1024_S1x1024)) broadcasts_S1x1024_S512x1024))
      (broadcastTo S512x1024 (shapeCast S1x1024 sh shapeCasts_S1x1x1x1x1024_S1x1024) broadcasts_S1x1024_S512x1024))
      bitsLt_bf16_f32

theorem pay_hid (y : V S512x1024 .f32) (g : V S1x1024 .f32) (sc sh : V S1x1x1x1x1024 .f32) :
    k0_pay6 (F := Ideal) y g sc sh = hidT y g sc sh := rfl

/-- The modulated norm of a tile whose operands hold a row's data. -/
theorem hid_at (D : Projection.Data 3840) (R : Fin 8192) (y : V S512x1024 .f32) (g : V S1x1024 .f32)
    (sc sh : V S1x1x1x1x1024 .f32) (r : Fin 512) (c : Fin 1024) (h0 : ∀ k, y (ix2 r k) = D.x R k)
    (h1 : g (ix2 0 c) = D.g c) (h2 : sc (ix5 0 0 0 0 c) = D.sc R c) (h3 : sh (ix5 0 0 0 0 c) = D.sh R c) :
    k0_pay6 (F := Ideal) y g sc sh (ix2 r c) = D.hid R c := by
  have e : shapeCast S512x1024 y shapeCasts_S512x1024_S512x1024 = y := by
    funext i
    rw [Idealize.ShloMosaic.eq_ix2 i]
    pointwise
  rw [pay_hid]
  unfold hidT Projection.Data.hid
  rw [e, ← funext h0, ← rmsT_at, ← h1, ← h2, ← h3]
  generalize hz : rmsT y = z
  pointwise [hz]

/-- The norm of the two heads a vector of 128 lanes holds, with the gains. -/
def normT (y : V S512x128 .f32) (gn : V S1x128 .f32) : V S512x128 .f32 :=
  mulf (mulf y (select k0_pay7
    (broadcastTo S512x128 (shapeCast S512x1 (rsqrt (addf (mulf (shapeCast S512x1
        (multiReduction .add [1] S512 (select k0_pay7 (mulf y y) (broadcast S512x128 (Scalar.ofBits .f32 0x00000000#32 : Idealize.ShloMosaic.Ideal .f32)))
          0x00000000#32 reduces_S512x128_S512 (.inl rfl) rfl) shapeCasts_S512_S512x1)
        (broadcast S512x1 (Scalar.ofBits .f32 0x3C800000#32 : Idealize.ShloMosaic.Ideal .f32)))
        (broadcast S512x1 (Scalar.ofBits .f32 0x358637BD#32 : Idealize.ShloMosaic.Ideal .f32)))) shapeCasts_S512x1_S512x1) broadcasts_S512x1_S512x128)
    (broadcastTo S512x128 (shapeCast S512x1 (rsqrt (addf (mulf (shapeCast S512x1
        (multiReduction .add [1] S512 (select k0_pay7 (broadcast S512x128 (Scalar.ofBits .f32 0x00000000#32 : Idealize.ShloMosaic.Ideal .f32)) (mulf y y))
          0x00000000#32 reduces_S512x128_S512 (.inl rfl) rfl) shapeCasts_S512_S512x1)
        (broadcast S512x1 (Scalar.ofBits .f32 0x3C800000#32 : Idealize.ShloMosaic.Ideal .f32)))
        (broadcast S512x1 (Scalar.ofBits .f32 0x358637BD#32 : Idealize.ShloMosaic.Ideal .f32)))) shapeCasts_S512x1_S512x1) broadcasts_S512x1_S512x128)))
    (broadcastTo S512x128 gn broadcasts_S1x128_S512x128)

/-- The mask of the first 64 lanes, as a choice. -/
theorem mask_at {α : Type} (r : Fin 512) (l : Fin 128) (x y : α) :
    Scalar.select (k0_pay7 (ix2 r l)) x y = if l.val < 64 then x else y := by
  have key : ∀ l : Fin 128, IntOp.cmpi .slt (BitVec.ofNat 32 l.val) 64#32 = if l.val < 64 then 1#1 else 0#1 := by
    decide +kernel
  pointwise [k0_pay7]
  rw [key l]
  split <;> rfl

theorem lo_at (y : V S512x128 .f32) (r : Fin 512) :
    multiReduction .add [1] S512 (select k0_pay7 (mulf y y) (broadcast S512x128 (Scalar.ofBits .f32 0x00000000#32 : Idealize.ShloMosaic.Ideal .f32)))
          0x00000000#32 reduces_S512x128_S512 (.inl rfl) rfl (ix1 r)
      = ∑ k : Fin 64, y (ix2 r ⟨0 + k.val, by omega⟩) * y (ix2 r ⟨0 + k.val, by omega⟩) := by
  pointwise [mask_at]
  simp

theorem hi_at (y : V S512x128 .f32) (r : Fin 512) :
    multiReduction .add [1] S512 (select k0_pay7 (broadcast S512x128 (Scalar.ofBits .f32 0x00000000#32 : Idealize.ShloMosaic.Ideal .f32)) (mulf y y))
          0x00000000#32 reduces_S512x128_S512 (.inl rfl) rfl (ix1 r)
      = ∑ k : Fin 64, y (ix2 r ⟨64 + k.val, by omega⟩) * y (ix2 r ⟨64 + k.val, by omega⟩) := by
  pointwise [mask_at]
  simp

theorem normT_at (y : V S512x128 .f32) (gn : V S1x128 .f32) (r : Fin 512) (l : Fin 128) :
    normT y gn (ix2 r l)
      = Projection.hrms (fun k => y (ix2 r ⟨l.val / 64 * 64 + k.val, by omega⟩)) ⟨l.val % 64, by omega⟩ * gn (ix2 0 l) := by
  unfold normT
  have h1 := lo_at y r
  have h2 := hi_at y r
  generalize multiReduction .add [1] S512 (select k0_pay7 (mulf y y) (broadcast S512x128 (Scalar.ofBits .f32 0x00000000#32 : Idealize.ShloMosaic.Ideal .f32)))
          0x00000000#32 reduces_S512x128_S512 (.inl rfl) rfl = s1 at h1 ⊢
  generalize multiReduction .add [1] S512 (select k0_pay7 (broadcast S512x128 (Scalar.ofBits .f32 0x00000000#32 : Idealize.ShloMosaic.Ideal .f32)) (mulf y y))
          0x00000000#32 reduces_S512x128_S512 (.inl rfl) rfl = s2 at h2 ⊢
  generalize hS1 : (∑ k : Fin 64, y (ix2 r ⟨0 + k.val, by omega⟩) * y (ix2 r ⟨0 + k.val, by omega⟩)) = S1 at h1
  generalize hS2 : (∑ k : Fin 64, y (ix2 r ⟨64 + k.val, by omega⟩) * y (ix2 r ⟨64 + k.val, by omega⟩)) = S2 at h2
  pointwise [mask_at, h1, h2]
  rw [Projection.mean64, Projection.mean64]
  unfold Projection.hrms
  by_cases hl : l.val < 64
  · have e : (fun k : Fin 64 => y (ix2 r ⟨l.val / 64 * 64 + k.val, by omega⟩)) = fun k : Fin 64 => y (ix2 r ⟨0 + k.val, by omega⟩) :=
      funext fun k => congrArg (fun l => y (ix2 r l)) (Fin.ext (by simp only; omega))
    have e' : l = ⟨0 + l.val % 64, by omega⟩ := Fin.ext (by simp only; omega)
    rw [if_pos hl, e, ← hS1]
    exact congrArg (· * _ * _) (congrArg (fun l => y (ix2 r l)) e')
  · have e : (fun k : Fin 64 => y (ix2 r ⟨l.val / 64 * 64 + k.val, by omega⟩)) = fun k : Fin 64 => y (ix2 r ⟨64 + k.val, by omega⟩) :=
      funext fun k => congrArg (fun l => y (ix2 r l)) (Fin.ext (by simp only; omega))
    have e' : l = ⟨64 + l.val % 64, by omega⟩ := Fin.ext (by simp only; omega)
    rw [if_neg hl, e, ← hS2]
    exact congrArg (· * _ * _) (congrArg (fun l => y (ix2 r l)) e')

theorem pay11_at (z : V S512x1024 .bf16) (w : V S1024x512 .bf16) (r : Fin 512) (f : Fin 512) :
    k0_pay11 (F := Ideal) z w (ix2 r f) = ∑ k : Fin 1024, z (ix2 r k) * w (ix2 k f) := by
  pointwise [k0_pay11]

theorem pay35_at (z : V S512x1024 .bf16) (w : V S1024x512 .bf16) (r : Fin 512) (f : Fin 512) :
    k0_pay35 (F := Ideal) z w (ix2 r f) = ∑ k : Fin 1024, z (ix2 r k) * w (ix2 k f) := by
  pointwise [k0_pay35]

theorem pay41_at (z : V S512x1024 .bf16) (w : V S1024x512 .bf16) (r : Fin 512) (f : Fin 512) :
    k0_pay41 (F := Ideal) z w (ix2 r f) = (∑ k : Fin 1024, z (ix2 r k) * w (ix2 k f)) * Ideal.ofBits .f32 0x3E000000#32 := by
  pointwise [k0_pay41]

theorem pay47_at (z : V S512x1024 .bf16) (w : V S1024x512 .bf16) (r : Fin 512) (f : Fin 512) :
    k0_pay47 (F := Ideal) z w (ix2 r f) = ∑ k : Fin 1024, z (ix2 r k) * w (ix2 k f) := by
  pointwise [k0_pay47]

theorem pay55_at (z : V S512x1024 .bf16) (w : V S1024x512 .bf16) (r : Fin 512) (f : Fin 512) :
    k0_pay55 (F := Ideal) z w (ix2 r f) = ∑ k : Fin 1024, z (ix2 r k) * w (ix2 k f) := by
  pointwise [k0_pay55]

theorem pay3_at (z : V S512x1024 .bf16) (w : V S1024x512 .bf16) (r : Fin 512) (f : Fin 512) :
    k0_pay3 (F := Ideal) z w (ix2 r f) = ∑ k : Fin 1024, z (ix2 r k) * w (ix2 k f) := by
  pointwise [k0_pay3]

theorem pay26_at (z : V S512x1024 .bf16) (w : V S1024x256 .bf16) (r : Fin 512) (f : Fin 256) :
    k0_pay26 (F := Ideal) z w (ix2 r f) = ∑ k : Fin 1024, z (ix2 r k) * w (ix2 k f) := by
  pointwise [k0_pay26]

/-- A product's gate. -/
def siluT (y : V S512x512 .f32) : V S512x512 .f32 :=
  mulf y (divf (broadcast S512x512 (Scalar.ofBits .f32 0x3F800000#32 : Idealize.ShloMosaic.Ideal .f32))
    (addf (broadcast S512x512 (Scalar.ofBits .f32 0x3F800000#32 : Idealize.ShloMosaic.Ideal .f32))
      (exp (subf (broadcast S512x512 (Scalar.ofBits .f32 0x00000000#32 : Idealize.ShloMosaic.Ideal .f32)) y))))

theorem siluT_at (y : V S512x512 .f32) (r f : Fin 512) : siluT y (ix2 r f) = Projection.silu (y (ix2 r f)) := by
  unfold Projection.silu
  pointwise [siluT]
  rw [zero_sub]

theorem pay49_at (z : V S512x1024 .bf16) (w : V S1024x512 .bf16) (r : Fin 512) (f : Fin 512) :
    k0_pay49 (F := Ideal) (k0_pay47 z w) (k0_pay48 z w) (ix2 r f) = Projection.silu (∑ k : Fin 1024, z (ix2 r k) * w (ix2 k f)) := by
  rw [← pay47_at, ← siluT_at]
  rfl

theorem pay52_at (z : V S512x1024 .bf16) (w : V S1024x512 .bf16) (r : Fin 512) (f : Fin 512) :
    k0_pay52 (F := Ideal) z w (ix2 r f) = Projection.silu (∑ k : Fin 1024, z (ix2 r k) * w (ix2 k f)) := by
  rw [← pay47_at, ← siluT_at]
  rfl

/-- The mask of the lanes in the first half of their half head. -/
abbrev m16 : IVec S512x128 1 := k0_pay10 (iota .tc S512x128 32 [1] iota_S512x128_d1_w32) 32#32 0#32

/-- The mask, as a choice. -/
theorem m16_at {α : Type} (r : Fin 512) (l : Fin 128) (x y : α) :
    Scalar.select (m16 (ix2 r l)) x y = if l.val % 32 < 16 then x else y := by
  have key : ∀ l : Fin 128, k0_pay10 (iota .tc S512x128 32 [1] iota_S512x128_d1_w32) 32#32 0#32 (ix2 r l)
      = if l.val % 32 < 16 then 1#1 else 0#1 := by
    intro l
    pointwise [k0_pay10]
    revert l
    decide +kernel
  unfold m16
  rw [key l]
  split <;> rfl

/-- Two heads in one vector, turned by the tables. -/
def turnT (z cs sn : V S512x128 .f32) : V S512x128 .f32 :=
  addf (mulf z cs) (mulf (select m16 (dynamicRotate 1 112#32 none z rotates_S512x128_d1)
    (dynamicRotate 1 16#32 none z rotates_S512x128_d1)) sn)

theorem turnT_at (z cs sn : V S512x128 .f32) (a : Fin 64 → EReal) (r : Fin 512) (l : Fin 128)
    (hc : cs (ix2 r l) = Ideal.cos (a ⟨l.val % 64, by omega⟩))
    (hs : sn (ix2 r l) = if l.val % 32 < 16 then -Ideal.sin (a ⟨l.val % 64, by omega⟩) else Ideal.sin (a ⟨l.val % 64, by omega⟩)) :
    turnT z cs sn (ix2 r l) = Projection.turn (fun d => z (ix2 r ⟨l.val / 64 * 64 + d.val, by omega⟩)) a ⟨l.val % 64, by omega⟩ := by
  have e1 : (⟨l.val / 64 * 64 + l.val % 64, by omega⟩ : Fin 128) = l := Fin.ext (by simp only; omega)
  have e2 : l.val % 64 % 32 = l.val % 32 := by omega
  rw [Projection.turn_eq]
  simp only [e1, e2]
  rw [← hc, ← hs]
  unfold turnT
  pointwise [m16_at]
  congr 2
  split_ifs <;> blk_ext

theorem slice512_at (s : V S512x512 .f32) (o : ℕ) (ho : o + 128 ≤ 512) (h : S512x512.Slices ![0, o] S512x128) (r : Fin 512) (l : Fin 128) :
    extractStridedSlice S512x128 ![0, o] s h (ix2 r l) = s (ix2 r ⟨o + l.val, by omega⟩) := by
  pointwise

theorem slice256_at (s : V S512x256 .f32) (o : ℕ) (ho : o + 128 ≤ 256) (h : S512x256.Slices ![0, o] S512x128) (r : Fin 512) (l : Fin 128) :
    extractStridedSlice S512x128 ![0, o] s h (ix2 r l) = s (ix2 r ⟨o + l.val, by omega⟩) := by
  pointwise

theorem lane_at (gn : V S1x128 .f32) (l : Fin 128) : shapeCast S1x128 gn shapeCasts_S1x128_S1x128 (ix2 0 l) = gn (ix2 0 l) := by
  pointwise

theorem piece256 {φ : FTy} (s : V S512x512 φ) (o : ℕ) (ho : o + 256 ≤ 512) (h : S512x512.Slices ![0, o] S512x256)
    (h' : S512x256.ShapeCasts S1x512x256) (a : Fin 1) (r : Fin 512) (l : Fin 256) :
    shapeCast S1x512x256 (extractStridedSlice S512x256 ![0, o] s h) h' (ix3 a r l) = s (ix2 r ⟨o + l.val, by omega⟩) := by
  pointwise

theorem table_at (y : V S512x128 .f32) (r : Fin 512) (l : Fin 128) : shapeCast S512x128 y shapeCasts_S512x128_S512x128 (ix2 r l) = y (ix2 r l) := by
  pointwise

/-- A query piece: the norm of two heads' columns of a product, turned, times the named constant. -/
def qT (s : V S512x128 .f32) (gn : V S1x128 .f32) (cs sn : V S512x128 .f32) : V S512x128 .bf16 :=
  truncf .bf16 (mulf (turnT (normT s gn) cs sn)
    (broadcast S512x128 (Named.named κ "q_scale" 0x3E38AA3B#32 : Idealize.ShloMosaic.Ideal .f32))) bitsLt_bf16_f32

theorem qT_at (s : V S512x128 .f32) (gn : V S1x128 .f32) (cs sn : V S512x128 .f32) (r : Fin 512) (l : Fin 128) :
    qT s gn cs sn (ix2 r l) = turnT (normT s gn) cs sn (ix2 r l) * Projection.scale := by
  have e : (Named.named (F := Ideal) κ "q_scale" 0x3E38AA3B#32 : Idealize.ShloMosaic.Ideal .f32) = Projection.scale :=
    IdealRules.named_const.ideal_named_scalar _ _ _ _ rfl
  generalize hz : turnT (normT s gn) cs sn = z
  pointwise [qT, e, hz]

/-! The stored pieces, as the operations above. -/

variable (z : V S512x1024 .bf16) (w : V S1024x512 .bf16) (s : V S512x512 .f32) (gn : V S1x128 .f32) (cs sn : V S512x128 .f32)

theorem q0 : k0_pay17 (F := Ideal) k0_pay7 cs sn m16 gn (k0_pay13 z w) (k0_pay15 z k0_pay7 w) (k0_pay16 z k0_pay7 w)
    = qT (extractStridedSlice S512x128 ![0, 0] (k0_pay11 z w) slices_S512x512_o0_0_S512x128) gn cs sn := rfl

theorem q1 : k0_pay20 (F := Ideal) cs sn m16 (k0_pay18 k0_pay7 s) (k0_pay19 gn)
    = qT (extractStridedSlice S512x128 ![0, 128] s slices_S512x512_o0_128_S512x128) gn cs sn := rfl

theorem q2 : k0_pay24 (F := Ideal) (k0_pay22 k0_pay7 cs s gn) (k0_pay23 k0_pay7 sn m16 s gn)
    = qT (extractStridedSlice S512x128 ![0, 256] s slices_S512x512_o0_256_S512x128) gn cs sn := rfl

theorem q3 : k0_pay25 (F := Ideal) k0_pay7 cs sn m16 s gn
    = qT (extractStridedSlice S512x128 ![0, 384] s slices_S512x512_o0_384_S512x128) gn cs sn := rfl

/-- Two turned heads' columns of a product, as a piece of a three-axis array. -/
def pT (s : V S512x512 .f32) (o : ℕ) (h : S512x512.Slices ![0, o] S512x128) (cs sn : V S512x128 .f32) : V S1x512x128 .f32 :=
  shapeCast S1x512x128 (turnT (extractStridedSlice S512x128 ![0, o] s h) cs sn) shapeCasts_S512x128_S1x512x128

theorem pT_at (o : ℕ) (h : S512x512.Slices ![0, o] S512x128) (a : Fin 1) (r : Fin 512) (l : Fin 128) :
    pT s o h cs sn (ix3 a r l) = turnT (extractStridedSlice S512x128 ![0, o] s h) cs sn (ix2 r l) := by
  unfold pT
  generalize turnT (extractStridedSlice S512x128 ![0, o] s h) cs sn = y
  pointwise

theorem r0 : k0_pay36 (F := Ideal) z cs sn m16 w = pT (k0_pay35 z w) 0 slices_S512x512_o0_0_S512x128 cs sn := rfl

theorem r1 : k0_pay38 (F := Ideal) (k0_pay37 z cs sn m16 w) = pT (k0_pay35 z w) 128 slices_S512x512_o0_128_S512x128 cs sn := rfl

theorem r2 : k0_pay39 (F := Ideal) cs sn m16 s = pT s 256 slices_S512x512_o0_256_S512x128 cs sn := rfl

theorem r3 : k0_pay40 (F := Ideal) cs sn m16 s = pT s 384 slices_S512x512_o0_384_S512x128 cs sn := rfl

theorem k0 : k0_pay42 (F := Ideal) z cs sn m16 w = pT (k0_pay41 z w) 0 slices_S512x512_o0_0_S512x128 cs sn := rfl

theorem k1 : k0_pay44 (F := Ideal) cs sn m16 (k0_pay43 z w) = pT (k0_pay41 z w) 128 slices_S512x512_o0_128_S512x128 cs sn := rfl

theorem k2 : k0_pay45 (F := Ideal) cs sn m16 s = pT s 256 slices_S512x512_o0_256_S512x128 cs sn := rfl

theorem k3 : k0_pay46 (F := Ideal) cs sn m16 s = pT s 384 slices_S512x512_o0_384_S512x128 cs sn := rfl

theorem kn (w : V S1024x256 .bf16) : k0_pay28 (F := Ideal) z k0_pay7 cs sn m16 w gn
    = turnT (normT (extractStridedSlice S512x128 ![0, 0] (k0_pay26 (F := Ideal) z w) slices_S512x256_o0_0_S512x128)
        (shapeCast S1x128 gn shapeCasts_S1x128_S1x128)) cs sn := rfl

/-- A head's lanes written twice: the first head's. -/
theorem twice_lo (z : V S512x128 .f32) (r : Fin 512) (l : Fin 128) :
    k0_pay33 (F := Ideal) k0_pay7 z (ix2 r l) = z (ix2 r ⟨0 + l.val % 64, by omega⟩) := by
  pointwise [k0_pay33, k0_pay32, mask_at]
  split <;> exact congrArg (fun l => z (ix2 r l)) (Fin.ext (by simp only; omega))

/-- The second head's. -/
theorem twice_hi (z : V S512x128 .f32) (r : Fin 512) (l : Fin 128) :
    k0_pay34 (F := Ideal) k0_pay7 z (ix2 r l) = z (ix2 r ⟨64 + l.val % 64, by omega⟩) := by
  pointwise [k0_pay34, k0_pay32, mask_at]
  split <;> exact congrArg (fun l => z (ix2 r l)) (Fin.ext (by simp only; omega))

theorem klo (w : V S1024x256 .bf16) : k0_pay30 (F := Ideal) z k0_pay7 cs sn m16 w gn
    = k0_pay33 (F := Ideal) k0_pay7 (k0_pay28 (F := Ideal) z k0_pay7 cs sn m16 w gn) := rfl

theorem khi (w : V S1024x256 .bf16) : k0_pay31 (F := Ideal) k0_pay7 (k0_pay28 (F := Ideal) z k0_pay7 cs sn m16 w gn)
      (k0_pay29 (F := Ideal) z k0_pay7 cs sn m16 w gn)
    = k0_pay34 (F := Ideal) k0_pay7 (k0_pay28 (F := Ideal) z k0_pay7 cs sn m16 w gn) := rfl

end Cert.EvenLatIdeal.Mix

end
-- ==== Proof.EvenLatReference.lean ====
/-
The reference of the latent stream's first projection call, read at a row and a column: the modulated norm times the weights.
-/
module

public import proofs.«01_k».proof.Proof.Gen.EvenLatRefIdeal.Read
public import proofs.«01_k».proof.Proof.EvenLatBlocks
public import Idealize.ShloMosaic.Lib.Pointwise

@[expose] public section

set_option maxRecDepth 16384

noncomputable section

open Idealize.ShloMosaic Idealize.ShloMosaic.TcCoe Idealize.SL.Sem

namespace Cert.EvenLatRefIdeal.Rows

open Cert.EvenLatRefIdeal Cert.EvenLatRefIdeal.Gen Cert.EvenLatRefIdeal.Read

local notation "V" => FVec Idealize.ShloMosaic.Ideal

variable (x : V S8x1024x1024 .f32) (m : V S8x6144 .f32) (g : V S2x1024 .f32) (w : V S1024x3840 .f32)
  (qg kg : V S64 .f32) (ar ac : V S1024x16 .f32)

/-- The row of the stream a position of a sequence is. -/
def at' (b : Fin 8) (p : Fin 1024) : Fin 8192 := ⟨b.val * 1024 + p.val, by omega⟩

theorem div_at (b : Fin 8) (p : Fin 1024) (h : (at' b p : ℕ) / 1024 < 8) : (⟨(at' b p : ℕ) / 1024, h⟩ : Fin 8) = b :=
  Fin.ext (by simp only [at']; omega)

theorem mod_at (b : Fin 8) (p : Fin 1024) (h : (at' b p : ℕ) % 1024 < 1024) : (⟨(at' b p : ℕ) % 1024, h⟩ : Fin 1024) = p :=
  Fin.ext (by simp only [at']; omega)

theorem sum_at (b : Fin 8) (p : Fin 1024) :
    val_main_v10 (F := Ideal) x (ix2 b p) = ∑ k : Fin 1024, x (ix3 b p k) * x (ix3 b p k) := by
  pointwise [val_main_v10, val_main_v9, val_main_cst]

theorem rms_at (b : Fin 8) (p : Fin 1024) (c : Fin 1024) :
    val_main_v18 (F := Ideal) x (ix3 b p c) = ConvFfn.rms (fun k => x (ix3 b p k)) c := by
  unfold ConvFfn.rms
  rw [← sum_at x b p]
  generalize hs : val_main_v10 (F := Ideal) x = s
  pointwise [val_main_v18, val_main_v17, val_main_v16, val_main_v15, val_main_v14, val_main_cst_1, val_main_v13, val_main_v12,
    val_main_cst_0, val_main_v11, hs]

theorem hid_at (b : Fin 8) (p : Fin 1024) (c : Fin 1024) :
    val_main_v27 (F := Ideal) x m g (ix3 b p c) = (Cert.EvenLatIdeal.Mix.data x m g w).hid (at' b p) c := by
  unfold Projection.Data.hid Cert.EvenLatIdeal.Mix.data
  simp only [div_at, mod_at]
  rw [← rms_at x b p c]
  generalize hs : val_main_v18 (F := Ideal) x = s
  pointwise [val_main_v27, val_main_v26, val_main_v25, val_main_v24, val_main_v23, val_main_v22, val_main_cst_2, val_main_v21,
    val_main_v20, val_main_v19, val_main_v8, val_main_v7, val_main_v2, val_main_v1, val_main_v0, hs]

theorem proj_at (b : Fin 8) (p : Fin 1024) (f : Fin 3840) :
    val_main_v28 (F := Ideal) x m g w (ix3 b p f) = (Cert.EvenLatIdeal.Mix.data x m g w).proj (at' b p) f := by
  unfold Projection.Data.proj
  simp only [← hid_at x m g w]
  unfold Cert.EvenLatIdeal.Mix.data
  generalize hs : val_main_v27 (F := Ideal) x m g = s
  pointwise [val_main_v28, hs]

theorem row_at (R : Fin 8192) (h : (R : ℕ) / 1024 < 8) (h' : (R : ℕ) % 1024 < 1024) : at' ⟨(R : ℕ) / 1024, h⟩ ⟨(R : ℕ) % 1024, h'⟩ = R :=
  Fin.ext (by simp only [at']; omega)

/-- The projection, by the row of the stream. -/
theorem proj_row (R : Fin 8192) (h : (R : ℕ) / 1024 < 8) (h' : (R : ℕ) % 1024 < 1024) (f : Fin 3840) :
    val_main_v28 (F := Ideal) x m g w (ix3 ⟨(R : ℕ) / 1024, h⟩ ⟨(R : ℕ) % 1024, h'⟩ f) = (Cert.EvenLatIdeal.Mix.data x m g w).proj R f :=
  (proj_at x m g w ..).trans (by rw [row_at])

/-- A head's sum of squares. -/
theorem qsum_at (b : Fin 8) (p : Fin 1024) (h : Fin 8) :
    val_main_v41 (F := Ideal) x m g w (ix3 b p h) = ∑ k : Fin 64, (Cert.EvenLatIdeal.Mix.data x m g w).proj (at' b p) ⟨3072 + (h.val * 64 + k.val), by omega⟩ * (Cert.EvenLatIdeal.Mix.data x m g w).proj (at' b p) ⟨3072 + (h.val * 64 + k.val), by omega⟩ := by
  simp only [← proj_at x m g w]
  generalize hs : val_main_v28 (F := Ideal) x m g w = s
  pointwise [val_main_v41, val_main_v40, val_main_v39, val_main_v33, val_main_cst_4, hs]

/-- A head's normalised entries. -/
theorem qhead_at (b : Fin 8) (p : Fin 1024) (h : Fin 8) (d : Fin 64) :
    val_main_v52 (F := Ideal) x m g w qg (ix4 b p h d)
      = (Cert.EvenLatIdeal.Mix.data x m g w).head (Cert.EvenLatIdeal.Mix.gains qg) (at' b p) (3072 + h.val * 64) (by omega) d := by
  unfold Projection.Data.head Projection.hrms Cert.EvenLatIdeal.Mix.gains
  simp only [Nat.add_assoc]
  rw [← qsum_at x m g w]
  simp only [← proj_at x m g w]
  generalize hz : val_main_v41 (F := Ideal) x m g w = z
  generalize hs : val_main_v28 (F := Ideal) x m g w = s
  pointwise [val_main_v52, val_main_v51, val_main_v50, val_main_v49, val_main_v48, val_main_v47, val_main_v46, val_main_v45, val_main_cst_6, val_main_v44, val_main_v43, val_main_cst_5, val_main_v42, val_main_v39, val_main_v33, hs, hz]

/-- A head's sum of squares. -/
theorem ksum_at (b : Fin 8) (p : Fin 1024) (h : Fin 2) :
    val_main_v55 (F := Ideal) x m g w (ix3 b p h) = ∑ k : Fin 64, (Cert.EvenLatIdeal.Mix.data x m g w).proj (at' b p) ⟨3584 + (h.val * 64 + k.val), by omega⟩ * (Cert.EvenLatIdeal.Mix.data x m g w).proj (at' b p) ⟨3584 + (h.val * 64 + k.val), by omega⟩ := by
  simp only [← proj_at x m g w]
  generalize hs : val_main_v28 (F := Ideal) x m g w = s
  pointwise [val_main_v55, val_main_v54, val_main_v53, val_main_v34, val_main_cst_7, hs]

/-- A head's normalised entries. -/
theorem khead_at (b : Fin 8) (p : Fin 1024) (h : Fin 2) (d : Fin 64) :
    val_main_v66 (F := Ideal) x m g w kg (ix4 b p h d)
      = (Cert.EvenLatIdeal.Mix.data x m g w).head (Cert.EvenLatIdeal.Mix.gains kg) (at' b p) (3584 + h.val * 64) (by omega) d := by
  unfold Projection.Data.head Projection.hrms Cert.EvenLatIdeal.Mix.gains
  simp only [Nat.add_assoc]
  rw [← ksum_at x m g w]
  simp only [← proj_at x m g w]
  generalize hz : val_main_v55 (F := Ideal) x m g w = z
  generalize hs : val_main_v28 (F := Ideal) x m g w = s
  pointwise [val_main_v66, val_main_v65, val_main_v64, val_main_v63, val_main_v62, val_main_v61, val_main_v60, val_main_v59, val_main_cst_9, val_main_v58, val_main_v57, val_main_cst_8, val_main_v56, val_main_v53, val_main_v34, hs, hz]

/-- The retention's queries, turned. -/
theorem qr_turn (b : Fin 8) (p : Fin 1024) (h : Fin 8) (d : Fin 64) :
    val_main_v115 (F := Ideal) x m g w ar ac (ix4 b p h d)
      = Projection.turn (fun d => val_main_v68 (F := Ideal) x m g w (ix4 b p h d)) (Cert.EvenLatIdeal.Mix.ang ar ac (at' b p)) d := by
  generalize hs : val_main_v68 (F := Ideal) x m g w  = s
  have h1 : ∀ k : Fin 16, val_main_v81 (F := Ideal) x m g w ar (ix4 b p h k)
      = s (ix4 b p h ⟨k.val, by omega⟩) * Ideal.cos (ar (ix2 p k)) - s (ix4 b p h ⟨16 + k.val, by omega⟩) * Ideal.sin (ar (ix2 p k)) := fun k => by
    pointwise [val_main_v81, val_main_v80, val_main_v79, val_main_v78, val_main_v77, val_main_v76, val_main_v75, val_main_v74, val_main_v73, val_main_v72, val_main_v71, val_main_v70, val_main_v69, hs]
  have h2 : ∀ k : Fin 16, val_main_v90 (F := Ideal) x m g w ar (ix4 b p h k)
      = s (ix4 b p h ⟨16 + k.val, by omega⟩) * Ideal.cos (ar (ix2 p k)) + s (ix4 b p h ⟨k.val, by omega⟩) * Ideal.sin (ar (ix2 p k)) := fun k => by
    pointwise [val_main_v90, val_main_v89, val_main_v88, val_main_v87, val_main_v86, val_main_v85, val_main_v84, val_main_v83, val_main_v82, val_main_v69, val_main_v70, val_main_v71, val_main_v72, hs]
  have h3 : ∀ k : Fin 16, val_main_v104 (F := Ideal) x m g w ac (ix4 b p h k)
      = s (ix4 b p h ⟨32 + k.val, by omega⟩) * Ideal.cos (ac (ix2 p k)) - s (ix4 b p h ⟨32 + (16 + k.val), by omega⟩) * Ideal.sin (ac (ix2 p k)) := fun k => by
    pointwise [val_main_v104, val_main_v103, val_main_v102, val_main_v101, val_main_v100, val_main_v99, val_main_v98, val_main_v97, val_main_v96, val_main_v95, val_main_v94, val_main_v93, val_main_v92, hs]
  have h4 : ∀ k : Fin 16, val_main_v113 (F := Ideal) x m g w ac (ix4 b p h k)
      = s (ix4 b p h ⟨32 + (16 + k.val), by omega⟩) * Ideal.cos (ac (ix2 p k)) + s (ix4 b p h ⟨32 + k.val, by omega⟩) * Ideal.sin (ac (ix2 p k)) := fun k => by
    pointwise [val_main_v113, val_main_v112, val_main_v111, val_main_v110, val_main_v109, val_main_v108, val_main_v107, val_main_v106, val_main_v105, val_main_v92, val_main_v93, val_main_v94, val_main_v95, hs]
  generalize e1 : val_main_v81 (F := Ideal) x m g w ar = u1 at h1
  generalize e2 : val_main_v90 (F := Ideal) x m g w ar = u2 at h2
  generalize e3 : val_main_v104 (F := Ideal) x m g w ac = u3 at h3
  generalize e4 : val_main_v113 (F := Ideal) x m g w ac = u4 at h4
  clear hs
  have hd := d.isLt
  have hr : val_main_v115 (F := Ideal) x m g w ar ac (ix4 b p h d) = if d.val < 32 then
      (if d.val < 16 then u1 (ix4 b p h ⟨d.val % 16, by omega⟩) else u2 (ix4 b p h ⟨d.val % 16, by omega⟩)) else
      (if d.val % 32 < 16 then u3 (ix4 b p h ⟨d.val % 16, by omega⟩) else u4 (ix4 b p h ⟨d.val % 16, by omega⟩)) := by
    pointwise [val_main_v115, val_main_v114, val_main_v91, e1, e2, e3, e4]
    split_ifs <;> (repeat' split) <;> first | (exfalso; omega) | blk_ext
  rw [hr]
  clear hr e1 e2 e3 e4
  unfold Projection.turn Cert.EvenLatIdeal.Mix.ang
  simp only [mod_at, h1, h2, h3, h4]
  split_ifs <;> first | (exfalso; omega) | skip
  · exact Projection.sub_parts (fun d => s (ix4 b p h d)) (fun k => Ideal.cos (ar (ix2 p k))) (fun k => Ideal.sin (ar (ix2 p k))) (by simp only; omega) (by simp only; omega) (by simp only)
  · exact Projection.add_parts (fun d => s (ix4 b p h d)) (fun k => Ideal.cos (ar (ix2 p k))) (fun k => Ideal.sin (ar (ix2 p k))) (by simp only; omega) (by simp only; omega) (by simp only)
  · exact Projection.sub_parts (fun d => s (ix4 b p h d)) (fun k => Ideal.cos (ac (ix2 p k))) (fun k => Ideal.sin (ac (ix2 p k))) (by simp only; omega) (by simp only; omega) (by simp only)
  · exact Projection.add_parts (fun d => s (ix4 b p h d)) (fun k => Ideal.cos (ac (ix2 p k))) (fun k => Ideal.sin (ac (ix2 p k))) (by simp only; omega) (by simp only; omega) (by simp only)

/-- The retention's keys, turned. -/
theorem kr_turn (b : Fin 8) (p : Fin 1024) (h : Fin 8) (d : Fin 64) :
    val_main_v163 (F := Ideal) x m g w ar ac (ix4 b p h d)
      = Projection.turn (fun d => val_main_v116 (F := Ideal) x m g w (ix4 b p h d)) (Cert.EvenLatIdeal.Mix.ang ar ac (at' b p)) d := by
  generalize hs : val_main_v116 (F := Ideal) x m g w  = s
  have h1 : ∀ k : Fin 16, val_main_v129 (F := Ideal) x m g w ar (ix4 b p h k)
      = s (ix4 b p h ⟨k.val, by omega⟩) * Ideal.cos (ar (ix2 p k)) - s (ix4 b p h ⟨16 + k.val, by omega⟩) * Ideal.sin (ar (ix2 p k)) := fun k => by
    pointwise [val_main_v129, val_main_v128, val_main_v127, val_main_v126, val_main_v125, val_main_v124, val_main_v123, val_main_v122, val_main_v121, val_main_v120, val_main_v119, val_main_v118, val_main_v117, hs]
  have h2 : ∀ k : Fin 16, val_main_v138 (F := Ideal) x m g w ar (ix4 b p h k)
      = s (ix4 b p h ⟨16 + k.val, by omega⟩) * Ideal.cos (ar (ix2 p k)) + s (ix4 b p h ⟨k.val, by omega⟩) * Ideal.sin (ar (ix2 p k)) := fun k => by
    pointwise [val_main_v138, val_main_v137, val_main_v136, val_main_v135, val_main_v134, val_main_v133, val_main_v132, val_main_v131, val_main_v130, val_main_v117, val_main_v118, val_main_v119, val_main_v120, hs]
  have h3 : ∀ k : Fin 16, val_main_v152 (F := Ideal) x m g w ac (ix4 b p h k)
      = s (ix4 b p h ⟨32 + k.val, by omega⟩) * Ideal.cos (ac (ix2 p k)) - s (ix4 b p h ⟨32 + (16 + k.val), by omega⟩) * Ideal.sin (ac (ix2 p k)) := fun k => by
    pointwise [val_main_v152, val_main_v151, val_main_v150, val_main_v149, val_main_v148, val_main_v147, val_main_v146, val_main_v145, val_main_v144, val_main_v143, val_main_v142, val_main_v141, val_main_v140, hs]
  have h4 : ∀ k : Fin 16, val_main_v161 (F := Ideal) x m g w ac (ix4 b p h k)
      = s (ix4 b p h ⟨32 + (16 + k.val), by omega⟩) * Ideal.cos (ac (ix2 p k)) + s (ix4 b p h ⟨32 + k.val, by omega⟩) * Ideal.sin (ac (ix2 p k)) := fun k => by
    pointwise [val_main_v161, val_main_v160, val_main_v159, val_main_v158, val_main_v157, val_main_v156, val_main_v155, val_main_v154, val_main_v153, val_main_v140, val_main_v141, val_main_v142, val_main_v143, hs]
  generalize e1 : val_main_v129 (F := Ideal) x m g w ar = u1 at h1
  generalize e2 : val_main_v138 (F := Ideal) x m g w ar = u2 at h2
  generalize e3 : val_main_v152 (F := Ideal) x m g w ac = u3 at h3
  generalize e4 : val_main_v161 (F := Ideal) x m g w ac = u4 at h4
  clear hs
  have hd := d.isLt
  have hr : val_main_v163 (F := Ideal) x m g w ar ac (ix4 b p h d) = if d.val < 32 then
      (if d.val < 16 then u1 (ix4 b p h ⟨d.val % 16, by omega⟩) else u2 (ix4 b p h ⟨d.val % 16, by omega⟩)) else
      (if d.val % 32 < 16 then u3 (ix4 b p h ⟨d.val % 16, by omega⟩) else u4 (ix4 b p h ⟨d.val % 16, by omega⟩)) := by
    pointwise [val_main_v163, val_main_v162, val_main_v139, e1, e2, e3, e4]
    split_ifs <;> (repeat' split) <;> first | (exfalso; omega) | blk_ext
  rw [hr]
  clear hr e1 e2 e3 e4
  unfold Projection.turn Cert.EvenLatIdeal.Mix.ang
  simp only [mod_at, h1, h2, h3, h4]
  split_ifs <;> first | (exfalso; omega) | skip
  · exact Projection.sub_parts (fun d => s (ix4 b p h d)) (fun k => Ideal.cos (ar (ix2 p k))) (fun k => Ideal.sin (ar (ix2 p k))) (by simp only; omega) (by simp only; omega) (by simp only)
  · exact Projection.add_parts (fun d => s (ix4 b p h d)) (fun k => Ideal.cos (ar (ix2 p k))) (fun k => Ideal.sin (ar (ix2 p k))) (by simp only; omega) (by simp only; omega) (by simp only)
  · exact Projection.sub_parts (fun d => s (ix4 b p h d)) (fun k => Ideal.cos (ac (ix2 p k))) (fun k => Ideal.sin (ac (ix2 p k))) (by simp only; omega) (by simp only; omega) (by simp only)
  · exact Projection.add_parts (fun d => s (ix4 b p h d)) (fun k => Ideal.cos (ac (ix2 p k))) (fun k => Ideal.sin (ac (ix2 p k))) (by simp only; omega) (by simp only; omega) (by simp only)

/-- The attention's queries, turned. -/
theorem qa_turn (b : Fin 8) (p : Fin 1024) (h : Fin 8) (d : Fin 64) :
    val_main_v210 (F := Ideal) x m g w qg ar ac (ix4 b p h d)
      = Projection.turn (fun d => val_main_v52 (F := Ideal) x m g w qg (ix4 b p h d)) (Cert.EvenLatIdeal.Mix.ang ar ac (at' b p)) d := by
  generalize hs : val_main_v52 (F := Ideal) x m g w qg = s
  have h1 : ∀ k : Fin 16, val_main_v176 (F := Ideal) x m g w qg ar (ix4 b p h k)
      = s (ix4 b p h ⟨k.val, by omega⟩) * Ideal.cos (ar (ix2 p k)) - s (ix4 b p h ⟨16 + k.val, by omega⟩) * Ideal.sin (ar (ix2 p k)) := fun k => by
    pointwise [val_main_v176, val_main_v175, val_main_v174, val_main_v173, val_main_v172, val_main_v171, val_main_v170, val_main_v169, val_main_v168, val_main_v167, val_main_v166, val_main_v165, val_main_v164, hs]
  have h2 : ∀ k : Fin 16, val_main_v185 (F := Ideal) x m g w qg ar (ix4 b p h k)
      = s (ix4 b p h ⟨16 + k.val, by omega⟩) * Ideal.cos (ar (ix2 p k)) + s (ix4 b p h ⟨k.val, by omega⟩) * Ideal.sin (ar (ix2 p k)) := fun k => by
    pointwise [val_main_v185, val_main_v184, val_main_v183, val_main_v182, val_main_v181, val_main_v180, val_main_v179, val_main_v178, val_main_v177, val_main_v164, val_main_v165, val_main_v166, val_main_v167, hs]
  have h3 : ∀ k : Fin 16, val_main_v199 (F := Ideal) x m g w qg ac (ix4 b p h k)
      = s (ix4 b p h ⟨32 + k.val, by omega⟩) * Ideal.cos (ac (ix2 p k)) - s (ix4 b p h ⟨32 + (16 + k.val), by omega⟩) * Ideal.sin (ac (ix2 p k)) := fun k => by
    pointwise [val_main_v199, val_main_v198, val_main_v197, val_main_v196, val_main_v195, val_main_v194, val_main_v193, val_main_v192, val_main_v191, val_main_v190, val_main_v189, val_main_v188, val_main_v187, hs]
  have h4 : ∀ k : Fin 16, val_main_v208 (F := Ideal) x m g w qg ac (ix4 b p h k)
      = s (ix4 b p h ⟨32 + (16 + k.val), by omega⟩) * Ideal.cos (ac (ix2 p k)) + s (ix4 b p h ⟨32 + k.val, by omega⟩) * Ideal.sin (ac (ix2 p k)) := fun k => by
    pointwise [val_main_v208, val_main_v207, val_main_v206, val_main_v205, val_main_v204, val_main_v203, val_main_v202, val_main_v201, val_main_v200, val_main_v187, val_main_v188, val_main_v189, val_main_v190, hs]
  generalize e1 : val_main_v176 (F := Ideal) x m g w qg ar = u1 at h1
  generalize e2 : val_main_v185 (F := Ideal) x m g w qg ar = u2 at h2
  generalize e3 : val_main_v199 (F := Ideal) x m g w qg ac = u3 at h3
  generalize e4 : val_main_v208 (F := Ideal) x m g w qg ac = u4 at h4
  clear hs
  have hd := d.isLt
  have hr : val_main_v210 (F := Ideal) x m g w qg ar ac (ix4 b p h d) = if d.val < 32 then
      (if d.val < 16 then u1 (ix4 b p h ⟨d.val % 16, by omega⟩) else u2 (ix4 b p h ⟨d.val % 16, by omega⟩)) else
      (if d.val % 32 < 16 then u3 (ix4 b p h ⟨d.val % 16, by omega⟩) else u4 (ix4 b p h ⟨d.val % 16, by omega⟩)) := by
    pointwise [val_main_v210, val_main_v209, val_main_v186, e1, e2, e3, e4]
    split_ifs <;> (repeat' split) <;> first | (exfalso; omega) | blk_ext
  rw [hr]
  clear hr e1 e2 e3 e4
  unfold Projection.turn Cert.EvenLatIdeal.Mix.ang
  simp only [mod_at, h1, h2, h3, h4]
  split_ifs <;> first | (exfalso; omega) | skip
  · exact Projection.sub_parts (fun d => s (ix4 b p h d)) (fun k => Ideal.cos (ar (ix2 p k))) (fun k => Ideal.sin (ar (ix2 p k))) (by simp only; omega) (by simp only; omega) (by simp only)
  · exact Projection.add_parts (fun d => s (ix4 b p h d)) (fun k => Ideal.cos (ar (ix2 p k))) (fun k => Ideal.sin (ar (ix2 p k))) (by simp only; omega) (by simp only; omega) (by simp only)
  · exact Projection.sub_parts (fun d => s (ix4 b p h d)) (fun k => Ideal.cos (ac (ix2 p k))) (fun k => Ideal.sin (ac (ix2 p k))) (by simp only; omega) (by simp only; omega) (by simp only)
  · exact Projection.add_parts (fun d => s (ix4 b p h d)) (fun k => Ideal.cos (ac (ix2 p k))) (fun k => Ideal.sin (ac (ix2 p k))) (by simp only; omega) (by simp only; omega) (by simp only)

/-- The attention's keys, turned. -/
theorem ka_turn (b : Fin 8) (p : Fin 1024) (h : Fin 2) (d : Fin 64) :
    val_main_v257 (F := Ideal) x m g w kg ar ac (ix4 b p h d)
      = Projection.turn (fun d => val_main_v66 (F := Ideal) x m g w kg (ix4 b p h d)) (Cert.EvenLatIdeal.Mix.ang ar ac (at' b p)) d := by
  generalize hs : val_main_v66 (F := Ideal) x m g w kg = s
  have h1 : ∀ k : Fin 16, val_main_v223 (F := Ideal) x m g w kg ar (ix4 b p h k)
      = s (ix4 b p h ⟨k.val, by omega⟩) * Ideal.cos (ar (ix2 p k)) - s (ix4 b p h ⟨16 + k.val, by omega⟩) * Ideal.sin (ar (ix2 p k)) := fun k => by
    pointwise [val_main_v223, val_main_v222, val_main_v221, val_main_v220, val_main_v219, val_main_v218, val_main_v217, val_main_v216, val_main_v215, val_main_v214, val_main_v213, val_main_v212, val_main_v211, hs]
  have h2 : ∀ k : Fin 16, val_main_v232 (F := Ideal) x m g w kg ar (ix4 b p h k)
      = s (ix4 b p h ⟨16 + k.val, by omega⟩) * Ideal.cos (ar (ix2 p k)) + s (ix4 b p h ⟨k.val, by omega⟩) * Ideal.sin (ar (ix2 p k)) := fun k => by
    pointwise [val_main_v232, val_main_v231, val_main_v230, val_main_v229, val_main_v228, val_main_v227, val_main_v226, val_main_v225, val_main_v224, val_main_v211, val_main_v212, val_main_v213, val_main_v214, hs]
  have h3 : ∀ k : Fin 16, val_main_v246 (F := Ideal) x m g w kg ac (ix4 b p h k)
      = s (ix4 b p h ⟨32 + k.val, by omega⟩) * Ideal.cos (ac (ix2 p k)) - s (ix4 b p h ⟨32 + (16 + k.val), by omega⟩) * Ideal.sin (ac (ix2 p k)) := fun k => by
    pointwise [val_main_v246, val_main_v245, val_main_v244, val_main_v243, val_main_v242, val_main_v241, val_main_v240, val_main_v239, val_main_v238, val_main_v237, val_main_v236, val_main_v235, val_main_v234, hs]
  have h4 : ∀ k : Fin 16, val_main_v255 (F := Ideal) x m g w kg ac (ix4 b p h k)
      = s (ix4 b p h ⟨32 + (16 + k.val), by omega⟩) * Ideal.cos (ac (ix2 p k)) + s (ix4 b p h ⟨32 + k.val, by omega⟩) * Ideal.sin (ac (ix2 p k)) := fun k => by
    pointwise [val_main_v255, val_main_v254, val_main_v253, val_main_v252, val_main_v251, val_main_v250, val_main_v249, val_main_v248, val_main_v247, val_main_v234, val_main_v235, val_main_v236, val_main_v237, hs]
  generalize e1 : val_main_v223 (F := Ideal) x m g w kg ar = u1 at h1
  generalize e2 : val_main_v232 (F := Ideal) x m g w kg ar = u2 at h2
  generalize e3 : val_main_v246 (F := Ideal) x m g w kg ac = u3 at h3
  generalize e4 : val_main_v255 (F := Ideal) x m g w kg ac = u4 at h4
  clear hs
  have hd := d.isLt
  have hr : val_main_v257 (F := Ideal) x m g w kg ar ac (ix4 b p h d) = if d.val < 32 then
      (if d.val < 16 then u1 (ix4 b p h ⟨d.val % 16, by omega⟩) else u2 (ix4 b p h ⟨d.val % 16, by omega⟩)) else
      (if d.val % 32 < 16 then u3 (ix4 b p h ⟨d.val % 16, by omega⟩) else u4 (ix4 b p h ⟨d.val % 16, by omega⟩)) := by
    pointwise [val_main_v257, val_main_v256, val_main_v233, e1, e2, e3, e4]
    split_ifs <;> (repeat' split) <;> first | (exfalso; omega) | blk_ext
  rw [hr]
  clear hr e1 e2 e3 e4
  unfold Projection.turn Cert.EvenLatIdeal.Mix.ang
  simp only [mod_at, h1, h2, h3, h4]
  split_ifs <;> first | (exfalso; omega) | skip
  · exact Projection.sub_parts (fun d => s (ix4 b p h d)) (fun k => Ideal.cos (ar (ix2 p k))) (fun k => Ideal.sin (ar (ix2 p k))) (by simp only; omega) (by simp only; omega) (by simp only)
  · exact Projection.add_parts (fun d => s (ix4 b p h d)) (fun k => Ideal.cos (ar (ix2 p k))) (fun k => Ideal.sin (ar (ix2 p k))) (by simp only; omega) (by simp only; omega) (by simp only)
  · exact Projection.sub_parts (fun d => s (ix4 b p h d)) (fun k => Ideal.cos (ac (ix2 p k))) (fun k => Ideal.sin (ac (ix2 p k))) (by simp only; omega) (by simp only; omega) (by simp only)
  · exact Projection.add_parts (fun d => s (ix4 b p h d)) (fun k => Ideal.cos (ac (ix2 p k))) (fun k => Ideal.sin (ac (ix2 p k))) (by simp only; omega) (by simp only; omega) (by simp only)

/-- The retention's queries, two heads side by side. -/
theorem qr_at (p : Fin 4) (R : Fin 8192) (c : Fin 128) :
    val_main_v259 (F := Ideal) x m g w ar ac (ix3 p R c)
      = Projection.turn ((Cert.EvenLatIdeal.Mix.data x m g w).cols R (0 + (p.val * 128 + c.val / 64 * 64)) (by omega)) (Cert.EvenLatIdeal.Mix.ang ar ac R) ⟨c.val % 64, by omega⟩ := by
  have e := qr_turn x m g w ar ac ⟨R.val / 1024, by omega⟩ ⟨R.val % 1024, by omega⟩ ⟨p.val * 2 + c.val / 64, by omega⟩ ⟨c.val % 64, by omega⟩
  rw [row_at] at e
  refine Eq.trans ?_ (e.trans (congrArg (fun z => Projection.turn z _ _) (funext fun d => ?_)))
  · generalize hs : val_main_v115 (F := Ideal) x m g w ar ac = s
    pointwise [val_main_v259, val_main_v258, hs]
  · unfold Projection.Data.cols
    rw [← proj_row x m g w R (by omega) (by omega)]
    generalize hs : val_main_v28 (F := Ideal) x m g w = s
    pointwise [val_main_v68, val_main_v29, hs]
    blk_ext

/-- The retention's keys. -/
theorem kr_at (p : Fin 4) (R : Fin 8192) (c : Fin 128) :
    val_main_v261 (F := Ideal) x m g w ar ac (ix3 p R c)
      = Projection.turn (fun d => (Cert.EvenLatIdeal.Mix.data x m g w).cols R (512 + (p.val * 128 + c.val / 64 * 64)) (by omega) d * Ideal.ofBits .f32 0x3E000000#32) (Cert.EvenLatIdeal.Mix.ang ar ac R) ⟨c.val % 64, by omega⟩ := by
  have e := kr_turn x m g w ar ac ⟨R.val / 1024, by omega⟩ ⟨R.val % 1024, by omega⟩ ⟨p.val * 2 + c.val / 64, by omega⟩ ⟨c.val % 64, by omega⟩
  rw [row_at] at e
  refine Eq.trans ?_ (e.trans (congrArg (fun z => Projection.turn z _ _) (funext fun d => ?_)))
  · generalize hs : val_main_v163 (F := Ideal) x m g w ar ac = s
    pointwise [val_main_v261, val_main_v260, hs]
  · unfold Projection.Data.cols
    rw [← proj_row x m g w R (by omega) (by omega)]
    generalize hs : val_main_v28 (F := Ideal) x m g w = s
    pointwise [val_main_v116, val_main_v37, val_main_v36, val_main_cst_3, val_main_v30, hs]
    refine congrArg (fun f => s (ix3 _ _ f) * _) (Fin.ext ?_)
    simp only
    omega

/-- The retention's values. -/
theorem vr_at (p : Fin 4) (R : Fin 8192) (c : Fin 256) :
    val_main_v264 (F := Ideal) x m g w (ix3 p R c) = (Cert.EvenLatIdeal.Mix.data x m g w).proj R ⟨1024 + (p.val * 256 + c.val), by omega⟩ := by
  rw [← proj_row x m g w R (by omega) (by omega)]
  generalize hs : val_main_v28 (F := Ideal) x m g w = s
  pointwise [val_main_v264, val_main_v263, val_main_v262, val_main_v31, hs]

/-- The retention's gates. -/
theorem gr_at (p : Fin 4) (R : Fin 8192) (c : Fin 256) :
    val_main_v266 (F := Ideal) x m g w (ix3 p R c) = Projection.silu ((Cert.EvenLatIdeal.Mix.data x m g w).proj R ⟨2048 + (p.val * 256 + c.val), by omega⟩) := by
  rw [← proj_row x m g w R (by omega) (by omega)]
  unfold Projection.silu
  generalize hs : val_main_v28 (F := Ideal) x m g w = s
  pointwise [val_main_v266, val_main_v265, val_main_v38, val_main_call0_v5, val_main_call0_v4, val_main_call0_cst_0, val_main_call0_v3, val_main_call0_v2, val_main_call0_cst, val_main_call0_v1, val_main_call0_v0, val_main_v32, hs]

/-- The attention's queries. -/
theorem qa_at (R : Fin 8192) (c : Fin 512) :
    val_main_v272 (F := Ideal) x m g w qg ar ac (ix2 R c)
      = Projection.turn ((Cert.EvenLatIdeal.Mix.data x m g w).head (Cert.EvenLatIdeal.Mix.gains qg) R (3072 + c.val / 64 * 64) (by omega)) (Cert.EvenLatIdeal.Mix.ang ar ac R) ⟨c.val % 64, by omega⟩ * Projection.scale := by
  have e := qa_turn x m g w qg ar ac ⟨R.val / 1024, by omega⟩ ⟨R.val % 1024, by omega⟩ ⟨c.val / 64, by omega⟩ ⟨c.val % 64, by omega⟩
  simp only [qhead_at x m g w qg] at e
  rw [row_at] at e
  refine Eq.trans ?_ (congrArg (· * Projection.scale) e)
  rw [← Projection.scale_eq]
  generalize hs : val_main_v210 (F := Ideal) x m g w qg ar ac = s
  pointwise [val_main_v272, val_main_v271, val_main_v270, val_main_v269, val_main_v268, val_main_v267, val_main_cst_10, val_main_cst_11, hs]

/-- The attention's keys, each twice. -/
theorem kd_at (R : Fin 8192) (c : Fin 256) :
    val_main_v277 (F := Ideal) x m g w kg ar ac (ix2 R c)
      = Projection.turn ((Cert.EvenLatIdeal.Mix.data x m g w).head (Cert.EvenLatIdeal.Mix.gains kg) R (3584 + c.val / 128 * 64) (by omega)) (Cert.EvenLatIdeal.Mix.ang ar ac R) ⟨c.val % 64, by omega⟩ := by
  have e := ka_turn x m g w kg ar ac ⟨R.val / 1024, by omega⟩ ⟨R.val % 1024, by omega⟩ ⟨c.val / 128, by omega⟩ ⟨c.val % 64, by omega⟩
  simp only [khead_at x m g w kg] at e
  rw [row_at] at e
  refine Eq.trans ?_ e
  generalize hs : val_main_v257 (F := Ideal) x m g w kg ar ac = s
  pointwise [val_main_v277, val_main_v276, val_main_v275, val_main_v274, val_main_v273, hs]
  split <;> rfl

/-- The attention's values, each twice. -/
theorem vd_at (R : Fin 8192) (c : Fin 256) :
    val_main_v282 (F := Ideal) x m g w (ix2 R c) = (Cert.EvenLatIdeal.Mix.data x m g w).proj R ⟨3712 + (c.val / 128 * 64 + c.val % 64), by omega⟩ := by
  rw [← proj_row x m g w R (by omega) (by omega)]
  generalize hs : val_main_v28 (F := Ideal) x m g w = s
  pointwise [val_main_v282, val_main_v281, val_main_v280, val_main_v279, val_main_v278, val_main_v67, val_main_v35, hs]
  split <;> rfl

end Cert.EvenLatRefIdeal.Rows

end
-- ==== Proof.EvenLatValue.lean ====
/-
The latent stream's first projection call: the projected columns a grid point's products hold, and the arrays of the
retention's values and gates after the run, which are the reference's.
-/
module

public import proofs.«01_k».proof.Proof.EvenLatOps
public import proofs.«01_k».proof.Proof.EvenLatReference

@[expose] public section

set_option maxRecDepth 16384

noncomputable section

open Idealize.ShloMosaic Idealize.ShloMosaic.TcCoe Idealize.SL.Sem
open Idealize.ShloMosaic.Pipeline (Dat)

namespace Cert.EvenLatIdeal.Mix

open Cert.EvenLatIdeal Cert.EvenLatIdeal.Gen

local notation "V" => FVec Idealize.ShloMosaic.Ideal

theorem bnd {w b o f : ℕ} (hf : f < w) (ho : o + w ≤ 512) (hb : b + 512 ≤ 3840) : b + (o + f) < 3840 := by omega

/-! The blocks of entries the body reads. -/

theorem ldx (y : Fin 512) (x : Fin 1024) : r0_0.idx (ix2 y x) = ix2 y x := by
  blk_ext [r0_0] <;> simp [r0_0, Rect.idx_unit_val]

theorem ldg (x : Fin 1024) : r0_1.idx (ix2 0 x) = ix2 0 x := by
  blk_ext [r0_1] <;> simp [r0_1, Rect.idx_unit_val]

theorem ldm (x : Fin 1024) : r0_2.idx (ix5 0 0 0 0 x) = ix5 0 0 0 0 x := by
  blk_ext [r0_2] <;> simp [r0_2, Rect.idx_unit_val]

theorem ldc (y : Fin 512) (x : Fin 128) : r0_3.idx (ix2 y x) = ix2 y x := by
  blk_ext [r0_3] <;> simp [r0_3, Rect.idx_unit_val]

theorem ldl (x : Fin 128) : r0_5.idx (ix2 0 x) = ix2 0 x := by
  blk_ext [r0_5] <;> simp [r0_5, Rect.idx_unit_val]

theorem ldw3072 (k : Fin 1024) (f : Fin 512) : r0_4.idx (ix2 k f) = ix2 k ⟨3072 + f.val, by omega⟩ := by
  blk_ext [r0_4] <;> simp [r0_4, Rect.idx_unit_val]

theorem ldw0 (k : Fin 1024) (f : Fin 512) : r0_13.idx (ix2 k f) = ix2 k ⟨0 + f.val, by omega⟩ := by
  blk_ext [r0_13] <;> simp [r0_13, Rect.idx_unit_val]

theorem ldw512 (k : Fin 1024) (f : Fin 512) : r0_18.idx (ix2 k f) = ix2 k ⟨512 + f.val, by omega⟩ := by
  blk_ext [r0_18] <;> simp [r0_18, Rect.idx_unit_val]

theorem ldw2048 (k : Fin 1024) (f : Fin 512) : r0_19.idx (ix2 k f) = ix2 k ⟨2048 + f.val, by omega⟩ := by
  blk_ext [r0_19] <;> simp [r0_19, Rect.idx_unit_val]

theorem ldw2560 (k : Fin 1024) (f : Fin 512) : r0_22.idx (ix2 k f) = ix2 k ⟨2560 + f.val, by omega⟩ := by
  blk_ext [r0_22] <;> simp [r0_22, Rect.idx_unit_val]

theorem ldw1024 (k : Fin 1024) (f : Fin 512) : r0_25.idx (ix2 k f) = ix2 k ⟨1024 + f.val, by omega⟩ := by
  blk_ext [r0_25] <;> simp [r0_25, Rect.idx_unit_val]

theorem ldw1536 (k : Fin 1024) (f : Fin 512) : r0_26.idx (ix2 k f) = ix2 k ⟨1536 + f.val, by omega⟩ := by
  blk_ext [r0_26] <;> simp [r0_26, Rect.idx_unit_val]

theorem ldw3584 (k : Fin 1024) (f : Fin 256) : r0_10.idx (ix2 k f) = ix2 k ⟨3584 + f.val, by omega⟩ := by
  blk_ext [r0_10] <;> simp [r0_10, Rect.idx_unit_val]

variable (m : (ℓ : Loc nD τ sig) → Buf (Elt Ideal) ℓ)

/-! What a grid point's body computes with: the modulated norm of the tile, the tables, and the products. -/

abbrev Hd (c : Dev nD) (t : Fin cfg0.N) : V S512x1024 .bf16 := k0_pay56 (F := Ideal) (iblk m c 0 t) (iblk m c 1 t) (iblk m c 2 t) (iblk m c 3 t) (iblk m c 4 t) (iblk m c 5 t) (iblk m c 6 t) (iblk m c 7 t) (iblk m c 8 t)

abbrev Cs (c : Dev nD) (t : Fin cfg0.N) : V S512x128 .f32 := k0_pay58 (F := Ideal) (iblk m c 0 t) (iblk m c 1 t) (iblk m c 2 t) (iblk m c 3 t) (iblk m c 4 t) (iblk m c 5 t) (iblk m c 6 t) (iblk m c 7 t) (iblk m c 8 t)

abbrev Sn (c : Dev nD) (t : Fin cfg0.N) : V S512x128 .f32 := k0_pay59 (F := Ideal) (iblk m c 0 t) (iblk m c 1 t) (iblk m c 2 t) (iblk m c 3 t) (iblk m c 4 t) (iblk m c 5 t) (iblk m c 6 t) (iblk m c 7 t) (iblk m c 8 t)

abbrev Gq (c : Dev nD) (t : Fin cfg0.N) : V S1x128 .f32 := k0_pay62 (F := Ideal) (iblk m c 0 t) (iblk m c 1 t) (iblk m c 2 t) (iblk m c 3 t) (iblk m c 4 t) (iblk m c 5 t) (iblk m c 6 t) (iblk m c 7 t) (iblk m c 8 t)

abbrev W3072 (c : Dev nD) (t : Fin cfg0.N) : V S1024x512 .bf16 := View.ld (iblk m c 4 t) r0_4

abbrev W0 (c : Dev nD) (t : Fin cfg0.N) : V S1024x512 .bf16 := View.ld (iblk m c 4 t) r0_13

abbrev W512 (c : Dev nD) (t : Fin cfg0.N) : V S1024x512 .bf16 := View.ld (iblk m c 4 t) r0_18

abbrev W2048 (c : Dev nD) (t : Fin cfg0.N) : V S1024x512 .bf16 := View.ld (iblk m c 4 t) r0_19

abbrev W2560 (c : Dev nD) (t : Fin cfg0.N) : V S1024x512 .bf16 := View.ld (iblk m c 4 t) r0_22

abbrev W1024 (c : Dev nD) (t : Fin cfg0.N) : V S1024x512 .bf16 := View.ld (iblk m c 4 t) r0_25

abbrev W1536 (c : Dev nD) (t : Fin cfg0.N) : V S1024x512 .bf16 := View.ld (iblk m c 4 t) r0_26

abbrev W3584 (c : Dev nD) (t : Fin cfg0.N) : V S1024x256 .bf16 := View.ld (iblk m c 4 t) r0_10

theorem hid_blocks (c : Dev nD) (t : Fin cfg0.N) (r : Fin 512) (k : Fin 1024) : Hd m c t (ix2 r k) = (dat m c).hid (row t r) k :=
  hid_at (dat m c) (row t r) _ _ _ _ r k (fun k => (congrArg (iblk m c 0 t) (ldx r k)).trans (x_at m c t r k))
    ((congrArg (iblk m c 3 t) (ldg k)).trans (g_at m c t k)) ((congrArg (iblk m c 2 t) (ldm k)).trans (sc_at m c t r k))
    ((congrArg (iblk m c 1 t) (ldm k)).trans (sh_at m c t r k))

/-! The products of the modulated norm with each block of columns. -/

theorem prod3072 (c : Dev nD) (t : Fin cfg0.N) (r : Fin 512) (f : Fin 512) :
    (∑ k : Fin 1024, Hd m c t (ix2 r k) * W3072 m c t (ix2 k f)) = (dat m c).proj (row t r) ⟨3072 + f.val, by omega⟩ :=
  Finset.sum_congr rfl fun j _ => congrArg₂ (· * ·) (hid_blocks m c t r j) ((congrArg (iblk m c 4 t) (ldw3072 j f)).trans (w_at m c t j _))

theorem prod0 (c : Dev nD) (t : Fin cfg0.N) (r : Fin 512) (f : Fin 512) :
    (∑ k : Fin 1024, Hd m c t (ix2 r k) * W0 m c t (ix2 k f)) = (dat m c).proj (row t r) ⟨0 + f.val, by omega⟩ :=
  Finset.sum_congr rfl fun j _ => congrArg₂ (· * ·) (hid_blocks m c t r j) ((congrArg (iblk m c 4 t) (ldw0 j f)).trans (w_at m c t j _))

theorem prod512 (c : Dev nD) (t : Fin cfg0.N) (r : Fin 512) (f : Fin 512) :
    (∑ k : Fin 1024, Hd m c t (ix2 r k) * W512 m c t (ix2 k f)) = (dat m c).proj (row t r) ⟨512 + f.val, by omega⟩ :=
  Finset.sum_congr rfl fun j _ => congrArg₂ (· * ·) (hid_blocks m c t r j) ((congrArg (iblk m c 4 t) (ldw512 j f)).trans (w_at m c t j _))

theorem prod2048 (c : Dev nD) (t : Fin cfg0.N) (r : Fin 512) (f : Fin 512) :
    (∑ k : Fin 1024, Hd m c t (ix2 r k) * W2048 m c t (ix2 k f)) = (dat m c).proj (row t r) ⟨2048 + f.val, by omega⟩ :=
  Finset.sum_congr rfl fun j _ => congrArg₂ (· * ·) (hid_blocks m c t r j) ((congrArg (iblk m c 4 t) (ldw2048 j f)).trans (w_at m c t j _))

theorem prod2560 (c : Dev nD) (t : Fin cfg0.N) (r : Fin 512) (f : Fin 512) :
    (∑ k : Fin 1024, Hd m c t (ix2 r k) * W2560 m c t (ix2 k f)) = (dat m c).proj (row t r) ⟨2560 + f.val, by omega⟩ :=
  Finset.sum_congr rfl fun j _ => congrArg₂ (· * ·) (hid_blocks m c t r j) ((congrArg (iblk m c 4 t) (ldw2560 j f)).trans (w_at m c t j _))

theorem prod1024 (c : Dev nD) (t : Fin cfg0.N) (r : Fin 512) (f : Fin 512) :
    (∑ k : Fin 1024, Hd m c t (ix2 r k) * W1024 m c t (ix2 k f)) = (dat m c).proj (row t r) ⟨1024 + f.val, by omega⟩ :=
  Finset.sum_congr rfl fun j _ => congrArg₂ (· * ·) (hid_blocks m c t r j) ((congrArg (iblk m c 4 t) (ldw1024 j f)).trans (w_at m c t j _))

theorem prod1536 (c : Dev nD) (t : Fin cfg0.N) (r : Fin 512) (f : Fin 512) :
    (∑ k : Fin 1024, Hd m c t (ix2 r k) * W1536 m c t (ix2 k f)) = (dat m c).proj (row t r) ⟨1536 + f.val, by omega⟩ :=
  Finset.sum_congr rfl fun j _ => congrArg₂ (· * ·) (hid_blocks m c t r j) ((congrArg (iblk m c 4 t) (ldw1536 j f)).trans (w_at m c t j _))

theorem prod3584 (c : Dev nD) (t : Fin cfg0.N) (r : Fin 512) (f : Fin 256) :
    (∑ k : Fin 1024, Hd m c t (ix2 r k) * W3584 m c t (ix2 k f)) = (dat m c).proj (row t r) ⟨3584 + f.val, by omega⟩ :=
  Finset.sum_congr rfl fun j _ => congrArg₂ (· * ·) (hid_blocks m c t r j) ((congrArg (iblk m c 4 t) (ldw3584 j f)).trans (w_at m c t j _))

/-- The reference's retention values over the kernel's argument arrays. -/
abbrev vrRef (c : Dev nD) : V S4x8192x256 .bf16 :=
  Cert.EvenLatRefIdeal.Read.val_main_v264 (F := Ideal) (m (c, Proc.tc.devRef main_arg0)) (m (c, Proc.tc.devRef main_arg1)) (m (c, Proc.tc.devRef main_arg2)) (m (c, Proc.tc.devRef main_arg3))

theorem vr_of (c : Dev nD) (t : Fin cfg0.N) (r : Fin 512) (f : Fin 256) (b o : ℕ) (ho : o + 256 ≤ 512) (hb : b + 512 ≤ 3840)
    (i : S4x8192x256.Idx) (h0 : 1024 + (i 0).val * 256 = b + o) (h1 : (i 1).val = t.val * 512 + r.val) (h2 : (i 2).val = f.val) :
    (dat m c).proj (row t r) ⟨b + (o + f.val), bnd f.isLt ho hb⟩ = vrRef m c i := by
  have e1 : i 1 = row t r := Fin.ext h1
  rw [Idealize.ShloMosaic.eq_ix3 i]
  refine Eq.trans ?_ (Cert.EvenLatRefIdeal.Rows.vr_at (m (c, Proc.tc.devRef main_arg0)) (m (c, Proc.tc.devRef main_arg1)) (m (c, Proc.tc.devRef main_arg2)) (m (c, Proc.tc.devRef main_arg3)) (i 0) (i 1) (i 2)).symm
  rw [e1]
  refine congrArg (fun f => (dat m c).proj (row t r) f) (Fin.ext ?_)
  simp only
  omega

theorem point11 (c : Dev nD) (t : Fin cfg0.N) (y : S4x512x256.Idx) (i : S4x8192x256.Idx)
    (g0 : (i 0).val = (y 0).val) (g1 : (i 1).val = t.val * 512 + (y 1).val) (g2 : (i 2).val = (y 2).val) :
    Gen.out0_11 (F := Ideal) (iblk m c 0 t) (iblk m c 1 t) (iblk m c 2 t) (iblk m c 3 t) (iblk m c 4 t) (iblk m c 5 t) (iblk m c 6 t) (iblk m c 7 t) (iblk m c 8 t) y = vrRef m c i := by
  unfold Gen.out0_11
  canon_tiles x h
  · idx_vars x
    refine (piece256 (k0_pay3 (F := Ideal) (Hd m c t) (W1536 m c t)) 256 (by norm_num) slices_S512x512_o0_256_S512x256 shapeCasts_S512x256_S1x512x256 x0 x1 x2).trans
      ((pay3_at _ _ x1 _).trans ((prod1536 m c t x1 _).trans (vr_of m c t x1 x2 1536 256 (by norm_num) (by norm_num) i ?_ ?_ ?_))) <;> omega
  · idx_vars x
    refine (piece256 (k0_pay3 (F := Ideal) (Hd m c t) (W1536 m c t)) 0 (by norm_num) slices_S512x512_o0_0_S512x256 shapeCasts_S512x256_S1x512x256 x0 x1 x2).trans
      ((pay3_at _ _ x1 _).trans ((prod1536 m c t x1 _).trans (vr_of m c t x1 x2 1536 0 (by norm_num) (by norm_num) i ?_ ?_ ?_))) <;> omega
  · idx_vars x
    refine (piece256 (k0_pay55 (F := Ideal) (Hd m c t) (W1024 m c t)) 256 (by norm_num) slices_S512x512_o0_256_S512x256 shapeCasts_S512x256_S1x512x256 x0 x1 x2).trans
      ((pay55_at _ _ x1 _).trans ((prod1024 m c t x1 _).trans (vr_of m c t x1 x2 1024 256 (by norm_num) (by norm_num) i ?_ ?_ ?_))) <;> omega
  · idx_vars x
    refine (piece256 (k0_pay55 (F := Ideal) (Hd m c t) (W1024 m c t)) 0 (by norm_num) slices_S512x512_o0_0_S512x256 shapeCasts_S512x256_S1x512x256 x0 x1 x2).trans
      ((pay55_at _ _ x1 _).trans ((prod1024 m c t x1 _).trans (vr_of m c t x1 x2 1024 0 (by norm_num) (by norm_num) i ?_ ?_ ?_))) <;> omega

theorem final11 (c : Dev nD) : (dats m 0 c).arrAt 11 (cfgs 0).N = vrRef m c := by
  refine (dats m 0 c).arrAt_eq_of_covers 11 _ (by decide +kernel) fun t _ y => ?_
  blk_simp
  rw [after0_11]
  refine point11 m c t y _ ?_ ?_ ?_ <;> blk_simp [idx t]

/-- The reference's retention gates over the kernel's argument arrays. -/
abbrev grRef (c : Dev nD) : V S4x8192x256 .f32 :=
  Cert.EvenLatRefIdeal.Read.val_main_v266 (F := Ideal) (m (c, Proc.tc.devRef main_arg0)) (m (c, Proc.tc.devRef main_arg1)) (m (c, Proc.tc.devRef main_arg2)) (m (c, Proc.tc.devRef main_arg3))

theorem gr_of (c : Dev nD) (t : Fin cfg0.N) (r : Fin 512) (f : Fin 256) (b o : ℕ) (ho : o + 256 ≤ 512) (hb : b + 512 ≤ 3840)
    (i : S4x8192x256.Idx) (h0 : 2048 + (i 0).val * 256 = b + o) (h1 : (i 1).val = t.val * 512 + r.val) (h2 : (i 2).val = f.val) :
    Projection.silu ((dat m c).proj (row t r) ⟨b + (o + f.val), bnd f.isLt ho hb⟩) = grRef m c i := by
  have e1 : i 1 = row t r := Fin.ext h1
  rw [Idealize.ShloMosaic.eq_ix3 i]
  refine Eq.trans ?_ (Cert.EvenLatRefIdeal.Rows.gr_at (m (c, Proc.tc.devRef main_arg0)) (m (c, Proc.tc.devRef main_arg1)) (m (c, Proc.tc.devRef main_arg2)) (m (c, Proc.tc.devRef main_arg3)) (i 0) (i 1) (i 2)).symm
  rw [e1]
  refine congrArg (fun f => Projection.silu ((dat m c).proj (row t r) f)) (Fin.ext ?_)
  simp only
  omega

theorem point12 (c : Dev nD) (t : Fin cfg0.N) (y : S4x512x256.Idx) (i : S4x8192x256.Idx)
    (g0 : (i 0).val = (y 0).val) (g1 : (i 1).val = t.val * 512 + (y 1).val) (g2 : (i 2).val = (y 2).val) :
    Gen.out0_12 (F := Ideal) (iblk m c 0 t) (iblk m c 1 t) (iblk m c 2 t) (iblk m c 3 t) (iblk m c 4 t) (iblk m c 5 t) (iblk m c 6 t) (iblk m c 7 t) (iblk m c 8 t) y = grRef m c i := by
  unfold Gen.out0_12
  canon_tiles x h
  · idx_vars x
    refine (piece256 (k0_pay52 (F := Ideal) (Hd m c t) (W2560 m c t)) 256 (by norm_num) slices_S512x512_o0_256_S512x256 shapeCasts_S512x256_S1x512x256 x0 x1 x2).trans
      ((pay52_at _ _ x1 _).trans ((congrArg Projection.silu (prod2560 m c t x1 _)).trans (gr_of m c t x1 x2 2560 256 (by norm_num) (by norm_num) i ?_ ?_ ?_))) <;> omega
  · idx_vars x
    refine (piece256 (k0_pay52 (F := Ideal) (Hd m c t) (W2560 m c t)) 0 (by norm_num) slices_S512x512_o0_0_S512x256 shapeCasts_S512x256_S1x512x256 x0 x1 x2).trans
      ((pay52_at _ _ x1 _).trans ((congrArg Projection.silu (prod2560 m c t x1 _)).trans (gr_of m c t x1 x2 2560 0 (by norm_num) (by norm_num) i ?_ ?_ ?_))) <;> omega
  · idx_vars x
    refine (piece256 (k0_pay49 (F := Ideal) (k0_pay47 (Hd m c t) (W2048 m c t)) (k0_pay48 (Hd m c t) (W2048 m c t))) 256 (by norm_num) slices_S512x512_o0_256_S512x256 shapeCasts_S512x256_S1x512x256 x0 x1 x2).trans
      ((pay49_at _ _ x1 _).trans ((congrArg Projection.silu (prod2048 m c t x1 _)).trans (gr_of m c t x1 x2 2048 256 (by norm_num) (by norm_num) i ?_ ?_ ?_))) <;> omega
  · idx_vars x
    refine (piece256 (k0_pay49 (F := Ideal) (k0_pay47 (Hd m c t) (W2048 m c t)) (k0_pay48 (Hd m c t) (W2048 m c t))) 0 (by norm_num) slices_S512x512_o0_0_S512x256 shapeCasts_S512x256_S1x512x256 x0 x1 x2).trans
      ((pay49_at _ _ x1 _).trans ((congrArg Projection.silu (prod2048 m c t x1 _)).trans (gr_of m c t x1 x2 2048 0 (by norm_num) (by norm_num) i ?_ ?_ ?_))) <;> omega

theorem final12 (c : Dev nD) : (dats m 0 c).arrAt 12 (cfgs 0).N = grRef m c := by
  refine (dats m 0 c).arrAt_eq_of_covers 12 _ (by decide +kernel) fun t _ y => ?_
  blk_simp
  rw [after0_12]
  refine point12 m c t y _ ?_ ?_ ?_ <;> blk_simp [idx t]

end Cert.EvenLatIdeal.Mix

end
-- ==== Proof.EvenLatHeads.lean ====
/-
The latent stream's first projection call: the turned queries and keys of the retention and of the attention and the
attention's values after the run, which are the reference's.
-/
module

public import proofs.«01_k».proof.Proof.EvenLatValue

@[expose] public section

set_option maxRecDepth 16384

noncomputable section

open Idealize.ShloMosaic Idealize.ShloMosaic.TcCoe Idealize.SL.Sem
open Idealize.ShloMosaic.Pipeline (Dat)

namespace Cert.EvenLatIdeal.Mix

open Cert.EvenLatIdeal Cert.EvenLatIdeal.Gen

local notation "V" => FVec Idealize.ShloMosaic.Ideal

variable (m : (ℓ : Loc nD τ sig) → Buf (Elt Ideal) ℓ)

/-- Two heads of a tile, turned by the tables' blocks. -/
theorem turn_blocks (c : Dev nD) (t : Fin cfg0.N) (z : V S512x128 .f32) (r : Fin 512) (l : Fin 128) :
    turnT z (Cs m c t) (Sn m c t) (ix2 r l)
      = Projection.turn (fun d => z (ix2 r ⟨l.val / 64 * 64 + d.val, by omega⟩)) (dang m c (row t r)) ⟨l.val % 64, by omega⟩ :=
  turnT_at z _ _ _ r l
    ((table_at (View.ld (iblk m c 7 t) r0_3 : V S512x128 .f32) r l).trans ((congrArg (iblk m c 7 t) (ldc r l)).trans (cs_at m c t r l)))
    ((table_at (View.ld (iblk m c 8 t) r0_3 : V S512x128 .f32) r l).trans ((congrArg (iblk m c 8 t) (ldc r l)).trans (sn_at m c t r l)))

/-- The query gains of the two heads of a vector. -/
theorem qgain_at (c : Dev nD) (t : Fin cfg0.N) (l : Fin 128) :
    Gq m c t (ix2 0 l) = gains (m (c, Proc.tc.devRef main_arg4)) ⟨l.val % 64, by omega⟩ :=
  (lane_at (View.ld (iblk m c 5 t) r0_5 : V S1x128 .f32) l).trans ((congrArg (iblk m c 5 t) (ldl l)).trans (qg_at m c t l))

/-- The key gains. -/
theorem kgain_at (c : Dev nD) (t : Fin cfg0.N) (l : Fin 128) :
    shapeCast S1x128 (View.ld (iblk m c 6 t) r0_5 : V S1x128 .f32) shapeCasts_S1x128_S1x128 (ix2 0 l)
      = gains (m (c, Proc.tc.devRef main_arg5)) ⟨l.val % 64, by omega⟩ :=
  (lane_at (View.ld (iblk m c 6 t) r0_5 : V S1x128 .f32) l).trans ((congrArg (iblk m c 6 t) (ldl l)).trans (kg_at m c t l))

/-- The reference's retention queries over the kernel's argument arrays. -/
abbrev qrRef (c : Dev nD) : V S4x8192x128 .f32 :=
  Cert.EvenLatRefIdeal.Read.val_main_v259 (F := Ideal) (m (c, Proc.tc.devRef main_arg0)) (m (c, Proc.tc.devRef main_arg1)) (m (c, Proc.tc.devRef main_arg2)) (m (c, Proc.tc.devRef main_arg3)) (m (c, Proc.tc.devRef main_arg6)) (m (c, Proc.tc.devRef main_arg7))

theorem qr_piece (c : Dev nD) (t : Fin cfg0.N) (o : ℕ) (ho : o + 128 ≤ 512) (hs : S512x512.Slices ![0, o] S512x128)
    (a : Fin 1) (r : Fin 512) (l : Fin 128) (i : S4x8192x128.Idx)
    (hi : (i 0).val * 128 = o ∧ (i 1).val = t.val * 512 + r.val ∧ (i 2).val = l.val) :
    pT (k0_pay35 (F := Ideal) (Hd m c t) (W0 m c t)) o hs (Cs m c t) (Sn m c t) (ix3 a r l) = qrRef m c i := by
  obtain ⟨h0, h1, h2⟩ := hi
  have e1 : i 1 = row t r := Fin.ext h1
  have e2 : i 2 = l := Fin.ext h2
  rw [Idealize.ShloMosaic.eq_ix3 i]
  refine (pT_at ..).trans ((turn_blocks ..).trans (Eq.trans ?_ (Cert.EvenLatRefIdeal.Rows.qr_at (m (c, Proc.tc.devRef main_arg0)) (m (c, Proc.tc.devRef main_arg1)) (m (c, Proc.tc.devRef main_arg2)) (m (c, Proc.tc.devRef main_arg3)) (m (c, Proc.tc.devRef main_arg6)) (m (c, Proc.tc.devRef main_arg7)) (i 0) (i 1) (i 2)).symm))
  rw [e1, e2]
  refine congrArg (fun z => Projection.turn z (dang m c (row t r)) ⟨l.val % 64, by omega⟩) (funext fun d => ?_)
  refine (slice512_at _ o ho hs r _).trans ((pay35_at _ _ r _).trans ((prod0 m c t r _).trans (congrArg (fun f => (dat m c).proj (row t r) f) (Fin.ext ?_))))
  simp only
  omega

theorem point9 (c : Dev nD) (t : Fin cfg0.N) (y : S4x512x128.Idx) (i : S4x8192x128.Idx)
    (g0 : (i 0).val = (y 0).val) (g1 : (i 1).val = t.val * 512 + (y 1).val) (g2 : (i 2).val = (y 2).val) :
    Gen.out0_9 (F := Ideal) (iblk m c 0 t) (iblk m c 1 t) (iblk m c 2 t) (iblk m c 3 t) (iblk m c 4 t) (iblk m c 5 t) (iblk m c 6 t) (iblk m c 7 t) (iblk m c 8 t) y = qrRef m c i := by
  unfold Gen.out0_9
  canon_tiles x h
  · idx_vars x
    refine (congrFun (r3 (k0_pay35 (F := Ideal) (Hd m c t) (W0 m c t)) (Cs m c t) (Sn m c t)) (ix3 x0 x1 x2)).trans
      (qr_piece m c t 384 (by norm_num) slices_S512x512_o0_384_S512x128 x0 x1 x2 i ⟨?_, ?_, ?_⟩) <;> omega
  · idx_vars x
    refine (congrFun (r2 (k0_pay35 (F := Ideal) (Hd m c t) (W0 m c t)) (Cs m c t) (Sn m c t)) (ix3 x0 x1 x2)).trans
      (qr_piece m c t 256 (by norm_num) slices_S512x512_o0_256_S512x128 x0 x1 x2 i ⟨?_, ?_, ?_⟩) <;> omega
  · idx_vars x
    refine (congrFun (r1 (Hd m c t) (W0 m c t) (Cs m c t) (Sn m c t)) (ix3 x0 x1 x2)).trans
      (qr_piece m c t 128 (by norm_num) slices_S512x512_o0_128_S512x128 x0 x1 x2 i ⟨?_, ?_, ?_⟩) <;> omega
  · idx_vars x
    refine (congrFun (r0 (Hd m c t) (W0 m c t) (Cs m c t) (Sn m c t)) (ix3 x0 x1 x2)).trans
      (qr_piece m c t 0 (by norm_num) slices_S512x512_o0_0_S512x128 x0 x1 x2 i ⟨?_, ?_, ?_⟩) <;> omega

theorem final9 (c : Dev nD) : (dats m 0 c).arrAt 9 (cfgs 0).N = qrRef m c := by
  refine (dats m 0 c).arrAt_eq_of_covers 9 _ (by decide +kernel) fun t _ y => ?_
  blk_simp
  rw [after0_9]
  refine point9 m c t y _ ?_ ?_ ?_ <;> blk_simp [idx t]

/-- The reference's retention keys over the kernel's argument arrays. -/
abbrev krRef (c : Dev nD) : V S4x8192x128 .f32 :=
  Cert.EvenLatRefIdeal.Read.val_main_v261 (F := Ideal) (m (c, Proc.tc.devRef main_arg0)) (m (c, Proc.tc.devRef main_arg1)) (m (c, Proc.tc.devRef main_arg2)) (m (c, Proc.tc.devRef main_arg3)) (m (c, Proc.tc.devRef main_arg6)) (m (c, Proc.tc.devRef main_arg7))

theorem kr_piece (c : Dev nD) (t : Fin cfg0.N) (o : ℕ) (ho : o + 128 ≤ 512) (hs : S512x512.Slices ![0, o] S512x128)
    (a : Fin 1) (r : Fin 512) (l : Fin 128) (i : S4x8192x128.Idx)
    (hi : (i 0).val * 128 = o ∧ (i 1).val = t.val * 512 + r.val ∧ (i 2).val = l.val) :
    pT (k0_pay41 (F := Ideal) (Hd m c t) (W512 m c t)) o hs (Cs m c t) (Sn m c t) (ix3 a r l) = krRef m c i := by
  obtain ⟨h0, h1, h2⟩ := hi
  have e1 : i 1 = row t r := Fin.ext h1
  have e2 : i 2 = l := Fin.ext h2
  rw [Idealize.ShloMosaic.eq_ix3 i]
  refine (pT_at ..).trans ((turn_blocks ..).trans (Eq.trans ?_ (Cert.EvenLatRefIdeal.Rows.kr_at (m (c, Proc.tc.devRef main_arg0)) (m (c, Proc.tc.devRef main_arg1)) (m (c, Proc.tc.devRef main_arg2)) (m (c, Proc.tc.devRef main_arg3)) (m (c, Proc.tc.devRef main_arg6)) (m (c, Proc.tc.devRef main_arg7)) (i 0) (i 1) (i 2)).symm))
  rw [e1, e2]
  refine congrArg (fun z => Projection.turn z (dang m c (row t r)) ⟨l.val % 64, by omega⟩) (funext fun d => ?_)
  refine (slice512_at _ o ho hs r _).trans ((pay41_at _ _ r _).trans ((congrArg (· * Ideal.ofBits .f32 0x3E000000#32) (prod512 m c t r _)).trans (congrArg (fun f => (dat m c).proj (row t r) f * Ideal.ofBits .f32 0x3E000000#32) (Fin.ext ?_))))
  simp only
  omega

theorem point10 (c : Dev nD) (t : Fin cfg0.N) (y : S4x512x128.Idx) (i : S4x8192x128.Idx)
    (g0 : (i 0).val = (y 0).val) (g1 : (i 1).val = t.val * 512 + (y 1).val) (g2 : (i 2).val = (y 2).val) :
    Gen.out0_10 (F := Ideal) (iblk m c 0 t) (iblk m c 1 t) (iblk m c 2 t) (iblk m c 3 t) (iblk m c 4 t) (iblk m c 5 t) (iblk m c 6 t) (iblk m c 7 t) (iblk m c 8 t) y = krRef m c i := by
  unfold Gen.out0_10
  canon_tiles x h
  · idx_vars x
    refine (congrFun (k3 (k0_pay41 (F := Ideal) (Hd m c t) (W512 m c t)) (Cs m c t) (Sn m c t)) (ix3 x0 x1 x2)).trans
      (kr_piece m c t 384 (by norm_num) slices_S512x512_o0_384_S512x128 x0 x1 x2 i ⟨?_, ?_, ?_⟩) <;> omega
  · idx_vars x
    refine (congrFun (k2 (k0_pay41 (F := Ideal) (Hd m c t) (W512 m c t)) (Cs m c t) (Sn m c t)) (ix3 x0 x1 x2)).trans
      (kr_piece m c t 256 (by norm_num) slices_S512x512_o0_256_S512x128 x0 x1 x2 i ⟨?_, ?_, ?_⟩) <;> omega
  · idx_vars x
    refine (congrFun (k1 (Hd m c t) (W512 m c t) (Cs m c t) (Sn m c t)) (ix3 x0 x1 x2)).trans
      (kr_piece m c t 128 (by norm_num) slices_S512x512_o0_128_S512x128 x0 x1 x2 i ⟨?_, ?_, ?_⟩) <;> omega
  · idx_vars x
    refine (congrFun (k0 (Hd m c t) (W512 m c t) (Cs m c t) (Sn m c t)) (ix3 x0 x1 x2)).trans
      (kr_piece m c t 0 (by norm_num) slices_S512x512_o0_0_S512x128 x0 x1 x2 i ⟨?_, ?_, ?_⟩) <;> omega

theorem final10 (c : Dev nD) : (dats m 0 c).arrAt 10 (cfgs 0).N = krRef m c := by
  refine (dats m 0 c).arrAt_eq_of_covers 10 _ (by decide +kernel) fun t _ y => ?_
  blk_simp
  rw [after0_10]
  refine point10 m c t y _ ?_ ?_ ?_ <;> blk_simp [idx t]

/-- The reference's attention queries over the kernel's argument arrays. -/
abbrev qaRef (c : Dev nD) : V S8192x512 .bf16 :=
  Cert.EvenLatRefIdeal.Read.val_main_v272 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg6)) (m (c, Proc.tc.devRef main_arg7))

/-- A normalised query head. -/
theorem qn_at (c : Dev nD) (t : Fin cfg0.N) (o : ℕ) (ho : o + 128 ≤ 512) (hs : S512x512.Slices ![0, o] S512x128) (h64 : o % 64 = 0)
    (r : Fin 512) (l : Fin 128) :
    normT (extractStridedSlice S512x128 ![0, o] (k0_pay11 (F := Ideal) (Hd m c t) (W3072 m c t)) hs) (Gq m c t) (ix2 r l)
      = (dat m c).head (gains (m (c, Proc.tc.devRef main_arg4))) (row t r) (3072 + (o + l.val) / 64 * 64) (by omega) ⟨l.val % 64, by omega⟩ := by
  rw [normT_at, qgain_at]
  refine congrArg (fun y => Projection.hrms y _ * _) (funext fun k => ?_)
  refine (slice512_at _ o ho hs r _).trans ((pay11_at _ _ r _).trans ((prod3072 m c t r _).trans (congrArg ((dat m c).proj (row t r)) (Fin.ext ?_))))
  simp only
  omega

theorem q_piece (c : Dev nD) (t : Fin cfg0.N) (o : ℕ) (ho : o + 128 ≤ 512) (hs : S512x512.Slices ![0, o] S512x128)
    (r : Fin 512) (l : Fin 128) (i : S8192x512.Idx) (hi : (i 0).val = t.val * 512 + r.val ∧ (i 1).val = o + l.val ∧ o % 64 = 0) :
    qT (extractStridedSlice S512x128 ![0, o] (k0_pay11 (F := Ideal) (Hd m c t) (W3072 m c t)) hs) (Gq m c t) (Cs m c t) (Sn m c t) (ix2 r l) = qaRef m c i := by
  obtain ⟨h0, h1, h64⟩ := hi
  have e0 : i 0 = row t r := Fin.ext h0
  have e' : (⟨l.val % 64, by omega⟩ : Fin 64) = ⟨(i 1).val % 64, by omega⟩ := Fin.ext (by simp only; omega)
  rw [qT_at, turn_blocks, Idealize.ShloMosaic.eq_ix2 i]
  refine Eq.trans ?_ (Cert.EvenLatRefIdeal.Rows.qa_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg6)) (m (c, Proc.tc.devRef main_arg7)) (i 0) (i 1)).symm
  rw [e0, e']
  refine congrArg (fun z => Projection.turn z (dang m c (row t r)) ⟨(i 1).val % 64, by omega⟩ * Projection.scale) (funext fun d => ?_)
  rw [qn_at m c t o ho hs h64]
  exact Projection.Data.head_congr (dat m c) rfl (by simp only; omega) (Fin.ext (by simp only; omega))

theorem point13 (c : Dev nD) (t : Fin cfg0.N) (y : S512x512.Idx) (i : S8192x512.Idx)
    (g0 : (i 0).val = t.val * 512 + (y 0).val) (g1 : (i 1).val = (y 1).val) :
    Gen.out0_13 (F := Ideal) (iblk m c 0 t) (iblk m c 1 t) (iblk m c 2 t) (iblk m c 3 t) (iblk m c 4 t) (iblk m c 5 t) (iblk m c 6 t) (iblk m c 7 t) (iblk m c 8 t) y = qaRef m c i := by
  unfold Gen.out0_13
  canon_tiles x h
  · idx_vars x
    refine (congrFun (q3 (k0_pay11 (F := Ideal) (Hd m c t) (W3072 m c t)) (Gq m c t) (Cs m c t) (Sn m c t)) (ix2 x0 x1)).trans
      (q_piece m c t 384 (by norm_num) slices_S512x512_o0_384_S512x128 x0 x1 i ⟨?_, ?_, ?_⟩) <;> omega
  · idx_vars x
    refine (congrFun (q2 (k0_pay11 (F := Ideal) (Hd m c t) (W3072 m c t)) (Gq m c t) (Cs m c t) (Sn m c t)) (ix2 x0 x1)).trans
      (q_piece m c t 256 (by norm_num) slices_S512x512_o0_256_S512x128 x0 x1 i ⟨?_, ?_, ?_⟩) <;> omega
  · idx_vars x
    refine (congrFun (q1 (k0_pay11 (F := Ideal) (Hd m c t) (W3072 m c t)) (Gq m c t) (Cs m c t) (Sn m c t)) (ix2 x0 x1)).trans
      (q_piece m c t 128 (by norm_num) slices_S512x512_o0_128_S512x128 x0 x1 i ⟨?_, ?_, ?_⟩) <;> omega
  · idx_vars x
    refine (congrFun (q0 (Hd m c t) (W3072 m c t) (Gq m c t) (Cs m c t) (Sn m c t)) (ix2 x0 x1)).trans
      (q_piece m c t 0 (by norm_num) slices_S512x512_o0_0_S512x128 x0 x1 i ⟨?_, ?_, ?_⟩) <;> omega

theorem final13 (c : Dev nD) : (dats m 0 c).arrAt 13 (cfgs 0).N = qaRef m c := by
  refine (dats m 0 c).arrAt_eq_of_covers 13 _ (by decide +kernel) fun t _ y => ?_
  blk_simp
  rw [after0_13]
  refine point13 m c t y _ ?_ ?_ <;> blk_simp [idx t]

/-- The normalised and turned keys of a tile. -/
abbrev Kt (c : Dev nD) (t : Fin cfg0.N) : V S512x128 .f32 :=
  k0_pay28 (F := Ideal) (Hd m c t) k0_pay7 (Cs m c t) (Sn m c t) m16 (W3584 m c t) (View.ld (iblk m c 6 t) r0_5 : V S1x128 .f32)

theorem kn_blocks (c : Dev nD) (t : Fin cfg0.N) (r : Fin 512) (l : Fin 128) :
    Kt m c t (ix2 r l) = Projection.turn ((dat m c).head (gains (m (c, Proc.tc.devRef main_arg5))) (row t r) (3584 + l.val / 64 * 64) (by omega))
      (dang m c (row t r)) ⟨l.val % 64, by omega⟩ := by
  refine (congrFun (kn (Hd m c t) (View.ld (iblk m c 6 t) r0_5 : V S1x128 .f32) (Cs m c t) (Sn m c t) (W3584 m c t)) (ix2 r l)).trans ?_
  rw [turn_blocks]
  refine congrArg (fun z => Projection.turn z (dang m c (row t r)) ⟨l.val % 64, by omega⟩) (funext fun d => ?_)
  rw [normT_at, kgain_at]
  have e : (⟨(l.val / 64 * 64 + d.val) % 64, by omega⟩ : Fin 64) = d := Fin.ext (by simp only; omega)
  simp only [e]
  refine congrArg (fun y => Projection.hrms y _ * _) (funext fun k => ?_)
  refine (slice256_at _ 0 (by norm_num) _ r _).trans ((pay26_at _ _ r _).trans ((prod3584 m c t r _).trans
    (congrArg ((dat m c).proj (row t r)) (Fin.ext ?_))))
  simp only
  omega

/-- The values of a tile. -/
abbrev Vt (c : Dev nD) (t : Fin cfg0.N) : V S512x128 .f32 := k0_pay63 (F := Ideal) (iblk m c 0 t) (iblk m c 1 t) (iblk m c 2 t) (iblk m c 3 t) (iblk m c 4 t) (iblk m c 5 t) (iblk m c 6 t) (iblk m c 7 t) (iblk m c 8 t)

theorem vn_blocks (c : Dev nD) (t : Fin cfg0.N) (r : Fin 512) (l : Fin 128) :
    Vt m c t (ix2 r l) = (dat m c).proj (row t r) ⟨3712 + l.val, by omega⟩ := by
  refine (slice256_at _ 128 (by norm_num) slices_S512x256_o0_128_S512x128 r l).trans ((pay26_at _ _ r _).trans
    ((prod3584 m c t r _).trans (congrArg ((dat m c).proj (row t r)) (Fin.ext ?_))))
  simp only
  omega

theorem hb1 {o l : ℕ} (ho : o ≤ 64) : 3584 + (o + l % 64) / 64 * 64 + 64 ≤ 3840 := by omega

theorem hb2 (o l : ℕ) : (o + l % 64) % 64 < 64 := by omega

theorem hb3 {o l : ℕ} (ho : o ≤ 64) : 3712 + (o + l % 64) < 3840 := by omega

/-- The reference's doubled attention keys over the kernel's argument arrays. -/
abbrev kdRef (c : Dev nD) : V S8192x256 .bf16 :=
  Cert.EvenLatRefIdeal.Read.val_main_v277 (F := Ideal) (m (c, Proc.tc.devRef main_arg0)) (m (c, Proc.tc.devRef main_arg1)) (m (c, Proc.tc.devRef main_arg2)) (m (c, Proc.tc.devRef main_arg3)) (m (c, Proc.tc.devRef main_arg5)) (m (c, Proc.tc.devRef main_arg6)) (m (c, Proc.tc.devRef main_arg7))

theorem kd_of (c : Dev nD) (t : Fin cfg0.N) (r : Fin 512) (l : Fin 128) (o : ℕ) (ho : o ≤ 64) (i : S8192x256.Idx)
    (h0 : (i 0).val = t.val * 512 + r.val) (h1 : (i 1).val = o * 2 + l.val) (h64 : o % 64 = 0) :
    Projection.turn ((dat m c).head (gains (m (c, Proc.tc.devRef main_arg5))) (row t r) (3584 + (o + l.val % 64) / 64 * 64) (hb1 ho))
      (dang m c (row t r)) ⟨(o + l.val % 64) % 64, hb2 o l.val⟩ = kdRef m c i := by
  have e0 : i 0 = row t r := Fin.ext h0
  have e' : (⟨(o + l.val % 64) % 64, hb2 o l.val⟩ : Fin 64) = ⟨(i 1).val % 64, by omega⟩ := Fin.ext (by simp only; omega)
  rw [Idealize.ShloMosaic.eq_ix2 i]
  refine Eq.trans ?_ (Cert.EvenLatRefIdeal.Rows.kd_at (m (c, Proc.tc.devRef main_arg0)) (m (c, Proc.tc.devRef main_arg1)) (m (c, Proc.tc.devRef main_arg2)) (m (c, Proc.tc.devRef main_arg3)) (m (c, Proc.tc.devRef main_arg5)) (m (c, Proc.tc.devRef main_arg6)) (m (c, Proc.tc.devRef main_arg7)) (i 0) (i 1)).symm
  rw [e0, e']
  exact congrArg (fun z => Projection.turn z (dang m c (row t r)) ⟨(i 1).val % 64, by omega⟩)
    (funext fun d => Projection.Data.head_congr (dat m c) rfl (by omega) rfl)

theorem point14 (c : Dev nD) (t : Fin cfg0.N) (y : S512x256.Idx) (i : S8192x256.Idx)
    (g0 : (i 0).val = t.val * 512 + (y 0).val) (g1 : (i 1).val = (y 1).val) :
    Gen.out0_14 (F := Ideal) (iblk m c 0 t) (iblk m c 1 t) (iblk m c 2 t) (iblk m c 3 t) (iblk m c 4 t) (iblk m c 5 t) (iblk m c 6 t) (iblk m c 7 t) (iblk m c 8 t) y = kdRef m c i := by
  unfold Gen.out0_14
  canon_tiles x h
  · idx_vars x
    refine (congrFun (khi (Hd m c t) (View.ld (iblk m c 6 t) r0_5 : V S1x128 .f32) (Cs m c t) (Sn m c t) (W3584 m c t)) (ix2 x0 x1)).trans ((twice_hi (Kt m c t) x0 x1).trans ((kn_blocks m c t x0 _).trans
      (kd_of m c t x0 x1 64 (by norm_num) i ?_ ?_ ?_))) <;> omega
  · idx_vars x
    refine (congrFun (klo (Hd m c t) (View.ld (iblk m c 6 t) r0_5 : V S1x128 .f32) (Cs m c t) (Sn m c t) (W3584 m c t)) (ix2 x0 x1)).trans ((twice_lo (Kt m c t) x0 x1).trans ((kn_blocks m c t x0 _).trans
      (kd_of m c t x0 x1 0 (by norm_num) i ?_ ?_ ?_))) <;> omega

theorem final14 (c : Dev nD) : (dats m 0 c).arrAt 14 (cfgs 0).N = kdRef m c := by
  refine (dats m 0 c).arrAt_eq_of_covers 14 _ (by decide +kernel) fun t _ y => ?_
  blk_simp
  rw [after0_14]
  refine point14 m c t y _ ?_ ?_ <;> blk_simp [idx t]

/-- The reference's doubled attention values over the kernel's argument arrays. -/
abbrev vdRef (c : Dev nD) : V S8192x256 .bf16 :=
  Cert.EvenLatRefIdeal.Read.val_main_v282 (F := Ideal) (m (c, Proc.tc.devRef main_arg0)) (m (c, Proc.tc.devRef main_arg1)) (m (c, Proc.tc.devRef main_arg2)) (m (c, Proc.tc.devRef main_arg3))

theorem vd_of (c : Dev nD) (t : Fin cfg0.N) (r : Fin 512) (l : Fin 128) (o : ℕ) (ho : o ≤ 64) (i : S8192x256.Idx)
    (h0 : (i 0).val = t.val * 512 + r.val) (h1 : (i 1).val = o * 2 + l.val) (h64 : o % 64 = 0) :
    (dat m c).proj (row t r) ⟨3712 + (o + l.val % 64), hb3 ho⟩ = vdRef m c i := by
  have e0 : i 0 = row t r := Fin.ext h0
  rw [Idealize.ShloMosaic.eq_ix2 i]
  refine Eq.trans ?_ (Cert.EvenLatRefIdeal.Rows.vd_at (m (c, Proc.tc.devRef main_arg0)) (m (c, Proc.tc.devRef main_arg1)) (m (c, Proc.tc.devRef main_arg2)) (m (c, Proc.tc.devRef main_arg3)) (i 0) (i 1)).symm
  rw [e0]
  refine congrArg ((dat m c).proj (row t r)) (Fin.ext ?_)
  simp only
  omega

theorem point15 (c : Dev nD) (t : Fin cfg0.N) (y : S512x256.Idx) (i : S8192x256.Idx)
    (g0 : (i 0).val = t.val * 512 + (y 0).val) (g1 : (i 1).val = (y 1).val) :
    Gen.out0_15 (F := Ideal) (iblk m c 0 t) (iblk m c 1 t) (iblk m c 2 t) (iblk m c 3 t) (iblk m c 4 t) (iblk m c 5 t) (iblk m c 6 t) (iblk m c 7 t) (iblk m c 8 t) y = vdRef m c i := by
  unfold Gen.out0_15
  canon_tiles x h
  · idx_vars x
    refine ((twice_hi (Vt m c t) x0 x1).trans ((vn_blocks m c t x0 _).trans (vd_of m c t x0 x1 64 (by norm_num) i ?_ ?_ ?_))) <;> omega
  · idx_vars x
    refine ((twice_lo (Vt m c t) x0 x1).trans ((vn_blocks m c t x0 _).trans (vd_of m c t x0 x1 0 (by norm_num) i ?_ ?_ ?_))) <;> omega

theorem final15 (c : Dev nD) : (dats m 0 c).arrAt 15 (cfgs 0).N = vdRef m c := by
  refine (dats m 0 c).arrAt_eq_of_covers 15 _ (by decide +kernel) fun t _ y => ?_
  blk_simp
  rw [after0_15]
  refine point15 m c t y _ ?_ ?_ <;> blk_simp [idx t]

end Cert.EvenLatIdeal.Mix

end
-- ==== Proof.FfnPieces.lean ====
/-
The context stream's mixing and ConvFFN call, one operation group at a time: the vector operations the stored values
are made of, and what each holds at an index.
-/
module

public import proofs.«01_k».proof.Proof.Gen.FfnIdeal.Skeleton
public import Idealize.ShloMosaic.Lib.Pipeline.ValueKit

@[expose] public section

set_option maxRecDepth 16384

noncomputable section

open Idealize.ShloMosaic Idealize.ShloMosaic.TcCoe Idealize.SL.Sem

namespace Cert.FfnIdeal.Mix

open Cert.FfnIdeal Cert.FfnIdeal.Gen

local notation "V" => FVec Idealize.ShloMosaic.Ideal

/-- The residual stream plus its gated attention projection. -/
def mixT (a : V S512x1024 .bf16) (w : V S1024x1024 .bf16) (x : V S512x1024 .f32) (gm : V S1x1x1x1x1024 .f32) :
    V S512x1024 .f32 :=
  addf (shapeCast S512x1024 x shapeCasts_S512x1024_S512x1024)
    (mulf (broadcastTo S512x1024 (shapeCast S1x1024 gm shapeCasts_S1x1x1x1x1024_S1x1024) broadcasts_S1x1024_S512x1024)
      (matmul dot_S512x1024_S1024x1024_S512x1024_1_0_0_1_n_n none
        (shapeCast S512x1024 a shapeCasts_S512x1024_S512x1024) (shapeCast S1024x1024 w shapeCasts_S1024x1024_S1024x1024)
        (constant S512x1024 .f32 0x00000000#32)))

theorem mix_at (a : V S512x1024 .bf16) (w : V S1024x1024 .bf16) (x : V S512x1024 .f32)
    (gm : V S1x1x1x1x1024 .f32) (r : Fin 512) (c : Fin 1024) :
    mixT a w x gm (ix2 r c) = x (ix2 r c) + gm (ix5 0 0 0 0 c) * ∑ k : Fin 1024, a (ix2 r k) * w (ix2 k c) := by
  pointwise [mixT]

/-- A row divided by the root of its mean square. -/
def rmsT (y : V S512x1024 .f32) : V S512x1024 .f32 :=
  mulf y (broadcastTo S512x1024
    (rsqrt (addf (divf (shapeCast S512x1
        (multiReduction .add [1] S512 (mulf y y) 0x00000000#32 reduces_S512x1024_S512 (.inl rfl) rfl) shapeCasts_S512_S512x1)
      (broadcast S512x1 (Scalar.ofBits .f32 0x44800000#32 : Idealize.ShloMosaic.Ideal .f32)))
      (broadcast S512x1 (Scalar.ofBits .f32 0x358637BD#32 : Idealize.ShloMosaic.Ideal .f32))))
    broadcasts_S512x1_S512x1024)

theorem rms_at (y : V S512x1024 .f32) (r : Fin 512) (c : Fin 1024) :
    rmsT y (ix2 r c) = y (ix2 r c) * Ideal.rsqrt (Ideal.div (∑ k : Fin 1024, y (ix2 r k) * y (ix2 r k))
      (Ideal.ofBits FTy.f32 1149239296#32) + Ideal.ofBits FTy.f32 897988541#32) := by
  pointwise [rmsT]

/-- The normalised row with its gain, scale and shift. -/
def hidT (y : V S512x1024 .f32) (g : V S1x1024 .f32) (sc sh : V S1x1x1x1x1024 .f32) : V S512x1024 .bf16 :=
  shapeCast S512x1024 (truncf .bf16 (addf (mulf
      (mulf (rmsT y) (broadcastTo S512x1024 (shapeCast S1x1024 g shapeCasts_S1x1024_S1x1024) broadcasts_S1x1024_S512x1024))
      (broadcastTo S512x1024 (addf (broadcast S1x1024 (Scalar.ofBits .f32 0x3F800000#32 : Idealize.ShloMosaic.Ideal .f32))
        (shapeCast S1x1024 sc shapeCasts_S1x1x1x1x1024_S1x1024)) broadcasts_S1x1024_S512x1024))
      (broadcastTo S512x1024 (shapeCast S1x1024 sh shapeCasts_S1x1x1x1x1024_S1x1024) broadcasts_S1x1024_S512x1024))
      bitsLt_bf16_f32) shapeCasts_S512x1024_S512x1024

theorem hid_at (y : V S512x1024 .f32) (g : V S1x1024 .f32) (sc sh : V S1x1x1x1x1024 .f32) (r : Fin 512) (c : Fin 1024) :
    hidT y g sc sh (ix2 r c)
      = rmsT y (ix2 r c) * g (ix2 0 c) * (1 + sc (ix5 0 0 0 0 c)) + sh (ix5 0 0 0 0 c) := by
  generalize h : rmsT y = z
  pointwise [hidT, h]

/-- The gated ConvFFN product added to the stream. -/
def outT (o : V S512x1024 .f32) (gt : V S1x1x1x1x1024 .f32) (act : V S512x2816 .bf16) (wd : V S1x2816x1024 .bf16) :
    V S512x1024 .f32 :=
  addf (shapeCast S512x1024 o shapeCasts_S512x1024_S512x1024)
    (mulf (broadcastTo S512x1024 (shapeCast S1x1024 gt shapeCasts_S1x1x1x1x1024_S1x1024) broadcasts_S1x1024_S512x1024)
      (matmul dot_S512x2816_S2816x1024_S512x1024_1_0_0_1_n_n none act
        (shapeCast S2816x1024 wd shapeCasts_S1x2816x1024_S2816x1024) (constant S512x1024 .f32 0x00000000#32)))

theorem out_at (o : V S512x1024 .f32) (gt : V S1x1x1x1x1024 .f32) (act : V S512x2816 .bf16)
    (wd : V S1x2816x1024 .bf16) (r : Fin 512) (c : Fin 1024) :
    outT o gt act wd (ix2 r c)
      = o (ix2 r c) + gt (ix5 0 0 0 0 c) * ∑ f : Fin 2816, act (ix2 r f) * wd (ix3 0 f c) := by
  pointwise [outT]

/-- The last normalisation with its gain. -/
def finT (y : V S512x1024 .f32) (gf : V S1x1024 .f32) : V S512x1024 .f32 :=
  mulf (rmsT y) (broadcastTo S512x1024 (shapeCast S1x1024 gf shapeCasts_S1x1024_S1x1024) broadcasts_S1x1024_S512x1024)

theorem fin_at (y : V S512x1024 .f32) (gf : V S1x1024 .f32) (r : Fin 512) (c : Fin 1024) :
    finT y gf (ix2 r c) = rmsT y (ix2 r c) * gf (ix2 0 c) := by
  generalize h : rmsT y = z
  pointwise [finT, h]

/-- 256 columns of the up product. -/
def upT (hb : V S1024x1024 .bf16) (w : V S1x1024x256 .bf16) : V S1024x256 .f32 :=
  matmul dot_S1024x1024_S1024x256_S1024x256_1_0_0_1_n_n none hb
    (shapeCast S1024x256 w shapeCasts_S1x1024x256_S1024x256) (constant S1024x256 .f32 0x00000000#32)

theorem up_at (hb : V S1024x1024 .bf16) (w : V S1x1024x256 .bf16) (r : Fin 1024) (q : Fin 256) :
    upT hb w (ix2 r q) = ∑ k : Fin 1024, hb (ix2 r k) * w (ix3 0 k q) := by
  pointwise [upT]

/-- Eight rows with row `n` set to zero. -/
def maskT (n : BitVec 32) (s : V S8x256 .f32) : V S8x256 .f32 :=
  select (cmpi .eq (iota .tc S8x256 32 [0] iota_S8x256_d0_w32) (broadcast S8x256 n))
    (broadcast S8x256 (Scalar.ofBits .f32 0x00000000#32 : Idealize.ShloMosaic.Ideal .f32)) s

theorem mask_first (s : V S8x256 .f32) (r : Fin 8) (q : Fin 256) :
    maskT 0#32 s (ix2 r q) = if (r : ℕ) = 0 then 0 else s (ix2 r q) := by
  pointwise [maskT]
  fin_cases r <;> rfl

theorem mask_last (s : V S8x256 .f32) (r : Fin 8) (q : Fin 256) :
    maskT 7#32 s (ix2 r q) = if (r : ℕ) = 7 then 0 else s (ix2 r q) := by
  pointwise [maskT]
  fin_cases r <;> rfl

/-- The rows moved down by one, the last in front. -/
def downT (u : V S1024x256 .f32) : V S1024x256 .f32 := dynamicRotate 0 1#32 none u rotates_S1024x256_d0

/-- The rows moved up by one, the first at the end. -/
def riseT (u : V S1024x256 .f32) : V S1024x256 .f32 := dynamicRotate 0 1023#32 none u rotates_S1024x256_d0

theorem down_at (u : V S1024x256 .f32) (r : Fin 1024) (q : Fin 256) :
    downT u (ix2 r q) = u (ix2 ⟨((r : ℕ) + 1023) % 1024, by omega⟩ q) := by
  pointwise [downT]
  simp only [show (r : ℕ) + 1024 - 1 = (r : ℕ) + 1023 by omega]

theorem rise_at (u : V S1024x256 .f32) (r : Fin 1024) (q : Fin 256) :
    riseT u (ix2 r q) = u (ix2 ⟨((r : ℕ) + 1) % 1024, by omega⟩ q) := by
  pointwise [riseT]
  simp only [show (r : ℕ) + 1024 - 1023 = (r : ℕ) + 1 by omega]

/-- The rows before, with zeros in front of each sequence of 256 rows: `u` is the block moved down by one. -/
def prevT (u : V S1024x256 .f32) : V S1024x256 .f32 :=
  concatenate S1024x256 0 [
    ⟨S8x256, maskT 0#32 (extractStridedSlice S8x256 ![0, 0] u slices_S1024x256_o0_0_S8x256)⟩,
    ⟨S248x256, extractStridedSlice S248x256 ![8, 0] u slices_S1024x256_o8_0_S248x256⟩,
    ⟨S8x256, maskT 0#32 (extractStridedSlice S8x256 ![256, 0] u slices_S1024x256_o256_0_S8x256)⟩,
    ⟨S248x256, extractStridedSlice S248x256 ![264, 0] u slices_S1024x256_o264_0_S248x256⟩,
    ⟨S8x256, maskT 0#32 (extractStridedSlice S8x256 ![512, 0] u slices_S1024x256_o512_0_S8x256)⟩,
    ⟨S248x256, extractStridedSlice S248x256 ![520, 0] u slices_S1024x256_o520_0_S248x256⟩,
    ⟨S8x256, maskT 0#32 (extractStridedSlice S8x256 ![768, 0] u slices_S1024x256_o768_0_S8x256)⟩,
    ⟨S248x256, extractStridedSlice S248x256 ![776, 0] u slices_S1024x256_o776_0_S248x256⟩]
    concatenates_S8x256_S248x256_S8x256_S248x256_S8x256_S248x256_S8x256_S248x256_S1024x256_d0

/-- The rows after, with zeros at the end of each sequence of 256 rows: `u` is the block moved up by one. -/
def nextT (u : V S1024x256 .f32) : V S1024x256 .f32 :=
  concatenate S1024x256 0 [
    ⟨S248x256, extractStridedSlice S248x256 ![0, 0] u slices_S1024x256_o0_0_S248x256⟩,
    ⟨S8x256, maskT 7#32 (extractStridedSlice S8x256 ![248, 0] u slices_S1024x256_o248_0_S8x256)⟩,
    ⟨S248x256, extractStridedSlice S248x256 ![256, 0] u slices_S1024x256_o256_0_S248x256⟩,
    ⟨S8x256, maskT 7#32 (extractStridedSlice S8x256 ![504, 0] u slices_S1024x256_o504_0_S8x256)⟩,
    ⟨S248x256, extractStridedSlice S248x256 ![512, 0] u slices_S1024x256_o512_0_S248x256⟩,
    ⟨S8x256, maskT 7#32 (extractStridedSlice S8x256 ![760, 0] u slices_S1024x256_o760_0_S8x256)⟩,
    ⟨S248x256, extractStridedSlice S248x256 ![768, 0] u slices_S1024x256_o768_0_S248x256⟩,
    ⟨S8x256, maskT 7#32 (extractStridedSlice S8x256 ![1016, 0] u slices_S1024x256_o1016_0_S8x256)⟩]
    concatenates_S248x256_S8x256_S248x256_S8x256_S248x256_S8x256_S248x256_S8x256_S1024x256_d0

set_option maxHeartbeats 1600000 in
theorem prev_at (u : V S1024x256 .f32) (r : Fin 1024) (q : Fin 256) :
    prevT u (ix2 r q) = if (r : ℕ) % 256 = 0 then 0 else u (ix2 r q) := by
  by_cases hr : (r : ℕ) % 256 = 0
  case' pos => rw [if_pos hr]
  case' neg => rw [if_neg hr]
  all_goals pointwise [prevT, mask_first]
  all_goals split_ifs <;> first
    | rfl
    | (exfalso; omega)
    | (refine congrArg (fun z : Fin 1024 => u (ix2 z q)) (Fin.ext ?_); dsimp only; omega)

set_option maxHeartbeats 1600000 in
theorem next_at (u : V S1024x256 .f32) (r : Fin 1024) (q : Fin 256) :
    nextT u (ix2 r q) = if (r : ℕ) % 256 = 255 then 0 else u (ix2 r q) := by
  by_cases hr : (r : ℕ) % 256 = 255
  case' pos => rw [if_pos hr]
  case' neg => rw [if_neg hr]
  all_goals pointwise [nextT, mask_last]
  all_goals split_ifs <;> first
    | rfl
    | (exfalso; omega)
    | (refine congrArg (fun z : Fin 1024 => u (ix2 z q)) (Fin.ext ?_); dsimp only; omega)

/-- The convolution of three rows. -/
def convT (u p n : V S1024x256 .f32) (cw : V S1x3x256 .f32) (cb : V S1x1x256 .f32) : V S1024x256 .f32 :=
  addf (addf (addf
      (mulf p (broadcastTo S1024x256 (extractStridedSlice S1x256 ![0, 0]
        (shapeCast S3x256 cw shapeCasts_S1x3x256_S3x256) slices_S3x256_o0_0_S1x256) broadcasts_S1x256_S1024x256))
      (mulf u (broadcastTo S1024x256 (extractStridedSlice S1x256 ![1, 0]
        (shapeCast S3x256 cw shapeCasts_S1x3x256_S3x256) slices_S3x256_o1_0_S1x256) broadcasts_S1x256_S1024x256)))
      (mulf n (broadcastTo S1024x256 (extractStridedSlice S1x256 ![2, 0]
        (shapeCast S3x256 cw shapeCasts_S1x3x256_S3x256) slices_S3x256_o2_0_S1x256) broadcasts_S1x256_S1024x256)))
    (broadcastTo S1024x256 (shapeCast S1x256 cb shapeCasts_S1x1x256_S1x256) broadcasts_S1x256_S1024x256)

theorem conv_at (u p n : V S1024x256 .f32) (cw : V S1x3x256 .f32) (cb : V S1x1x256 .f32) (r : Fin 1024) (q : Fin 256) :
    convT u p n cw cb (ix2 r q) = p (ix2 r q) * cw (ix3 0 0 q) + u (ix2 r q) * cw (ix3 0 1 q)
      + n (ix2 r q) * cw (ix3 0 2 q) + cb (ix3 0 0 q) := by
  pointwise [convT]

/-- The gated unit. -/
def gluT (a g : V S1024x256 .f32) : V S1024x256 .bf16 :=
  shapeCast S1024x256 (truncf .bf16 (mulf (mulf a
    (divf (broadcast S1024x256 (Scalar.ofBits .f32 0x3F800000#32 : Idealize.ShloMosaic.Ideal .f32))
      (addf (broadcast S1024x256 (Scalar.ofBits .f32 0x3F800000#32 : Idealize.ShloMosaic.Ideal .f32))
        (exp (subf (broadcast S1024x256 (Scalar.ofBits .f32 0x00000000#32 : Idealize.ShloMosaic.Ideal .f32)) a))))) g)
    bitsLt_bf16_f32) shapeCasts_S1024x256_S1024x256

theorem glu_at (a g : V S1024x256 .f32) (r : Fin 1024) (q : Fin 256) :
    gluT a g (ix2 r q) = a (ix2 r q) * Ideal.div 1 (1 + Ideal.exp (-a (ix2 r q))) * g (ix2 r q) := by
  pointwise [gluT]
  rw [zero_sub]

end Cert.FfnIdeal.Mix

end
-- ==== Proof.FfnBlocks.lean ====
/-
The blocks the context stream's mixing and ConvFFN call reads at a grid point: which entry of which argument each holds.
-/
module

public import proofs.«01_k».proof.Proof.ConvFfn
public import proofs.«01_k».proof.Proof.Gen.FfnIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Mix

open Cert.FfnIdeal Cert.FfnIdeal.Gen

local notation "V" => FVec Idealize.ShloMosaic.Ideal

/-- What the call reads, out of the argument arrays. -/
def data (x a : V S32x256x1024 .f32) (m : V S1x6144 .f32) (w : V S1024x1024 .f32) (g : V S2x1024 .f32) (gf : V S1024 .f32)
    (wu : V S2x1024x5632 .f32) (cw : V S2x3x5632 .f32) (cb : V S2x5632 .f32) (wd : V S2x2816x1024 .f32) : ConvFfn.Data where
  n := 256
  x R c := x (ix3 ⟨R / 256, by omega⟩ ⟨R % 256, by omega⟩ c)
  att R c := a (ix3 ⟨R / 256, by omega⟩ ⟨R % 256, by omega⟩ c)
  gm R c := m (ix2 0 ⟨2048 + c, by omega⟩)
  sh R c := m (ix2 0 ⟨3072 + c, by omega⟩)
  sc R c := m (ix2 0 ⟨4096 + c, by omega⟩)
  gt R c := m (ix2 0 ⟨5120 + c, by omega⟩)
  w k c := w (ix2 k c)
  g c := g (ix2 1 c)
  gf c := gf (ix1 c)
  wu k f := wu (ix3 1 k f)
  cw j f := cw (ix3 1 j f)
  cb f := cb (ix2 1 f)
  wd f c := wd (ix3 1 f c)

variable (m : (ℓ : Loc nD τ sig) → Buf (Elt Ideal) ℓ)

/-- The same, out of the launch memory. -/
abbrev dat (c : Dev nD) : ConvFfn.Data :=
  data (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9))

/-- Where each window stands at a grid point. -/
theorem idx : ∀ t : Fin cfg0.N, win0_0.index t = ![t.val, 0] ∧ win0_1.index t = ![1, 0, 2, 0, 0] ∧ win0_2.index t = ![0, 0]
    ∧ win0_3.index t = ![1, 0, 4, 0, 0] ∧ win0_4.index t = ![1, 0, 3, 0, 0] ∧ win0_5.index t = ![1, 0, 5, 0, 0]
    ∧ win0_6.index t = ![t.val, 0] ∧ win0_7.index t = ![0, 0] ∧ win0_8.index t = ![1, 0, 0] ∧ win0_9.index t = ![1, 0, 0]
    ∧ win0_10.index t = ![1, 0, 0] ∧ win0_11.index t = ![1, 0, 0] ∧ win0_12.index t = ![0, 0] ∧ win0_13.index t = ![t.val, 0] :=
  (by decide +kernel : ∀ t : Fin grid0.N, _)

theorem lt8 (t : Fin cfg0.N) : t.val < 8 := lt_of_lt_of_eq t.isLt (by decide)

/-- The row of the stream a row of a grid point's tile is. -/
def row (t : Fin cfg0.N) (r : Fin 1024) : Fin 8192 := ⟨t.val * 1024 + r.val, by have := lt8 t; omega⟩

theorem x_at (c : Dev nD) (t : Fin cfg0.N) (y : Fin 1024) (x : Fin 1024) :
    (show V S1024x1024 .f32 from iblk m c 0 t) (ix2 y x) = (dat m c).x (row t y) x := by
  unfold dat data row
  blk_simp [iblk, idx t]
  simp only [Gen.V, hostOps0, hostOps0_1, hostOps0_2, List.flatten_cons, List.flatten_nil, List.cons_append, List.nil_append, List.append_nil]
  entry_read
  pointwise
  have h8 := lt8 t
  blk_ext [idx t]

theorem att_at (c : Dev nD) (t : Fin cfg0.N) (y : Fin 1024) (x : Fin 1024) :
    (show V S1024x1024 .bf16 from iblk m c 6 t) (ix2 y x) = (dat m c).att (row t y) x := by
  unfold dat data row
  blk_simp [iblk, idx t]
  simp only [Gen.V, hostOps0, hostOps0_1, hostOps0_2, List.flatten_cons, List.flatten_nil, List.cons_append, List.nil_append, List.append_nil]
  entry_read
  pointwise
  have h8 := lt8 t
  blk_ext [idx t]

theorem gm_at (c : Dev nD) (t : Fin cfg0.N) (y : Fin 1024) (x : Fin 1024) :
    (show V S1x1x1x1x1024 .f32 from iblk m c 1 t) (ix5 0 0 0 0 x) = (dat m c).gm (row t y) x := by
  unfold dat data
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  rw [dif_pos (by blk_simp [idx t]; omega)]
  blk_ext [idx t]

theorem sc_at (c : Dev nD) (t : Fin cfg0.N) (y : Fin 1024) (x : Fin 1024) :
    (show V S1x1x1x1x1024 .f32 from iblk m c 3 t) (ix5 0 0 0 0 x) = (dat m c).sc (row t y) x := by
  unfold dat data
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  rw [dif_pos (by blk_simp [idx t]; omega)]
  blk_ext [idx t]

theorem sh_at (c : Dev nD) (t : Fin cfg0.N) (y : Fin 1024) (x : Fin 1024) :
    (show V S1x1x1x1x1024 .f32 from iblk m c 4 t) (ix5 0 0 0 0 x) = (dat m c).sh (row t y) x := by
  unfold dat data
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  rw [dif_pos (by blk_simp [idx t]; omega)]
  blk_ext [idx t]

theorem gt_at (c : Dev nD) (t : Fin cfg0.N) (y : Fin 1024) (x : Fin 1024) :
    (show V S1x1x1x1x1024 .f32 from iblk m c 5 t) (ix5 0 0 0 0 x) = (dat m c).gt (row t y) x := by
  unfold dat data
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  rw [dif_pos (by blk_simp [idx t]; omega)]
  blk_ext [idx t]

theorem g_at (c : Dev nD) (t : Fin cfg0.N) (x : Fin 1024) :
    (show V S1x1024 .f32 from iblk m c 2 t) (ix2 0 x) = (dat m c).g x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem gf_at (c : Dev nD) (t : Fin cfg0.N) (x : Fin 1024) :
    (show V S1x1024 .f32 from iblk m c 12 t) (ix2 0 x) = (dat m c).gf x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem w_at (c : Dev nD) (t : Fin cfg0.N) (k x : Fin 1024) :
    (show V S1024x1024 .bf16 from iblk m c 7 t) (ix2 k x) = (dat m c).w k x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem wu_at (c : Dev nD) (t : Fin cfg0.N) (k : Fin 1024) (f : Fin 5632) :
    (show V S1x1024x5632 .bf16 from iblk m c 8 t) (ix3 0 k f) = (dat m c).wu k f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem cw_at (c : Dev nD) (t : Fin cfg0.N) (j : Fin 3) (f : Fin 5632) :
    (show V S1x3x5632 .f32 from iblk m c 9 t) (ix3 0 j f) = (dat m c).cw j f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem cb_at (c : Dev nD) (t : Fin cfg0.N) (f : Fin 5632) :
    (show V S1x1x5632 .f32 from iblk m c 10 t) (ix3 0 0 f) = (dat m c).cb f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem wd_at (c : Dev nD) (t : Fin cfg0.N) (f : Fin 2816) (x : Fin 1024) :
    (show V S1x2816x1024 .bf16 from iblk m c 11 t) (ix3 0 f x) = (dat m c).wd f x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

end Cert.FfnIdeal.Mix

end
-- ==== Proof.FfnCore.lean ====
/-
The context stream's mixing and ConvFFN call over one tile of rows: each stored value as the call's mathematics.
-/
module

public import proofs.«01_k».proof.Proof.FfnPieces
public import proofs.«01_k».proof.Proof.FfnBlocks

@[expose] public section

set_option maxRecDepth 16384

noncomputable section

open Idealize.ShloMosaic Idealize.ShloMosaic.TcCoe Idealize.SL.Sem

namespace Cert.FfnIdeal.Mix

open Cert.FfnIdeal Cert.FfnIdeal.Gen

local notation "V" => FVec Idealize.ShloMosaic.Ideal

variable (D : ConvFfn.Data) (t : Fin cfg0.N)

/-- The blocks of a grid point hold the data's rows of that tile. -/
structure Blocks (x0 : V S1024x1024 .f32) (x1 : V S1x1x1x1x1024 .f32) (x2 : V S1x1024 .f32) (x3 x4 x5 : V S1x1x1x1x1024 .f32)
    (x6 : V S1024x1024 .bf16) (x7 : V S1024x1024 .bf16) (x8 : V S1x1024x5632 .bf16) (x9 : V S1x3x5632 .f32)
    (x10 : V S1x1x5632 .f32) (x11 : V S1x2816x1024 .bf16) (x12 : V S1x1024 .f32) : Prop where
  x : ∀ r c, x0 (ix2 r c) = D.x (row t r) c
  gm : ∀ r c, x1 (ix5 0 0 0 0 c) = D.gm (row t r) c
  g : ∀ c, x2 (ix2 0 c) = D.g c
  sc : ∀ r c, x3 (ix5 0 0 0 0 c) = D.sc (row t r) c
  sh : ∀ r c, x4 (ix5 0 0 0 0 c) = D.sh (row t r) c
  gt : ∀ r c, x5 (ix5 0 0 0 0 c) = D.gt (row t r) c
  att : ∀ r c, x6 (ix2 r c) = D.att (row t r) c
  w : ∀ k c, x7 (ix2 k c) = D.w k c
  wu : ∀ k f, x8 (ix3 0 k f) = D.wu k f
  cw : ∀ j f, x9 (ix3 0 j f) = D.cw j f
  cb : ∀ f, x10 (ix3 0 0 f) = D.cb f
  wd : ∀ f c, x11 (ix3 0 f c) = D.wd f c
  gf : ∀ c, x12 (ix2 0 c) = D.gf c
  n : D.n = 256

/-- One chunk of the gated unit, out of the modulated rows and the chunk's weights for both halves. -/
def actT (hb : V S1024x1024 .bf16) (wa wg : V S1x1024x256 .bf16) (ca cg : V S1x3x256 .f32) (ba bg : V S1x1x256 .f32) :
    V S1024x256 .bf16 :=
  gluT (convT (upT hb wa) (prevT (downT (upT hb wa))) (nextT (riseT (upT hb wa))) ca ba)
    (convT (upT hb wg) (prevT (downT (upT hb wg))) (nextT (riseT (upT hb wg))) cg bg)

variable {D t}

theorem conv_row (hn : D.n = 256) (hb : V S1024x1024 .bf16) (wa : V S1x1024x256 .bf16) (ca : V S1x3x256 .f32)
    (ba : V S1x1x256 .f32) (f : Fin 5632) (q : Fin 256)
    (h0 : ∀ r k, hb (ix2 r k) = D.hid (row t r) k) (h1 : ∀ k, wa (ix3 0 k q) = D.wu k f)
    (h2 : ∀ j, ca (ix3 0 j q) = D.cw j f) (h3 : ba (ix3 0 0 q) = D.cb f) (r : Fin 1024) :
    convT (upT hb wa) (prevT (downT (upT hb wa))) (nextT (riseT (upT hb wa))) ca ba (ix2 r q) = D.conv (row t r) f := by
  have h8 := lt8 t
  have hup : ∀ s, upT hb wa (ix2 s q) = D.up (row t s) f := fun s => by
    rw [up_at]
    exact Finset.sum_congr rfl fun k _ => by rw [h0, h1]
  rw [conv_at, prev_at, next_at, down_at, rise_at, h2, h2, h2, h3, hup, hup, hup]
  unfold ConvFfn.Data.conv ConvFfn.Data.prev ConvFfn.Data.next
  rw [hn]
  have hr : ((row t r : Fin 8192) : ℕ) = t.val * 1024 + r.val := rfl
  have e1 : (((row t r : Fin 8192) : ℕ) % 256 = 0) = ((r : ℕ) % 256 = 0) := by rw [hr]; apply propext; omega
  have e2 : (((row t r : Fin 8192) : ℕ) % 256 = 256 - 1) = ((r : ℕ) % 256 = 255) := by rw [hr]; apply propext; omega
  simp only [e1, e2]
  refine congrArg (· + _) (congrArg₂ (· + ·) (congrArg (· + _) (congrArg (· * _) ?_)) (congrArg (· * _) ?_))
  · split_ifs with h
    · rfl
    · refine congrArg (fun R => D.up R f) (Fin.ext ?_)
      simp only [row]
      omega
  · split_ifs with h
    · rfl
    · refine congrArg (fun R => D.up R f) (Fin.ext ?_)
      simp only [row]
      omega

theorem act_row (hn : D.n = 256) (hb : V S1024x1024 .bf16) (wa wg : V S1x1024x256 .bf16) (ca cg : V S1x3x256 .f32)
    (ba bg : V S1x1x256 .f32) (f : Fin 2816) (q : Fin 256)
    (h0 : ∀ r k, hb (ix2 r k) = D.hid (row t r) k)
    (ha : ∀ k, wa (ix3 0 k q) = D.wu k ⟨f, by omega⟩) (hg : ∀ k, wg (ix3 0 k q) = D.wu k ⟨2816 + f, by omega⟩)
    (hca : ∀ j, ca (ix3 0 j q) = D.cw j ⟨f, by omega⟩) (hcg : ∀ j, cg (ix3 0 j q) = D.cw j ⟨2816 + f, by omega⟩)
    (hba : ba (ix3 0 0 q) = D.cb ⟨f, by omega⟩) (hbg : bg (ix3 0 0 q) = D.cb ⟨2816 + f, by omega⟩) (r : Fin 1024) :
    actT hb wa wg ca cg ba bg (ix2 r q) = D.act (row t r) f := by
  unfold actT
  rw [glu_at, conv_row hn hb wa ca ba _ q h0 ha hca hba, conv_row hn hb wg cg bg _ q h0 hg hcg hbg]
  rfl

theorem mix_row (a : V S512x1024 .bf16) (w : V S1024x1024 .bf16) (x : V S512x1024 .f32) (gm : V S1x1x1x1x1024 .f32)
    (r : Fin 512) (R : Fin 8192) (ha : ∀ k, a (ix2 r k) = D.att R k) (hw : ∀ k c, w (ix2 k c) = D.w k c)
    (hx : ∀ c, x (ix2 r c) = D.x R c) (hg : ∀ c, gm (ix5 0 0 0 0 c) = D.gm R c) (c : Fin 1024) :
    mixT a w x gm (ix2 r c) = D.mix R c := by
  rw [mix_at, hx, hg]
  unfold ConvFfn.Data.mix
  refine congrArg (fun z => _ + _ * z) (Finset.sum_congr rfl fun k _ => ?_)
  rw [ha, hw]

theorem rms_row (y : V S512x1024 .f32) (Y : Fin 1024 → EReal) (r : Fin 512) (h : ∀ c, y (ix2 r c) = Y c) (c : Fin 1024) :
    rmsT y (ix2 r c) = ConvFfn.rms Y c := by
  rw [rms_at]
  simp only [h]
  rfl

theorem hid_row (y : V S512x1024 .f32) (g : V S1x1024 .f32) (sc sh : V S1x1x1x1x1024 .f32) (r : Fin 512) (R : Fin 8192)
    (hy : ∀ c, y (ix2 r c) = D.mix R c) (hg : ∀ c, g (ix2 0 c) = D.g c) (hsc : ∀ c, sc (ix5 0 0 0 0 c) = D.sc R c)
    (hsh : ∀ c, sh (ix5 0 0 0 0 c) = D.sh R c) (c : Fin 1024) :
    hidT y g sc sh (ix2 r c) = D.hid R c := by
  rw [hid_at, rms_row y (D.mix R) r hy, hg, hsc, hsh]
  rfl

theorem out_row (o : V S512x1024 .f32) (gt : V S1x1x1x1x1024 .f32) (act : V S512x2816 .bf16) (wd : V S1x2816x1024 .bf16)
    (r : Fin 512) (R : Fin 8192) (ho : ∀ c, o (ix2 r c) = D.mix R c) (hgt : ∀ c, gt (ix5 0 0 0 0 c) = D.gt R c)
    (ha : ∀ f, act (ix2 r f) = D.act R f) (hw : ∀ f c, wd (ix3 0 f c) = D.wd f c) (c : Fin 1024) :
    outT o gt act wd (ix2 r c) = D.out R c := by
  rw [out_at, ho, hgt]
  unfold ConvFfn.Data.out
  refine congrArg (fun z => _ + _ * z) (Finset.sum_congr rfl fun k _ => ?_)
  rw [ha, hw]

theorem fin_row (y : V S512x1024 .f32) (gf : V S1x1024 .f32) (r : Fin 512) (R : Fin 8192)
    (hy : ∀ c, y (ix2 r c) = D.out R c) (hg : ∀ c, gf (ix2 0 c) = D.gf c) (c : Fin 1024) :
    finT y gf (ix2 r c) = D.result R c := by
  rw [fin_at, rms_row y (D.out R) r hy, hg]
  rfl

end Cert.FfnIdeal.Mix

end
-- ==== Proof.FfnWords.lean ====
/-
The context stream's mixing and ConvFFN call over one tile of rows: the scratch buffers and the stored tile as the
call's mathematics.
-/
module

public import proofs.«01_k».proof.Proof.FfnCore
public import Idealize.ShloMosaic.Lib.WholeRead

@[expose] public section

set_option maxRecDepth 65536

noncomputable section

open Idealize.ShloMosaic Idealize.ShloMosaic.TcCoe Idealize.SL.Sem

namespace Cert.FfnIdeal.Mix

open Cert.FfnIdeal Cert.FfnIdeal.Gen

local notation "V" => FVec Idealize.ShloMosaic.Ideal

/-- The rectangle `B` of a whole buffer holding `X`. -/
abbrev rd {s : Shape} {e : EltTy} {sp : Space} {a : Memref sig .tc sp s e} (h : a.IsWhole) (X : s.Idx → Elt Ideal e) (B : LoadRect s) :=
  View.readAt (Elt Ideal) a.view B (h.unread X)

@[simp] abbrev L0 : LoadRect S1024x1024 := (Rect.unit (s := S1024x1024) ![0, 0] S512x1024.size inb_S1024x1024_S512x1024_0_0).toLoadRect
@[simp] abbrev L1 : LoadRect S1024x1024 := (Rect.unit (s := S1024x1024) ![0, 0] S1024x1024.size inb_S1024x1024_S1024x1024_0_0).toLoadRect
@[simp] abbrev L2 : LoadRect S1x1x1x1x1024 := (Rect.unit (s := S1x1x1x1x1024) ![0, 0, 0, 0, 0] S1x1x1x1x1024.size inb_S1x1x1x1x1024_S1x1x1x1x1024_0_0_0_0_0).toLoadRect
@[simp] abbrev L3 : LoadRect S1x1024 := (Rect.unit (s := S1x1024) ![0, 0] S1x1024.size inb_S1x1024_S1x1024_0_0).toLoadRect
@[simp] abbrev L4 : LoadRect S1024x1024 := (Rect.unit (s := S1024x1024) ![512, 0] S512x1024.size inb_S1024x1024_S512x1024_512_0).toLoadRect
@[simp] abbrev L11 : LoadRect S1x2816x1024 := (Rect.unit (s := S1x2816x1024) ![0, 0, 0] S1x2816x1024.size inb_S1x2816x1024_S1x2816x1024_0_0_0).toLoadRect

/-- A load out of a whole buffer holding `X` reads the entry of `X` it points at. -/
theorem read_val {s : Shape} {e : EltTy} {sp : Space} {a : Memref sig .tc sp s e} (h : a.IsWhole)
    (X : s.Idx → Elt Ideal e) (B : LoadRect s) (x : B.shape.Idx) (i : s.Idx) {v : Elt Ideal e}
    (hi : B.idx x = i) (hv : X i = v) : View.readAt (Elt Ideal) a.view B (h.unread X) x = v := by
  rw [Memref.IsWhole.readAt_unread, hi, hv]

/-- At an index the last write holds, the buffer holds that write's value. -/
theorem canon_top {s : Shape} {e : EltTy} (r : Rect s) (w : r.shape.Idx → Elt Ideal e)
    (L : List (View.Piece (Elt Ideal) s e)) (y : s.Idx) (x : r.shape.Idx)
    (hx : ∀ a, (y a).val = r.off a + r.stride a * (x a).val) : View.canon (⟨r, w⟩ :: L) y = w x := by
  rw [← Rect.emb_eq_of_coords r x y hx, View.canon_cons_emb]

variable {D : ConvFfn.Data} {t : Fin cfg0.N}
variable (c : Dev nD) (arg1 : Memref sig .tc .vmem S1024x1024 .f32) (harg1 : arg1.IsWhole) (arg2 : Memref sig .tc .vmem S1x1x1x1x1024 .f32)
  (harg2 : arg2.IsWhole) (arg3 : Memref sig .tc .vmem S1x1024 .f32) (harg3 : arg3.IsWhole)
  (arg4 : Memref sig .tc .vmem S1x1x1x1x1024 .f32) (harg4 : arg4.IsWhole) (arg5 : Memref sig .tc .vmem S1x1x1x1x1024 .f32)
  (harg5 : arg5.IsWhole) (arg6 : Memref sig .tc .vmem S1x1x1x1x1024 .f32) (harg6 : arg6.IsWhole)
  (arg7 : Memref sig .tc .vmem S1024x1024 .bf16) (harg7 : arg7.IsWhole) (arg8 : Memref sig .tc .vmem S1024x1024 .bf16)
  (harg8 : arg8.IsWhole) (arg9 : Memref sig .tc .vmem S1x1024x5632 .bf16) (harg9 : arg9.IsWhole)
  (arg10 : Memref sig .tc .vmem S1x3x5632 .f32) (harg10 : arg10.IsWhole) (arg11 : Memref sig .tc .vmem S1x1x5632 .f32)
  (harg11 : arg11.IsWhole) (arg12 : Memref sig .tc .vmem S1x2816x1024 .bf16) (harg12 : arg12.IsWhole)
  (arg13 : Memref sig .tc .vmem S1x1024 .f32) (harg13 : arg13.IsWhole) (arg14 : Memref sig .tc .vmem S1024x1024 .f32)
  (harg14 : arg14.IsWhole) (arg15 : Memref sig .tc .vmem S1024x2816 .bf16) (harg15 : arg15.IsWhole)
  (arg16 : Memref sig .tc .vmem S1024x1024 .bf16) (harg16 : arg16.IsWhole)
  (x0 : V S1024x1024 .f32) (x1 : V S1x1x1x1x1024 .f32) (x2 : V S1x1024 .f32) (x3 x4 x5 : V S1x1x1x1x1024 .f32)
  (x6 : V S1024x1024 .bf16) (x7 : V S1024x1024 .bf16) (x8 : V S1x1024x5632 .bf16) (x9 : V S1x3x5632 .f32)
  (x10 : V S1x1x5632 .f32) (x11 : V S1x2816x1024 .bf16) (x12 : V S1x1024 .f32)

/-- The stream after the attention, the first half of a tile. -/
theorem mix_lo (H : Blocks D t x0 x1 x2 x3 x4 x5 x6 x7 x8 x9 x10 x11 x12) (r : Fin 512) (k : Fin 1024) :
    mixT (rd harg7 x6 L0) (rd harg8 x7 L1) (rd harg1 x0 L0) (rd harg2 x1 L2) (ix2 r k) = D.mix (row t ⟨r, by omega⟩) k := by
  refine mix_row _ _ _ _ r _ (fun k => ?_) (fun k c => ?_) (fun c => ?_) (fun c => ?_) k
  · exact read_val harg7 x6 _ _ (ix2 ⟨r, by omega⟩ k) (by blk_ext [] <;> simp [LoadRect.idx, Rect.toLoadRect, Rect.idx_unit_val]) (H.att _ _)
  · exact read_val harg8 x7 _ _ (ix2 k c) (by blk_ext [] <;> simp [LoadRect.idx, Rect.toLoadRect, Rect.idx_unit_val]) (H.w _ _)
  · exact read_val harg1 x0 _ _ (ix2 ⟨r, by omega⟩ c) (by blk_ext [] <;> simp [LoadRect.idx, Rect.toLoadRect, Rect.idx_unit_val]) (H.x _ _)
  · exact read_val harg2 x1 _ _ (ix5 0 0 0 0 c) (by blk_ext [] <;> simp [LoadRect.idx, Rect.toLoadRect, Rect.idx_unit_val]) (H.gm _ _)

/-- The modulated norm, the first half of a tile. -/
theorem hid_lo (H : Blocks D t x0 x1 x2 x3 x4 x5 x6 x7 x8 x9 x10 x11 x12) (r : Fin 512) (k : Fin 1024) :
    hidT (mixT (rd harg7 x6 L0) (rd harg8 x7 L1) (rd harg1 x0 L0) (rd harg2 x1 L2)) (rd harg3 x2 L3) (rd harg4 x3 L2) (rd harg5 x4 L2) (ix2 r k) = D.hid (row t ⟨r, by omega⟩) k := by
  refine hid_row _ _ _ _ r _ (fun c => ?_) (fun c => ?_) (fun c => ?_) (fun c => ?_) k
  · exact mix_lo arg1 harg1 arg2 harg2 arg7 harg7 arg8 harg8 x0 x1 x2 x3 x4 x5 x6 x7 x8 x9 x10 x11 x12 H r c
  · exact read_val harg3 x2 _ _ (ix2 0 c) (by blk_ext [] <;> simp [LoadRect.idx, Rect.toLoadRect, Rect.idx_unit_val]) (H.g _)
  · exact read_val harg4 x3 _ _ (ix5 0 0 0 0 c) (by blk_ext [] <;> simp [LoadRect.idx, Rect.toLoadRect, Rect.idx_unit_val]) (H.sc _ _)
  · exact read_val harg5 x4 _ _ (ix5 0 0 0 0 c) (by blk_ext [] <;> simp [LoadRect.idx, Rect.toLoadRect, Rect.idx_unit_val]) (H.sh _ _)

/-- The stream after the attention, the second half of a tile. -/
theorem mix_hi (H : Blocks D t x0 x1 x2 x3 x4 x5 x6 x7 x8 x9 x10 x11 x12) (r : Fin 512) (k : Fin 1024) :
    mixT (rd harg7 x6 L4) (rd harg8 x7 L1) (rd harg1 x0 L4) (rd harg2 x1 L2) (ix2 r k) = D.mix (row t ⟨512 + r, by omega⟩) k := by
  refine mix_row _ _ _ _ r _ (fun k => ?_) (fun k c => ?_) (fun c => ?_) (fun c => ?_) k
  · exact read_val harg7 x6 _ _ (ix2 ⟨512 + r, by omega⟩ k) (by blk_ext [] <;> simp [LoadRect.idx, Rect.toLoadRect, Rect.idx_unit_val]) (H.att _ _)
  · exact read_val harg8 x7 _ _ (ix2 k c) (by blk_ext [] <;> simp [LoadRect.idx, Rect.toLoadRect, Rect.idx_unit_val]) (H.w _ _)
  · exact read_val harg1 x0 _ _ (ix2 ⟨512 + r, by omega⟩ c) (by blk_ext [] <;> simp [LoadRect.idx, Rect.toLoadRect, Rect.idx_unit_val]) (H.x _ _)
  · exact read_val harg2 x1 _ _ (ix5 0 0 0 0 c) (by blk_ext [] <;> simp [LoadRect.idx, Rect.toLoadRect, Rect.idx_unit_val]) (H.gm _ _)

/-- The modulated norm, the second half of a tile. -/
theorem hid_hi (H : Blocks D t x0 x1 x2 x3 x4 x5 x6 x7 x8 x9 x10 x11 x12) (r : Fin 512) (k : Fin 1024) :
    hidT (mixT (rd harg7 x6 L4) (rd harg8 x7 L1) (rd harg1 x0 L4) (rd harg2 x1 L2)) (rd harg3 x2 L3) (rd harg4 x3 L2) (rd harg5 x4 L2) (ix2 r k) = D.hid (row t ⟨512 + r, by omega⟩) k := by
  refine hid_row _ _ _ _ r _ (fun c => ?_) (fun c => ?_) (fun c => ?_) (fun c => ?_) k
  · exact mix_hi arg1 harg1 arg2 harg2 arg7 harg7 arg8 harg8 x0 x1 x2 x3 x4 x5 x6 x7 x8 x9 x10 x11 x12 H r c
  · exact read_val harg3 x2 _ _ (ix2 0 c) (by blk_ext [] <;> simp [LoadRect.idx, Rect.toLoadRect, Rect.idx_unit_val]) (H.g _)
  · exact read_val harg4 x3 _ _ (ix5 0 0 0 0 c) (by blk_ext [] <;> simp [LoadRect.idx, Rect.toLoadRect, Rect.idx_unit_val]) (H.sc _ _)
  · exact read_val harg5 x4 _ _ (ix5 0 0 0 0 c) (by blk_ext [] <;> simp [LoadRect.idx, Rect.toLoadRect, Rect.idx_unit_val]) (H.sh _ _)

/-- The rows the first scratch buffer holds. -/
theorem hid_buf (H : Blocks D t x0 x1 x2 x3 x4 x5 x6 x7 x8 x9 x10 x11 x12) (y : S1024x1024.Idx) :
    View.canon (s := S1024x1024) (e := EltTy.bf16) (kernelRun0_A.sl.HS1_2 (F := Ideal) c arg1 harg1 arg2 harg2 arg3 harg3 arg4 harg4 arg5 harg5 arg7 harg7 arg8 harg8 x0 x1 x2 x3 x4 x6 x7) y = D.hid (row t (y 0)) (y 1) := by
  unfold kernelRun0_A.sl.HS1_2
  canon_tiles x h
  · refine (congrArg (hidT (mixT (rd harg7 x6 L4) (rd harg8 x7 L1) (rd harg1 x0 L4) (rd harg2 x1 L2)) (rd harg3 x2 L3) (rd harg4 x3 L2) (rd harg5 x4 L2)) (Idealize.ShloMosaic.eq_ix2 x)).trans ((hid_hi arg1 harg1 arg2 harg2 arg3 harg3 arg4 harg4 arg5 harg5 arg7 harg7 arg8 harg8 x0 x1 x2 x3 x4 x5 x6 x7 x8 x9 x10 x11 x12 H (x 0) (x 1)).trans ?_)
    exact congrArg₂ (fun a b => D.hid (row t a) b) (Fin.ext h0.symm) (Fin.ext h1.symm)
  · refine (congrArg (hidT (mixT (rd harg7 x6 L0) (rd harg8 x7 L1) (rd harg1 x0 L0) (rd harg2 x1 L2)) (rd harg3 x2 L3) (rd harg4 x3 L2) (rd harg5 x4 L2)) (Idealize.ShloMosaic.eq_ix2 x)).trans ((hid_lo arg1 harg1 arg2 harg2 arg3 harg3 arg4 harg4 arg5 harg5 arg7 harg7 arg8 harg8 x0 x1 x2 x3 x4 x5 x6 x7 x8 x9 x10 x11 x12 H (x 0) (x 1)).trans ?_)
    exact congrArg₂ (fun a b => D.hid (row t a) b) (Fin.ext (by rw [h0])) (Fin.ext h1.symm)

/-- The rows the up products read. -/
theorem hid_word (H : Blocks D t x0 x1 x2 x3 x4 x5 x6 x7 x8 x9 x10 x11 x12) (r k : Fin 1024) :
    (kernelRun0_A.sl.v82 (F := Ideal) c arg1 harg1 arg2 harg2 arg3 harg3 arg4 harg4 arg5 harg5 arg7 harg7 arg8 harg8 arg16 x0 x1 x2 x3 x4 x6 x7) (ix2 r k) = D.hid (row t r) k := by
  unfold kernelRun0_A.sl.v82
  rw [View.readCov_eq_canon']
  refine (hid_buf c arg1 harg1 arg2 harg2 arg3 harg3 arg4 harg4 arg5 harg5 arg7 harg7 arg8 harg8 x0 x1 x2 x3 x4 x5 x6 x7 x8 x9 x10 x11 x12 H _).trans (congrArg₂ (fun a b => D.hid (row t a) b) (Fin.ext ?_) (Fin.ext ?_)) <;>
    simp [LoadRect.idx, Rect.toLoadRect, Rect.idx_unit_val]

/-- The gated unit's 256 columns from `o` on, its two halves lying `o` and `u` columns in. -/
theorem act_at (H : Blocks D t x0 x1 x2 x3 x4 x5 x6 x7 x8 x9 x10 x11 x12) (o u : ℕ) (ho : o + 256 ≤ 2816) (hu : u = 2816 + o)
    (i1 : ∀ a, (![0, 0, o] : Fin 3 → ℕ) a + S1x1024x256.size a ≤ S1x1024x5632.size a) (i1u : ∀ a, (![0, 0, u] : Fin 3 → ℕ) a + S1x1024x256.size a ≤ S1x1024x5632.size a)
    (i2 : ∀ a, (![0, 0, o] : Fin 3 → ℕ) a + S1x3x256.size a ≤ S1x3x5632.size a) (i2u : ∀ a, (![0, 0, u] : Fin 3 → ℕ) a + S1x3x256.size a ≤ S1x3x5632.size a)
    (i3 : ∀ a, (![0, 0, o] : Fin 3 → ℕ) a + S1x1x256.size a ≤ S1x1x5632.size a) (i3u : ∀ a, (![0, 0, u] : Fin 3 → ℕ) a + S1x1x256.size a ≤ S1x1x5632.size a)
    (x : S1024x256.Idx) :
    actT (kernelRun0_A.sl.v82 (F := Ideal) c arg1 harg1 arg2 harg2 arg3 harg3 arg4 harg4 arg5 harg5 arg7 harg7 arg8 harg8 arg16 x0 x1 x2 x3 x4 x6 x7) (rd harg9 x8 (Rect.unit (s := S1x1024x5632) ![0, 0, o] S1x1024x256.size i1).toLoadRect) (rd harg9 x8 (Rect.unit (s := S1x1024x5632) ![0, 0, u] S1x1024x256.size i1u).toLoadRect) (rd harg10 x9 (Rect.unit (s := S1x3x5632) ![0, 0, o] S1x3x256.size i2).toLoadRect) (rd harg10 x9 (Rect.unit (s := S1x3x5632) ![0, 0, u] S1x3x256.size i2u).toLoadRect) (rd harg11 x10 (Rect.unit (s := S1x1x5632) ![0, 0, o] S1x1x256.size i3).toLoadRect) (rd harg11 x10 (Rect.unit (s := S1x1x5632) ![0, 0, u] S1x1x256.size i3u).toLoadRect) x =
      D.act (row t (x 0)) ⟨o + (x 1).val, Nat.lt_of_lt_of_le (Nat.add_lt_add_left (x 1).isLt o) ho⟩ := by
  have hq : (x 1).val < 256 := (x 1).isLt
  refine (congrArg _ (Idealize.ShloMosaic.eq_ix2 x)).trans ?_
  generalize x 1 = q at hq ⊢
  refine act_row H.n _ _ _ _ _ _ _ ⟨o + q.val, by omega⟩ q (fun r k => ?_) (fun k => ?_) (fun k => ?_) (fun j => ?_) (fun j => ?_) ?_ ?_ (x 0)
  · exact hid_word c arg1 harg1 arg2 harg2 arg3 harg3 arg4 harg4 arg5 harg5 arg7 harg7 arg8 harg8 arg16 x0 x1 x2 x3 x4 x5 x6 x7 x8 x9 x10 x11 x12 H r k
  · exact read_val harg9 x8 _ _ (ix3 0 k ⟨o + q.val, by omega⟩) (by blk_ext [] <;> simp [LoadRect.idx, Rect.toLoadRect, Rect.idx_unit_val] <;> omega) (H.wu _ _)
  · exact read_val harg9 x8 _ _ (ix3 0 k ⟨2816 + (o + q.val), by omega⟩) (by blk_ext [] <;> simp [LoadRect.idx, Rect.toLoadRect, Rect.idx_unit_val] <;> omega) (H.wu _ _)
  · exact read_val harg10 x9 _ _ (ix3 0 j ⟨o + q.val, by omega⟩) (by blk_ext [] <;> simp [LoadRect.idx, Rect.toLoadRect, Rect.idx_unit_val] <;> omega) (H.cw _ _)
  · exact read_val harg10 x9 _ _ (ix3 0 j ⟨2816 + (o + q.val), by omega⟩) (by blk_ext [] <;> simp [LoadRect.idx, Rect.toLoadRect, Rect.idx_unit_val] <;> omega) (H.cw _ _)
  · exact read_val harg11 x10 _ _ (ix3 0 0 ⟨o + q.val, by omega⟩) (by blk_ext [] <;> simp [LoadRect.idx, Rect.toLoadRect, Rect.idx_unit_val] <;> omega) (H.cb _)
  · exact read_val harg11 x10 _ _ (ix3 0 0 ⟨2816 + (o + q.val), by omega⟩) (by blk_ext [] <;> simp [LoadRect.idx, Rect.toLoadRect, Rect.idx_unit_val] <;> omega) (H.cb _)

/-- The gated unit the second scratch buffer holds. -/
theorem act_buf (H : Blocks D t x0 x1 x2 x3 x4 x5 x6 x7 x8 x9 x10 x11 x12) (y : S1024x2816.Idx) :
    View.canon (s := S1024x2816) (e := EltTy.bf16) (kernelRun0_A.sl.HS0_11 (F := Ideal) c arg1 harg1 arg2 harg2 arg3 harg3 arg4 harg4 arg5 harg5 arg7 harg7 arg8 harg8 arg9 harg9 arg10 harg10 arg11 harg11 arg16 x0 x1 x2 x3 x4 x6 x7 x8 x9 x10) y = D.act (row t (y 0)) (y 1) := by
  unfold kernelRun0_A.sl.HS0_11
  canon_tiles x h
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 2560 5376 (by decide) rfl inb_S1x1024x5632_S1x1024x256_0_0_2560 inb_S1x1024x5632_S1x1024x256_0_0_5376 inb_S1x3x5632_S1x3x256_0_0_2560 inb_S1x3x5632_S1x3x256_0_0_5376 inb_S1x1x5632_S1x1x256_0_0_2560 inb_S1x1x5632_S1x1x256_0_0_5376 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 2304 5120 (by decide) rfl inb_S1x1024x5632_S1x1024x256_0_0_2304 inb_S1x1024x5632_S1x1024x256_0_0_5120 inb_S1x3x5632_S1x3x256_0_0_2304 inb_S1x3x5632_S1x3x256_0_0_5120 inb_S1x1x5632_S1x1x256_0_0_2304 inb_S1x1x5632_S1x1x256_0_0_5120 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 2048 4864 (by decide) rfl inb_S1x1024x5632_S1x1024x256_0_0_2048 inb_S1x1024x5632_S1x1024x256_0_0_4864 inb_S1x3x5632_S1x3x256_0_0_2048 inb_S1x3x5632_S1x3x256_0_0_4864 inb_S1x1x5632_S1x1x256_0_0_2048 inb_S1x1x5632_S1x1x256_0_0_4864 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 1792 4608 (by decide) rfl inb_S1x1024x5632_S1x1024x256_0_0_1792 inb_S1x1024x5632_S1x1024x256_0_0_4608 inb_S1x3x5632_S1x3x256_0_0_1792 inb_S1x3x5632_S1x3x256_0_0_4608 inb_S1x1x5632_S1x1x256_0_0_1792 inb_S1x1x5632_S1x1x256_0_0_4608 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 1536 4352 (by decide) rfl inb_S1x1024x5632_S1x1024x256_0_0_1536 inb_S1x1024x5632_S1x1024x256_0_0_4352 inb_S1x3x5632_S1x3x256_0_0_1536 inb_S1x3x5632_S1x3x256_0_0_4352 inb_S1x1x5632_S1x1x256_0_0_1536 inb_S1x1x5632_S1x1x256_0_0_4352 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 1280 4096 (by decide) rfl inb_S1x1024x5632_S1x1024x256_0_0_1280 inb_S1x1024x5632_S1x1024x256_0_0_4096 inb_S1x3x5632_S1x3x256_0_0_1280 inb_S1x3x5632_S1x3x256_0_0_4096 inb_S1x1x5632_S1x1x256_0_0_1280 inb_S1x1x5632_S1x1x256_0_0_4096 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 1024 3840 (by decide) rfl inb_S1x1024x5632_S1x1024x256_0_0_1024 inb_S1x1024x5632_S1x1024x256_0_0_3840 inb_S1x3x5632_S1x3x256_0_0_1024 inb_S1x3x5632_S1x3x256_0_0_3840 inb_S1x1x5632_S1x1x256_0_0_1024 inb_S1x1x5632_S1x1x256_0_0_3840 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 768 3584 (by decide) rfl inb_S1x1024x5632_S1x1024x256_0_0_768 inb_S1x1024x5632_S1x1024x256_0_0_3584 inb_S1x3x5632_S1x3x256_0_0_768 inb_S1x3x5632_S1x3x256_0_0_3584 inb_S1x1x5632_S1x1x256_0_0_768 inb_S1x1x5632_S1x1x256_0_0_3584 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 512 3328 (by decide) rfl inb_S1x1024x5632_S1x1024x256_0_0_512 inb_S1x1024x5632_S1x1024x256_0_0_3328 inb_S1x3x5632_S1x3x256_0_0_512 inb_S1x3x5632_S1x3x256_0_0_3328 inb_S1x1x5632_S1x1x256_0_0_512 inb_S1x1x5632_S1x1x256_0_0_3328 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 256 3072 (by decide) rfl inb_S1x1024x5632_S1x1024x256_0_0_256 inb_S1x1024x5632_S1x1024x256_0_0_3072 inb_S1x3x5632_S1x3x256_0_0_256 inb_S1x3x5632_S1x3x256_0_0_3072 inb_S1x1x5632_S1x1x256_0_0_256 inb_S1x1x5632_S1x1x256_0_0_3072 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 0 2816 (by decide) rfl inb_S1x1024x5632_S1x1024x256_0_0_0 inb_S1x1024x5632_S1x1024x256_0_0_2816 inb_S1x3x5632_S1x3x256_0_0_0 inb_S1x3x5632_S1x3x256_0_0_2816 inb_S1x1x5632_S1x1x256_0_0_0 inb_S1x1x5632_S1x1x256_0_0_2816 x).trans ?_
    exact congrArg₂ (fun a b => D.act (row t a) b) (Fin.ext h0.symm) (Fin.ext (by rw [h1]; simp))

theorem act_lo (H : Blocks D t x0 x1 x2 x3 x4 x5 x6 x7 x8 x9 x10 x11 x12) (r : Fin 512) (f : Fin 2816) :
    (kernelRun0_A.sl.v1879 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (ix2 r f) = D.act (row t ⟨r, by omega⟩) f := by
  unfold kernelRun0_A.sl.v1879
  rw [View.readCov_eq_canon']
  refine (act_buf c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H _).trans (congrArg₂ (fun a b => D.act (row t a) b) (Fin.ext ?_) (Fin.ext ?_)) <;>
    simp [LoadRect.idx, Rect.toLoadRect, Rect.idx_unit_val]

theorem act_hi (H : Blocks D t x0 x1 x2 x3 x4 x5 x6 x7 x8 x9 x10 x11 x12) (r : Fin 512) (f : Fin 2816) :
    (kernelRun0_A.sl.v1905 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (ix2 r f) = D.act (row t ⟨512 + r, by omega⟩) f := by
  unfold kernelRun0_A.sl.v1905
  rw [View.readCov_eq_canon']
  refine (act_buf c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H _).trans (congrArg₂ (fun a b => D.act (row t a) b) (Fin.ext ?_) (Fin.ext ?_)) <;>
    simp [LoadRect.idx, Rect.toLoadRect, Rect.idx_unit_val]

/-- The mixed rows the result's buffer holds before the results. -/
theorem mix_buf (H : Blocks D t x0 x1 x2 x3 x4 x5 x6 x7 x8 x9 x10 x11 x12) (y : S1024x1024.Idx) :
    View.canon (s := S1024x1024) (e := EltTy.f32) (kernelRun0_A.sl.H13_2 (F := Ideal) c arg1 harg1 arg2 harg2 arg7 harg7 arg8 harg8 x0 x1 x6 x7) y = D.mix (row t (y 0)) (y 1) := by
  unfold kernelRun0_A.sl.H13_2
  canon_tiles x h
  · refine (congrArg (mixT (rd harg7 x6 L4) (rd harg8 x7 L1) (rd harg1 x0 L4) (rd harg2 x1 L2)) (Idealize.ShloMosaic.eq_ix2 x)).trans ((mix_hi arg1 harg1 arg2 harg2 arg7 harg7 arg8 harg8 x0 x1 x2 x3 x4 x5 x6 x7 x8 x9 x10 x11 x12 H (x 0) (x 1)).trans ?_)
    exact congrArg₂ (fun a b => D.mix (row t a) b) (Fin.ext h0.symm) (Fin.ext h1.symm)
  · refine (congrArg (mixT (rd harg7 x6 L0) (rd harg8 x7 L1) (rd harg1 x0 L0) (rd harg2 x1 L2)) (Idealize.ShloMosaic.eq_ix2 x)).trans ((mix_lo arg1 harg1 arg2 harg2 arg7 harg7 arg8 harg8 x0 x1 x2 x3 x4 x5 x6 x7 x8 x9 x10 x11 x12 H (x 0) (x 1)).trans ?_)
    exact congrArg₂ (fun a b => D.mix (row t a) b) (Fin.ext (by rw [h0])) (Fin.ext h1.symm)

theorem mixed_lo (H : Blocks D t x0 x1 x2 x3 x4 x5 x6 x7 x8 x9 x10 x11 x12) (r : Fin 512) (k : Fin 1024) :
    (kernelRun0_A.sl.v1875 (F := Ideal) c arg1 harg1 arg2 harg2 arg7 harg7 arg8 harg8 arg14 x0 x1 x6 x7) (ix2 r k) = D.mix (row t ⟨r, by omega⟩) k := by
  unfold kernelRun0_A.sl.v1875
  rw [View.readCov_eq_canon']
  refine (mix_buf c arg1 harg1 arg2 harg2 arg7 harg7 arg8 harg8 x0 x1 x2 x3 x4 x5 x6 x7 x8 x9 x10 x11 x12 H _).trans (congrArg₂ (fun a b => D.mix (row t a) b) (Fin.ext ?_) (Fin.ext ?_)) <;>
    simp [LoadRect.idx, Rect.toLoadRect, Rect.idx_unit_val]

theorem mixed_hi (H : Blocks D t x0 x1 x2 x3 x4 x5 x6 x7 x8 x9 x10 x11 x12) (r : Fin 512) (k : Fin 1024) :
    (kernelRun0_A.sl.v1901 (F := Ideal) c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12) (ix2 r k) = D.mix (row t ⟨512 + r, by omega⟩) k := by
  unfold kernelRun0_A.sl.v1901
  rw [View.readCov_eq_canon']
  unfold kernelRun0_A.sl.H13_3
  refine (View.canon_cons_of_not_mem _ _ ?_).trans ((mix_buf c arg1 harg1 arg2 harg2 arg7 harg7 arg8 harg8 x0 x1 x2 x3 x4 x5 x6 x7 x8 x9 x10 x11 x12 H _).trans (congrArg₂ (fun a b => D.mix (row t a) b) (Fin.ext ?_) (Fin.ext ?_)))
  · refine Rect.not_mem_set_of_axis _ _ 0 0 512 rfl rfl rfl (Or.inr ?_)
    simp [LoadRect.idx, Rect.toLoadRect, Rect.idx_unit_val]
  all_goals simp [LoadRect.idx, Rect.toLoadRect, Rect.idx_unit_val]

/-- The results, the first half of a tile. -/
theorem res_lo (H : Blocks D t x0 x1 x2 x3 x4 x5 x6 x7 x8 x9 x10 x11 x12) (r : Fin 512) (k : Fin 1024) :
    finT (outT (kernelRun0_A.sl.v1875 (F := Ideal) c arg1 harg1 arg2 harg2 arg7 harg7 arg8 harg8 arg14 x0 x1 x6 x7) (rd harg6 x5 L2) (kernelRun0_A.sl.v1879 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (rd harg12 x11 L11)) (rd harg13 x12 L3) (ix2 r k) = D.result (row t ⟨r, by omega⟩) k := by
  refine fin_row _ _ r _ (fun c' => out_row _ _ _ _ r _ (fun c' => ?_) (fun c' => ?_) (fun f => ?_) (fun f c' => ?_) c') (fun c' => ?_) k
  · exact mixed_lo c arg1 harg1 arg2 harg2 arg7 harg7 arg8 harg8 arg14 x0 x1 x2 x3 x4 x5 x6 x7 x8 x9 x10 x11 x12 H r c'
  · exact read_val harg6 x5 _ _ (ix5 0 0 0 0 c') (by blk_ext [] <;> simp [LoadRect.idx, Rect.toLoadRect, Rect.idx_unit_val]) (H.gt _ _)
  · exact act_lo c arg1 harg1 arg2 harg2 arg3 harg3 arg4 harg4 arg5 harg5 arg7 harg7 arg8 harg8 arg9 harg9 arg10 harg10 arg11 harg11 arg15 arg16 x0 x1 x2 x3 x4 x5 x6 x7 x8 x9 x10 x11 x12 H r f
  · exact read_val harg12 x11 _ _ (ix3 0 f c') (by blk_ext [] <;> simp [LoadRect.idx, Rect.toLoadRect, Rect.idx_unit_val]) (H.wd _ _)
  · exact read_val harg13 x12 _ _ (ix2 0 c') (by blk_ext [] <;> simp [LoadRect.idx, Rect.toLoadRect, Rect.idx_unit_val]) (H.gf _)

/-- The results, the second half of a tile. -/
theorem res_hi (H : Blocks D t x0 x1 x2 x3 x4 x5 x6 x7 x8 x9 x10 x11 x12) (r : Fin 512) (k : Fin 1024) :
    finT (outT (kernelRun0_A.sl.v1901 (F := Ideal) c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12) (rd harg6 x5 L2) (kernelRun0_A.sl.v1905 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (rd harg12 x11 L11)) (rd harg13 x12 L3) (ix2 r k) = D.result (row t ⟨512 + r, by omega⟩) k := by
  refine fin_row _ _ r _ (fun c' => out_row _ _ _ _ r _ (fun c' => ?_) (fun c' => ?_) (fun f => ?_) (fun f c' => ?_) c') (fun c' => ?_) k
  · exact mixed_hi c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12 H r c'
  · exact read_val harg6 x5 _ _ (ix5 0 0 0 0 c') (by blk_ext [] <;> simp [LoadRect.idx, Rect.toLoadRect, Rect.idx_unit_val]) (H.gt _ _)
  · exact act_hi c arg1 harg1 arg2 harg2 arg3 harg3 arg4 harg4 arg5 harg5 arg7 harg7 arg8 harg8 arg9 harg9 arg10 harg10 arg11 harg11 arg15 arg16 x0 x1 x2 x3 x4 x5 x6 x7 x8 x9 x10 x11 x12 H r f
  · exact read_val harg12 x11 _ _ (ix3 0 f c') (by blk_ext [] <;> simp [LoadRect.idx, Rect.toLoadRect, Rect.idx_unit_val]) (H.wd _ _)
  · exact read_val harg13 x12 _ _ (ix2 0 c') (by blk_ext [] <;> simp [LoadRect.idx, Rect.toLoadRect, Rect.idx_unit_val]) (H.gf _)

/-- The tile the run stores. -/
theorem tile (i : grid0.Coords) (H : Blocks D t x0 x1 x2 x3 x4 x5 x6 x7 x8 x9 x10 x11 x12) (y : S1024x1024.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 y = D.result (row t (y 0)) (y 1) := by
  unfold out0_A_13
  rw [View.read_writes_junk_eq_canon]
  unfold kernelRun0_A
  dsimp only
  have hy0 : (y 0).val < 1024 := (y 0).isLt
  have hy1 : (y 1).val < 1024 := (y 1).isLt
  by_cases hy : (y 0).val < 512
  · refine (View.canon_cons_of_not_mem _ _ (Rect.not_mem_set_of_axis _ y 0 512 512 rfl rfl rfl (Or.inl hy))).trans ?_
    unfold kernelRun0_A.sl.H13_3
    refine (canon_top _ _ _ y (ix2 (⟨(y 0).val, hy⟩ : Fin 512) (⟨(y 1).val, hy1⟩ : Fin 1024)) (fun a => ?_)).trans
      ?_
    · fin_cases a <;> simp
    unfold kernelRun0_A.sl.r_215 kernelRun0_A.sl.r_216
    refine (show _ = finT (outT (kernelRun0_A.sl.v1875 (F := Ideal) c arg1 harg1 arg2 harg2 arg7 harg7 arg8 harg8 arg14 x0 x1 x6 x7) (rd harg6 x5 L2) (kernelRun0_A.sl.v1879 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (rd harg12 x11 L11)) (rd harg13 x12 L3) (ix2 _ _) from rfl).trans ((res_lo c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12 H _ _).trans ?_)
    exact congrArg₂ (fun a b => D.result (row t a) b) rfl rfl
  · refine (canon_top _ _ _ y (ix2 (⟨(y 0).val - 512, by omega⟩ : Fin 512) (⟨(y 1).val, hy1⟩ : Fin 1024)) (fun a => ?_)).trans
      ?_
    · fin_cases a <;> simp
      omega
    unfold kernelRun0_A.sl.r_217
    refine (show _ = finT (outT (kernelRun0_A.sl.v1901 (F := Ideal) c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12) (rd harg6 x5 L2) (kernelRun0_A.sl.v1905 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (rd harg12 x11 L11)) (rd harg13 x12 L3) (ix2 _ _) from rfl).trans ((res_hi c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12 H _ _).trans ?_)
    exact congrArg₂ (fun a b => D.result (row t a) b) (Fin.ext (by simp only; omega)) rfl

end Cert.FfnIdeal.Mix

end
-- ==== Proof.FfnReference.lean ====
/-
The reference of the context stream's mixing and ConvFFN call, read at a row and a column: the call's mathematics.
-/
module

public import proofs.«01_k».proof.Proof.Gen.FfnRefIdeal.Read
public import proofs.«01_k».proof.Proof.FfnBlocks
public import Idealize.ShloMosaic.Lib.Pointwise

@[expose] public section

set_option maxRecDepth 16384

noncomputable section

open Idealize.ShloMosaic Idealize.ShloMosaic.TcCoe Idealize.SL.Sem

namespace Cert.FfnRefIdeal.Rows

open Cert.FfnRefIdeal Cert.FfnRefIdeal.Gen Cert.FfnRefIdeal.Read

local notation "V" => FVec Idealize.ShloMosaic.Ideal

variable (x a : V S32x256x1024 .f32) (m : V S1x6144 .f32) (w : V S1024x1024 .f32) (g : V S2x1024 .f32) (gf : V S1024 .f32)
  (wu : V S2x1024x5632 .f32) (cw : V S2x3x5632 .f32) (cb : V S2x5632 .f32) (wd : V S2x2816x1024 .f32)

/-- The row of the stream a position of a sequence is. -/
def at' (b : Fin 32) (p : Fin 256) : Fin 8192 := ⟨b.val * 256 + p.val, by omega⟩

theorem div_at (b : Fin 32) (p : Fin 256) (h : (at' b p : ℕ) / 256 < 32) : (⟨(at' b p : ℕ) / 256, h⟩ : Fin 32) = b :=
  Fin.ext (by simp only [at']; omega)

theorem mod_at (b : Fin 32) (p : Fin 256) (h : (at' b p : ℕ) % 256 < 256) : (⟨(at' b p : ℕ) % 256, h⟩ : Fin 256) = p :=
  Fin.ext (by simp only [at']; omega)

theorem mix_at (b : Fin 32) (p : Fin 256) (c : Fin 1024) :
    val_main_v10 (F := Ideal) x a m w (ix3 b p c) = (Cert.FfnIdeal.Mix.data x a m w g gf wu cw cb wd).mix (at' b p) c := by
  unfold ConvFfn.Data.mix Cert.FfnIdeal.Mix.data
  simp only [div_at, mod_at]
  pointwise [val_main_v10, val_main_v9, val_main_v8, val_main_v7, val_main_v3, val_main_v0]

theorem sum_at (y : V S32x256x1024 .f32) (hy : val_main_v10 (F := Ideal) x a m w = y) (b : Fin 32) (p : Fin 256) :
    val_main_v14 (F := Ideal) x a m w (ix2 b p) = ∑ k : Fin 1024, y (ix3 b p k) * y (ix3 b p k) := by
  pointwise [val_main_v14, val_main_v13, val_main_cst, hy]

theorem rms_at (y : V S32x256x1024 .f32) (hy : val_main_v10 (F := Ideal) x a m w = y) (b : Fin 32) (p : Fin 256) (c : Fin 1024) :
    val_main_v22 (F := Ideal) x a m w (ix3 b p c) = ConvFfn.rms (fun k => y (ix3 b p k)) c := by
  unfold ConvFfn.rms
  rw [← sum_at x a m w y hy b p]
  generalize hs : val_main_v14 (F := Ideal) x a m w = s
  pointwise [val_main_v22, val_main_v21, val_main_v20, val_main_v19, val_main_v18, val_main_cst_1, val_main_v17, val_main_v16,
    val_main_cst_0, val_main_v15, hs, hy]

theorem hid_at (b : Fin 32) (p : Fin 256) (c : Fin 1024) :
    val_main_v31 (F := Ideal) x a m w g (ix3 b p c) = (Cert.FfnIdeal.Mix.data x a m w g gf wu cw cb wd).hid (at' b p) c := by
  unfold ConvFfn.Data.hid
  have hr := rms_at x a m w _ rfl b p c
  simp only [mix_at x a m w g gf wu cw cb wd] at hr
  rw [← hr]
  unfold Cert.FfnIdeal.Mix.data
  simp only [div_at, mod_at]
  generalize hs : val_main_v22 (F := Ideal) x a m w = s
  pointwise [val_main_v31, val_main_v30, val_main_v4, val_main_v0, val_main_v29, val_main_v28, val_main_v27, val_main_v26,
    val_main_cst_2, val_main_v5, val_main_v25, val_main_v24, val_main_v23, val_main_v12, val_main_v11, hs]

theorem up_at (b : Fin 32) (p : Fin 256) (f : Fin 5632) :
    val_main_v40 (F := Ideal) x a m w g wu (ix3 b p f) = (Cert.FfnIdeal.Mix.data x a m w g gf wu cw cb wd).up (at' b p) f := by
  unfold ConvFfn.Data.up
  simp only [← hid_at x a m w g gf wu cw cb wd]
  unfold Cert.FfnIdeal.Mix.data
  simp only [div_at, mod_at]
  generalize hs : val_main_v31 (F := Ideal) x a m w g = s
  pointwise [val_main_v40, val_main_v33, val_main_v32, hs]

theorem pad_at (u : V S32x256x5632 .f32) (hu : val_main_v40 (F := Ideal) x a m w g wu = u) (b : Fin 32) (p : Fin 258) (f : Fin 5632) :
    val_main_v41 (F := Ideal) x a m w g wu (ix3 b p f)
      = if h : 1 ≤ (p : ℕ) ∧ (p : ℕ) - 1 < 256 then u (ix3 b ⟨(p : ℕ) - 1, by omega⟩ f) else 0 := by
  pointwise [val_main_v41, val_main_call0_v0, val_main_c, hu]
  split_ifs with h
  · rfl
  · simp [FloatOps.sitofp]

theorem conv_at (b : Fin 32) (p : Fin 256) (f : Fin 5632) :
    val_main_v64 (F := Ideal) x a m w g wu cw cb (ix3 b p f) = (Cert.FfnIdeal.Mix.data x a m w g gf wu cw cb wd).conv (at' b p) f := by
  have hp := pad_at x a m w g wu _ rfl
  unfold ConvFfn.Data.conv ConvFfn.Data.prev ConvFfn.Data.next
  generalize hs : val_main_v41 (F := Ideal) x a m w g wu = s at hp
  pointwise [val_main_v64, val_main_v63, val_main_v62, val_main_v61, val_main_v60, val_main_v59, val_main_v58, val_main_v57,
    val_main_v56, val_main_v55, val_main_v54, val_main_v53, val_main_v52, val_main_v51, val_main_v50, val_main_v49,
    val_main_v48, val_main_v47, val_main_v46, val_main_v45, val_main_v44, val_main_v43, val_main_v42, val_main_v37,
    val_main_v36, val_main_v35, val_main_v34, hs]
  have hn : (Cert.FfnIdeal.Mix.data x a m w g gf wu cw cb wd).n = 256 := rfl
  have hr : (at' b p : ℕ) = b.val * 256 + p.val := rfl
  rw [hn]
  refine congrArg₂ (· + ·) (congrArg₂ (· + ·) (congrArg₂ (· + ·) (congrArg (· * _) ?_) (congrArg (· * _) ?_)) (congrArg (· * _) ?_)) rfl
  · rw [hp]
    by_cases h : (p : ℕ) = 0
    · rw [dif_neg (by simp only; omega), if_pos (by omega)]
    · rw [dif_pos (by simp only; omega), if_neg (by omega), up_at x a m w g gf wu cw cb wd]
      refine congrArg (fun R => (Cert.FfnIdeal.Mix.data x a m w g gf wu cw cb wd).up R f) (Fin.ext ?_)
      simp only [at']
      omega
  · rw [hp, dif_pos (by simp only; omega), up_at x a m w g gf wu cw cb wd]
    refine congrArg (fun R => (Cert.FfnIdeal.Mix.data x a m w g gf wu cw cb wd).up R f) (Fin.ext ?_)
    simp only [at']
    omega
  · rw [hp]
    by_cases h : (p : ℕ) = 256 - 1
    · rw [dif_neg (by simp only; omega), if_pos (by omega)]
    · rw [dif_pos (by simp only; omega), if_neg (by omega), up_at x a m w g gf wu cw cb wd]
      refine congrArg (fun R => (Cert.FfnIdeal.Mix.data x a m w g gf wu cw cb wd).up R f) (Fin.ext ?_)
      simp only [at']
      omega

theorem act_at (b : Fin 32) (p : Fin 256) (f : Fin 2816) :
    val_main_v68 (F := Ideal) x a m w g wu cw cb (ix3 b p f) = (Cert.FfnIdeal.Mix.data x a m w g gf wu cw cb wd).act (at' b p) f := by
  unfold ConvFfn.Data.act
  simp only [← conv_at x a m w g gf wu cw cb wd]
  generalize hs : val_main_v64 (F := Ideal) x a m w g wu cw cb = s
  pointwise [val_main_v68, val_main_v67, val_main_v66, val_main_v65, val_main_call1_v5, val_main_call1_v4, val_main_call1_v3,
    val_main_call1_v2, val_main_call1_v1, val_main_call1_v0, val_main_call1_cst, val_main_call1_cst_0, hs]

theorem out_at (b : Fin 32) (p : Fin 256) (c : Fin 1024) :
    val_main_v72 (F := Ideal) x a m w g wu cw cb wd (ix3 b p c) = (Cert.FfnIdeal.Mix.data x a m w g gf wu cw cb wd).out (at' b p) c := by
  unfold ConvFfn.Data.out
  simp only [← act_at x a m w g gf wu cw cb wd, ← mix_at x a m w g gf wu cw cb wd]
  unfold Cert.FfnIdeal.Mix.data
  simp only [div_at, mod_at]
  generalize hs : val_main_v68 (F := Ideal) x a m w g wu cw cb = s
  generalize hy : val_main_v10 (F := Ideal) x a m w = y
  pointwise [val_main_v72, val_main_v71, val_main_v70, val_main_v69, val_main_v39, val_main_v38, val_main_v6, val_main_v0, hs, hy]

theorem sum2_at (y : V S32x256x1024 .f32) (hy : val_main_v72 (F := Ideal) x a m w g wu cw cb wd = y) (b : Fin 32) (p : Fin 256) :
    val_main_v74 (F := Ideal) x a m w g wu cw cb wd (ix2 b p) = ∑ k : Fin 1024, y (ix3 b p k) * y (ix3 b p k) := by
  pointwise [val_main_v74, val_main_v73, val_main_cst_3, hy]

theorem rms2_at (y : V S32x256x1024 .f32) (hy : val_main_v72 (F := Ideal) x a m w g wu cw cb wd = y) (b : Fin 32) (p : Fin 256)
    (c : Fin 1024) :
    val_main_v82 (F := Ideal) x a m w g wu cw cb wd (ix3 b p c) = ConvFfn.rms (fun k => y (ix3 b p k)) c := by
  unfold ConvFfn.rms
  rw [← sum2_at x a m w g wu cw cb wd y hy b p]
  generalize hs : val_main_v74 (F := Ideal) x a m w g wu cw cb wd = s
  pointwise [val_main_v82, val_main_v81, val_main_v80, val_main_v79, val_main_v78, val_main_cst_5, val_main_v77, val_main_v76,
    val_main_cst_4, val_main_v75, hs, hy]

theorem result_at (R : Fin 8192) (c : Fin 1024) :
    val_main_v86 (F := Ideal) x a m w g gf wu cw cb wd (ix2 R c) = (Cert.FfnIdeal.Mix.data x a m w g gf wu cw cb wd).result R c := by
  have hR : at' ⟨R / 256, by omega⟩ ⟨R % 256, by omega⟩ = R := Fin.ext (by simp only [at']; omega)
  unfold ConvFfn.Data.result
  have hr := rms2_at x a m w g wu cw cb wd _ rfl ⟨R / 256, by omega⟩ ⟨R % 256, by omega⟩ c
  simp only [out_at x a m w g gf wu cw cb wd, hR] at hr
  rw [← hr]
  unfold Cert.FfnIdeal.Mix.data
  generalize hs : val_main_v82 (F := Ideal) x a m w g wu cw cb wd = s
  pointwise [val_main_v86, val_main_v85, val_main_v84, val_main_v83, hs]

end Cert.FfnRefIdeal.Rows

end
-- ==== Proof.FfnValue.lean ====
/-
The context stream's mixing and ConvFFN call: its result array after the run is the reference's.
-/
module

public import proofs.«01_k».proof.Proof.FfnWords
public import proofs.«01_k».proof.Proof.FfnReference

@[expose] public section

set_option maxRecDepth 16384

noncomputable section

open Idealize.ShloMosaic Idealize.ShloMosaic.TcCoe Idealize.SL.Sem
open Idealize.ShloMosaic.Pipeline (Dat)

namespace Cert.FfnIdeal.Mix

open Cert.FfnIdeal Cert.FfnIdeal.Gen

variable (m : (ℓ : Loc nD τ sig) → Buf (Elt Ideal) ℓ)

/-- The reference's result over the kernel's argument arrays. -/
abbrev ref (c : Dev nD) : FVec Ideal S8192x1024 .f32 :=
  Cert.FfnRefIdeal.Read.val_main_v86 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9))

/-- The blocks of a grid point hold the rows of its tile. -/
theorem blocks (c : Dev nD) (t : Fin cfg0.N) :
    Blocks (dat m c) t (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) where
  x := x_at m c t
  gm := gm_at m c t
  g := g_at m c t
  sc := sc_at m c t
  sh := sh_at m c t
  gt := gt_at m c t
  att := att_at m c t
  w := w_at m c t
  wu := wu_at m c t
  cw := cw_at m c t
  cb := cb_at m c t
  wd := wd_at m c t
  gf := gf_at m c t
  n := rfl

/-- One row and column of the reference's result. -/
theorem ref_at (c : Dev nD) (R : Fin 8192) (k : Fin 1024) : ref m c (ix2 R k) = (dat m c).result R k :=
  Cert.FfnRefIdeal.Rows.result_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) R k

theorem final (c : Dev nD) : (dats m 0 c).arrAt 13 (cfgs 0).N = ref m c := by
  refine (dats m 0 c).arrAt_eq_of_covers 13 _ (by decide +kernel) fun t _ y => ?_
  blk_simp
  rw [after0_13]
  unfold outsAt0
  refine (tile c _ _ _ _ _ _ _ _ _ _ _ _ _ _ _ _ _ _ _ _ _ _ _ _ _ _ _ _ _ _ _ _ _ _ _ _ _ _ _ _ _ _ _ _ _ _ (blocks m c t) y).trans
    ((ref_at m c (row t (y 0)) (y 1)).symm.trans (congrArg (ref m c) ?_))
  have h8 := lt8 t
  blk_ext [idx t]
  rfl

end Cert.FfnIdeal.Mix

end
-- ==== Proof.FfnLatPieces.lean ====
/-
The latent stream's mixing and ConvFFN call, one operation group at a time: the vector operations the stored values
are made of, and what each holds at an index.
-/
module

public import proofs.«01_k».proof.Proof.Gen.FfnLatIdeal.Skeleton
public import Idealize.ShloMosaic.Lib.Pipeline.ValueKit

@[expose] public section

set_option maxRecDepth 16384

noncomputable section

open Idealize.ShloMosaic Idealize.ShloMosaic.TcCoe Idealize.SL.Sem

namespace Cert.FfnLatIdeal.Mix

open Cert.FfnLatIdeal Cert.FfnLatIdeal.Gen

local notation "V" => FVec Idealize.ShloMosaic.Ideal

/-- The residual stream plus its gated attention projection. -/
def mixT (a : V S512x1024 .bf16) (w : V S1024x1024 .bf16) (x : V S512x1024 .f32) (gm : V S1x1x1x1x1024 .f32) :
    V S512x1024 .f32 :=
  addf (shapeCast S512x1024 x shapeCasts_S512x1024_S512x1024)
    (mulf (broadcastTo S512x1024 (shapeCast S1x1024 gm shapeCasts_S1x1x1x1x1024_S1x1024) broadcasts_S1x1024_S512x1024)
      (matmul dot_S512x1024_S1024x1024_S512x1024_1_0_0_1_n_n none
        (shapeCast S512x1024 a shapeCasts_S512x1024_S512x1024) (shapeCast S1024x1024 w shapeCasts_S1024x1024_S1024x1024)
        (constant S512x1024 .f32 0x00000000#32)))

theorem mix_at (a : V S512x1024 .bf16) (w : V S1024x1024 .bf16) (x : V S512x1024 .f32)
    (gm : V S1x1x1x1x1024 .f32) (r : Fin 512) (c : Fin 1024) :
    mixT a w x gm (ix2 r c) = x (ix2 r c) + gm (ix5 0 0 0 0 c) * ∑ k : Fin 1024, a (ix2 r k) * w (ix2 k c) := by
  pointwise [mixT]

/-- A row divided by the root of its mean square. -/
def rmsT (y : V S512x1024 .f32) : V S512x1024 .f32 :=
  mulf y (broadcastTo S512x1024
    (rsqrt (addf (divf (shapeCast S512x1
        (multiReduction .add [1] S512 (mulf y y) 0x00000000#32 reduces_S512x1024_S512 (.inl rfl) rfl) shapeCasts_S512_S512x1)
      (broadcast S512x1 (Scalar.ofBits .f32 0x44800000#32 : Idealize.ShloMosaic.Ideal .f32)))
      (broadcast S512x1 (Scalar.ofBits .f32 0x358637BD#32 : Idealize.ShloMosaic.Ideal .f32))))
    broadcasts_S512x1_S512x1024)

theorem rms_at (y : V S512x1024 .f32) (r : Fin 512) (c : Fin 1024) :
    rmsT y (ix2 r c) = y (ix2 r c) * Ideal.rsqrt (Ideal.div (∑ k : Fin 1024, y (ix2 r k) * y (ix2 r k))
      (Ideal.ofBits FTy.f32 1149239296#32) + Ideal.ofBits FTy.f32 897988541#32) := by
  pointwise [rmsT]

/-- The normalised row with its gain, scale and shift. -/
def hidT (y : V S512x1024 .f32) (g : V S1x1024 .f32) (sc sh : V S1x1x1x1x1024 .f32) : V S512x1024 .bf16 :=
  shapeCast S512x1024 (truncf .bf16 (addf (mulf
      (mulf (rmsT y) (broadcastTo S512x1024 (shapeCast S1x1024 g shapeCasts_S1x1024_S1x1024) broadcasts_S1x1024_S512x1024))
      (broadcastTo S512x1024 (addf (broadcast S1x1024 (Scalar.ofBits .f32 0x3F800000#32 : Idealize.ShloMosaic.Ideal .f32))
        (shapeCast S1x1024 sc shapeCasts_S1x1x1x1x1024_S1x1024)) broadcasts_S1x1024_S512x1024))
      (broadcastTo S512x1024 (shapeCast S1x1024 sh shapeCasts_S1x1x1x1x1024_S1x1024) broadcasts_S1x1024_S512x1024))
      bitsLt_bf16_f32) shapeCasts_S512x1024_S512x1024

theorem hid_at (y : V S512x1024 .f32) (g : V S1x1024 .f32) (sc sh : V S1x1x1x1x1024 .f32) (r : Fin 512) (c : Fin 1024) :
    hidT y g sc sh (ix2 r c)
      = rmsT y (ix2 r c) * g (ix2 0 c) * (1 + sc (ix5 0 0 0 0 c)) + sh (ix5 0 0 0 0 c) := by
  generalize h : rmsT y = z
  pointwise [hidT, h]

/-- The gated ConvFFN product added to the stream. -/
def outT (o : V S512x1024 .f32) (gt : V S1x1x1x1x1024 .f32) (act : V S512x2816 .bf16) (wd : V S1x2816x1024 .bf16) :
    V S512x1024 .f32 :=
  addf (shapeCast S512x1024 o shapeCasts_S512x1024_S512x1024)
    (mulf (broadcastTo S512x1024 (shapeCast S1x1024 gt shapeCasts_S1x1x1x1x1024_S1x1024) broadcasts_S1x1024_S512x1024)
      (matmul dot_S512x2816_S2816x1024_S512x1024_1_0_0_1_n_n none act
        (shapeCast S2816x1024 wd shapeCasts_S1x2816x1024_S2816x1024) (constant S512x1024 .f32 0x00000000#32)))

theorem out_at (o : V S512x1024 .f32) (gt : V S1x1x1x1x1024 .f32) (act : V S512x2816 .bf16)
    (wd : V S1x2816x1024 .bf16) (r : Fin 512) (c : Fin 1024) :
    outT o gt act wd (ix2 r c)
      = o (ix2 r c) + gt (ix5 0 0 0 0 c) * ∑ f : Fin 2816, act (ix2 r f) * wd (ix3 0 f c) := by
  pointwise [outT]

/-- The last normalisation with its gain. -/
def finT (y : V S512x1024 .f32) (gf : V S1x1024 .f32) : V S512x1024 .f32 :=
  mulf (rmsT y) (broadcastTo S512x1024 (shapeCast S1x1024 gf shapeCasts_S1x1024_S1x1024) broadcasts_S1x1024_S512x1024)

theorem fin_at (y : V S512x1024 .f32) (gf : V S1x1024 .f32) (r : Fin 512) (c : Fin 1024) :
    finT y gf (ix2 r c) = rmsT y (ix2 r c) * gf (ix2 0 c) := by
  generalize h : rmsT y = z
  pointwise [finT, h]

/-- 256 columns of the up product. -/
def upT (hb : V S1024x1024 .bf16) (w : V S1x1024x256 .bf16) : V S1024x256 .f32 :=
  matmul dot_S1024x1024_S1024x256_S1024x256_1_0_0_1_n_n none hb
    (shapeCast S1024x256 w shapeCasts_S1x1024x256_S1024x256) (constant S1024x256 .f32 0x00000000#32)

theorem up_at (hb : V S1024x1024 .bf16) (w : V S1x1024x256 .bf16) (r : Fin 1024) (q : Fin 256) :
    upT hb w (ix2 r q) = ∑ k : Fin 1024, hb (ix2 r k) * w (ix3 0 k q) := by
  pointwise [upT]

/-- Eight rows with row `n` set to zero. -/
def maskT (n : BitVec 32) (s : V S8x256 .f32) : V S8x256 .f32 :=
  select (cmpi .eq (iota .tc S8x256 32 [0] iota_S8x256_d0_w32) (broadcast S8x256 n))
    (broadcast S8x256 (Scalar.ofBits .f32 0x00000000#32 : Idealize.ShloMosaic.Ideal .f32)) s

theorem mask_first (s : V S8x256 .f32) (r : Fin 8) (q : Fin 256) :
    maskT 0#32 s (ix2 r q) = if (r : ℕ) = 0 then 0 else s (ix2 r q) := by
  pointwise [maskT]
  fin_cases r <;> rfl

theorem mask_last (s : V S8x256 .f32) (r : Fin 8) (q : Fin 256) :
    maskT 7#32 s (ix2 r q) = if (r : ℕ) = 7 then 0 else s (ix2 r q) := by
  pointwise [maskT]
  fin_cases r <;> rfl

/-- The rows moved down by one, the last in front. -/
def downT (u : V S1024x256 .f32) : V S1024x256 .f32 := dynamicRotate 0 1#32 none u rotates_S1024x256_d0

/-- The rows moved up by one, the first at the end. -/
def riseT (u : V S1024x256 .f32) : V S1024x256 .f32 := dynamicRotate 0 1023#32 none u rotates_S1024x256_d0

theorem down_at (u : V S1024x256 .f32) (r : Fin 1024) (q : Fin 256) :
    downT u (ix2 r q) = u (ix2 ⟨((r : ℕ) + 1023) % 1024, by omega⟩ q) := by
  pointwise [downT]
  simp only [show (r : ℕ) + 1024 - 1 = (r : ℕ) + 1023 by omega]

theorem rise_at (u : V S1024x256 .f32) (r : Fin 1024) (q : Fin 256) :
    riseT u (ix2 r q) = u (ix2 ⟨((r : ℕ) + 1) % 1024, by omega⟩ q) := by
  pointwise [riseT]
  simp only [show (r : ℕ) + 1024 - 1023 = (r : ℕ) + 1 by omega]

/-- The rows before, with zeros in front of the sequence of 1024 rows: `u` is the block moved down by one. -/
def prevT (u : V S1024x256 .f32) : V S1024x256 .f32 :=
  concatenate S1024x256 0 [
    ⟨S8x256, maskT 0#32 (extractStridedSlice S8x256 ![0, 0] u slices_S1024x256_o0_0_S8x256)⟩,
    ⟨S1016x256, extractStridedSlice S1016x256 ![8, 0] u slices_S1024x256_o8_0_S1016x256⟩]
    concatenates_S8x256_S1016x256_S1024x256_d0

/-- The rows after, with zeros at the end of the sequence of 1024 rows: `u` is the block moved up by one. -/
def nextT (u : V S1024x256 .f32) : V S1024x256 .f32 :=
  concatenate S1024x256 0 [
    ⟨S1016x256, extractStridedSlice S1016x256 ![0, 0] u slices_S1024x256_o0_0_S1016x256⟩,
    ⟨S8x256, maskT 7#32 (extractStridedSlice S8x256 ![1016, 0] u slices_S1024x256_o1016_0_S8x256)⟩]
    concatenates_S1016x256_S8x256_S1024x256_d0

set_option maxHeartbeats 1600000 in
theorem prev_at (u : V S1024x256 .f32) (r : Fin 1024) (q : Fin 256) :
    prevT u (ix2 r q) = if (r : ℕ) = 0 then 0 else u (ix2 r q) := by
  by_cases hr : (r : ℕ) = 0
  case' pos => rw [if_pos hr]
  case' neg => rw [if_neg hr]
  all_goals pointwise [prevT, mask_first]
  all_goals split_ifs <;> first
    | rfl
    | (exfalso; omega)
    | (refine congrArg (fun z : Fin 1024 => u (ix2 z q)) (Fin.ext ?_); dsimp only; omega)

set_option maxHeartbeats 1600000 in
theorem next_at (u : V S1024x256 .f32) (r : Fin 1024) (q : Fin 256) :
    nextT u (ix2 r q) = if (r : ℕ) = 1023 then 0 else u (ix2 r q) := by
  by_cases hr : (r : ℕ) = 1023
  case' pos => rw [if_pos hr]
  case' neg => rw [if_neg hr]
  all_goals pointwise [nextT, mask_last]
  all_goals split_ifs <;> first
    | rfl
    | (exfalso; omega)
    | (refine congrArg (fun z : Fin 1024 => u (ix2 z q)) (Fin.ext ?_); dsimp only; omega)

/-- The convolution of three rows. -/
def convT (u p n : V S1024x256 .f32) (cw : V S1x3x256 .f32) (cb : V S1x1x256 .f32) : V S1024x256 .f32 :=
  addf (addf (addf
      (mulf p (broadcastTo S1024x256 (extractStridedSlice S1x256 ![0, 0]
        (shapeCast S3x256 cw shapeCasts_S1x3x256_S3x256) slices_S3x256_o0_0_S1x256) broadcasts_S1x256_S1024x256))
      (mulf u (broadcastTo S1024x256 (extractStridedSlice S1x256 ![1, 0]
        (shapeCast S3x256 cw shapeCasts_S1x3x256_S3x256) slices_S3x256_o1_0_S1x256) broadcasts_S1x256_S1024x256)))
      (mulf n (broadcastTo S1024x256 (extractStridedSlice S1x256 ![2, 0]
        (shapeCast S3x256 cw shapeCasts_S1x3x256_S3x256) slices_S3x256_o2_0_S1x256) broadcasts_S1x256_S1024x256)))
    (broadcastTo S1024x256 (shapeCast S1x256 cb shapeCasts_S1x1x256_S1x256) broadcasts_S1x256_S1024x256)

theorem conv_at (u p n : V S1024x256 .f32) (cw : V S1x3x256 .f32) (cb : V S1x1x256 .f32) (r : Fin 1024) (q : Fin 256) :
    convT u p n cw cb (ix2 r q) = p (ix2 r q) * cw (ix3 0 0 q) + u (ix2 r q) * cw (ix3 0 1 q)
      + n (ix2 r q) * cw (ix3 0 2 q) + cb (ix3 0 0 q) := by
  pointwise [convT]

/-- The gated unit. -/
def gluT (a g : V S1024x256 .f32) : V S1024x256 .bf16 :=
  shapeCast S1024x256 (truncf .bf16 (mulf (mulf a
    (divf (broadcast S1024x256 (Scalar.ofBits .f32 0x3F800000#32 : Idealize.ShloMosaic.Ideal .f32))
      (addf (broadcast S1024x256 (Scalar.ofBits .f32 0x3F800000#32 : Idealize.ShloMosaic.Ideal .f32))
        (exp (subf (broadcast S1024x256 (Scalar.ofBits .f32 0x00000000#32 : Idealize.ShloMosaic.Ideal .f32)) a))))) g)
    bitsLt_bf16_f32) shapeCasts_S1024x256_S1024x256

theorem glu_at (a g : V S1024x256 .f32) (r : Fin 1024) (q : Fin 256) :
    gluT a g (ix2 r q) = a (ix2 r q) * Ideal.div 1 (1 + Ideal.exp (-a (ix2 r q))) * g (ix2 r q) := by
  pointwise [gluT]
  rw [zero_sub]

end Cert.FfnLatIdeal.Mix

end
-- ==== Proof.FfnLatBlocks.lean ====
/-
The blocks the latent stream's mixing and ConvFFN call reads at a grid point: which entry of which argument each holds.
-/
module

public import proofs.«01_k».proof.Proof.ConvFfn
public import proofs.«01_k».proof.Proof.Gen.FfnLatIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnLatIdeal.Mix

open Cert.FfnLatIdeal Cert.FfnLatIdeal.Gen

local notation "V" => FVec Idealize.ShloMosaic.Ideal

/-- What the call reads, out of the argument arrays. -/
def data (x a : V S8x1024x1024 .f32) (m : V S8x6144 .f32) (w : V S1024x1024 .f32) (g : V S2x1024 .f32) (gf : V S1024 .f32)
    (wu : V S2x1024x5632 .f32) (cw : V S2x3x5632 .f32) (cb : V S2x5632 .f32) (wd : V S2x2816x1024 .f32) : ConvFfn.Data where
  n := 1024
  x R c := x (ix3 ⟨R / 1024, by omega⟩ ⟨R % 1024, by omega⟩ c)
  att R c := a (ix3 ⟨R / 1024, by omega⟩ ⟨R % 1024, by omega⟩ c)
  gm R c := m (ix2 ⟨R / 1024, by omega⟩ ⟨2048 + c, by omega⟩)
  sh R c := m (ix2 ⟨R / 1024, by omega⟩ ⟨3072 + c, by omega⟩)
  sc R c := m (ix2 ⟨R / 1024, by omega⟩ ⟨4096 + c, by omega⟩)
  gt R c := m (ix2 ⟨R / 1024, by omega⟩ ⟨5120 + c, by omega⟩)
  w k c := w (ix2 k c)
  g c := g (ix2 1 c)
  gf c := gf (ix1 c)
  wu k f := wu (ix3 1 k f)
  cw j f := cw (ix3 1 j f)
  cb f := cb (ix2 1 f)
  wd f c := wd (ix3 1 f c)

variable (m : (ℓ : Loc nD τ sig) → Buf (Elt Ideal) ℓ)

/-- The same, out of the launch memory. -/
abbrev dat (c : Dev nD) : ConvFfn.Data :=
  data (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9))

/-- Where each window stands at a grid point. -/
theorem idx : ∀ t : Fin cfg0.N, win0_0.index t = ![t.val, 0] ∧ win0_1.index t = ![1, 1 + t.val, 2, 0, 0] ∧ win0_2.index t = ![0, 0]
    ∧ win0_3.index t = ![1, 1 + t.val, 4, 0, 0] ∧ win0_4.index t = ![1, 1 + t.val, 3, 0, 0] ∧ win0_5.index t = ![1, 1 + t.val, 5, 0, 0]
    ∧ win0_6.index t = ![t.val, 0] ∧ win0_7.index t = ![0, 0] ∧ win0_8.index t = ![1, 0, 0] ∧ win0_9.index t = ![1, 0, 0]
    ∧ win0_10.index t = ![1, 0, 0] ∧ win0_11.index t = ![1, 0, 0] ∧ win0_12.index t = ![0, 0] ∧ win0_13.index t = ![t.val, 0] :=
  (by decide +kernel : ∀ t : Fin grid0.N, _)

theorem lt8 (t : Fin cfg0.N) : t.val < 8 := lt_of_lt_of_eq t.isLt (by decide)

/-- The row of the stream a row of a grid point's tile is. -/
def row (t : Fin cfg0.N) (r : Fin 1024) : Fin 8192 := ⟨t.val * 1024 + r.val, by have := lt8 t; omega⟩

theorem x_at (c : Dev nD) (t : Fin cfg0.N) (y : Fin 1024) (x : Fin 1024) :
    (show V S1024x1024 .f32 from iblk m c 0 t) (ix2 y x) = (dat m c).x (row t y) x := by
  unfold dat data row
  blk_simp [iblk, idx t]
  simp only [Gen.V, hostOps0, hostOps0_1, hostOps0_2, List.flatten_cons, List.flatten_nil, List.cons_append, List.nil_append, List.append_nil]
  entry_read
  pointwise
  have h8 := lt8 t
  blk_ext [idx t]

theorem att_at (c : Dev nD) (t : Fin cfg0.N) (y : Fin 1024) (x : Fin 1024) :
    (show V S1024x1024 .bf16 from iblk m c 6 t) (ix2 y x) = (dat m c).att (row t y) x := by
  unfold dat data row
  blk_simp [iblk, idx t]
  simp only [Gen.V, hostOps0, hostOps0_1, hostOps0_2, List.flatten_cons, List.flatten_nil, List.cons_append, List.nil_append, List.append_nil]
  entry_read
  pointwise
  have h8 := lt8 t
  blk_ext [idx t]

theorem gm_at (c : Dev nD) (t : Fin cfg0.N) (y : Fin 1024) (x : Fin 1024) :
    (show V S1x1x1x1x1024 .f32 from iblk m c 1 t) (ix5 0 0 0 0 x) = (dat m c).gm (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h8 := lt8 t
  rw [dif_pos (by blk_simp [idx t]; omega)]
  blk_ext [idx t]

theorem sc_at (c : Dev nD) (t : Fin cfg0.N) (y : Fin 1024) (x : Fin 1024) :
    (show V S1x1x1x1x1024 .f32 from iblk m c 3 t) (ix5 0 0 0 0 x) = (dat m c).sc (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h8 := lt8 t
  rw [dif_pos (by blk_simp [idx t]; omega)]
  blk_ext [idx t]

theorem sh_at (c : Dev nD) (t : Fin cfg0.N) (y : Fin 1024) (x : Fin 1024) :
    (show V S1x1x1x1x1024 .f32 from iblk m c 4 t) (ix5 0 0 0 0 x) = (dat m c).sh (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h8 := lt8 t
  rw [dif_pos (by blk_simp [idx t]; omega)]
  blk_ext [idx t]

theorem gt_at (c : Dev nD) (t : Fin cfg0.N) (y : Fin 1024) (x : Fin 1024) :
    (show V S1x1x1x1x1024 .f32 from iblk m c 5 t) (ix5 0 0 0 0 x) = (dat m c).gt (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h8 := lt8 t
  rw [dif_pos (by blk_simp [idx t]; omega)]
  blk_ext [idx t]

theorem g_at (c : Dev nD) (t : Fin cfg0.N) (x : Fin 1024) :
    (show V S1x1024 .f32 from iblk m c 2 t) (ix2 0 x) = (dat m c).g x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem gf_at (c : Dev nD) (t : Fin cfg0.N) (x : Fin 1024) :
    (show V S1x1024 .f32 from iblk m c 12 t) (ix2 0 x) = (dat m c).gf x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem w_at (c : Dev nD) (t : Fin cfg0.N) (k x : Fin 1024) :
    (show V S1024x1024 .bf16 from iblk m c 7 t) (ix2 k x) = (dat m c).w k x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem wu_at (c : Dev nD) (t : Fin cfg0.N) (k : Fin 1024) (f : Fin 5632) :
    (show V S1x1024x5632 .bf16 from iblk m c 8 t) (ix3 0 k f) = (dat m c).wu k f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem cw_at (c : Dev nD) (t : Fin cfg0.N) (j : Fin 3) (f : Fin 5632) :
    (show V S1x3x5632 .f32 from iblk m c 9 t) (ix3 0 j f) = (dat m c).cw j f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem cb_at (c : Dev nD) (t : Fin cfg0.N) (f : Fin 5632) :
    (show V S1x1x5632 .f32 from iblk m c 10 t) (ix3 0 0 f) = (dat m c).cb f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem wd_at (c : Dev nD) (t : Fin cfg0.N) (f : Fin 2816) (x : Fin 1024) :
    (show V S1x2816x1024 .bf16 from iblk m c 11 t) (ix3 0 f x) = (dat m c).wd f x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

end Cert.FfnLatIdeal.Mix

end
-- ==== Proof.FfnLatCore.lean ====
/-
The latent stream's mixing and ConvFFN call over one tile of rows: each stored value as the call's mathematics.
-/
module

public import proofs.«01_k».proof.Proof.FfnLatPieces
public import proofs.«01_k».proof.Proof.FfnLatBlocks

@[expose] public section

set_option maxRecDepth 16384

noncomputable section

open Idealize.ShloMosaic Idealize.ShloMosaic.TcCoe Idealize.SL.Sem

namespace Cert.FfnLatIdeal.Mix

open Cert.FfnLatIdeal Cert.FfnLatIdeal.Gen

local notation "V" => FVec Idealize.ShloMosaic.Ideal

variable (D : ConvFfn.Data) (t : Fin cfg0.N)

/-- The blocks of a grid point hold the data's rows of that tile. -/
structure Blocks (x0 : V S1024x1024 .f32) (x1 : V S1x1x1x1x1024 .f32) (x2 : V S1x1024 .f32) (x3 x4 x5 : V S1x1x1x1x1024 .f32)
    (x6 : V S1024x1024 .bf16) (x7 : V S1024x1024 .bf16) (x8 : V S1x1024x5632 .bf16) (x9 : V S1x3x5632 .f32)
    (x10 : V S1x1x5632 .f32) (x11 : V S1x2816x1024 .bf16) (x12 : V S1x1024 .f32) : Prop where
  x : ∀ r c, x0 (ix2 r c) = D.x (row t r) c
  gm : ∀ r c, x1 (ix5 0 0 0 0 c) = D.gm (row t r) c
  g : ∀ c, x2 (ix2 0 c) = D.g c
  sc : ∀ r c, x3 (ix5 0 0 0 0 c) = D.sc (row t r) c
  sh : ∀ r c, x4 (ix5 0 0 0 0 c) = D.sh (row t r) c
  gt : ∀ r c, x5 (ix5 0 0 0 0 c) = D.gt (row t r) c
  att : ∀ r c, x6 (ix2 r c) = D.att (row t r) c
  w : ∀ k c, x7 (ix2 k c) = D.w k c
  wu : ∀ k f, x8 (ix3 0 k f) = D.wu k f
  cw : ∀ j f, x9 (ix3 0 j f) = D.cw j f
  cb : ∀ f, x10 (ix3 0 0 f) = D.cb f
  wd : ∀ f c, x11 (ix3 0 f c) = D.wd f c
  gf : ∀ c, x12 (ix2 0 c) = D.gf c
  n : D.n = 1024

/-- One chunk of the gated unit, out of the modulated rows and the chunk's weights for both halves. -/
def actT (hb : V S1024x1024 .bf16) (wa wg : V S1x1024x256 .bf16) (ca cg : V S1x3x256 .f32) (ba bg : V S1x1x256 .f32) :
    V S1024x256 .bf16 :=
  gluT (convT (upT hb wa) (prevT (downT (upT hb wa))) (nextT (riseT (upT hb wa))) ca ba)
    (convT (upT hb wg) (prevT (downT (upT hb wg))) (nextT (riseT (upT hb wg))) cg bg)

variable {D t}

theorem conv_row (hn : D.n = 1024) (hb : V S1024x1024 .bf16) (wa : V S1x1024x256 .bf16) (ca : V S1x3x256 .f32)
    (ba : V S1x1x256 .f32) (f : Fin 5632) (q : Fin 256)
    (h0 : ∀ r k, hb (ix2 r k) = D.hid (row t r) k) (h1 : ∀ k, wa (ix3 0 k q) = D.wu k f)
    (h2 : ∀ j, ca (ix3 0 j q) = D.cw j f) (h3 : ba (ix3 0 0 q) = D.cb f) (r : Fin 1024) :
    convT (upT hb wa) (prevT (downT (upT hb wa))) (nextT (riseT (upT hb wa))) ca ba (ix2 r q) = D.conv (row t r) f := by
  have h8 := lt8 t
  have hup : ∀ s, upT hb wa (ix2 s q) = D.up (row t s) f := fun s => by
    rw [up_at]
    exact Finset.sum_congr rfl fun k _ => by rw [h0, h1]
  rw [conv_at, prev_at, next_at, down_at, rise_at, h2, h2, h2, h3, hup, hup, hup]
  unfold ConvFfn.Data.conv ConvFfn.Data.prev ConvFfn.Data.next
  rw [hn]
  have hr : ((row t r : Fin 8192) : ℕ) = t.val * 1024 + r.val := rfl
  have e1 : (((row t r : Fin 8192) : ℕ) % 1024 = 0) = ((r : ℕ) = 0) := by rw [hr]; apply propext; omega
  have e2 : (((row t r : Fin 8192) : ℕ) % 1024 = 1024 - 1) = ((r : ℕ) = 1023) := by rw [hr]; apply propext; omega
  simp only [e1, e2]
  refine congrArg (· + _) (congrArg₂ (· + ·) (congrArg (· + _) (congrArg (· * _) ?_)) (congrArg (· * _) ?_))
  · split_ifs with h
    · rfl
    · refine congrArg (fun R => D.up R f) (Fin.ext ?_)
      simp only [row]
      omega
  · split_ifs with h
    · rfl
    · refine congrArg (fun R => D.up R f) (Fin.ext ?_)
      simp only [row]
      omega

theorem act_row (hn : D.n = 1024) (hb : V S1024x1024 .bf16) (wa wg : V S1x1024x256 .bf16) (ca cg : V S1x3x256 .f32)
    (ba bg : V S1x1x256 .f32) (f : Fin 2816) (q : Fin 256)
    (h0 : ∀ r k, hb (ix2 r k) = D.hid (row t r) k)
    (ha : ∀ k, wa (ix3 0 k q) = D.wu k ⟨f, by omega⟩) (hg : ∀ k, wg (ix3 0 k q) = D.wu k ⟨2816 + f, by omega⟩)
    (hca : ∀ j, ca (ix3 0 j q) = D.cw j ⟨f, by omega⟩) (hcg : ∀ j, cg (ix3 0 j q) = D.cw j ⟨2816 + f, by omega⟩)
    (hba : ba (ix3 0 0 q) = D.cb ⟨f, by omega⟩) (hbg : bg (ix3 0 0 q) = D.cb ⟨2816 + f, by omega⟩) (r : Fin 1024) :
    actT hb wa wg ca cg ba bg (ix2 r q) = D.act (row t r) f := by
  unfold actT
  rw [glu_at, conv_row hn hb wa ca ba _ q h0 ha hca hba, conv_row hn hb wg cg bg _ q h0 hg hcg hbg]
  rfl

theorem mix_row (a : V S512x1024 .bf16) (w : V S1024x1024 .bf16) (x : V S512x1024 .f32) (gm : V S1x1x1x1x1024 .f32)
    (r : Fin 512) (R : Fin 8192) (ha : ∀ k, a (ix2 r k) = D.att R k) (hw : ∀ k c, w (ix2 k c) = D.w k c)
    (hx : ∀ c, x (ix2 r c) = D.x R c) (hg : ∀ c, gm (ix5 0 0 0 0 c) = D.gm R c) (c : Fin 1024) :
    mixT a w x gm (ix2 r c) = D.mix R c := by
  rw [mix_at, hx, hg]
  unfold ConvFfn.Data.mix
  refine congrArg (fun z => _ + _ * z) (Finset.sum_congr rfl fun k _ => ?_)
  rw [ha, hw]

theorem rms_row (y : V S512x1024 .f32) (Y : Fin 1024 → EReal) (r : Fin 512) (h : ∀ c, y (ix2 r c) = Y c) (c : Fin 1024) :
    rmsT y (ix2 r c) = ConvFfn.rms Y c := by
  rw [rms_at]
  simp only [h]
  rfl

theorem hid_row (y : V S512x1024 .f32) (g : V S1x1024 .f32) (sc sh : V S1x1x1x1x1024 .f32) (r : Fin 512) (R : Fin 8192)
    (hy : ∀ c, y (ix2 r c) = D.mix R c) (hg : ∀ c, g (ix2 0 c) = D.g c) (hsc : ∀ c, sc (ix5 0 0 0 0 c) = D.sc R c)
    (hsh : ∀ c, sh (ix5 0 0 0 0 c) = D.sh R c) (c : Fin 1024) :
    hidT y g sc sh (ix2 r c) = D.hid R c := by
  rw [hid_at, rms_row y (D.mix R) r hy, hg, hsc, hsh]
  rfl

theorem out_row (o : V S512x1024 .f32) (gt : V S1x1x1x1x1024 .f32) (act : V S512x2816 .bf16) (wd : V S1x2816x1024 .bf16)
    (r : Fin 512) (R : Fin 8192) (ho : ∀ c, o (ix2 r c) = D.mix R c) (hgt : ∀ c, gt (ix5 0 0 0 0 c) = D.gt R c)
    (ha : ∀ f, act (ix2 r f) = D.act R f) (hw : ∀ f c, wd (ix3 0 f c) = D.wd f c) (c : Fin 1024) :
    outT o gt act wd (ix2 r c) = D.out R c := by
  rw [out_at, ho, hgt]
  unfold ConvFfn.Data.out
  refine congrArg (fun z => _ + _ * z) (Finset.sum_congr rfl fun k _ => ?_)
  rw [ha, hw]

theorem fin_row (y : V S512x1024 .f32) (gf : V S1x1024 .f32) (r : Fin 512) (R : Fin 8192)
    (hy : ∀ c, y (ix2 r c) = D.out R c) (hg : ∀ c, gf (ix2 0 c) = D.gf c) (c : Fin 1024) :
    finT y gf (ix2 r c) = D.result R c := by
  rw [fin_at, rms_row y (D.out R) r hy, hg]
  rfl

end Cert.FfnLatIdeal.Mix

end
-- ==== Proof.FfnLatWords.lean ====
/-
The latent stream's mixing and ConvFFN call over one tile of rows: the scratch buffers and the stored tile as the
call's mathematics.
-/
module

public import proofs.«01_k».proof.Proof.FfnLatCore
public import Idealize.ShloMosaic.Lib.WholeRead

@[expose] public section

set_option maxRecDepth 65536

noncomputable section

open Idealize.ShloMosaic Idealize.ShloMosaic.TcCoe Idealize.SL.Sem

namespace Cert.FfnLatIdeal.Mix

open Cert.FfnLatIdeal Cert.FfnLatIdeal.Gen

local notation "V" => FVec Idealize.ShloMosaic.Ideal

/-- The rectangle `B` of a whole buffer holding `X`. -/
abbrev rd {s : Shape} {e : EltTy} {sp : Space} {a : Memref sig .tc sp s e} (h : a.IsWhole) (X : s.Idx → Elt Ideal e) (B : LoadRect s) :=
  View.readAt (Elt Ideal) a.view B (h.unread X)

@[simp] abbrev L0 : LoadRect S1024x1024 := (Rect.unit (s := S1024x1024) ![0, 0] S512x1024.size inb_S1024x1024_S512x1024_0_0).toLoadRect
@[simp] abbrev L1 : LoadRect S1024x1024 := (Rect.unit (s := S1024x1024) ![0, 0] S1024x1024.size inb_S1024x1024_S1024x1024_0_0).toLoadRect
@[simp] abbrev L2 : LoadRect S1x1x1x1x1024 := (Rect.unit (s := S1x1x1x1x1024) ![0, 0, 0, 0, 0] S1x1x1x1x1024.size inb_S1x1x1x1x1024_S1x1x1x1x1024_0_0_0_0_0).toLoadRect
@[simp] abbrev L3 : LoadRect S1x1024 := (Rect.unit (s := S1x1024) ![0, 0] S1x1024.size inb_S1x1024_S1x1024_0_0).toLoadRect
@[simp] abbrev L4 : LoadRect S1024x1024 := (Rect.unit (s := S1024x1024) ![512, 0] S512x1024.size inb_S1024x1024_S512x1024_512_0).toLoadRect
@[simp] abbrev L11 : LoadRect S1x2816x1024 := (Rect.unit (s := S1x2816x1024) ![0, 0, 0] S1x2816x1024.size inb_S1x2816x1024_S1x2816x1024_0_0_0).toLoadRect

/-- A load out of a whole buffer holding `X` reads the entry of `X` it points at. -/
theorem read_val {s : Shape} {e : EltTy} {sp : Space} {a : Memref sig .tc sp s e} (h : a.IsWhole)
    (X : s.Idx → Elt Ideal e) (B : LoadRect s) (x : B.shape.Idx) (i : s.Idx) {v : Elt Ideal e}
    (hi : B.idx x = i) (hv : X i = v) : View.readAt (Elt Ideal) a.view B (h.unread X) x = v := by
  rw [Memref.IsWhole.readAt_unread, hi, hv]

/-- At an index the last write holds, the buffer holds that write's value. -/
theorem canon_top {s : Shape} {e : EltTy} (r : Rect s) (w : r.shape.Idx → Elt Ideal e)
    (L : List (View.Piece (Elt Ideal) s e)) (y : s.Idx) (x : r.shape.Idx)
    (hx : ∀ a, (y a).val = r.off a + r.stride a * (x a).val) : View.canon (⟨r, w⟩ :: L) y = w x := by
  rw [← Rect.emb_eq_of_coords r x y hx, View.canon_cons_emb]

variable {D : ConvFfn.Data} {t : Fin cfg0.N}
variable (c : Dev nD) (arg1 : Memref sig .tc .vmem S1024x1024 .f32) (harg1 : arg1.IsWhole) (arg2 : Memref sig .tc .vmem S1x1x1x1x1024 .f32)
  (harg2 : arg2.IsWhole) (arg3 : Memref sig .tc .vmem S1x1024 .f32) (harg3 : arg3.IsWhole)
  (arg4 : Memref sig .tc .vmem S1x1x1x1x1024 .f32) (harg4 : arg4.IsWhole) (arg5 : Memref sig .tc .vmem S1x1x1x1x1024 .f32)
  (harg5 : arg5.IsWhole) (arg6 : Memref sig .tc .vmem S1x1x1x1x1024 .f32) (harg6 : arg6.IsWhole)
  (arg7 : Memref sig .tc .vmem S1024x1024 .bf16) (harg7 : arg7.IsWhole) (arg8 : Memref sig .tc .vmem S1024x1024 .bf16)
  (harg8 : arg8.IsWhole) (arg9 : Memref sig .tc .vmem S1x1024x5632 .bf16) (harg9 : arg9.IsWhole)
  (arg10 : Memref sig .tc .vmem S1x3x5632 .f32) (harg10 : arg10.IsWhole) (arg11 : Memref sig .tc .vmem S1x1x5632 .f32)
  (harg11 : arg11.IsWhole) (arg12 : Memref sig .tc .vmem S1x2816x1024 .bf16) (harg12 : arg12.IsWhole)
  (arg13 : Memref sig .tc .vmem S1x1024 .f32) (harg13 : arg13.IsWhole) (arg14 : Memref sig .tc .vmem S1024x1024 .f32)
  (harg14 : arg14.IsWhole) (arg15 : Memref sig .tc .vmem S1024x2816 .bf16) (harg15 : arg15.IsWhole)
  (arg16 : Memref sig .tc .vmem S1024x1024 .bf16) (harg16 : arg16.IsWhole)
  (x0 : V S1024x1024 .f32) (x1 : V S1x1x1x1x1024 .f32) (x2 : V S1x1024 .f32) (x3 x4 x5 : V S1x1x1x1x1024 .f32)
  (x6 : V S1024x1024 .bf16) (x7 : V S1024x1024 .bf16) (x8 : V S1x1024x5632 .bf16) (x9 : V S1x3x5632 .f32)
  (x10 : V S1x1x5632 .f32) (x11 : V S1x2816x1024 .bf16) (x12 : V S1x1024 .f32)

/-- The stream after the attention, the first half of a tile. -/
theorem mix_lo (H : Blocks D t x0 x1 x2 x3 x4 x5 x6 x7 x8 x9 x10 x11 x12) (r : Fin 512) (k : Fin 1024) :
    mixT (rd harg7 x6 L0) (rd harg8 x7 L1) (rd harg1 x0 L0) (rd harg2 x1 L2) (ix2 r k) = D.mix (row t ⟨r, by omega⟩) k := by
  refine mix_row _ _ _ _ r _ (fun k => ?_) (fun k c => ?_) (fun c => ?_) (fun c => ?_) k
  · exact read_val harg7 x6 _ _ (ix2 ⟨r, by omega⟩ k) (by blk_ext [] <;> simp [LoadRect.idx, Rect.toLoadRect, Rect.idx_unit_val]) (H.att _ _)
  · exact read_val harg8 x7 _ _ (ix2 k c) (by blk_ext [] <;> simp [LoadRect.idx, Rect.toLoadRect, Rect.idx_unit_val]) (H.w _ _)
  · exact read_val harg1 x0 _ _ (ix2 ⟨r, by omega⟩ c) (by blk_ext [] <;> simp [LoadRect.idx, Rect.toLoadRect, Rect.idx_unit_val]) (H.x _ _)
  · exact read_val harg2 x1 _ _ (ix5 0 0 0 0 c) (by blk_ext [] <;> simp [LoadRect.idx, Rect.toLoadRect, Rect.idx_unit_val]) (H.gm _ _)

/-- The modulated norm, the first half of a tile. -/
theorem hid_lo (H : Blocks D t x0 x1 x2 x3 x4 x5 x6 x7 x8 x9 x10 x11 x12) (r : Fin 512) (k : Fin 1024) :
    hidT (mixT (rd harg7 x6 L0) (rd harg8 x7 L1) (rd harg1 x0 L0) (rd harg2 x1 L2)) (rd harg3 x2 L3) (rd harg4 x3 L2) (rd harg5 x4 L2) (ix2 r k) = D.hid (row t ⟨r, by omega⟩) k := by
  refine hid_row _ _ _ _ r _ (fun c => ?_) (fun c => ?_) (fun c => ?_) (fun c => ?_) k
  · exact mix_lo arg1 harg1 arg2 harg2 arg7 harg7 arg8 harg8 x0 x1 x2 x3 x4 x5 x6 x7 x8 x9 x10 x11 x12 H r c
  · exact read_val harg3 x2 _ _ (ix2 0 c) (by blk_ext [] <;> simp [LoadRect.idx, Rect.toLoadRect, Rect.idx_unit_val]) (H.g _)
  · exact read_val harg4 x3 _ _ (ix5 0 0 0 0 c) (by blk_ext [] <;> simp [LoadRect.idx, Rect.toLoadRect, Rect.idx_unit_val]) (H.sc _ _)
  · exact read_val harg5 x4 _ _ (ix5 0 0 0 0 c) (by blk_ext [] <;> simp [LoadRect.idx, Rect.toLoadRect, Rect.idx_unit_val]) (H.sh _ _)

/-- The stream after the attention, the second half of a tile. -/
theorem mix_hi (H : Blocks D t x0 x1 x2 x3 x4 x5 x6 x7 x8 x9 x10 x11 x12) (r : Fin 512) (k : Fin 1024) :
    mixT (rd harg7 x6 L4) (rd harg8 x7 L1) (rd harg1 x0 L4) (rd harg2 x1 L2) (ix2 r k) = D.mix (row t ⟨512 + r, by omega⟩) k := by
  refine mix_row _ _ _ _ r _ (fun k => ?_) (fun k c => ?_) (fun c => ?_) (fun c => ?_) k
  · exact read_val harg7 x6 _ _ (ix2 ⟨512 + r, by omega⟩ k) (by blk_ext [] <;> simp [LoadRect.idx, Rect.toLoadRect, Rect.idx_unit_val]) (H.att _ _)
  · exact read_val harg8 x7 _ _ (ix2 k c) (by blk_ext [] <;> simp [LoadRect.idx, Rect.toLoadRect, Rect.idx_unit_val]) (H.w _ _)
  · exact read_val harg1 x0 _ _ (ix2 ⟨512 + r, by omega⟩ c) (by blk_ext [] <;> simp [LoadRect.idx, Rect.toLoadRect, Rect.idx_unit_val]) (H.x _ _)
  · exact read_val harg2 x1 _ _ (ix5 0 0 0 0 c) (by blk_ext [] <;> simp [LoadRect.idx, Rect.toLoadRect, Rect.idx_unit_val]) (H.gm _ _)

/-- The modulated norm, the second half of a tile. -/
theorem hid_hi (H : Blocks D t x0 x1 x2 x3 x4 x5 x6 x7 x8 x9 x10 x11 x12) (r : Fin 512) (k : Fin 1024) :
    hidT (mixT (rd harg7 x6 L4) (rd harg8 x7 L1) (rd harg1 x0 L4) (rd harg2 x1 L2)) (rd harg3 x2 L3) (rd harg4 x3 L2) (rd harg5 x4 L2) (ix2 r k) = D.hid (row t ⟨512 + r, by omega⟩) k := by
  refine hid_row _ _ _ _ r _ (fun c => ?_) (fun c => ?_) (fun c => ?_) (fun c => ?_) k
  · exact mix_hi arg1 harg1 arg2 harg2 arg7 harg7 arg8 harg8 x0 x1 x2 x3 x4 x5 x6 x7 x8 x9 x10 x11 x12 H r c
  · exact read_val harg3 x2 _ _ (ix2 0 c) (by blk_ext [] <;> simp [LoadRect.idx, Rect.toLoadRect, Rect.idx_unit_val]) (H.g _)
  · exact read_val harg4 x3 _ _ (ix5 0 0 0 0 c) (by blk_ext [] <;> simp [LoadRect.idx, Rect.toLoadRect, Rect.idx_unit_val]) (H.sc _ _)
  · exact read_val harg5 x4 _ _ (ix5 0 0 0 0 c) (by blk_ext [] <;> simp [LoadRect.idx, Rect.toLoadRect, Rect.idx_unit_val]) (H.sh _ _)

/-- The rows the first scratch buffer holds. -/
theorem hid_buf (H : Blocks D t x0 x1 x2 x3 x4 x5 x6 x7 x8 x9 x10 x11 x12) (y : S1024x1024.Idx) :
    View.canon (s := S1024x1024) (e := EltTy.bf16) (kernelRun0_A.sl.HS1_2 (F := Ideal) c arg1 harg1 arg2 harg2 arg3 harg3 arg4 harg4 arg5 harg5 arg7 harg7 arg8 harg8 x0 x1 x2 x3 x4 x6 x7) y = D.hid (row t (y 0)) (y 1) := by
  unfold kernelRun0_A.sl.HS1_2
  canon_tiles x h
  · refine (congrArg (hidT (mixT (rd harg7 x6 L4) (rd harg8 x7 L1) (rd harg1 x0 L4) (rd harg2 x1 L2)) (rd harg3 x2 L3) (rd harg4 x3 L2) (rd harg5 x4 L2)) (Idealize.ShloMosaic.eq_ix2 x)).trans ((hid_hi arg1 harg1 arg2 harg2 arg3 harg3 arg4 harg4 arg5 harg5 arg7 harg7 arg8 harg8 x0 x1 x2 x3 x4 x5 x6 x7 x8 x9 x10 x11 x12 H (x 0) (x 1)).trans ?_)
    exact congrArg₂ (fun a b => D.hid (row t a) b) (Fin.ext h0.symm) (Fin.ext h1.symm)
  · refine (congrArg (hidT (mixT (rd harg7 x6 L0) (rd harg8 x7 L1) (rd harg1 x0 L0) (rd harg2 x1 L2)) (rd harg3 x2 L3) (rd harg4 x3 L2) (rd harg5 x4 L2)) (Idealize.ShloMosaic.eq_ix2 x)).trans ((hid_lo arg1 harg1 arg2 harg2 arg3 harg3 arg4 harg4 arg5 harg5 arg7 harg7 arg8 harg8 x0 x1 x2 x3 x4 x5 x6 x7 x8 x9 x10 x11 x12 H (x 0) (x 1)).trans ?_)
    exact congrArg₂ (fun a b => D.hid (row t a) b) (Fin.ext (by rw [h0])) (Fin.ext h1.symm)

/-- The rows the up products read. -/
theorem hid_word (H : Blocks D t x0 x1 x2 x3 x4 x5 x6 x7 x8 x9 x10 x11 x12) (r k : Fin 1024) :
    (kernelRun0_A.sl.v82 (F := Ideal) c arg1 harg1 arg2 harg2 arg3 harg3 arg4 harg4 arg5 harg5 arg7 harg7 arg8 harg8 arg16 x0 x1 x2 x3 x4 x6 x7) (ix2 r k) = D.hid (row t r) k := by
  unfold kernelRun0_A.sl.v82
  rw [View.readCov_eq_canon']
  refine (hid_buf c arg1 harg1 arg2 harg2 arg3 harg3 arg4 harg4 arg5 harg5 arg7 harg7 arg8 harg8 x0 x1 x2 x3 x4 x5 x6 x7 x8 x9 x10 x11 x12 H _).trans (congrArg₂ (fun a b => D.hid (row t a) b) (Fin.ext ?_) (Fin.ext ?_)) <;>
    simp [LoadRect.idx, Rect.toLoadRect, Rect.idx_unit_val]

/-- The gated unit's 256 columns from `o` on, its two halves lying `o` and `u` columns in. -/
theorem act_at (H : Blocks D t x0 x1 x2 x3 x4 x5 x6 x7 x8 x9 x10 x11 x12) (o u : ℕ) (ho : o + 256 ≤ 2816) (hu : u = 2816 + o)
    (i1 : ∀ a, (![0, 0, o] : Fin 3 → ℕ) a + S1x1024x256.size a ≤ S1x1024x5632.size a) (i1u : ∀ a, (![0, 0, u] : Fin 3 → ℕ) a + S1x1024x256.size a ≤ S1x1024x5632.size a)
    (i2 : ∀ a, (![0, 0, o] : Fin 3 → ℕ) a + S1x3x256.size a ≤ S1x3x5632.size a) (i2u : ∀ a, (![0, 0, u] : Fin 3 → ℕ) a + S1x3x256.size a ≤ S1x3x5632.size a)
    (i3 : ∀ a, (![0, 0, o] : Fin 3 → ℕ) a + S1x1x256.size a ≤ S1x1x5632.size a) (i3u : ∀ a, (![0, 0, u] : Fin 3 → ℕ) a + S1x1x256.size a ≤ S1x1x5632.size a)
    (x : S1024x256.Idx) :
    actT (kernelRun0_A.sl.v82 (F := Ideal) c arg1 harg1 arg2 harg2 arg3 harg3 arg4 harg4 arg5 harg5 arg7 harg7 arg8 harg8 arg16 x0 x1 x2 x3 x4 x6 x7) (rd harg9 x8 (Rect.unit (s := S1x1024x5632) ![0, 0, o] S1x1024x256.size i1).toLoadRect) (rd harg9 x8 (Rect.unit (s := S1x1024x5632) ![0, 0, u] S1x1024x256.size i1u).toLoadRect) (rd harg10 x9 (Rect.unit (s := S1x3x5632) ![0, 0, o] S1x3x256.size i2).toLoadRect) (rd harg10 x9 (Rect.unit (s := S1x3x5632) ![0, 0, u] S1x3x256.size i2u).toLoadRect) (rd harg11 x10 (Rect.unit (s := S1x1x5632) ![0, 0, o] S1x1x256.size i3).toLoadRect) (rd harg11 x10 (Rect.unit (s := S1x1x5632) ![0, 0, u] S1x1x256.size i3u).toLoadRect) x =
      D.act (row t (x 0)) ⟨o + (x 1).val, Nat.lt_of_lt_of_le (Nat.add_lt_add_left (x 1).isLt o) ho⟩ := by
  have hq : (x 1).val < 256 := (x 1).isLt
  refine (congrArg _ (Idealize.ShloMosaic.eq_ix2 x)).trans ?_
  generalize x 1 = q at hq ⊢
  refine act_row H.n _ _ _ _ _ _ _ ⟨o + q.val, by omega⟩ q (fun r k => ?_) (fun k => ?_) (fun k => ?_) (fun j => ?_) (fun j => ?_) ?_ ?_ (x 0)
  · exact hid_word c arg1 harg1 arg2 harg2 arg3 harg3 arg4 harg4 arg5 harg5 arg7 harg7 arg8 harg8 arg16 x0 x1 x2 x3 x4 x5 x6 x7 x8 x9 x10 x11 x12 H r k
  · exact read_val harg9 x8 _ _ (ix3 0 k ⟨o + q.val, by omega⟩) (by blk_ext [] <;> simp [LoadRect.idx, Rect.toLoadRect, Rect.idx_unit_val] <;> omega) (H.wu _ _)
  · exact read_val harg9 x8 _ _ (ix3 0 k ⟨2816 + (o + q.val), by omega⟩) (by blk_ext [] <;> simp [LoadRect.idx, Rect.toLoadRect, Rect.idx_unit_val] <;> omega) (H.wu _ _)
  · exact read_val harg10 x9 _ _ (ix3 0 j ⟨o + q.val, by omega⟩) (by blk_ext [] <;> simp [LoadRect.idx, Rect.toLoadRect, Rect.idx_unit_val] <;> omega) (H.cw _ _)
  · exact read_val harg10 x9 _ _ (ix3 0 j ⟨2816 + (o + q.val), by omega⟩) (by blk_ext [] <;> simp [LoadRect.idx, Rect.toLoadRect, Rect.idx_unit_val] <;> omega) (H.cw _ _)
  · exact read_val harg11 x10 _ _ (ix3 0 0 ⟨o + q.val, by omega⟩) (by blk_ext [] <;> simp [LoadRect.idx, Rect.toLoadRect, Rect.idx_unit_val] <;> omega) (H.cb _)
  · exact read_val harg11 x10 _ _ (ix3 0 0 ⟨2816 + (o + q.val), by omega⟩) (by blk_ext [] <;> simp [LoadRect.idx, Rect.toLoadRect, Rect.idx_unit_val] <;> omega) (H.cb _)

/-- The gated unit the second scratch buffer holds. -/
theorem act_buf (H : Blocks D t x0 x1 x2 x3 x4 x5 x6 x7 x8 x9 x10 x11 x12) (y : S1024x2816.Idx) :
    View.canon (s := S1024x2816) (e := EltTy.bf16) (kernelRun0_A.sl.HS0_11 (F := Ideal) c arg1 harg1 arg2 harg2 arg3 harg3 arg4 harg4 arg5 harg5 arg7 harg7 arg8 harg8 arg9 harg9 arg10 harg10 arg11 harg11 arg16 x0 x1 x2 x3 x4 x6 x7 x8 x9 x10) y = D.act (row t (y 0)) (y 1) := by
  unfold kernelRun0_A.sl.HS0_11
  canon_tiles x h
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 2560 5376 (by decide) rfl inb_S1x1024x5632_S1x1024x256_0_0_2560 inb_S1x1024x5632_S1x1024x256_0_0_5376 inb_S1x3x5632_S1x3x256_0_0_2560 inb_S1x3x5632_S1x3x256_0_0_5376 inb_S1x1x5632_S1x1x256_0_0_2560 inb_S1x1x5632_S1x1x256_0_0_5376 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 2304 5120 (by decide) rfl inb_S1x1024x5632_S1x1024x256_0_0_2304 inb_S1x1024x5632_S1x1024x256_0_0_5120 inb_S1x3x5632_S1x3x256_0_0_2304 inb_S1x3x5632_S1x3x256_0_0_5120 inb_S1x1x5632_S1x1x256_0_0_2304 inb_S1x1x5632_S1x1x256_0_0_5120 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 2048 4864 (by decide) rfl inb_S1x1024x5632_S1x1024x256_0_0_2048 inb_S1x1024x5632_S1x1024x256_0_0_4864 inb_S1x3x5632_S1x3x256_0_0_2048 inb_S1x3x5632_S1x3x256_0_0_4864 inb_S1x1x5632_S1x1x256_0_0_2048 inb_S1x1x5632_S1x1x256_0_0_4864 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 1792 4608 (by decide) rfl inb_S1x1024x5632_S1x1024x256_0_0_1792 inb_S1x1024x5632_S1x1024x256_0_0_4608 inb_S1x3x5632_S1x3x256_0_0_1792 inb_S1x3x5632_S1x3x256_0_0_4608 inb_S1x1x5632_S1x1x256_0_0_1792 inb_S1x1x5632_S1x1x256_0_0_4608 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 1536 4352 (by decide) rfl inb_S1x1024x5632_S1x1024x256_0_0_1536 inb_S1x1024x5632_S1x1024x256_0_0_4352 inb_S1x3x5632_S1x3x256_0_0_1536 inb_S1x3x5632_S1x3x256_0_0_4352 inb_S1x1x5632_S1x1x256_0_0_1536 inb_S1x1x5632_S1x1x256_0_0_4352 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 1280 4096 (by decide) rfl inb_S1x1024x5632_S1x1024x256_0_0_1280 inb_S1x1024x5632_S1x1024x256_0_0_4096 inb_S1x3x5632_S1x3x256_0_0_1280 inb_S1x3x5632_S1x3x256_0_0_4096 inb_S1x1x5632_S1x1x256_0_0_1280 inb_S1x1x5632_S1x1x256_0_0_4096 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 1024 3840 (by decide) rfl inb_S1x1024x5632_S1x1024x256_0_0_1024 inb_S1x1024x5632_S1x1024x256_0_0_3840 inb_S1x3x5632_S1x3x256_0_0_1024 inb_S1x3x5632_S1x3x256_0_0_3840 inb_S1x1x5632_S1x1x256_0_0_1024 inb_S1x1x5632_S1x1x256_0_0_3840 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 768 3584 (by decide) rfl inb_S1x1024x5632_S1x1024x256_0_0_768 inb_S1x1024x5632_S1x1024x256_0_0_3584 inb_S1x3x5632_S1x3x256_0_0_768 inb_S1x3x5632_S1x3x256_0_0_3584 inb_S1x1x5632_S1x1x256_0_0_768 inb_S1x1x5632_S1x1x256_0_0_3584 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 512 3328 (by decide) rfl inb_S1x1024x5632_S1x1024x256_0_0_512 inb_S1x1024x5632_S1x1024x256_0_0_3328 inb_S1x3x5632_S1x3x256_0_0_512 inb_S1x3x5632_S1x3x256_0_0_3328 inb_S1x1x5632_S1x1x256_0_0_512 inb_S1x1x5632_S1x1x256_0_0_3328 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 256 3072 (by decide) rfl inb_S1x1024x5632_S1x1024x256_0_0_256 inb_S1x1024x5632_S1x1024x256_0_0_3072 inb_S1x3x5632_S1x3x256_0_0_256 inb_S1x3x5632_S1x3x256_0_0_3072 inb_S1x1x5632_S1x1x256_0_0_256 inb_S1x1x5632_S1x1x256_0_0_3072 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H 0 2816 (by decide) rfl inb_S1x1024x5632_S1x1024x256_0_0_0 inb_S1x1024x5632_S1x1024x256_0_0_2816 inb_S1x3x5632_S1x3x256_0_0_0 inb_S1x3x5632_S1x3x256_0_0_2816 inb_S1x1x5632_S1x1x256_0_0_0 inb_S1x1x5632_S1x1x256_0_0_2816 x).trans ?_
    exact congrArg₂ (fun a b => D.act (row t a) b) (Fin.ext h0.symm) (Fin.ext (by rw [h1]; simp))

theorem act_lo (H : Blocks D t x0 x1 x2 x3 x4 x5 x6 x7 x8 x9 x10 x11 x12) (r : Fin 512) (f : Fin 2816) :
    (kernelRun0_A.sl.v1087 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (ix2 r f) = D.act (row t ⟨r, by omega⟩) f := by
  unfold kernelRun0_A.sl.v1087
  rw [View.readCov_eq_canon']
  refine (act_buf c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H _).trans (congrArg₂ (fun a b => D.act (row t a) b) (Fin.ext ?_) (Fin.ext ?_)) <;>
    simp [LoadRect.idx, Rect.toLoadRect, Rect.idx_unit_val]

theorem act_hi (H : Blocks D t x0 x1 x2 x3 x4 x5 x6 x7 x8 x9 x10 x11 x12) (r : Fin 512) (f : Fin 2816) :
    (kernelRun0_A.sl.v1113 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (ix2 r f) = D.act (row t ⟨512 + r, by omega⟩) f := by
  unfold kernelRun0_A.sl.v1113
  rw [View.readCov_eq_canon']
  refine (act_buf c arg1 harg1 arg2 harg2 arg3 harg3 arg4 harg4 arg5 harg5 arg7 harg7 arg8 harg8 arg9 harg9 arg10 harg10 arg11 harg11 arg16 x0 x1 x2 x3 x4 x5 x6 x7 x8 x9 x10 x11 x12 H _).trans (congrArg₂ (fun a b => D.act (row t a) b) (Fin.ext ?_) (Fin.ext ?_)) <;>
    simp [LoadRect.idx, Rect.toLoadRect, Rect.idx_unit_val]

/-- The mixed rows the result's buffer holds before the results. -/
theorem mix_buf (H : Blocks D t x0 x1 x2 x3 x4 x5 x6 x7 x8 x9 x10 x11 x12) (y : S1024x1024.Idx) :
    View.canon (s := S1024x1024) (e := EltTy.f32) (kernelRun0_A.sl.H13_2 (F := Ideal) c arg1 harg1 arg2 harg2 arg7 harg7 arg8 harg8 x0 x1 x6 x7) y = D.mix (row t (y 0)) (y 1) := by
  unfold kernelRun0_A.sl.H13_2
  canon_tiles x h
  · refine (congrArg (mixT (rd harg7 x6 L4) (rd harg8 x7 L1) (rd harg1 x0 L4) (rd harg2 x1 L2)) (Idealize.ShloMosaic.eq_ix2 x)).trans ((mix_hi arg1 harg1 arg2 harg2 arg7 harg7 arg8 harg8 x0 x1 x2 x3 x4 x5 x6 x7 x8 x9 x10 x11 x12 H (x 0) (x 1)).trans ?_)
    exact congrArg₂ (fun a b => D.mix (row t a) b) (Fin.ext h0.symm) (Fin.ext h1.symm)
  · refine (congrArg (mixT (rd harg7 x6 L0) (rd harg8 x7 L1) (rd harg1 x0 L0) (rd harg2 x1 L2)) (Idealize.ShloMosaic.eq_ix2 x)).trans ((mix_lo arg1 harg1 arg2 harg2 arg7 harg7 arg8 harg8 x0 x1 x2 x3 x4 x5 x6 x7 x8 x9 x10 x11 x12 H (x 0) (x 1)).trans ?_)
    exact congrArg₂ (fun a b => D.mix (row t a) b) (Fin.ext (by rw [h0])) (Fin.ext h1.symm)

theorem mixed_lo (H : Blocks D t x0 x1 x2 x3 x4 x5 x6 x7 x8 x9 x10 x11 x12) (r : Fin 512) (k : Fin 1024) :
    (kernelRun0_A.sl.v1083 (F := Ideal) c arg1 harg1 arg2 harg2 arg7 harg7 arg8 harg8 arg14 x0 x1 x6 x7) (ix2 r k) = D.mix (row t ⟨r, by omega⟩) k := by
  unfold kernelRun0_A.sl.v1083
  rw [View.readCov_eq_canon']
  refine (mix_buf c arg1 harg1 arg2 harg2 arg7 harg7 arg8 harg8 x0 x1 x2 x3 x4 x5 x6 x7 x8 x9 x10 x11 x12 H _).trans (congrArg₂ (fun a b => D.mix (row t a) b) (Fin.ext ?_) (Fin.ext ?_)) <;>
    simp [LoadRect.idx, Rect.toLoadRect, Rect.idx_unit_val]

theorem mixed_hi (H : Blocks D t x0 x1 x2 x3 x4 x5 x6 x7 x8 x9 x10 x11 x12) (r : Fin 512) (k : Fin 1024) :
    (kernelRun0_A.sl.v1109 (F := Ideal) c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12) (ix2 r k) = D.mix (row t ⟨512 + r, by omega⟩) k := by
  unfold kernelRun0_A.sl.v1109
  rw [View.readCov_eq_canon']
  unfold kernelRun0_A.sl.H13_3
  refine (View.canon_cons_of_not_mem _ _ ?_).trans ((mix_buf c arg1 harg1 arg2 harg2 arg7 harg7 arg8 harg8 x0 x1 x2 x3 x4 x5 x6 x7 x8 x9 x10 x11 x12 H _).trans (congrArg₂ (fun a b => D.mix (row t a) b) (Fin.ext ?_) (Fin.ext ?_)))
  · refine Rect.not_mem_set_of_axis _ _ 0 0 512 rfl rfl rfl (Or.inr ?_)
    simp [LoadRect.idx, Rect.toLoadRect, Rect.idx_unit_val]
  all_goals simp [LoadRect.idx, Rect.toLoadRect, Rect.idx_unit_val]

/-- The results, the first half of a tile. -/
theorem res_lo (H : Blocks D t x0 x1 x2 x3 x4 x5 x6 x7 x8 x9 x10 x11 x12) (r : Fin 512) (k : Fin 1024) :
    finT (outT (kernelRun0_A.sl.v1083 (F := Ideal) c arg1 harg1 arg2 harg2 arg7 harg7 arg8 harg8 arg14 x0 x1 x6 x7) (rd harg6 x5 L2) (kernelRun0_A.sl.v1087 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (rd harg12 x11 L11)) (rd harg13 x12 L3) (ix2 r k) = D.result (row t ⟨r, by omega⟩) k := by
  refine fin_row _ _ r _ (fun c' => out_row _ _ _ _ r _ (fun c' => ?_) (fun c' => ?_) (fun f => ?_) (fun f c' => ?_) c') (fun c' => ?_) k
  · exact mixed_lo c arg1 harg1 arg2 harg2 arg7 harg7 arg8 harg8 arg14 x0 x1 x2 x3 x4 x5 x6 x7 x8 x9 x10 x11 x12 H r c'
  · exact read_val harg6 x5 _ _ (ix5 0 0 0 0 c') (by blk_ext [] <;> simp [LoadRect.idx, Rect.toLoadRect, Rect.idx_unit_val]) (H.gt _ _)
  · exact act_lo c arg1 harg1 arg2 harg2 arg3 harg3 arg4 harg4 arg5 harg5 arg7 harg7 arg8 harg8 arg9 harg9 arg10 harg10 arg11 harg11 arg15 arg16 x0 x1 x2 x3 x4 x5 x6 x7 x8 x9 x10 x11 x12 H r f
  · exact read_val harg12 x11 _ _ (ix3 0 f c') (by blk_ext [] <;> simp [LoadRect.idx, Rect.toLoadRect, Rect.idx_unit_val]) (H.wd _ _)
  · exact read_val harg13 x12 _ _ (ix2 0 c') (by blk_ext [] <;> simp [LoadRect.idx, Rect.toLoadRect, Rect.idx_unit_val]) (H.gf _)

/-- The results, the second half of a tile. -/
theorem res_hi (H : Blocks D t x0 x1 x2 x3 x4 x5 x6 x7 x8 x9 x10 x11 x12) (r : Fin 512) (k : Fin 1024) :
    finT (outT (kernelRun0_A.sl.v1109 (F := Ideal) c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12) (rd harg6 x5 L2) (kernelRun0_A.sl.v1113 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (rd harg12 x11 L11)) (rd harg13 x12 L3) (ix2 r k) = D.result (row t ⟨512 + r, by omega⟩) k := by
  refine fin_row _ _ r _ (fun c' => out_row _ _ _ _ r _ (fun c' => ?_) (fun c' => ?_) (fun f => ?_) (fun f c' => ?_) c') (fun c' => ?_) k
  · exact mixed_hi c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12 H r c'
  · exact read_val harg6 x5 _ _ (ix5 0 0 0 0 c') (by blk_ext [] <;> simp [LoadRect.idx, Rect.toLoadRect, Rect.idx_unit_val]) (H.gt _ _)
  · exact act_hi c arg1 harg1 arg2 harg2 arg3 harg3 arg4 harg4 arg5 harg5 arg7 harg7 arg8 harg8 arg9 harg9 arg10 harg10 arg11 harg11 arg15 arg16 x0 x1 x2 x3 x4 x5 x6 x7 x8 x9 x10 x11 x12 H r f
  · exact read_val harg12 x11 _ _ (ix3 0 f c') (by blk_ext [] <;> simp [LoadRect.idx, Rect.toLoadRect, Rect.idx_unit_val]) (H.wd _ _)
  · exact read_val harg13 x12 _ _ (ix2 0 c') (by blk_ext [] <;> simp [LoadRect.idx, Rect.toLoadRect, Rect.idx_unit_val]) (H.gf _)

/-- The tile the run stores. -/
theorem tile (i : grid0.Coords) (H : Blocks D t x0 x1 x2 x3 x4 x5 x6 x7 x8 x9 x10 x11 x12) (y : S1024x1024.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 y = D.result (row t (y 0)) (y 1) := by
  unfold out0_A_13
  rw [View.read_writes_junk_eq_canon]
  unfold kernelRun0_A
  dsimp only
  have hy0 : (y 0).val < 1024 := (y 0).isLt
  have hy1 : (y 1).val < 1024 := (y 1).isLt
  by_cases hy : (y 0).val < 512
  · refine (View.canon_cons_of_not_mem _ _ (Rect.not_mem_set_of_axis _ y 0 512 512 rfl rfl rfl (Or.inl hy))).trans ?_
    unfold kernelRun0_A.sl.H13_3
    refine (canon_top _ _ _ y (ix2 (⟨(y 0).val, hy⟩ : Fin 512) (⟨(y 1).val, hy1⟩ : Fin 1024)) (fun a => ?_)).trans
      ?_
    · fin_cases a <;> simp
    unfold kernelRun0_A.sl.r_83
    refine (show _ = finT (outT (kernelRun0_A.sl.v1083 (F := Ideal) c arg1 harg1 arg2 harg2 arg7 harg7 arg8 harg8 arg14 x0 x1 x6 x7) (rd harg6 x5 L2) (kernelRun0_A.sl.v1087 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (rd harg12 x11 L11)) (rd harg13 x12 L3) (ix2 _ _) from rfl).trans ((res_lo c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12 H _ _).trans ?_)
    exact congrArg₂ (fun a b => D.result (row t a) b) rfl rfl
  · refine (canon_top _ _ _ y (ix2 (⟨(y 0).val - 512, by omega⟩ : Fin 512) (⟨(y 1).val, hy1⟩ : Fin 1024)) (fun a => ?_)).trans
      ?_
    · fin_cases a <;> simp
      omega
    unfold kernelRun0_A.sl.r_84 kernelRun0_A.sl.r_85 kernelRun0_A.sl.r_86
    refine (show _ = finT (outT (kernelRun0_A.sl.v1109 (F := Ideal) c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12) (rd harg6 x5 L2) (kernelRun0_A.sl.v1113 (F := Ideal) c arg1 harg1 arg2 harg2 arg3 harg3 arg4 harg4 arg5 harg5 arg7 harg7 arg8 harg8 arg9 harg9 arg10 harg10 arg11 harg11 arg15 arg16 x0 x1 x2 x3 x4 x6 x7 x8 x9 x10) (rd harg12 x11 L11)) (rd harg13 x12 L3) (ix2 _ _) from rfl).trans ((res_hi c arg1 harg1 arg2 harg2 arg3 harg3 arg4 harg4 arg5 harg5 arg6 harg6 arg7 harg7 arg8 harg8 arg9 harg9 arg10 harg10 arg11 harg11 arg12 harg12 arg13 harg13 arg14 arg15 arg16 x0 x1 x2 x3 x4 x5 x6 x7 x8 x9 x10 x11 x12 H _ _).trans ?_)
    exact congrArg₂ (fun a b => D.result (row t a) b) (Fin.ext (by simp only; omega)) rfl

end Cert.FfnLatIdeal.Mix

end
-- ==== Proof.FfnLatReference.lean ====
/-
The reference of the latent stream's mixing and ConvFFN call, read at a row and a column: the call's mathematics.
-/
module

public import proofs.«01_k».proof.Proof.Gen.FfnLatRefIdeal.Read
public import proofs.«01_k».proof.Proof.FfnLatBlocks
public import Idealize.ShloMosaic.Lib.Pointwise

@[expose] public section

set_option maxRecDepth 16384

noncomputable section

open Idealize.ShloMosaic Idealize.ShloMosaic.TcCoe Idealize.SL.Sem

namespace Cert.FfnLatRefIdeal.Rows

open Cert.FfnLatRefIdeal Cert.FfnLatRefIdeal.Gen Cert.FfnLatRefIdeal.Read

local notation "V" => FVec Idealize.ShloMosaic.Ideal

variable (x a : V S8x1024x1024 .f32) (m : V S8x6144 .f32) (w : V S1024x1024 .f32) (g : V S2x1024 .f32) (gf : V S1024 .f32)
  (wu : V S2x1024x5632 .f32) (cw : V S2x3x5632 .f32) (cb : V S2x5632 .f32) (wd : V S2x2816x1024 .f32)

/-- The row of the stream a position of a sequence is. -/
def at' (b : Fin 8) (p : Fin 1024) : Fin 8192 := ⟨b.val * 1024 + p.val, by omega⟩

theorem div_at (b : Fin 8) (p : Fin 1024) (h : (at' b p : ℕ) / 1024 < 8) : (⟨(at' b p : ℕ) / 1024, h⟩ : Fin 8) = b :=
  Fin.ext (by simp only [at']; omega)

theorem mod_at (b : Fin 8) (p : Fin 1024) (h : (at' b p : ℕ) % 1024 < 1024) : (⟨(at' b p : ℕ) % 1024, h⟩ : Fin 1024) = p :=
  Fin.ext (by simp only [at']; omega)

theorem mix_at (b : Fin 8) (p : Fin 1024) (c : Fin 1024) :
    val_main_v10 (F := Ideal) x a m w (ix3 b p c) = (Cert.FfnLatIdeal.Mix.data x a m w g gf wu cw cb wd).mix (at' b p) c := by
  unfold ConvFfn.Data.mix Cert.FfnLatIdeal.Mix.data
  simp only [div_at, mod_at]
  pointwise [val_main_v10, val_main_v9, val_main_v8, val_main_v7, val_main_v3, val_main_v0]

theorem sum_at (y : V S8x1024x1024 .f32) (hy : val_main_v10 (F := Ideal) x a m w = y) (b : Fin 8) (p : Fin 1024) :
    val_main_v14 (F := Ideal) x a m w (ix2 b p) = ∑ k : Fin 1024, y (ix3 b p k) * y (ix3 b p k) := by
  pointwise [val_main_v14, val_main_v13, val_main_cst, hy]

theorem rms_at (y : V S8x1024x1024 .f32) (hy : val_main_v10 (F := Ideal) x a m w = y) (b : Fin 8) (p : Fin 1024) (c : Fin 1024) :
    val_main_v22 (F := Ideal) x a m w (ix3 b p c) = ConvFfn.rms (fun k => y (ix3 b p k)) c := by
  unfold ConvFfn.rms
  rw [← sum_at x a m w y hy b p]
  generalize hs : val_main_v14 (F := Ideal) x a m w = s
  pointwise [val_main_v22, val_main_v21, val_main_v20, val_main_v19, val_main_v18, val_main_cst_1, val_main_v17, val_main_v16,
    val_main_cst_0, val_main_v15, hs, hy]

theorem hid_at (b : Fin 8) (p : Fin 1024) (c : Fin 1024) :
    val_main_v31 (F := Ideal) x a m w g (ix3 b p c) = (Cert.FfnLatIdeal.Mix.data x a m w g gf wu cw cb wd).hid (at' b p) c := by
  unfold ConvFfn.Data.hid
  have hr := rms_at x a m w _ rfl b p c
  simp only [mix_at x a m w g gf wu cw cb wd] at hr
  rw [← hr]
  unfold Cert.FfnLatIdeal.Mix.data
  simp only [div_at, mod_at]
  generalize hs : val_main_v22 (F := Ideal) x a m w = s
  pointwise [val_main_v31, val_main_v30, val_main_v4, val_main_v0, val_main_v29, val_main_v28, val_main_v27, val_main_v26,
    val_main_cst_2, val_main_v5, val_main_v25, val_main_v24, val_main_v23, val_main_v12, val_main_v11, hs]

theorem up_at (b : Fin 8) (p : Fin 1024) (f : Fin 5632) :
    val_main_v40 (F := Ideal) x a m w g wu (ix3 b p f) = (Cert.FfnLatIdeal.Mix.data x a m w g gf wu cw cb wd).up (at' b p) f := by
  unfold ConvFfn.Data.up
  simp only [← hid_at x a m w g gf wu cw cb wd]
  unfold Cert.FfnLatIdeal.Mix.data
  simp only [div_at, mod_at]
  generalize hs : val_main_v31 (F := Ideal) x a m w g = s
  pointwise [val_main_v40, val_main_v33, val_main_v32, hs]

theorem pad_at (u : V S8x1024x5632 .f32) (hu : val_main_v40 (F := Ideal) x a m w g wu = u) (b : Fin 8) (p : Fin 1026) (f : Fin 5632) :
    val_main_v41 (F := Ideal) x a m w g wu (ix3 b p f)
      = if h : 1 ≤ (p : ℕ) ∧ (p : ℕ) - 1 < 1024 then u (ix3 b ⟨(p : ℕ) - 1, by omega⟩ f) else 0 := by
  pointwise [val_main_v41, val_main_call0_v0, val_main_c, hu]
  split_ifs with h
  · rfl
  · simp [FloatOps.sitofp]

theorem conv_at (b : Fin 8) (p : Fin 1024) (f : Fin 5632) :
    val_main_v64 (F := Ideal) x a m w g wu cw cb (ix3 b p f) = (Cert.FfnLatIdeal.Mix.data x a m w g gf wu cw cb wd).conv (at' b p) f := by
  have hp := pad_at x a m w g wu _ rfl
  unfold ConvFfn.Data.conv ConvFfn.Data.prev ConvFfn.Data.next
  generalize hs : val_main_v41 (F := Ideal) x a m w g wu = s at hp
  pointwise [val_main_v64, val_main_v63, val_main_v62, val_main_v61, val_main_v60, val_main_v59, val_main_v58, val_main_v57,
    val_main_v56, val_main_v55, val_main_v54, val_main_v53, val_main_v52, val_main_v51, val_main_v50, val_main_v49,
    val_main_v48, val_main_v47, val_main_v46, val_main_v45, val_main_v44, val_main_v43, val_main_v42, val_main_v37,
    val_main_v36, val_main_v35, val_main_v34, hs]
  have hn : (Cert.FfnLatIdeal.Mix.data x a m w g gf wu cw cb wd).n = 1024 := rfl
  have hr : (at' b p : ℕ) = b.val * 1024 + p.val := rfl
  rw [hn]
  refine congrArg₂ (· + ·) (congrArg₂ (· + ·) (congrArg₂ (· + ·) (congrArg (· * _) ?_) (congrArg (· * _) ?_)) (congrArg (· * _) ?_)) rfl
  · rw [hp]
    by_cases h : (p : ℕ) = 0
    · rw [dif_neg (by simp only; omega), if_pos (by omega)]
    · rw [dif_pos (by simp only; omega), if_neg (by omega), up_at x a m w g gf wu cw cb wd]
      refine congrArg (fun R => (Cert.FfnLatIdeal.Mix.data x a m w g gf wu cw cb wd).up R f) (Fin.ext ?_)
      simp only [at']
      omega
  · rw [hp, dif_pos (by simp only; omega), up_at x a m w g gf wu cw cb wd]
    refine congrArg (fun R => (Cert.FfnLatIdeal.Mix.data x a m w g gf wu cw cb wd).up R f) (Fin.ext ?_)
    simp only [at']
    omega
  · rw [hp]
    by_cases h : (p : ℕ) = 1024 - 1
    · rw [dif_neg (by simp only; omega), if_pos (by omega)]
    · rw [dif_pos (by simp only; omega), if_neg (by omega), up_at x a m w g gf wu cw cb wd]
      refine congrArg (fun R => (Cert.FfnLatIdeal.Mix.data x a m w g gf wu cw cb wd).up R f) (Fin.ext ?_)
      simp only [at']
      omega

theorem act_at (b : Fin 8) (p : Fin 1024) (f : Fin 2816) :
    val_main_v68 (F := Ideal) x a m w g wu cw cb (ix3 b p f) = (Cert.FfnLatIdeal.Mix.data x a m w g gf wu cw cb wd).act (at' b p) f := by
  unfold ConvFfn.Data.act
  simp only [← conv_at x a m w g gf wu cw cb wd]
  generalize hs : val_main_v64 (F := Ideal) x a m w g wu cw cb = s
  pointwise [val_main_v68, val_main_v67, val_main_v66, val_main_v65, val_main_call1_v5, val_main_call1_v4, val_main_call1_v3,
    val_main_call1_v2, val_main_call1_v1, val_main_call1_v0, val_main_call1_cst, val_main_call1_cst_0, hs]

theorem out_at (b : Fin 8) (p : Fin 1024) (c : Fin 1024) :
    val_main_v72 (F := Ideal) x a m w g wu cw cb wd (ix3 b p c) = (Cert.FfnLatIdeal.Mix.data x a m w g gf wu cw cb wd).out (at' b p) c := by
  unfold ConvFfn.Data.out
  simp only [← act_at x a m w g gf wu cw cb wd, ← mix_at x a m w g gf wu cw cb wd]
  unfold Cert.FfnLatIdeal.Mix.data
  simp only [div_at, mod_at]
  generalize hs : val_main_v68 (F := Ideal) x a m w g wu cw cb = s
  generalize hy : val_main_v10 (F := Ideal) x a m w = y
  pointwise [val_main_v72, val_main_v71, val_main_v70, val_main_v69, val_main_v39, val_main_v38, val_main_v6, val_main_v0, hs, hy]

theorem sum2_at (y : V S8x1024x1024 .f32) (hy : val_main_v72 (F := Ideal) x a m w g wu cw cb wd = y) (b : Fin 8) (p : Fin 1024) :
    val_main_v74 (F := Ideal) x a m w g wu cw cb wd (ix2 b p) = ∑ k : Fin 1024, y (ix3 b p k) * y (ix3 b p k) := by
  pointwise [val_main_v74, val_main_v73, val_main_cst_3, hy]

theorem rms2_at (y : V S8x1024x1024 .f32) (hy : val_main_v72 (F := Ideal) x a m w g wu cw cb wd = y) (b : Fin 8) (p : Fin 1024)
    (c : Fin 1024) :
    val_main_v82 (F := Ideal) x a m w g wu cw cb wd (ix3 b p c) = ConvFfn.rms (fun k => y (ix3 b p k)) c := by
  unfold ConvFfn.rms
  rw [← sum2_at x a m w g wu cw cb wd y hy b p]
  generalize hs : val_main_v74 (F := Ideal) x a m w g wu cw cb wd = s
  pointwise [val_main_v82, val_main_v81, val_main_v80, val_main_v79, val_main_v78, val_main_cst_5, val_main_v77, val_main_v76,
    val_main_cst_4, val_main_v75, hs, hy]

theorem result_at (R : Fin 8192) (c : Fin 1024) :
    val_main_v86 (F := Ideal) x a m w g gf wu cw cb wd (ix2 R c) = (Cert.FfnLatIdeal.Mix.data x a m w g gf wu cw cb wd).result R c := by
  have hR : at' ⟨R / 1024, by omega⟩ ⟨R % 1024, by omega⟩ = R := Fin.ext (by simp only [at']; omega)
  unfold ConvFfn.Data.result
  have hr := rms2_at x a m w g wu cw cb wd _ rfl ⟨R / 1024, by omega⟩ ⟨R % 1024, by omega⟩ c
  simp only [out_at x a m w g gf wu cw cb wd, hR] at hr
  rw [← hr]
  unfold Cert.FfnLatIdeal.Mix.data
  generalize hs : val_main_v82 (F := Ideal) x a m w g wu cw cb wd = s
  pointwise [val_main_v86, val_main_v85, val_main_v84, val_main_v83, hs]

end Cert.FfnLatRefIdeal.Rows

end
-- ==== Proof.FfnLatValue.lean ====
/-
The latent stream's mixing and ConvFFN call: its result array after the run is the reference's.
-/
module

public import proofs.«01_k».proof.Proof.FfnLatWords
public import proofs.«01_k».proof.Proof.FfnLatReference

@[expose] public section

set_option maxRecDepth 16384

noncomputable section

open Idealize.ShloMosaic Idealize.ShloMosaic.TcCoe Idealize.SL.Sem
open Idealize.ShloMosaic.Pipeline (Dat)

namespace Cert.FfnLatIdeal.Mix

open Cert.FfnLatIdeal Cert.FfnLatIdeal.Gen

variable (m : (ℓ : Loc nD τ sig) → Buf (Elt Ideal) ℓ)

/-- The reference's result over the kernel's argument arrays. -/
abbrev ref (c : Dev nD) : FVec Ideal S8192x1024 .f32 :=
  Cert.FfnLatRefIdeal.Read.val_main_v86 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9))

/-- The blocks of a grid point hold the rows of its tile. -/
theorem blocks (c : Dev nD) (t : Fin cfg0.N) :
    Blocks (dat m c) t (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) where
  x := x_at m c t
  gm := gm_at m c t
  g := g_at m c t
  sc := sc_at m c t
  sh := sh_at m c t
  gt := gt_at m c t
  att := att_at m c t
  w := w_at m c t
  wu := wu_at m c t
  cw := cw_at m c t
  cb := cb_at m c t
  wd := wd_at m c t
  gf := gf_at m c t
  n := rfl

/-- One row and column of the reference's result. -/
theorem ref_at (c : Dev nD) (R : Fin 8192) (k : Fin 1024) : ref m c (ix2 R k) = (dat m c).result R k :=
  Cert.FfnLatRefIdeal.Rows.result_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) R k

theorem final (c : Dev nD) : (dats m 0 c).arrAt 13 (cfgs 0).N = ref m c := by
  refine (dats m 0 c).arrAt_eq_of_covers 13 _ (by decide +kernel) fun t _ y => ?_
  blk_simp
  rw [after0_13]
  unfold outsAt0
  refine (tile c _ _ _ _ _ _ _ _ _ _ _ _ _ _ _ _ _ _ _ _ _ _ _ _ _ _ _ _ _ _ _ _ _ _ _ _ _ _ _ _ _ _ _ _ _ _ (blocks m c t) y).trans
    ((ref_at m c (row t (y 0)) (y 1)).symm.trans (congrArg (ref m c) ?_))
  have h8 := lt8 t
  blk_ext [idx t]
  rfl

end Cert.FfnLatIdeal.Mix

end
-- ==== Proof.MidPieces.lean ====
/-
The context stream's first mixing and ConvFFN call, one operation group at a time: the vector operations the stored values
are made of, and what each holds at an index.
-/
module

public import proofs.«01_k».proof.Proof.Gen.MidIdeal.Skeleton
public import Idealize.ShloMosaic.Lib.Pipeline.ValueKit

@[expose] public section

set_option maxRecDepth 16384

noncomputable section

open Idealize.ShloMosaic Idealize.ShloMosaic.TcCoe Idealize.SL.Sem

namespace Cert.MidIdeal.Mix

open Cert.MidIdeal Cert.MidIdeal.Gen

local notation "V" => FVec Idealize.ShloMosaic.Ideal

/-- The residual stream plus its gated projection of the retention's and the attention's heads. -/
def mixT (a : V S512x1024 .bf16) (b : V S512x512 .bf16) (w : V S1024x1024 .bf16) (u : V S512x1024 .bf16)
    (x : V S512x1024 .f32) (gm : V S1x1x1x1x1024 .f32) : V S512x1024 .f32 :=
  addf (shapeCast S512x1024 x shapeCasts_S512x1024_S512x1024)
    (mulf (broadcastTo S512x1024 (shapeCast S1x1024 gm shapeCasts_S1x1x1x1x1024_S1x1024) broadcasts_S1x1024_S512x1024)
      (addf (matmul dot_S512x1024_S1024x1024_S512x1024_1_0_0_1_n_n none
          (shapeCast S512x1024 a shapeCasts_S512x1024_S512x1024) (shapeCast S1024x1024 w shapeCasts_S1024x1024_S1024x1024)
          (constant S512x1024 .f32 0x00000000#32))
        (matmul dot_S512x512_S512x1024_S512x1024_1_0_0_1_n_n none
          (shapeCast S512x512 b shapeCasts_S512x512_S512x512) (shapeCast S512x1024 u shapeCasts_S512x1024_S512x1024)
          (constant S512x1024 .f32 0x00000000#32))))

theorem mix_at (a : V S512x1024 .bf16) (b : V S512x512 .bf16) (w : V S1024x1024 .bf16) (u : V S512x1024 .bf16)
    (x : V S512x1024 .f32) (gm : V S1x1x1x1x1024 .f32) (r : Fin 512) (c : Fin 1024) :
    mixT a b w u x gm (ix2 r c) = x (ix2 r c) + gm (ix5 0 0 0 0 c)
      * (∑ k : Fin 1024, a (ix2 r k) * w (ix2 k c) + ∑ k : Fin 512, b (ix2 r k) * u (ix2 k c)) := by
  pointwise [mixT]

/-- A row divided by the root of its mean square. -/
def rmsT (y : V S512x1024 .f32) : V S512x1024 .f32 :=
  mulf y (broadcastTo S512x1024
    (rsqrt (addf (divf (shapeCast S512x1
        (multiReduction .add [1] S512 (mulf y y) 0x00000000#32 reduces_S512x1024_S512 (.inl rfl) rfl) shapeCasts_S512_S512x1)
      (broadcast S512x1 (Scalar.ofBits .f32 0x44800000#32 : Idealize.ShloMosaic.Ideal .f32)))
      (broadcast S512x1 (Scalar.ofBits .f32 0x358637BD#32 : Idealize.ShloMosaic.Ideal .f32))))
    broadcasts_S512x1_S512x1024)

theorem rms_at (y : V S512x1024 .f32) (r : Fin 512) (c : Fin 1024) :
    rmsT y (ix2 r c) = y (ix2 r c) * Ideal.rsqrt (Ideal.div (∑ k : Fin 1024, y (ix2 r k) * y (ix2 r k))
      (Ideal.ofBits FTy.f32 1149239296#32) + Ideal.ofBits FTy.f32 897988541#32) := by
  pointwise [rmsT]

/-- The normalised row with its gain, scale and shift. -/
def hidT (y : V S512x1024 .f32) (g : V S1x1024 .f32) (sc sh : V S1x1x1x1x1024 .f32) : V S512x1024 .bf16 :=
  shapeCast S512x1024 (truncf .bf16 (addf (mulf
      (mulf (rmsT y) (broadcastTo S512x1024 (shapeCast S1x1024 g shapeCasts_S1x1024_S1x1024) broadcasts_S1x1024_S512x1024))
      (broadcastTo S512x1024 (addf (broadcast S1x1024 (Scalar.ofBits .f32 0x3F800000#32 : Idealize.ShloMosaic.Ideal .f32))
        (shapeCast S1x1024 sc shapeCasts_S1x1x1x1x1024_S1x1024)) broadcasts_S1x1024_S512x1024))
      (broadcastTo S512x1024 (shapeCast S1x1024 sh shapeCasts_S1x1x1x1x1024_S1x1024) broadcasts_S1x1024_S512x1024))
      bitsLt_bf16_f32) shapeCasts_S512x1024_S512x1024

theorem hid_at (y : V S512x1024 .f32) (g : V S1x1024 .f32) (sc sh : V S1x1x1x1x1024 .f32) (r : Fin 512) (c : Fin 1024) :
    hidT y g sc sh (ix2 r c)
      = rmsT y (ix2 r c) * g (ix2 0 c) * (1 + sc (ix5 0 0 0 0 c)) + sh (ix5 0 0 0 0 c) := by
  generalize h : rmsT y = z
  pointwise [hidT, h]

/-- The gated ConvFFN product added to the stream. -/
def outT (o : V S512x1024 .f32) (gt : V S1x1x1x1x1024 .f32) (act : V S512x2816 .bf16) (wd : V S1x2816x1024 .bf16) :
    V S512x1024 .f32 :=
  addf (shapeCast S512x1024 o shapeCasts_S512x1024_S512x1024)
    (mulf (broadcastTo S512x1024 (shapeCast S1x1024 gt shapeCasts_S1x1x1x1x1024_S1x1024) broadcasts_S1x1024_S512x1024)
      (matmul dot_S512x2816_S2816x1024_S512x1024_1_0_0_1_n_n none act
        (shapeCast S2816x1024 wd shapeCasts_S1x2816x1024_S2816x1024) (constant S512x1024 .f32 0x00000000#32)))

theorem out_at (o : V S512x1024 .f32) (gt : V S1x1x1x1x1024 .f32) (act : V S512x2816 .bf16)
    (wd : V S1x2816x1024 .bf16) (r : Fin 512) (c : Fin 1024) :
    outT o gt act wd (ix2 r c)
      = o (ix2 r c) + gt (ix5 0 0 0 0 c) * ∑ f : Fin 2816, act (ix2 r f) * wd (ix3 0 f c) := by
  pointwise [outT]

/-- 256 columns of the up product. -/
def upT (hb : V S1024x1024 .bf16) (w : V S1x1024x256 .bf16) : V S1024x256 .f32 :=
  matmul dot_S1024x1024_S1024x256_S1024x256_1_0_0_1_n_n none hb
    (shapeCast S1024x256 w shapeCasts_S1x1024x256_S1024x256) (constant S1024x256 .f32 0x00000000#32)

theorem up_at (hb : V S1024x1024 .bf16) (w : V S1x1024x256 .bf16) (r : Fin 1024) (q : Fin 256) :
    upT hb w (ix2 r q) = ∑ k : Fin 1024, hb (ix2 r k) * w (ix3 0 k q) := by
  pointwise [upT]

/-- Eight rows with row `n` set to zero. -/
def maskT (n : BitVec 32) (s : V S8x256 .f32) : V S8x256 .f32 :=
  select (cmpi .eq (iota .tc S8x256 32 [0] iota_S8x256_d0_w32) (broadcast S8x256 n))
    (broadcast S8x256 (Scalar.ofBits .f32 0x00000000#32 : Idealize.ShloMosaic.Ideal .f32)) s

theorem mask_first (s : V S8x256 .f32) (r : Fin 8) (q : Fin 256) :
    maskT 0#32 s (ix2 r q) = if (r : ℕ) = 0 then 0 else s (ix2 r q) := by
  pointwise [maskT]
  fin_cases r <;> rfl

theorem mask_last (s : V S8x256 .f32) (r : Fin 8) (q : Fin 256) :
    maskT 7#32 s (ix2 r q) = if (r : ℕ) = 7 then 0 else s (ix2 r q) := by
  pointwise [maskT]
  fin_cases r <;> rfl

/-- The rows moved down by one, the last in front. -/
def downT (u : V S1024x256 .f32) : V S1024x256 .f32 := dynamicRotate 0 1#32 none u rotates_S1024x256_d0

/-- The rows moved up by one, the first at the end. -/
def riseT (u : V S1024x256 .f32) : V S1024x256 .f32 := dynamicRotate 0 1023#32 none u rotates_S1024x256_d0

theorem down_at (u : V S1024x256 .f32) (r : Fin 1024) (q : Fin 256) :
    downT u (ix2 r q) = u (ix2 ⟨((r : ℕ) + 1023) % 1024, by omega⟩ q) := by
  pointwise [downT]
  simp only [show (r : ℕ) + 1024 - 1 = (r : ℕ) + 1023 by omega]

theorem rise_at (u : V S1024x256 .f32) (r : Fin 1024) (q : Fin 256) :
    riseT u (ix2 r q) = u (ix2 ⟨((r : ℕ) + 1) % 1024, by omega⟩ q) := by
  pointwise [riseT]
  simp only [show (r : ℕ) + 1024 - 1023 = (r : ℕ) + 1 by omega]

/-- The rows before, with zeros in front of each sequence of 256 rows: `u` is the block moved down by one. -/
def prevT (u : V S1024x256 .f32) : V S1024x256 .f32 :=
  concatenate S1024x256 0 [
    ⟨S8x256, maskT 0#32 (extractStridedSlice S8x256 ![0, 0] u slices_S1024x256_o0_0_S8x256)⟩,
    ⟨S248x256, extractStridedSlice S248x256 ![8, 0] u slices_S1024x256_o8_0_S248x256⟩,
    ⟨S8x256, maskT 0#32 (extractStridedSlice S8x256 ![256, 0] u slices_S1024x256_o256_0_S8x256)⟩,
    ⟨S248x256, extractStridedSlice S248x256 ![264, 0] u slices_S1024x256_o264_0_S248x256⟩,
    ⟨S8x256, maskT 0#32 (extractStridedSlice S8x256 ![512, 0] u slices_S1024x256_o512_0_S8x256)⟩,
    ⟨S248x256, extractStridedSlice S248x256 ![520, 0] u slices_S1024x256_o520_0_S248x256⟩,
    ⟨S8x256, maskT 0#32 (extractStridedSlice S8x256 ![768, 0] u slices_S1024x256_o768_0_S8x256)⟩,
    ⟨S248x256, extractStridedSlice S248x256 ![776, 0] u slices_S1024x256_o776_0_S248x256⟩]
    concatenates_S8x256_S248x256_S8x256_S248x256_S8x256_S248x256_S8x256_S248x256_S1024x256_d0

/-- The rows after, with zeros at the end of each sequence of 256 rows: `u` is the block moved up by one. -/
def nextT (u : V S1024x256 .f32) : V S1024x256 .f32 :=
  concatenate S1024x256 0 [
    ⟨S248x256, extractStridedSlice S248x256 ![0, 0] u slices_S1024x256_o0_0_S248x256⟩,
    ⟨S8x256, maskT 7#32 (extractStridedSlice S8x256 ![248, 0] u slices_S1024x256_o248_0_S8x256)⟩,
    ⟨S248x256, extractStridedSlice S248x256 ![256, 0] u slices_S1024x256_o256_0_S248x256⟩,
    ⟨S8x256, maskT 7#32 (extractStridedSlice S8x256 ![504, 0] u slices_S1024x256_o504_0_S8x256)⟩,
    ⟨S248x256, extractStridedSlice S248x256 ![512, 0] u slices_S1024x256_o512_0_S248x256⟩,
    ⟨S8x256, maskT 7#32 (extractStridedSlice S8x256 ![760, 0] u slices_S1024x256_o760_0_S8x256)⟩,
    ⟨S248x256, extractStridedSlice S248x256 ![768, 0] u slices_S1024x256_o768_0_S248x256⟩,
    ⟨S8x256, maskT 7#32 (extractStridedSlice S8x256 ![1016, 0] u slices_S1024x256_o1016_0_S8x256)⟩]
    concatenates_S248x256_S8x256_S248x256_S8x256_S248x256_S8x256_S248x256_S8x256_S1024x256_d0

set_option maxHeartbeats 1600000 in
theorem prev_at (u : V S1024x256 .f32) (r : Fin 1024) (q : Fin 256) :
    prevT u (ix2 r q) = if (r : ℕ) % 256 = 0 then 0 else u (ix2 r q) := by
  by_cases hr : (r : ℕ) % 256 = 0
  case' pos => rw [if_pos hr]
  case' neg => rw [if_neg hr]
  all_goals pointwise [prevT, mask_first]
  all_goals split_ifs <;> first
    | rfl
    | (exfalso; omega)
    | (refine congrArg (fun z : Fin 1024 => u (ix2 z q)) (Fin.ext ?_); dsimp only; omega)

set_option maxHeartbeats 1600000 in
theorem next_at (u : V S1024x256 .f32) (r : Fin 1024) (q : Fin 256) :
    nextT u (ix2 r q) = if (r : ℕ) % 256 = 255 then 0 else u (ix2 r q) := by
  by_cases hr : (r : ℕ) % 256 = 255
  case' pos => rw [if_pos hr]
  case' neg => rw [if_neg hr]
  all_goals pointwise [nextT, mask_last]
  all_goals split_ifs <;> first
    | rfl
    | (exfalso; omega)
    | (refine congrArg (fun z : Fin 1024 => u (ix2 z q)) (Fin.ext ?_); dsimp only; omega)

/-- The convolution of three rows. -/
def convT (u p n : V S1024x256 .f32) (cw : V S1x3x256 .f32) (cb : V S1x1x256 .f32) : V S1024x256 .f32 :=
  addf (addf (addf
      (mulf p (broadcastTo S1024x256 (extractStridedSlice S1x256 ![0, 0]
        (shapeCast S3x256 cw shapeCasts_S1x3x256_S3x256) slices_S3x256_o0_0_S1x256) broadcasts_S1x256_S1024x256))
      (mulf u (broadcastTo S1024x256 (extractStridedSlice S1x256 ![1, 0]
        (shapeCast S3x256 cw shapeCasts_S1x3x256_S3x256) slices_S3x256_o1_0_S1x256) broadcasts_S1x256_S1024x256)))
      (mulf n (broadcastTo S1024x256 (extractStridedSlice S1x256 ![2, 0]
        (shapeCast S3x256 cw shapeCasts_S1x3x256_S3x256) slices_S3x256_o2_0_S1x256) broadcasts_S1x256_S1024x256)))
    (broadcastTo S1024x256 (shapeCast S1x256 cb shapeCasts_S1x1x256_S1x256) broadcasts_S1x256_S1024x256)

theorem conv_at (u p n : V S1024x256 .f32) (cw : V S1x3x256 .f32) (cb : V S1x1x256 .f32) (r : Fin 1024) (q : Fin 256) :
    convT u p n cw cb (ix2 r q) = p (ix2 r q) * cw (ix3 0 0 q) + u (ix2 r q) * cw (ix3 0 1 q)
      + n (ix2 r q) * cw (ix3 0 2 q) + cb (ix3 0 0 q) := by
  pointwise [convT]

/-- The gated unit. -/
def gluT (a g : V S1024x256 .f32) : V S1024x256 .bf16 :=
  shapeCast S1024x256 (truncf .bf16 (mulf (mulf a
    (divf (broadcast S1024x256 (Scalar.ofBits .f32 0x3F800000#32 : Idealize.ShloMosaic.Ideal .f32))
      (addf (broadcast S1024x256 (Scalar.ofBits .f32 0x3F800000#32 : Idealize.ShloMosaic.Ideal .f32))
        (exp (subf (broadcast S1024x256 (Scalar.ofBits .f32 0x00000000#32 : Idealize.ShloMosaic.Ideal .f32)) a))))) g)
    bitsLt_bf16_f32) shapeCasts_S1024x256_S1024x256

theorem glu_at (a g : V S1024x256 .f32) (r : Fin 1024) (q : Fin 256) :
    gluT a g (ix2 r q) = a (ix2 r q) * Ideal.div 1 (1 + Ideal.exp (-a (ix2 r q))) * g (ix2 r q) := by
  pointwise [gluT]
  rw [zero_sub]

end Cert.MidIdeal.Mix

end
-- ==== Proof.MidBlocks.lean ====
/-
The blocks the context stream's first mixing and ConvFFN call reads at a grid point: which entry of which argument each holds.
-/
module

public import proofs.«01_k».proof.Proof.ConvFfn
public import proofs.«01_k».proof.Proof.Gen.MidIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MidIdeal.Mix

open Cert.MidIdeal Cert.MidIdeal.Gen

local notation "V" => FVec Idealize.ShloMosaic.Ideal

/-- What the call reads, out of the argument arrays. -/
def data (x r : V S32x256x1024 .f32) (a : V S32x256x512 .f32) (m : V S1x6144 .f32) (w : V S1536x1024 .f32) (g : V S2x1024 .f32)
    (wu : V S2x1024x5632 .f32) (cw : V S2x3x5632 .f32) (cb : V S2x5632 .f32) (wd : V S2x2816x1024 .f32) : ConvFfn.Data 1536 where
  n := 256
  x R c := x (ix3 ⟨R / 256, by omega⟩ ⟨R % 256, by omega⟩ c)
  att R k := if h : k.val < 1024 then r (ix3 ⟨R / 256, by omega⟩ ⟨R % 256, by omega⟩ ⟨k.val, h⟩)
    else a (ix3 ⟨R / 256, by omega⟩ ⟨R % 256, by omega⟩ ⟨k.val - 1024, by omega⟩)
  gm R c := m (ix2 0 ⟨2048 + c, by omega⟩)
  sh R c := m (ix2 0 ⟨3072 + c, by omega⟩)
  sc R c := m (ix2 0 ⟨4096 + c, by omega⟩)
  gt R c := m (ix2 0 ⟨5120 + c, by omega⟩)
  w k c := w (ix2 k c)
  g c := g (ix2 0 c)
  gf _ := 0
  wu k f := wu (ix3 0 k f)
  cw j f := cw (ix3 0 j f)
  cb f := cb (ix2 0 f)
  wd f c := wd (ix3 0 f c)

variable (m : (ℓ : Loc nD τ sig) → Buf (Elt Ideal) ℓ)

/-- The same, out of the launch memory. -/
abbrev dat (c : Dev nD) : ConvFfn.Data 1536 :=
  data (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9))

/-- Where each window stands at a grid point. -/
theorem idx : ∀ t : Fin cfg0.N, win0_0.index t = ![t.val, 0] ∧ win0_1.index t = ![0, 0, 2, 0, 0] ∧ win0_2.index t = ![0, 0]
    ∧ win0_3.index t = ![0, 0, 4, 0, 0] ∧ win0_4.index t = ![0, 0, 3, 0, 0] ∧ win0_5.index t = ![0, 0, 5, 0, 0]
    ∧ win0_6.index t = ![t.val, 0] ∧ win0_7.index t = ![t.val, 0] ∧ win0_8.index t = ![0, 0] ∧ win0_9.index t = ![0, 0]
    ∧ win0_10.index t = ![0, 0, 0] ∧ win0_11.index t = ![0, 0, 0] ∧ win0_12.index t = ![0, 0, 0]
    ∧ win0_13.index t = ![0, 0, 0] ∧ win0_14.index t = ![t.val, 0] :=
  (by decide +kernel : ∀ t : Fin grid0.N, _)

theorem lt8 (t : Fin cfg0.N) : t.val < 8 := lt_of_lt_of_eq t.isLt (by decide)

/-- The row of the stream a row of a grid point's tile is. -/
def row (t : Fin cfg0.N) (r : Fin 1024) : Fin 8192 := ⟨t.val * 1024 + r.val, by have := lt8 t; omega⟩

theorem x_at (c : Dev nD) (t : Fin cfg0.N) (y : Fin 1024) (x : Fin 1024) :
    (show V S1024x1024 .f32 from iblk m c 0 t) (ix2 y x) = (dat m c).x (row t y) x := by
  unfold dat data row
  blk_simp [iblk, idx t]
  simp only [Gen.V, hostOps0, hostOps0_1, hostOps0_2, List.flatten_cons, List.flatten_nil, List.cons_append, List.nil_append, List.append_nil]
  entry_read
  pointwise
  have h8 := lt8 t
  blk_ext [idx t]

theorem ret_at (c : Dev nD) (t : Fin cfg0.N) (y : Fin 1024) (x : Fin 1024) :
    (show V S1024x1024 .bf16 from iblk m c 6 t) (ix2 y x) = (dat m c).att (row t y) ⟨x.val, by omega⟩ := by
  unfold dat data row
  dsimp only
  rw [dif_pos x.isLt]
  blk_simp [iblk, idx t]
  simp only [Gen.V, hostOps0, hostOps0_1, hostOps0_2, List.flatten_cons, List.flatten_nil, List.cons_append, List.nil_append, List.append_nil]
  entry_read
  pointwise
  have h8 := lt8 t
  blk_ext [idx t]

theorem att_at (c : Dev nD) (t : Fin cfg0.N) (y : Fin 1024) (x : Fin 512) :
    (show V S1024x512 .bf16 from iblk m c 7 t) (ix2 y x) = (dat m c).att (row t y) ⟨1024 + x.val, by omega⟩ := by
  unfold dat data row
  dsimp only
  rw [dif_neg (by omega)]
  blk_simp [iblk, idx t]
  simp only [Gen.V, hostOps0, hostOps0_1, hostOps0_2, List.flatten_cons, List.flatten_nil, List.cons_append, List.nil_append, List.append_nil]
  entry_read
  pointwise
  have h8 := lt8 t
  blk_ext [idx t]

theorem gm_at (c : Dev nD) (t : Fin cfg0.N) (y : Fin 1024) (x : Fin 1024) :
    (show V S1x1x1x1x1024 .f32 from iblk m c 1 t) (ix5 0 0 0 0 x) = (dat m c).gm (row t y) x := by
  unfold dat data
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  rw [dif_pos (by blk_simp [idx t]; omega)]
  blk_ext [idx t]

theorem sc_at (c : Dev nD) (t : Fin cfg0.N) (y : Fin 1024) (x : Fin 1024) :
    (show V S1x1x1x1x1024 .f32 from iblk m c 3 t) (ix5 0 0 0 0 x) = (dat m c).sc (row t y) x := by
  unfold dat data
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  rw [dif_pos (by blk_simp [idx t]; omega)]
  blk_ext [idx t]

theorem sh_at (c : Dev nD) (t : Fin cfg0.N) (y : Fin 1024) (x : Fin 1024) :
    (show V S1x1x1x1x1024 .f32 from iblk m c 4 t) (ix5 0 0 0 0 x) = (dat m c).sh (row t y) x := by
  unfold dat data
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  rw [dif_pos (by blk_simp [idx t]; omega)]
  blk_ext [idx t]

theorem gt_at (c : Dev nD) (t : Fin cfg0.N) (y : Fin 1024) (x : Fin 1024) :
    (show V S1x1x1x1x1024 .f32 from iblk m c 5 t) (ix5 0 0 0 0 x) = (dat m c).gt (row t y) x := by
  unfold dat data
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  rw [dif_pos (by blk_simp [idx t]; omega)]
  blk_ext [idx t]

theorem g_at (c : Dev nD) (t : Fin cfg0.N) (x : Fin 1024) :
    (show V S1x1024 .f32 from iblk m c 2 t) (ix2 0 x) = (dat m c).g x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem w1_at (c : Dev nD) (t : Fin cfg0.N) (k x : Fin 1024) :
    (show V S1024x1024 .bf16 from iblk m c 8 t) (ix2 k x) = (dat m c).w ⟨k.val, by omega⟩ x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem w2_at (c : Dev nD) (t : Fin cfg0.N) (k : Fin 512) (x : Fin 1024) :
    (show V S512x1024 .bf16 from iblk m c 9 t) (ix2 k x) = (dat m c).w ⟨1024 + k.val, by omega⟩ x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem wu_at (c : Dev nD) (t : Fin cfg0.N) (k : Fin 1024) (f : Fin 5632) :
    (show V S1x1024x5632 .bf16 from iblk m c 10 t) (ix3 0 k f) = (dat m c).wu k f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem cw_at (c : Dev nD) (t : Fin cfg0.N) (j : Fin 3) (f : Fin 5632) :
    (show V S1x3x5632 .f32 from iblk m c 11 t) (ix3 0 j f) = (dat m c).cw j f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem cb_at (c : Dev nD) (t : Fin cfg0.N) (f : Fin 5632) :
    (show V S1x1x5632 .f32 from iblk m c 12 t) (ix3 0 0 f) = (dat m c).cb f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem wd_at (c : Dev nD) (t : Fin cfg0.N) (f : Fin 2816) (x : Fin 1024) :
    (show V S1x2816x1024 .bf16 from iblk m c 13 t) (ix3 0 f x) = (dat m c).wd f x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

end Cert.MidIdeal.Mix

end
-- ==== Proof.MidCore.lean ====
/-
The context stream's first mixing and ConvFFN call over one tile of rows: each stored value as the call's mathematics.
-/
module

public import proofs.«01_k».proof.Proof.MidPieces
public import proofs.«01_k».proof.Proof.MidBlocks

@[expose] public section

set_option maxRecDepth 16384

noncomputable section

open Idealize.ShloMosaic Idealize.ShloMosaic.TcCoe Idealize.SL.Sem

namespace Cert.MidIdeal.Mix

open Cert.MidIdeal Cert.MidIdeal.Gen

local notation "V" => FVec Idealize.ShloMosaic.Ideal

variable (D : ConvFfn.Data 1536) (t : Fin cfg0.N)

/-- The blocks of a grid point hold the data's rows of that tile. -/
structure Blocks (x0 : V S1024x1024 .f32) (x1 : V S1x1x1x1x1024 .f32) (x2 : V S1x1024 .f32) (x3 x4 x5 : V S1x1x1x1x1024 .f32)
    (x6 : V S1024x1024 .bf16) (x7 : V S1024x512 .bf16) (x8 : V S1024x1024 .bf16) (x9 : V S512x1024 .bf16)
    (x10 : V S1x1024x5632 .bf16) (x11 : V S1x3x5632 .f32) (x12 : V S1x1x5632 .f32) (x13 : V S1x2816x1024 .bf16) : Prop where
  x : ∀ r c, x0 (ix2 r c) = D.x (row t r) c
  gm : ∀ r c, x1 (ix5 0 0 0 0 c) = D.gm (row t r) c
  g : ∀ c, x2 (ix2 0 c) = D.g c
  sc : ∀ r c, x3 (ix5 0 0 0 0 c) = D.sc (row t r) c
  sh : ∀ r c, x4 (ix5 0 0 0 0 c) = D.sh (row t r) c
  gt : ∀ r c, x5 (ix5 0 0 0 0 c) = D.gt (row t r) c
  ret : ∀ r (k : Fin 1024), x6 (ix2 r k) = D.att (row t r) ⟨k.val, by omega⟩
  att : ∀ r (k : Fin 512), x7 (ix2 r k) = D.att (row t r) ⟨1024 + k.val, by omega⟩
  w1 : ∀ (k : Fin 1024) c, x8 (ix2 k c) = D.w ⟨k.val, by omega⟩ c
  w2 : ∀ (k : Fin 512) c, x9 (ix2 k c) = D.w ⟨1024 + k.val, by omega⟩ c
  wu : ∀ k f, x10 (ix3 0 k f) = D.wu k f
  cw : ∀ j f, x11 (ix3 0 j f) = D.cw j f
  cb : ∀ f, x12 (ix3 0 0 f) = D.cb f
  wd : ∀ f c, x13 (ix3 0 f c) = D.wd f c
  n : D.n = 256

/-- One chunk of the gated unit, out of the modulated rows and the chunk's weights for both halves. -/
def actT (hb : V S1024x1024 .bf16) (wa wg : V S1x1024x256 .bf16) (ca cg : V S1x3x256 .f32) (ba bg : V S1x1x256 .f32) :
    V S1024x256 .bf16 :=
  gluT (convT (upT hb wa) (prevT (downT (upT hb wa))) (nextT (riseT (upT hb wa))) ca ba)
    (convT (upT hb wg) (prevT (downT (upT hb wg))) (nextT (riseT (upT hb wg))) cg bg)

variable {D t}

theorem conv_row (hn : D.n = 256) (hb : V S1024x1024 .bf16) (wa : V S1x1024x256 .bf16) (ca : V S1x3x256 .f32)
    (ba : V S1x1x256 .f32) (f : Fin 5632) (q : Fin 256)
    (h0 : ∀ r k, hb (ix2 r k) = D.hid (row t r) k) (h1 : ∀ k, wa (ix3 0 k q) = D.wu k f)
    (h2 : ∀ j, ca (ix3 0 j q) = D.cw j f) (h3 : ba (ix3 0 0 q) = D.cb f) (r : Fin 1024) :
    convT (upT hb wa) (prevT (downT (upT hb wa))) (nextT (riseT (upT hb wa))) ca ba (ix2 r q) = D.conv (row t r) f := by
  have h8 := lt8 t
  have hup : ∀ s, upT hb wa (ix2 s q) = D.up (row t s) f := fun s => by
    rw [up_at]
    exact Finset.sum_congr rfl fun k _ => by rw [h0, h1]
  rw [conv_at, prev_at, next_at, down_at, rise_at, h2, h2, h2, h3, hup, hup, hup]
  unfold ConvFfn.Data.conv ConvFfn.Data.prev ConvFfn.Data.next
  rw [hn]
  have hr : ((row t r : Fin 8192) : ℕ) = t.val * 1024 + r.val := rfl
  have e1 : (((row t r : Fin 8192) : ℕ) % 256 = 0) = ((r : ℕ) % 256 = 0) := by rw [hr]; apply propext; omega
  have e2 : (((row t r : Fin 8192) : ℕ) % 256 = 256 - 1) = ((r : ℕ) % 256 = 255) := by rw [hr]; apply propext; omega
  simp only [e1, e2]
  refine congrArg (· + _) (congrArg₂ (· + ·) (congrArg (· + _) (congrArg (· * _) ?_)) (congrArg (· * _) ?_))
  · split_ifs with h
    · rfl
    · refine congrArg (fun R => D.up R f) (Fin.ext ?_)
      simp only [row]
      omega
  · split_ifs with h
    · rfl
    · refine congrArg (fun R => D.up R f) (Fin.ext ?_)
      simp only [row]
      omega

theorem act_row (hn : D.n = 256) (hb : V S1024x1024 .bf16) (wa wg : V S1x1024x256 .bf16) (ca cg : V S1x3x256 .f32)
    (ba bg : V S1x1x256 .f32) (f : Fin 2816) (q : Fin 256)
    (h0 : ∀ r k, hb (ix2 r k) = D.hid (row t r) k)
    (ha : ∀ k, wa (ix3 0 k q) = D.wu k ⟨f, by omega⟩) (hg : ∀ k, wg (ix3 0 k q) = D.wu k ⟨2816 + f, by omega⟩)
    (hca : ∀ j, ca (ix3 0 j q) = D.cw j ⟨f, by omega⟩) (hcg : ∀ j, cg (ix3 0 j q) = D.cw j ⟨2816 + f, by omega⟩)
    (hba : ba (ix3 0 0 q) = D.cb ⟨f, by omega⟩) (hbg : bg (ix3 0 0 q) = D.cb ⟨2816 + f, by omega⟩) (r : Fin 1024) :
    actT hb wa wg ca cg ba bg (ix2 r q) = D.act (row t r) f := by
  unfold actT
  rw [glu_at, conv_row hn hb wa ca ba _ q h0 ha hca hba, conv_row hn hb wg cg bg _ q h0 hg hcg hbg]
  rfl

theorem mix_row (a : V S512x1024 .bf16) (b : V S512x512 .bf16) (w : V S1024x1024 .bf16) (u : V S512x1024 .bf16)
    (x : V S512x1024 .f32) (gm : V S1x1x1x1x1024 .f32) (r : Fin 512) (R : Fin 8192)
    (ha : ∀ k : Fin 1024, a (ix2 r k) = D.att R ⟨k.val, by omega⟩) (hb : ∀ k : Fin 512, b (ix2 r k) = D.att R ⟨1024 + k.val, by omega⟩)
    (hw : ∀ (k : Fin 1024) c, w (ix2 k c) = D.w ⟨k.val, by omega⟩ c) (hu : ∀ (k : Fin 512) c, u (ix2 k c) = D.w ⟨1024 + k.val, by omega⟩ c)
    (hx : ∀ c, x (ix2 r c) = D.x R c) (hg : ∀ c, gm (ix5 0 0 0 0 c) = D.gm R c) (c : Fin 1024) :
    mixT a b w u x gm (ix2 r c) = D.mix R c := by
  rw [mix_at, hx, hg]
  unfold ConvFfn.Data.mix
  refine congrArg (fun z => _ + _ * z) (Eq.trans ?_ (Fin.sum_univ_add (a := 1024) (b := 512) fun k => D.att R k * D.w k c).symm)
  refine congrArg₂ (· + ·) (Finset.sum_congr rfl fun k _ => ?_) (Finset.sum_congr rfl fun k _ => ?_)
  · rw [ha, hw]
    rfl
  · rw [hb, hu]
    rfl

theorem rms_row (y : V S512x1024 .f32) (Y : Fin 1024 → EReal) (r : Fin 512) (h : ∀ c, y (ix2 r c) = Y c) (c : Fin 1024) :
    rmsT y (ix2 r c) = ConvFfn.rms Y c := by
  rw [rms_at]
  simp only [h]
  rfl

theorem hid_row (y : V S512x1024 .f32) (g : V S1x1024 .f32) (sc sh : V S1x1x1x1x1024 .f32) (r : Fin 512) (R : Fin 8192)
    (hy : ∀ c, y (ix2 r c) = D.mix R c) (hg : ∀ c, g (ix2 0 c) = D.g c) (hsc : ∀ c, sc (ix5 0 0 0 0 c) = D.sc R c)
    (hsh : ∀ c, sh (ix5 0 0 0 0 c) = D.sh R c) (c : Fin 1024) :
    hidT y g sc sh (ix2 r c) = D.hid R c := by
  rw [hid_at, rms_row y (D.mix R) r hy, hg, hsc, hsh]
  rfl

theorem out_row (o : V S512x1024 .f32) (gt : V S1x1x1x1x1024 .f32) (act : V S512x2816 .bf16) (wd : V S1x2816x1024 .bf16)
    (r : Fin 512) (R : Fin 8192) (ho : ∀ c, o (ix2 r c) = D.mix R c) (hgt : ∀ c, gt (ix5 0 0 0 0 c) = D.gt R c)
    (ha : ∀ f, act (ix2 r f) = D.act R f) (hw : ∀ f c, wd (ix3 0 f c) = D.wd f c) (c : Fin 1024) :
    outT o gt act wd (ix2 r c) = D.out R c := by
  rw [out_at, ho, hgt]
  unfold ConvFfn.Data.out
  refine congrArg (fun z => _ + _ * z) (Finset.sum_congr rfl fun k _ => ?_)
  rw [ha, hw]

end Cert.MidIdeal.Mix

end
-- ==== Proof.MidWords.lean ====
/-
The context stream's first mixing and ConvFFN call over one tile of rows: the scratch buffers and the stored tile as the
call's mathematics.
-/
module

public import proofs.«01_k».proof.Proof.MidCore
public import Idealize.ShloMosaic.Lib.WholeRead

@[expose] public section

set_option maxRecDepth 65536

noncomputable section

open Idealize.ShloMosaic Idealize.ShloMosaic.TcCoe Idealize.SL.Sem

namespace Cert.MidIdeal.Mix

open Cert.MidIdeal Cert.MidIdeal.Gen

local notation "V" => FVec Idealize.ShloMosaic.Ideal

/-- The rectangle `B` of a whole buffer holding `X`. -/
abbrev rd {s : Shape} {e : EltTy} {sp : Space} {a : Memref sig .tc sp s e} (h : a.IsWhole) (X : s.Idx → Elt Ideal e) (B : LoadRect s) :=
  View.readAt (Elt Ideal) a.view B (h.unread X)

@[simp] abbrev L0 : LoadRect S1024x1024 := (Rect.unit (s := S1024x1024) ![0, 0] S512x1024.size inb_S1024x1024_S512x1024_0_0).toLoadRect
@[simp] abbrev L1 : LoadRect S1024x512 := (Rect.unit (s := S1024x512) ![0, 0] S512x512.size inb_S1024x512_S512x512_0_0).toLoadRect
@[simp] abbrev L2 : LoadRect S1024x1024 := (Rect.unit (s := S1024x1024) ![0, 0] S1024x1024.size inb_S1024x1024_S1024x1024_0_0).toLoadRect
@[simp] abbrev L3 : LoadRect S512x1024 := (Rect.unit (s := S512x1024) ![0, 0] S512x1024.size inb_S512x1024_S512x1024_0_0).toLoadRect
@[simp] abbrev L4 : LoadRect S1x1x1x1x1024 := (Rect.unit (s := S1x1x1x1x1024) ![0, 0, 0, 0, 0] S1x1x1x1x1024.size inb_S1x1x1x1x1024_S1x1x1x1x1024_0_0_0_0_0).toLoadRect
@[simp] abbrev L5 : LoadRect S1x1024 := (Rect.unit (s := S1x1024) ![0, 0] S1x1024.size inb_S1x1024_S1x1024_0_0).toLoadRect
@[simp] abbrev L6 : LoadRect S1024x1024 := (Rect.unit (s := S1024x1024) ![512, 0] S512x1024.size inb_S1024x1024_S512x1024_512_0).toLoadRect
@[simp] abbrev L7 : LoadRect S1024x512 := (Rect.unit (s := S1024x512) ![512, 0] S512x512.size inb_S1024x512_S512x512_512_0).toLoadRect
@[simp] abbrev L14 : LoadRect S1x2816x1024 := (Rect.unit (s := S1x2816x1024) ![0, 0, 0] S1x2816x1024.size inb_S1x2816x1024_S1x2816x1024_0_0_0).toLoadRect

/-- A load out of a whole buffer holding `X` reads the entry of `X` it points at. -/
theorem read_val {s : Shape} {e : EltTy} {sp : Space} {a : Memref sig .tc sp s e} (h : a.IsWhole)
    (X : s.Idx → Elt Ideal e) (B : LoadRect s) (x : B.shape.Idx) (i : s.Idx) {v : Elt Ideal e}
    (hi : B.idx x = i) (hv : X i = v) : View.readAt (Elt Ideal) a.view B (h.unread X) x = v := by
  rw [Memref.IsWhole.readAt_unread, hi, hv]

/-- At an index the last write holds, the buffer holds that write's value. -/
theorem canon_top {s : Shape} {e : EltTy} (r : Rect s) (w : r.shape.Idx → Elt Ideal e)
    (L : List (View.Piece (Elt Ideal) s e)) (y : s.Idx) (x : r.shape.Idx)
    (hx : ∀ a, (y a).val = r.off a + r.stride a * (x a).val) : View.canon (⟨r, w⟩ :: L) y = w x := by
  rw [← Rect.emb_eq_of_coords r x y hx, View.canon_cons_emb]

variable {D : ConvFfn.Data 1536} {t : Fin cfg0.N}
variable (c : Dev nD) (arg1 : Memref sig .tc .vmem S1024x1024 .f32) (harg1 : arg1.IsWhole) (arg2 : Memref sig .tc .vmem S1x1x1x1x1024 .f32)
  (harg2 : arg2.IsWhole) (arg3 : Memref sig .tc .vmem S1x1024 .f32) (harg3 : arg3.IsWhole)
  (arg4 : Memref sig .tc .vmem S1x1x1x1x1024 .f32) (harg4 : arg4.IsWhole) (arg5 : Memref sig .tc .vmem S1x1x1x1x1024 .f32)
  (harg5 : arg5.IsWhole) (arg6 : Memref sig .tc .vmem S1x1x1x1x1024 .f32) (harg6 : arg6.IsWhole)
  (arg7 : Memref sig .tc .vmem S1024x1024 .bf16) (harg7 : arg7.IsWhole) (arg8 : Memref sig .tc .vmem S1024x512 .bf16)
  (harg8 : arg8.IsWhole) (arg9 : Memref sig .tc .vmem S1024x1024 .bf16) (harg9 : arg9.IsWhole)
  (arg10 : Memref sig .tc .vmem S512x1024 .bf16) (harg10 : arg10.IsWhole) (arg11 : Memref sig .tc .vmem S1x1024x5632 .bf16)
  (harg11 : arg11.IsWhole) (arg12 : Memref sig .tc .vmem S1x3x5632 .f32) (harg12 : arg12.IsWhole)
  (arg13 : Memref sig .tc .vmem S1x1x5632 .f32) (harg13 : arg13.IsWhole) (arg14 : Memref sig .tc .vmem S1x2816x1024 .bf16)
  (harg14 : arg14.IsWhole) (arg15 : Memref sig .tc .vmem S1024x1024 .f32)
  (harg15 : arg15.IsWhole) (arg16 : Memref sig .tc .vmem S1024x2816 .bf16) (harg16 : arg16.IsWhole)
  (arg17 : Memref sig .tc .vmem S1024x1024 .bf16) (harg17 : arg17.IsWhole)
  (x0 : V S1024x1024 .f32) (x1 : V S1x1x1x1x1024 .f32) (x2 : V S1x1024 .f32) (x3 x4 x5 : V S1x1x1x1x1024 .f32)
  (x6 : V S1024x1024 .bf16) (x7 : V S1024x512 .bf16) (x8 : V S1024x1024 .bf16) (x9 : V S512x1024 .bf16)
  (x10 : V S1x1024x5632 .bf16) (x11 : V S1x3x5632 .f32) (x12 : V S1x1x5632 .f32) (x13 : V S1x2816x1024 .bf16)

/-- The stream after the attention, the first half of a tile. -/
theorem mix_lo (H : Blocks D t x0 x1 x2 x3 x4 x5 x6 x7 x8 x9 x10 x11 x12 x13) (r : Fin 512) (k : Fin 1024) :
    mixT (rd harg7 x6 L0) (rd harg8 x7 L1) (rd harg9 x8 L2) (rd harg10 x9 L3) (rd harg1 x0 L0) (rd harg2 x1 L4) (ix2 r k) = D.mix (row t ⟨r, by omega⟩) k := by
  refine mix_row _ _ _ _ _ _ r _ (fun k => ?_) (fun k => ?_) (fun k c => ?_) (fun k c => ?_) (fun c => ?_) (fun c => ?_) k
  · exact read_val harg7 x6 _ _ (ix2 ⟨r, by omega⟩ k) (by blk_ext [] <;> simp [LoadRect.idx, Rect.toLoadRect, Rect.idx_unit_val]) (H.ret _ _)
  · exact read_val harg8 x7 _ _ (ix2 ⟨r, by omega⟩ k) (by blk_ext [] <;> simp [LoadRect.idx, Rect.toLoadRect, Rect.idx_unit_val]) (H.att _ _)
  · exact read_val harg9 x8 _ _ (ix2 k c) (by blk_ext [] <;> simp [LoadRect.idx, Rect.toLoadRect, Rect.idx_unit_val]) (H.w1 _ _)
  · exact read_val harg10 x9 _ _ (ix2 k c) (by blk_ext [] <;> simp [LoadRect.idx, Rect.toLoadRect, Rect.idx_unit_val]) (H.w2 _ _)
  · exact read_val harg1 x0 _ _ (ix2 ⟨r, by omega⟩ c) (by blk_ext [] <;> simp [LoadRect.idx, Rect.toLoadRect, Rect.idx_unit_val]) (H.x _ _)
  · exact read_val harg2 x1 _ _ (ix5 0 0 0 0 c) (by blk_ext [] <;> simp [LoadRect.idx, Rect.toLoadRect, Rect.idx_unit_val]) (H.gm _ _)

/-- The modulated norm, the first half of a tile. -/
theorem hid_lo (H : Blocks D t x0 x1 x2 x3 x4 x5 x6 x7 x8 x9 x10 x11 x12 x13) (r : Fin 512) (k : Fin 1024) :
    hidT (mixT (rd harg7 x6 L0) (rd harg8 x7 L1) (rd harg9 x8 L2) (rd harg10 x9 L3) (rd harg1 x0 L0) (rd harg2 x1 L4)) (rd harg3 x2 L5) (rd harg4 x3 L4) (rd harg5 x4 L4) (ix2 r k) = D.hid (row t ⟨r, by omega⟩) k := by
  refine hid_row _ _ _ _ r _ (fun c => ?_) (fun c => ?_) (fun c => ?_) (fun c => ?_) k
  · exact mix_lo arg1 harg1 arg2 harg2 arg7 harg7 arg8 harg8 arg9 harg9 arg10 harg10 x0 x1 x2 x3 x4 x5 x6 x7 x8 x9 x10 x11 x12 x13 H r c
  · exact read_val harg3 x2 _ _ (ix2 0 c) (by blk_ext [] <;> simp [LoadRect.idx, Rect.toLoadRect, Rect.idx_unit_val]) (H.g _)
  · exact read_val harg4 x3 _ _ (ix5 0 0 0 0 c) (by blk_ext [] <;> simp [LoadRect.idx, Rect.toLoadRect, Rect.idx_unit_val]) (H.sc _ _)
  · exact read_val harg5 x4 _ _ (ix5 0 0 0 0 c) (by blk_ext [] <;> simp [LoadRect.idx, Rect.toLoadRect, Rect.idx_unit_val]) (H.sh _ _)

/-- The stream after the attention, the second half of a tile. -/
theorem mix_hi (H : Blocks D t x0 x1 x2 x3 x4 x5 x6 x7 x8 x9 x10 x11 x12 x13) (r : Fin 512) (k : Fin 1024) :
    mixT (rd harg7 x6 L6) (rd harg8 x7 L7) (rd harg9 x8 L2) (rd harg10 x9 L3) (rd harg1 x0 L6) (rd harg2 x1 L4) (ix2 r k) = D.mix (row t ⟨512 + r, by omega⟩) k := by
  refine mix_row _ _ _ _ _ _ r _ (fun k => ?_) (fun k => ?_) (fun k c => ?_) (fun k c => ?_) (fun c => ?_) (fun c => ?_) k
  · exact read_val harg7 x6 _ _ (ix2 ⟨512 + r, by omega⟩ k) (by blk_ext [] <;> simp [LoadRect.idx, Rect.toLoadRect, Rect.idx_unit_val]) (H.ret _ _)
  · exact read_val harg8 x7 _ _ (ix2 ⟨512 + r, by omega⟩ k) (by blk_ext [] <;> simp [LoadRect.idx, Rect.toLoadRect, Rect.idx_unit_val]) (H.att _ _)
  · exact read_val harg9 x8 _ _ (ix2 k c) (by blk_ext [] <;> simp [LoadRect.idx, Rect.toLoadRect, Rect.idx_unit_val]) (H.w1 _ _)
  · exact read_val harg10 x9 _ _ (ix2 k c) (by blk_ext [] <;> simp [LoadRect.idx, Rect.toLoadRect, Rect.idx_unit_val]) (H.w2 _ _)
  · exact read_val harg1 x0 _ _ (ix2 ⟨512 + r, by omega⟩ c) (by blk_ext [] <;> simp [LoadRect.idx, Rect.toLoadRect, Rect.idx_unit_val]) (H.x _ _)
  · exact read_val harg2 x1 _ _ (ix5 0 0 0 0 c) (by blk_ext [] <;> simp [LoadRect.idx, Rect.toLoadRect, Rect.idx_unit_val]) (H.gm _ _)

/-- The modulated norm, the second half of a tile. -/
theorem hid_hi (H : Blocks D t x0 x1 x2 x3 x4 x5 x6 x7 x8 x9 x10 x11 x12 x13) (r : Fin 512) (k : Fin 1024) :
    hidT (mixT (rd harg7 x6 L6) (rd harg8 x7 L7) (rd harg9 x8 L2) (rd harg10 x9 L3) (rd harg1 x0 L6) (rd harg2 x1 L4)) (rd harg3 x2 L5) (rd harg4 x3 L4) (rd harg5 x4 L4) (ix2 r k) = D.hid (row t ⟨512 + r, by omega⟩) k := by
  refine hid_row _ _ _ _ r _ (fun c => ?_) (fun c => ?_) (fun c => ?_) (fun c => ?_) k
  · exact mix_hi arg1 harg1 arg2 harg2 arg7 harg7 arg8 harg8 arg9 harg9 arg10 harg10 x0 x1 x2 x3 x4 x5 x6 x7 x8 x9 x10 x11 x12 x13 H r c
  · exact read_val harg3 x2 _ _ (ix2 0 c) (by blk_ext [] <;> simp [LoadRect.idx, Rect.toLoadRect, Rect.idx_unit_val]) (H.g _)
  · exact read_val harg4 x3 _ _ (ix5 0 0 0 0 c) (by blk_ext [] <;> simp [LoadRect.idx, Rect.toLoadRect, Rect.idx_unit_val]) (H.sc _ _)
  · exact read_val harg5 x4 _ _ (ix5 0 0 0 0 c) (by blk_ext [] <;> simp [LoadRect.idx, Rect.toLoadRect, Rect.idx_unit_val]) (H.sh _ _)

/-- The rows the first scratch buffer holds. -/
theorem hid_buf (H : Blocks D t x0 x1 x2 x3 x4 x5 x6 x7 x8 x9 x10 x11 x12 x13) (y : S1024x1024.Idx) :
    View.canon (s := S1024x1024) (e := EltTy.bf16) (kernelRun0_A.sl.HS1_2 (F := Ideal) c arg1 harg1 arg2 harg2 arg3 harg3 arg4 harg4 arg5 harg5 arg7 harg7 arg8 harg8 arg9 harg9 arg10 harg10 x0 x1 x2 x3 x4 x6 x7 x8 x9) y = D.hid (row t (y 0)) (y 1) := by
  unfold kernelRun0_A.sl.HS1_2
  canon_tiles x h
  · refine (congrArg (hidT (mixT (rd harg7 x6 L6) (rd harg8 x7 L7) (rd harg9 x8 L2) (rd harg10 x9 L3) (rd harg1 x0 L6) (rd harg2 x1 L4)) (rd harg3 x2 L5) (rd harg4 x3 L4) (rd harg5 x4 L4)) (Idealize.ShloMosaic.eq_ix2 x)).trans ((hid_hi arg1 harg1 arg2 harg2 arg3 harg3 arg4 harg4 arg5 harg5 arg7 harg7 arg8 harg8 arg9 harg9 arg10 harg10 x0 x1 x2 x3 x4 x5 x6 x7 x8 x9 x10 x11 x12 x13 H (x 0) (x 1)).trans ?_)
    exact congrArg₂ (fun a b => D.hid (row t a) b) (Fin.ext h0.symm) (Fin.ext h1.symm)
  · refine (congrArg (hidT (mixT (rd harg7 x6 L0) (rd harg8 x7 L1) (rd harg9 x8 L2) (rd harg10 x9 L3) (rd harg1 x0 L0) (rd harg2 x1 L4)) (rd harg3 x2 L5) (rd harg4 x3 L4) (rd harg5 x4 L4)) (Idealize.ShloMosaic.eq_ix2 x)).trans ((hid_lo arg1 harg1 arg2 harg2 arg3 harg3 arg4 harg4 arg5 harg5 arg7 harg7 arg8 harg8 arg9 harg9 arg10 harg10 x0 x1 x2 x3 x4 x5 x6 x7 x8 x9 x10 x11 x12 x13 H (x 0) (x 1)).trans ?_)
    exact congrArg₂ (fun a b => D.hid (row t a) b) (Fin.ext (by rw [h0])) (Fin.ext h1.symm)

/-- The rows the up products read. -/
theorem hid_word (H : Blocks D t x0 x1 x2 x3 x4 x5 x6 x7 x8 x9 x10 x11 x12 x13) (r k : Fin 1024) :
    (kernelRun0_A.sl.v94 (F := Ideal) c arg1 harg1 arg2 harg2 arg3 harg3 arg4 harg4 arg5 harg5 arg7 harg7 arg8 harg8 arg9 harg9 arg10 harg10 arg17 x0 x1 x2 x3 x4 x6 x7 x8 x9) (ix2 r k) = D.hid (row t r) k := by
  unfold kernelRun0_A.sl.v94
  rw [View.readCov_eq_canon']
  refine (hid_buf c arg1 harg1 arg2 harg2 arg3 harg3 arg4 harg4 arg5 harg5 arg7 harg7 arg8 harg8 arg9 harg9 arg10 harg10 x0 x1 x2 x3 x4 x5 x6 x7 x8 x9 x10 x11 x12 x13 H _).trans (congrArg₂ (fun a b => D.hid (row t a) b) (Fin.ext ?_) (Fin.ext ?_)) <;>
    simp [LoadRect.idx, Rect.toLoadRect, Rect.idx_unit_val]

/-- The gated unit's 256 columns from `o` on, its two halves lying `o` and `u` columns in. -/
theorem act_at (H : Blocks D t x0 x1 x2 x3 x4 x5 x6 x7 x8 x9 x10 x11 x12 x13) (o u : ℕ) (ho : o + 256 ≤ 2816) (hu : u = 2816 + o)
    (i1 : ∀ a, (![0, 0, o] : Fin 3 → ℕ) a + S1x1024x256.size a ≤ S1x1024x5632.size a) (i1u : ∀ a, (![0, 0, u] : Fin 3 → ℕ) a + S1x1024x256.size a ≤ S1x1024x5632.size a)
    (i2 : ∀ a, (![0, 0, o] : Fin 3 → ℕ) a + S1x3x256.size a ≤ S1x3x5632.size a) (i2u : ∀ a, (![0, 0, u] : Fin 3 → ℕ) a + S1x3x256.size a ≤ S1x3x5632.size a)
    (i3 : ∀ a, (![0, 0, o] : Fin 3 → ℕ) a + S1x1x256.size a ≤ S1x1x5632.size a) (i3u : ∀ a, (![0, 0, u] : Fin 3 → ℕ) a + S1x1x256.size a ≤ S1x1x5632.size a)
    (x : S1024x256.Idx) :
    actT (kernelRun0_A.sl.v94 (F := Ideal) c arg1 harg1 arg2 harg2 arg3 harg3 arg4 harg4 arg5 harg5 arg7 harg7 arg8 harg8 arg9 harg9 arg10 harg10 arg17 x0 x1 x2 x3 x4 x6 x7 x8 x9) (rd harg11 x10 (Rect.unit (s := S1x1024x5632) ![0, 0, o] S1x1024x256.size i1).toLoadRect) (rd harg11 x10 (Rect.unit (s := S1x1024x5632) ![0, 0, u] S1x1024x256.size i1u).toLoadRect) (rd harg12 x11 (Rect.unit (s := S1x3x5632) ![0, 0, o] S1x3x256.size i2).toLoadRect) (rd harg12 x11 (Rect.unit (s := S1x3x5632) ![0, 0, u] S1x3x256.size i2u).toLoadRect) (rd harg13 x12 (Rect.unit (s := S1x1x5632) ![0, 0, o] S1x1x256.size i3).toLoadRect) (rd harg13 x12 (Rect.unit (s := S1x1x5632) ![0, 0, u] S1x1x256.size i3u).toLoadRect) x =
      D.act (row t (x 0)) ⟨o + (x 1).val, Nat.lt_of_lt_of_le (Nat.add_lt_add_left (x 1).isLt o) ho⟩ := by
  have hq : (x 1).val < 256 := (x 1).isLt
  refine (congrArg _ (Idealize.ShloMosaic.eq_ix2 x)).trans ?_
  generalize x 1 = q at hq ⊢
  refine act_row H.n _ _ _ _ _ _ _ ⟨o + q.val, by omega⟩ q (fun r k => ?_) (fun k => ?_) (fun k => ?_) (fun j => ?_) (fun j => ?_) ?_ ?_ (x 0)
  · exact hid_word c arg1 harg1 arg2 harg2 arg3 harg3 arg4 harg4 arg5 harg5 arg7 harg7 arg8 harg8 arg9 harg9 arg10 harg10 arg17 x0 x1 x2 x3 x4 x5 x6 x7 x8 x9 x10 x11 x12 x13 H r k
  · exact read_val harg11 x10 _ _ (ix3 0 k ⟨o + q.val, by omega⟩) (by blk_ext [] <;> simp [LoadRect.idx, Rect.toLoadRect, Rect.idx_unit_val] <;> omega) (H.wu _ _)
  · exact read_val harg11 x10 _ _ (ix3 0 k ⟨2816 + (o + q.val), by omega⟩) (by blk_ext [] <;> simp [LoadRect.idx, Rect.toLoadRect, Rect.idx_unit_val] <;> omega) (H.wu _ _)
  · exact read_val harg12 x11 _ _ (ix3 0 j ⟨o + q.val, by omega⟩) (by blk_ext [] <;> simp [LoadRect.idx, Rect.toLoadRect, Rect.idx_unit_val] <;> omega) (H.cw _ _)
  · exact read_val harg12 x11 _ _ (ix3 0 j ⟨2816 + (o + q.val), by omega⟩) (by blk_ext [] <;> simp [LoadRect.idx, Rect.toLoadRect, Rect.idx_unit_val] <;> omega) (H.cw _ _)
  · exact read_val harg13 x12 _ _ (ix3 0 0 ⟨o + q.val, by omega⟩) (by blk_ext [] <;> simp [LoadRect.idx, Rect.toLoadRect, Rect.idx_unit_val] <;> omega) (H.cb _)
  · exact read_val harg13 x12 _ _ (ix3 0 0 ⟨2816 + (o + q.val), by omega⟩) (by blk_ext [] <;> simp [LoadRect.idx, Rect.toLoadRect, Rect.idx_unit_val] <;> omega) (H.cb _)

/-- The gated unit the second scratch buffer holds. -/
theorem act_buf (H : Blocks D t x0 x1 x2 x3 x4 x5 x6 x7 x8 x9 x10 x11 x12 x13) (y : S1024x2816.Idx) :
    View.canon (s := S1024x2816) (e := EltTy.bf16) (kernelRun0_A.sl.HS0_11 (F := Ideal) c arg1 harg1 arg2 harg2 arg3 harg3 arg4 harg4 arg5 harg5 arg7 harg7 arg8 harg8 arg9 harg9 arg10 harg10 arg11 harg11 arg12 harg12 arg13 harg13 arg17 x0 x1 x2 x3 x4 x6 x7 x8 x9 x10 x11 x12) y = D.act (row t (y 0)) (y 1) := by
  unfold kernelRun0_A.sl.HS0_11
  canon_tiles x h
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 2560 5376 (by decide) rfl inb_S1x1024x5632_S1x1024x256_0_0_2560 inb_S1x1024x5632_S1x1024x256_0_0_5376 inb_S1x3x5632_S1x3x256_0_0_2560 inb_S1x3x5632_S1x3x256_0_0_5376 inb_S1x1x5632_S1x1x256_0_0_2560 inb_S1x1x5632_S1x1x256_0_0_5376 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 2304 5120 (by decide) rfl inb_S1x1024x5632_S1x1024x256_0_0_2304 inb_S1x1024x5632_S1x1024x256_0_0_5120 inb_S1x3x5632_S1x3x256_0_0_2304 inb_S1x3x5632_S1x3x256_0_0_5120 inb_S1x1x5632_S1x1x256_0_0_2304 inb_S1x1x5632_S1x1x256_0_0_5120 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 2048 4864 (by decide) rfl inb_S1x1024x5632_S1x1024x256_0_0_2048 inb_S1x1024x5632_S1x1024x256_0_0_4864 inb_S1x3x5632_S1x3x256_0_0_2048 inb_S1x3x5632_S1x3x256_0_0_4864 inb_S1x1x5632_S1x1x256_0_0_2048 inb_S1x1x5632_S1x1x256_0_0_4864 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 1792 4608 (by decide) rfl inb_S1x1024x5632_S1x1024x256_0_0_1792 inb_S1x1024x5632_S1x1024x256_0_0_4608 inb_S1x3x5632_S1x3x256_0_0_1792 inb_S1x3x5632_S1x3x256_0_0_4608 inb_S1x1x5632_S1x1x256_0_0_1792 inb_S1x1x5632_S1x1x256_0_0_4608 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 1536 4352 (by decide) rfl inb_S1x1024x5632_S1x1024x256_0_0_1536 inb_S1x1024x5632_S1x1024x256_0_0_4352 inb_S1x3x5632_S1x3x256_0_0_1536 inb_S1x3x5632_S1x3x256_0_0_4352 inb_S1x1x5632_S1x1x256_0_0_1536 inb_S1x1x5632_S1x1x256_0_0_4352 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 1280 4096 (by decide) rfl inb_S1x1024x5632_S1x1024x256_0_0_1280 inb_S1x1024x5632_S1x1024x256_0_0_4096 inb_S1x3x5632_S1x3x256_0_0_1280 inb_S1x3x5632_S1x3x256_0_0_4096 inb_S1x1x5632_S1x1x256_0_0_1280 inb_S1x1x5632_S1x1x256_0_0_4096 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 1024 3840 (by decide) rfl inb_S1x1024x5632_S1x1024x256_0_0_1024 inb_S1x1024x5632_S1x1024x256_0_0_3840 inb_S1x3x5632_S1x3x256_0_0_1024 inb_S1x3x5632_S1x3x256_0_0_3840 inb_S1x1x5632_S1x1x256_0_0_1024 inb_S1x1x5632_S1x1x256_0_0_3840 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 768 3584 (by decide) rfl inb_S1x1024x5632_S1x1024x256_0_0_768 inb_S1x1024x5632_S1x1024x256_0_0_3584 inb_S1x3x5632_S1x3x256_0_0_768 inb_S1x3x5632_S1x3x256_0_0_3584 inb_S1x1x5632_S1x1x256_0_0_768 inb_S1x1x5632_S1x1x256_0_0_3584 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 512 3328 (by decide) rfl inb_S1x1024x5632_S1x1024x256_0_0_512 inb_S1x1024x5632_S1x1024x256_0_0_3328 inb_S1x3x5632_S1x3x256_0_0_512 inb_S1x3x5632_S1x3x256_0_0_3328 inb_S1x1x5632_S1x1x256_0_0_512 inb_S1x1x5632_S1x1x256_0_0_3328 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 256 3072 (by decide) rfl inb_S1x1024x5632_S1x1024x256_0_0_256 inb_S1x1024x5632_S1x1024x256_0_0_3072 inb_S1x3x5632_S1x3x256_0_0_256 inb_S1x3x5632_S1x3x256_0_0_3072 inb_S1x1x5632_S1x1x256_0_0_256 inb_S1x1x5632_S1x1x256_0_0_3072 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 0 2816 (by decide) rfl inb_S1x1024x5632_S1x1024x256_0_0_0 inb_S1x1024x5632_S1x1024x256_0_0_2816 inb_S1x3x5632_S1x3x256_0_0_0 inb_S1x3x5632_S1x3x256_0_0_2816 inb_S1x1x5632_S1x1x256_0_0_0 inb_S1x1x5632_S1x1x256_0_0_2816 x).trans ?_
    exact congrArg₂ (fun a b => D.act (row t a) b) (Fin.ext h0.symm) (Fin.ext (by rw [h1]; simp))

theorem act_lo (H : Blocks D t x0 x1 x2 x3 x4 x5 x6 x7 x8 x9 x10 x11 x12 x13) (r : Fin 512) (f : Fin 2816) :
    (kernelRun0_A.sl.v1891 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (ix2 r f) = D.act (row t ⟨r, by omega⟩) f := by
  unfold kernelRun0_A.sl.v1891
  rw [View.readCov_eq_canon']
  refine (act_buf c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H _).trans (congrArg₂ (fun a b => D.act (row t a) b) (Fin.ext ?_) (Fin.ext ?_)) <;>
    simp [LoadRect.idx, Rect.toLoadRect, Rect.idx_unit_val]

theorem act_hi (H : Blocks D t x0 x1 x2 x3 x4 x5 x6 x7 x8 x9 x10 x11 x12 x13) (r : Fin 512) (f : Fin 2816) :
    (kernelRun0_A.sl.v1903 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (ix2 r f) = D.act (row t ⟨512 + r, by omega⟩) f := by
  unfold kernelRun0_A.sl.v1903
  rw [View.readCov_eq_canon']
  refine (act_buf c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H _).trans (congrArg₂ (fun a b => D.act (row t a) b) (Fin.ext ?_) (Fin.ext ?_)) <;>
    simp [LoadRect.idx, Rect.toLoadRect, Rect.idx_unit_val]

/-- The mixed rows the result's buffer holds before the results. -/
theorem mix_buf (H : Blocks D t x0 x1 x2 x3 x4 x5 x6 x7 x8 x9 x10 x11 x12 x13) (y : S1024x1024.Idx) :
    View.canon (s := S1024x1024) (e := EltTy.f32) (kernelRun0_A.sl.H14_2 (F := Ideal) c arg1 harg1 arg2 harg2 arg7 harg7 arg8 harg8 arg9 harg9 arg10 harg10 x0 x1 x6 x7 x8 x9) y = D.mix (row t (y 0)) (y 1) := by
  unfold kernelRun0_A.sl.H14_2
  canon_tiles x h
  · refine (congrArg (mixT (rd harg7 x6 L6) (rd harg8 x7 L7) (rd harg9 x8 L2) (rd harg10 x9 L3) (rd harg1 x0 L6) (rd harg2 x1 L4)) (Idealize.ShloMosaic.eq_ix2 x)).trans ((mix_hi arg1 harg1 arg2 harg2 arg7 harg7 arg8 harg8 arg9 harg9 arg10 harg10 x0 x1 x2 x3 x4 x5 x6 x7 x8 x9 x10 x11 x12 x13 H (x 0) (x 1)).trans ?_)
    exact congrArg₂ (fun a b => D.mix (row t a) b) (Fin.ext h0.symm) (Fin.ext h1.symm)
  · refine (congrArg (mixT (rd harg7 x6 L0) (rd harg8 x7 L1) (rd harg9 x8 L2) (rd harg10 x9 L3) (rd harg1 x0 L0) (rd harg2 x1 L4)) (Idealize.ShloMosaic.eq_ix2 x)).trans ((mix_lo arg1 harg1 arg2 harg2 arg7 harg7 arg8 harg8 arg9 harg9 arg10 harg10 x0 x1 x2 x3 x4 x5 x6 x7 x8 x9 x10 x11 x12 x13 H (x 0) (x 1)).trans ?_)
    exact congrArg₂ (fun a b => D.mix (row t a) b) (Fin.ext (by rw [h0])) (Fin.ext h1.symm)

theorem mixed_lo (H : Blocks D t x0 x1 x2 x3 x4 x5 x6 x7 x8 x9 x10 x11 x12 x13) (r : Fin 512) (k : Fin 1024) :
    (kernelRun0_A.sl.v1887 (F := Ideal) c arg1 harg1 arg2 harg2 arg7 harg7 arg8 harg8 arg9 harg9 arg10 harg10 arg15 x0 x1 x6 x7 x8 x9) (ix2 r k) = D.mix (row t ⟨r, by omega⟩) k := by
  unfold kernelRun0_A.sl.v1887
  rw [View.readCov_eq_canon']
  refine (mix_buf c arg1 harg1 arg2 harg2 arg7 harg7 arg8 harg8 arg9 harg9 arg10 harg10 x0 x1 x2 x3 x4 x5 x6 x7 x8 x9 x10 x11 x12 x13 H _).trans (congrArg₂ (fun a b => D.mix (row t a) b) (Fin.ext ?_) (Fin.ext ?_)) <;>
    simp [LoadRect.idx, Rect.toLoadRect, Rect.idx_unit_val]

theorem mixed_hi (H : Blocks D t x0 x1 x2 x3 x4 x5 x6 x7 x8 x9 x10 x11 x12 x13) (r : Fin 512) (k : Fin 1024) :
    (kernelRun0_A.sl.v1899 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13) (ix2 r k) = D.mix (row t ⟨512 + r, by omega⟩) k := by
  unfold kernelRun0_A.sl.v1899
  rw [View.readCov_eq_canon']
  unfold kernelRun0_A.sl.H14_3
  refine (View.canon_cons_of_not_mem _ _ ?_).trans ((mix_buf c arg1 harg1 arg2 harg2 arg7 harg7 arg8 harg8 arg9 harg9 arg10 harg10 x0 x1 x2 x3 x4 x5 x6 x7 x8 x9 x10 x11 x12 x13 H _).trans (congrArg₂ (fun a b => D.mix (row t a) b) (Fin.ext ?_) (Fin.ext ?_)))
  · refine Rect.not_mem_set_of_axis _ _ 0 0 512 rfl rfl rfl (Or.inr ?_)
    simp [LoadRect.idx, Rect.toLoadRect, Rect.idx_unit_val]
  all_goals simp [LoadRect.idx, Rect.toLoadRect, Rect.idx_unit_val]

/-- The results, the first half of a tile. -/
theorem res_lo (H : Blocks D t x0 x1 x2 x3 x4 x5 x6 x7 x8 x9 x10 x11 x12 x13) (r : Fin 512) (k : Fin 1024) :
    outT (kernelRun0_A.sl.v1887 (F := Ideal) c arg1 harg1 arg2 harg2 arg7 harg7 arg8 harg8 arg9 harg9 arg10 harg10 arg15 x0 x1 x6 x7 x8 x9) (rd harg6 x5 L4) (kernelRun0_A.sl.v1891 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (rd harg14 x13 L14) (ix2 r k) = D.out (row t ⟨r, by omega⟩) k := by
  refine out_row _ _ _ _ r _ (fun c' => ?_) (fun c' => ?_) (fun f => ?_) (fun f c' => ?_) k
  · exact mixed_lo c arg1 harg1 arg2 harg2 arg7 harg7 arg8 harg8 arg9 harg9 arg10 harg10 arg15 x0 x1 x2 x3 x4 x5 x6 x7 x8 x9 x10 x11 x12 x13 H r c'
  · exact read_val harg6 x5 _ _ (ix5 0 0 0 0 c') (by blk_ext [] <;> simp [LoadRect.idx, Rect.toLoadRect, Rect.idx_unit_val]) (H.gt _ _)
  · exact act_lo c arg1 harg1 arg2 harg2 arg3 harg3 arg4 harg4 arg5 harg5 arg7 harg7 arg8 harg8 arg9 harg9 arg10 harg10 arg11 harg11 arg12 harg12 arg13 harg13 arg16 arg17 x0 x1 x2 x3 x4 x5 x6 x7 x8 x9 x10 x11 x12 x13 H r f
  · exact read_val harg14 x13 _ _ (ix3 0 f c') (by blk_ext [] <;> simp [LoadRect.idx, Rect.toLoadRect, Rect.idx_unit_val]) (H.wd _ _)

/-- The results, the second half of a tile. -/
theorem res_hi (H : Blocks D t x0 x1 x2 x3 x4 x5 x6 x7 x8 x9 x10 x11 x12 x13) (r : Fin 512) (k : Fin 1024) :
    outT (kernelRun0_A.sl.v1899 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13) (rd harg6 x5 L4) (kernelRun0_A.sl.v1903 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (rd harg14 x13 L14) (ix2 r k) = D.out (row t ⟨512 + r, by omega⟩) k := by
  refine out_row _ _ _ _ r _ (fun c' => ?_) (fun c' => ?_) (fun f => ?_) (fun f c' => ?_) k
  · exact mixed_hi c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13 H r c'
  · exact read_val harg6 x5 _ _ (ix5 0 0 0 0 c') (by blk_ext [] <;> simp [LoadRect.idx, Rect.toLoadRect, Rect.idx_unit_val]) (H.gt _ _)
  · exact act_hi c arg1 harg1 arg2 harg2 arg3 harg3 arg4 harg4 arg5 harg5 arg7 harg7 arg8 harg8 arg9 harg9 arg10 harg10 arg11 harg11 arg12 harg12 arg13 harg13 arg16 arg17 x0 x1 x2 x3 x4 x5 x6 x7 x8 x9 x10 x11 x12 x13 H r f
  · exact read_val harg14 x13 _ _ (ix3 0 f c') (by blk_ext [] <;> simp [LoadRect.idx, Rect.toLoadRect, Rect.idx_unit_val]) (H.wd _ _)

/-- The tile the run stores. -/
theorem tile (i : grid0.Coords) (H : Blocks D t x0 x1 x2 x3 x4 x5 x6 x7 x8 x9 x10 x11 x12 x13) (y : S1024x1024.Idx) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y = D.out (row t (y 0)) (y 1) := by
  unfold out0_A_14
  rw [View.read_writes_junk_eq_canon]
  unfold kernelRun0_A
  dsimp only
  have hy0 : (y 0).val < 1024 := (y 0).isLt
  have hy1 : (y 1).val < 1024 := (y 1).isLt
  by_cases hy : (y 0).val < 512
  · refine (View.canon_cons_of_not_mem _ _ (Rect.not_mem_set_of_axis _ y 0 512 512 rfl rfl rfl (Or.inl hy))).trans ?_
    unfold kernelRun0_A.sl.H14_3
    refine (canon_top _ _ _ y (ix2 (⟨(y 0).val, hy⟩ : Fin 512) (⟨(y 1).val, hy1⟩ : Fin 1024)) (fun a => ?_)).trans
      ?_
    · fin_cases a <;> simp
    unfold kernelRun0_A.sl.r_215 kernelRun0_A.sl.r_216
    refine (show _ = outT (kernelRun0_A.sl.v1887 (F := Ideal) c arg1 harg1 arg2 harg2 arg7 harg7 arg8 harg8 arg9 harg9 arg10 harg10 arg15 x0 x1 x6 x7 x8 x9) (rd harg6 x5 L4) (kernelRun0_A.sl.v1891 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (rd harg14 x13 L14) (ix2 _ _) from rfl).trans ((res_lo c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13 H _ _).trans ?_)
    exact congrArg₂ (fun a b => D.out (row t a) b) rfl rfl
  · refine (canon_top _ _ _ y (ix2 (⟨(y 0).val - 512, by omega⟩ : Fin 512) (⟨(y 1).val, hy1⟩ : Fin 1024)) (fun a => ?_)).trans
      ?_
    · fin_cases a <;> simp
      omega
    unfold kernelRun0_A.sl.v1901
    refine (show _ = outT (kernelRun0_A.sl.v1899 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13) (rd harg6 x5 L4) (kernelRun0_A.sl.v1903 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (rd harg14 x13 L14) (ix2 _ _) from rfl).trans ((res_hi c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13 H _ _).trans ?_)
    exact congrArg₂ (fun a b => D.out (row t a) b) (Fin.ext (by simp only; omega)) rfl

end Cert.MidIdeal.Mix

end
-- ==== Proof.MidReference.lean ====
/-
The reference of the context stream's first mixing and ConvFFN call, read at a row and a column: the call's mathematics.
-/
module

public import proofs.«01_k».proof.Proof.Gen.MidRefIdeal.Read
public import proofs.«01_k».proof.Proof.MidBlocks
public import Idealize.ShloMosaic.Lib.Pointwise

@[expose] public section

set_option maxRecDepth 16384

noncomputable section

open Idealize.ShloMosaic Idealize.ShloMosaic.TcCoe Idealize.SL.Sem

namespace Cert.MidRefIdeal.Rows

open Cert.MidRefIdeal Cert.MidRefIdeal.Gen Cert.MidRefIdeal.Read

local notation "V" => FVec Idealize.ShloMosaic.Ideal

variable (x r : V S32x256x1024 .f32) (a : V S32x256x512 .f32) (m : V S1x6144 .f32) (w : V S1536x1024 .f32) (g : V S2x1024 .f32)
  (wu : V S2x1024x5632 .f32) (cw : V S2x3x5632 .f32) (cb : V S2x5632 .f32) (wd : V S2x2816x1024 .f32)

/-- The row of the stream a position of a sequence is. -/
def at' (b : Fin 32) (p : Fin 256) : Fin 8192 := ⟨b.val * 256 + p.val, by omega⟩

theorem div_at (b : Fin 32) (p : Fin 256) (h : (at' b p : ℕ) / 256 < 32) : (⟨(at' b p : ℕ) / 256, h⟩ : Fin 32) = b :=
  Fin.ext (by simp only [at']; omega)

theorem mod_at (b : Fin 32) (p : Fin 256) (h : (at' b p : ℕ) % 256 < 256) : (⟨(at' b p : ℕ) % 256, h⟩ : Fin 256) = p :=
  Fin.ext (by simp only [at']; omega)

theorem mix_at (b : Fin 32) (p : Fin 256) (c : Fin 1024) :
    val_main_v11 (F := Ideal) x r a m w (ix3 b p c) = (Cert.MidIdeal.Mix.data x r a m w g wu cw cb wd).mix (at' b p) c := by
  unfold ConvFfn.Data.mix Cert.MidIdeal.Mix.data
  simp only [div_at, mod_at]
  pointwise [val_main_v11, val_main_v10, val_main_v9, val_main_v8, val_main_v7, val_main_v3, val_main_v0]

theorem sum_at (y : V S32x256x1024 .f32) (hy : val_main_v11 (F := Ideal) x r a m w = y) (b : Fin 32) (p : Fin 256) :
    val_main_v15 (F := Ideal) x r a m w (ix2 b p) = ∑ k : Fin 1024, y (ix3 b p k) * y (ix3 b p k) := by
  pointwise [val_main_v15, val_main_v14, val_main_cst, hy]

theorem rms_at (y : V S32x256x1024 .f32) (hy : val_main_v11 (F := Ideal) x r a m w = y) (b : Fin 32) (p : Fin 256) (c : Fin 1024) :
    val_main_v23 (F := Ideal) x r a m w (ix3 b p c) = ConvFfn.rms (fun k => y (ix3 b p k)) c := by
  unfold ConvFfn.rms
  rw [← sum_at x r a m w y hy b p]
  generalize hs : val_main_v15 (F := Ideal) x r a m w = s
  pointwise [val_main_v23, val_main_v22, val_main_v21, val_main_v20, val_main_v19, val_main_cst_1, val_main_v18, val_main_v17,
    val_main_cst_0, val_main_v16, hs, hy]

theorem hid_at (b : Fin 32) (p : Fin 256) (c : Fin 1024) :
    val_main_v32 (F := Ideal) x r a m w g (ix3 b p c) = (Cert.MidIdeal.Mix.data x r a m w g wu cw cb wd).hid (at' b p) c := by
  unfold ConvFfn.Data.hid
  have hr := rms_at x r a m w _ rfl b p c
  simp only [mix_at x r a m w g wu cw cb wd] at hr
  rw [← hr]
  unfold Cert.MidIdeal.Mix.data
  simp only [div_at, mod_at]
  generalize hs : val_main_v23 (F := Ideal) x r a m w = s
  pointwise [val_main_v32, val_main_v31, val_main_v4, val_main_v0, val_main_v30, val_main_v29, val_main_v28, val_main_v27,
    val_main_cst_2, val_main_v5, val_main_v26, val_main_v25, val_main_v24, val_main_v13, val_main_v12, hs]

theorem up_at (b : Fin 32) (p : Fin 256) (f : Fin 5632) :
    val_main_v41 (F := Ideal) x r a m w g wu (ix3 b p f) = (Cert.MidIdeal.Mix.data x r a m w g wu cw cb wd).up (at' b p) f := by
  unfold ConvFfn.Data.up
  simp only [← hid_at x r a m w g wu cw cb wd]
  unfold Cert.MidIdeal.Mix.data
  simp only [div_at, mod_at]
  generalize hs : val_main_v32 (F := Ideal) x r a m w g = s
  pointwise [val_main_v41, val_main_v34, val_main_v33, hs]

theorem pad_at (u : V S32x256x5632 .f32) (hu : val_main_v41 (F := Ideal) x r a m w g wu = u) (b : Fin 32) (p : Fin 258) (f : Fin 5632) :
    val_main_v42 (F := Ideal) x r a m w g wu (ix3 b p f)
      = if h : 1 ≤ (p : ℕ) ∧ (p : ℕ) - 1 < 256 then u (ix3 b ⟨(p : ℕ) - 1, by omega⟩ f) else 0 := by
  pointwise [val_main_v42, val_main_call0_v0, val_main_c, hu]
  split_ifs with h
  · rfl
  · simp [FloatOps.sitofp]

theorem conv_at (b : Fin 32) (p : Fin 256) (f : Fin 5632) :
    val_main_v65 (F := Ideal) x r a m w g wu cw cb (ix3 b p f) = (Cert.MidIdeal.Mix.data x r a m w g wu cw cb wd).conv (at' b p) f := by
  have hp := pad_at x r a m w g wu _ rfl
  unfold ConvFfn.Data.conv ConvFfn.Data.prev ConvFfn.Data.next
  generalize hs : val_main_v42 (F := Ideal) x r a m w g wu = s at hp
  pointwise [val_main_v65, val_main_v64, val_main_v63, val_main_v62, val_main_v61, val_main_v60, val_main_v59, val_main_v58,
    val_main_v57, val_main_v56, val_main_v55, val_main_v54, val_main_v53, val_main_v52, val_main_v51, val_main_v50,
    val_main_v49, val_main_v48, val_main_v47, val_main_v46, val_main_v45, val_main_v44, val_main_v43, val_main_v38,
    val_main_v37, val_main_v36, val_main_v35, hs]
  have hn : (Cert.MidIdeal.Mix.data x r a m w g wu cw cb wd).n = 256 := rfl
  have hr : (at' b p : ℕ) = b.val * 256 + p.val := rfl
  rw [hn]
  refine congrArg₂ (· + ·) (congrArg₂ (· + ·) (congrArg₂ (· + ·) (congrArg (· * _) ?_) (congrArg (· * _) ?_)) (congrArg (· * _) ?_)) rfl
  · rw [hp]
    by_cases h : (p : ℕ) = 0
    · rw [dif_neg (by simp only; omega), if_pos (by omega)]
    · rw [dif_pos (by simp only; omega), if_neg (by omega), up_at x r a m w g wu cw cb wd]
      refine congrArg (fun R => (Cert.MidIdeal.Mix.data x r a m w g wu cw cb wd).up R f) (Fin.ext ?_)
      simp only [at']
      omega
  · rw [hp, dif_pos (by simp only; omega), up_at x r a m w g wu cw cb wd]
    refine congrArg (fun R => (Cert.MidIdeal.Mix.data x r a m w g wu cw cb wd).up R f) (Fin.ext ?_)
    simp only [at']
    omega
  · rw [hp]
    by_cases h : (p : ℕ) = 256 - 1
    · rw [dif_neg (by simp only; omega), if_pos (by omega)]
    · rw [dif_pos (by simp only; omega), if_neg (by omega), up_at x r a m w g wu cw cb wd]
      refine congrArg (fun R => (Cert.MidIdeal.Mix.data x r a m w g wu cw cb wd).up R f) (Fin.ext ?_)
      simp only [at']
      omega

theorem act_at (b : Fin 32) (p : Fin 256) (f : Fin 2816) :
    val_main_v69 (F := Ideal) x r a m w g wu cw cb (ix3 b p f) = (Cert.MidIdeal.Mix.data x r a m w g wu cw cb wd).act (at' b p) f := by
  unfold ConvFfn.Data.act
  simp only [← conv_at x r a m w g wu cw cb wd]
  generalize hs : val_main_v65 (F := Ideal) x r a m w g wu cw cb = s
  pointwise [val_main_v69, val_main_v68, val_main_v67, val_main_v66, val_main_call1_v5, val_main_call1_v4, val_main_call1_v3,
    val_main_call1_v2, val_main_call1_v1, val_main_call1_v0, val_main_call1_cst, val_main_call1_cst_0, hs]

theorem out_at (b : Fin 32) (p : Fin 256) (c : Fin 1024) :
    val_main_v73 (F := Ideal) x r a m w g wu cw cb wd (ix3 b p c) = (Cert.MidIdeal.Mix.data x r a m w g wu cw cb wd).out (at' b p) c := by
  unfold ConvFfn.Data.out
  simp only [← act_at x r a m w g wu cw cb wd, ← mix_at x r a m w g wu cw cb wd]
  unfold Cert.MidIdeal.Mix.data
  simp only [div_at, mod_at]
  generalize hs : val_main_v69 (F := Ideal) x r a m w g wu cw cb = s
  generalize hy : val_main_v11 (F := Ideal) x r a m w = y
  pointwise [val_main_v73, val_main_v72, val_main_v71, val_main_v70, val_main_v40, val_main_v39, val_main_v6, val_main_v0, hs, hy]

theorem result_at (R : Fin 8192) (c : Fin 1024) :
    val_main_v74 (F := Ideal) x r a m w g wu cw cb wd (ix2 R c) = (Cert.MidIdeal.Mix.data x r a m w g wu cw cb wd).out R c := by
  have hR : at' ⟨R / 256, by omega⟩ ⟨R % 256, by omega⟩ = R := Fin.ext (by simp only [at']; omega)
  have hr := out_at x r a m w g wu cw cb wd ⟨R / 256, by omega⟩ ⟨R % 256, by omega⟩ c
  rw [hR] at hr
  rw [← hr]
  generalize hs : val_main_v73 (F := Ideal) x r a m w g wu cw cb wd = s
  pointwise [val_main_v74, hs]

end Cert.MidRefIdeal.Rows

end
-- ==== Proof.MidValue.lean ====
/-
The context stream's first mixing and ConvFFN call: its result array after the run is the reference's.
-/
module

public import proofs.«01_k».proof.Proof.MidWords
public import proofs.«01_k».proof.Proof.MidReference

@[expose] public section

set_option maxRecDepth 16384

noncomputable section

open Idealize.ShloMosaic Idealize.ShloMosaic.TcCoe Idealize.SL.Sem
open Idealize.ShloMosaic.Pipeline (Dat)

namespace Cert.MidIdeal.Mix

open Cert.MidIdeal Cert.MidIdeal.Gen

variable (m : (ℓ : Loc nD τ sig) → Buf (Elt Ideal) ℓ)

/-- The reference's result over the kernel's argument arrays. -/
abbrev ref (c : Dev nD) : FVec Ideal S8192x1024 .f32 :=
  Cert.MidRefIdeal.Read.val_main_v74 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9))

/-- The blocks of a grid point hold the rows of its tile. -/
theorem blocks (c : Dev nD) (t : Fin cfg0.N) :
    Blocks (dat m c) t (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) where
  x := x_at m c t
  gm := gm_at m c t
  g := g_at m c t
  sc := sc_at m c t
  sh := sh_at m c t
  gt := gt_at m c t
  ret := ret_at m c t
  att := att_at m c t
  w1 := w1_at m c t
  w2 := w2_at m c t
  wu := wu_at m c t
  cw := cw_at m c t
  cb := cb_at m c t
  wd := wd_at m c t
  n := rfl

/-- One row and column of the reference's result. -/
theorem ref_at (c : Dev nD) (R : Fin 8192) (k : Fin 1024) : ref m c (ix2 R k) = (dat m c).out R k :=
  Cert.MidRefIdeal.Rows.result_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) R k

theorem final (c : Dev nD) : (dats m 0 c).arrAt 14 (cfgs 0).N = ref m c := by
  refine (dats m 0 c).arrAt_eq_of_covers 14 _ (by decide +kernel) fun t _ y => ?_
  blk_simp
  rw [after0_14]
  unfold outsAt0
  refine (tile c _ _ _ _ _ _ _ _ _ _ _ _ _ _ _ _ _ _ _ _ _ _ _ _ _ _ _ _ _ _ _ _ _ _ _ _ _ _ _ _ _ _ _ _ _ _ _ _ _ (blocks m c t) y).trans
    ((ref_at m c (row t (y 0)) (y 1)).symm.trans (congrArg (ref m c) ?_))
  have h8 := lt8 t
  blk_ext [idx t]
  rfl

end Cert.MidIdeal.Mix

end
-- ==== Proof.OddLatBlocks.lean ====
/-
The blocks the latent stream's second projection call reads at a grid point: which entry of which argument each holds.
-/
module

public import proofs.«01_k».proof.Proof.Projection
public import proofs.«01_k».proof.Proof.Gen.OddLatIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OddLatIdeal.Mix

open Cert.OddLatIdeal Cert.OddLatIdeal.Gen

local notation "V" => FVec Idealize.ShloMosaic.Ideal

/-- What the call reads, out of the argument arrays. -/
def data (x : V S8x1024x1024 .f32) (m : V S8x6144 .f32) (g : V S2x1024 .f32) (w : V S1024x3072 .f32) : Projection.Data 3072 where
  x R c := x (ix3 ⟨R / 1024, by omega⟩ ⟨R % 1024, by omega⟩ c)
  sh R c := m (ix2 ⟨R / 1024, by omega⟩ ⟨0 + c, by omega⟩)
  sc R c := m (ix2 ⟨R / 1024, by omega⟩ ⟨1024 + c, by omega⟩)
  g c := g (ix2 1 c)
  w k f := w (ix2 k f)

variable (m : (ℓ : Loc nD τ sig) → Buf (Elt Ideal) ℓ)

/-- The same, out of the launch memory. -/
abbrev dat (c : Dev nD) : Projection.Data 3072 :=
  data (m (c, Proc.tc.devRef main_arg0)) (m (c, Proc.tc.devRef main_arg1)) (m (c, Proc.tc.devRef main_arg2))
    (m (c, Proc.tc.devRef main_arg3))

/-- Where each window stands at a grid point. -/
theorem idx : ∀ t : Fin cfg0.N, win0_0.index t = ![t.val, 0] ∧ win0_1.index t = ![1, 1 + t.val / 2, 0, 0, 0]
    ∧ win0_2.index t = ![1, 1 + t.val / 2, 1, 0, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

theorem lt16 (t : Fin cfg0.N) : t.val < 16 := lt_of_lt_of_eq t.isLt (by decide)

/-- The row of the stream a row of a grid point's tile is. -/
def row (t : Fin cfg0.N) (r : Fin 512) : Fin 8192 := ⟨t.val * 512 + r.val, by have := lt16 t; omega⟩

theorem x_at (c : Dev nD) (t : Fin cfg0.N) (y : Fin 512) (x : Fin 1024) :
    (show V S512x1024 .f32 from iblk m c 0 t) (ix2 y x) = (dat m c).x (row t y) x := by
  unfold dat data row
  blk_simp [iblk, idx t]
  simp only [Gen.V, hostOps0, hostOps0_1, hostOps0_2, List.flatten_cons, List.flatten_nil, List.cons_append, List.nil_append, List.append_nil]
  entry_read
  pointwise
  have h16 := lt16 t
  blk_ext [idx t]

theorem sh_at (c : Dev nD) (t : Fin cfg0.N) (y : Fin 512) (x : Fin 1024) :
    (show V S1x1x1x1x1024 .f32 from iblk m c 1 t) (ix5 0 0 0 0 x) = (dat m c).sh (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h16 := lt16 t
  rw [dif_pos (by blk_simp [idx t]; omega)]
  blk_ext [idx t]

theorem sc_at (c : Dev nD) (t : Fin cfg0.N) (y : Fin 512) (x : Fin 1024) :
    (show V S1x1x1x1x1024 .f32 from iblk m c 2 t) (ix5 0 0 0 0 x) = (dat m c).sc (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h16 := lt16 t
  rw [dif_pos (by blk_simp [idx t]; omega)]
  blk_ext [idx t]

theorem g_at (c : Dev nD) (t : Fin cfg0.N) (x : Fin 1024) :
    (show V S1x1024 .f32 from iblk m c 3 t) (ix2 0 x) = (dat m c).g x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem w_at (c : Dev nD) (t : Fin cfg0.N) (k : Fin 1024) (f : Fin 3072) :
    (show V S1024x3072 .bf16 from iblk m c 4 t) (ix2 k f) = (dat m c).w k f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

end Cert.OddLatIdeal.Mix

end
-- ==== Proof.OddLatReference.lean ====
/-
The reference of the latent stream's second projection call, read at a row and a column: the modulated norm times the weights.
-/
module

public import proofs.«01_k».proof.Proof.Gen.OddLatRefIdeal.Read
public import proofs.«01_k».proof.Proof.OddLatBlocks
public import Idealize.ShloMosaic.Lib.Pointwise

@[expose] public section

set_option maxRecDepth 16384

noncomputable section

open Idealize.ShloMosaic Idealize.ShloMosaic.TcCoe Idealize.SL.Sem

namespace Cert.OddLatRefIdeal.Rows

open Cert.OddLatRefIdeal Cert.OddLatRefIdeal.Gen Cert.OddLatRefIdeal.Read

local notation "V" => FVec Idealize.ShloMosaic.Ideal

variable (x : V S8x1024x1024 .f32) (m : V S8x6144 .f32) (g : V S2x1024 .f32) (w : V S1024x3072 .f32)

/-- The row of the stream a position of a sequence is. -/
def at' (b : Fin 8) (p : Fin 1024) : Fin 8192 := ⟨b.val * 1024 + p.val, by omega⟩

theorem div_at (b : Fin 8) (p : Fin 1024) (h : (at' b p : ℕ) / 1024 < 8) : (⟨(at' b p : ℕ) / 1024, h⟩ : Fin 8) = b :=
  Fin.ext (by simp only [at']; omega)

theorem mod_at (b : Fin 8) (p : Fin 1024) (h : (at' b p : ℕ) % 1024 < 1024) : (⟨(at' b p : ℕ) % 1024, h⟩ : Fin 1024) = p :=
  Fin.ext (by simp only [at']; omega)

theorem sum_at (b : Fin 8) (p : Fin 1024) :
    val_main_v10 (F := Ideal) x (ix2 b p) = ∑ k : Fin 1024, x (ix3 b p k) * x (ix3 b p k) := by
  pointwise [val_main_v10, val_main_v9, val_main_cst]

theorem rms_at (b : Fin 8) (p : Fin 1024) (c : Fin 1024) :
    val_main_v18 (F := Ideal) x (ix3 b p c) = ConvFfn.rms (fun k => x (ix3 b p k)) c := by
  unfold ConvFfn.rms
  rw [← sum_at x b p]
  generalize hs : val_main_v10 (F := Ideal) x = s
  pointwise [val_main_v18, val_main_v17, val_main_v16, val_main_v15, val_main_v14, val_main_cst_1, val_main_v13, val_main_v12,
    val_main_cst_0, val_main_v11, hs]

theorem hid_at (b : Fin 8) (p : Fin 1024) (c : Fin 1024) :
    val_main_v27 (F := Ideal) x m g (ix3 b p c) = (Cert.OddLatIdeal.Mix.data x m g w).hid (at' b p) c := by
  unfold Projection.Data.hid Cert.OddLatIdeal.Mix.data
  simp only [div_at, mod_at]
  rw [← rms_at x b p c]
  generalize hs : val_main_v18 (F := Ideal) x = s
  pointwise [val_main_v27, val_main_v26, val_main_v25, val_main_v24, val_main_v23, val_main_v22, val_main_cst_2, val_main_v21,
    val_main_v20, val_main_v19, val_main_v8, val_main_v7, val_main_v2, val_main_v1, val_main_v0, hs]

theorem proj_at (b : Fin 8) (p : Fin 1024) (f : Fin 3072) :
    val_main_v28 (F := Ideal) x m g w (ix3 b p f) = (Cert.OddLatIdeal.Mix.data x m g w).proj (at' b p) f := by
  unfold Projection.Data.proj
  simp only [← hid_at x m g w]
  unfold Cert.OddLatIdeal.Mix.data
  generalize hs : val_main_v27 (F := Ideal) x m g = s
  pointwise [val_main_v28, hs]

theorem row_at (R : Fin 8192) (h : (R : ℕ) / 1024 < 8) (h' : (R : ℕ) % 1024 < 1024) : at' ⟨(R : ℕ) / 1024, h⟩ ⟨(R : ℕ) % 1024, h'⟩ = R :=
  Fin.ext (by simp only [at']; omega)

/-- The projection, by the row of the stream. -/
theorem proj_row (R : Fin 8192) (h : (R : ℕ) / 1024 < 8) (h' : (R : ℕ) % 1024 < 1024) (f : Fin 3072) :
    val_main_v28 (F := Ideal) x m g w (ix3 ⟨(R : ℕ) / 1024, h⟩ ⟨(R : ℕ) % 1024, h'⟩ f) = (Cert.OddLatIdeal.Mix.data x m g w).proj R f :=
  (proj_at x m g w ..).trans (by rw [row_at])

/-- The queries. -/
theorem q_at (R : Fin 8192) (c : Fin 1024) :
    val_main_v37 (F := Ideal) x m g w (ix2 R c) = (Cert.OddLatIdeal.Mix.data x m g w).proj R ⟨c.val, by omega⟩ * Projection.scale := by
  rw [← proj_row x m g w R (by omega) (by omega), ← Projection.scale_eq]
  generalize hs : val_main_v28 (F := Ideal) x m g w = s
  pointwise [val_main_v37, val_main_v36, val_main_v35, val_main_v34, val_main_v33, val_main_cst_4, val_main_v32, val_main_cst_3,
    val_main_v29, hs]

/-- The keys. -/
theorem k_at (R : Fin 8192) (c : Fin 1024) :
    val_main_v39 (F := Ideal) x m g w (ix2 R c) = (Cert.OddLatIdeal.Mix.data x m g w).proj R ⟨1024 + c.val, by omega⟩ := by
  rw [← proj_row x m g w R (by omega) (by omega)]
  generalize hs : val_main_v28 (F := Ideal) x m g w = s
  pointwise [val_main_v39, val_main_v38, val_main_v30, hs]

/-- The values. -/
theorem v_at (R : Fin 8192) (c : Fin 1024) :
    val_main_v41 (F := Ideal) x m g w (ix2 R c) = (Cert.OddLatIdeal.Mix.data x m g w).proj R ⟨2048 + c.val, by omega⟩ := by
  rw [← proj_row x m g w R (by omega) (by omega)]
  generalize hs : val_main_v28 (F := Ideal) x m g w = s
  pointwise [val_main_v41, val_main_v40, val_main_v31, hs]

end Cert.OddLatRefIdeal.Rows

end
-- ==== Proof.OddLatValue.lean ====
/-
The latent stream's second projection call: the vector operations its stored values are made of, the value of each at an index,
and the three projected arrays after the run, which are the reference's.
-/
module

public import proofs.«01_k».proof.Proof.OddLatBlocks
public import proofs.«01_k».proof.Proof.OddLatReference

@[expose] public section

set_option maxRecDepth 16384

noncomputable section

open Idealize.ShloMosaic Idealize.ShloMosaic.TcCoe Idealize.SL.Sem
open Idealize.ShloMosaic.Pipeline (Dat)

namespace Cert.OddLatIdeal.Mix

open Cert.OddLatIdeal Cert.OddLatIdeal.Gen

local notation "V" => FVec Idealize.ShloMosaic.Ideal

/-- A row divided by the root of its mean square. -/
def rmsT (y : V S512x1024 .f32) : V S512x1024 .f32 :=
  mulf y (broadcastTo S512x1024
    (rsqrt (addf (divf (shapeCast S512x1
        (multiReduction .add [1] S512 (mulf y y) 0x00000000#32 reduces_S512x1024_S512 (.inl rfl) rfl) shapeCasts_S512_S512x1)
      (broadcast S512x1 (Scalar.ofBits .f32 0x44800000#32 : Idealize.ShloMosaic.Ideal .f32)))
      (broadcast S512x1 (Scalar.ofBits .f32 0x358637BD#32 : Idealize.ShloMosaic.Ideal .f32))))
    broadcasts_S512x1_S512x1024)

theorem rmsT_at (y : V S512x1024 .f32) (r : Fin 512) (c : Fin 1024) :
    rmsT y (ix2 r c) = ConvFfn.rms (fun k => y (ix2 r k)) c := by
  unfold ConvFfn.rms
  pointwise [rmsT]

/-- The normalised row with its gain, scale and shift. -/
def hidT (y : V S512x1024 .f32) (g : V S1x1024 .f32) (sc sh : V S1x1x1x1x1024 .f32) : V S512x1024 .bf16 :=
  truncf .bf16 (addf (mulf
      (mulf (rmsT (shapeCast S512x1024 y shapeCasts_S512x1024_S512x1024)) (broadcastTo S512x1024 (shapeCast S1x1024 g shapeCasts_S1x1024_S1x1024) broadcasts_S1x1024_S512x1024))
      (broadcastTo S512x1024 (addf (broadcast S1x1024 (Scalar.ofBits .f32 0x3F800000#32 : Idealize.ShloMosaic.Ideal .f32))
        (shapeCast S1x1024 sc shapeCasts_S1x1x1x1x1024_S1x1024)) broadcasts_S1x1024_S512x1024))
      (broadcastTo S512x1024 (shapeCast S1x1024 sh shapeCasts_S1x1x1x1x1024_S1x1024) broadcasts_S1x1024_S512x1024))
      bitsLt_bf16_f32

theorem pay_hid (y : V S512x1024 .f32) (g : V S1x1024 .f32) (sc sh : V S1x1x1x1x1024 .f32) :
    k0_pay6 (F := Ideal) y g sc sh = hidT y g sc sh := rfl

/-- The modulated norm of a tile whose operands hold a row's data. -/
theorem hid_at (D : Projection.Data 3072) (R : Fin 8192) (y : V S512x1024 .f32) (g : V S1x1024 .f32)
    (sc sh : V S1x1x1x1x1024 .f32) (r : Fin 512) (c : Fin 1024) (h0 : ∀ k, y (ix2 r k) = D.x R k)
    (h1 : g (ix2 0 c) = D.g c) (h2 : sc (ix5 0 0 0 0 c) = D.sc R c) (h3 : sh (ix5 0 0 0 0 c) = D.sh R c) :
    k0_pay6 (F := Ideal) y g sc sh (ix2 r c) = D.hid R c := by
  have e : shapeCast S512x1024 y shapeCasts_S512x1024_S512x1024 = y := by
    funext i
    rw [Idealize.ShloMosaic.eq_ix2 i]
    pointwise
  rw [pay_hid]
  unfold hidT Projection.Data.hid
  rw [e, ← funext h0, ← rmsT_at, ← h1, ← h2, ← h3]
  generalize hz : rmsT y = z
  pointwise [hz]

/-- The product with the columns from 512 on. -/
theorem pay5_at (z : V S512x1024 .bf16) (w : V S1024x512 .bf16) (r : Fin 512) (f : Fin 512) :
    k0_pay5 (F := Ideal) z w (ix2 r f) = (∑ k : Fin 1024, z (ix2 r k) * w (ix2 k f)) * Projection.scale := by
  have e : (Named.named (F := Ideal) κ "q_scale" 0x3E38AA3B#32 : Idealize.ShloMosaic.Ideal .f32) = Projection.scale :=
    IdealRules.named_const.ideal_named_scalar _ _ _ _ rfl
  pointwise [k0_pay5, e]

/-- The product with the columns from 0 on. -/
theorem pay4_at (z : V S512x1024 .bf16) (w : V S1024x512 .bf16) (r : Fin 512) (f : Fin 512) :
    k0_pay4 (F := Ideal) z w (ix2 r f) = (∑ k : Fin 1024, z (ix2 r k) * w (ix2 k f)) * Projection.scale := by
  have e : (Named.named (F := Ideal) κ "q_scale" 0x3E38AA3B#32 : Idealize.ShloMosaic.Ideal .f32) = Projection.scale :=
    IdealRules.named_const.ideal_named_scalar _ _ _ _ rfl
  pointwise [k0_pay4, e]

/-- The product with the columns from 1536 on. -/
theorem pay1_at (z : V S512x1024 .bf16) (w : V S1024x512 .bf16) (r : Fin 512) (f : Fin 512) :
    k0_pay1 (F := Ideal) z w (ix2 r f) = (∑ k : Fin 1024, z (ix2 r k) * w (ix2 k f)) := by
  pointwise [k0_pay1]

/-- The product with the columns from 1024 on. -/
theorem pay7_at (y : V S512x1024 .f32) (g : V S1x1024 .f32) (sc sh : V S1x1x1x1x1024 .f32) (w : V S1024x512 .bf16)
    (r : Fin 512) (f : Fin 512) :
    k0_pay7 (F := Ideal) y g sc sh w (ix2 r f) = ∑ k : Fin 1024, k0_pay6 (F := Ideal) y g sc sh (ix2 r k) * w (ix2 k f) := by
  generalize hz : k0_pay6 (F := Ideal) y g sc sh = z
  pointwise [k0_pay7, hz]

/-- The product with the columns from 2560 on. -/
theorem pay3_at (z : V S512x1024 .bf16) (w : V S1024x512 .bf16) (r : Fin 512) (f : Fin 512) :
    k0_pay3 (F := Ideal) z w (ix2 r f) = (∑ k : Fin 1024, z (ix2 r k) * w (ix2 k f)) := by
  pointwise [k0_pay3]

/-- The product with the columns from 2048 on. -/
theorem pay2_at (z : V S512x1024 .bf16) (w : V S1024x512 .bf16) (r : Fin 512) (f : Fin 512) :
    k0_pay2 (F := Ideal) z w (ix2 r f) = (∑ k : Fin 1024, z (ix2 r k) * w (ix2 k f)) := by
  pointwise [k0_pay2]

/-! The blocks of entries the body reads. -/

theorem ldx (y : Fin 512) (x : Fin 1024) : r0_0.idx (ix2 y x) = (ix2 y x) := by
  blk_ext [r0_0] <;> simp [r0_0, Rect.idx_unit_val]

theorem ldg (x : Fin 1024) : r0_1.idx (ix2 0 x) = (ix2 0 x) := by
  blk_ext [r0_1] <;> simp [r0_1, Rect.idx_unit_val]

theorem ldm (x : Fin 1024) : r0_2.idx (ix5 0 0 0 0 x) = (ix5 0 0 0 0 x) := by
  blk_ext [r0_2] <;> simp [r0_2, Rect.idx_unit_val]

theorem ldw512 (k : Fin 1024) (f : Fin 512) : r0_10.idx (ix2 k f) = (ix2 k ⟨512 + f.val, by omega⟩) := by
  blk_ext [r0_10] <;> simp [r0_10, Rect.idx_unit_val]

theorem ldw0 (k : Fin 1024) (f : Fin 512) : r0_9.idx (ix2 k f) = (ix2 k ⟨0 + f.val, by omega⟩) := by
  blk_ext [r0_9] <;> simp [r0_9, Rect.idx_unit_val]

theorem ldw1536 (k : Fin 1024) (f : Fin 512) : r0_5.idx (ix2 k f) = (ix2 k ⟨1536 + f.val, by omega⟩) := by
  blk_ext [r0_5] <;> simp [r0_5, Rect.idx_unit_val]

theorem ldw1024 (k : Fin 1024) (f : Fin 512) : r0_3.idx (ix2 k f) = (ix2 k ⟨1024 + f.val, by omega⟩) := by
  blk_ext [r0_3] <;> simp [r0_3, Rect.idx_unit_val]

theorem ldw2560 (k : Fin 1024) (f : Fin 512) : r0_8.idx (ix2 k f) = (ix2 k ⟨2560 + f.val, by omega⟩) := by
  blk_ext [r0_8] <;> simp [r0_8, Rect.idx_unit_val]

theorem ldw2048 (k : Fin 1024) (f : Fin 512) : r0_7.idx (ix2 k f) = (ix2 k ⟨2048 + f.val, by omega⟩) := by
  blk_ext [r0_7] <;> simp [r0_7, Rect.idx_unit_val]

variable (m : (ℓ : Loc nD τ sig) → Buf (Elt Ideal) ℓ)

/-- The modulated norm of a grid point's tile. -/
theorem hid_blocks (c : Dev nD) (t : Fin cfg0.N) (r : Fin 512) (k : Fin 1024) :
    k0_pay8 (F := Ideal) (iblk m c 0 t) (iblk m c 1 t) (iblk m c 2 t) (iblk m c 3 t) (iblk m c 4 t) (ix2 r k)
      = (dat m c).hid (row t r) k :=
  hid_at (dat m c) (row t r) _ _ _ _ r k (fun k => (congrArg (iblk m c 0 t) (ldx r k)).trans (x_at m c t r k))
    ((congrArg (iblk m c 3 t) (ldg k)).trans (g_at m c t k)) ((congrArg (iblk m c 2 t) (ldm k)).trans (sc_at m c t r k))
    ((congrArg (iblk m c 1 t) (ldm k)).trans (sh_at m c t r k))

/-- The keys' first product, over the modulated norm of the tile. -/
theorem pay7_blocks (c : Dev nD) (t : Fin cfg0.N) {y : V S512x1024 .f32} {g : V S1x1024 .f32} {sc sh : V S1x1x1x1x1024 .f32}
    (w : V S1024x512 .bf16) (r f : Fin 512)
    (h : k0_pay6 (F := Ideal) y g sc sh = k0_pay8 (iblk m c 0 t) (iblk m c 1 t) (iblk m c 2 t) (iblk m c 3 t) (iblk m c 4 t)) :
    k0_pay7 (F := Ideal) y g sc sh w (ix2 r f)
      = ∑ k : Fin 1024, k0_pay8 (F := Ideal) (iblk m c 0 t) (iblk m c 1 t) (iblk m c 2 t) (iblk m c 3 t) (iblk m c 4 t) (ix2 r k) * w (ix2 k f) := by
  rw [pay7_at, h]

/-- The reference's queries over the kernel's argument arrays. -/
abbrev qRef (c : Dev nD) : V S8192x1024 .bf16 :=
  Cert.OddLatRefIdeal.Read.val_main_v37 (F := Ideal) (m (c, Proc.tc.devRef main_arg0)) (m (c, Proc.tc.devRef main_arg1)) (m (c, Proc.tc.devRef main_arg2)) (m (c, Proc.tc.devRef main_arg3))

theorem qRef_at (c : Dev nD) (R : Fin 8192) (k : Fin 1024) :
    qRef m c (ix2 R k) = (dat m c).proj R ⟨k.val, by omega⟩ * Projection.scale :=
  Cert.OddLatRefIdeal.Rows.q_at (m (c, Proc.tc.devRef main_arg0)) (m (c, Proc.tc.devRef main_arg1)) (m (c, Proc.tc.devRef main_arg2)) (m (c, Proc.tc.devRef main_arg3)) R k

theorem qRef_of (c : Dev nD) (t : Fin cfg0.N) (r f : Fin 512) (o : ℕ) (ho : o + 512 ≤ 3072) (i : S8192x1024.Idx)
    (hi0 : (i 0).val = t.val * 512 + r.val) (hi1 : 0 + (i 1).val = o + f.val) :
    (dat m c).proj (row t r) ⟨o + f.val, Nat.lt_of_lt_of_le (Nat.add_lt_add_left f.isLt o) ho⟩ * Projection.scale = qRef m c i := by
  have e0 : i 0 = row t r := Fin.ext hi0
  rw [Idealize.ShloMosaic.eq_ix2 i]
  refine Eq.trans ?_ (qRef_at m c (i 0) (i 1)).symm
  rw [e0]
  refine congrArg (fun f => (dat m c).proj (row t r) f * Projection.scale) (Fin.ext ?_)
  simp only
  omega

theorem point5 (c : Dev nD) (t : Fin cfg0.N) (y : S512x1024.Idx) (i : S8192x1024.Idx)
    (hi0 : (i 0).val = t.val * 512 + (y 0).val) (hi1 : (i 1).val = (y 1).val) :
    Gen.out0_5 (F := Ideal) (iblk m c 0 t) (iblk m c 1 t) (iblk m c 2 t) (iblk m c 3 t) (iblk m c 4 t) y = qRef m c i := by
  unfold Gen.out0_5
  canon_tiles x h
  · idx_vars x
    refine (pay5_at _ _ x0 x1).trans ((congrArg (· * Projection.scale) (Finset.sum_congr rfl fun j _ => congrArg₂ (· * ·) (hid_blocks m c t x0 j)
        ((congrArg (iblk m c 4 t) (ldw512 j x1)).trans (w_at m c t j _)))).trans
      (qRef_of m c t x0 x1 512 (by norm_num) i (by rw [hi0, h0]) (by have e0 := hi1; have e1 := h1; omega)))
  · idx_vars x
    refine (pay4_at _ _ x0 x1).trans ((congrArg (· * Projection.scale) (Finset.sum_congr rfl fun j _ => congrArg₂ (· * ·) (hid_blocks m c t x0 j)
        ((congrArg (iblk m c 4 t) (ldw0 j x1)).trans (w_at m c t j _)))).trans
      (qRef_of m c t x0 x1 0 (by norm_num) i (by rw [hi0, h0]) (by have e0 := hi1; have e1 := h1; omega)))

theorem final5 (c : Dev nD) : (dats m 0 c).arrAt 5 (cfgs 0).N = qRef m c := by
  refine (dats m 0 c).arrAt_eq_of_covers 5 _ (by decide +kernel) fun t _ y => ?_
  blk_simp
  rw [after0_5]
  refine point5 m c t y _ ?_ ?_ <;> blk_simp [idx t]

/-- The reference's keys over the kernel's argument arrays. -/
abbrev kRef (c : Dev nD) : V S8192x1024 .bf16 :=
  Cert.OddLatRefIdeal.Read.val_main_v39 (F := Ideal) (m (c, Proc.tc.devRef main_arg0)) (m (c, Proc.tc.devRef main_arg1)) (m (c, Proc.tc.devRef main_arg2)) (m (c, Proc.tc.devRef main_arg3))

theorem kRef_at (c : Dev nD) (R : Fin 8192) (k : Fin 1024) :
    kRef m c (ix2 R k) = (dat m c).proj R ⟨1024 + k.val, by omega⟩ :=
  Cert.OddLatRefIdeal.Rows.k_at (m (c, Proc.tc.devRef main_arg0)) (m (c, Proc.tc.devRef main_arg1)) (m (c, Proc.tc.devRef main_arg2)) (m (c, Proc.tc.devRef main_arg3)) R k

theorem kRef_of (c : Dev nD) (t : Fin cfg0.N) (r f : Fin 512) (o : ℕ) (ho : o + 512 ≤ 3072) (i : S8192x1024.Idx)
    (hi0 : (i 0).val = t.val * 512 + r.val) (hi1 : 1024 + (i 1).val = o + f.val) :
    (dat m c).proj (row t r) ⟨o + f.val, Nat.lt_of_lt_of_le (Nat.add_lt_add_left f.isLt o) ho⟩ = kRef m c i := by
  have e0 : i 0 = row t r := Fin.ext hi0
  rw [Idealize.ShloMosaic.eq_ix2 i]
  refine Eq.trans ?_ (kRef_at m c (i 0) (i 1)).symm
  rw [e0]
  refine congrArg (fun f => (dat m c).proj (row t r) f) (Fin.ext ?_)
  simp only
  omega

theorem point6 (c : Dev nD) (t : Fin cfg0.N) (y : S512x1024.Idx) (i : S8192x1024.Idx)
    (hi0 : (i 0).val = t.val * 512 + (y 0).val) (hi1 : (i 1).val = (y 1).val) :
    Gen.out0_6 (F := Ideal) (iblk m c 0 t) (iblk m c 1 t) (iblk m c 2 t) (iblk m c 3 t) (iblk m c 4 t) y = kRef m c i := by
  unfold Gen.out0_6
  canon_tiles x h
  · idx_vars x
    refine (pay1_at _ _ x0 x1).trans ((Finset.sum_congr rfl fun j _ => congrArg₂ (· * ·) (hid_blocks m c t x0 j)
        ((congrArg (iblk m c 4 t) (ldw1536 j x1)).trans (w_at m c t j _))).trans
      (kRef_of m c t x0 x1 1536 (by norm_num) i (by rw [hi0, h0]) (by have e0 := hi1; have e1 := h1; omega)))
  · idx_vars x
    refine (pay7_blocks m c t _ x0 x1 rfl).trans ((Finset.sum_congr rfl fun j _ => congrArg₂ (· * ·) (hid_blocks m c t x0 j)
        ((congrArg (iblk m c 4 t) (ldw1024 j x1)).trans (w_at m c t j _))).trans
      (kRef_of m c t x0 x1 1024 (by norm_num) i (by rw [hi0, h0]) (by have e0 := hi1; have e1 := h1; omega)))

theorem final6 (c : Dev nD) : (dats m 0 c).arrAt 6 (cfgs 0).N = kRef m c := by
  refine (dats m 0 c).arrAt_eq_of_covers 6 _ (by decide +kernel) fun t _ y => ?_
  blk_simp
  rw [after0_6]
  refine point6 m c t y _ ?_ ?_ <;> blk_simp [idx t]

/-- The reference's values over the kernel's argument arrays. -/
abbrev vRef (c : Dev nD) : V S8192x1024 .bf16 :=
  Cert.OddLatRefIdeal.Read.val_main_v41 (F := Ideal) (m (c, Proc.tc.devRef main_arg0)) (m (c, Proc.tc.devRef main_arg1)) (m (c, Proc.tc.devRef main_arg2)) (m (c, Proc.tc.devRef main_arg3))

theorem vRef_at (c : Dev nD) (R : Fin 8192) (k : Fin 1024) :
    vRef m c (ix2 R k) = (dat m c).proj R ⟨2048 + k.val, by omega⟩ :=
  Cert.OddLatRefIdeal.Rows.v_at (m (c, Proc.tc.devRef main_arg0)) (m (c, Proc.tc.devRef main_arg1)) (m (c, Proc.tc.devRef main_arg2)) (m (c, Proc.tc.devRef main_arg3)) R k

theorem vRef_of (c : Dev nD) (t : Fin cfg0.N) (r f : Fin 512) (o : ℕ) (ho : o + 512 ≤ 3072) (i : S8192x1024.Idx)
    (hi0 : (i 0).val = t.val * 512 + r.val) (hi1 : 2048 + (i 1).val = o + f.val) :
    (dat m c).proj (row t r) ⟨o + f.val, Nat.lt_of_lt_of_le (Nat.add_lt_add_left f.isLt o) ho⟩ = vRef m c i := by
  have e0 : i 0 = row t r := Fin.ext hi0
  rw [Idealize.ShloMosaic.eq_ix2 i]
  refine Eq.trans ?_ (vRef_at m c (i 0) (i 1)).symm
  rw [e0]
  refine congrArg (fun f => (dat m c).proj (row t r) f) (Fin.ext ?_)
  simp only
  omega

theorem point7 (c : Dev nD) (t : Fin cfg0.N) (y : S512x1024.Idx) (i : S8192x1024.Idx)
    (hi0 : (i 0).val = t.val * 512 + (y 0).val) (hi1 : (i 1).val = (y 1).val) :
    Gen.out0_7 (F := Ideal) (iblk m c 0 t) (iblk m c 1 t) (iblk m c 2 t) (iblk m c 3 t) (iblk m c 4 t) y = vRef m c i := by
  unfold Gen.out0_7
  canon_tiles x h
  · idx_vars x
    refine (pay3_at _ _ x0 x1).trans ((Finset.sum_congr rfl fun j _ => congrArg₂ (· * ·) (hid_blocks m c t x0 j)
        ((congrArg (iblk m c 4 t) (ldw2560 j x1)).trans (w_at m c t j _))).trans
      (vRef_of m c t x0 x1 2560 (by norm_num) i (by rw [hi0, h0]) (by have e0 := hi1; have e1 := h1; omega)))
  · idx_vars x
    refine (pay2_at _ _ x0 x1).trans ((Finset.sum_congr rfl fun j _ => congrArg₂ (· * ·) (hid_blocks m c t x0 j)
        ((congrArg (iblk m c 4 t) (ldw2048 j x1)).trans (w_at m c t j _))).trans
      (vRef_of m c t x0 x1 2048 (by norm_num) i (by rw [hi0, h0]) (by have e0 := hi1; have e1 := h1; omega)))

theorem final7 (c : Dev nD) : (dats m 0 c).arrAt 7 (cfgs 0).N = vRef m c := by
  refine (dats m 0 c).arrAt_eq_of_covers 7 _ (by decide +kernel) fun t _ y => ?_
  blk_simp
  rw [after0_7]
  refine point7 m c t y _ ?_ ?_ <;> blk_simp [idx t]

end Cert.OddLatIdeal.Mix

end
-- ==== Proof.OddBlocks.lean ====
/-
The blocks the context stream's second projection call reads at a grid point: which entry of which argument each holds.
-/
module

public import proofs.«01_k».proof.Proof.Projection
public import proofs.«01_k».proof.Proof.Gen.OddIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OddIdeal.Mix

open Cert.OddIdeal Cert.OddIdeal.Gen

local notation "V" => FVec Idealize.ShloMosaic.Ideal

/-- What the call reads, out of the argument arrays. -/
def data (x : V S32x256x1024 .f32) (m : V S1x6144 .f32) (g : V S2x1024 .f32) (w : V S1024x3072 .f32) : Projection.Data 3072 where
  x R c := x (ix3 ⟨R / 256, by omega⟩ ⟨R % 256, by omega⟩ c)
  sh R c := m (ix2 0 ⟨0 + c, by omega⟩)
  sc R c := m (ix2 0 ⟨1024 + c, by omega⟩)
  g c := g (ix2 1 c)
  w k f := w (ix2 k f)

variable (m : (ℓ : Loc nD τ sig) → Buf (Elt Ideal) ℓ)

/-- The same, out of the launch memory. -/
abbrev dat (c : Dev nD) : Projection.Data 3072 :=
  data (m (c, Proc.tc.devRef main_arg0)) (m (c, Proc.tc.devRef main_arg1)) (m (c, Proc.tc.devRef main_arg2))
    (m (c, Proc.tc.devRef main_arg3))

/-- Where each window stands at a grid point. -/
theorem idx : ∀ t : Fin cfg0.N, win0_0.index t = ![t.val, 0] ∧ win0_1.index t = ![1, 0, 0, 0, 0]
    ∧ win0_2.index t = ![1, 0, 1, 0, 0] ∧ win0_3.index t = ![0, 0] ∧ win0_4.index t = ![0, 0]
    ∧ win0_5.index t = ![t.val, 0] ∧ win0_6.index t = ![t.val, 0] ∧ win0_7.index t = ![t.val, 0]
    ∧ win0_8.index t = ![t.val, 0, 0, 0, 0] ∧ win0_9.index t = ![t.val, 0, 0, 0, 0] :=
  (by decide +kernel : ∀ t : Fin grid0.N, _)

theorem lt16 (t : Fin cfg0.N) : t.val < 16 := lt_of_lt_of_eq t.isLt (by decide)

/-- The row of the stream a row of a grid point's tile is. -/
def row (t : Fin cfg0.N) (r : Fin 512) : Fin 8192 := ⟨t.val * 512 + r.val, by have := lt16 t; omega⟩

theorem x_at (c : Dev nD) (t : Fin cfg0.N) (y : Fin 512) (x : Fin 1024) :
    (show V S512x1024 .f32 from iblk m c 0 t) (ix2 y x) = (dat m c).x (row t y) x := by
  unfold dat data row
  blk_simp [iblk, idx t]
  simp only [Gen.V, Gen.V0, hostOps0, hostOps0_1, hostOps0_2, List.flatten_cons, List.flatten_nil, List.cons_append, List.nil_append, List.append_nil]
  entry_read
  pointwise
  have h16 := lt16 t
  blk_ext [idx t]

theorem sh_at (c : Dev nD) (t : Fin cfg0.N) (y : Fin 512) (x : Fin 1024) :
    (show V S1x1x1x1x1024 .f32 from iblk m c 1 t) (ix5 0 0 0 0 x) = (dat m c).sh (row t y) x := by
  unfold dat data row
  blk_simp [iblk, idx t]
  simp only [Gen.V, Gen.V0, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h16 := lt16 t
  rw [dif_pos (by blk_simp [idx t]; omega)]
  blk_ext [idx t]

theorem sc_at (c : Dev nD) (t : Fin cfg0.N) (y : Fin 512) (x : Fin 1024) :
    (show V S1x1x1x1x1024 .f32 from iblk m c 2 t) (ix5 0 0 0 0 x) = (dat m c).sc (row t y) x := by
  unfold dat data row
  blk_simp [iblk, idx t]
  simp only [Gen.V, Gen.V0, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h16 := lt16 t
  rw [dif_pos (by blk_simp [idx t]; omega)]
  blk_ext [idx t]

theorem g_at (c : Dev nD) (t : Fin cfg0.N) (x : Fin 1024) :
    (show V S1x1024 .f32 from iblk m c 3 t) (ix2 0 x) = (dat m c).g x := by
  unfold dat data
  blk_simp [iblk, idx t]
  simp only [Gen.V, Gen.V0, hostOps0, hostOps0_1, hostOps0_2, List.flatten_cons, List.flatten_nil, List.cons_append, List.nil_append, List.append_nil]
  entry_read
  pointwise
  blk_ext [idx t]

theorem w_at (c : Dev nD) (t : Fin cfg0.N) (k : Fin 1024) (f : Fin 3072) :
    (show V S1024x3072 .bf16 from iblk m c 4 t) (ix2 k f) = (dat m c).w k f := by
  unfold dat data
  blk_simp [iblk, idx t]
  simp only [Gen.V, Gen.V0, hostOps0, hostOps0_1, hostOps0_2, List.flatten_cons, List.flatten_nil, List.cons_append, List.nil_append, List.append_nil]
  entry_read
  pointwise
  blk_ext [idx t]

end Cert.OddIdeal.Mix

end
-- ==== Proof.OddReference.lean ====
/-
The reference of the context stream's second projection call, read at a row and a column: the modulated norm times the weights.
-/
module

public import proofs.«01_k».proof.Proof.Gen.OddRefIdeal.Read
public import proofs.«01_k».proof.Proof.OddBlocks
public import Idealize.ShloMosaic.Lib.Pointwise

@[expose] public section

set_option maxRecDepth 16384

noncomputable section

open Idealize.ShloMosaic Idealize.ShloMosaic.TcCoe Idealize.SL.Sem

namespace Cert.OddRefIdeal.Rows

open Cert.OddRefIdeal Cert.OddRefIdeal.Gen Cert.OddRefIdeal.Read

local notation "V" => FVec Idealize.ShloMosaic.Ideal

variable (x : V S32x256x1024 .f32) (m : V S1x6144 .f32) (g : V S2x1024 .f32) (w : V S1024x3072 .f32)

/-- The row of the stream a position of a sequence is. -/
def at' (b : Fin 32) (p : Fin 256) : Fin 8192 := ⟨b.val * 256 + p.val, by omega⟩

theorem div_at (b : Fin 32) (p : Fin 256) (h : (at' b p : ℕ) / 256 < 32) : (⟨(at' b p : ℕ) / 256, h⟩ : Fin 32) = b :=
  Fin.ext (by simp only [at']; omega)

theorem mod_at (b : Fin 32) (p : Fin 256) (h : (at' b p : ℕ) % 256 < 256) : (⟨(at' b p : ℕ) % 256, h⟩ : Fin 256) = p :=
  Fin.ext (by simp only [at']; omega)

theorem sum_at (b : Fin 32) (p : Fin 256) :
    val_main_v10 (F := Ideal) x (ix2 b p) = ∑ k : Fin 1024, x (ix3 b p k) * x (ix3 b p k) := by
  pointwise [val_main_v10, val_main_v9, val_main_cst]

theorem rms_at (b : Fin 32) (p : Fin 256) (c : Fin 1024) :
    val_main_v18 (F := Ideal) x (ix3 b p c) = ConvFfn.rms (fun k => x (ix3 b p k)) c := by
  unfold ConvFfn.rms
  rw [← sum_at x b p]
  generalize hs : val_main_v10 (F := Ideal) x = s
  pointwise [val_main_v18, val_main_v17, val_main_v16, val_main_v15, val_main_v14, val_main_cst_1, val_main_v13, val_main_v12,
    val_main_cst_0, val_main_v11, hs]

theorem hid_at (b : Fin 32) (p : Fin 256) (c : Fin 1024) :
    val_main_v27 (F := Ideal) x m g (ix3 b p c) = (Cert.OddIdeal.Mix.data x m g w).hid (at' b p) c := by
  unfold Projection.Data.hid Cert.OddIdeal.Mix.data
  simp only [div_at, mod_at]
  rw [← rms_at x b p c]
  generalize hs : val_main_v18 (F := Ideal) x = s
  pointwise [val_main_v27, val_main_v26, val_main_v25, val_main_v24, val_main_v23, val_main_v22, val_main_cst_2, val_main_v21,
    val_main_v20, val_main_v19, val_main_v8, val_main_v7, val_main_v2, val_main_v1, val_main_v0, hs]

theorem proj_at (b : Fin 32) (p : Fin 256) (f : Fin 3072) :
    val_main_v28 (F := Ideal) x m g w (ix3 b p f) = (Cert.OddIdeal.Mix.data x m g w).proj (at' b p) f := by
  unfold Projection.Data.proj
  simp only [← hid_at x m g w]
  unfold Cert.OddIdeal.Mix.data
  generalize hs : val_main_v27 (F := Ideal) x m g = s
  pointwise [val_main_v28, hs]

theorem row_at (R : Fin 8192) (h : (R : ℕ) / 256 < 32) (h' : (R : ℕ) % 256 < 256) : at' ⟨(R : ℕ) / 256, h⟩ ⟨(R : ℕ) % 256, h'⟩ = R :=
  Fin.ext (by simp only [at']; omega)

/-- The projection, by the row of the stream. -/
theorem proj_row (R : Fin 8192) (h : (R : ℕ) / 256 < 32) (h' : (R : ℕ) % 256 < 256) (f : Fin 3072) :
    val_main_v28 (F := Ideal) x m g w (ix3 ⟨(R : ℕ) / 256, h⟩ ⟨(R : ℕ) % 256, h'⟩ f) = (Cert.OddIdeal.Mix.data x m g w).proj R f :=
  (proj_at x m g w ..).trans (by rw [row_at])

/-- The queries. -/
theorem q_at (R : Fin 8192) (c : Fin 1024) :
    val_main_v37 (F := Ideal) x m g w (ix2 R c) = (Cert.OddIdeal.Mix.data x m g w).proj R ⟨c.val, by omega⟩ * Projection.scale := by
  rw [← proj_row x m g w R (by omega) (by omega), ← Projection.scale_eq]
  generalize hs : val_main_v28 (F := Ideal) x m g w = s
  pointwise [val_main_v37, val_main_v36, val_main_v35, val_main_v34, val_main_v33, val_main_cst_4, val_main_v32, val_main_cst_3,
    val_main_v29, hs]

/-- The keys. -/
theorem k_at (R : Fin 8192) (c : Fin 1024) :
    val_main_v39 (F := Ideal) x m g w (ix2 R c) = (Cert.OddIdeal.Mix.data x m g w).proj R ⟨1024 + c.val, by omega⟩ := by
  rw [← proj_row x m g w R (by omega) (by omega)]
  generalize hs : val_main_v28 (F := Ideal) x m g w = s
  pointwise [val_main_v39, val_main_v38, val_main_v30, hs]

/-- The values. -/
theorem v_at (R : Fin 8192) (c : Fin 1024) :
    val_main_v41 (F := Ideal) x m g w (ix2 R c) = (Cert.OddIdeal.Mix.data x m g w).proj R ⟨2048 + c.val, by omega⟩ := by
  rw [← proj_row x m g w R (by omega) (by omega)]
  generalize hs : val_main_v28 (F := Ideal) x m g w = s
  pointwise [val_main_v41, val_main_v40, val_main_v31, hs]

/-- The keys' cache. -/
theorem ck_at (b : Fin 32) (h : Fin 16) (p : Fin 256) (d : Fin 64) :
    val_main_v44 (F := Ideal) x m g w (ix5 b 0 h p d) = (Cert.OddIdeal.Mix.data x m g w).proj (at' b p) ⟨1024 + (h.val * 64 + d.val), by omega⟩ := by
  rw [← proj_at x m g w]
  generalize hs : val_main_v28 (F := Ideal) x m g w = s
  pointwise [val_main_v44, val_main_v43, val_main_v42, val_main_v30, hs]

/-- The values' cache. -/
theorem cv_at (b : Fin 32) (h : Fin 16) (p : Fin 256) (d : Fin 64) :
    val_main_v47 (F := Ideal) x m g w (ix5 b 0 h p d) = (Cert.OddIdeal.Mix.data x m g w).proj (at' b p) ⟨2048 + (h.val * 64 + d.val), by omega⟩ := by
  rw [← proj_at x m g w]
  generalize hs : val_main_v28 (F := Ideal) x m g w = s
  pointwise [val_main_v47, val_main_v46, val_main_v45, val_main_v31, hs]

end Cert.OddRefIdeal.Rows

end
-- ==== Proof.OddValue.lean ====
/-
The context stream's second projection call: the vector operations its stored values are made of, the value of each at an index,
and the three projected arrays after the run, which are the reference's.
-/
module

public import proofs.«01_k».proof.Proof.OddBlocks
public import proofs.«01_k».proof.Proof.OddReference

@[expose] public section

set_option maxRecDepth 16384

noncomputable section

open Idealize.ShloMosaic Idealize.ShloMosaic.TcCoe Idealize.SL.Sem
open Idealize.ShloMosaic.Pipeline (Dat)

namespace Cert.OddIdeal.Mix

open Cert.OddIdeal Cert.OddIdeal.Gen

local notation "V" => FVec Idealize.ShloMosaic.Ideal

/-- A row divided by the root of its mean square. -/
def rmsT (y : V S512x1024 .f32) : V S512x1024 .f32 :=
  mulf y (broadcastTo S512x1024
    (rsqrt (addf (divf (shapeCast S512x1
        (multiReduction .add [1] S512 (mulf y y) 0x00000000#32 reduces_S512x1024_S512 (.inl rfl) rfl) shapeCasts_S512_S512x1)
      (broadcast S512x1 (Scalar.ofBits .f32 0x44800000#32 : Idealize.ShloMosaic.Ideal .f32)))
      (broadcast S512x1 (Scalar.ofBits .f32 0x358637BD#32 : Idealize.ShloMosaic.Ideal .f32))))
    broadcasts_S512x1_S512x1024)

theorem rmsT_at (y : V S512x1024 .f32) (r : Fin 512) (c : Fin 1024) :
    rmsT y (ix2 r c) = ConvFfn.rms (fun k => y (ix2 r k)) c := by
  unfold ConvFfn.rms
  pointwise [rmsT]

/-- The normalised row with its gain, scale and shift. -/
def hidT (y : V S512x1024 .f32) (g : V S1x1024 .f32) (sc sh : V S1x1x1x1x1024 .f32) : V S512x1024 .bf16 :=
  truncf .bf16 (addf (mulf
      (mulf (rmsT (shapeCast S512x1024 y shapeCasts_S512x1024_S512x1024)) (broadcastTo S512x1024 (shapeCast S1x1024 g shapeCasts_S1x1024_S1x1024) broadcasts_S1x1024_S512x1024))
      (broadcastTo S512x1024 (addf (broadcast S1x1024 (Scalar.ofBits .f32 0x3F800000#32 : Idealize.ShloMosaic.Ideal .f32))
        (shapeCast S1x1024 sc shapeCasts_S1x1x1x1x1024_S1x1024)) broadcasts_S1x1024_S512x1024))
      (broadcastTo S512x1024 (shapeCast S1x1024 sh shapeCasts_S1x1x1x1x1024_S1x1024) broadcasts_S1x1024_S512x1024))
      bitsLt_bf16_f32

theorem pay_hid (y : V S512x1024 .f32) (g : V S1x1024 .f32) (sc sh : V S1x1x1x1x1024 .f32) :
    k0_pay5 (F := Ideal) y g sc sh = hidT y g sc sh := rfl

/-- The modulated norm of a tile whose operands hold a row's data. -/
theorem hid_at (D : Projection.Data 3072) (R : Fin 8192) (y : V S512x1024 .f32) (g : V S1x1024 .f32)
    (sc sh : V S1x1x1x1x1024 .f32) (r : Fin 512) (c : Fin 1024) (h0 : ∀ k, y (ix2 r k) = D.x R k)
    (h1 : g (ix2 0 c) = D.g c) (h2 : sc (ix5 0 0 0 0 c) = D.sc R c) (h3 : sh (ix5 0 0 0 0 c) = D.sh R c) :
    k0_pay5 (F := Ideal) y g sc sh (ix2 r c) = D.hid R c := by
  have e : shapeCast S512x1024 y shapeCasts_S512x1024_S512x1024 = y := by
    funext i
    rw [Idealize.ShloMosaic.eq_ix2 i]
    pointwise
  rw [pay_hid]
  unfold hidT Projection.Data.hid
  rw [e, ← funext h0, ← rmsT_at, ← h1, ← h2, ← h3]
  generalize hz : rmsT y = z
  pointwise [hz]

/-- The product with the columns from 512 on. -/
theorem pay4_at (z : V S512x1024 .bf16) (w : V S1024x512 .bf16) (r : Fin 512) (f : Fin 512) :
    k0_pay4 (F := Ideal) z w (ix2 r f) = (∑ k : Fin 1024, z (ix2 r k) * w (ix2 k f)) * Projection.scale := by
  have e : (Named.named (F := Ideal) κ "q_scale" 0x3E38AA3B#32 : Idealize.ShloMosaic.Ideal .f32) = Projection.scale :=
    IdealRules.named_const.ideal_named_scalar _ _ _ _ rfl
  pointwise [k0_pay4, e]

/-- The product with the columns from 0 on. -/
theorem pay3_at (z : V S512x1024 .bf16) (w : V S1024x512 .bf16) (r : Fin 512) (f : Fin 512) :
    k0_pay3 (F := Ideal) z w (ix2 r f) = (∑ k : Fin 1024, z (ix2 r k) * w (ix2 k f)) * Projection.scale := by
  have e : (Named.named (F := Ideal) κ "q_scale" 0x3E38AA3B#32 : Idealize.ShloMosaic.Ideal .f32) = Projection.scale :=
    IdealRules.named_const.ideal_named_scalar _ _ _ _ rfl
  pointwise [k0_pay3, e]

/-- The product with the columns from 1536 on. -/
theorem pay36_at (z : V S512x1024 .bf16) (w : V S1024x512 .bf16) (r : Fin 512) (f : Fin 512) :
    k0_pay36 (F := Ideal) z w (ix2 r f) = (∑ k : Fin 1024, z (ix2 r k) * w (ix2 k f)) := by
  pointwise [k0_pay36, k0_pay35]

/-- The product with the columns from 1024 on. -/
theorem pay7_at (y : V S512x1024 .f32) (g : V S1x1024 .f32) (sc sh : V S1x1x1x1x1024 .f32) (w : V S1024x512 .bf16)
    (r : Fin 512) (f : Fin 512) :
    k0_pay7 (F := Ideal) y g sc sh w (ix2 r f) = ∑ k : Fin 1024, k0_pay5 (F := Ideal) y g sc sh (ix2 r k) * w (ix2 k f) := by
  generalize hz : k0_pay5 (F := Ideal) y g sc sh = z
  pointwise [k0_pay7, k0_pay6, hz]

/-- The product with the columns from 2560 on. -/
theorem pay91_at (z : V S512x1024 .bf16) (w : V S1024x512 .bf16) (r : Fin 512) (f : Fin 512) :
    k0_pay91 (F := Ideal) z w (ix2 r f) = (∑ k : Fin 1024, z (ix2 r k) * w (ix2 k f)) := by
  pointwise [k0_pay91, k0_pay90]

/-- The product with the columns from 2048 on. -/
theorem pay63_at (z : V S512x1024 .bf16) (w : V S1024x512 .bf16) (r : Fin 512) (f : Fin 512) :
    k0_pay63 (F := Ideal) z w (ix2 r f) = (∑ k : Fin 1024, z (ix2 r k) * w (ix2 k f)) := by
  pointwise [k0_pay63, k0_pay62]

/-! The blocks of entries the body reads. -/

theorem ldx (y : Fin 512) (x : Fin 1024) : r0_0.idx (ix2 y x) = (ix2 y x) := by
  blk_ext [r0_0] <;> simp [r0_0, Rect.idx_unit_val]

theorem ldg (x : Fin 1024) : r0_1.idx (ix2 0 x) = (ix2 0 x) := by
  blk_ext [r0_1] <;> simp [r0_1, Rect.idx_unit_val]

theorem ldm (x : Fin 1024) : r0_2.idx (ix5 0 0 0 0 x) = (ix5 0 0 0 0 x) := by
  blk_ext [r0_2] <;> simp [r0_2, Rect.idx_unit_val]

theorem ldw512 (k : Fin 1024) (f : Fin 512) : r0_42.idx (ix2 k f) = (ix2 k ⟨512 + f.val, by omega⟩) := by
  blk_ext [r0_42] <;> simp [r0_42, Rect.idx_unit_val]

theorem ldw0 (k : Fin 1024) (f : Fin 512) : r0_41.idx (ix2 k f) = (ix2 k ⟨0 + f.val, by omega⟩) := by
  blk_ext [r0_41] <;> simp [r0_41, Rect.idx_unit_val]

theorem ldw1536 (k : Fin 1024) (f : Fin 512) : r0_21.idx (ix2 k f) = (ix2 k ⟨1536 + f.val, by omega⟩) := by
  blk_ext [r0_21] <;> simp [r0_21, Rect.idx_unit_val]

theorem ldw1024 (k : Fin 1024) (f : Fin 512) : r0_3.idx (ix2 k f) = (ix2 k ⟨1024 + f.val, by omega⟩) := by
  blk_ext [r0_3] <;> simp [r0_3, Rect.idx_unit_val]

theorem ldw2560 (k : Fin 1024) (f : Fin 512) : r0_40.idx (ix2 k f) = (ix2 k ⟨2560 + f.val, by omega⟩) := by
  blk_ext [r0_40] <;> simp [r0_40, Rect.idx_unit_val]

theorem ldw2048 (k : Fin 1024) (f : Fin 512) : r0_39.idx (ix2 k f) = (ix2 k ⟨2048 + f.val, by omega⟩) := by
  blk_ext [r0_39] <;> simp [r0_39, Rect.idx_unit_val]

variable (m : (ℓ : Loc nD τ sig) → Buf (Elt Ideal) ℓ)

/-- The modulated norm of a grid point's tile. -/
theorem hid_blocks (c : Dev nD) (t : Fin cfg0.N) (r : Fin 512) (k : Fin 1024) :
    k0_pay117 (F := Ideal) (iblk m c 0 t) (iblk m c 1 t) (iblk m c 2 t) (iblk m c 3 t) (iblk m c 4 t) (ix2 r k)
      = (dat m c).hid (row t r) k :=
  hid_at (dat m c) (row t r) _ _ _ _ r k (fun k => (congrArg (iblk m c 0 t) (ldx r k)).trans (x_at m c t r k))
    ((congrArg (iblk m c 3 t) (ldg k)).trans (g_at m c t k)) ((congrArg (iblk m c 2 t) (ldm k)).trans (sc_at m c t r k))
    ((congrArg (iblk m c 1 t) (ldm k)).trans (sh_at m c t r k))

/-- The keys' first product, over the modulated norm of the tile. -/
theorem pay7_blocks (c : Dev nD) (t : Fin cfg0.N) {y : V S512x1024 .f32} {g : V S1x1024 .f32} {sc sh : V S1x1x1x1x1024 .f32}
    (w : V S1024x512 .bf16) (r f : Fin 512)
    (h : k0_pay5 (F := Ideal) y g sc sh = k0_pay117 (iblk m c 0 t) (iblk m c 1 t) (iblk m c 2 t) (iblk m c 3 t) (iblk m c 4 t)) :
    k0_pay7 (F := Ideal) y g sc sh w (ix2 r f)
      = ∑ k : Fin 1024, k0_pay117 (F := Ideal) (iblk m c 0 t) (iblk m c 1 t) (iblk m c 2 t) (iblk m c 3 t) (iblk m c 4 t) (ix2 r k) * w (ix2 k f) := by
  rw [pay7_at, h]

/-- The reference's queries over the kernel's argument arrays. -/
abbrev qRef (c : Dev nD) : V S8192x1024 .bf16 :=
  Cert.OddRefIdeal.Read.val_main_v37 (F := Ideal) (m (c, Proc.tc.devRef main_arg0)) (m (c, Proc.tc.devRef main_arg1)) (m (c, Proc.tc.devRef main_arg2)) (m (c, Proc.tc.devRef main_arg3))

theorem qRef_at (c : Dev nD) (R : Fin 8192) (k : Fin 1024) :
    qRef m c (ix2 R k) = (dat m c).proj R ⟨k.val, by omega⟩ * Projection.scale :=
  Cert.OddRefIdeal.Rows.q_at (m (c, Proc.tc.devRef main_arg0)) (m (c, Proc.tc.devRef main_arg1)) (m (c, Proc.tc.devRef main_arg2)) (m (c, Proc.tc.devRef main_arg3)) R k

theorem qRef_of (c : Dev nD) (t : Fin cfg0.N) (r f : Fin 512) (o : ℕ) (ho : o + 512 ≤ 3072) (i : S8192x1024.Idx)
    (hi0 : (i 0).val = t.val * 512 + r.val) (hi1 : 0 + (i 1).val = o + f.val) :
    (dat m c).proj (row t r) ⟨o + f.val, Nat.lt_of_lt_of_le (Nat.add_lt_add_left f.isLt o) ho⟩ * Projection.scale = qRef m c i := by
  have e0 : i 0 = row t r := Fin.ext hi0
  rw [Idealize.ShloMosaic.eq_ix2 i]
  refine Eq.trans ?_ (qRef_at m c (i 0) (i 1)).symm
  rw [e0]
  refine congrArg (fun f => (dat m c).proj (row t r) f * Projection.scale) (Fin.ext ?_)
  simp only
  omega

theorem point5 (c : Dev nD) (t : Fin cfg0.N) (y : S512x1024.Idx) (i : S8192x1024.Idx)
    (hi0 : (i 0).val = t.val * 512 + (y 0).val) (hi1 : (i 1).val = (y 1).val) :
    Gen.out0_5 (F := Ideal) (iblk m c 0 t) (iblk m c 1 t) (iblk m c 2 t) (iblk m c 3 t) (iblk m c 4 t) y = qRef m c i := by
  unfold Gen.out0_5
  canon_tiles x h
  · idx_vars x
    refine (pay4_at _ _ x0 x1).trans ((congrArg (· * Projection.scale) (Finset.sum_congr rfl fun j _ => congrArg₂ (· * ·) (hid_blocks m c t x0 j)
        ((congrArg (iblk m c 4 t) (ldw512 j x1)).trans (w_at m c t j _)))).trans
      (qRef_of m c t x0 x1 512 (by norm_num) i (by rw [hi0, h0]) (by have e0 := hi1; have e1 := h1; omega)))
  · idx_vars x
    refine (pay3_at _ _ x0 x1).trans ((congrArg (· * Projection.scale) (Finset.sum_congr rfl fun j _ => congrArg₂ (· * ·) (hid_blocks m c t x0 j)
        ((congrArg (iblk m c 4 t) (ldw0 j x1)).trans (w_at m c t j _)))).trans
      (qRef_of m c t x0 x1 0 (by norm_num) i (by rw [hi0, h0]) (by have e0 := hi1; have e1 := h1; omega)))

theorem final5 (c : Dev nD) : (dats m 0 c).arrAt 5 (cfgs 0).N = qRef m c := by
  refine (dats m 0 c).arrAt_eq_of_covers 5 _ (by decide +kernel) fun t _ y => ?_
  blk_simp
  rw [after0_5]
  refine point5 m c t y _ ?_ ?_ <;> blk_simp [idx t]

/-- The reference's keys over the kernel's argument arrays. -/
abbrev kRef (c : Dev nD) : V S8192x1024 .bf16 :=
  Cert.OddRefIdeal.Read.val_main_v39 (F := Ideal) (m (c, Proc.tc.devRef main_arg0)) (m (c, Proc.tc.devRef main_arg1)) (m (c, Proc.tc.devRef main_arg2)) (m (c, Proc.tc.devRef main_arg3))

theorem kRef_at (c : Dev nD) (R : Fin 8192) (k : Fin 1024) :
    kRef m c (ix2 R k) = (dat m c).proj R ⟨1024 + k.val, by omega⟩ :=
  Cert.OddRefIdeal.Rows.k_at (m (c, Proc.tc.devRef main_arg0)) (m (c, Proc.tc.devRef main_arg1)) (m (c, Proc.tc.devRef main_arg2)) (m (c, Proc.tc.devRef main_arg3)) R k

theorem kRef_of (c : Dev nD) (t : Fin cfg0.N) (r f : Fin 512) (o : ℕ) (ho : o + 512 ≤ 3072) (i : S8192x1024.Idx)
    (hi0 : (i 0).val = t.val * 512 + r.val) (hi1 : 1024 + (i 1).val = o + f.val) :
    (dat m c).proj (row t r) ⟨o + f.val, Nat.lt_of_lt_of_le (Nat.add_lt_add_left f.isLt o) ho⟩ = kRef m c i := by
  have e0 : i 0 = row t r := Fin.ext hi0
  rw [Idealize.ShloMosaic.eq_ix2 i]
  refine Eq.trans ?_ (kRef_at m c (i 0) (i 1)).symm
  rw [e0]
  refine congrArg (fun f => (dat m c).proj (row t r) f) (Fin.ext ?_)
  simp only
  omega

theorem point6 (c : Dev nD) (t : Fin cfg0.N) (y : S512x1024.Idx) (i : S8192x1024.Idx)
    (hi0 : (i 0).val = t.val * 512 + (y 0).val) (hi1 : (i 1).val = (y 1).val) :
    Gen.out0_6 (F := Ideal) (iblk m c 0 t) (iblk m c 1 t) (iblk m c 2 t) (iblk m c 3 t) (iblk m c 4 t) y = kRef m c i := by
  unfold Gen.out0_6
  canon_tiles x h
  · idx_vars x
    refine (pay36_at _ _ x0 x1).trans ((Finset.sum_congr rfl fun j _ => congrArg₂ (· * ·) (hid_blocks m c t x0 j)
        ((congrArg (iblk m c 4 t) (ldw1536 j x1)).trans (w_at m c t j _))).trans
      (kRef_of m c t x0 x1 1536 (by norm_num) i (by rw [hi0, h0]) (by have e0 := hi1; have e1 := h1; omega)))
  · idx_vars x
    refine (pay7_blocks m c t _ x0 x1 rfl).trans ((Finset.sum_congr rfl fun j _ => congrArg₂ (· * ·) (hid_blocks m c t x0 j)
        ((congrArg (iblk m c 4 t) (ldw1024 j x1)).trans (w_at m c t j _))).trans
      (kRef_of m c t x0 x1 1024 (by norm_num) i (by rw [hi0, h0]) (by have e0 := hi1; have e1 := h1; omega)))

theorem final6 (c : Dev nD) : (dats m 0 c).arrAt 6 (cfgs 0).N = kRef m c := by
  refine (dats m 0 c).arrAt_eq_of_covers 6 _ (by decide +kernel) fun t _ y => ?_
  blk_simp
  rw [after0_6]
  refine point6 m c t y _ ?_ ?_ <;> blk_simp [idx t]

/-- The reference's values over the kernel's argument arrays. -/
abbrev vRef (c : Dev nD) : V S8192x1024 .bf16 :=
  Cert.OddRefIdeal.Read.val_main_v41 (F := Ideal) (m (c, Proc.tc.devRef main_arg0)) (m (c, Proc.tc.devRef main_arg1)) (m (c, Proc.tc.devRef main_arg2)) (m (c, Proc.tc.devRef main_arg3))

theorem vRef_at (c : Dev nD) (R : Fin 8192) (k : Fin 1024) :
    vRef m c (ix2 R k) = (dat m c).proj R ⟨2048 + k.val, by omega⟩ :=
  Cert.OddRefIdeal.Rows.v_at (m (c, Proc.tc.devRef main_arg0)) (m (c, Proc.tc.devRef main_arg1)) (m (c, Proc.tc.devRef main_arg2)) (m (c, Proc.tc.devRef main_arg3)) R k

theorem vRef_of (c : Dev nD) (t : Fin cfg0.N) (r f : Fin 512) (o : ℕ) (ho : o + 512 ≤ 3072) (i : S8192x1024.Idx)
    (hi0 : (i 0).val = t.val * 512 + r.val) (hi1 : 2048 + (i 1).val = o + f.val) :
    (dat m c).proj (row t r) ⟨o + f.val, Nat.lt_of_lt_of_le (Nat.add_lt_add_left f.isLt o) ho⟩ = vRef m c i := by
  have e0 : i 0 = row t r := Fin.ext hi0
  rw [Idealize.ShloMosaic.eq_ix2 i]
  refine Eq.trans ?_ (vRef_at m c (i 0) (i 1)).symm
  rw [e0]
  refine congrArg (fun f => (dat m c).proj (row t r) f) (Fin.ext ?_)
  simp only
  omega

theorem point7 (c : Dev nD) (t : Fin cfg0.N) (y : S512x1024.Idx) (i : S8192x1024.Idx)
    (hi0 : (i 0).val = t.val * 512 + (y 0).val) (hi1 : (i 1).val = (y 1).val) :
    Gen.out0_7 (F := Ideal) (iblk m c 0 t) (iblk m c 1 t) (iblk m c 2 t) (iblk m c 3 t) (iblk m c 4 t) y = vRef m c i := by
  unfold Gen.out0_7
  canon_tiles x h
  · idx_vars x
    refine (pay91_at _ _ x0 x1).trans ((Finset.sum_congr rfl fun j _ => congrArg₂ (· * ·) (hid_blocks m c t x0 j)
        ((congrArg (iblk m c 4 t) (ldw2560 j x1)).trans (w_at m c t j _))).trans
      (vRef_of m c t x0 x1 2560 (by norm_num) i (by rw [hi0, h0]) (by have e0 := hi1; have e1 := h1; omega)))
  · idx_vars x
    refine (pay63_at _ _ x0 x1).trans ((Finset.sum_congr rfl fun j _ => congrArg₂ (· * ·) (hid_blocks m c t x0 j)
        ((congrArg (iblk m c 4 t) (ldw2048 j x1)).trans (w_at m c t j _))).trans
      (vRef_of m c t x0 x1 2048 (by norm_num) i (by rw [hi0, h0]) (by have e0 := hi1; have e1 := h1; omega)))

theorem final7 (c : Dev nD) : (dats m 0 c).arrAt 7 (cfgs 0).N = vRef m c := by
  refine (dats m 0 c).arrAt_eq_of_covers 7 _ (by decide +kernel) fun t _ y => ?_
  blk_simp
  rw [after0_7]
  refine point7 m c t y _ ?_ ?_ <;> blk_simp [idx t]

end Cert.OddIdeal.Mix

end
-- ==== Proof.OddCache.lean ====
/-
The caches of the context stream's second projection call: each stored piece is one head's columns of a product, turned
over; the two arrays after the run, and what the transposes after the region make of them, are the reference's.
-/
module

public import proofs.«01_k».proof.Proof.OddValue

@[expose] public section

set_option maxRecDepth 16384

noncomputable section

open Idealize.ShloMosaic Idealize.ShloMosaic.TcCoe Idealize.SL.Sem
open Idealize.ShloMosaic.Pipeline (Dat)

namespace Cert.OddIdeal.Mix

open Cert.OddIdeal Cert.OddIdeal.Gen

local notation "V" => FVec Idealize.ShloMosaic.Ideal

theorem full6_at (y : V S512x1024 .f32) (g : V S1x1024 .f32) (sc sh : V S1x1x1x1x1024 .f32) (w : V S1024x512 .bf16) (r f : Fin 512) :
    k0_pay6 (F := Ideal) y g sc sh w (ix2 r f) = ∑ k : Fin 1024, k0_pay5 (F := Ideal) y g sc sh (ix2 r k) * w (ix2 k f) := by
  generalize hz : k0_pay5 (F := Ideal) y g sc sh = z
  pointwise [k0_pay6, hz]

theorem full35_at (z : V S512x1024 .bf16) (w : V S1024x512 .bf16) (r f : Fin 512) :
    k0_pay35 (F := Ideal) z w (ix2 r f) = ∑ k : Fin 1024, z (ix2 r k) * w (ix2 k f) := by
  pointwise [k0_pay35]

theorem full62_at (z : V S512x1024 .bf16) (w : V S1024x512 .bf16) (r f : Fin 512) :
    k0_pay62 (F := Ideal) z w (ix2 r f) = ∑ k : Fin 1024, z (ix2 r k) * w (ix2 k f) := by
  pointwise [k0_pay62]

theorem full90_at (z : V S512x1024 .bf16) (w : V S1024x512 .bf16) (r f : Fin 512) :
    k0_pay90 (F := Ideal) z w (ix2 r f) = ∑ k : Fin 1024, z (ix2 r k) * w (ix2 k f) := by
  pointwise [k0_pay90]

/-- One head's columns of one sample's rows of a product, turned over. -/
theorem head_at (s : V S512x512 .f32) (ra ca ho : ℕ) (ha : ra + 256 ≤ 512) (hc : ca + 128 ≤ 512) (hh : ho + 64 ≤ 128)
    (h1 : S512x512.Slices ![ra, ca] S256x128) (h2 : S256x128.Transposes [1, 0] S128x256)
    (h3 : S128x256.Slices ![ho, 0] S64x256) (h4 : S64x256.ShapeCasts S1x1x1x64x256) (a0 a1 a2 : Fin 1) (d : Fin 64) (p : Fin 256) :
    shapeCast S1x1x1x64x256 (extractStridedSlice S64x256 ![ho, 0]
        (transpose S128x256 [1, 0] (extractStridedSlice S256x128 ![ra, ca] s h1) h2) h3) h4 (ix5 a0 a1 a2 d p)
      = s (ix2 ⟨ra + p.val, by omega⟩ ⟨ca + (ho + d.val), by omega⟩) := by
  pointwise

variable (m : (ℓ : Loc nD τ sig) → Buf (Elt Ideal) ℓ)

theorem src118_at (c : Dev nD) (t : Fin cfg0.N) (r f : Fin 512) :
    k0_pay118 (F := Ideal) (iblk m c 0 t) (iblk m c 1 t) (iblk m c 2 t) (iblk m c 3 t) (iblk m c 4 t) (ix2 r f)
      = (dat m c).proj (row t r) ⟨1024 + f.val, by omega⟩ :=
  (full6_at _ _ _ _ _ r f).trans (Finset.sum_congr rfl fun j _ => congrArg₂ (· * ·) (hid_blocks m c t r j)
    ((congrArg (iblk m c 4 t) (ldw1024 j f)).trans (w_at m c t j _)))

theorem src119_at (c : Dev nD) (t : Fin cfg0.N) (r f : Fin 512) :
    k0_pay119 (F := Ideal) (iblk m c 0 t) (iblk m c 1 t) (iblk m c 2 t) (iblk m c 3 t) (iblk m c 4 t) (ix2 r f)
      = (dat m c).proj (row t r) ⟨1536 + f.val, by omega⟩ :=
  (full35_at _ _ r f).trans (Finset.sum_congr rfl fun j _ => congrArg₂ (· * ·) (hid_blocks m c t r j)
    ((congrArg (iblk m c 4 t) (ldw1536 j f)).trans (w_at m c t j _)))

theorem src120_at (c : Dev nD) (t : Fin cfg0.N) (r f : Fin 512) :
    k0_pay120 (F := Ideal) (iblk m c 0 t) (iblk m c 1 t) (iblk m c 2 t) (iblk m c 3 t) (iblk m c 4 t) (ix2 r f)
      = (dat m c).proj (row t r) ⟨2048 + f.val, by omega⟩ :=
  (full62_at _ _ r f).trans (Finset.sum_congr rfl fun j _ => congrArg₂ (· * ·) (hid_blocks m c t r j)
    ((congrArg (iblk m c 4 t) (ldw2048 j f)).trans (w_at m c t j _)))

theorem src121_at (c : Dev nD) (t : Fin cfg0.N) (r f : Fin 512) :
    k0_pay121 (F := Ideal) (iblk m c 0 t) (iblk m c 1 t) (iblk m c 2 t) (iblk m c 3 t) (iblk m c 4 t) (ix2 r f)
      = (dat m c).proj (row t r) ⟨2560 + f.val, by omega⟩ :=
  (full90_at _ _ r f).trans (Finset.sum_congr rfl fun j _ => congrArg₂ (· * ·) (hid_blocks m c t r j)
    ((congrArg (iblk m c 4 t) (ldw2560 j f)).trans (w_at m c t j _)))

/-- The reference's cache of keys over the kernel's argument arrays. -/
abbrev ckRef (c : Dev nD) : V S32x1x16x256x64 .f32 :=
  Cert.OddRefIdeal.Read.val_main_v44 (F := Ideal) (m (c, Proc.tc.devRef main_arg0)) (m (c, Proc.tc.devRef main_arg1)) (m (c, Proc.tc.devRef main_arg2)) (m (c, Proc.tc.devRef main_arg3))

/-- The same with its last two axes turned over, as the kernel's array holds it. -/
def ckT (c : Dev nD) : V S32x1x16x64x256 .f32 := fun i => ckRef m c (ix5 (i 0) 0 (i 2) (i 4) (i 3))

theorem ck_piece (c : Dev nD) (t : Fin cfg0.N) (o : ℕ) (ho : o + 512 ≤ 3072) {s : V S512x512 .f32}
    (hs : ∀ r f, s (ix2 r f) = (dat m c).proj (row t r) ⟨o + f.val, Nat.lt_of_lt_of_le (Nat.add_lt_add_left f.isLt o) ho⟩)
    (ra ca hd : ℕ) (hra : ra + 256 ≤ 512) (hca : ca + 128 ≤ 512) (hhd : hd + 64 ≤ 128)
    {h1 : S512x512.Slices ![ra, ca] S256x128} {h2 : S256x128.Transposes [1, 0] S128x256}
    {h3 : S128x256.Slices ![hd, 0] S64x256} {h4 : S64x256.ShapeCasts S1x1x1x64x256} (a0 a1 a2 : Fin 1) (d : Fin 64) (p : Fin 256)
    (i : S32x1x16x64x256.Idx)
    (hi : (i 0).val * 256 = t.val * 512 + ra ∧ 1024 + (i 2).val * 64 = o + ca + hd ∧ (i 3).val = d.val ∧ (i 4).val = p.val) :
    shapeCast S1x1x1x64x256 (extractStridedSlice S64x256 ![hd, 0]
        (transpose S128x256 [1, 0] (extractStridedSlice S256x128 ![ra, ca] s h1) h2) h3) h4 (ix5 a0 a1 a2 d p)
      = ckT m c i := by
  obtain ⟨e0, e2, e3, e4⟩ := hi
  have e4' : i 4 = p := Fin.ext e4
  have e3' : i 3 = d := Fin.ext e3
  refine (head_at s ra ca hd hra hca hhd h1 h2 h3 h4 a0 a1 a2 d p).trans ((hs _ _).trans ?_)
  unfold ckT
  rw [e4', e3']
  refine Eq.trans ?_ (Cert.OddRefIdeal.Rows.ck_at (m (c, Proc.tc.devRef main_arg0)) (m (c, Proc.tc.devRef main_arg1)) (m (c, Proc.tc.devRef main_arg2)) (m (c, Proc.tc.devRef main_arg3)) (i 0) (i 2) p d).symm
  refine congrArg₂ (dat m c).proj (Fin.ext ?_) (Fin.ext ?_)
  · simp only [row, Cert.OddRefIdeal.Rows.at']
    omega
  · simp only
    omega

set_option maxHeartbeats 1600000 in
theorem point8 (c : Dev nD) (t : Fin cfg0.N) (y : S2x1x16x64x256.Idx) (i : S32x1x16x64x256.Idx)
    (g0 : (i 0).val = t.val * 2 + (y 0).val) (g2 : (i 2).val = (y 2).val) (g3 : (i 3).val = (y 3).val)
    (g4 : (i 4).val = (y 4).val) :
    Gen.out0_8 (F := Ideal) (iblk m c 0 t) (iblk m c 1 t) (iblk m c 2 t) (iblk m c 3 t) (iblk m c 4 t) y = ckT m c i := by
  unfold Gen.out0_8
  canon_tiles x h
  · idx_vars x
    exact ck_piece m c t 1536 (by norm_num) (src119_at m c t) 256 384 64 (by norm_num) (by norm_num) (by norm_num)
      (h1 := slices_S512x512_o256_384_S256x128) (h3 := slices_S128x256_o64_0_S64x256) x0 x1 x2 x3 x4 i (by omega)
  · idx_vars x
    exact ck_piece m c t 1536 (by norm_num) (src119_at m c t) 256 384 0 (by norm_num) (by norm_num) (by norm_num)
      (h1 := slices_S512x512_o256_384_S256x128) (h3 := slices_S128x256_o0_0_S64x256) x0 x1 x2 x3 x4 i (by omega)
  · idx_vars x
    exact ck_piece m c t 1536 (by norm_num) (src119_at m c t) 256 256 64 (by norm_num) (by norm_num) (by norm_num)
      (h1 := slices_S512x512_o256_256_S256x128) (h3 := slices_S128x256_o64_0_S64x256) x0 x1 x2 x3 x4 i (by omega)
  · idx_vars x
    exact ck_piece m c t 1536 (by norm_num) (src119_at m c t) 256 256 0 (by norm_num) (by norm_num) (by norm_num)
      (h1 := slices_S512x512_o256_256_S256x128) (h3 := slices_S128x256_o0_0_S64x256) x0 x1 x2 x3 x4 i (by omega)
  · idx_vars x
    exact ck_piece m c t 1536 (by norm_num) (src119_at m c t) 256 128 64 (by norm_num) (by norm_num) (by norm_num)
      (h1 := slices_S512x512_o256_128_S256x128) (h3 := slices_S128x256_o64_0_S64x256) x0 x1 x2 x3 x4 i (by omega)
  · idx_vars x
    exact ck_piece m c t 1536 (by norm_num) (src119_at m c t) 256 128 0 (by norm_num) (by norm_num) (by norm_num)
      (h1 := slices_S512x512_o256_128_S256x128) (h3 := slices_S128x256_o0_0_S64x256) x0 x1 x2 x3 x4 i (by omega)
  · idx_vars x
    exact ck_piece m c t 1536 (by norm_num) (src119_at m c t) 256 0 64 (by norm_num) (by norm_num) (by norm_num)
      (h1 := slices_S512x512_o256_0_S256x128) (h3 := slices_S128x256_o64_0_S64x256) x0 x1 x2 x3 x4 i (by omega)
  · idx_vars x
    exact ck_piece m c t 1536 (by norm_num) (src119_at m c t) 256 0 0 (by norm_num) (by norm_num) (by norm_num)
      (h1 := slices_S512x512_o256_0_S256x128) (h3 := slices_S128x256_o0_0_S64x256) x0 x1 x2 x3 x4 i (by omega)
  · idx_vars x
    exact ck_piece m c t 1536 (by norm_num) (src119_at m c t) 0 384 64 (by norm_num) (by norm_num) (by norm_num)
      (h1 := slices_S512x512_o0_384_S256x128) (h3 := slices_S128x256_o64_0_S64x256) x0 x1 x2 x3 x4 i (by omega)
  · idx_vars x
    exact ck_piece m c t 1536 (by norm_num) (src119_at m c t) 0 384 0 (by norm_num) (by norm_num) (by norm_num)
      (h1 := slices_S512x512_o0_384_S256x128) (h3 := slices_S128x256_o0_0_S64x256) x0 x1 x2 x3 x4 i (by omega)
  · idx_vars x
    exact ck_piece m c t 1536 (by norm_num) (src119_at m c t) 0 256 64 (by norm_num) (by norm_num) (by norm_num)
      (h1 := slices_S512x512_o0_256_S256x128) (h3 := slices_S128x256_o64_0_S64x256) x0 x1 x2 x3 x4 i (by omega)
  · idx_vars x
    exact ck_piece m c t 1536 (by norm_num) (src119_at m c t) 0 256 0 (by norm_num) (by norm_num) (by norm_num)
      (h1 := slices_S512x512_o0_256_S256x128) (h3 := slices_S128x256_o0_0_S64x256) x0 x1 x2 x3 x4 i (by omega)
  · idx_vars x
    exact ck_piece m c t 1536 (by norm_num) (src119_at m c t) 0 128 64 (by norm_num) (by norm_num) (by norm_num)
      (h1 := slices_S512x512_o0_128_S256x128) (h3 := slices_S128x256_o64_0_S64x256) x0 x1 x2 x3 x4 i (by omega)
  · idx_vars x
    exact ck_piece m c t 1536 (by norm_num) (src119_at m c t) 0 128 0 (by norm_num) (by norm_num) (by norm_num)
      (h1 := slices_S512x512_o0_128_S256x128) (h3 := slices_S128x256_o0_0_S64x256) x0 x1 x2 x3 x4 i (by omega)
  · idx_vars x
    exact ck_piece m c t 1536 (by norm_num) (src119_at m c t) 0 0 64 (by norm_num) (by norm_num) (by norm_num)
      (h1 := slices_S512x512_o0_0_S256x128) (h3 := slices_S128x256_o64_0_S64x256) x0 x1 x2 x3 x4 i (by omega)
  · idx_vars x
    exact ck_piece m c t 1536 (by norm_num) (src119_at m c t) 0 0 0 (by norm_num) (by norm_num) (by norm_num)
      (h1 := slices_S512x512_o0_0_S256x128) (h3 := slices_S128x256_o0_0_S64x256) x0 x1 x2 x3 x4 i (by omega)
  · idx_vars x
    exact ck_piece m c t 1024 (by norm_num) (src118_at m c t) 256 384 64 (by norm_num) (by norm_num) (by norm_num)
      (h1 := slices_S512x512_o256_384_S256x128) (h3 := slices_S128x256_o64_0_S64x256) x0 x1 x2 x3 x4 i (by omega)
  · idx_vars x
    exact ck_piece m c t 1024 (by norm_num) (src118_at m c t) 256 384 0 (by norm_num) (by norm_num) (by norm_num)
      (h1 := slices_S512x512_o256_384_S256x128) (h3 := slices_S128x256_o0_0_S64x256) x0 x1 x2 x3 x4 i (by omega)
  · idx_vars x
    exact ck_piece m c t 1024 (by norm_num) (src118_at m c t) 256 256 64 (by norm_num) (by norm_num) (by norm_num)
      (h1 := slices_S512x512_o256_256_S256x128) (h3 := slices_S128x256_o64_0_S64x256) x0 x1 x2 x3 x4 i (by omega)
  · idx_vars x
    exact ck_piece m c t 1024 (by norm_num) (src118_at m c t) 256 256 0 (by norm_num) (by norm_num) (by norm_num)
      (h1 := slices_S512x512_o256_256_S256x128) (h3 := slices_S128x256_o0_0_S64x256) x0 x1 x2 x3 x4 i (by omega)
  · idx_vars x
    exact ck_piece m c t 1024 (by norm_num) (src118_at m c t) 256 128 64 (by norm_num) (by norm_num) (by norm_num)
      (h1 := slices_S512x512_o256_128_S256x128) (h3 := slices_S128x256_o64_0_S64x256) x0 x1 x2 x3 x4 i (by omega)
  · idx_vars x
    exact ck_piece m c t 1024 (by norm_num) (src118_at m c t) 256 128 0 (by norm_num) (by norm_num) (by norm_num)
      (h1 := slices_S512x512_o256_128_S256x128) (h3 := slices_S128x256_o0_0_S64x256) x0 x1 x2 x3 x4 i (by omega)
  · idx_vars x
    exact ck_piece m c t 1024 (by norm_num) (src118_at m c t) 256 0 64 (by norm_num) (by norm_num) (by norm_num)
      (h1 := slices_S512x512_o256_0_S256x128) (h3 := slices_S128x256_o64_0_S64x256) x0 x1 x2 x3 x4 i (by omega)
  · idx_vars x
    exact ck_piece m c t 1024 (by norm_num) (src118_at m c t) 256 0 0 (by norm_num) (by norm_num) (by norm_num)
      (h1 := slices_S512x512_o256_0_S256x128) (h3 := slices_S128x256_o0_0_S64x256) x0 x1 x2 x3 x4 i (by omega)
  · idx_vars x
    exact ck_piece m c t 1024 (by norm_num) (src118_at m c t) 0 384 64 (by norm_num) (by norm_num) (by norm_num)
      (h1 := slices_S512x512_o0_384_S256x128) (h3 := slices_S128x256_o64_0_S64x256) x0 x1 x2 x3 x4 i (by omega)
  · idx_vars x
    exact ck_piece m c t 1024 (by norm_num) (src118_at m c t) 0 384 0 (by norm_num) (by norm_num) (by norm_num)
      (h1 := slices_S512x512_o0_384_S256x128) (h3 := slices_S128x256_o0_0_S64x256) x0 x1 x2 x3 x4 i (by omega)
  · idx_vars x
    exact ck_piece m c t 1024 (by norm_num) (src118_at m c t) 0 256 64 (by norm_num) (by norm_num) (by norm_num)
      (h1 := slices_S512x512_o0_256_S256x128) (h3 := slices_S128x256_o64_0_S64x256) x0 x1 x2 x3 x4 i (by omega)
  · idx_vars x
    exact ck_piece m c t 1024 (by norm_num) (src118_at m c t) 0 256 0 (by norm_num) (by norm_num) (by norm_num)
      (h1 := slices_S512x512_o0_256_S256x128) (h3 := slices_S128x256_o0_0_S64x256) x0 x1 x2 x3 x4 i (by omega)
  · idx_vars x
    exact ck_piece m c t 1024 (by norm_num) (src118_at m c t) 0 128 64 (by norm_num) (by norm_num) (by norm_num)
      (h1 := slices_S512x512_o0_128_S256x128) (h3 := slices_S128x256_o64_0_S64x256) x0 x1 x2 x3 x4 i (by omega)
  · idx_vars x
    exact ck_piece m c t 1024 (by norm_num) (src118_at m c t) 0 128 0 (by norm_num) (by norm_num) (by norm_num)
      (h1 := slices_S512x512_o0_128_S256x128) (h3 := slices_S128x256_o0_0_S64x256) x0 x1 x2 x3 x4 i (by omega)
  · idx_vars x
    exact ck_piece m c t 1024 (by norm_num) (src118_at m c t) 0 0 64 (by norm_num) (by norm_num) (by norm_num)
      (h1 := slices_S512x512_o0_0_S256x128) (h3 := slices_S128x256_o64_0_S64x256) x0 x1 x2 x3 x4 i (by omega)
  · idx_vars x
    exact ck_piece m c t 1024 (by norm_num) (src118_at m c t) 0 0 0 (by norm_num) (by norm_num) (by norm_num)
      (h1 := slices_S512x512_o0_0_S256x128) (h3 := slices_S128x256_o0_0_S64x256) x0 x1 x2 x3 x4 i (by omega)

theorem final8 (c : Dev nD) : (dats m 0 c).arrAt 8 (cfgs 0).N = ckT m c := by
  refine (dats m 0 c).arrAt_eq_of_covers 8 _ (by decide +kernel) fun t _ y => ?_
  blk_simp
  rw [after0_8]
  refine point8 m c t y _ ?_ ?_ ?_ ?_ <;> blk_simp [idx t]

/-- Turned over again, it is the reference's cache. -/
theorem ck_turned (c : Dev nD) (h : S32x1x16x64x256.Transposes [0, 1, 2, 4, 3] S32x1x16x256x64) :
    transpose S32x1x16x256x64 [0, 1, 2, 4, 3] (ckT m c) h = ckRef m c := by
  funext j
  rw [Idealize.ShloMosaic.eq_ix5 j]
  generalize hz : ckRef m c = z
  pointwise [ckT, hz]
  have e : (0 : Fin 1) = j 1 := Subsingleton.elim _ _
  exact congrArg z ((congrArg (fun a => ix5 (j 0) a (j 2) (j 3) (j 4)) e).trans (Idealize.ShloMosaic.eq_ix5 j).symm)

/-- The cache after the lines that follow the region. -/
theorem ck_tail (c : Dev nD) :
    Pipeline.afterTail₀ cfgs (dats m) 0 (V0 m) [hostOps1] c main_v9 = ckRef m c := by
  have e : Pipeline.withArrays (cfgs 0).spec c (V0 m c) (fun w => (dats m 0 c).arrAt w (cfgs 0).N) (Proc.devRef .tc main_v8_3)
      = ckT m c :=
    ((dats m 0 c).withArrays_arrAt sharedIn0 (V0 m c) (A_eq m c) 8).trans (final8 m c)
  unfold Pipeline.afterTail₀
  simp only [hostOps1, List.flatten_cons, List.flatten_nil, List.append_nil, List.cons_append, List.nil_append]
  entry_read
  rw [e]
  exact ck_turned m c _

/-- The reference's cache of values over the kernel's argument arrays. -/
abbrev cvRef (c : Dev nD) : V S32x1x16x256x64 .f32 :=
  Cert.OddRefIdeal.Read.val_main_v47 (F := Ideal) (m (c, Proc.tc.devRef main_arg0)) (m (c, Proc.tc.devRef main_arg1)) (m (c, Proc.tc.devRef main_arg2)) (m (c, Proc.tc.devRef main_arg3))

/-- The same with its last two axes turned over, as the kernel's array holds it. -/
def cvT (c : Dev nD) : V S32x1x16x64x256 .f32 := fun i => cvRef m c (ix5 (i 0) 0 (i 2) (i 4) (i 3))

theorem cv_piece (c : Dev nD) (t : Fin cfg0.N) (o : ℕ) (ho : o + 512 ≤ 3072) {s : V S512x512 .f32}
    (hs : ∀ r f, s (ix2 r f) = (dat m c).proj (row t r) ⟨o + f.val, Nat.lt_of_lt_of_le (Nat.add_lt_add_left f.isLt o) ho⟩)
    (ra ca hd : ℕ) (hra : ra + 256 ≤ 512) (hca : ca + 128 ≤ 512) (hhd : hd + 64 ≤ 128)
    {h1 : S512x512.Slices ![ra, ca] S256x128} {h2 : S256x128.Transposes [1, 0] S128x256}
    {h3 : S128x256.Slices ![hd, 0] S64x256} {h4 : S64x256.ShapeCasts S1x1x1x64x256} (a0 a1 a2 : Fin 1) (d : Fin 64) (p : Fin 256)
    (i : S32x1x16x64x256.Idx)
    (hi : (i 0).val * 256 = t.val * 512 + ra ∧ 2048 + (i 2).val * 64 = o + ca + hd ∧ (i 3).val = d.val ∧ (i 4).val = p.val) :
    shapeCast S1x1x1x64x256 (extractStridedSlice S64x256 ![hd, 0]
        (transpose S128x256 [1, 0] (extractStridedSlice S256x128 ![ra, ca] s h1) h2) h3) h4 (ix5 a0 a1 a2 d p)
      = cvT m c i := by
  obtain ⟨e0, e2, e3, e4⟩ := hi
  have e4' : i 4 = p := Fin.ext e4
  have e3' : i 3 = d := Fin.ext e3
  refine (head_at s ra ca hd hra hca hhd h1 h2 h3 h4 a0 a1 a2 d p).trans ((hs _ _).trans ?_)
  unfold cvT
  rw [e4', e3']
  refine Eq.trans ?_ (Cert.OddRefIdeal.Rows.cv_at (m (c, Proc.tc.devRef main_arg0)) (m (c, Proc.tc.devRef main_arg1)) (m (c, Proc.tc.devRef main_arg2)) (m (c, Proc.tc.devRef main_arg3)) (i 0) (i 2) p d).symm
  refine congrArg₂ (dat m c).proj (Fin.ext ?_) (Fin.ext ?_)
  · simp only [row, Cert.OddRefIdeal.Rows.at']
    omega
  · simp only
    omega

set_option maxHeartbeats 1600000 in
theorem point9 (c : Dev nD) (t : Fin cfg0.N) (y : S2x1x16x64x256.Idx) (i : S32x1x16x64x256.Idx)
    (g0 : (i 0).val = t.val * 2 + (y 0).val) (g2 : (i 2).val = (y 2).val) (g3 : (i 3).val = (y 3).val)
    (g4 : (i 4).val = (y 4).val) :
    Gen.out0_9 (F := Ideal) (iblk m c 0 t) (iblk m c 1 t) (iblk m c 2 t) (iblk m c 3 t) (iblk m c 4 t) y = cvT m c i := by
  unfold Gen.out0_9
  canon_tiles x h
  · idx_vars x
    exact cv_piece m c t 2560 (by norm_num) (src121_at m c t) 256 384 64 (by norm_num) (by norm_num) (by norm_num)
      (h1 := slices_S512x512_o256_384_S256x128) (h3 := slices_S128x256_o64_0_S64x256) x0 x1 x2 x3 x4 i (by omega)
  · idx_vars x
    exact cv_piece m c t 2560 (by norm_num) (src121_at m c t) 256 384 0 (by norm_num) (by norm_num) (by norm_num)
      (h1 := slices_S512x512_o256_384_S256x128) (h3 := slices_S128x256_o0_0_S64x256) x0 x1 x2 x3 x4 i (by omega)
  · idx_vars x
    exact cv_piece m c t 2560 (by norm_num) (src121_at m c t) 256 256 64 (by norm_num) (by norm_num) (by norm_num)
      (h1 := slices_S512x512_o256_256_S256x128) (h3 := slices_S128x256_o64_0_S64x256) x0 x1 x2 x3 x4 i (by omega)
  · idx_vars x
    exact cv_piece m c t 2560 (by norm_num) (src121_at m c t) 256 256 0 (by norm_num) (by norm_num) (by norm_num)
      (h1 := slices_S512x512_o256_256_S256x128) (h3 := slices_S128x256_o0_0_S64x256) x0 x1 x2 x3 x4 i (by omega)
  · idx_vars x
    exact cv_piece m c t 2560 (by norm_num) (src121_at m c t) 256 128 64 (by norm_num) (by norm_num) (by norm_num)
      (h1 := slices_S512x512_o256_128_S256x128) (h3 := slices_S128x256_o64_0_S64x256) x0 x1 x2 x3 x4 i (by omega)
  · idx_vars x
    exact cv_piece m c t 2560 (by norm_num) (src121_at m c t) 256 128 0 (by norm_num) (by norm_num) (by norm_num)
      (h1 := slices_S512x512_o256_128_S256x128) (h3 := slices_S128x256_o0_0_S64x256) x0 x1 x2 x3 x4 i (by omega)
  · idx_vars x
    exact cv_piece m c t 2560 (by norm_num) (src121_at m c t) 256 0 64 (by norm_num) (by norm_num) (by norm_num)
      (h1 := slices_S512x512_o256_0_S256x128) (h3 := slices_S128x256_o64_0_S64x256) x0 x1 x2 x3 x4 i (by omega)
  · idx_vars x
    exact cv_piece m c t 2560 (by norm_num) (src121_at m c t) 256 0 0 (by norm_num) (by norm_num) (by norm_num)
      (h1 := slices_S512x512_o256_0_S256x128) (h3 := slices_S128x256_o0_0_S64x256) x0 x1 x2 x3 x4 i (by omega)
  · idx_vars x
    exact cv_piece m c t 2560 (by norm_num) (src121_at m c t) 0 384 64 (by norm_num) (by norm_num) (by norm_num)
      (h1 := slices_S512x512_o0_384_S256x128) (h3 := slices_S128x256_o64_0_S64x256) x0 x1 x2 x3 x4 i (by omega)
  · idx_vars x
    exact cv_piece m c t 2560 (by norm_num) (src121_at m c t) 0 384 0 (by norm_num) (by norm_num) (by norm_num)
      (h1 := slices_S512x512_o0_384_S256x128) (h3 := slices_S128x256_o0_0_S64x256) x0 x1 x2 x3 x4 i (by omega)
  · idx_vars x
    exact cv_piece m c t 2560 (by norm_num) (src121_at m c t) 0 256 64 (by norm_num) (by norm_num) (by norm_num)
      (h1 := slices_S512x512_o0_256_S256x128) (h3 := slices_S128x256_o64_0_S64x256) x0 x1 x2 x3 x4 i (by omega)
  · idx_vars x
    exact cv_piece m c t 2560 (by norm_num) (src121_at m c t) 0 256 0 (by norm_num) (by norm_num) (by norm_num)
      (h1 := slices_S512x512_o0_256_S256x128) (h3 := slices_S128x256_o0_0_S64x256) x0 x1 x2 x3 x4 i (by omega)
  · idx_vars x
    exact cv_piece m c t 2560 (by norm_num) (src121_at m c t) 0 128 64 (by norm_num) (by norm_num) (by norm_num)
      (h1 := slices_S512x512_o0_128_S256x128) (h3 := slices_S128x256_o64_0_S64x256) x0 x1 x2 x3 x4 i (by omega)
  · idx_vars x
    exact cv_piece m c t 2560 (by norm_num) (src121_at m c t) 0 128 0 (by norm_num) (by norm_num) (by norm_num)
      (h1 := slices_S512x512_o0_128_S256x128) (h3 := slices_S128x256_o0_0_S64x256) x0 x1 x2 x3 x4 i (by omega)
  · idx_vars x
    exact cv_piece m c t 2560 (by norm_num) (src121_at m c t) 0 0 64 (by norm_num) (by norm_num) (by norm_num)
      (h1 := slices_S512x512_o0_0_S256x128) (h3 := slices_S128x256_o64_0_S64x256) x0 x1 x2 x3 x4 i (by omega)
  · idx_vars x
    exact cv_piece m c t 2560 (by norm_num) (src121_at m c t) 0 0 0 (by norm_num) (by norm_num) (by norm_num)
      (h1 := slices_S512x512_o0_0_S256x128) (h3 := slices_S128x256_o0_0_S64x256) x0 x1 x2 x3 x4 i (by omega)
  · idx_vars x
    exact cv_piece m c t 2048 (by norm_num) (src120_at m c t) 256 384 64 (by norm_num) (by norm_num) (by norm_num)
      (h1 := slices_S512x512_o256_384_S256x128) (h3 := slices_S128x256_o64_0_S64x256) x0 x1 x2 x3 x4 i (by omega)
  · idx_vars x
    exact cv_piece m c t 2048 (by norm_num) (src120_at m c t) 256 384 0 (by norm_num) (by norm_num) (by norm_num)
      (h1 := slices_S512x512_o256_384_S256x128) (h3 := slices_S128x256_o0_0_S64x256) x0 x1 x2 x3 x4 i (by omega)
  · idx_vars x
    exact cv_piece m c t 2048 (by norm_num) (src120_at m c t) 256 256 64 (by norm_num) (by norm_num) (by norm_num)
      (h1 := slices_S512x512_o256_256_S256x128) (h3 := slices_S128x256_o64_0_S64x256) x0 x1 x2 x3 x4 i (by omega)
  · idx_vars x
    exact cv_piece m c t 2048 (by norm_num) (src120_at m c t) 256 256 0 (by norm_num) (by norm_num) (by norm_num)
      (h1 := slices_S512x512_o256_256_S256x128) (h3 := slices_S128x256_o0_0_S64x256) x0 x1 x2 x3 x4 i (by omega)
  · idx_vars x
    exact cv_piece m c t 2048 (by norm_num) (src120_at m c t) 256 128 64 (by norm_num) (by norm_num) (by norm_num)
      (h1 := slices_S512x512_o256_128_S256x128) (h3 := slices_S128x256_o64_0_S64x256) x0 x1 x2 x3 x4 i (by omega)
  · idx_vars x
    exact cv_piece m c t 2048 (by norm_num) (src120_at m c t) 256 128 0 (by norm_num) (by norm_num) (by norm_num)
      (h1 := slices_S512x512_o256_128_S256x128) (h3 := slices_S128x256_o0_0_S64x256) x0 x1 x2 x3 x4 i (by omega)
  · idx_vars x
    exact cv_piece m c t 2048 (by norm_num) (src120_at m c t) 256 0 64 (by norm_num) (by norm_num) (by norm_num)
      (h1 := slices_S512x512_o256_0_S256x128) (h3 := slices_S128x256_o64_0_S64x256) x0 x1 x2 x3 x4 i (by omega)
  · idx_vars x
    exact cv_piece m c t 2048 (by norm_num) (src120_at m c t) 256 0 0 (by norm_num) (by norm_num) (by norm_num)
      (h1 := slices_S512x512_o256_0_S256x128) (h3 := slices_S128x256_o0_0_S64x256) x0 x1 x2 x3 x4 i (by omega)
  · idx_vars x
    exact cv_piece m c t 2048 (by norm_num) (src120_at m c t) 0 384 64 (by norm_num) (by norm_num) (by norm_num)
      (h1 := slices_S512x512_o0_384_S256x128) (h3 := slices_S128x256_o64_0_S64x256) x0 x1 x2 x3 x4 i (by omega)
  · idx_vars x
    exact cv_piece m c t 2048 (by norm_num) (src120_at m c t) 0 384 0 (by norm_num) (by norm_num) (by norm_num)
      (h1 := slices_S512x512_o0_384_S256x128) (h3 := slices_S128x256_o0_0_S64x256) x0 x1 x2 x3 x4 i (by omega)
  · idx_vars x
    exact cv_piece m c t 2048 (by norm_num) (src120_at m c t) 0 256 64 (by norm_num) (by norm_num) (by norm_num)
      (h1 := slices_S512x512_o0_256_S256x128) (h3 := slices_S128x256_o64_0_S64x256) x0 x1 x2 x3 x4 i (by omega)
  · idx_vars x
    exact cv_piece m c t 2048 (by norm_num) (src120_at m c t) 0 256 0 (by norm_num) (by norm_num) (by norm_num)
      (h1 := slices_S512x512_o0_256_S256x128) (h3 := slices_S128x256_o0_0_S64x256) x0 x1 x2 x3 x4 i (by omega)
  · idx_vars x
    exact cv_piece m c t 2048 (by norm_num) (src120_at m c t) 0 128 64 (by norm_num) (by norm_num) (by norm_num)
      (h1 := slices_S512x512_o0_128_S256x128) (h3 := slices_S128x256_o64_0_S64x256) x0 x1 x2 x3 x4 i (by omega)
  · idx_vars x
    exact cv_piece m c t 2048 (by norm_num) (src120_at m c t) 0 128 0 (by norm_num) (by norm_num) (by norm_num)
      (h1 := slices_S512x512_o0_128_S256x128) (h3 := slices_S128x256_o0_0_S64x256) x0 x1 x2 x3 x4 i (by omega)
  · idx_vars x
    exact cv_piece m c t 2048 (by norm_num) (src120_at m c t) 0 0 64 (by norm_num) (by norm_num) (by norm_num)
      (h1 := slices_S512x512_o0_0_S256x128) (h3 := slices_S128x256_o64_0_S64x256) x0 x1 x2 x3 x4 i (by omega)
  · idx_vars x
    exact cv_piece m c t 2048 (by norm_num) (src120_at m c t) 0 0 0 (by norm_num) (by norm_num) (by norm_num)
      (h1 := slices_S512x512_o0_0_S256x128) (h3 := slices_S128x256_o0_0_S64x256) x0 x1 x2 x3 x4 i (by omega)

theorem final9 (c : Dev nD) : (dats m 0 c).arrAt 9 (cfgs 0).N = cvT m c := by
  refine (dats m 0 c).arrAt_eq_of_covers 9 _ (by decide +kernel) fun t _ y => ?_
  blk_simp
  rw [after0_9]
  refine point9 m c t y _ ?_ ?_ ?_ ?_ <;> blk_simp [idx t]

/-- Turned over again, it is the reference's cache. -/
theorem cv_turned (c : Dev nD) (h : S32x1x16x64x256.Transposes [0, 1, 2, 4, 3] S32x1x16x256x64) :
    transpose S32x1x16x256x64 [0, 1, 2, 4, 3] (cvT m c) h = cvRef m c := by
  funext j
  rw [Idealize.ShloMosaic.eq_ix5 j]
  generalize hz : cvRef m c = z
  pointwise [cvT, hz]
  have e : (0 : Fin 1) = j 1 := Subsingleton.elim _ _
  exact congrArg z ((congrArg (fun a => ix5 (j 0) a (j 2) (j 3) (j 4)) e).trans (Idealize.ShloMosaic.eq_ix5 j).symm)

/-- The cache after the lines that follow the region. -/
theorem cv_tail (c : Dev nD) :
    Pipeline.afterTail₀ cfgs (dats m) 0 (V0 m) [hostOps1] c main_v10 = cvRef m c := by
  have e : Pipeline.withArrays (cfgs 0).spec c (V0 m c) (fun w => (dats m 0 c).arrAt w (cfgs 0).N) (Proc.devRef .tc main_v8_4)
      = cvT m c :=
    ((dats m 0 c).withArrays_arrAt sharedIn0 (V0 m c) (A_eq m c) 9).trans (final9 m c)
  unfold Pipeline.afterTail₀
  simp only [hostOps1, List.flatten_cons, List.flatten_nil, List.append_nil, List.cons_append, List.nil_append]
  entry_read
  rw [e]
  exact cv_turned m c _

end Cert.OddIdeal.Mix

end
-- ==== Proof.MidLatPieces.lean ====
/-
The latent stream's first mixing and ConvFFN call, one operation group at a time: the vector operations the stored values
are made of, and what each holds at an index.
-/
module

public import proofs.«01_k».proof.Proof.Gen.MidLatIdeal.Skeleton
public import Idealize.ShloMosaic.Lib.Pipeline.ValueKit

@[expose] public section

set_option maxRecDepth 16384

noncomputable section

open Idealize.ShloMosaic Idealize.ShloMosaic.TcCoe Idealize.SL.Sem

namespace Cert.MidLatIdeal.Mix

open Cert.MidLatIdeal Cert.MidLatIdeal.Gen

local notation "V" => FVec Idealize.ShloMosaic.Ideal

/-- The residual stream plus its gated projection of the retention's and the attention's heads. -/
def mixT (a : V S512x1024 .bf16) (b : V S512x512 .bf16) (w : V S1024x1024 .bf16) (u : V S512x1024 .bf16)
    (x : V S512x1024 .f32) (gm : V S1x1x1x1x1024 .f32) : V S512x1024 .f32 :=
  addf (shapeCast S512x1024 x shapeCasts_S512x1024_S512x1024)
    (mulf (broadcastTo S512x1024 (shapeCast S1x1024 gm shapeCasts_S1x1x1x1x1024_S1x1024) broadcasts_S1x1024_S512x1024)
      (addf (matmul dot_S512x1024_S1024x1024_S512x1024_1_0_0_1_n_n none
          (shapeCast S512x1024 a shapeCasts_S512x1024_S512x1024) (shapeCast S1024x1024 w shapeCasts_S1024x1024_S1024x1024)
          (constant S512x1024 .f32 0x00000000#32))
        (matmul dot_S512x512_S512x1024_S512x1024_1_0_0_1_n_n none
          (shapeCast S512x512 b shapeCasts_S512x512_S512x512) (shapeCast S512x1024 u shapeCasts_S512x1024_S512x1024)
          (constant S512x1024 .f32 0x00000000#32))))

theorem mix_at (a : V S512x1024 .bf16) (b : V S512x512 .bf16) (w : V S1024x1024 .bf16) (u : V S512x1024 .bf16)
    (x : V S512x1024 .f32) (gm : V S1x1x1x1x1024 .f32) (r : Fin 512) (c : Fin 1024) :
    mixT a b w u x gm (ix2 r c) = x (ix2 r c) + gm (ix5 0 0 0 0 c)
      * (∑ k : Fin 1024, a (ix2 r k) * w (ix2 k c) + ∑ k : Fin 512, b (ix2 r k) * u (ix2 k c)) := by
  pointwise [mixT]

/-- A row divided by the root of its mean square. -/
def rmsT (y : V S512x1024 .f32) : V S512x1024 .f32 :=
  mulf y (broadcastTo S512x1024
    (rsqrt (addf (divf (shapeCast S512x1
        (multiReduction .add [1] S512 (mulf y y) 0x00000000#32 reduces_S512x1024_S512 (.inl rfl) rfl) shapeCasts_S512_S512x1)
      (broadcast S512x1 (Scalar.ofBits .f32 0x44800000#32 : Idealize.ShloMosaic.Ideal .f32)))
      (broadcast S512x1 (Scalar.ofBits .f32 0x358637BD#32 : Idealize.ShloMosaic.Ideal .f32))))
    broadcasts_S512x1_S512x1024)

theorem rms_at (y : V S512x1024 .f32) (r : Fin 512) (c : Fin 1024) :
    rmsT y (ix2 r c) = y (ix2 r c) * Ideal.rsqrt (Ideal.div (∑ k : Fin 1024, y (ix2 r k) * y (ix2 r k))
      (Ideal.ofBits FTy.f32 1149239296#32) + Ideal.ofBits FTy.f32 897988541#32) := by
  pointwise [rmsT]

/-- The normalised row with its gain, scale and shift. -/
def hidT (y : V S512x1024 .f32) (g : V S1x1024 .f32) (sc sh : V S1x1x1x1x1024 .f32) : V S512x1024 .bf16 :=
  shapeCast S512x1024 (truncf .bf16 (addf (mulf
      (mulf (rmsT y) (broadcastTo S512x1024 (shapeCast S1x1024 g shapeCasts_S1x1024_S1x1024) broadcasts_S1x1024_S512x1024))
      (broadcastTo S512x1024 (addf (broadcast S1x1024 (Scalar.ofBits .f32 0x3F800000#32 : Idealize.ShloMosaic.Ideal .f32))
        (shapeCast S1x1024 sc shapeCasts_S1x1x1x1x1024_S1x1024)) broadcasts_S1x1024_S512x1024))
      (broadcastTo S512x1024 (shapeCast S1x1024 sh shapeCasts_S1x1x1x1x1024_S1x1024) broadcasts_S1x1024_S512x1024))
      bitsLt_bf16_f32) shapeCasts_S512x1024_S512x1024

theorem hid_at (y : V S512x1024 .f32) (g : V S1x1024 .f32) (sc sh : V S1x1x1x1x1024 .f32) (r : Fin 512) (c : Fin 1024) :
    hidT y g sc sh (ix2 r c)
      = rmsT y (ix2 r c) * g (ix2 0 c) * (1 + sc (ix5 0 0 0 0 c)) + sh (ix5 0 0 0 0 c) := by
  generalize h : rmsT y = z
  pointwise [hidT, h]

/-- The gated ConvFFN product added to the stream. -/
def outT (o : V S512x1024 .f32) (gt : V S1x1x1x1x1024 .f32) (act : V S512x2816 .bf16) (wd : V S1x2816x1024 .bf16) :
    V S512x1024 .f32 :=
  addf (shapeCast S512x1024 o shapeCasts_S512x1024_S512x1024)
    (mulf (broadcastTo S512x1024 (shapeCast S1x1024 gt shapeCasts_S1x1x1x1x1024_S1x1024) broadcasts_S1x1024_S512x1024)
      (matmul dot_S512x2816_S2816x1024_S512x1024_1_0_0_1_n_n none act
        (shapeCast S2816x1024 wd shapeCasts_S1x2816x1024_S2816x1024) (constant S512x1024 .f32 0x00000000#32)))

theorem out_at (o : V S512x1024 .f32) (gt : V S1x1x1x1x1024 .f32) (act : V S512x2816 .bf16)
    (wd : V S1x2816x1024 .bf16) (r : Fin 512) (c : Fin 1024) :
    outT o gt act wd (ix2 r c)
      = o (ix2 r c) + gt (ix5 0 0 0 0 c) * ∑ f : Fin 2816, act (ix2 r f) * wd (ix3 0 f c) := by
  pointwise [outT]

/-- 256 columns of the up product. -/
def upT (hb : V S1024x1024 .bf16) (w : V S1x1024x256 .bf16) : V S1024x256 .f32 :=
  matmul dot_S1024x1024_S1024x256_S1024x256_1_0_0_1_n_n none hb
    (shapeCast S1024x256 w shapeCasts_S1x1024x256_S1024x256) (constant S1024x256 .f32 0x00000000#32)

theorem up_at (hb : V S1024x1024 .bf16) (w : V S1x1024x256 .bf16) (r : Fin 1024) (q : Fin 256) :
    upT hb w (ix2 r q) = ∑ k : Fin 1024, hb (ix2 r k) * w (ix3 0 k q) := by
  pointwise [upT]

/-- Eight rows with row `n` set to zero. -/
def maskT (n : BitVec 32) (s : V S8x256 .f32) : V S8x256 .f32 :=
  select (cmpi .eq (iota .tc S8x256 32 [0] iota_S8x256_d0_w32) (broadcast S8x256 n))
    (broadcast S8x256 (Scalar.ofBits .f32 0x00000000#32 : Idealize.ShloMosaic.Ideal .f32)) s

theorem mask_first (s : V S8x256 .f32) (r : Fin 8) (q : Fin 256) :
    maskT 0#32 s (ix2 r q) = if (r : ℕ) = 0 then 0 else s (ix2 r q) := by
  pointwise [maskT]
  fin_cases r <;> rfl

theorem mask_last (s : V S8x256 .f32) (r : Fin 8) (q : Fin 256) :
    maskT 7#32 s (ix2 r q) = if (r : ℕ) = 7 then 0 else s (ix2 r q) := by
  pointwise [maskT]
  fin_cases r <;> rfl

/-- The rows moved down by one, the last in front. -/
def downT (u : V S1024x256 .f32) : V S1024x256 .f32 := dynamicRotate 0 1#32 none u rotates_S1024x256_d0

/-- The rows moved up by one, the first at the end. -/
def riseT (u : V S1024x256 .f32) : V S1024x256 .f32 := dynamicRotate 0 1023#32 none u rotates_S1024x256_d0

theorem down_at (u : V S1024x256 .f32) (r : Fin 1024) (q : Fin 256) :
    downT u (ix2 r q) = u (ix2 ⟨((r : ℕ) + 1023) % 1024, by omega⟩ q) := by
  pointwise [downT]
  simp only [show (r : ℕ) + 1024 - 1 = (r : ℕ) + 1023 by omega]

theorem rise_at (u : V S1024x256 .f32) (r : Fin 1024) (q : Fin 256) :
    riseT u (ix2 r q) = u (ix2 ⟨((r : ℕ) + 1) % 1024, by omega⟩ q) := by
  pointwise [riseT]
  simp only [show (r : ℕ) + 1024 - 1023 = (r : ℕ) + 1 by omega]

/-- The rows before, with zeros in front of the sequence of 1024 rows: `u` is the block moved down by one. -/
def prevT (u : V S1024x256 .f32) : V S1024x256 .f32 :=
  concatenate S1024x256 0 [
    ⟨S8x256, maskT 0#32 (extractStridedSlice S8x256 ![0, 0] u slices_S1024x256_o0_0_S8x256)⟩,
    ⟨S1016x256, extractStridedSlice S1016x256 ![8, 0] u slices_S1024x256_o8_0_S1016x256⟩]
    concatenates_S8x256_S1016x256_S1024x256_d0

/-- The rows after, with zeros at the end of the sequence of 1024 rows: `u` is the block moved up by one. -/
def nextT (u : V S1024x256 .f32) : V S1024x256 .f32 :=
  concatenate S1024x256 0 [
    ⟨S1016x256, extractStridedSlice S1016x256 ![0, 0] u slices_S1024x256_o0_0_S1016x256⟩,
    ⟨S8x256, maskT 7#32 (extractStridedSlice S8x256 ![1016, 0] u slices_S1024x256_o1016_0_S8x256)⟩]
    concatenates_S1016x256_S8x256_S1024x256_d0

set_option maxHeartbeats 1600000 in
theorem prev_at (u : V S1024x256 .f32) (r : Fin 1024) (q : Fin 256) :
    prevT u (ix2 r q) = if (r : ℕ) = 0 then 0 else u (ix2 r q) := by
  by_cases hr : (r : ℕ) = 0
  case' pos => rw [if_pos hr]
  case' neg => rw [if_neg hr]
  all_goals pointwise [prevT, mask_first]
  all_goals split_ifs <;> first
    | rfl
    | (exfalso; omega)
    | (refine congrArg (fun z : Fin 1024 => u (ix2 z q)) (Fin.ext ?_); dsimp only; omega)

set_option maxHeartbeats 1600000 in
theorem next_at (u : V S1024x256 .f32) (r : Fin 1024) (q : Fin 256) :
    nextT u (ix2 r q) = if (r : ℕ) = 1023 then 0 else u (ix2 r q) := by
  by_cases hr : (r : ℕ) = 1023
  case' pos => rw [if_pos hr]
  case' neg => rw [if_neg hr]
  all_goals pointwise [nextT, mask_last]
  all_goals split_ifs <;> first
    | rfl
    | (exfalso; omega)
    | (refine congrArg (fun z : Fin 1024 => u (ix2 z q)) (Fin.ext ?_); dsimp only; omega)

/-- The convolution of three rows. -/
def convT (u p n : V S1024x256 .f32) (cw : V S1x3x256 .f32) (cb : V S1x1x256 .f32) : V S1024x256 .f32 :=
  addf (addf (addf
      (mulf p (broadcastTo S1024x256 (extractStridedSlice S1x256 ![0, 0]
        (shapeCast S3x256 cw shapeCasts_S1x3x256_S3x256) slices_S3x256_o0_0_S1x256) broadcasts_S1x256_S1024x256))
      (mulf u (broadcastTo S1024x256 (extractStridedSlice S1x256 ![1, 0]
        (shapeCast S3x256 cw shapeCasts_S1x3x256_S3x256) slices_S3x256_o1_0_S1x256) broadcasts_S1x256_S1024x256)))
      (mulf n (broadcastTo S1024x256 (extractStridedSlice S1x256 ![2, 0]
        (shapeCast S3x256 cw shapeCasts_S1x3x256_S3x256) slices_S3x256_o2_0_S1x256) broadcasts_S1x256_S1024x256)))
    (broadcastTo S1024x256 (shapeCast S1x256 cb shapeCasts_S1x1x256_S1x256) broadcasts_S1x256_S1024x256)

theorem conv_at (u p n : V S1024x256 .f32) (cw : V S1x3x256 .f32) (cb : V S1x1x256 .f32) (r : Fin 1024) (q : Fin 256) :
    convT u p n cw cb (ix2 r q) = p (ix2 r q) * cw (ix3 0 0 q) + u (ix2 r q) * cw (ix3 0 1 q)
      + n (ix2 r q) * cw (ix3 0 2 q) + cb (ix3 0 0 q) := by
  pointwise [convT]

/-- The gated unit. -/
def gluT (a g : V S1024x256 .f32) : V S1024x256 .bf16 :=
  shapeCast S1024x256 (truncf .bf16 (mulf (mulf a
    (divf (broadcast S1024x256 (Scalar.ofBits .f32 0x3F800000#32 : Idealize.ShloMosaic.Ideal .f32))
      (addf (broadcast S1024x256 (Scalar.ofBits .f32 0x3F800000#32 : Idealize.ShloMosaic.Ideal .f32))
        (exp (subf (broadcast S1024x256 (Scalar.ofBits .f32 0x00000000#32 : Idealize.ShloMosaic.Ideal .f32)) a))))) g)
    bitsLt_bf16_f32) shapeCasts_S1024x256_S1024x256

theorem glu_at (a g : V S1024x256 .f32) (r : Fin 1024) (q : Fin 256) :
    gluT a g (ix2 r q) = a (ix2 r q) * Ideal.div 1 (1 + Ideal.exp (-a (ix2 r q))) * g (ix2 r q) := by
  pointwise [gluT]
  rw [zero_sub]

end Cert.MidLatIdeal.Mix

end
-- ==== Proof.MidLatBlocks.lean ====
/-
The blocks the latent stream's first mixing and ConvFFN call reads at a grid point: which entry of which argument each holds.
-/
module

public import proofs.«01_k».proof.Proof.ConvFfn
public import proofs.«01_k».proof.Proof.Gen.MidLatIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MidLatIdeal.Mix

open Cert.MidLatIdeal Cert.MidLatIdeal.Gen

local notation "V" => FVec Idealize.ShloMosaic.Ideal

/-- What the call reads, out of the argument arrays. -/
def data (x r : V S8x1024x1024 .f32) (a : V S8x1024x512 .f32) (m : V S8x6144 .f32) (w : V S1536x1024 .f32) (g : V S2x1024 .f32)
    (wu : V S2x1024x5632 .f32) (cw : V S2x3x5632 .f32) (cb : V S2x5632 .f32) (wd : V S2x2816x1024 .f32) : ConvFfn.Data 1536 where
  n := 1024
  x R c := x (ix3 ⟨R / 1024, by omega⟩ ⟨R % 1024, by omega⟩ c)
  att R k := if h : k.val < 1024 then r (ix3 ⟨R / 1024, by omega⟩ ⟨R % 1024, by omega⟩ ⟨k.val, h⟩)
    else a (ix3 ⟨R / 1024, by omega⟩ ⟨R % 1024, by omega⟩ ⟨k.val - 1024, by omega⟩)
  gm R c := m (ix2 ⟨R / 1024, by omega⟩ ⟨2048 + c, by omega⟩)
  sh R c := m (ix2 ⟨R / 1024, by omega⟩ ⟨3072 + c, by omega⟩)
  sc R c := m (ix2 ⟨R / 1024, by omega⟩ ⟨4096 + c, by omega⟩)
  gt R c := m (ix2 ⟨R / 1024, by omega⟩ ⟨5120 + c, by omega⟩)
  w k c := w (ix2 k c)
  g c := g (ix2 0 c)
  gf _ := 0
  wu k f := wu (ix3 0 k f)
  cw j f := cw (ix3 0 j f)
  cb f := cb (ix2 0 f)
  wd f c := wd (ix3 0 f c)

variable (m : (ℓ : Loc nD τ sig) → Buf (Elt Ideal) ℓ)

/-- The same, out of the launch memory. -/
abbrev dat (c : Dev nD) : ConvFfn.Data 1536 :=
  data (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9))

/-- Where each window stands at a grid point. -/
theorem idx : ∀ t : Fin cfg0.N, win0_0.index t = ![t.val, 0] ∧ win0_1.index t = ![0, 1 + t.val, 2, 0, 0] ∧ win0_2.index t = ![0, 0]
    ∧ win0_3.index t = ![0, 1 + t.val, 4, 0, 0] ∧ win0_4.index t = ![0, 1 + t.val, 3, 0, 0] ∧ win0_5.index t = ![0, 1 + t.val, 5, 0, 0]
    ∧ win0_6.index t = ![t.val, 0] ∧ win0_7.index t = ![t.val, 0] ∧ win0_8.index t = ![0, 0] ∧ win0_9.index t = ![0, 0]
    ∧ win0_10.index t = ![0, 0, 0] ∧ win0_11.index t = ![0, 0, 0] ∧ win0_12.index t = ![0, 0, 0]
    ∧ win0_13.index t = ![0, 0, 0] ∧ win0_14.index t = ![t.val, 0] :=
  (by decide +kernel : ∀ t : Fin grid0.N, _)

theorem lt8 (t : Fin cfg0.N) : t.val < 8 := lt_of_lt_of_eq t.isLt (by decide)

/-- The row of the stream a row of a grid point's tile is. -/
def row (t : Fin cfg0.N) (r : Fin 1024) : Fin 8192 := ⟨t.val * 1024 + r.val, by have := lt8 t; omega⟩

theorem x_at (c : Dev nD) (t : Fin cfg0.N) (y : Fin 1024) (x : Fin 1024) :
    (show V S1024x1024 .f32 from iblk m c 0 t) (ix2 y x) = (dat m c).x (row t y) x := by
  unfold dat data row
  blk_simp [iblk, idx t]
  simp only [Gen.V, hostOps0, hostOps0_1, hostOps0_2, List.flatten_cons, List.flatten_nil, List.cons_append, List.nil_append, List.append_nil]
  entry_read
  pointwise
  have h8 := lt8 t
  blk_ext [idx t]

theorem ret_at (c : Dev nD) (t : Fin cfg0.N) (y : Fin 1024) (x : Fin 1024) :
    (show V S1024x1024 .bf16 from iblk m c 6 t) (ix2 y x) = (dat m c).att (row t y) ⟨x.val, by omega⟩ := by
  unfold dat data row
  dsimp only
  rw [dif_pos x.isLt]
  blk_simp [iblk, idx t]
  simp only [Gen.V, hostOps0, hostOps0_1, hostOps0_2, List.flatten_cons, List.flatten_nil, List.cons_append, List.nil_append, List.append_nil]
  entry_read
  pointwise
  have h8 := lt8 t
  blk_ext [idx t]

theorem att_at (c : Dev nD) (t : Fin cfg0.N) (y : Fin 1024) (x : Fin 512) :
    (show V S1024x512 .bf16 from iblk m c 7 t) (ix2 y x) = (dat m c).att (row t y) ⟨1024 + x.val, by omega⟩ := by
  unfold dat data row
  dsimp only
  rw [dif_neg (by omega)]
  blk_simp [iblk, idx t]
  simp only [Gen.V, hostOps0, hostOps0_1, hostOps0_2, List.flatten_cons, List.flatten_nil, List.cons_append, List.nil_append, List.append_nil]
  entry_read
  pointwise
  have h8 := lt8 t
  blk_ext [idx t]

theorem gm_at (c : Dev nD) (t : Fin cfg0.N) (y : Fin 1024) (x : Fin 1024) :
    (show V S1x1x1x1x1024 .f32 from iblk m c 1 t) (ix5 0 0 0 0 x) = (dat m c).gm (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h8 := lt8 t
  rw [dif_pos (by blk_simp [idx t]; omega)]
  blk_ext [idx t]

theorem sc_at (c : Dev nD) (t : Fin cfg0.N) (y : Fin 1024) (x : Fin 1024) :
    (show V S1x1x1x1x1024 .f32 from iblk m c 3 t) (ix5 0 0 0 0 x) = (dat m c).sc (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h8 := lt8 t
  rw [dif_pos (by blk_simp [idx t]; omega)]
  blk_ext [idx t]

theorem sh_at (c : Dev nD) (t : Fin cfg0.N) (y : Fin 1024) (x : Fin 1024) :
    (show V S1x1x1x1x1024 .f32 from iblk m c 4 t) (ix5 0 0 0 0 x) = (dat m c).sh (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h8 := lt8 t
  rw [dif_pos (by blk_simp [idx t]; omega)]
  blk_ext [idx t]

theorem gt_at (c : Dev nD) (t : Fin cfg0.N) (y : Fin 1024) (x : Fin 1024) :
    (show V S1x1x1x1x1024 .f32 from iblk m c 5 t) (ix5 0 0 0 0 x) = (dat m c).gt (row t y) x := by
  unfold dat data row
  blk_simp [iblk, idx t]
  simp only [Gen.V, hostOps0, hostOps0_1, hostOps0_2, List.flatten_cons, List.flatten_nil, List.cons_append, List.nil_append, List.append_nil]
  entry_read
  simp only [StableHlo.TRef.toBuf, StableHlo.TRef.ofBuf, cast_cast, cast_eq]
  pointwise
  have h8 := lt8 t
  rw [dif_pos (by blk_simp [idx t]; omega)]
  blk_ext [idx t]

theorem g_at (c : Dev nD) (t : Fin cfg0.N) (x : Fin 1024) :
    (show V S1x1024 .f32 from iblk m c 2 t) (ix2 0 x) = (dat m c).g x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem w1_at (c : Dev nD) (t : Fin cfg0.N) (k x : Fin 1024) :
    (show V S1024x1024 .bf16 from iblk m c 8 t) (ix2 k x) = (dat m c).w ⟨k.val, by omega⟩ x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem w2_at (c : Dev nD) (t : Fin cfg0.N) (k : Fin 512) (x : Fin 1024) :
    (show V S512x1024 .bf16 from iblk m c 9 t) (ix2 k x) = (dat m c).w ⟨1024 + k.val, by omega⟩ x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem wu_at (c : Dev nD) (t : Fin cfg0.N) (k : Fin 1024) (f : Fin 5632) :
    (show V S1x1024x5632 .bf16 from iblk m c 10 t) (ix3 0 k f) = (dat m c).wu k f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem cw_at (c : Dev nD) (t : Fin cfg0.N) (j : Fin 3) (f : Fin 5632) :
    (show V S1x3x5632 .f32 from iblk m c 11 t) (ix3 0 j f) = (dat m c).cw j f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem cb_at (c : Dev nD) (t : Fin cfg0.N) (f : Fin 5632) :
    (show V S1x1x5632 .f32 from iblk m c 12 t) (ix3 0 0 f) = (dat m c).cb f := by
  unfold dat data
  blk_simp [iblk, idx t]
  simp only [Gen.V, hostOps0, hostOps0_1, hostOps0_2, List.flatten_cons, List.flatten_nil, List.cons_append, List.nil_append, List.append_nil]
  entry_read
  pointwise
  blk_ext [idx t]

theorem wd_at (c : Dev nD) (t : Fin cfg0.N) (f : Fin 2816) (x : Fin 1024) :
    (show V S1x2816x1024 .bf16 from iblk m c 13 t) (ix3 0 f x) = (dat m c).wd f x := by
  unfold dat data
  blk_simp [iblk, idx t]
  simp only [Gen.V, hostOps0, hostOps0_1, hostOps0_2, List.flatten_cons, List.flatten_nil, List.cons_append, List.nil_append, List.append_nil]
  entry_read
  pointwise
  blk_ext [idx t]

end Cert.MidLatIdeal.Mix

end
-- ==== Proof.MidLatCore.lean ====
/-
The latent stream's first mixing and ConvFFN call over one tile of rows: each stored value as the call's mathematics.
-/
module

public import proofs.«01_k».proof.Proof.MidLatPieces
public import proofs.«01_k».proof.Proof.MidLatBlocks

@[expose] public section

set_option maxRecDepth 16384

noncomputable section

open Idealize.ShloMosaic Idealize.ShloMosaic.TcCoe Idealize.SL.Sem

namespace Cert.MidLatIdeal.Mix

open Cert.MidLatIdeal Cert.MidLatIdeal.Gen

local notation "V" => FVec Idealize.ShloMosaic.Ideal

variable (D : ConvFfn.Data 1536) (t : Fin cfg0.N)

/-- The blocks of a grid point hold the data's rows of that tile. -/
structure Blocks (x0 : V S1024x1024 .f32) (x1 : V S1x1x1x1x1024 .f32) (x2 : V S1x1024 .f32) (x3 x4 x5 : V S1x1x1x1x1024 .f32)
    (x6 : V S1024x1024 .bf16) (x7 : V S1024x512 .bf16) (x8 : V S1024x1024 .bf16) (x9 : V S512x1024 .bf16)
    (x10 : V S1x1024x5632 .bf16) (x11 : V S1x3x5632 .f32) (x12 : V S1x1x5632 .f32) (x13 : V S1x2816x1024 .bf16) : Prop where
  x : ∀ r c, x0 (ix2 r c) = D.x (row t r) c
  gm : ∀ r c, x1 (ix5 0 0 0 0 c) = D.gm (row t r) c
  g : ∀ c, x2 (ix2 0 c) = D.g c
  sc : ∀ r c, x3 (ix5 0 0 0 0 c) = D.sc (row t r) c
  sh : ∀ r c, x4 (ix5 0 0 0 0 c) = D.sh (row t r) c
  gt : ∀ r c, x5 (ix5 0 0 0 0 c) = D.gt (row t r) c
  ret : ∀ r (k : Fin 1024), x6 (ix2 r k) = D.att (row t r) ⟨k.val, by omega⟩
  att : ∀ r (k : Fin 512), x7 (ix2 r k) = D.att (row t r) ⟨1024 + k.val, by omega⟩
  w1 : ∀ (k : Fin 1024) c, x8 (ix2 k c) = D.w ⟨k.val, by omega⟩ c
  w2 : ∀ (k : Fin 512) c, x9 (ix2 k c) = D.w ⟨1024 + k.val, by omega⟩ c
  wu : ∀ k f, x10 (ix3 0 k f) = D.wu k f
  cw : ∀ j f, x11 (ix3 0 j f) = D.cw j f
  cb : ∀ f, x12 (ix3 0 0 f) = D.cb f
  wd : ∀ f c, x13 (ix3 0 f c) = D.wd f c
  n : D.n = 1024

/-- One chunk of the gated unit, out of the modulated rows and the chunk's weights for both halves. -/
def actT (hb : V S1024x1024 .bf16) (wa wg : V S1x1024x256 .bf16) (ca cg : V S1x3x256 .f32) (ba bg : V S1x1x256 .f32) :
    V S1024x256 .bf16 :=
  gluT (convT (upT hb wa) (prevT (downT (upT hb wa))) (nextT (riseT (upT hb wa))) ca ba)
    (convT (upT hb wg) (prevT (downT (upT hb wg))) (nextT (riseT (upT hb wg))) cg bg)

variable {D t}

theorem conv_row (hn : D.n = 1024) (hb : V S1024x1024 .bf16) (wa : V S1x1024x256 .bf16) (ca : V S1x3x256 .f32)
    (ba : V S1x1x256 .f32) (f : Fin 5632) (q : Fin 256)
    (h0 : ∀ r k, hb (ix2 r k) = D.hid (row t r) k) (h1 : ∀ k, wa (ix3 0 k q) = D.wu k f)
    (h2 : ∀ j, ca (ix3 0 j q) = D.cw j f) (h3 : ba (ix3 0 0 q) = D.cb f) (r : Fin 1024) :
    convT (upT hb wa) (prevT (downT (upT hb wa))) (nextT (riseT (upT hb wa))) ca ba (ix2 r q) = D.conv (row t r) f := by
  have h8 := lt8 t
  have hup : ∀ s, upT hb wa (ix2 s q) = D.up (row t s) f := fun s => by
    rw [up_at]
    exact Finset.sum_congr rfl fun k _ => by rw [h0, h1]
  rw [conv_at, prev_at, next_at, down_at, rise_at, h2, h2, h2, h3, hup, hup, hup]
  unfold ConvFfn.Data.conv ConvFfn.Data.prev ConvFfn.Data.next
  rw [hn]
  have hr : ((row t r : Fin 8192) : ℕ) = t.val * 1024 + r.val := rfl
  have e1 : (((row t r : Fin 8192) : ℕ) % 1024 = 0) = ((r : ℕ) = 0) := by rw [hr]; apply propext; omega
  have e2 : (((row t r : Fin 8192) : ℕ) % 1024 = 1024 - 1) = ((r : ℕ) = 1023) := by rw [hr]; apply propext; omega
  simp only [e1, e2]
  refine congrArg (· + _) (congrArg₂ (· + ·) (congrArg (· + _) (congrArg (· * _) ?_)) (congrArg (· * _) ?_))
  · split_ifs with h
    · rfl
    · refine congrArg (fun R => D.up R f) (Fin.ext ?_)
      simp only [row]
      omega
  · split_ifs with h
    · rfl
    · refine congrArg (fun R => D.up R f) (Fin.ext ?_)
      simp only [row]
      omega

theorem act_row (hn : D.n = 1024) (hb : V S1024x1024 .bf16) (wa wg : V S1x1024x256 .bf16) (ca cg : V S1x3x256 .f32)
    (ba bg : V S1x1x256 .f32) (f : Fin 2816) (q : Fin 256)
    (h0 : ∀ r k, hb (ix2 r k) = D.hid (row t r) k)
    (ha : ∀ k, wa (ix3 0 k q) = D.wu k ⟨f, by omega⟩) (hg : ∀ k, wg (ix3 0 k q) = D.wu k ⟨2816 + f, by omega⟩)
    (hca : ∀ j, ca (ix3 0 j q) = D.cw j ⟨f, by omega⟩) (hcg : ∀ j, cg (ix3 0 j q) = D.cw j ⟨2816 + f, by omega⟩)
    (hba : ba (ix3 0 0 q) = D.cb ⟨f, by omega⟩) (hbg : bg (ix3 0 0 q) = D.cb ⟨2816 + f, by omega⟩) (r : Fin 1024) :
    actT hb wa wg ca cg ba bg (ix2 r q) = D.act (row t r) f := by
  unfold actT
  rw [glu_at, conv_row hn hb wa ca ba _ q h0 ha hca hba, conv_row hn hb wg cg bg _ q h0 hg hcg hbg]
  rfl

theorem mix_row (a : V S512x1024 .bf16) (b : V S512x512 .bf16) (w : V S1024x1024 .bf16) (u : V S512x1024 .bf16)
    (x : V S512x1024 .f32) (gm : V S1x1x1x1x1024 .f32) (r : Fin 512) (R : Fin 8192)
    (ha : ∀ k : Fin 1024, a (ix2 r k) = D.att R ⟨k.val, by omega⟩) (hb : ∀ k : Fin 512, b (ix2 r k) = D.att R ⟨1024 + k.val, by omega⟩)
    (hw : ∀ (k : Fin 1024) c, w (ix2 k c) = D.w ⟨k.val, by omega⟩ c) (hu : ∀ (k : Fin 512) c, u (ix2 k c) = D.w ⟨1024 + k.val, by omega⟩ c)
    (hx : ∀ c, x (ix2 r c) = D.x R c) (hg : ∀ c, gm (ix5 0 0 0 0 c) = D.gm R c) (c : Fin 1024) :
    mixT a b w u x gm (ix2 r c) = D.mix R c := by
  rw [mix_at, hx, hg]
  unfold ConvFfn.Data.mix
  refine congrArg (fun z => _ + _ * z) (Eq.trans ?_ (Fin.sum_univ_add (a := 1024) (b := 512) fun k => D.att R k * D.w k c).symm)
  refine congrArg₂ (· + ·) (Finset.sum_congr rfl fun k _ => ?_) (Finset.sum_congr rfl fun k _ => ?_)
  · rw [ha, hw]
    rfl
  · rw [hb, hu]
    rfl

theorem rms_row (y : V S512x1024 .f32) (Y : Fin 1024 → EReal) (r : Fin 512) (h : ∀ c, y (ix2 r c) = Y c) (c : Fin 1024) :
    rmsT y (ix2 r c) = ConvFfn.rms Y c := by
  rw [rms_at]
  simp only [h]
  rfl

theorem hid_row (y : V S512x1024 .f32) (g : V S1x1024 .f32) (sc sh : V S1x1x1x1x1024 .f32) (r : Fin 512) (R : Fin 8192)
    (hy : ∀ c, y (ix2 r c) = D.mix R c) (hg : ∀ c, g (ix2 0 c) = D.g c) (hsc : ∀ c, sc (ix5 0 0 0 0 c) = D.sc R c)
    (hsh : ∀ c, sh (ix5 0 0 0 0 c) = D.sh R c) (c : Fin 1024) :
    hidT y g sc sh (ix2 r c) = D.hid R c := by
  rw [hid_at, rms_row y (D.mix R) r hy, hg, hsc, hsh]
  rfl

theorem out_row (o : V S512x1024 .f32) (gt : V S1x1x1x1x1024 .f32) (act : V S512x2816 .bf16) (wd : V S1x2816x1024 .bf16)
    (r : Fin 512) (R : Fin 8192) (ho : ∀ c, o (ix2 r c) = D.mix R c) (hgt : ∀ c, gt (ix5 0 0 0 0 c) = D.gt R c)
    (ha : ∀ f, act (ix2 r f) = D.act R f) (hw : ∀ f c, wd (ix3 0 f c) = D.wd f c) (c : Fin 1024) :
    outT o gt act wd (ix2 r c) = D.out R c := by
  rw [out_at, ho, hgt]
  unfold ConvFfn.Data.out
  refine congrArg (fun z => _ + _ * z) (Finset.sum_congr rfl fun k _ => ?_)
  rw [ha, hw]

end Cert.MidLatIdeal.Mix

end
-- ==== Proof.MidLatWords.lean ====
/-
The latent stream's first mixing and ConvFFN call over one tile of rows: the scratch buffers and the stored tile as the
call's mathematics.
-/
module

public import proofs.«01_k».proof.Proof.MidLatCore
public import Idealize.ShloMosaic.Lib.WholeRead

@[expose] public section

set_option maxRecDepth 65536

noncomputable section

open Idealize.ShloMosaic Idealize.ShloMosaic.TcCoe Idealize.SL.Sem

namespace Cert.MidLatIdeal.Mix

open Cert.MidLatIdeal Cert.MidLatIdeal.Gen

local notation "V" => FVec Idealize.ShloMosaic.Ideal

/-- The rectangle `B` of a whole buffer holding `X`. -/
abbrev rd {s : Shape} {e : EltTy} {sp : Space} {a : Memref sig .tc sp s e} (h : a.IsWhole) (X : s.Idx → Elt Ideal e) (B : LoadRect s) :=
  View.readAt (Elt Ideal) a.view B (h.unread X)

@[simp] abbrev L0 : LoadRect S1024x1024 := (Rect.unit (s := S1024x1024) ![0, 0] S512x1024.size inb_S1024x1024_S512x1024_0_0).toLoadRect
@[simp] abbrev L1 : LoadRect S1024x512 := (Rect.unit (s := S1024x512) ![0, 0] S512x512.size inb_S1024x512_S512x512_0_0).toLoadRect
@[simp] abbrev L2 : LoadRect S1024x1024 := (Rect.unit (s := S1024x1024) ![0, 0] S1024x1024.size inb_S1024x1024_S1024x1024_0_0).toLoadRect
@[simp] abbrev L3 : LoadRect S512x1024 := (Rect.unit (s := S512x1024) ![0, 0] S512x1024.size inb_S512x1024_S512x1024_0_0).toLoadRect
@[simp] abbrev L4 : LoadRect S1x1x1x1x1024 := (Rect.unit (s := S1x1x1x1x1024) ![0, 0, 0, 0, 0] S1x1x1x1x1024.size inb_S1x1x1x1x1024_S1x1x1x1x1024_0_0_0_0_0).toLoadRect
@[simp] abbrev L5 : LoadRect S1x1024 := (Rect.unit (s := S1x1024) ![0, 0] S1x1024.size inb_S1x1024_S1x1024_0_0).toLoadRect
@[simp] abbrev L6 : LoadRect S1024x1024 := (Rect.unit (s := S1024x1024) ![512, 0] S512x1024.size inb_S1024x1024_S512x1024_512_0).toLoadRect
@[simp] abbrev L7 : LoadRect S1024x512 := (Rect.unit (s := S1024x512) ![512, 0] S512x512.size inb_S1024x512_S512x512_512_0).toLoadRect
@[simp] abbrev L14 : LoadRect S1x2816x1024 := (Rect.unit (s := S1x2816x1024) ![0, 0, 0] S1x2816x1024.size inb_S1x2816x1024_S1x2816x1024_0_0_0).toLoadRect

/-- A load out of a whole buffer holding `X` reads the entry of `X` it points at. -/
theorem read_val {s : Shape} {e : EltTy} {sp : Space} {a : Memref sig .tc sp s e} (h : a.IsWhole)
    (X : s.Idx → Elt Ideal e) (B : LoadRect s) (x : B.shape.Idx) (i : s.Idx) {v : Elt Ideal e}
    (hi : B.idx x = i) (hv : X i = v) : View.readAt (Elt Ideal) a.view B (h.unread X) x = v := by
  rw [Memref.IsWhole.readAt_unread, hi, hv]

/-- At an index the last write holds, the buffer holds that write's value. -/
theorem canon_top {s : Shape} {e : EltTy} (r : Rect s) (w : r.shape.Idx → Elt Ideal e)
    (L : List (View.Piece (Elt Ideal) s e)) (y : s.Idx) (x : r.shape.Idx)
    (hx : ∀ a, (y a).val = r.off a + r.stride a * (x a).val) : View.canon (⟨r, w⟩ :: L) y = w x := by
  rw [← Rect.emb_eq_of_coords r x y hx, View.canon_cons_emb]

variable {D : ConvFfn.Data 1536} {t : Fin cfg0.N}
variable (c : Dev nD) (arg1 : Memref sig .tc .vmem S1024x1024 .f32) (harg1 : arg1.IsWhole) (arg2 : Memref sig .tc .vmem S1x1x1x1x1024 .f32)
  (harg2 : arg2.IsWhole) (arg3 : Memref sig .tc .vmem S1x1024 .f32) (harg3 : arg3.IsWhole)
  (arg4 : Memref sig .tc .vmem S1x1x1x1x1024 .f32) (harg4 : arg4.IsWhole) (arg5 : Memref sig .tc .vmem S1x1x1x1x1024 .f32)
  (harg5 : arg5.IsWhole) (arg6 : Memref sig .tc .vmem S1x1x1x1x1024 .f32) (harg6 : arg6.IsWhole)
  (arg7 : Memref sig .tc .vmem S1024x1024 .bf16) (harg7 : arg7.IsWhole) (arg8 : Memref sig .tc .vmem S1024x512 .bf16)
  (harg8 : arg8.IsWhole) (arg9 : Memref sig .tc .vmem S1024x1024 .bf16) (harg9 : arg9.IsWhole)
  (arg10 : Memref sig .tc .vmem S512x1024 .bf16) (harg10 : arg10.IsWhole) (arg11 : Memref sig .tc .vmem S1x1024x5632 .bf16)
  (harg11 : arg11.IsWhole) (arg12 : Memref sig .tc .vmem S1x3x5632 .f32) (harg12 : arg12.IsWhole)
  (arg13 : Memref sig .tc .vmem S1x1x5632 .f32) (harg13 : arg13.IsWhole) (arg14 : Memref sig .tc .vmem S1x2816x1024 .bf16)
  (harg14 : arg14.IsWhole) (arg15 : Memref sig .tc .vmem S1024x1024 .f32)
  (harg15 : arg15.IsWhole) (arg16 : Memref sig .tc .vmem S1024x2816 .bf16) (harg16 : arg16.IsWhole)
  (arg17 : Memref sig .tc .vmem S1024x1024 .bf16) (harg17 : arg17.IsWhole)
  (x0 : V S1024x1024 .f32) (x1 : V S1x1x1x1x1024 .f32) (x2 : V S1x1024 .f32) (x3 x4 x5 : V S1x1x1x1x1024 .f32)
  (x6 : V S1024x1024 .bf16) (x7 : V S1024x512 .bf16) (x8 : V S1024x1024 .bf16) (x9 : V S512x1024 .bf16)
  (x10 : V S1x1024x5632 .bf16) (x11 : V S1x3x5632 .f32) (x12 : V S1x1x5632 .f32) (x13 : V S1x2816x1024 .bf16)

/-- The stream after the attention, the first half of a tile. -/
theorem mix_lo (H : Blocks D t x0 x1 x2 x3 x4 x5 x6 x7 x8 x9 x10 x11 x12 x13) (r : Fin 512) (k : Fin 1024) :
    mixT (rd harg7 x6 L0) (rd harg8 x7 L1) (rd harg9 x8 L2) (rd harg10 x9 L3) (rd harg1 x0 L0) (rd harg2 x1 L4) (ix2 r k) = D.mix (row t ⟨r, by omega⟩) k := by
  refine mix_row _ _ _ _ _ _ r _ (fun k => ?_) (fun k => ?_) (fun k c => ?_) (fun k c => ?_) (fun c => ?_) (fun c => ?_) k
  · exact read_val harg7 x6 _ _ (ix2 ⟨r, by omega⟩ k) (by blk_ext [] <;> simp [LoadRect.idx, Rect.toLoadRect, Rect.idx_unit_val]) (H.ret _ _)
  · exact read_val harg8 x7 _ _ (ix2 ⟨r, by omega⟩ k) (by blk_ext [] <;> simp [LoadRect.idx, Rect.toLoadRect, Rect.idx_unit_val]) (H.att _ _)
  · exact read_val harg9 x8 _ _ (ix2 k c) (by blk_ext [] <;> simp [LoadRect.idx, Rect.toLoadRect, Rect.idx_unit_val]) (H.w1 _ _)
  · exact read_val harg10 x9 _ _ (ix2 k c) (by blk_ext [] <;> simp [LoadRect.idx, Rect.toLoadRect, Rect.idx_unit_val]) (H.w2 _ _)
  · exact read_val harg1 x0 _ _ (ix2 ⟨r, by omega⟩ c) (by blk_ext [] <;> simp [LoadRect.idx, Rect.toLoadRect, Rect.idx_unit_val]) (H.x _ _)
  · exact read_val harg2 x1 _ _ (ix5 0 0 0 0 c) (by blk_ext [] <;> simp [LoadRect.idx, Rect.toLoadRect, Rect.idx_unit_val]) (H.gm _ _)

/-- The modulated norm, the first half of a tile. -/
theorem hid_lo (H : Blocks D t x0 x1 x2 x3 x4 x5 x6 x7 x8 x9 x10 x11 x12 x13) (r : Fin 512) (k : Fin 1024) :
    hidT (mixT (rd harg7 x6 L0) (rd harg8 x7 L1) (rd harg9 x8 L2) (rd harg10 x9 L3) (rd harg1 x0 L0) (rd harg2 x1 L4)) (rd harg3 x2 L5) (rd harg4 x3 L4) (rd harg5 x4 L4) (ix2 r k) = D.hid (row t ⟨r, by omega⟩) k := by
  refine hid_row _ _ _ _ r _ (fun c => ?_) (fun c => ?_) (fun c => ?_) (fun c => ?_) k
  · exact mix_lo arg1 harg1 arg2 harg2 arg7 harg7 arg8 harg8 arg9 harg9 arg10 harg10 x0 x1 x2 x3 x4 x5 x6 x7 x8 x9 x10 x11 x12 x13 H r c
  · exact read_val harg3 x2 _ _ (ix2 0 c) (by blk_ext [] <;> simp [LoadRect.idx, Rect.toLoadRect, Rect.idx_unit_val]) (H.g _)
  · exact read_val harg4 x3 _ _ (ix5 0 0 0 0 c) (by blk_ext [] <;> simp [LoadRect.idx, Rect.toLoadRect, Rect.idx_unit_val]) (H.sc _ _)
  · exact read_val harg5 x4 _ _ (ix5 0 0 0 0 c) (by blk_ext [] <;> simp [LoadRect.idx, Rect.toLoadRect, Rect.idx_unit_val]) (H.sh _ _)

/-- The stream after the attention, the second half of a tile. -/
theorem mix_hi (H : Blocks D t x0 x1 x2 x3 x4 x5 x6 x7 x8 x9 x10 x11 x12 x13) (r : Fin 512) (k : Fin 1024) :
    mixT (rd harg7 x6 L6) (rd harg8 x7 L7) (rd harg9 x8 L2) (rd harg10 x9 L3) (rd harg1 x0 L6) (rd harg2 x1 L4) (ix2 r k) = D.mix (row t ⟨512 + r, by omega⟩) k := by
  refine mix_row _ _ _ _ _ _ r _ (fun k => ?_) (fun k => ?_) (fun k c => ?_) (fun k c => ?_) (fun c => ?_) (fun c => ?_) k
  · exact read_val harg7 x6 _ _ (ix2 ⟨512 + r, by omega⟩ k) (by blk_ext [] <;> simp [LoadRect.idx, Rect.toLoadRect, Rect.idx_unit_val]) (H.ret _ _)
  · exact read_val harg8 x7 _ _ (ix2 ⟨512 + r, by omega⟩ k) (by blk_ext [] <;> simp [LoadRect.idx, Rect.toLoadRect, Rect.idx_unit_val]) (H.att _ _)
  · exact read_val harg9 x8 _ _ (ix2 k c) (by blk_ext [] <;> simp [LoadRect.idx, Rect.toLoadRect, Rect.idx_unit_val]) (H.w1 _ _)
  · exact read_val harg10 x9 _ _ (ix2 k c) (by blk_ext [] <;> simp [LoadRect.idx, Rect.toLoadRect, Rect.idx_unit_val]) (H.w2 _ _)
  · exact read_val harg1 x0 _ _ (ix2 ⟨512 + r, by omega⟩ c) (by blk_ext [] <;> simp [LoadRect.idx, Rect.toLoadRect, Rect.idx_unit_val]) (H.x _ _)
  · exact read_val harg2 x1 _ _ (ix5 0 0 0 0 c) (by blk_ext [] <;> simp [LoadRect.idx, Rect.toLoadRect, Rect.idx_unit_val]) (H.gm _ _)

/-- The modulated norm, the second half of a tile. -/
theorem hid_hi (H : Blocks D t x0 x1 x2 x3 x4 x5 x6 x7 x8 x9 x10 x11 x12 x13) (r : Fin 512) (k : Fin 1024) :
    hidT (mixT (rd harg7 x6 L6) (rd harg8 x7 L7) (rd harg9 x8 L2) (rd harg10 x9 L3) (rd harg1 x0 L6) (rd harg2 x1 L4)) (rd harg3 x2 L5) (rd harg4 x3 L4) (rd harg5 x4 L4) (ix2 r k) = D.hid (row t ⟨512 + r, by omega⟩) k := by
  refine hid_row _ _ _ _ r _ (fun c => ?_) (fun c => ?_) (fun c => ?_) (fun c => ?_) k
  · exact mix_hi arg1 harg1 arg2 harg2 arg7 harg7 arg8 harg8 arg9 harg9 arg10 harg10 x0 x1 x2 x3 x4 x5 x6 x7 x8 x9 x10 x11 x12 x13 H r c
  · exact read_val harg3 x2 _ _ (ix2 0 c) (by blk_ext [] <;> simp [LoadRect.idx, Rect.toLoadRect, Rect.idx_unit_val]) (H.g _)
  · exact read_val harg4 x3 _ _ (ix5 0 0 0 0 c) (by blk_ext [] <;> simp [LoadRect.idx, Rect.toLoadRect, Rect.idx_unit_val]) (H.sc _ _)
  · exact read_val harg5 x4 _ _ (ix5 0 0 0 0 c) (by blk_ext [] <;> simp [LoadRect.idx, Rect.toLoadRect, Rect.idx_unit_val]) (H.sh _ _)

/-- The rows the first scratch buffer holds. -/
theorem hid_buf (H : Blocks D t x0 x1 x2 x3 x4 x5 x6 x7 x8 x9 x10 x11 x12 x13) (y : S1024x1024.Idx) :
    View.canon (s := S1024x1024) (e := EltTy.bf16) (kernelRun0_A.sl.HS1_2 (F := Ideal) c arg1 harg1 arg2 harg2 arg3 harg3 arg4 harg4 arg5 harg5 arg7 harg7 arg8 harg8 arg9 harg9 arg10 harg10 x0 x1 x2 x3 x4 x6 x7 x8 x9) y = D.hid (row t (y 0)) (y 1) := by
  unfold kernelRun0_A.sl.HS1_2
  canon_tiles x h
  · refine (congrArg (hidT (mixT (rd harg7 x6 L6) (rd harg8 x7 L7) (rd harg9 x8 L2) (rd harg10 x9 L3) (rd harg1 x0 L6) (rd harg2 x1 L4)) (rd harg3 x2 L5) (rd harg4 x3 L4) (rd harg5 x4 L4)) (Idealize.ShloMosaic.eq_ix2 x)).trans ((hid_hi arg1 harg1 arg2 harg2 arg3 harg3 arg4 harg4 arg5 harg5 arg7 harg7 arg8 harg8 arg9 harg9 arg10 harg10 x0 x1 x2 x3 x4 x5 x6 x7 x8 x9 x10 x11 x12 x13 H (x 0) (x 1)).trans ?_)
    exact congrArg₂ (fun a b => D.hid (row t a) b) (Fin.ext h0.symm) (Fin.ext h1.symm)
  · refine (congrArg (hidT (mixT (rd harg7 x6 L0) (rd harg8 x7 L1) (rd harg9 x8 L2) (rd harg10 x9 L3) (rd harg1 x0 L0) (rd harg2 x1 L4)) (rd harg3 x2 L5) (rd harg4 x3 L4) (rd harg5 x4 L4)) (Idealize.ShloMosaic.eq_ix2 x)).trans ((hid_lo arg1 harg1 arg2 harg2 arg3 harg3 arg4 harg4 arg5 harg5 arg7 harg7 arg8 harg8 arg9 harg9 arg10 harg10 x0 x1 x2 x3 x4 x5 x6 x7 x8 x9 x10 x11 x12 x13 H (x 0) (x 1)).trans ?_)
    exact congrArg₂ (fun a b => D.hid (row t a) b) (Fin.ext (by rw [h0])) (Fin.ext h1.symm)

/-- The rows the up products read. -/
theorem hid_word (H : Blocks D t x0 x1 x2 x3 x4 x5 x6 x7 x8 x9 x10 x11 x12 x13) (r k : Fin 1024) :
    (kernelRun0_A.sl.v94 (F := Ideal) c arg1 harg1 arg2 harg2 arg3 harg3 arg4 harg4 arg5 harg5 arg7 harg7 arg8 harg8 arg9 harg9 arg10 harg10 arg17 x0 x1 x2 x3 x4 x6 x7 x8 x9) (ix2 r k) = D.hid (row t r) k := by
  unfold kernelRun0_A.sl.v94
  rw [View.readCov_eq_canon']
  refine (hid_buf c arg1 harg1 arg2 harg2 arg3 harg3 arg4 harg4 arg5 harg5 arg7 harg7 arg8 harg8 arg9 harg9 arg10 harg10 x0 x1 x2 x3 x4 x5 x6 x7 x8 x9 x10 x11 x12 x13 H _).trans (congrArg₂ (fun a b => D.hid (row t a) b) (Fin.ext ?_) (Fin.ext ?_)) <;>
    simp [LoadRect.idx, Rect.toLoadRect, Rect.idx_unit_val]

/-- The gated unit's 256 columns from `o` on, its two halves lying `o` and `u` columns in. -/
theorem act_at (H : Blocks D t x0 x1 x2 x3 x4 x5 x6 x7 x8 x9 x10 x11 x12 x13) (o u : ℕ) (ho : o + 256 ≤ 2816) (hu : u = 2816 + o)
    (i1 : ∀ a, (![0, 0, o] : Fin 3 → ℕ) a + S1x1024x256.size a ≤ S1x1024x5632.size a) (i1u : ∀ a, (![0, 0, u] : Fin 3 → ℕ) a + S1x1024x256.size a ≤ S1x1024x5632.size a)
    (i2 : ∀ a, (![0, 0, o] : Fin 3 → ℕ) a + S1x3x256.size a ≤ S1x3x5632.size a) (i2u : ∀ a, (![0, 0, u] : Fin 3 → ℕ) a + S1x3x256.size a ≤ S1x3x5632.size a)
    (i3 : ∀ a, (![0, 0, o] : Fin 3 → ℕ) a + S1x1x256.size a ≤ S1x1x5632.size a) (i3u : ∀ a, (![0, 0, u] : Fin 3 → ℕ) a + S1x1x256.size a ≤ S1x1x5632.size a)
    (x : S1024x256.Idx) :
    actT (kernelRun0_A.sl.v94 (F := Ideal) c arg1 harg1 arg2 harg2 arg3 harg3 arg4 harg4 arg5 harg5 arg7 harg7 arg8 harg8 arg9 harg9 arg10 harg10 arg17 x0 x1 x2 x3 x4 x6 x7 x8 x9) (rd harg11 x10 (Rect.unit (s := S1x1024x5632) ![0, 0, o] S1x1024x256.size i1).toLoadRect) (rd harg11 x10 (Rect.unit (s := S1x1024x5632) ![0, 0, u] S1x1024x256.size i1u).toLoadRect) (rd harg12 x11 (Rect.unit (s := S1x3x5632) ![0, 0, o] S1x3x256.size i2).toLoadRect) (rd harg12 x11 (Rect.unit (s := S1x3x5632) ![0, 0, u] S1x3x256.size i2u).toLoadRect) (rd harg13 x12 (Rect.unit (s := S1x1x5632) ![0, 0, o] S1x1x256.size i3).toLoadRect) (rd harg13 x12 (Rect.unit (s := S1x1x5632) ![0, 0, u] S1x1x256.size i3u).toLoadRect) x =
      D.act (row t (x 0)) ⟨o + (x 1).val, Nat.lt_of_lt_of_le (Nat.add_lt_add_left (x 1).isLt o) ho⟩ := by
  have hq : (x 1).val < 256 := (x 1).isLt
  refine (congrArg _ (Idealize.ShloMosaic.eq_ix2 x)).trans ?_
  generalize x 1 = q at hq ⊢
  refine act_row H.n _ _ _ _ _ _ _ ⟨o + q.val, by omega⟩ q (fun r k => ?_) (fun k => ?_) (fun k => ?_) (fun j => ?_) (fun j => ?_) ?_ ?_ (x 0)
  · exact hid_word c arg1 harg1 arg2 harg2 arg3 harg3 arg4 harg4 arg5 harg5 arg7 harg7 arg8 harg8 arg9 harg9 arg10 harg10 arg17 x0 x1 x2 x3 x4 x5 x6 x7 x8 x9 x10 x11 x12 x13 H r k
  · exact read_val harg11 x10 _ _ (ix3 0 k ⟨o + q.val, by omega⟩) (by blk_ext [] <;> simp [LoadRect.idx, Rect.toLoadRect, Rect.idx_unit_val] <;> omega) (H.wu _ _)
  · exact read_val harg11 x10 _ _ (ix3 0 k ⟨2816 + (o + q.val), by omega⟩) (by blk_ext [] <;> simp [LoadRect.idx, Rect.toLoadRect, Rect.idx_unit_val] <;> omega) (H.wu _ _)
  · exact read_val harg12 x11 _ _ (ix3 0 j ⟨o + q.val, by omega⟩) (by blk_ext [] <;> simp [LoadRect.idx, Rect.toLoadRect, Rect.idx_unit_val] <;> omega) (H.cw _ _)
  · exact read_val harg12 x11 _ _ (ix3 0 j ⟨2816 + (o + q.val), by omega⟩) (by blk_ext [] <;> simp [LoadRect.idx, Rect.toLoadRect, Rect.idx_unit_val] <;> omega) (H.cw _ _)
  · exact read_val harg13 x12 _ _ (ix3 0 0 ⟨o + q.val, by omega⟩) (by blk_ext [] <;> simp [LoadRect.idx, Rect.toLoadRect, Rect.idx_unit_val] <;> omega) (H.cb _)
  · exact read_val harg13 x12 _ _ (ix3 0 0 ⟨2816 + (o + q.val), by omega⟩) (by blk_ext [] <;> simp [LoadRect.idx, Rect.toLoadRect, Rect.idx_unit_val] <;> omega) (H.cb _)

/-- The gated unit the second scratch buffer holds. -/
theorem act_buf (H : Blocks D t x0 x1 x2 x3 x4 x5 x6 x7 x8 x9 x10 x11 x12 x13) (y : S1024x2816.Idx) :
    View.canon (s := S1024x2816) (e := EltTy.bf16) (kernelRun0_A.sl.HS0_11 (F := Ideal) c arg1 harg1 arg2 harg2 arg3 harg3 arg4 harg4 arg5 harg5 arg7 harg7 arg8 harg8 arg9 harg9 arg10 harg10 arg11 harg11 arg12 harg12 arg13 harg13 arg17 x0 x1 x2 x3 x4 x6 x7 x8 x9 x10 x11 x12) y = D.act (row t (y 0)) (y 1) := by
  unfold kernelRun0_A.sl.HS0_11
  canon_tiles x h
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 2560 5376 (by decide) rfl inb_S1x1024x5632_S1x1024x256_0_0_2560 inb_S1x1024x5632_S1x1024x256_0_0_5376 inb_S1x3x5632_S1x3x256_0_0_2560 inb_S1x3x5632_S1x3x256_0_0_5376 inb_S1x1x5632_S1x1x256_0_0_2560 inb_S1x1x5632_S1x1x256_0_0_5376 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 2304 5120 (by decide) rfl inb_S1x1024x5632_S1x1024x256_0_0_2304 inb_S1x1024x5632_S1x1024x256_0_0_5120 inb_S1x3x5632_S1x3x256_0_0_2304 inb_S1x3x5632_S1x3x256_0_0_5120 inb_S1x1x5632_S1x1x256_0_0_2304 inb_S1x1x5632_S1x1x256_0_0_5120 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 2048 4864 (by decide) rfl inb_S1x1024x5632_S1x1024x256_0_0_2048 inb_S1x1024x5632_S1x1024x256_0_0_4864 inb_S1x3x5632_S1x3x256_0_0_2048 inb_S1x3x5632_S1x3x256_0_0_4864 inb_S1x1x5632_S1x1x256_0_0_2048 inb_S1x1x5632_S1x1x256_0_0_4864 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 1792 4608 (by decide) rfl inb_S1x1024x5632_S1x1024x256_0_0_1792 inb_S1x1024x5632_S1x1024x256_0_0_4608 inb_S1x3x5632_S1x3x256_0_0_1792 inb_S1x3x5632_S1x3x256_0_0_4608 inb_S1x1x5632_S1x1x256_0_0_1792 inb_S1x1x5632_S1x1x256_0_0_4608 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 1536 4352 (by decide) rfl inb_S1x1024x5632_S1x1024x256_0_0_1536 inb_S1x1024x5632_S1x1024x256_0_0_4352 inb_S1x3x5632_S1x3x256_0_0_1536 inb_S1x3x5632_S1x3x256_0_0_4352 inb_S1x1x5632_S1x1x256_0_0_1536 inb_S1x1x5632_S1x1x256_0_0_4352 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 1280 4096 (by decide) rfl inb_S1x1024x5632_S1x1024x256_0_0_1280 inb_S1x1024x5632_S1x1024x256_0_0_4096 inb_S1x3x5632_S1x3x256_0_0_1280 inb_S1x3x5632_S1x3x256_0_0_4096 inb_S1x1x5632_S1x1x256_0_0_1280 inb_S1x1x5632_S1x1x256_0_0_4096 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 1024 3840 (by decide) rfl inb_S1x1024x5632_S1x1024x256_0_0_1024 inb_S1x1024x5632_S1x1024x256_0_0_3840 inb_S1x3x5632_S1x3x256_0_0_1024 inb_S1x3x5632_S1x3x256_0_0_3840 inb_S1x1x5632_S1x1x256_0_0_1024 inb_S1x1x5632_S1x1x256_0_0_3840 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 768 3584 (by decide) rfl inb_S1x1024x5632_S1x1024x256_0_0_768 inb_S1x1024x5632_S1x1024x256_0_0_3584 inb_S1x3x5632_S1x3x256_0_0_768 inb_S1x3x5632_S1x3x256_0_0_3584 inb_S1x1x5632_S1x1x256_0_0_768 inb_S1x1x5632_S1x1x256_0_0_3584 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 512 3328 (by decide) rfl inb_S1x1024x5632_S1x1024x256_0_0_512 inb_S1x1024x5632_S1x1024x256_0_0_3328 inb_S1x3x5632_S1x3x256_0_0_512 inb_S1x3x5632_S1x3x256_0_0_3328 inb_S1x1x5632_S1x1x256_0_0_512 inb_S1x1x5632_S1x1x256_0_0_3328 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 256 3072 (by decide) rfl inb_S1x1024x5632_S1x1024x256_0_0_256 inb_S1x1024x5632_S1x1024x256_0_0_3072 inb_S1x3x5632_S1x3x256_0_0_256 inb_S1x3x5632_S1x3x256_0_0_3072 inb_S1x1x5632_S1x1x256_0_0_256 inb_S1x1x5632_S1x1x256_0_0_3072 x).trans ?_
    exact congrArg₂ (fun a b => D.act (row t a) b) (Fin.ext h0.symm) (Fin.ext h1.symm)
  · refine (act_at c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H 0 2816 (by decide) rfl inb_S1x1024x5632_S1x1024x256_0_0_0 inb_S1x1024x5632_S1x1024x256_0_0_2816 inb_S1x3x5632_S1x3x256_0_0_0 inb_S1x3x5632_S1x3x256_0_0_2816 inb_S1x1x5632_S1x1x256_0_0_0 inb_S1x1x5632_S1x1x256_0_0_2816 x).trans ?_
    exact congrArg₂ (fun a b => D.act (row t a) b) (Fin.ext h0.symm) (Fin.ext (by rw [h1]; simp))

theorem act_lo (H : Blocks D t x0 x1 x2 x3 x4 x5 x6 x7 x8 x9 x10 x11 x12 x13) (r : Fin 512) (f : Fin 2816) :
    (kernelRun0_A.sl.v1099 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (ix2 r f) = D.act (row t ⟨r, by omega⟩) f := by
  unfold kernelRun0_A.sl.v1099
  rw [View.readCov_eq_canon']
  refine (act_buf c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H _).trans (congrArg₂ (fun a b => D.act (row t a) b) (Fin.ext ?_) (Fin.ext ?_)) <;>
    simp [LoadRect.idx, Rect.toLoadRect, Rect.idx_unit_val]

theorem act_hi (H : Blocks D t x0 x1 x2 x3 x4 x5 x6 x7 x8 x9 x10 x11 x12 x13) (r : Fin 512) (f : Fin 2816) :
    (kernelRun0_A.sl.v1111 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (ix2 r f) = D.act (row t ⟨512 + r, by omega⟩) f := by
  unfold kernelRun0_A.sl.v1111
  rw [View.readCov_eq_canon']
  refine (act_buf c arg1 harg1 arg2 harg2 arg3 harg3 arg4 harg4 arg5 harg5 arg7 harg7 arg8 harg8 arg9 harg9 arg10 harg10 arg11 harg11 arg12 harg12 arg13 harg13 arg17 x0 x1 x2 x3 x4 x5 x6 x7 x8 x9 x10 x11 x12 x13 H _).trans (congrArg₂ (fun a b => D.act (row t a) b) (Fin.ext ?_) (Fin.ext ?_)) <;>
    simp [LoadRect.idx, Rect.toLoadRect, Rect.idx_unit_val]

/-- The mixed rows the result's buffer holds before the results. -/
theorem mix_buf (H : Blocks D t x0 x1 x2 x3 x4 x5 x6 x7 x8 x9 x10 x11 x12 x13) (y : S1024x1024.Idx) :
    View.canon (s := S1024x1024) (e := EltTy.f32) (kernelRun0_A.sl.H14_2 (F := Ideal) c arg1 harg1 arg2 harg2 arg7 harg7 arg8 harg8 arg9 harg9 arg10 harg10 x0 x1 x6 x7 x8 x9) y = D.mix (row t (y 0)) (y 1) := by
  unfold kernelRun0_A.sl.H14_2
  canon_tiles x h
  · refine (congrArg (mixT (rd harg7 x6 L6) (rd harg8 x7 L7) (rd harg9 x8 L2) (rd harg10 x9 L3) (rd harg1 x0 L6) (rd harg2 x1 L4)) (Idealize.ShloMosaic.eq_ix2 x)).trans ((mix_hi arg1 harg1 arg2 harg2 arg7 harg7 arg8 harg8 arg9 harg9 arg10 harg10 x0 x1 x2 x3 x4 x5 x6 x7 x8 x9 x10 x11 x12 x13 H (x 0) (x 1)).trans ?_)
    exact congrArg₂ (fun a b => D.mix (row t a) b) (Fin.ext h0.symm) (Fin.ext h1.symm)
  · refine (congrArg (mixT (rd harg7 x6 L0) (rd harg8 x7 L1) (rd harg9 x8 L2) (rd harg10 x9 L3) (rd harg1 x0 L0) (rd harg2 x1 L4)) (Idealize.ShloMosaic.eq_ix2 x)).trans ((mix_lo arg1 harg1 arg2 harg2 arg7 harg7 arg8 harg8 arg9 harg9 arg10 harg10 x0 x1 x2 x3 x4 x5 x6 x7 x8 x9 x10 x11 x12 x13 H (x 0) (x 1)).trans ?_)
    exact congrArg₂ (fun a b => D.mix (row t a) b) (Fin.ext (by rw [h0])) (Fin.ext h1.symm)

theorem mixed_lo (H : Blocks D t x0 x1 x2 x3 x4 x5 x6 x7 x8 x9 x10 x11 x12 x13) (r : Fin 512) (k : Fin 1024) :
    (kernelRun0_A.sl.v1095 (F := Ideal) c arg1 harg1 arg2 harg2 arg7 harg7 arg8 harg8 arg9 harg9 arg10 harg10 arg15 x0 x1 x6 x7 x8 x9) (ix2 r k) = D.mix (row t ⟨r, by omega⟩) k := by
  unfold kernelRun0_A.sl.v1095
  rw [View.readCov_eq_canon']
  refine (mix_buf c arg1 harg1 arg2 harg2 arg7 harg7 arg8 harg8 arg9 harg9 arg10 harg10 x0 x1 x2 x3 x4 x5 x6 x7 x8 x9 x10 x11 x12 x13 H _).trans (congrArg₂ (fun a b => D.mix (row t a) b) (Fin.ext ?_) (Fin.ext ?_)) <;>
    simp [LoadRect.idx, Rect.toLoadRect, Rect.idx_unit_val]

theorem mixed_hi (H : Blocks D t x0 x1 x2 x3 x4 x5 x6 x7 x8 x9 x10 x11 x12 x13) (r : Fin 512) (k : Fin 1024) :
    (kernelRun0_A.sl.v1107 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13) (ix2 r k) = D.mix (row t ⟨512 + r, by omega⟩) k := by
  unfold kernelRun0_A.sl.v1107
  rw [View.readCov_eq_canon']
  unfold kernelRun0_A.sl.H14_3
  refine (View.canon_cons_of_not_mem _ _ ?_).trans ((mix_buf c arg1 harg1 arg2 harg2 arg7 harg7 arg8 harg8 arg9 harg9 arg10 harg10 x0 x1 x2 x3 x4 x5 x6 x7 x8 x9 x10 x11 x12 x13 H _).trans (congrArg₂ (fun a b => D.mix (row t a) b) (Fin.ext ?_) (Fin.ext ?_)))
  · refine Rect.not_mem_set_of_axis _ _ 0 0 512 rfl rfl rfl (Or.inr ?_)
    simp [LoadRect.idx, Rect.toLoadRect, Rect.idx_unit_val]
  all_goals simp [LoadRect.idx, Rect.toLoadRect, Rect.idx_unit_val]

/-- The results, the first half of a tile. -/
theorem res_lo (H : Blocks D t x0 x1 x2 x3 x4 x5 x6 x7 x8 x9 x10 x11 x12 x13) (r : Fin 512) (k : Fin 1024) :
    outT (kernelRun0_A.sl.v1095 (F := Ideal) c arg1 harg1 arg2 harg2 arg7 harg7 arg8 harg8 arg9 harg9 arg10 harg10 arg15 x0 x1 x6 x7 x8 x9) (rd harg6 x5 L4) (kernelRun0_A.sl.v1099 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (rd harg14 x13 L14) (ix2 r k) = D.out (row t ⟨r, by omega⟩) k := by
  refine out_row _ _ _ _ r _ (fun c' => ?_) (fun c' => ?_) (fun f => ?_) (fun f c' => ?_) k
  · exact mixed_lo c arg1 harg1 arg2 harg2 arg7 harg7 arg8 harg8 arg9 harg9 arg10 harg10 arg15 x0 x1 x2 x3 x4 x5 x6 x7 x8 x9 x10 x11 x12 x13 H r c'
  · exact read_val harg6 x5 _ _ (ix5 0 0 0 0 c') (by blk_ext [] <;> simp [LoadRect.idx, Rect.toLoadRect, Rect.idx_unit_val]) (H.gt _ _)
  · exact act_lo c arg1 harg1 arg2 harg2 arg3 harg3 arg4 harg4 arg5 harg5 arg7 harg7 arg8 harg8 arg9 harg9 arg10 harg10 arg11 harg11 arg12 harg12 arg13 harg13 arg16 arg17 x0 x1 x2 x3 x4 x5 x6 x7 x8 x9 x10 x11 x12 x13 H r f
  · exact read_val harg14 x13 _ _ (ix3 0 f c') (by blk_ext [] <;> simp [LoadRect.idx, Rect.toLoadRect, Rect.idx_unit_val]) (H.wd _ _)

/-- The results, the second half of a tile. -/
theorem res_hi (H : Blocks D t x0 x1 x2 x3 x4 x5 x6 x7 x8 x9 x10 x11 x12 x13) (r : Fin 512) (k : Fin 1024) :
    outT (kernelRun0_A.sl.v1107 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13) (rd harg6 x5 L4) (kernelRun0_A.sl.v1111 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (rd harg14 x13 L14) (ix2 r k) = D.out (row t ⟨512 + r, by omega⟩) k := by
  refine out_row _ _ _ _ r _ (fun c' => ?_) (fun c' => ?_) (fun f => ?_) (fun f c' => ?_) k
  · exact mixed_hi c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13 H r c'
  · exact read_val harg6 x5 _ _ (ix5 0 0 0 0 c') (by blk_ext [] <;> simp [LoadRect.idx, Rect.toLoadRect, Rect.idx_unit_val]) (H.gt _ _)
  · exact act_hi c arg1 harg1 arg2 harg2 arg3 harg3 arg4 harg4 arg5 harg5 arg7 harg7 arg8 harg8 arg9 harg9 arg10 harg10 arg11 harg11 arg12 harg12 arg13 harg13 arg16 arg17 x0 x1 x2 x3 x4 x5 x6 x7 x8 x9 x10 x11 x12 x13 H r f
  · exact read_val harg14 x13 _ _ (ix3 0 f c') (by blk_ext [] <;> simp [LoadRect.idx, Rect.toLoadRect, Rect.idx_unit_val]) (H.wd _ _)

/-- The tile the run stores. -/
theorem tile (i : grid0.Coords) (H : Blocks D t x0 x1 x2 x3 x4 x5 x6 x7 x8 x9 x10 x11 x12 x13) (y : S1024x1024.Idx) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y = D.out (row t (y 0)) (y 1) := by
  unfold out0_A_14
  rw [View.read_writes_junk_eq_canon]
  unfold kernelRun0_A
  dsimp only
  have hy0 : (y 0).val < 1024 := (y 0).isLt
  have hy1 : (y 1).val < 1024 := (y 1).isLt
  by_cases hy : (y 0).val < 512
  · refine (View.canon_cons_of_not_mem _ _ (Rect.not_mem_set_of_axis _ y 0 512 512 rfl rfl rfl (Or.inl hy))).trans ?_
    unfold kernelRun0_A.sl.H14_3
    refine (canon_top _ _ _ y (ix2 (⟨(y 0).val, hy⟩ : Fin 512) (⟨(y 1).val, hy1⟩ : Fin 1024)) (fun a => ?_)).trans
      ?_
    · fin_cases a <;> simp
    refine (show _ = outT (kernelRun0_A.sl.v1095 (F := Ideal) c arg1 harg1 arg2 harg2 arg7 harg7 arg8 harg8 arg9 harg9 arg10 harg10 arg15 x0 x1 x6 x7 x8 x9) (rd harg6 x5 L4) (kernelRun0_A.sl.v1099 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (rd harg14 x13 L14) (ix2 _ _) from rfl).trans ((res_lo c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13 H _ _).trans ?_)
    exact congrArg₂ (fun a b => D.out (row t a) b) rfl rfl
  · refine (canon_top _ _ _ y (ix2 (⟨(y 0).val - 512, by omega⟩ : Fin 512) (⟨(y 1).val, hy1⟩ : Fin 1024)) (fun a => ?_)).trans
      ?_
    · fin_cases a <;> simp
      omega
    unfold kernelRun0_A.sl.r_75 kernelRun0_A.sl.r_76
    refine (show _ = outT (kernelRun0_A.sl.v1107 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13) (rd harg6 x5 L4) (kernelRun0_A.sl.v1111 (F := Ideal) c arg1 harg1 arg2 harg2 arg3 harg3 arg4 harg4 arg5 harg5 arg7 harg7 arg8 harg8 arg9 harg9 arg10 harg10 arg11 harg11 arg12 harg12 arg13 harg13 arg16 arg17 x0 x1 x2 x3 x4 x6 x7 x8 x9 x10 x11 x12) (rd harg14 x13 L14) (ix2 _ _) from rfl).trans ((res_hi c arg1 harg1 arg2 harg2 arg3 harg3 arg4 harg4 arg5 harg5 arg6 harg6 arg7 harg7 arg8 harg8 arg9 harg9 arg10 harg10 arg11 harg11 arg12 harg12 arg13 harg13 arg14 harg14 arg15 arg16 arg17 x0 x1 x2 x3 x4 x5 x6 x7 x8 x9 x10 x11 x12 x13 H _ _).trans ?_)
    exact congrArg₂ (fun a b => D.out (row t a) b) (Fin.ext (by simp only; omega)) rfl

end Cert.MidLatIdeal.Mix

end
-- ==== Proof.MidLatReference.lean ====
/-
The reference of the latent stream's first mixing and ConvFFN call, read at a row and a column: the call's mathematics.
-/
module

public import proofs.«01_k».proof.Proof.Gen.MidLatRefIdeal.Read
public import proofs.«01_k».proof.Proof.MidLatBlocks
public import Idealize.ShloMosaic.Lib.Pointwise

@[expose] public section

set_option maxRecDepth 16384

noncomputable section

open Idealize.ShloMosaic Idealize.ShloMosaic.TcCoe Idealize.SL.Sem

namespace Cert.MidLatRefIdeal.Rows

open Cert.MidLatRefIdeal Cert.MidLatRefIdeal.Gen Cert.MidLatRefIdeal.Read

local notation "V" => FVec Idealize.ShloMosaic.Ideal

variable (x r : V S8x1024x1024 .f32) (a : V S8x1024x512 .f32) (m : V S8x6144 .f32) (w : V S1536x1024 .f32) (g : V S2x1024 .f32)
  (wu : V S2x1024x5632 .f32) (cw : V S2x3x5632 .f32) (cb : V S2x5632 .f32) (wd : V S2x2816x1024 .f32)

/-- The row of the stream a position of a sequence is. -/
def at' (b : Fin 8) (p : Fin 1024) : Fin 8192 := ⟨b.val * 1024 + p.val, by omega⟩

theorem div_at (b : Fin 8) (p : Fin 1024) (h : (at' b p : ℕ) / 1024 < 8) : (⟨(at' b p : ℕ) / 1024, h⟩ : Fin 8) = b :=
  Fin.ext (by simp only [at']; omega)

theorem mod_at (b : Fin 8) (p : Fin 1024) (h : (at' b p : ℕ) % 1024 < 1024) : (⟨(at' b p : ℕ) % 1024, h⟩ : Fin 1024) = p :=
  Fin.ext (by simp only [at']; omega)

theorem mix_at (b : Fin 8) (p : Fin 1024) (c : Fin 1024) :
    val_main_v11 (F := Ideal) x r a m w (ix3 b p c) = (Cert.MidLatIdeal.Mix.data x r a m w g wu cw cb wd).mix (at' b p) c := by
  unfold ConvFfn.Data.mix Cert.MidLatIdeal.Mix.data
  simp only [div_at, mod_at]
  pointwise [val_main_v11, val_main_v10, val_main_v9, val_main_v8, val_main_v7, val_main_v3, val_main_v0]

theorem sum_at (y : V S8x1024x1024 .f32) (hy : val_main_v11 (F := Ideal) x r a m w = y) (b : Fin 8) (p : Fin 1024) :
    val_main_v15 (F := Ideal) x r a m w (ix2 b p) = ∑ k : Fin 1024, y (ix3 b p k) * y (ix3 b p k) := by
  pointwise [val_main_v15, val_main_v14, val_main_cst, hy]

theorem rms_at (y : V S8x1024x1024 .f32) (hy : val_main_v11 (F := Ideal) x r a m w = y) (b : Fin 8) (p : Fin 1024) (c : Fin 1024) :
    val_main_v23 (F := Ideal) x r a m w (ix3 b p c) = ConvFfn.rms (fun k => y (ix3 b p k)) c := by
  unfold ConvFfn.rms
  rw [← sum_at x r a m w y hy b p]
  generalize hs : val_main_v15 (F := Ideal) x r a m w = s
  pointwise [val_main_v23, val_main_v22, val_main_v21, val_main_v20, val_main_v19, val_main_cst_1, val_main_v18, val_main_v17,
    val_main_cst_0, val_main_v16, hs, hy]

theorem hid_at (b : Fin 8) (p : Fin 1024) (c : Fin 1024) :
    val_main_v32 (F := Ideal) x r a m w g (ix3 b p c) = (Cert.MidLatIdeal.Mix.data x r a m w g wu cw cb wd).hid (at' b p) c := by
  unfold ConvFfn.Data.hid
  have hr := rms_at x r a m w _ rfl b p c
  simp only [mix_at x r a m w g wu cw cb wd] at hr
  rw [← hr]
  unfold Cert.MidLatIdeal.Mix.data
  simp only [div_at, mod_at]
  generalize hs : val_main_v23 (F := Ideal) x r a m w = s
  pointwise [val_main_v32, val_main_v31, val_main_v4, val_main_v0, val_main_v30, val_main_v29, val_main_v28, val_main_v27,
    val_main_cst_2, val_main_v5, val_main_v26, val_main_v25, val_main_v24, val_main_v13, val_main_v12, hs]

theorem up_at (b : Fin 8) (p : Fin 1024) (f : Fin 5632) :
    val_main_v41 (F := Ideal) x r a m w g wu (ix3 b p f) = (Cert.MidLatIdeal.Mix.data x r a m w g wu cw cb wd).up (at' b p) f := by
  unfold ConvFfn.Data.up
  simp only [← hid_at x r a m w g wu cw cb wd]
  unfold Cert.MidLatIdeal.Mix.data
  simp only [div_at, mod_at]
  generalize hs : val_main_v32 (F := Ideal) x r a m w g = s
  pointwise [val_main_v41, val_main_v34, val_main_v33, hs]

theorem pad_at (u : V S8x1024x5632 .f32) (hu : val_main_v41 (F := Ideal) x r a m w g wu = u) (b : Fin 8) (p : Fin 1026) (f : Fin 5632) :
    val_main_v42 (F := Ideal) x r a m w g wu (ix3 b p f)
      = if h : 1 ≤ (p : ℕ) ∧ (p : ℕ) - 1 < 1024 then u (ix3 b ⟨(p : ℕ) - 1, by omega⟩ f) else 0 := by
  pointwise [val_main_v42, val_main_call0_v0, val_main_c, hu]
  split_ifs with h
  · rfl
  · simp [FloatOps.sitofp]

theorem conv_at (b : Fin 8) (p : Fin 1024) (f : Fin 5632) :
    val_main_v65 (F := Ideal) x r a m w g wu cw cb (ix3 b p f) = (Cert.MidLatIdeal.Mix.data x r a m w g wu cw cb wd).conv (at' b p) f := by
  have hp := pad_at x r a m w g wu _ rfl
  unfold ConvFfn.Data.conv ConvFfn.Data.prev ConvFfn.Data.next
  generalize hs : val_main_v42 (F := Ideal) x r a m w g wu = s at hp
  pointwise [val_main_v65, val_main_v64, val_main_v63, val_main_v62, val_main_v61, val_main_v60, val_main_v59, val_main_v58,
    val_main_v57, val_main_v56, val_main_v55, val_main_v54, val_main_v53, val_main_v52, val_main_v51, val_main_v50,
    val_main_v49, val_main_v48, val_main_v47, val_main_v46, val_main_v45, val_main_v44, val_main_v43, val_main_v38,
    val_main_v37, val_main_v36, val_main_v35, hs]
  have hn : (Cert.MidLatIdeal.Mix.data x r a m w g wu cw cb wd).n = 1024 := rfl
  have hr : (at' b p : ℕ) = b.val * 1024 + p.val := rfl
  rw [hn]
  refine congrArg₂ (· + ·) (congrArg₂ (· + ·) (congrArg₂ (· + ·) (congrArg (· * _) ?_) (congrArg (· * _) ?_)) (congrArg (· * _) ?_)) rfl
  · rw [hp]
    by_cases h : (p : ℕ) = 0
    · rw [dif_neg (by simp only; omega), if_pos (by omega)]
    · rw [dif_pos (by simp only; omega), if_neg (by omega), up_at x r a m w g wu cw cb wd]
      refine congrArg (fun R => (Cert.MidLatIdeal.Mix.data x r a m w g wu cw cb wd).up R f) (Fin.ext ?_)
      simp only [at']
      omega
  · rw [hp, dif_pos (by simp only; omega), up_at x r a m w g wu cw cb wd]
    refine congrArg (fun R => (Cert.MidLatIdeal.Mix.data x r a m w g wu cw cb wd).up R f) (Fin.ext ?_)
    simp only [at']
    omega
  · rw [hp]
    by_cases h : (p : ℕ) = 1024 - 1
    · rw [dif_neg (by simp only; omega), if_pos (by omega)]
    · rw [dif_pos (by simp only; omega), if_neg (by omega), up_at x r a m w g wu cw cb wd]
      refine congrArg (fun R => (Cert.MidLatIdeal.Mix.data x r a m w g wu cw cb wd).up R f) (Fin.ext ?_)
      simp only [at']
      omega

theorem act_at (b : Fin 8) (p : Fin 1024) (f : Fin 2816) :
    val_main_v69 (F := Ideal) x r a m w g wu cw cb (ix3 b p f) = (Cert.MidLatIdeal.Mix.data x r a m w g wu cw cb wd).act (at' b p) f := by
  unfold ConvFfn.Data.act
  simp only [← conv_at x r a m w g wu cw cb wd]
  generalize hs : val_main_v65 (F := Ideal) x r a m w g wu cw cb = s
  pointwise [val_main_v69, val_main_v68, val_main_v67, val_main_v66, val_main_call1_v5, val_main_call1_v4, val_main_call1_v3,
    val_main_call1_v2, val_main_call1_v1, val_main_call1_v0, val_main_call1_cst, val_main_call1_cst_0, hs]

theorem out_at (b : Fin 8) (p : Fin 1024) (c : Fin 1024) :
    val_main_v73 (F := Ideal) x r a m w g wu cw cb wd (ix3 b p c) = (Cert.MidLatIdeal.Mix.data x r a m w g wu cw cb wd).out (at' b p) c := by
  unfold ConvFfn.Data.out
  simp only [← act_at x r a m w g wu cw cb wd, ← mix_at x r a m w g wu cw cb wd]
  unfold Cert.MidLatIdeal.Mix.data
  simp only [div_at, mod_at]
  generalize hs : val_main_v69 (F := Ideal) x r a m w g wu cw cb = s
  generalize hy : val_main_v11 (F := Ideal) x r a m w = y
  pointwise [val_main_v73, val_main_v72, val_main_v71, val_main_v70, val_main_v40, val_main_v39, val_main_v6, val_main_v0, hs, hy]

theorem result_at (R : Fin 8192) (c : Fin 1024) :
    val_main_v74 (F := Ideal) x r a m w g wu cw cb wd (ix2 R c) = (Cert.MidLatIdeal.Mix.data x r a m w g wu cw cb wd).out R c := by
  have hR : at' ⟨R / 1024, by omega⟩ ⟨R % 1024, by omega⟩ = R := Fin.ext (by simp only [at']; omega)
  have hr := out_at x r a m w g wu cw cb wd ⟨R / 1024, by omega⟩ ⟨R % 1024, by omega⟩ c
  rw [hR] at hr
  rw [← hr]
  generalize hs : val_main_v73 (F := Ideal) x r a m w g wu cw cb wd = s
  pointwise [val_main_v74, hs]

end Cert.MidLatRefIdeal.Rows

end
-- ==== Proof.MidLatValue.lean ====
/-
The latent stream's first mixing and ConvFFN call: its result array after the run is the reference's.
-/
module

public import proofs.«01_k».proof.Proof.MidLatWords
public import proofs.«01_k».proof.Proof.MidLatReference

@[expose] public section

set_option maxRecDepth 16384

noncomputable section

open Idealize.ShloMosaic Idealize.ShloMosaic.TcCoe Idealize.SL.Sem
open Idealize.ShloMosaic.Pipeline (Dat)

namespace Cert.MidLatIdeal.Mix

open Cert.MidLatIdeal Cert.MidLatIdeal.Gen

variable (m : (ℓ : Loc nD τ sig) → Buf (Elt Ideal) ℓ)

/-- The reference's result over the kernel's argument arrays. -/
abbrev ref (c : Dev nD) : FVec Ideal S8192x1024 .f32 :=
  Cert.MidLatRefIdeal.Read.val_main_v74 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9))

/-- The blocks of a grid point hold the rows of its tile. -/
theorem blocks (c : Dev nD) (t : Fin cfg0.N) :
    Blocks (dat m c) t (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) where
  x := x_at m c t
  gm := gm_at m c t
  g := g_at m c t
  sc := sc_at m c t
  sh := sh_at m c t
  gt := gt_at m c t
  ret := ret_at m c t
  att := att_at m c t
  w1 := w1_at m c t
  w2 := w2_at m c t
  wu := wu_at m c t
  cw := cw_at m c t
  cb := cb_at m c t
  wd := wd_at m c t
  n := rfl

/-- One row and column of the reference's result. -/
theorem ref_at (c : Dev nD) (R : Fin 8192) (k : Fin 1024) : ref m c (ix2 R k) = (dat m c).out R k :=
  Cert.MidLatRefIdeal.Rows.result_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) R k

theorem final (c : Dev nD) : (dats m 0 c).arrAt 14 (cfgs 0).N = ref m c := by
  refine (dats m 0 c).arrAt_eq_of_covers 14 _ (by decide +kernel) fun t _ y => ?_
  blk_simp
  rw [after0_14]
  unfold outsAt0
  refine (tile c _ _ _ _ _ _ _ _ _ _ _ _ _ _ _ _ _ _ _ _ _ _ _ _ _ _ _ _ _ _ _ _ _ _ _ _ _ _ _ _ _ _ _ _ _ _ _ _ _ (blocks m c t) y).trans
    ((ref_at m c (row t (y 0)) (y 1)).symm.trans (congrArg (ref m c) ?_))
  have h8 := lt8 t
  blk_ext [idx t]
  rfl

end Cert.MidLatIdeal.Mix

end
-- ==== Proof.lean ====
module

public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Pre_gqa_finite
public import proofs.«01_k».proof.Proof.Gen.GqaIdeal.Value
public import proofs.«01_k».proof.Proof.Gen.GqaRefIdeal.Run
public import proofs.«01_k».proof.Proof.Gen.GqaRefIdeal.Read
public import proofs.«01_k».proof.Proof.GqaFinite
public import proofs.«01_k».proof.Proof.Gen.Mid.Frame
public import proofs.«01_k».proof.Proof.Gen.MidIdeal.Value
public import proofs.«01_k».proof.Proof.Gen.MidRefIdeal.Run
public import proofs.«01_k».proof.Proof.Gen.MidRefIdeal.Read
public import proofs.«01_k».proof.Proof.Gen.MidLat.Frame
public import proofs.«01_k».proof.Proof.Gen.MidLatIdeal.Value
public import proofs.«01_k».proof.Proof.Gen.MidLatRefIdeal.Run
public import proofs.«01_k».proof.Proof.Gen.MidLatRefIdeal.Read
public import proofs.«01_k».proof.Proof.Gen.Odd.Frame
public import proofs.«01_k».proof.Proof.Gen.OddIdeal.Frame
public import proofs.«01_k».proof.Proof.Gen.OddRefIdeal.Run
public import proofs.«01_k».proof.Proof.Gen.OddRefIdeal.Read
public import proofs.«01_k».proof.Proof.Gen.OddLat.Frame
public import proofs.«01_k».proof.Proof.Gen.OddLatIdeal.Value
public import proofs.«01_k».proof.Proof.Gen.OddLatRefIdeal.Run
public import proofs.«01_k».proof.Proof.Gen.OddLatRefIdeal.Read
public import proofs.«01_k».proof.Proof.Gen.Even.Frame
public import proofs.«01_k».proof.Proof.Gen.EvenIdeal.Frame
public import proofs.«01_k».proof.Proof.Gen.EvenRefIdeal.Run
public import proofs.«01_k».proof.Proof.Gen.EvenRefIdeal.Read
public import proofs.«01_k».proof.Proof.Gen.EvenLat.Frame
public import proofs.«01_k».proof.Proof.Gen.EvenLatIdeal.Frame
public import proofs.«01_k».proof.Proof.Gen.EvenLatRefIdeal.Run
public import proofs.«01_k».proof.Proof.Gen.EvenLatRefIdeal.Read
public import proofs.«01_k».proof.Proof.EvenHeads
public import proofs.«01_k».proof.Proof.EvenLatHeads
public import proofs.«01_k».proof.Proof.FfnValue
public import proofs.«01_k».proof.Proof.FfnLatValue
public import proofs.«01_k».proof.Proof.MidValue
public import proofs.«01_k».proof.Proof.OddLatValue
public import proofs.«01_k».proof.Proof.OddCache
public import proofs.«01_k».proof.Proof.MidLatValue
public import proofs.«01_k».proof.Proof.Gen.FfnLat.Frame
public import proofs.«01_k».proof.Proof.Gen.Ffn.Frame
public import proofs.«01_k».proof.Proof.Gen.FfnLatRefIdeal.Read
public import proofs.«01_k».proof.Proof.Gen.FfnLatRefIdeal.Run
public import proofs.«01_k».proof.Proof.Gen.FfnLatIdeal.Value
public import proofs.«01_k».proof.Proof.Gen.FfnRefIdeal.Read
public import proofs.«01_k».proof.Proof.Gen.FfnRefIdeal.Run
public import proofs.«01_k».proof.Proof.Gen.FfnIdeal.Value
public import Idealize.ShloMosaic.Adequacy
public import Idealize.ShloMosaic.Init

@[expose] public section

noncomputable section

namespace Cert.Proof

open Idealize.ShloMosaic Idealize.SL.Sem

open Cert.GqaRefIdeal in
/-- The reference attention's run: its result as the named value of its arguments. -/
theorem gqaRefRun (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem (c.tc.loc main_v21)
        = Read.val_main_v21 (F := Ideal) (m (c.tc.loc main_arg0))
            (m (c.tc.loc main_arg1)) (m (c.tc.loc main_arg2))
            (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun r h c => ⟨(h c).1.trans (Read.val_main_v21_eq _ _ _ _ _), (h c).2⟩)
    (Value.run m ρ)

/-- The reference attention runs and leaves its arguments. -/
theorem gqaRef : Cert.quiescent_GqaRefIdeal (hGqaRefIdeal := Cert.GqaRefIdeal.Gen.facts) := fun m ρ _ =>
  (θ_run Cert.GqaRefIdeal.defs _ _).mono (fun r h => ⟨fun c => (h c).2, sem_eq_zero_of_no_sems (by decide) r.2⟩) (gqaRefRun m ρ)

/-- The latent attention is the reference's, for finite queries and keys. -/
theorem gqa : Cert.algebraic_GqaIdeal_GqaRefIdeal_pre_gqa_finite (hGqaIdeal := Cert.GqaIdeal.Gen.facts)
    (hGqaRefIdeal := Cert.GqaRefIdeal.Gen.facts) (hPre_gqa_finite := Cert.Pre_gqa_finite.Gen.facts) := by
  pair_intro
  · run_from Cert.GqaIdeal.Gen.run_main m g
  · run_from gqaRefRun m' g'
    exact (Cert.GqaIdeal.Heads.final m c (Cert.GqaIdeal.Heads.finite_of_pre m hpre c)).symm

open Cert.FfnRefIdeal in
/-- The reference context mixing and ConvFFN's run: its result as the named value of its arguments. -/
theorem ffnRefRun (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem (c.tc.loc main_v86)
        = Read.val_main_v86 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) :=
  (θ_run defs _ _).mono (fun r h c => ⟨(h c).1.trans (Read.val_main_v86_eq (fun ℓ => m (c, ℓ))), (h c).2⟩)
    (Value.run m ρ)

/-- The reference context mixing and ConvFFN runs and leaves its arguments. -/
theorem ffnRef : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩) (ffnRefRun m ρ)

/-- The context mixing and ConvFFN is the reference's. -/
theorem ffn : Cert.algebraic_FfnIdeal_FfnRefIdeal (hFfnIdeal := Cert.FfnIdeal.Gen.facts) (hFfnRefIdeal := Cert.FfnRefIdeal.Gen.facts) := by
  pair_intro
  · run_from Cert.FfnIdeal.Gen.run_main m g
    all_goals
      simp only [Cert.FfnIdeal.Gen.hostOps0, Cert.FfnIdeal.Gen.hostOps0_1, Cert.FfnIdeal.Gen.hostOps0_2, List.flatten_cons,
        List.flatten_nil, List.cons_append, List.nil_append, List.append_nil]
      entry_read
      try rfl
  · run_from ffnRefRun m' g'
    exact (Cert.FfnIdeal.Mix.final m c).symm

open Cert.FfnLatRefIdeal in
/-- The reference latent mixing and ConvFFN's run: its result as the named value of its arguments. -/
theorem ffnLatRefRun (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem (c.tc.loc main_v86)
        = Read.val_main_v86 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) :=
  (θ_run defs _ _).mono (fun r h c => ⟨(h c).1.trans (Read.val_main_v86_eq (fun ℓ => m (c, ℓ))), (h c).2⟩)
    (Value.run m ρ)

/-- The reference latent mixing and ConvFFN runs and leaves its arguments. -/
theorem ffnLatRef : Cert.quiescent_FfnLatRefIdeal (hFfnLatRefIdeal := Cert.FfnLatRefIdeal.Gen.facts) := fun m ρ _ =>
  (θ_run Cert.FfnLatRefIdeal.defs _ _).mono (fun r h => ⟨fun c => (h c).2, sem_eq_zero_of_no_sems (by decide) r.2⟩) (ffnLatRefRun m ρ)

/-- The latent mixing and ConvFFN is the reference's. -/
theorem ffnLat : Cert.algebraic_FfnLatIdeal_FfnLatRefIdeal (hFfnLatIdeal := Cert.FfnLatIdeal.Gen.facts) (hFfnLatRefIdeal := Cert.FfnLatRefIdeal.Gen.facts) := by
  pair_intro
  · run_from Cert.FfnLatIdeal.Gen.run_main m g
    all_goals
      simp only [Cert.FfnLatIdeal.Gen.hostOps0, Cert.FfnLatIdeal.Gen.hostOps0_1, Cert.FfnLatIdeal.Gen.hostOps0_2, List.flatten_cons,
        List.flatten_nil, List.cons_append, List.nil_append, List.append_nil]
      entry_read
      try rfl
  · run_from ffnLatRefRun m' g'
    exact (Cert.FfnLatIdeal.Mix.final m c).symm

open Cert.MidRefIdeal in
/-- The reference first context mixing and ConvFFN's run: its result as the named value of its arguments. -/
theorem midRefRun (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem (c.tc.loc main_v74)
        = Read.val_main_v74 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) :=
  (θ_run defs _ _).mono (fun r h c => ⟨(h c).1.trans (Read.val_main_v74_eq m c), (h c).2⟩)
    (Value.run m ρ)

/-- The reference first context mixing and ConvFFN runs and leaves its arguments. -/
theorem midRef : Cert.quiescent_MidRefIdeal (hMidRefIdeal := Cert.MidRefIdeal.Gen.facts) := fun m ρ _ =>
  (θ_run Cert.MidRefIdeal.defs _ _).mono (fun r h => ⟨fun c => (h c).2, sem_eq_zero_of_no_sems (by decide) r.2⟩) (midRefRun m ρ)

/-- The first context mixing and ConvFFN is the reference's. -/
theorem mid : Cert.algebraic_MidIdeal_MidRefIdeal (hMidIdeal := Cert.MidIdeal.Gen.facts) (hMidRefIdeal := Cert.MidRefIdeal.Gen.facts) := by
  pair_intro
  · run_from Cert.MidIdeal.Gen.run_main m g
    all_goals
      simp only [Cert.MidIdeal.Gen.hostOps0, Cert.MidIdeal.Gen.hostOps0_1, Cert.MidIdeal.Gen.hostOps0_2, List.flatten_cons,
        List.flatten_nil, List.cons_append, List.nil_append, List.append_nil]
      entry_read
      try rfl
  · run_from midRefRun m' g'
    exact (Cert.MidIdeal.Mix.final m c).symm

open Cert.MidLatRefIdeal in
/-- The reference first latent mixing and ConvFFN's run: its result as the named value of its arguments. -/
theorem midLatRefRun (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem (c.tc.loc main_v74)
        = Read.val_main_v74 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) :=
  (θ_run defs _ _).mono (fun r h c => ⟨(h c).1.trans (Read.val_main_v74_eq m c), (h c).2⟩)
    (Value.run m ρ)

/-- The reference first latent mixing and ConvFFN runs and leaves its arguments. -/
theorem midLatRef : Cert.quiescent_MidLatRefIdeal (hMidLatRefIdeal := Cert.MidLatRefIdeal.Gen.facts) := fun m ρ _ =>
  (θ_run Cert.MidLatRefIdeal.defs _ _).mono (fun r h => ⟨fun c => (h c).2, sem_eq_zero_of_no_sems (by decide) r.2⟩) (midLatRefRun m ρ)

/-- The first latent mixing and ConvFFN is the reference's. -/
theorem midLat : Cert.algebraic_MidLatIdeal_MidLatRefIdeal (hMidLatIdeal := Cert.MidLatIdeal.Gen.facts) (hMidLatRefIdeal := Cert.MidLatRefIdeal.Gen.facts) := by
  pair_intro
  · run_from Cert.MidLatIdeal.Gen.run_main m g
    all_goals
      simp only [Cert.MidLatIdeal.Gen.hostOps0, Cert.MidLatIdeal.Gen.hostOps0_1, Cert.MidLatIdeal.Gen.hostOps0_2, List.flatten_cons,
        List.flatten_nil, List.cons_append, List.nil_append, List.append_nil]
      entry_read
      try rfl
  · run_from midLatRefRun m' g'
    exact (Cert.MidLatIdeal.Mix.final m c).symm

open Cert.OddLatRefIdeal in
/-- The reference second latent projection's run: its results as the named values of its arguments. -/
theorem oddLatRefRun (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem (c.tc.loc main_v37)
        = Read.val_main_v37 (F := Ideal) (m (c.tc.loc main_arg0)) (m (c.tc.loc main_arg1)) (m (c.tc.loc main_arg2)) (m (c.tc.loc main_arg3))
      ∧ r.2.mem (c.tc.loc main_v39)
        = Read.val_main_v39 (F := Ideal) (m (c.tc.loc main_arg0)) (m (c.tc.loc main_arg1)) (m (c.tc.loc main_arg2)) (m (c.tc.loc main_arg3))
      ∧ r.2.mem (c.tc.loc main_v41)
        = Read.val_main_v41 (F := Ideal) (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨(h c).1.trans (Read.val_main_v37_eq _ _ _ _ ), (h c).2.1.trans (Read.val_main_v39_eq _ _ _ _ ), (h c).2.2.1.trans (Read.val_main_v41_eq _ _ _ _ ), (h c).2.2.2⟩)
    (Value.run m ρ)

/-- The reference second latent projection runs and leaves its arguments. -/
theorem oddLatRef : Cert.quiescent_OddLatRefIdeal (hOddLatRefIdeal := Cert.OddLatRefIdeal.Gen.facts) := fun m ρ _ =>
  (θ_run Cert.OddLatRefIdeal.defs _ _).mono (fun r h => ⟨fun c => (h c).2.2.2, sem_eq_zero_of_no_sems (by decide) r.2⟩) (oddLatRefRun m ρ)

/-- The second latent projection is the reference's. -/
theorem oddLat : Cert.algebraic_OddLatIdeal_OddLatRefIdeal (hOddLatIdeal := Cert.OddLatIdeal.Gen.facts) (hOddLatRefIdeal := Cert.OddLatRefIdeal.Gen.facts) := by
  pair_intro
  · run_from Cert.OddLatIdeal.Gen.run_main m g
    all_goals
      simp only [Cert.OddLatIdeal.Gen.hostOps0, Cert.OddLatIdeal.Gen.hostOps0_1, Cert.OddLatIdeal.Gen.hostOps0_2, List.flatten_cons,
        List.flatten_nil, List.cons_append, List.nil_append, List.append_nil]
      entry_read
      try rfl
  · run_from oddLatRefRun m' g'
    · exact (Cert.OddLatIdeal.Mix.final5 m c).symm
    · exact (Cert.OddLatIdeal.Mix.final6 m c).symm
    · exact (Cert.OddLatIdeal.Mix.final7 m c).symm

open Cert.OddRefIdeal in
/-- The reference second context projection's run: its results as the named values of its arguments. -/
theorem oddRefRun (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem (c.tc.loc main_v37)
        = Read.val_main_v37 (F := Ideal) (m (c.tc.loc main_arg0)) (m (c.tc.loc main_arg1)) (m (c.tc.loc main_arg2)) (m (c.tc.loc main_arg3))
      ∧ r.2.mem (c.tc.loc main_v39)
        = Read.val_main_v39 (F := Ideal) (m (c.tc.loc main_arg0)) (m (c.tc.loc main_arg1)) (m (c.tc.loc main_arg2)) (m (c.tc.loc main_arg3))
      ∧ r.2.mem (c.tc.loc main_v41)
        = Read.val_main_v41 (F := Ideal) (m (c.tc.loc main_arg0)) (m (c.tc.loc main_arg1)) (m (c.tc.loc main_arg2)) (m (c.tc.loc main_arg3))
      ∧ r.2.mem (c.tc.loc main_v44)
        = Read.val_main_v44 (F := Ideal) (m (c.tc.loc main_arg0)) (m (c.tc.loc main_arg1)) (m (c.tc.loc main_arg2)) (m (c.tc.loc main_arg3))
      ∧ r.2.mem (c.tc.loc main_v47)
        = Read.val_main_v47 (F := Ideal) (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨(h c).1.trans (Read.val_main_v37_eq _ _ _ _ ), (h c).2.1.trans (Read.val_main_v39_eq _ _ _ _ ), (h c).2.2.1.trans (Read.val_main_v41_eq _ _ _ _ ), (h c).2.2.2.1.trans (Read.val_main_v44_eq _ _ _ _ ), (h c).2.2.2.2.1.trans (Read.val_main_v47_eq _ _ _ _ ), (h c).2.2.2.2.2⟩)
    (Value.run m ρ)

/-- The reference second context projection runs and leaves its arguments. -/
theorem oddRef : Cert.quiescent_OddRefIdeal (hOddRefIdeal := Cert.OddRefIdeal.Gen.facts) := fun m ρ _ =>
  (θ_run Cert.OddRefIdeal.defs _ _).mono (fun r h => ⟨fun c => (h c).2.2.2.2.2, sem_eq_zero_of_no_sems (by decide) r.2⟩) (oddRefRun m ρ)

open Cert.OddIdeal in
/-- The second context projection is the reference's. -/
theorem odd : Cert.algebraic_OddIdeal_OddRefIdeal (hOddIdeal := Cert.OddIdeal.Gen.facts) (hOddRefIdeal := Cert.OddRefIdeal.Gen.facts) := by
  pair_intro
  · run_from Cert.OddIdeal.Gen.run_main m g
    all_goals
      first
        | exact Gen.W_main_arg0 m (Gen.dats m) c
        | exact Gen.W_main_arg1 m (Gen.dats m) c
        | exact Gen.W_main_arg2 m (Gen.dats m) c
        | exact Gen.W_main_arg3 m (Gen.dats m) c
  · run_from oddRefRun m' g'
    · exact (Cert.OddIdeal.Mix.final5 m c).symm
    · exact (Cert.OddIdeal.Mix.final6 m c).symm
    · exact (Cert.OddIdeal.Mix.final7 m c).symm
    · exact (Cert.OddIdeal.Mix.ck_tail m c).symm
    · exact (Cert.OddIdeal.Mix.cv_tail m c).symm

open Cert.EvenRefIdeal in
/-- The reference first context projection's run: its results as the named values of its arguments. -/
theorem evenRefRun (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem (c.tc.loc main_v69)
        = Read.val_main_v69 (F := Ideal) (m (c.tc.loc main_arg0)) (m (c.tc.loc main_arg1)) (m (c.tc.loc main_arg2)) (m (c.tc.loc main_arg3))
      ∧ r.2.mem (c.tc.loc main_v71)
        = Read.val_main_v71 (F := Ideal) (m (c.tc.loc main_arg0)) (m (c.tc.loc main_arg1)) (m (c.tc.loc main_arg2)) (m (c.tc.loc main_arg3))
      ∧ r.2.mem (c.tc.loc main_v74)
        = Read.val_main_v74 (F := Ideal) (m (c.tc.loc main_arg0)) (m (c.tc.loc main_arg1)) (m (c.tc.loc main_arg2)) (m (c.tc.loc main_arg3))
      ∧ r.2.mem (c.tc.loc main_v76)
        = Read.val_main_v76 (F := Ideal) (m (c.tc.loc main_arg0)) (m (c.tc.loc main_arg1)) (m (c.tc.loc main_arg2)) (m (c.tc.loc main_arg3))
      ∧ r.2.mem (c.tc.loc main_v82)
        = Read.val_main_v82 (F := Ideal) (m (c.tc.loc main_arg0)) (m (c.tc.loc main_arg1)) (m (c.tc.loc main_arg2)) (m (c.tc.loc main_arg3)) (m (c.tc.loc main_arg4))
      ∧ r.2.mem (c.tc.loc main_v87)
        = Read.val_main_v87 (F := Ideal) (m (c.tc.loc main_arg0)) (m (c.tc.loc main_arg1)) (m (c.tc.loc main_arg2)) (m (c.tc.loc main_arg3)) (m (c.tc.loc main_arg5))
      ∧ r.2.mem (c.tc.loc main_v92)
        = Read.val_main_v92 (F := Ideal) (m (c.tc.loc main_arg0)) (m (c.tc.loc main_arg1)) (m (c.tc.loc main_arg2)) (m (c.tc.loc main_arg3))
      ∧ r.2.mem (c.tc.loc main_v94)
        = Read.val_main_v94 (F := Ideal) (m (c.tc.loc main_arg0)) (m (c.tc.loc main_arg1)) (m (c.tc.loc main_arg2)) (m (c.tc.loc main_arg3)) (m (c.tc.loc main_arg5))
      ∧ r.2.mem (c.tc.loc main_v96)
        = Read.val_main_v96 (F := Ideal) (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  (θ_run defs _ _).mono (fun r h c => ⟨(h c).1.trans (Read.val_main_v69_eq _ _ _ _), (h c).2.1.trans (Read.val_main_v71_eq _ _ _ _), (h c).2.2.1.trans (Read.val_main_v74_eq _ _ _ _), (h c).2.2.2.1.trans (Read.val_main_v76_eq _ _ _ _), (h c).2.2.2.2.1.trans (Read.val_main_v82_eq _ _), (h c).2.2.2.2.2.1.trans (Read.val_main_v87_eq _ _), (h c).2.2.2.2.2.2.1.trans (Read.val_main_v92_eq _ _ _ _), (h c).2.2.2.2.2.2.2.1.trans (Read.val_main_v94_eq _ _), (h c).2.2.2.2.2.2.2.2.1.trans (Read.val_main_v96_eq _ _ _ _), (h c).2.2.2.2.2.2.2.2.2⟩)
    (Value.run m ρ)

/-- The reference first context projection runs and leaves its arguments. -/
theorem evenRef : Cert.quiescent_EvenRefIdeal (hEvenRefIdeal := Cert.EvenRefIdeal.Gen.facts) := fun m ρ _ =>
  (θ_run Cert.EvenRefIdeal.defs _ _).mono (fun r h => ⟨fun c => (h c).2.2.2.2.2.2.2.2.2, sem_eq_zero_of_no_sems (by decide) r.2⟩) (evenRefRun m ρ)

open Cert.EvenIdeal in
set_option maxHeartbeats 4000000 in
/-- The first context projection is the reference's. -/
theorem even : Cert.algebraic_EvenIdeal_EvenRefIdeal (hEvenIdeal := Cert.EvenIdeal.Gen.facts) (hEvenRefIdeal := Cert.EvenRefIdeal.Gen.facts) := by
  pair_intro
  · run_from Cert.EvenIdeal.Gen.run_main m g
    all_goals
      first
        | exact Gen.W_main_arg0 m (Gen.dats m) c
        | exact Gen.W_main_arg1 m (Gen.dats m) c
        | exact Gen.W_main_arg2 m (Gen.dats m) c
        | exact Gen.W_main_arg3 m (Gen.dats m) c
        | exact Gen.W_main_arg4 m (Gen.dats m) c
        | exact Gen.W_main_arg5 m (Gen.dats m) c
  · run_from evenRefRun m' g'
    · exact (Cert.EvenIdeal.Mix.final7 m c).symm
    · exact (Cert.EvenIdeal.Mix.final8 m c).symm
    · exact (Cert.EvenIdeal.Mix.final9 m c).symm
    · exact (Cert.EvenIdeal.Mix.final10 m c).symm
    · exact (Cert.EvenIdeal.Mix.final11 m c).symm
    · exact (Cert.EvenIdeal.Mix.final12 m c).symm
    · exact (Cert.EvenIdeal.Mix.final13 m c).symm
    · exact (Cert.EvenIdeal.Mix.ck_tail m c).symm
    · exact (Cert.EvenIdeal.Mix.cv_tail m c).symm

open Cert.EvenLatRefIdeal in
/-- The reference first latent projection's run: its results as the named values of its arguments. -/
theorem evenLatRefRun (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem (c.tc.loc main_v259)
        = Read.val_main_v259 (F := Ideal) (m (c.tc.loc main_arg0)) (m (c.tc.loc main_arg1)) (m (c.tc.loc main_arg2)) (m (c.tc.loc main_arg3)) (m (c.tc.loc main_arg6)) (m (c.tc.loc main_arg7))
      ∧ r.2.mem (c.tc.loc main_v261)
        = Read.val_main_v261 (F := Ideal) (m (c.tc.loc main_arg0)) (m (c.tc.loc main_arg1)) (m (c.tc.loc main_arg2)) (m (c.tc.loc main_arg3)) (m (c.tc.loc main_arg6)) (m (c.tc.loc main_arg7))
      ∧ r.2.mem (c.tc.loc main_v264)
        = Read.val_main_v264 (F := Ideal) (m (c.tc.loc main_arg0)) (m (c.tc.loc main_arg1)) (m (c.tc.loc main_arg2)) (m (c.tc.loc main_arg3))
      ∧ r.2.mem (c.tc.loc main_v266)
        = Read.val_main_v266 (F := Ideal) (m (c.tc.loc main_arg0)) (m (c.tc.loc main_arg1)) (m (c.tc.loc main_arg2)) (m (c.tc.loc main_arg3))
      ∧ r.2.mem (c.tc.loc main_v272)
        = Read.val_main_v272 (F := Ideal) (m (c.tc.loc main_arg0)) (m (c.tc.loc main_arg1)) (m (c.tc.loc main_arg2)) (m (c.tc.loc main_arg3)) (m (c.tc.loc main_arg4)) (m (c.tc.loc main_arg6)) (m (c.tc.loc main_arg7))
      ∧ r.2.mem (c.tc.loc main_v277)
        = Read.val_main_v277 (F := Ideal) (m (c.tc.loc main_arg0)) (m (c.tc.loc main_arg1)) (m (c.tc.loc main_arg2)) (m (c.tc.loc main_arg3)) (m (c.tc.loc main_arg5)) (m (c.tc.loc main_arg6)) (m (c.tc.loc main_arg7))
      ∧ r.2.mem (c.tc.loc main_v282)
        = Read.val_main_v282 (F := Ideal) (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) :=
  (θ_run defs _ _).mono (fun r h c => ⟨(h c).1.trans (Read.val_main_v259_eq ..), (h c).2.1.trans (Read.val_main_v261_eq ..), (h c).2.2.1.trans (Read.val_main_v264_eq ..), (h c).2.2.2.1.trans (Read.val_main_v266_eq ..), (h c).2.2.2.2.1.trans (Read.val_main_v272_eq ..), (h c).2.2.2.2.2.1.trans (Read.val_main_v277_eq ..), (h c).2.2.2.2.2.2.1.trans (Read.val_main_v282_eq ..), (h c).2.2.2.2.2.2.2⟩)
    (Value.run m ρ)

/-- The reference first latent projection runs and leaves its arguments. -/
theorem evenLatRef : Cert.quiescent_EvenLatRefIdeal (hEvenLatRefIdeal := Cert.EvenLatRefIdeal.Gen.facts) := fun m ρ _ =>
  (θ_run Cert.EvenLatRefIdeal.defs _ _).mono (fun r h => ⟨fun c => (h c).2.2.2.2.2.2.2, sem_eq_zero_of_no_sems (by decide) r.2⟩) (evenLatRefRun m ρ)

set_option maxHeartbeats 4000000 in
/-- The first latent projection is the reference's. -/
theorem evenLat : Cert.algebraic_EvenLatIdeal_EvenLatRefIdeal (hEvenLatIdeal := Cert.EvenLatIdeal.Gen.facts) (hEvenLatRefIdeal := Cert.EvenLatRefIdeal.Gen.facts) := by
  pair_intro
  · run_from Cert.EvenLatIdeal.Gen.run_main m g
    all_goals
      first
        | exact Cert.EvenLatIdeal.Gen.V_main_arg0 m c
        | exact Cert.EvenLatIdeal.Gen.V_main_arg1 m c
        | exact Cert.EvenLatIdeal.Gen.V_main_arg2 m c
        | exact Cert.EvenLatIdeal.Gen.V_main_arg3 m c
        | exact Cert.EvenLatIdeal.Gen.V_main_arg4 m c
        | exact Cert.EvenLatIdeal.Gen.V_main_arg5 m c
        | exact Cert.EvenLatIdeal.Gen.V_main_arg6 m c
        | exact Cert.EvenLatIdeal.Gen.V_main_arg7 m c
  · run_from evenLatRefRun m' g'
    · exact (Cert.EvenLatIdeal.Mix.final9 m c).symm
    · exact (Cert.EvenLatIdeal.Mix.final10 m c).symm
    · exact (Cert.EvenLatIdeal.Mix.final11 m c).symm
    · exact (Cert.EvenLatIdeal.Mix.final12 m c).symm
    · exact (Cert.EvenLatIdeal.Mix.final13 m c).symm
    · exact (Cert.EvenLatIdeal.Mix.final14 m c).symm
    · exact (Cert.EvenLatIdeal.Mix.final15 m c).symm

theorem claim : Cert.Claim := ⟨Cert.Gqa.Gen.facts, Cert.GqaIdeal.Gen.facts, Cert.GqaRefIdeal.Gen.facts,
  Cert.Ffn.Gen.facts, Cert.FfnIdeal.Gen.facts, Cert.FfnRefIdeal.Gen.facts,
  Cert.FfnLat.Gen.facts, Cert.FfnLatIdeal.Gen.facts, Cert.FfnLatRefIdeal.Gen.facts,
  Cert.Mid.Gen.facts, Cert.MidIdeal.Gen.facts, Cert.MidRefIdeal.Gen.facts,
  Cert.MidLat.Gen.facts, Cert.MidLatIdeal.Gen.facts, Cert.MidLatRefIdeal.Gen.facts,
  Cert.Odd.Gen.facts, Cert.OddIdeal.Gen.facts, Cert.OddRefIdeal.Gen.facts,
  Cert.OddLat.Gen.facts, Cert.OddLatIdeal.Gen.facts, Cert.OddLatRefIdeal.Gen.facts,
  Cert.Even.Gen.facts, Cert.EvenIdeal.Gen.facts, Cert.EvenRefIdeal.Gen.facts,
  Cert.EvenLat.Gen.facts, Cert.EvenLatIdeal.Gen.facts, Cert.EvenLatRefIdeal.Gen.facts,
  Cert.Pre_gqa_finite.Gen.facts,
  fun m ρ _ => Cert.Gqa.Gen.frame m ρ,
  fun m ρ _ => Cert.GqaIdeal.Gen.frame m ρ,
  fun m ρ _ => Cert.GqaIdeal.Gen.frame m ρ,
  fun m ρ _ => gqaRef m ρ trivial,
  fun m ρ _ => gqaRef m ρ trivial,
  fun m ρ _ => Cert.Ffn.Gen.frame m ρ,
  fun m ρ _ => Cert.FfnIdeal.Gen.frame m ρ,
  ffnRef,
  fun m ρ _ => Cert.FfnLat.Gen.frame m ρ,
  fun m ρ _ => Cert.FfnLatIdeal.Gen.frame m ρ,
  ffnLatRef,
  fun m ρ _ => Cert.Mid.Gen.frame m ρ,
  fun m ρ _ => Cert.MidIdeal.Gen.frame m ρ,
  midRef,
  fun m ρ _ => Cert.MidLat.Gen.frame m ρ,
  fun m ρ _ => Cert.MidLatIdeal.Gen.frame m ρ,
  midLatRef,
  fun m ρ _ => Cert.Odd.Gen.frame m ρ,
  fun m ρ _ => Cert.OddIdeal.Gen.frame m ρ,
  oddRef,
  fun m ρ _ => Cert.OddLat.Gen.frame m ρ,
  fun m ρ _ => Cert.OddLatIdeal.Gen.frame m ρ,
  oddLatRef,
  fun m ρ _ => Cert.Even.Gen.frame m ρ,
  fun m ρ _ => Cert.EvenIdeal.Gen.frame m ρ,
  evenRef,
  fun m ρ _ => Cert.EvenLat.Gen.frame m ρ,
  fun m ρ _ => Cert.EvenLatIdeal.Gen.frame m ρ,
  evenLatRef,
  trivial,
  gqa,
  trivial,
  ffn,
  trivial,
  ffnLat,
  trivial,
  mid,
  trivial,
  midLat,
  IdealRules.named_const.statement Cert.OddIdeal.κ "q_scale" .f32 0x3E38AA3B#32 ((8⁻¹ * (Real.log 2)⁻¹ : ℝ) : EReal) rfl,
  odd,
  IdealRules.named_const.statement Cert.OddLatIdeal.κ "q_scale" .f32 0x3E38AA3B#32 ((8⁻¹ * (Real.log 2)⁻¹ : ℝ) : EReal) rfl,
  oddLat,
  IdealRules.named_const.statement Cert.EvenIdeal.κ "q_scale" .f32 0x3E38AA3B#32 ((8⁻¹ * (Real.log 2)⁻¹ : ℝ) : EReal) rfl,
  even,
  IdealRules.named_const.statement Cert.EvenLatIdeal.κ "q_scale" .f32 0x3E38AA3B#32 ((8⁻¹ * (Real.log 2)⁻¹ : ℝ) : EReal) rfl,
  evenLat⟩

end Cert.Proof

end
